-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_KernelDHn2 (m : (ℓ : Loc Cert.KernelDHn2.nD Cert.KernelDHn2.τ Cert.KernelDHn2.sig) → Buf (Elt Bits) ℓ) : Prop :=
  True

def Pre_KernelDHn2Ideal (m : (ℓ : Loc Cert.KernelDHn2Ideal.nD Cert.KernelDHn2Ideal.τ Cert.KernelDHn2Ideal.sig) → Buf (Elt Ideal) ℓ) : Prop :=
  True

def Pre_ReferenceDHn2Ideal (m : (ℓ : Loc Cert.ReferenceDHn2Ideal.nD Cert.ReferenceDHn2Ideal.τ Cert.ReferenceDHn2Ideal.sig) → Buf (Elt Ideal) ℓ) : Prop :=
  True

def Pre_KernelDAct (m : (ℓ : Loc Cert.KernelDAct.nD Cert.KernelDAct.τ Cert.KernelDAct.sig) → Buf (Elt Bits) ℓ) : Prop :=
  True

def Pre_KernelDActIdeal (m : (ℓ : Loc Cert.KernelDActIdeal.nD Cert.KernelDActIdeal.τ Cert.KernelDActIdeal.sig) → Buf (Elt Ideal) ℓ) : Prop :=
  True

def Pre_ReferenceDActIdeal (m : (ℓ : Loc Cert.ReferenceDActIdeal.nD Cert.ReferenceDActIdeal.τ Cert.ReferenceDActIdeal.sig) → Buf (Elt Ideal) ℓ) : Prop :=
  True

def Pre_KernelDHn1 (m : (ℓ : Loc Cert.KernelDHn1.nD Cert.KernelDHn1.τ Cert.KernelDHn1.sig) → Buf (Elt Bits) ℓ) : Prop :=
  True

def Pre_KernelDHn1Ideal (m : (ℓ : Loc Cert.KernelDHn1Ideal.nD Cert.KernelDHn1Ideal.τ Cert.KernelDHn1Ideal.sig) → Buf (Elt Ideal) ℓ) : Prop :=
  True

def Pre_ReferenceDHn1Ideal (m : (ℓ : Loc Cert.ReferenceDHn1Ideal.nD Cert.ReferenceDHn1Ideal.τ Cert.ReferenceDHn1Ideal.sig) → Buf (Elt Ideal) ℓ) : Prop :=
  True

def Pre_KernelDMix (m : (ℓ : Loc Cert.KernelDMix.nD Cert.KernelDMix.τ Cert.KernelDMix.sig) → Buf (Elt Bits) ℓ) : Prop :=
  True

def Pre_KernelDMixIdeal (m : (ℓ : Loc Cert.KernelDMixIdeal.nD Cert.KernelDMixIdeal.τ Cert.KernelDMixIdeal.sig) → Buf (Elt Ideal) ℓ) : Prop :=
  True

def Pre_ReferenceDMixIdeal (m : (ℓ : Loc Cert.ReferenceDMixIdeal.nD Cert.ReferenceDMixIdeal.τ Cert.ReferenceDMixIdeal.sig) → Buf (Elt Ideal) ℓ) : Prop :=
  True

def Pre_KernelGUpS (m : (ℓ : Loc Cert.KernelGUpS.nD Cert.KernelGUpS.τ Cert.KernelGUpS.sig) → Buf (Elt Bits) ℓ) : Prop :=
  True

def Pre_KernelGUpSIdeal (m : (ℓ : Loc Cert.KernelGUpSIdeal.nD Cert.KernelGUpSIdeal.τ Cert.KernelGUpSIdeal.sig) → Buf (Elt Ideal) ℓ) : Prop :=
  True

def Pre_ReferenceGUpSIdeal (m : (ℓ : Loc Cert.ReferenceGUpSIdeal.nD Cert.ReferenceGUpSIdeal.τ Cert.ReferenceGUpSIdeal.sig) → Buf (Elt Ideal) ℓ) : Prop :=
  True

def Pre_KernelGUpO (m : (ℓ : Loc Cert.KernelGUpO.nD Cert.KernelGUpO.τ Cert.KernelGUpO.sig) → Buf (Elt Bits) ℓ) : Prop :=
  True

def Pre_KernelGUpOIdeal (m : (ℓ : Loc Cert.KernelGUpOIdeal.nD Cert.KernelGUpOIdeal.τ Cert.KernelGUpOIdeal.sig) → Buf (Elt Ideal) ℓ) : Prop :=
  True

def Pre_ReferenceGUpOIdeal (m : (ℓ : Loc Cert.ReferenceGUpOIdeal.nD Cert.ReferenceGUpOIdeal.τ Cert.ReferenceGUpOIdeal.sig) → Buf (Elt Ideal) ℓ) : Prop :=
  True

def Pre_KernelGDownS (m : (ℓ : Loc Cert.KernelGDownS.nD Cert.KernelGDownS.τ Cert.KernelGDownS.sig) → Buf (Elt Bits) ℓ) : Prop :=
  True

def Pre_KernelGDownSIdeal (m : (ℓ : Loc Cert.KernelGDownSIdeal.nD Cert.KernelGDownSIdeal.τ Cert.KernelGDownSIdeal.sig) → Buf (Elt Ideal) ℓ) : Prop :=
  True

def Pre_ReferenceGDownSIdeal (m : (ℓ : Loc Cert.ReferenceGDownSIdeal.nD Cert.ReferenceGDownSIdeal.τ Cert.ReferenceGDownSIdeal.sig) → Buf (Elt Ideal) ℓ) : Prop :=
  True

def Pre_KernelGDownO (m : (ℓ : Loc Cert.KernelGDownO.nD Cert.KernelGDownO.τ Cert.KernelGDownO.sig) → Buf (Elt Bits) ℓ) : Prop :=
  True

def Pre_KernelGDownOIdeal (m : (ℓ : Loc Cert.KernelGDownOIdeal.nD Cert.KernelGDownOIdeal.τ Cert.KernelGDownOIdeal.sig) → Buf (Elt Ideal) ℓ) : Prop :=
  True

def Pre_ReferenceGDownOIdeal (m : (ℓ : Loc Cert.ReferenceGDownOIdeal.nD Cert.ReferenceGDownOIdeal.τ Cert.ReferenceGDownOIdeal.sig) → Buf (Elt Ideal) ℓ) : Prop :=
  True

def Pre_KernelGInS (m : (ℓ : Loc Cert.KernelGInS.nD Cert.KernelGInS.τ Cert.KernelGInS.sig) → Buf (Elt Bits) ℓ) : Prop :=
  True

def Pre_KernelGInSIdeal (m : (ℓ : Loc Cert.KernelGInSIdeal.nD Cert.KernelGInSIdeal.τ Cert.KernelGInSIdeal.sig) → Buf (Elt Ideal) ℓ) : Prop :=
  True

def Pre_ReferenceGInSIdeal (m : (ℓ : Loc Cert.ReferenceGInSIdeal.nD Cert.ReferenceGInSIdeal.τ Cert.ReferenceGInSIdeal.sig) → Buf (Elt Ideal) ℓ) : Prop :=
  True

def Pre_KernelGInO (m : (ℓ : Loc Cert.KernelGInO.nD Cert.KernelGInO.τ Cert.KernelGInO.sig) → Buf (Elt Bits) ℓ) : Prop :=
  True

def Pre_KernelGInOIdeal (m : (ℓ : Loc Cert.KernelGInOIdeal.nD Cert.KernelGInOIdeal.τ Cert.KernelGInOIdeal.sig) → Buf (Elt Ideal) ℓ) : Prop :=
  True

def Pre_ReferenceGInOIdeal (m : (ℓ : Loc Cert.ReferenceGInOIdeal.nD Cert.ReferenceGInOIdeal.τ Cert.ReferenceGInOIdeal.sig) → Buf (Elt Ideal) ℓ) : Prop :=
  True

def Pre_KernelGOutS (m : (ℓ : Loc Cert.KernelGOutS.nD Cert.KernelGOutS.τ Cert.KernelGOutS.sig) → Buf (Elt Bits) ℓ) : Prop :=
  True

def Pre_KernelGOutSIdeal (m : (ℓ : Loc Cert.KernelGOutSIdeal.nD Cert.KernelGOutSIdeal.τ Cert.KernelGOutSIdeal.sig) → Buf (Elt Ideal) ℓ) : Prop :=
  True

def Pre_ReferenceGOutSIdeal (m : (ℓ : Loc Cert.ReferenceGOutSIdeal.nD Cert.ReferenceGOutSIdeal.τ Cert.ReferenceGOutSIdeal.sig) → Buf (Elt Ideal) ℓ) : Prop :=
  True

def Pre_KernelGOutO (m : (ℓ : Loc Cert.KernelGOutO.nD Cert.KernelGOutO.τ Cert.KernelGOutO.sig) → Buf (Elt Bits) ℓ) : Prop :=
  True

def Pre_KernelGOutOIdeal (m : (ℓ : Loc Cert.KernelGOutOIdeal.nD Cert.KernelGOutOIdeal.τ Cert.KernelGOutOIdeal.sig) → Buf (Elt Ideal) ℓ) : Prop :=
  True

def Pre_ReferenceGOutOIdeal (m : (ℓ : Loc Cert.ReferenceGOutOIdeal.nD Cert.ReferenceGOutOIdeal.τ Cert.ReferenceGOutOIdeal.sig) → Buf (Elt Ideal) ℓ) : Prop :=
  True

def Pre_KernelProjOwn (m : (ℓ : Loc Cert.KernelProjOwn.nD Cert.KernelProjOwn.τ Cert.KernelProjOwn.sig) → Buf (Elt Bits) ℓ) : Prop :=
  True

def Pre_KernelProjOwnIdeal (m : (ℓ : Loc Cert.KernelProjOwnIdeal.nD Cert.KernelProjOwnIdeal.τ Cert.KernelProjOwnIdeal.sig) → Buf (Elt Ideal) ℓ) : Prop :=
  True

def Pre_ReferenceProjOwnIdeal (m : (ℓ : Loc Cert.ReferenceProjOwnIdeal.nD Cert.ReferenceProjOwnIdeal.τ Cert.ReferenceProjOwnIdeal.sig) → Buf (Elt Ideal) ℓ) : Prop :=
  True

def Pre_KernelProjX (m : (ℓ : Loc Cert.KernelProjX.nD Cert.KernelProjX.τ Cert.KernelProjX.sig) → Buf (Elt Bits) ℓ) : Prop :=
  True

def Pre_KernelProjXIdeal (m : (ℓ : Loc Cert.KernelProjXIdeal.nD Cert.KernelProjXIdeal.τ Cert.KernelProjXIdeal.sig) → Buf (Elt Ideal) ℓ) : Prop :=
  True

def Pre_ReferenceProjXIdeal (m : (ℓ : Loc Cert.ReferenceProjXIdeal.nD Cert.ReferenceProjXIdeal.τ Cert.ReferenceProjXIdeal.sig) → Buf (Elt Ideal) ℓ) : Prop :=
  True

def Pre_KernelProjY (m : (ℓ : Loc Cert.KernelProjY.nD Cert.KernelProjY.τ Cert.KernelProjY.sig) → Buf (Elt Bits) ℓ) : Prop :=
  True

def Pre_KernelProjYIdeal (m : (ℓ : Loc Cert.KernelProjYIdeal.nD Cert.KernelProjYIdeal.τ Cert.KernelProjYIdeal.sig) → Buf (Elt Ideal) ℓ) : Prop :=
  True

def Pre_ReferenceProjYIdeal (m : (ℓ : Loc Cert.ReferenceProjYIdeal.nD Cert.ReferenceProjYIdeal.τ Cert.ReferenceProjYIdeal.sig) → Buf (Elt Ideal) ℓ) : Prop :=
  True

def Pre_KernelProjXY (m : (ℓ : Loc Cert.KernelProjXY.nD Cert.KernelProjXY.τ Cert.KernelProjXY.sig) → Buf (Elt Bits) ℓ) : Prop :=
  True

def Pre_KernelProjXYIdeal (m : (ℓ : Loc Cert.KernelProjXYIdeal.nD Cert.KernelProjXYIdeal.τ Cert.KernelProjXYIdeal.sig) → Buf (Elt Ideal) ℓ) : Prop :=
  True

def Pre_ReferenceProjXYIdeal (m : (ℓ : Loc Cert.ReferenceProjXYIdeal.nD Cert.ReferenceProjXYIdeal.τ Cert.ReferenceProjXYIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelNormZ (m : (ℓ : Loc Cert.KernelNormZ.nD Cert.KernelNormZ.τ Cert.KernelNormZ.sig) → Buf (Elt Bits) ℓ) : Prop :=
  True

def Pre_KernelNormZIdeal (m : (ℓ : Loc Cert.KernelNormZIdeal.nD Cert.KernelNormZIdeal.τ Cert.KernelNormZIdeal.sig) → Buf (Elt Ideal) ℓ) : Prop :=
  True

def Pre_ReferenceNormZIdeal (m : (ℓ : Loc Cert.ReferenceNormZIdeal.nD Cert.ReferenceNormZIdeal.τ Cert.ReferenceNormZIdeal.sig) → Buf (Elt Ideal) ℓ) : Prop :=
  True

def Pre_KernelNormBwd (m : (ℓ : Loc Cert.KernelNormBwd.nD Cert.KernelNormBwd.τ Cert.KernelNormBwd.sig) → Buf (Elt Bits) ℓ) : Prop :=
  True

def Pre_KernelNormBwdIdeal (m : (ℓ : Loc Cert.KernelNormBwdIdeal.nD Cert.KernelNormBwdIdeal.τ Cert.KernelNormBwdIdeal.sig) → Buf (Elt Ideal) ℓ) : Prop :=
  True

def Pre_ReferenceNormBwdIdeal (m : (ℓ : Loc Cert.ReferenceNormBwdIdeal.nD Cert.ReferenceNormBwdIdeal.τ Cert.ReferenceNormBwdIdeal.sig) → Buf (Elt Ideal) ℓ) : Prop :=
  True

def Pre_KernelNormBwdA (m : (ℓ : Loc Cert.KernelNormBwdA.nD Cert.KernelNormBwdA.τ Cert.KernelNormBwdA.sig) → Buf (Elt Bits) ℓ) : Prop :=
  True

def Pre_KernelNormBwdAIdeal (m : (ℓ : Loc Cert.KernelNormBwdAIdeal.nD Cert.KernelNormBwdAIdeal.τ Cert.KernelNormBwdAIdeal.sig) → Buf (Elt Ideal) ℓ) : Prop :=
  True

def Pre_ReferenceNormBwdAIdeal (m : (ℓ : Loc Cert.ReferenceNormBwdAIdeal.nD Cert.ReferenceNormBwdAIdeal.τ Cert.ReferenceNormBwdAIdeal.sig) → Buf (Elt Ideal) ℓ) : Prop :=
  True

def Pre_KernelNormZBwd (m : (ℓ : Loc Cert.KernelNormZBwd.nD Cert.KernelNormZBwd.τ Cert.KernelNormZBwd.sig) → Buf (Elt Bits) ℓ) : Prop :=
  True

def Pre_KernelNormZBwdIdeal (m : (ℓ : Loc Cert.KernelNormZBwdIdeal.nD Cert.KernelNormZBwdIdeal.τ Cert.KernelNormZBwdIdeal.sig) → Buf (Elt Ideal) ℓ) : Prop :=
  True

def Pre_ReferenceNormZBwdIdeal (m : (ℓ : Loc Cert.ReferenceNormZBwdIdeal.nD Cert.ReferenceNormZBwdIdeal.τ Cert.ReferenceNormZBwdIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelAdamIn (m : (ℓ : Loc Cert.KernelAdamIn.nD Cert.KernelAdamIn.τ Cert.KernelAdamIn.sig) → Buf (Elt Bits) ℓ) : Prop :=
  True

def Pre_KernelAdamInIdeal (m : (ℓ : Loc Cert.KernelAdamInIdeal.nD Cert.KernelAdamInIdeal.τ Cert.KernelAdamInIdeal.sig) → Buf (Elt Ideal) ℓ) : Prop :=
  True

def Pre_ReferenceAdamInIdeal (m : (ℓ : Loc Cert.ReferenceAdamInIdeal.nD Cert.ReferenceAdamInIdeal.τ Cert.ReferenceAdamInIdeal.sig) → Buf (Elt Ideal) ℓ) : Prop :=
  True

def Pre_KernelAdamUp (m : (ℓ : Loc Cert.KernelAdamUp.nD Cert.KernelAdamUp.τ Cert.KernelAdamUp.sig) → Buf (Elt Bits) ℓ) : Prop :=
  True

def Pre_KernelAdamUpIdeal (m : (ℓ : Loc Cert.KernelAdamUpIdeal.nD Cert.KernelAdamUpIdeal.τ Cert.KernelAdamUpIdeal.sig) → Buf (Elt Ideal) ℓ) : Prop :=
  True

def Pre_ReferenceAdamUpIdeal (m : (ℓ : Loc Cert.ReferenceAdamUpIdeal.nD Cert.ReferenceAdamUpIdeal.τ Cert.ReferenceAdamUpIdeal.sig) → Buf (Elt Ideal) ℓ) : Prop :=
  True

def Pre_KernelAdamOut (m : (ℓ : Loc Cert.KernelAdamOut.nD Cert.KernelAdamOut.τ Cert.KernelAdamOut.sig) → Buf (Elt Bits) ℓ) : Prop :=
  True

def Pre_KernelAdamOutIdeal (m : (ℓ : Loc Cert.KernelAdamOutIdeal.nD Cert.KernelAdamOutIdeal.τ Cert.KernelAdamOutIdeal.sig) → Buf (Elt Ideal) ℓ) : Prop :=
  True

def Pre_ReferenceAdamOutIdeal (m : (ℓ : Loc Cert.ReferenceAdamOutIdeal.nD Cert.ReferenceAdamOutIdeal.τ Cert.ReferenceAdamOutIdeal.sig) → Buf (Elt Ideal) ℓ) : Prop :=
  True

def Pre_KernelAdamDown (m : (ℓ : Loc Cert.KernelAdamDown.nD Cert.KernelAdamDown.τ Cert.KernelAdamDown.sig) → Buf (Elt Bits) ℓ) : Prop :=
  True

def Pre_KernelAdamDownIdeal (m : (ℓ : Loc Cert.KernelAdamDownIdeal.nD Cert.KernelAdamDownIdeal.τ Cert.KernelAdamDownIdeal.sig) → Buf (Elt Ideal) ℓ) : Prop :=
  True

def Pre_ReferenceAdamDownIdeal (m : (ℓ : Loc Cert.ReferenceAdamDownIdeal.nD Cert.ReferenceAdamDownIdeal.τ Cert.ReferenceAdamDownIdeal.sig) → Buf (Elt Ideal) ℓ) : Prop :=
  True

def Pre_KernelAdamSmall (m : (ℓ : Loc Cert.KernelAdamSmall.nD Cert.KernelAdamSmall.τ Cert.KernelAdamSmall.sig) → Buf (Elt Bits) ℓ) : Prop :=
  True

def Pre_KernelAdamSmallIdeal (m : (ℓ : Loc Cert.KernelAdamSmallIdeal.nD Cert.KernelAdamSmallIdeal.τ Cert.KernelAdamSmallIdeal.sig) → Buf (Elt Ideal) ℓ) : Prop :=
  True

def Pre_ReferenceAdamSmallIdeal (m : (ℓ : Loc Cert.ReferenceAdamSmallIdeal.nD Cert.ReferenceAdamSmallIdeal.τ Cert.ReferenceAdamSmallIdeal.sig) → Buf (Elt Ideal) ℓ) : Prop :=
  True

def Pre_KernelCastIn (m : (ℓ : Loc Cert.KernelCastIn.nD Cert.KernelCastIn.τ Cert.KernelCastIn.sig) → Buf (Elt Bits) ℓ) : Prop :=
  True

def Pre_KernelCastInIdeal (m : (ℓ : Loc Cert.KernelCastInIdeal.nD Cert.KernelCastInIdeal.τ Cert.KernelCastInIdeal.sig) → Buf (Elt Ideal) ℓ) : Prop :=
  True

def Pre_ReferenceCastInIdeal (m : (ℓ : Loc Cert.ReferenceCastInIdeal.nD Cert.ReferenceCastInIdeal.τ Cert.ReferenceCastInIdeal.sig) → Buf (Elt Ideal) ℓ) : Prop :=
  True

def Pre_KernelCastOut (m : (ℓ : Loc Cert.KernelCastOut.nD Cert.KernelCastOut.τ Cert.KernelCastOut.sig) → Buf (Elt Bits) ℓ) : Prop :=
  True

def Pre_KernelCastOutIdeal (m : (ℓ : Loc Cert.KernelCastOutIdeal.nD Cert.KernelCastOutIdeal.τ Cert.KernelCastOutIdeal.sig) → Buf (Elt Ideal) ℓ) : Prop :=
  True

def Pre_ReferenceCastOutIdeal (m : (ℓ : Loc Cert.ReferenceCastOutIdeal.nD Cert.ReferenceCastOutIdeal.τ Cert.ReferenceCastOutIdeal.sig) → Buf (Elt Ideal) ℓ) : Prop :=
  True

def Pre_KernelCastUp (m : (ℓ : Loc Cert.KernelCastUp.nD Cert.KernelCastUp.τ Cert.KernelCastUp.sig) → Buf (Elt Bits) ℓ) : Prop :=
  True

def Pre_KernelCastUpIdeal (m : (ℓ : Loc Cert.KernelCastUpIdeal.nD Cert.KernelCastUpIdeal.τ Cert.KernelCastUpIdeal.sig) → Buf (Elt Ideal) ℓ) : Prop :=
  True

def Pre_ReferenceCastUpIdeal (m : (ℓ : Loc Cert.ReferenceCastUpIdeal.nD Cert.ReferenceCastUpIdeal.τ Cert.ReferenceCastUpIdeal.sig) → Buf (Elt Ideal) ℓ) : Prop :=
  True

def Pre_KernelCastDown (m : (ℓ : Loc Cert.KernelCastDown.nD Cert.KernelCastDown.τ Cert.KernelCastDown.sig) → Buf (Elt Bits) ℓ) : Prop :=
  True

def Pre_KernelCastDownIdeal (m : (ℓ : Loc Cert.KernelCastDownIdeal.nD Cert.KernelCastDownIdeal.τ Cert.KernelCastDownIdeal.sig) → Buf (Elt Ideal) ℓ) : Prop :=
  True

def Pre_ReferenceCastDownIdeal (m : (ℓ : Loc Cert.ReferenceCastDownIdeal.nD Cert.ReferenceCastDownIdeal.τ Cert.ReferenceCastDownIdeal.sig) → Buf (Elt Ideal) ℓ) : Prop :=
  True

def Pre_KernelOwnIn (m : (ℓ : Loc Cert.KernelOwnIn.nD Cert.KernelOwnIn.τ Cert.KernelOwnIn.sig) → Buf (Elt Bits) ℓ) : Prop :=
  True

def Pre_KernelOwnInIdeal (m : (ℓ : Loc Cert.KernelOwnInIdeal.nD Cert.KernelOwnInIdeal.τ Cert.KernelOwnInIdeal.sig) → Buf (Elt Ideal) ℓ) : Prop :=
  True

def Pre_ReferenceOwnInIdeal (m : (ℓ : Loc Cert.ReferenceOwnInIdeal.nD Cert.ReferenceOwnInIdeal.τ Cert.ReferenceOwnInIdeal.sig) → Buf (Elt Ideal) ℓ) : Prop :=
  True

def Pre_KernelOwnOut (m : (ℓ : Loc Cert.KernelOwnOut.nD Cert.KernelOwnOut.τ Cert.KernelOwnOut.sig) → Buf (Elt Bits) ℓ) : Prop :=
  True

def Pre_KernelOwnOutIdeal (m : (ℓ : Loc Cert.KernelOwnOutIdeal.nD Cert.KernelOwnOutIdeal.τ Cert.KernelOwnOutIdeal.sig) → Buf (Elt Ideal) ℓ) : Prop :=
  True

def Pre_ReferenceOwnOutIdeal (m : (ℓ : Loc Cert.ReferenceOwnOutIdeal.nD Cert.ReferenceOwnOutIdeal.τ Cert.ReferenceOwnOutIdeal.sig) → Buf (Elt Ideal) ℓ) : Prop :=
  True

def Pre_KernelOwnUp (m : (ℓ : Loc Cert.KernelOwnUp.nD Cert.KernelOwnUp.τ Cert.KernelOwnUp.sig) → Buf (Elt Bits) ℓ) : Prop :=
  True

def Pre_KernelOwnUpIdeal (m : (ℓ : Loc Cert.KernelOwnUpIdeal.nD Cert.KernelOwnUpIdeal.τ Cert.KernelOwnUpIdeal.sig) → Buf (Elt Ideal) ℓ) : Prop :=
  True

def Pre_ReferenceOwnUpIdeal (m : (ℓ : Loc Cert.ReferenceOwnUpIdeal.nD Cert.ReferenceOwnUpIdeal.τ Cert.ReferenceOwnUpIdeal.sig) → Buf (Elt Ideal) ℓ) : Prop :=
  True

def Pre_KernelOwnDown (m : (ℓ : Loc Cert.KernelOwnDown.nD Cert.KernelOwnDown.τ Cert.KernelOwnDown.sig) → Buf (Elt Bits) ℓ) : Prop :=
  True

def Pre_KernelOwnDownIdeal (m : (ℓ : Loc Cert.KernelOwnDownIdeal.nD Cert.KernelOwnDownIdeal.τ Cert.KernelOwnDownIdeal.sig) → Buf (Elt Ideal) ℓ) : Prop :=
  True

def Pre_ReferenceOwnDownIdeal (m : (ℓ : Loc Cert.ReferenceOwnDownIdeal.nD Cert.ReferenceOwnDownIdeal.τ Cert.ReferenceOwnDownIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_KernelDHn2 [hKernelDHn2 : Cert.KernelDHn2.Facts] : Prop :=
  ∀ (m : (ℓ : Loc Cert.KernelDHn2.nD Cert.KernelDHn2.τ Cert.KernelDHn2.sig) → Buf (Elt Bits) ℓ) (g : Dev Cert.KernelDHn2.nD → PrngReg), Pre_KernelDHn2 m →
    θ_run (Cert.KernelDHn2.defs (F := Bits)) (onTc (τ := Cert.KernelDHn2.τ) (Cert.KernelDHn2.main (F := Bits))) ⟨m, fun _ => 0, g⟩ (fun r => (∀ c : Dev Cert.KernelDHn2.nD,
      r.2.mem ((c.tc : Thread Cert.KernelDHn2.nD Cert.KernelDHn2.τ).loc Cert.KernelDHn2.main_arg0) = m ((c.tc : Thread Cert.KernelDHn2.nD Cert.KernelDHn2.τ).loc Cert.KernelDHn2.main_arg0)
      ∧ r.2.mem ((c.tc : Thread Cert.KernelDHn2.nD Cert.KernelDHn2.τ).loc Cert.KernelDHn2.main_arg1) = m ((c.tc : Thread Cert.KernelDHn2.nD Cert.KernelDHn2.τ).loc Cert.KernelDHn2.main_arg1)
      ∧ r.2.mem ((c.tc : Thread Cert.KernelDHn2.nD Cert.KernelDHn2.τ).loc Cert.KernelDHn2.main_arg2) = m ((c.tc : Thread Cert.KernelDHn2.nD Cert.KernelDHn2.τ).loc Cert.KernelDHn2.main_arg2))
      ∧ r.2.sem = fun _ => 0)

def quiescent_KernelDHn2Ideal [hKernelDHn2Ideal : Cert.KernelDHn2Ideal.Facts] : Prop :=
  ∀ (m : (ℓ : Loc Cert.KernelDHn2Ideal.nD Cert.KernelDHn2Ideal.τ Cert.KernelDHn2Ideal.sig) → Buf (Elt Ideal) ℓ) (g : Dev Cert.KernelDHn2Ideal.nD → PrngReg), Pre_KernelDHn2Ideal m →
    θ_run (Cert.KernelDHn2Ideal.defs (F := Ideal)) (onTc (τ := Cert.KernelDHn2Ideal.τ) (Cert.KernelDHn2Ideal.main (F := Ideal))) ⟨m, fun _ => 0, g⟩ (fun r => (∀ c : Dev Cert.KernelDHn2Ideal.nD,
      r.2.mem ((c.tc : Thread Cert.KernelDHn2Ideal.nD Cert.KernelDHn2Ideal.τ).loc Cert.KernelDHn2Ideal.main_arg0) = m ((c.tc : Thread Cert.KernelDHn2Ideal.nD Cert.KernelDHn2Ideal.τ).loc Cert.KernelDHn2Ideal.main_arg0)
      ∧ r.2.mem ((c.tc : Thread Cert.KernelDHn2Ideal.nD Cert.KernelDHn2Ideal.τ).loc Cert.KernelDHn2Ideal.main_arg1) = m ((c.tc : Thread Cert.KernelDHn2Ideal.nD Cert.KernelDHn2Ideal.τ).loc Cert.KernelDHn2Ideal.main_arg1)
      ∧ r.2.mem ((c.tc : Thread Cert.KernelDHn2Ideal.nD Cert.KernelDHn2Ideal.τ).loc Cert.KernelDHn2Ideal.main_arg2) = m ((c.tc : Thread Cert.KernelDHn2Ideal.nD Cert.KernelDHn2Ideal.τ).loc Cert.KernelDHn2Ideal.main_arg2))
      ∧ r.2.sem = fun _ => 0)

def quiescent_ReferenceDHn2Ideal [hReferenceDHn2Ideal : Cert.ReferenceDHn2Ideal.Facts] : Prop :=
  ∀ (m : (ℓ : Loc Cert.ReferenceDHn2Ideal.nD Cert.ReferenceDHn2Ideal.τ Cert.ReferenceDHn2Ideal.sig) → Buf (Elt Ideal) ℓ) (g : Dev Cert.ReferenceDHn2Ideal.nD → PrngReg), Pre_ReferenceDHn2Ideal m →
    θ_run (Cert.ReferenceDHn2Ideal.defs (F := Ideal)) (onTc (τ := Cert.ReferenceDHn2Ideal.τ) (Cert.ReferenceDHn2Ideal.main (F := Ideal))) ⟨m, fun _ => 0, g⟩ (fun r => (∀ c : Dev Cert.ReferenceDHn2Ideal.nD,
      r.2.mem ((c.tc : Thread Cert.ReferenceDHn2Ideal.nD Cert.ReferenceDHn2Ideal.τ).loc Cert.ReferenceDHn2Ideal.main_arg0) = m ((c.tc : Thread Cert.ReferenceDHn2Ideal.nD Cert.ReferenceDHn2Ideal.τ).loc Cert.ReferenceDHn2Ideal.main_arg0)
      ∧ r.2.mem ((c.tc : Thread Cert.ReferenceDHn2Ideal.nD Cert.ReferenceDHn2Ideal.τ).loc Cert.ReferenceDHn2Ideal.main_arg1) = m ((c.tc : Thread Cert.ReferenceDHn2Ideal.nD Cert.ReferenceDHn2Ideal.τ).loc Cert.ReferenceDHn2Ideal.main_arg1)
      ∧ r.2.mem ((c.tc : Thread Cert.ReferenceDHn2Ideal.nD Cert.ReferenceDHn2Ideal.τ).loc Cert.ReferenceDHn2Ideal.main_arg2) = m ((c.tc : Thread Cert.ReferenceDHn2Ideal.nD Cert.ReferenceDHn2Ideal.τ).loc Cert.ReferenceDHn2Ideal.main_arg2))
      ∧ r.2.sem = fun _ => 0)

def quiescent_KernelDAct [hKernelDAct : Cert.KernelDAct.Facts] : Prop :=
  ∀ (m : (ℓ : Loc Cert.KernelDAct.nD Cert.KernelDAct.τ Cert.KernelDAct.sig) → Buf (Elt Bits) ℓ) (g : Dev Cert.KernelDAct.nD → PrngReg), Pre_KernelDAct m →
    θ_run (Cert.KernelDAct.defs (F := Bits)) (onTc (τ := Cert.KernelDAct.τ) (Cert.KernelDAct.main (F := Bits))) ⟨m, fun _ => 0, g⟩ (fun r => (∀ c : Dev Cert.KernelDAct.nD,
      r.2.mem ((c.tc : Thread Cert.KernelDAct.nD Cert.KernelDAct.τ).loc Cert.KernelDAct.main_arg0) = m ((c.tc : Thread Cert.KernelDAct.nD Cert.KernelDAct.τ).loc Cert.KernelDAct.main_arg0)
      ∧ r.2.mem ((c.tc : Thread Cert.KernelDAct.nD Cert.KernelDAct.τ).loc Cert.KernelDAct.main_arg1) = m ((c.tc : Thread Cert.KernelDAct.nD Cert.KernelDAct.τ).loc Cert.KernelDAct.main_arg1)
      ∧ r.2.mem ((c.tc : Thread Cert.KernelDAct.nD Cert.KernelDAct.τ).loc Cert.KernelDAct.main_arg2) = m ((c.tc : Thread Cert.KernelDAct.nD Cert.KernelDAct.τ).loc Cert.KernelDAct.main_arg2))
      ∧ r.2.sem = fun _ => 0)

def quiescent_KernelDActIdeal [hKernelDActIdeal : Cert.KernelDActIdeal.Facts] : Prop :=
  ∀ (m : (ℓ : Loc Cert.KernelDActIdeal.nD Cert.KernelDActIdeal.τ Cert.KernelDActIdeal.sig) → Buf (Elt Ideal) ℓ) (g : Dev Cert.KernelDActIdeal.nD → PrngReg), Pre_KernelDActIdeal m →
    θ_run (Cert.KernelDActIdeal.defs (F := Ideal)) (onTc (τ := Cert.KernelDActIdeal.τ) (Cert.KernelDActIdeal.main (F := Ideal))) ⟨m, fun _ => 0, g⟩ (fun r => (∀ c : Dev Cert.KernelDActIdeal.nD,
      r.2.mem ((c.tc : Thread Cert.KernelDActIdeal.nD Cert.KernelDActIdeal.τ).loc Cert.KernelDActIdeal.main_arg0) = m ((c.tc : Thread Cert.KernelDActIdeal.nD Cert.KernelDActIdeal.τ).loc Cert.KernelDActIdeal.main_arg0)
      ∧ r.2.mem ((c.tc : Thread Cert.KernelDActIdeal.nD Cert.KernelDActIdeal.τ).loc Cert.KernelDActIdeal.main_arg1) = m ((c.tc : Thread Cert.KernelDActIdeal.nD Cert.KernelDActIdeal.τ).loc Cert.KernelDActIdeal.main_arg1)
      ∧ r.2.mem ((c.tc : Thread Cert.KernelDActIdeal.nD Cert.KernelDActIdeal.τ).loc Cert.KernelDActIdeal.main_arg2) = m ((c.tc : Thread Cert.KernelDActIdeal.nD Cert.KernelDActIdeal.τ).loc Cert.KernelDActIdeal.main_arg2))
      ∧ r.2.sem = fun _ => 0)

def quiescent_ReferenceDActIdeal [hReferenceDActIdeal : Cert.ReferenceDActIdeal.Facts] : Prop :=
  ∀ (m : (ℓ : Loc Cert.ReferenceDActIdeal.nD Cert.ReferenceDActIdeal.τ Cert.ReferenceDActIdeal.sig) → Buf (Elt Ideal) ℓ) (g : Dev Cert.ReferenceDActIdeal.nD → PrngReg), Pre_ReferenceDActIdeal m →
    θ_run (Cert.ReferenceDActIdeal.defs (F := Ideal)) (onTc (τ := Cert.ReferenceDActIdeal.τ) (Cert.ReferenceDActIdeal.main (F := Ideal))) ⟨m, fun _ => 0, g⟩ (fun r => (∀ c : Dev Cert.ReferenceDActIdeal.nD,
      r.2.mem ((c.tc : Thread Cert.ReferenceDActIdeal.nD Cert.ReferenceDActIdeal.τ).loc Cert.ReferenceDActIdeal.main_arg0) = m ((c.tc : Thread Cert.ReferenceDActIdeal.nD Cert.ReferenceDActIdeal.τ).loc Cert.ReferenceDActIdeal.main_arg0)
      ∧ r.2.mem ((c.tc : Thread Cert.ReferenceDActIdeal.nD Cert.ReferenceDActIdeal.τ).loc Cert.ReferenceDActIdeal.main_arg1) = m ((c.tc : Thread Cert.ReferenceDActIdeal.nD Cert.ReferenceDActIdeal.τ).loc Cert.ReferenceDActIdeal.main_arg1)
      ∧ r.2.mem ((c.tc : Thread Cert.ReferenceDActIdeal.nD Cert.ReferenceDActIdeal.τ).loc Cert.ReferenceDActIdeal.main_arg2) = m ((c.tc : Thread Cert.ReferenceDActIdeal.nD Cert.ReferenceDActIdeal.τ).loc Cert.ReferenceDActIdeal.main_arg2))
      ∧ r.2.sem = fun _ => 0)

def quiescent_KernelDHn1 [hKernelDHn1 : Cert.KernelDHn1.Facts] : Prop :=
  ∀ (m : (ℓ : Loc Cert.KernelDHn1.nD Cert.KernelDHn1.τ Cert.KernelDHn1.sig) → Buf (Elt Bits) ℓ) (g : Dev Cert.KernelDHn1.nD → PrngReg), Pre_KernelDHn1 m →
    θ_run (Cert.KernelDHn1.defs (F := Bits)) (onTc (τ := Cert.KernelDHn1.τ) (Cert.KernelDHn1.main (F := Bits))) ⟨m, fun _ => 0, g⟩ (fun r => (∀ c : Dev Cert.KernelDHn1.nD,
      r.2.mem ((c.tc : Thread Cert.KernelDHn1.nD Cert.KernelDHn1.τ).loc Cert.KernelDHn1.main_arg0) = m ((c.tc : Thread Cert.KernelDHn1.nD Cert.KernelDHn1.τ).loc Cert.KernelDHn1.main_arg0)
      ∧ r.2.mem ((c.tc : Thread Cert.KernelDHn1.nD Cert.KernelDHn1.τ).loc Cert.KernelDHn1.main_arg1) = m ((c.tc : Thread Cert.KernelDHn1.nD Cert.KernelDHn1.τ).loc Cert.KernelDHn1.main_arg1)
      ∧ r.2.mem ((c.tc : Thread Cert.KernelDHn1.nD Cert.KernelDHn1.τ).loc Cert.KernelDHn1.main_arg2) = m ((c.tc : Thread Cert.KernelDHn1.nD Cert.KernelDHn1.τ).loc Cert.KernelDHn1.main_arg2))
      ∧ r.2.sem = fun _ => 0)

def quiescent_KernelDHn1Ideal [hKernelDHn1Ideal : Cert.KernelDHn1Ideal.Facts] : Prop :=
  ∀ (m : (ℓ : Loc Cert.KernelDHn1Ideal.nD Cert.KernelDHn1Ideal.τ Cert.KernelDHn1Ideal.sig) → Buf (Elt Ideal) ℓ) (g : Dev Cert.KernelDHn1Ideal.nD → PrngReg), Pre_KernelDHn1Ideal m →
    θ_run (Cert.KernelDHn1Ideal.defs (F := Ideal)) (onTc (τ := Cert.KernelDHn1Ideal.τ) (Cert.KernelDHn1Ideal.main (F := Ideal))) ⟨m, fun _ => 0, g⟩ (fun r => (∀ c : Dev Cert.KernelDHn1Ideal.nD,
      r.2.mem ((c.tc : Thread Cert.KernelDHn1Ideal.nD Cert.KernelDHn1Ideal.τ).loc Cert.KernelDHn1Ideal.main_arg0) = m ((c.tc : Thread Cert.KernelDHn1Ideal.nD Cert.KernelDHn1Ideal.τ).loc Cert.KernelDHn1Ideal.main_arg0)
      ∧ r.2.mem ((c.tc : Thread Cert.KernelDHn1Ideal.nD Cert.KernelDHn1Ideal.τ).loc Cert.KernelDHn1Ideal.main_arg1) = m ((c.tc : Thread Cert.KernelDHn1Ideal.nD Cert.KernelDHn1Ideal.τ).loc Cert.KernelDHn1Ideal.main_arg1)
      ∧ r.2.mem ((c.tc : Thread Cert.KernelDHn1Ideal.nD Cert.KernelDHn1Ideal.τ).loc Cert.KernelDHn1Ideal.main_arg2) = m ((c.tc : Thread Cert.KernelDHn1Ideal.nD Cert.KernelDHn1Ideal.τ).loc Cert.KernelDHn1Ideal.main_arg2))
      ∧ r.2.sem = fun _ => 0)

def quiescent_ReferenceDHn1Ideal [hReferenceDHn1Ideal : Cert.ReferenceDHn1Ideal.Facts] : Prop :=
  ∀ (m : (ℓ : Loc Cert.ReferenceDHn1Ideal.nD Cert.ReferenceDHn1Ideal.τ Cert.ReferenceDHn1Ideal.sig) → Buf (Elt Ideal) ℓ) (g : Dev Cert.ReferenceDHn1Ideal.nD → PrngReg), Pre_ReferenceDHn1Ideal m →
    θ_run (Cert.ReferenceDHn1Ideal.defs (F := Ideal)) (onTc (τ := Cert.ReferenceDHn1Ideal.τ) (Cert.ReferenceDHn1Ideal.main (F := Ideal))) ⟨m, fun _ => 0, g⟩ (fun r => (∀ c : Dev Cert.ReferenceDHn1Ideal.nD,
      r.2.mem ((c.tc : Thread Cert.ReferenceDHn1Ideal.nD Cert.ReferenceDHn1Ideal.τ).loc Cert.ReferenceDHn1Ideal.main_arg0) = m ((c.tc : Thread Cert.ReferenceDHn1Ideal.nD Cert.ReferenceDHn1Ideal.τ).loc Cert.ReferenceDHn1Ideal.main_arg0)
      ∧ r.2.mem ((c.tc : Thread Cert.ReferenceDHn1Ideal.nD Cert.ReferenceDHn1Ideal.τ).loc Cert.ReferenceDHn1Ideal.main_arg1) = m ((c.tc : Thread Cert.ReferenceDHn1Ideal.nD Cert.ReferenceDHn1Ideal.τ).loc Cert.ReferenceDHn1Ideal.main_arg1)
      ∧ r.2.mem ((c.tc : Thread Cert.ReferenceDHn1Ideal.nD Cert.ReferenceDHn1Ideal.τ).loc Cert.ReferenceDHn1Ideal.main_arg2) = m ((c.tc : Thread Cert.ReferenceDHn1Ideal.nD Cert.ReferenceDHn1Ideal.τ).loc Cert.ReferenceDHn1Ideal.main_arg2))
      ∧ r.2.sem = fun _ => 0)

def quiescent_KernelDMix [hKernelDMix : Cert.KernelDMix.Facts] : Prop :=
  ∀ (m : (ℓ : Loc Cert.KernelDMix.nD Cert.KernelDMix.τ Cert.KernelDMix.sig) → Buf (Elt Bits) ℓ) (g : Dev Cert.KernelDMix.nD → PrngReg), Pre_KernelDMix m →
    θ_run (Cert.KernelDMix.defs (F := Bits)) (onTc (τ := Cert.KernelDMix.τ) (Cert.KernelDMix.main (F := Bits))) ⟨m, fun _ => 0, g⟩ (fun r => (∀ c : Dev Cert.KernelDMix.nD,
      r.2.mem ((c.tc : Thread Cert.KernelDMix.nD Cert.KernelDMix.τ).loc Cert.KernelDMix.main_arg0) = m ((c.tc : Thread Cert.KernelDMix.nD Cert.KernelDMix.τ).loc Cert.KernelDMix.main_arg0)
      ∧ r.2.mem ((c.tc : Thread Cert.KernelDMix.nD Cert.KernelDMix.τ).loc Cert.KernelDMix.main_arg1) = m ((c.tc : Thread Cert.KernelDMix.nD Cert.KernelDMix.τ).loc Cert.KernelDMix.main_arg1)
      ∧ r.2.mem ((c.tc : Thread Cert.KernelDMix.nD Cert.KernelDMix.τ).loc Cert.KernelDMix.main_arg2) = m ((c.tc : Thread Cert.KernelDMix.nD Cert.KernelDMix.τ).loc Cert.KernelDMix.main_arg2))
      ∧ r.2.sem = fun _ => 0)

def quiescent_KernelDMixIdeal [hKernelDMixIdeal : Cert.KernelDMixIdeal.Facts] : Prop :=
  ∀ (m : (ℓ : Loc Cert.KernelDMixIdeal.nD Cert.KernelDMixIdeal.τ Cert.KernelDMixIdeal.sig) → Buf (Elt Ideal) ℓ) (g : Dev Cert.KernelDMixIdeal.nD → PrngReg), Pre_KernelDMixIdeal m →
    θ_run (Cert.KernelDMixIdeal.defs (F := Ideal)) (onTc (τ := Cert.KernelDMixIdeal.τ) (Cert.KernelDMixIdeal.main (F := Ideal))) ⟨m, fun _ => 0, g⟩ (fun r => (∀ c : Dev Cert.KernelDMixIdeal.nD,
      r.2.mem ((c.tc : Thread Cert.KernelDMixIdeal.nD Cert.KernelDMixIdeal.τ).loc Cert.KernelDMixIdeal.main_arg0) = m ((c.tc : Thread Cert.KernelDMixIdeal.nD Cert.KernelDMixIdeal.τ).loc Cert.KernelDMixIdeal.main_arg0)
      ∧ r.2.mem ((c.tc : Thread Cert.KernelDMixIdeal.nD Cert.KernelDMixIdeal.τ).loc Cert.KernelDMixIdeal.main_arg1) = m ((c.tc : Thread Cert.KernelDMixIdeal.nD Cert.KernelDMixIdeal.τ).loc Cert.KernelDMixIdeal.main_arg1)
      ∧ r.2.mem ((c.tc : Thread Cert.KernelDMixIdeal.nD Cert.KernelDMixIdeal.τ).loc Cert.KernelDMixIdeal.main_arg2) = m ((c.tc : Thread Cert.KernelDMixIdeal.nD Cert.KernelDMixIdeal.τ).loc Cert.KernelDMixIdeal.main_arg2))
      ∧ r.2.sem = fun _ => 0)

def quiescent_ReferenceDMixIdeal [hReferenceDMixIdeal : Cert.ReferenceDMixIdeal.Facts] : Prop :=
  ∀ (m : (ℓ : Loc Cert.ReferenceDMixIdeal.nD Cert.ReferenceDMixIdeal.τ Cert.ReferenceDMixIdeal.sig) → Buf (Elt Ideal) ℓ) (g : Dev Cert.ReferenceDMixIdeal.nD → PrngReg), Pre_ReferenceDMixIdeal m →
    θ_run (Cert.ReferenceDMixIdeal.defs (F := Ideal)) (onTc (τ := Cert.ReferenceDMixIdeal.τ) (Cert.ReferenceDMixIdeal.main (F := Ideal))) ⟨m, fun _ => 0, g⟩ (fun r => (∀ c : Dev Cert.ReferenceDMixIdeal.nD,
      r.2.mem ((c.tc : Thread Cert.ReferenceDMixIdeal.nD Cert.ReferenceDMixIdeal.τ).loc Cert.ReferenceDMixIdeal.main_arg0) = m ((c.tc : Thread Cert.ReferenceDMixIdeal.nD Cert.ReferenceDMixIdeal.τ).loc Cert.ReferenceDMixIdeal.main_arg0)
      ∧ r.2.mem ((c.tc : Thread Cert.ReferenceDMixIdeal.nD Cert.ReferenceDMixIdeal.τ).loc Cert.ReferenceDMixIdeal.main_arg1) = m ((c.tc : Thread Cert.ReferenceDMixIdeal.nD Cert.ReferenceDMixIdeal.τ).loc Cert.ReferenceDMixIdeal.main_arg1)
      ∧ r.2.mem ((c.tc : Thread Cert.ReferenceDMixIdeal.nD Cert.ReferenceDMixIdeal.τ).loc Cert.ReferenceDMixIdeal.main_arg2) = m ((c.tc : Thread Cert.ReferenceDMixIdeal.nD Cert.ReferenceDMixIdeal.τ).loc Cert.ReferenceDMixIdeal.main_arg2))
      ∧ r.2.sem = fun _ => 0)

def quiescent_KernelGUpS [hKernelGUpS : Cert.KernelGUpS.Facts] : Prop :=
  ∀ (m : (ℓ : Loc Cert.KernelGUpS.nD Cert.KernelGUpS.τ Cert.KernelGUpS.sig) → Buf (Elt Bits) ℓ) (g : Dev Cert.KernelGUpS.nD → PrngReg), Pre_KernelGUpS m →
    θ_run (Cert.KernelGUpS.defs (F := Bits)) (onTc (τ := Cert.KernelGUpS.τ) (Cert.KernelGUpS.main (F := Bits))) ⟨m, fun _ => 0, g⟩ (fun r => (∀ c : Dev Cert.KernelGUpS.nD,
      r.2.mem ((c.tc : Thread Cert.KernelGUpS.nD Cert.KernelGUpS.τ).loc Cert.KernelGUpS.main_arg0) = m ((c.tc : Thread Cert.KernelGUpS.nD Cert.KernelGUpS.τ).loc Cert.KernelGUpS.main_arg0)
      ∧ r.2.mem ((c.tc : Thread Cert.KernelGUpS.nD Cert.KernelGUpS.τ).loc Cert.KernelGUpS.main_arg1) = m ((c.tc : Thread Cert.KernelGUpS.nD Cert.KernelGUpS.τ).loc Cert.KernelGUpS.main_arg1))
      ∧ r.2.sem = fun _ => 0)

def quiescent_KernelGUpSIdeal [hKernelGUpSIdeal : Cert.KernelGUpSIdeal.Facts] : Prop :=
  ∀ (m : (ℓ : Loc Cert.KernelGUpSIdeal.nD Cert.KernelGUpSIdeal.τ Cert.KernelGUpSIdeal.sig) → Buf (Elt Ideal) ℓ) (g : Dev Cert.KernelGUpSIdeal.nD → PrngReg), Pre_KernelGUpSIdeal m →
    θ_run (Cert.KernelGUpSIdeal.defs (F := Ideal)) (onTc (τ := Cert.KernelGUpSIdeal.τ) (Cert.KernelGUpSIdeal.main (F := Ideal))) ⟨m, fun _ => 0, g⟩ (fun r => (∀ c : Dev Cert.KernelGUpSIdeal.nD,
      r.2.mem ((c.tc : Thread Cert.KernelGUpSIdeal.nD Cert.KernelGUpSIdeal.τ).loc Cert.KernelGUpSIdeal.main_arg0) = m ((c.tc : Thread Cert.KernelGUpSIdeal.nD Cert.KernelGUpSIdeal.τ).loc Cert.KernelGUpSIdeal.main_arg0)
      ∧ r.2.mem ((c.tc : Thread Cert.KernelGUpSIdeal.nD Cert.KernelGUpSIdeal.τ).loc Cert.KernelGUpSIdeal.main_arg1) = m ((c.tc : Thread Cert.KernelGUpSIdeal.nD Cert.KernelGUpSIdeal.τ).loc Cert.KernelGUpSIdeal.main_arg1))
      ∧ r.2.sem = fun _ => 0)

def quiescent_ReferenceGUpSIdeal [hReferenceGUpSIdeal : Cert.ReferenceGUpSIdeal.Facts] : Prop :=
  ∀ (m : (ℓ : Loc Cert.ReferenceGUpSIdeal.nD Cert.ReferenceGUpSIdeal.τ Cert.ReferenceGUpSIdeal.sig) → Buf (Elt Ideal) ℓ) (g : Dev Cert.ReferenceGUpSIdeal.nD → PrngReg), Pre_ReferenceGUpSIdeal m →
    θ_run (Cert.ReferenceGUpSIdeal.defs (F := Ideal)) (onTc (τ := Cert.ReferenceGUpSIdeal.τ) (Cert.ReferenceGUpSIdeal.main (F := Ideal))) ⟨m, fun _ => 0, g⟩ (fun r => (∀ c : Dev Cert.ReferenceGUpSIdeal.nD,
      r.2.mem ((c.tc : Thread Cert.ReferenceGUpSIdeal.nD Cert.ReferenceGUpSIdeal.τ).loc Cert.ReferenceGUpSIdeal.main_arg0) = m ((c.tc : Thread Cert.ReferenceGUpSIdeal.nD Cert.ReferenceGUpSIdeal.τ).loc Cert.ReferenceGUpSIdeal.main_arg0)
      ∧ r.2.mem ((c.tc : Thread Cert.ReferenceGUpSIdeal.nD Cert.ReferenceGUpSIdeal.τ).loc Cert.ReferenceGUpSIdeal.main_arg1) = m ((c.tc : Thread Cert.ReferenceGUpSIdeal.nD Cert.ReferenceGUpSIdeal.τ).loc Cert.ReferenceGUpSIdeal.main_arg1))
      ∧ r.2.sem = fun _ => 0)

def quiescent_KernelGUpO [hKernelGUpO : Cert.KernelGUpO.Facts] : Prop :=
  ∀ (m : (ℓ : Loc Cert.KernelGUpO.nD Cert.KernelGUpO.τ Cert.KernelGUpO.sig) → Buf (Elt Bits) ℓ) (g : Dev Cert.KernelGUpO.nD → PrngReg), Pre_KernelGUpO m →
    θ_run (Cert.KernelGUpO.defs (F := Bits)) (onTc (τ := Cert.KernelGUpO.τ) (Cert.KernelGUpO.main (F := Bits))) ⟨m, fun _ => 0, g⟩ (fun r => (∀ c : Dev Cert.KernelGUpO.nD,
      r.2.mem ((c.tc : Thread Cert.KernelGUpO.nD Cert.KernelGUpO.τ).loc Cert.KernelGUpO.main_arg0) = m ((c.tc : Thread Cert.KernelGUpO.nD Cert.KernelGUpO.τ).loc Cert.KernelGUpO.main_arg0)
      ∧ r.2.mem ((c.tc : Thread Cert.KernelGUpO.nD Cert.KernelGUpO.τ).loc Cert.KernelGUpO.main_arg1) = m ((c.tc : Thread Cert.KernelGUpO.nD Cert.KernelGUpO.τ).loc Cert.KernelGUpO.main_arg1)
      ∧ r.2.mem ((c.tc : Thread Cert.KernelGUpO.nD Cert.KernelGUpO.τ).loc Cert.KernelGUpO.main_arg2) = m ((c.tc : Thread Cert.KernelGUpO.nD Cert.KernelGUpO.τ).loc Cert.KernelGUpO.main_arg2))
      ∧ r.2.sem = fun _ => 0)

def quiescent_KernelGUpOIdeal [hKernelGUpOIdeal : Cert.KernelGUpOIdeal.Facts] : Prop :=
  ∀ (m : (ℓ : Loc Cert.KernelGUpOIdeal.nD Cert.KernelGUpOIdeal.τ Cert.KernelGUpOIdeal.sig) → Buf (Elt Ideal) ℓ) (g : Dev Cert.KernelGUpOIdeal.nD → PrngReg), Pre_KernelGUpOIdeal m →
    θ_run (Cert.KernelGUpOIdeal.defs (F := Ideal)) (onTc (τ := Cert.KernelGUpOIdeal.τ) (Cert.KernelGUpOIdeal.main (F := Ideal))) ⟨m, fun _ => 0, g⟩ (fun r => (∀ c : Dev Cert.KernelGUpOIdeal.nD,
      r.2.mem ((c.tc : Thread Cert.KernelGUpOIdeal.nD Cert.KernelGUpOIdeal.τ).loc Cert.KernelGUpOIdeal.main_arg0) = m ((c.tc : Thread Cert.KernelGUpOIdeal.nD Cert.KernelGUpOIdeal.τ).loc Cert.KernelGUpOIdeal.main_arg0)
      ∧ r.2.mem ((c.tc : Thread Cert.KernelGUpOIdeal.nD Cert.KernelGUpOIdeal.τ).loc Cert.KernelGUpOIdeal.main_arg1) = m ((c.tc : Thread Cert.KernelGUpOIdeal.nD Cert.KernelGUpOIdeal.τ).loc Cert.KernelGUpOIdeal.main_arg1)
      ∧ r.2.mem ((c.tc : Thread Cert.KernelGUpOIdeal.nD Cert.KernelGUpOIdeal.τ).loc Cert.KernelGUpOIdeal.main_arg2) = m ((c.tc : Thread Cert.KernelGUpOIdeal.nD Cert.KernelGUpOIdeal.τ).loc Cert.KernelGUpOIdeal.main_arg2))
      ∧ r.2.sem = fun _ => 0)

def quiescent_ReferenceGUpOIdeal [hReferenceGUpOIdeal : Cert.ReferenceGUpOIdeal.Facts] : Prop :=
  ∀ (m : (ℓ : Loc Cert.ReferenceGUpOIdeal.nD Cert.ReferenceGUpOIdeal.τ Cert.ReferenceGUpOIdeal.sig) → Buf (Elt Ideal) ℓ) (g : Dev Cert.ReferenceGUpOIdeal.nD → PrngReg), Pre_ReferenceGUpOIdeal m →
    θ_run (Cert.ReferenceGUpOIdeal.defs (F := Ideal)) (onTc (τ := Cert.ReferenceGUpOIdeal.τ) (Cert.ReferenceGUpOIdeal.main (F := Ideal))) ⟨m, fun _ => 0, g⟩ (fun r => (∀ c : Dev Cert.ReferenceGUpOIdeal.nD,
      r.2.mem ((c.tc : Thread Cert.ReferenceGUpOIdeal.nD Cert.ReferenceGUpOIdeal.τ).loc Cert.ReferenceGUpOIdeal.main_arg0) = m ((c.tc : Thread Cert.ReferenceGUpOIdeal.nD Cert.ReferenceGUpOIdeal.τ).loc Cert.ReferenceGUpOIdeal.main_arg0)
      ∧ r.2.mem ((c.tc : Thread Cert.ReferenceGUpOIdeal.nD Cert.ReferenceGUpOIdeal.τ).loc Cert.ReferenceGUpOIdeal.main_arg1) = m ((c.tc : Thread Cert.ReferenceGUpOIdeal.nD Cert.ReferenceGUpOIdeal.τ).loc Cert.ReferenceGUpOIdeal.main_arg1)
      ∧ r.2.mem ((c.tc : Thread Cert.ReferenceGUpOIdeal.nD Cert.ReferenceGUpOIdeal.τ).loc Cert.ReferenceGUpOIdeal.main_arg2) = m ((c.tc : Thread Cert.ReferenceGUpOIdeal.nD Cert.ReferenceGUpOIdeal.τ).loc Cert.ReferenceGUpOIdeal.main_arg2))
      ∧ r.2.sem = fun _ => 0)

def quiescent_KernelGDownS [hKernelGDownS : Cert.KernelGDownS.Facts] : Prop :=
  ∀ (m : (ℓ : Loc Cert.KernelGDownS.nD Cert.KernelGDownS.τ Cert.KernelGDownS.sig) → Buf (Elt Bits) ℓ) (g : Dev Cert.KernelGDownS.nD → PrngReg), Pre_KernelGDownS m →
    θ_run (Cert.KernelGDownS.defs (F := Bits)) (onTc (τ := Cert.KernelGDownS.τ) (Cert.KernelGDownS.main (F := Bits))) ⟨m, fun _ => 0, g⟩ (fun r => (∀ c : Dev Cert.KernelGDownS.nD,
      r.2.mem ((c.tc : Thread Cert.KernelGDownS.nD Cert.KernelGDownS.τ).loc Cert.KernelGDownS.main_arg0) = m ((c.tc : Thread Cert.KernelGDownS.nD Cert.KernelGDownS.τ).loc Cert.KernelGDownS.main_arg0)
      ∧ r.2.mem ((c.tc : Thread Cert.KernelGDownS.nD Cert.KernelGDownS.τ).loc Cert.KernelGDownS.main_arg1) = m ((c.tc : Thread Cert.KernelGDownS.nD Cert.KernelGDownS.τ).loc Cert.KernelGDownS.main_arg1))
      ∧ r.2.sem = fun _ => 0)

def quiescent_KernelGDownSIdeal [hKernelGDownSIdeal : Cert.KernelGDownSIdeal.Facts] : Prop :=
  ∀ (m : (ℓ : Loc Cert.KernelGDownSIdeal.nD Cert.KernelGDownSIdeal.τ Cert.KernelGDownSIdeal.sig) → Buf (Elt Ideal) ℓ) (g : Dev Cert.KernelGDownSIdeal.nD → PrngReg), Pre_KernelGDownSIdeal m →
    θ_run (Cert.KernelGDownSIdeal.defs (F := Ideal)) (onTc (τ := Cert.KernelGDownSIdeal.τ) (Cert.KernelGDownSIdeal.main (F := Ideal))) ⟨m, fun _ => 0, g⟩ (fun r => (∀ c : Dev Cert.KernelGDownSIdeal.nD,
      r.2.mem ((c.tc : Thread Cert.KernelGDownSIdeal.nD Cert.KernelGDownSIdeal.τ).loc Cert.KernelGDownSIdeal.main_arg0) = m ((c.tc : Thread Cert.KernelGDownSIdeal.nD Cert.KernelGDownSIdeal.τ).loc Cert.KernelGDownSIdeal.main_arg0)
      ∧ r.2.mem ((c.tc : Thread Cert.KernelGDownSIdeal.nD Cert.KernelGDownSIdeal.τ).loc Cert.KernelGDownSIdeal.main_arg1) = m ((c.tc : Thread Cert.KernelGDownSIdeal.nD Cert.KernelGDownSIdeal.τ).loc Cert.KernelGDownSIdeal.main_arg1))
      ∧ r.2.sem = fun _ => 0)

def quiescent_ReferenceGDownSIdeal [hReferenceGDownSIdeal : Cert.ReferenceGDownSIdeal.Facts] : Prop :=
  ∀ (m : (ℓ : Loc Cert.ReferenceGDownSIdeal.nD Cert.ReferenceGDownSIdeal.τ Cert.ReferenceGDownSIdeal.sig) → Buf (Elt Ideal) ℓ) (g : Dev Cert.ReferenceGDownSIdeal.nD → PrngReg), Pre_ReferenceGDownSIdeal m →
    θ_run (Cert.ReferenceGDownSIdeal.defs (F := Ideal)) (onTc (τ := Cert.ReferenceGDownSIdeal.τ) (Cert.ReferenceGDownSIdeal.main (F := Ideal))) ⟨m, fun _ => 0, g⟩ (fun r => (∀ c : Dev Cert.ReferenceGDownSIdeal.nD,
      r.2.mem ((c.tc : Thread Cert.ReferenceGDownSIdeal.nD Cert.ReferenceGDownSIdeal.τ).loc Cert.ReferenceGDownSIdeal.main_arg0) = m ((c.tc : Thread Cert.ReferenceGDownSIdeal.nD Cert.ReferenceGDownSIdeal.τ).loc Cert.ReferenceGDownSIdeal.main_arg0)
      ∧ r.2.mem ((c.tc : Thread Cert.ReferenceGDownSIdeal.nD Cert.ReferenceGDownSIdeal.τ).loc Cert.ReferenceGDownSIdeal.main_arg1) = m ((c.tc : Thread Cert.ReferenceGDownSIdeal.nD Cert.ReferenceGDownSIdeal.τ).loc Cert.ReferenceGDownSIdeal.main_arg1))
      ∧ r.2.sem = fun _ => 0)

def quiescent_KernelGDownO [hKernelGDownO : Cert.KernelGDownO.Facts] : Prop :=
  ∀ (m : (ℓ : Loc Cert.KernelGDownO.nD Cert.KernelGDownO.τ Cert.KernelGDownO.sig) → Buf (Elt Bits) ℓ) (g : Dev Cert.KernelGDownO.nD → PrngReg), Pre_KernelGDownO m →
    θ_run (Cert.KernelGDownO.defs (F := Bits)) (onTc (τ := Cert.KernelGDownO.τ) (Cert.KernelGDownO.main (F := Bits))) ⟨m, fun _ => 0, g⟩ (fun r => (∀ c : Dev Cert.KernelGDownO.nD,
      r.2.mem ((c.tc : Thread Cert.KernelGDownO.nD Cert.KernelGDownO.τ).loc Cert.KernelGDownO.main_arg0) = m ((c.tc : Thread Cert.KernelGDownO.nD Cert.KernelGDownO.τ).loc Cert.KernelGDownO.main_arg0)
      ∧ r.2.mem ((c.tc : Thread Cert.KernelGDownO.nD Cert.KernelGDownO.τ).loc Cert.KernelGDownO.main_arg1) = m ((c.tc : Thread Cert.KernelGDownO.nD Cert.KernelGDownO.τ).loc Cert.KernelGDownO.main_arg1)
      ∧ r.2.mem ((c.tc : Thread Cert.KernelGDownO.nD Cert.KernelGDownO.τ).loc Cert.KernelGDownO.main_arg2) = m ((c.tc : Thread Cert.KernelGDownO.nD Cert.KernelGDownO.τ).loc Cert.KernelGDownO.main_arg2))
      ∧ r.2.sem = fun _ => 0)

def quiescent_KernelGDownOIdeal [hKernelGDownOIdeal : Cert.KernelGDownOIdeal.Facts] : Prop :=
  ∀ (m : (ℓ : Loc Cert.KernelGDownOIdeal.nD Cert.KernelGDownOIdeal.τ Cert.KernelGDownOIdeal.sig) → Buf (Elt Ideal) ℓ) (g : Dev Cert.KernelGDownOIdeal.nD → PrngReg), Pre_KernelGDownOIdeal m →
    θ_run (Cert.KernelGDownOIdeal.defs (F := Ideal)) (onTc (τ := Cert.KernelGDownOIdeal.τ) (Cert.KernelGDownOIdeal.main (F := Ideal))) ⟨m, fun _ => 0, g⟩ (fun r => (∀ c : Dev Cert.KernelGDownOIdeal.nD,
      r.2.mem ((c.tc : Thread Cert.KernelGDownOIdeal.nD Cert.KernelGDownOIdeal.τ).loc Cert.KernelGDownOIdeal.main_arg0) = m ((c.tc : Thread Cert.KernelGDownOIdeal.nD Cert.KernelGDownOIdeal.τ).loc Cert.KernelGDownOIdeal.main_arg0)
      ∧ r.2.mem ((c.tc : Thread Cert.KernelGDownOIdeal.nD Cert.KernelGDownOIdeal.τ).loc Cert.KernelGDownOIdeal.main_arg1) = m ((c.tc : Thread Cert.KernelGDownOIdeal.nD Cert.KernelGDownOIdeal.τ).loc Cert.KernelGDownOIdeal.main_arg1)
      ∧ r.2.mem ((c.tc : Thread Cert.KernelGDownOIdeal.nD Cert.KernelGDownOIdeal.τ).loc Cert.KernelGDownOIdeal.main_arg2) = m ((c.tc : Thread Cert.KernelGDownOIdeal.nD Cert.KernelGDownOIdeal.τ).loc Cert.KernelGDownOIdeal.main_arg2))
      ∧ r.2.sem = fun _ => 0)

def quiescent_ReferenceGDownOIdeal [hReferenceGDownOIdeal : Cert.ReferenceGDownOIdeal.Facts] : Prop :=
  ∀ (m : (ℓ : Loc Cert.ReferenceGDownOIdeal.nD Cert.ReferenceGDownOIdeal.τ Cert.ReferenceGDownOIdeal.sig) → Buf (Elt Ideal) ℓ) (g : Dev Cert.ReferenceGDownOIdeal.nD → PrngReg), Pre_ReferenceGDownOIdeal m →
    θ_run (Cert.ReferenceGDownOIdeal.defs (F := Ideal)) (onTc (τ := Cert.ReferenceGDownOIdeal.τ) (Cert.ReferenceGDownOIdeal.main (F := Ideal))) ⟨m, fun _ => 0, g⟩ (fun r => (∀ c : Dev Cert.ReferenceGDownOIdeal.nD,
      r.2.mem ((c.tc : Thread Cert.ReferenceGDownOIdeal.nD Cert.ReferenceGDownOIdeal.τ).loc Cert.ReferenceGDownOIdeal.main_arg0) = m ((c.tc : Thread Cert.ReferenceGDownOIdeal.nD Cert.ReferenceGDownOIdeal.τ).loc Cert.ReferenceGDownOIdeal.main_arg0)
      ∧ r.2.mem ((c.tc : Thread Cert.ReferenceGDownOIdeal.nD Cert.ReferenceGDownOIdeal.τ).loc Cert.ReferenceGDownOIdeal.main_arg1) = m ((c.tc : Thread Cert.ReferenceGDownOIdeal.nD Cert.ReferenceGDownOIdeal.τ).loc Cert.ReferenceGDownOIdeal.main_arg1)
      ∧ r.2.mem ((c.tc : Thread Cert.ReferenceGDownOIdeal.nD Cert.ReferenceGDownOIdeal.τ).loc Cert.ReferenceGDownOIdeal.main_arg2) = m ((c.tc : Thread Cert.ReferenceGDownOIdeal.nD Cert.ReferenceGDownOIdeal.τ).loc Cert.ReferenceGDownOIdeal.main_arg2))
      ∧ r.2.sem = fun _ => 0)

def quiescent_KernelGInS [hKernelGInS : Cert.KernelGInS.Facts] : Prop :=
  ∀ (m : (ℓ : Loc Cert.KernelGInS.nD Cert.KernelGInS.τ Cert.KernelGInS.sig) → Buf (Elt Bits) ℓ) (g : Dev Cert.KernelGInS.nD → PrngReg), Pre_KernelGInS m →
    θ_run (Cert.KernelGInS.defs (F := Bits)) (onTc (τ := Cert.KernelGInS.τ) (Cert.KernelGInS.main (F := Bits))) ⟨m, fun _ => 0, g⟩ (fun r => (∀ c : Dev Cert.KernelGInS.nD,
      r.2.mem ((c.tc : Thread Cert.KernelGInS.nD Cert.KernelGInS.τ).loc Cert.KernelGInS.main_arg0) = m ((c.tc : Thread Cert.KernelGInS.nD Cert.KernelGInS.τ).loc Cert.KernelGInS.main_arg0)
      ∧ r.2.mem ((c.tc : Thread Cert.KernelGInS.nD Cert.KernelGInS.τ).loc Cert.KernelGInS.main_arg1) = m ((c.tc : Thread Cert.KernelGInS.nD Cert.KernelGInS.τ).loc Cert.KernelGInS.main_arg1))
      ∧ r.2.sem = fun _ => 0)

def quiescent_KernelGInSIdeal [hKernelGInSIdeal : Cert.KernelGInSIdeal.Facts] : Prop :=
  ∀ (m : (ℓ : Loc Cert.KernelGInSIdeal.nD Cert.KernelGInSIdeal.τ Cert.KernelGInSIdeal.sig) → Buf (Elt Ideal) ℓ) (g : Dev Cert.KernelGInSIdeal.nD → PrngReg), Pre_KernelGInSIdeal m →
    θ_run (Cert.KernelGInSIdeal.defs (F := Ideal)) (onTc (τ := Cert.KernelGInSIdeal.τ) (Cert.KernelGInSIdeal.main (F := Ideal))) ⟨m, fun _ => 0, g⟩ (fun r => (∀ c : Dev Cert.KernelGInSIdeal.nD,
      r.2.mem ((c.tc : Thread Cert.KernelGInSIdeal.nD Cert.KernelGInSIdeal.τ).loc Cert.KernelGInSIdeal.main_arg0) = m ((c.tc : Thread Cert.KernelGInSIdeal.nD Cert.KernelGInSIdeal.τ).loc Cert.KernelGInSIdeal.main_arg0)
      ∧ r.2.mem ((c.tc : Thread Cert.KernelGInSIdeal.nD Cert.KernelGInSIdeal.τ).loc Cert.KernelGInSIdeal.main_arg1) = m ((c.tc : Thread Cert.KernelGInSIdeal.nD Cert.KernelGInSIdeal.τ).loc Cert.KernelGInSIdeal.main_arg1))
      ∧ r.2.sem = fun _ => 0)

def quiescent_ReferenceGInSIdeal [hReferenceGInSIdeal : Cert.ReferenceGInSIdeal.Facts] : Prop :=
  ∀ (m : (ℓ : Loc Cert.ReferenceGInSIdeal.nD Cert.ReferenceGInSIdeal.τ Cert.ReferenceGInSIdeal.sig) → Buf (Elt Ideal) ℓ) (g : Dev Cert.ReferenceGInSIdeal.nD → PrngReg), Pre_ReferenceGInSIdeal m →
    θ_run (Cert.ReferenceGInSIdeal.defs (F := Ideal)) (onTc (τ := Cert.ReferenceGInSIdeal.τ) (Cert.ReferenceGInSIdeal.main (F := Ideal))) ⟨m, fun _ => 0, g⟩ (fun r => (∀ c : Dev Cert.ReferenceGInSIdeal.nD,
      r.2.mem ((c.tc : Thread Cert.ReferenceGInSIdeal.nD Cert.ReferenceGInSIdeal.τ).loc Cert.ReferenceGInSIdeal.main_arg0) = m ((c.tc : Thread Cert.ReferenceGInSIdeal.nD Cert.ReferenceGInSIdeal.τ).loc Cert.ReferenceGInSIdeal.main_arg0)
      ∧ r.2.mem ((c.tc : Thread Cert.ReferenceGInSIdeal.nD Cert.ReferenceGInSIdeal.τ).loc Cert.ReferenceGInSIdeal.main_arg1) = m ((c.tc : Thread Cert.ReferenceGInSIdeal.nD Cert.ReferenceGInSIdeal.τ).loc Cert.ReferenceGInSIdeal.main_arg1))
      ∧ r.2.sem = fun _ => 0)

def quiescent_KernelGInO [hKernelGInO : Cert.KernelGInO.Facts] : Prop :=
  ∀ (m : (ℓ : Loc Cert.KernelGInO.nD Cert.KernelGInO.τ Cert.KernelGInO.sig) → Buf (Elt Bits) ℓ) (g : Dev Cert.KernelGInO.nD → PrngReg), Pre_KernelGInO m →
    θ_run (Cert.KernelGInO.defs (F := Bits)) (onTc (τ := Cert.KernelGInO.τ) (Cert.KernelGInO.main (F := Bits))) ⟨m, fun _ => 0, g⟩ (fun r => (∀ c : Dev Cert.KernelGInO.nD,
      r.2.mem ((c.tc : Thread Cert.KernelGInO.nD Cert.KernelGInO.τ).loc Cert.KernelGInO.main_arg0) = m ((c.tc : Thread Cert.KernelGInO.nD Cert.KernelGInO.τ).loc Cert.KernelGInO.main_arg0)
      ∧ r.2.mem ((c.tc : Thread Cert.KernelGInO.nD Cert.KernelGInO.τ).loc Cert.KernelGInO.main_arg1) = m ((c.tc : Thread Cert.KernelGInO.nD Cert.KernelGInO.τ).loc Cert.KernelGInO.main_arg1)
      ∧ r.2.mem ((c.tc : Thread Cert.KernelGInO.nD Cert.KernelGInO.τ).loc Cert.KernelGInO.main_arg2) = m ((c.tc : Thread Cert.KernelGInO.nD Cert.KernelGInO.τ).loc Cert.KernelGInO.main_arg2))
      ∧ r.2.sem = fun _ => 0)

def quiescent_KernelGInOIdeal [hKernelGInOIdeal : Cert.KernelGInOIdeal.Facts] : Prop :=
  ∀ (m : (ℓ : Loc Cert.KernelGInOIdeal.nD Cert.KernelGInOIdeal.τ Cert.KernelGInOIdeal.sig) → Buf (Elt Ideal) ℓ) (g : Dev Cert.KernelGInOIdeal.nD → PrngReg), Pre_KernelGInOIdeal m →
    θ_run (Cert.KernelGInOIdeal.defs (F := Ideal)) (onTc (τ := Cert.KernelGInOIdeal.τ) (Cert.KernelGInOIdeal.main (F := Ideal))) ⟨m, fun _ => 0, g⟩ (fun r => (∀ c : Dev Cert.KernelGInOIdeal.nD,
      r.2.mem ((c.tc : Thread Cert.KernelGInOIdeal.nD Cert.KernelGInOIdeal.τ).loc Cert.KernelGInOIdeal.main_arg0) = m ((c.tc : Thread Cert.KernelGInOIdeal.nD Cert.KernelGInOIdeal.τ).loc Cert.KernelGInOIdeal.main_arg0)
      ∧ r.2.mem ((c.tc : Thread Cert.KernelGInOIdeal.nD Cert.KernelGInOIdeal.τ).loc Cert.KernelGInOIdeal.main_arg1) = m ((c.tc : Thread Cert.KernelGInOIdeal.nD Cert.KernelGInOIdeal.τ).loc Cert.KernelGInOIdeal.main_arg1)
      ∧ r.2.mem ((c.tc : Thread Cert.KernelGInOIdeal.nD Cert.KernelGInOIdeal.τ).loc Cert.KernelGInOIdeal.main_arg2) = m ((c.tc : Thread Cert.KernelGInOIdeal.nD Cert.KernelGInOIdeal.τ).loc Cert.KernelGInOIdeal.main_arg2))
      ∧ r.2.sem = fun _ => 0)

def quiescent_ReferenceGInOIdeal [hReferenceGInOIdeal : Cert.ReferenceGInOIdeal.Facts] : Prop :=
  ∀ (m : (ℓ : Loc Cert.ReferenceGInOIdeal.nD Cert.ReferenceGInOIdeal.τ Cert.ReferenceGInOIdeal.sig) → Buf (Elt Ideal) ℓ) (g : Dev Cert.ReferenceGInOIdeal.nD → PrngReg), Pre_ReferenceGInOIdeal m →
    θ_run (Cert.ReferenceGInOIdeal.defs (F := Ideal)) (onTc (τ := Cert.ReferenceGInOIdeal.τ) (Cert.ReferenceGInOIdeal.main (F := Ideal))) ⟨m, fun _ => 0, g⟩ (fun r => (∀ c : Dev Cert.ReferenceGInOIdeal.nD,
      r.2.mem ((c.tc : Thread Cert.ReferenceGInOIdeal.nD Cert.ReferenceGInOIdeal.τ).loc Cert.ReferenceGInOIdeal.main_arg0) = m ((c.tc : Thread Cert.ReferenceGInOIdeal.nD Cert.ReferenceGInOIdeal.τ).loc Cert.ReferenceGInOIdeal.main_arg0)
      ∧ r.2.mem ((c.tc : Thread Cert.ReferenceGInOIdeal.nD Cert.ReferenceGInOIdeal.τ).loc Cert.ReferenceGInOIdeal.main_arg1) = m ((c.tc : Thread Cert.ReferenceGInOIdeal.nD Cert.ReferenceGInOIdeal.τ).loc Cert.ReferenceGInOIdeal.main_arg1)
      ∧ r.2.mem ((c.tc : Thread Cert.ReferenceGInOIdeal.nD Cert.ReferenceGInOIdeal.τ).loc Cert.ReferenceGInOIdeal.main_arg2) = m ((c.tc : Thread Cert.ReferenceGInOIdeal.nD Cert.ReferenceGInOIdeal.τ).loc Cert.ReferenceGInOIdeal.main_arg2))
      ∧ r.2.sem = fun _ => 0)

def quiescent_KernelGOutS [hKernelGOutS : Cert.KernelGOutS.Facts] : Prop :=
  ∀ (m : (ℓ : Loc Cert.KernelGOutS.nD Cert.KernelGOutS.τ Cert.KernelGOutS.sig) → Buf (Elt Bits) ℓ) (g : Dev Cert.KernelGOutS.nD → PrngReg), Pre_KernelGOutS m →
    θ_run (Cert.KernelGOutS.defs (F := Bits)) (onTc (τ := Cert.KernelGOutS.τ) (Cert.KernelGOutS.main (F := Bits))) ⟨m, fun _ => 0, g⟩ (fun r => (∀ c : Dev Cert.KernelGOutS.nD,
      r.2.mem ((c.tc : Thread Cert.KernelGOutS.nD Cert.KernelGOutS.τ).loc Cert.KernelGOutS.main_arg0) = m ((c.tc : Thread Cert.KernelGOutS.nD Cert.KernelGOutS.τ).loc Cert.KernelGOutS.main_arg0)
      ∧ r.2.mem ((c.tc : Thread Cert.KernelGOutS.nD Cert.KernelGOutS.τ).loc Cert.KernelGOutS.main_arg1) = m ((c.tc : Thread Cert.KernelGOutS.nD Cert.KernelGOutS.τ).loc Cert.KernelGOutS.main_arg1))
      ∧ r.2.sem = fun _ => 0)

def quiescent_KernelGOutSIdeal [hKernelGOutSIdeal : Cert.KernelGOutSIdeal.Facts] : Prop :=
  ∀ (m : (ℓ : Loc Cert.KernelGOutSIdeal.nD Cert.KernelGOutSIdeal.τ Cert.KernelGOutSIdeal.sig) → Buf (Elt Ideal) ℓ) (g : Dev Cert.KernelGOutSIdeal.nD → PrngReg), Pre_KernelGOutSIdeal m →
    θ_run (Cert.KernelGOutSIdeal.defs (F := Ideal)) (onTc (τ := Cert.KernelGOutSIdeal.τ) (Cert.KernelGOutSIdeal.main (F := Ideal))) ⟨m, fun _ => 0, g⟩ (fun r => (∀ c : Dev Cert.KernelGOutSIdeal.nD,
      r.2.mem ((c.tc : Thread Cert.KernelGOutSIdeal.nD Cert.KernelGOutSIdeal.τ).loc Cert.KernelGOutSIdeal.main_arg0) = m ((c.tc : Thread Cert.KernelGOutSIdeal.nD Cert.KernelGOutSIdeal.τ).loc Cert.KernelGOutSIdeal.main_arg0)
      ∧ r.2.mem ((c.tc : Thread Cert.KernelGOutSIdeal.nD Cert.KernelGOutSIdeal.τ).loc Cert.KernelGOutSIdeal.main_arg1) = m ((c.tc : Thread Cert.KernelGOutSIdeal.nD Cert.KernelGOutSIdeal.τ).loc Cert.KernelGOutSIdeal.main_arg1))
      ∧ r.2.sem = fun _ => 0)

def quiescent_ReferenceGOutSIdeal [hReferenceGOutSIdeal : Cert.ReferenceGOutSIdeal.Facts] : Prop :=
  ∀ (m : (ℓ : Loc Cert.ReferenceGOutSIdeal.nD Cert.ReferenceGOutSIdeal.τ Cert.ReferenceGOutSIdeal.sig) → Buf (Elt Ideal) ℓ) (g : Dev Cert.ReferenceGOutSIdeal.nD → PrngReg), Pre_ReferenceGOutSIdeal m →
    θ_run (Cert.ReferenceGOutSIdeal.defs (F := Ideal)) (onTc (τ := Cert.ReferenceGOutSIdeal.τ) (Cert.ReferenceGOutSIdeal.main (F := Ideal))) ⟨m, fun _ => 0, g⟩ (fun r => (∀ c : Dev Cert.ReferenceGOutSIdeal.nD,
      r.2.mem ((c.tc : Thread Cert.ReferenceGOutSIdeal.nD Cert.ReferenceGOutSIdeal.τ).loc Cert.ReferenceGOutSIdeal.main_arg0) = m ((c.tc : Thread Cert.ReferenceGOutSIdeal.nD Cert.ReferenceGOutSIdeal.τ).loc Cert.ReferenceGOutSIdeal.main_arg0)
      ∧ r.2.mem ((c.tc : Thread Cert.ReferenceGOutSIdeal.nD Cert.ReferenceGOutSIdeal.τ).loc Cert.ReferenceGOutSIdeal.main_arg1) = m ((c.tc : Thread Cert.ReferenceGOutSIdeal.nD Cert.ReferenceGOutSIdeal.τ).loc Cert.ReferenceGOutSIdeal.main_arg1))
      ∧ r.2.sem = fun _ => 0)

def quiescent_KernelGOutO [hKernelGOutO : Cert.KernelGOutO.Facts] : Prop :=
  ∀ (m : (ℓ : Loc Cert.KernelGOutO.nD Cert.KernelGOutO.τ Cert.KernelGOutO.sig) → Buf (Elt Bits) ℓ) (g : Dev Cert.KernelGOutO.nD → PrngReg), Pre_KernelGOutO m →
    θ_run (Cert.KernelGOutO.defs (F := Bits)) (onTc (τ := Cert.KernelGOutO.τ) (Cert.KernelGOutO.main (F := Bits))) ⟨m, fun _ => 0, g⟩ (fun r => (∀ c : Dev Cert.KernelGOutO.nD,
      r.2.mem ((c.tc : Thread Cert.KernelGOutO.nD Cert.KernelGOutO.τ).loc Cert.KernelGOutO.main_arg0) = m ((c.tc : Thread Cert.KernelGOutO.nD Cert.KernelGOutO.τ).loc Cert.KernelGOutO.main_arg0)
      ∧ r.2.mem ((c.tc : Thread Cert.KernelGOutO.nD Cert.KernelGOutO.τ).loc Cert.KernelGOutO.main_arg1) = m ((c.tc : Thread Cert.KernelGOutO.nD Cert.KernelGOutO.τ).loc Cert.KernelGOutO.main_arg1)
      ∧ r.2.mem ((c.tc : Thread Cert.KernelGOutO.nD Cert.KernelGOutO.τ).loc Cert.KernelGOutO.main_arg2) = m ((c.tc : Thread Cert.KernelGOutO.nD Cert.KernelGOutO.τ).loc Cert.KernelGOutO.main_arg2))
      ∧ r.2.sem = fun _ => 0)

def quiescent_KernelGOutOIdeal [hKernelGOutOIdeal : Cert.KernelGOutOIdeal.Facts] : Prop :=
  ∀ (m : (ℓ : Loc Cert.KernelGOutOIdeal.nD Cert.KernelGOutOIdeal.τ Cert.KernelGOutOIdeal.sig) → Buf (Elt Ideal) ℓ) (g : Dev Cert.KernelGOutOIdeal.nD → PrngReg), Pre_KernelGOutOIdeal m →
    θ_run (Cert.KernelGOutOIdeal.defs (F := Ideal)) (onTc (τ := Cert.KernelGOutOIdeal.τ) (Cert.KernelGOutOIdeal.main (F := Ideal))) ⟨m, fun _ => 0, g⟩ (fun r => (∀ c : Dev Cert.KernelGOutOIdeal.nD,
      r.2.mem ((c.tc : Thread Cert.KernelGOutOIdeal.nD Cert.KernelGOutOIdeal.τ).loc Cert.KernelGOutOIdeal.main_arg0) = m ((c.tc : Thread Cert.KernelGOutOIdeal.nD Cert.KernelGOutOIdeal.τ).loc Cert.KernelGOutOIdeal.main_arg0)
      ∧ r.2.mem ((c.tc : Thread Cert.KernelGOutOIdeal.nD Cert.KernelGOutOIdeal.τ).loc Cert.KernelGOutOIdeal.main_arg1) = m ((c.tc : Thread Cert.KernelGOutOIdeal.nD Cert.KernelGOutOIdeal.τ).loc Cert.KernelGOutOIdeal.main_arg1)
      ∧ r.2.mem ((c.tc : Thread Cert.KernelGOutOIdeal.nD Cert.KernelGOutOIdeal.τ).loc Cert.KernelGOutOIdeal.main_arg2) = m ((c.tc : Thread Cert.KernelGOutOIdeal.nD Cert.KernelGOutOIdeal.τ).loc Cert.KernelGOutOIdeal.main_arg2))
      ∧ r.2.sem = fun _ => 0)

def quiescent_ReferenceGOutOIdeal [hReferenceGOutOIdeal : Cert.ReferenceGOutOIdeal.Facts] : Prop :=
  ∀ (m : (ℓ : Loc Cert.ReferenceGOutOIdeal.nD Cert.ReferenceGOutOIdeal.τ Cert.ReferenceGOutOIdeal.sig) → Buf (Elt Ideal) ℓ) (g : Dev Cert.ReferenceGOutOIdeal.nD → PrngReg), Pre_ReferenceGOutOIdeal m →
    θ_run (Cert.ReferenceGOutOIdeal.defs (F := Ideal)) (onTc (τ := Cert.ReferenceGOutOIdeal.τ) (Cert.ReferenceGOutOIdeal.main (F := Ideal))) ⟨m, fun _ => 0, g⟩ (fun r => (∀ c : Dev Cert.ReferenceGOutOIdeal.nD,
      r.2.mem ((c.tc : Thread Cert.ReferenceGOutOIdeal.nD Cert.ReferenceGOutOIdeal.τ).loc Cert.ReferenceGOutOIdeal.main_arg0) = m ((c.tc : Thread Cert.ReferenceGOutOIdeal.nD Cert.ReferenceGOutOIdeal.τ).loc Cert.ReferenceGOutOIdeal.main_arg0)
      ∧ r.2.mem ((c.tc : Thread Cert.ReferenceGOutOIdeal.nD Cert.ReferenceGOutOIdeal.τ).loc Cert.ReferenceGOutOIdeal.main_arg1) = m ((c.tc : Thread Cert.ReferenceGOutOIdeal.nD Cert.ReferenceGOutOIdeal.τ).loc Cert.ReferenceGOutOIdeal.main_arg1)
      ∧ r.2.mem ((c.tc : Thread Cert.ReferenceGOutOIdeal.nD Cert.ReferenceGOutOIdeal.τ).loc Cert.ReferenceGOutOIdeal.main_arg2) = m ((c.tc : Thread Cert.ReferenceGOutOIdeal.nD Cert.ReferenceGOutOIdeal.τ).loc Cert.ReferenceGOutOIdeal.main_arg2))
      ∧ r.2.sem = fun _ => 0)

def quiescent_KernelProjOwn [hKernelProjOwn : Cert.KernelProjOwn.Facts] : Prop :=
  ∀ (m : (ℓ : Loc Cert.KernelProjOwn.nD Cert.KernelProjOwn.τ Cert.KernelProjOwn.sig) → Buf (Elt Bits) ℓ) (g : Dev Cert.KernelProjOwn.nD → PrngReg), Pre_KernelProjOwn m →
    θ_run (Cert.KernelProjOwn.defs (F := Bits)) (onTc (τ := Cert.KernelProjOwn.τ) (Cert.KernelProjOwn.main (F := Bits))) ⟨m, fun _ => 0, g⟩ (fun r => (∀ c : Dev Cert.KernelProjOwn.nD,
      r.2.mem ((c.tc : Thread Cert.KernelProjOwn.nD Cert.KernelProjOwn.τ).loc Cert.KernelProjOwn.main_arg0) = m ((c.tc : Thread Cert.KernelProjOwn.nD Cert.KernelProjOwn.τ).loc Cert.KernelProjOwn.main_arg0)
      ∧ r.2.mem ((c.tc : Thread Cert.KernelProjOwn.nD Cert.KernelProjOwn.τ).loc Cert.KernelProjOwn.main_arg1) = m ((c.tc : Thread Cert.KernelProjOwn.nD Cert.KernelProjOwn.τ).loc Cert.KernelProjOwn.main_arg1)
      ∧ r.2.mem ((c.tc : Thread Cert.KernelProjOwn.nD Cert.KernelProjOwn.τ).loc Cert.KernelProjOwn.main_arg2) = m ((c.tc : Thread Cert.KernelProjOwn.nD Cert.KernelProjOwn.τ).loc Cert.KernelProjOwn.main_arg2))
      ∧ r.2.sem = fun _ => 0)

def quiescent_KernelProjOwnIdeal [hKernelProjOwnIdeal : Cert.KernelProjOwnIdeal.Facts] : Prop :=
  ∀ (m : (ℓ : Loc Cert.KernelProjOwnIdeal.nD Cert.KernelProjOwnIdeal.τ Cert.KernelProjOwnIdeal.sig) → Buf (Elt Ideal) ℓ) (g : Dev Cert.KernelProjOwnIdeal.nD → PrngReg), Pre_KernelProjOwnIdeal m →
    θ_run (Cert.KernelProjOwnIdeal.defs (F := Ideal)) (onTc (τ := Cert.KernelProjOwnIdeal.τ) (Cert.KernelProjOwnIdeal.main (F := Ideal))) ⟨m, fun _ => 0, g⟩ (fun r => (∀ c : Dev Cert.KernelProjOwnIdeal.nD,
      r.2.mem ((c.tc : Thread Cert.KernelProjOwnIdeal.nD Cert.KernelProjOwnIdeal.τ).loc Cert.KernelProjOwnIdeal.main_arg0) = m ((c.tc : Thread Cert.KernelProjOwnIdeal.nD Cert.KernelProjOwnIdeal.τ).loc Cert.KernelProjOwnIdeal.main_arg0)
      ∧ r.2.mem ((c.tc : Thread Cert.KernelProjOwnIdeal.nD Cert.KernelProjOwnIdeal.τ).loc Cert.KernelProjOwnIdeal.main_arg1) = m ((c.tc : Thread Cert.KernelProjOwnIdeal.nD Cert.KernelProjOwnIdeal.τ).loc Cert.KernelProjOwnIdeal.main_arg1)
      ∧ r.2.mem ((c.tc : Thread Cert.KernelProjOwnIdeal.nD Cert.KernelProjOwnIdeal.τ).loc Cert.KernelProjOwnIdeal.main_arg2) = m ((c.tc : Thread Cert.KernelProjOwnIdeal.nD Cert.KernelProjOwnIdeal.τ).loc Cert.KernelProjOwnIdeal.main_arg2))
      ∧ r.2.sem = fun _ => 0)

def quiescent_ReferenceProjOwnIdeal [hReferenceProjOwnIdeal : Cert.ReferenceProjOwnIdeal.Facts] : Prop :=
  ∀ (m : (ℓ : Loc Cert.ReferenceProjOwnIdeal.nD Cert.ReferenceProjOwnIdeal.τ Cert.ReferenceProjOwnIdeal.sig) → Buf (Elt Ideal) ℓ) (g : Dev Cert.ReferenceProjOwnIdeal.nD → PrngReg), Pre_ReferenceProjOwnIdeal m →
    θ_run (Cert.ReferenceProjOwnIdeal.defs (F := Ideal)) (onTc (τ := Cert.ReferenceProjOwnIdeal.τ) (Cert.ReferenceProjOwnIdeal.main (F := Ideal))) ⟨m, fun _ => 0, g⟩ (fun r => (∀ c : Dev Cert.ReferenceProjOwnIdeal.nD,
      r.2.mem ((c.tc : Thread Cert.ReferenceProjOwnIdeal.nD Cert.ReferenceProjOwnIdeal.τ).loc Cert.ReferenceProjOwnIdeal.main_arg0) = m ((c.tc : Thread Cert.ReferenceProjOwnIdeal.nD Cert.ReferenceProjOwnIdeal.τ).loc Cert.ReferenceProjOwnIdeal.main_arg0)
      ∧ r.2.mem ((c.tc : Thread Cert.ReferenceProjOwnIdeal.nD Cert.ReferenceProjOwnIdeal.τ).loc Cert.ReferenceProjOwnIdeal.main_arg1) = m ((c.tc : Thread Cert.ReferenceProjOwnIdeal.nD Cert.ReferenceProjOwnIdeal.τ).loc Cert.ReferenceProjOwnIdeal.main_arg1)
      ∧ r.2.mem ((c.tc : Thread Cert.ReferenceProjOwnIdeal.nD Cert.ReferenceProjOwnIdeal.τ).loc Cert.ReferenceProjOwnIdeal.main_arg2) = m ((c.tc : Thread Cert.ReferenceProjOwnIdeal.nD Cert.ReferenceProjOwnIdeal.τ).loc Cert.ReferenceProjOwnIdeal.main_arg2))
      ∧ r.2.sem = fun _ => 0)

def quiescent_KernelProjX [hKernelProjX : Cert.KernelProjX.Facts] : Prop :=
  ∀ (m : (ℓ : Loc Cert.KernelProjX.nD Cert.KernelProjX.τ Cert.KernelProjX.sig) → Buf (Elt Bits) ℓ) (g : Dev Cert.KernelProjX.nD → PrngReg), Pre_KernelProjX m →
    θ_run (Cert.KernelProjX.defs (F := Bits)) (onTc (τ := Cert.KernelProjX.τ) (Cert.KernelProjX.main (F := Bits))) ⟨m, fun _ => 0, g⟩ (fun r => (∀ c : Dev Cert.KernelProjX.nD,
      r.2.mem ((c.tc : Thread Cert.KernelProjX.nD Cert.KernelProjX.τ).loc Cert.KernelProjX.main_arg0) = m ((c.tc : Thread Cert.KernelProjX.nD Cert.KernelProjX.τ).loc Cert.KernelProjX.main_arg0)
      ∧ r.2.mem ((c.tc : Thread Cert.KernelProjX.nD Cert.KernelProjX.τ).loc Cert.KernelProjX.main_arg1) = m ((c.tc : Thread Cert.KernelProjX.nD Cert.KernelProjX.τ).loc Cert.KernelProjX.main_arg1)
      ∧ r.2.mem ((c.tc : Thread Cert.KernelProjX.nD Cert.KernelProjX.τ).loc Cert.KernelProjX.main_arg2) = m ((c.tc : Thread Cert.KernelProjX.nD Cert.KernelProjX.τ).loc Cert.KernelProjX.main_arg2))
      ∧ r.2.sem = fun _ => 0)

def quiescent_KernelProjXIdeal [hKernelProjXIdeal : Cert.KernelProjXIdeal.Facts] : Prop :=
  ∀ (m : (ℓ : Loc Cert.KernelProjXIdeal.nD Cert.KernelProjXIdeal.τ Cert.KernelProjXIdeal.sig) → Buf (Elt Ideal) ℓ) (g : Dev Cert.KernelProjXIdeal.nD → PrngReg), Pre_KernelProjXIdeal m →
    θ_run (Cert.KernelProjXIdeal.defs (F := Ideal)) (onTc (τ := Cert.KernelProjXIdeal.τ) (Cert.KernelProjXIdeal.main (F := Ideal))) ⟨m, fun _ => 0, g⟩ (fun r => (∀ c : Dev Cert.KernelProjXIdeal.nD,
      r.2.mem ((c.tc : Thread Cert.KernelProjXIdeal.nD Cert.KernelProjXIdeal.τ).loc Cert.KernelProjXIdeal.main_arg0) = m ((c.tc : Thread Cert.KernelProjXIdeal.nD Cert.KernelProjXIdeal.τ).loc Cert.KernelProjXIdeal.main_arg0)
      ∧ r.2.mem ((c.tc : Thread Cert.KernelProjXIdeal.nD Cert.KernelProjXIdeal.τ).loc Cert.KernelProjXIdeal.main_arg1) = m ((c.tc : Thread Cert.KernelProjXIdeal.nD Cert.KernelProjXIdeal.τ).loc Cert.KernelProjXIdeal.main_arg1)
      ∧ r.2.mem ((c.tc : Thread Cert.KernelProjXIdeal.nD Cert.KernelProjXIdeal.τ).loc Cert.KernelProjXIdeal.main_arg2) = m ((c.tc : Thread Cert.KernelProjXIdeal.nD Cert.KernelProjXIdeal.τ).loc Cert.KernelProjXIdeal.main_arg2))
      ∧ r.2.sem = fun _ => 0)

def quiescent_ReferenceProjXIdeal [hReferenceProjXIdeal : Cert.ReferenceProjXIdeal.Facts] : Prop :=
  ∀ (m : (ℓ : Loc Cert.ReferenceProjXIdeal.nD Cert.ReferenceProjXIdeal.τ Cert.ReferenceProjXIdeal.sig) → Buf (Elt Ideal) ℓ) (g : Dev Cert.ReferenceProjXIdeal.nD → PrngReg), Pre_ReferenceProjXIdeal m →
    θ_run (Cert.ReferenceProjXIdeal.defs (F := Ideal)) (onTc (τ := Cert.ReferenceProjXIdeal.τ) (Cert.ReferenceProjXIdeal.main (F := Ideal))) ⟨m, fun _ => 0, g⟩ (fun r => (∀ c : Dev Cert.ReferenceProjXIdeal.nD,
      r.2.mem ((c.tc : Thread Cert.ReferenceProjXIdeal.nD Cert.ReferenceProjXIdeal.τ).loc Cert.ReferenceProjXIdeal.main_arg0) = m ((c.tc : Thread Cert.ReferenceProjXIdeal.nD Cert.ReferenceProjXIdeal.τ).loc Cert.ReferenceProjXIdeal.main_arg0)
      ∧ r.2.mem ((c.tc : Thread Cert.ReferenceProjXIdeal.nD Cert.ReferenceProjXIdeal.τ).loc Cert.ReferenceProjXIdeal.main_arg1) = m ((c.tc : Thread Cert.ReferenceProjXIdeal.nD Cert.ReferenceProjXIdeal.τ).loc Cert.ReferenceProjXIdeal.main_arg1)
      ∧ r.2.mem ((c.tc : Thread Cert.ReferenceProjXIdeal.nD Cert.ReferenceProjXIdeal.τ).loc Cert.ReferenceProjXIdeal.main_arg2) = m ((c.tc : Thread Cert.ReferenceProjXIdeal.nD Cert.ReferenceProjXIdeal.τ).loc Cert.ReferenceProjXIdeal.main_arg2))
      ∧ r.2.sem = fun _ => 0)

def quiescent_KernelProjY [hKernelProjY : Cert.KernelProjY.Facts] : Prop :=
  ∀ (m : (ℓ : Loc Cert.KernelProjY.nD Cert.KernelProjY.τ Cert.KernelProjY.sig) → Buf (Elt Bits) ℓ) (g : Dev Cert.KernelProjY.nD → PrngReg), Pre_KernelProjY m →
    θ_run (Cert.KernelProjY.defs (F := Bits)) (onTc (τ := Cert.KernelProjY.τ) (Cert.KernelProjY.main (F := Bits))) ⟨m, fun _ => 0, g⟩ (fun r => (∀ c : Dev Cert.KernelProjY.nD,
      r.2.mem ((c.tc : Thread Cert.KernelProjY.nD Cert.KernelProjY.τ).loc Cert.KernelProjY.main_arg0) = m ((c.tc : Thread Cert.KernelProjY.nD Cert.KernelProjY.τ).loc Cert.KernelProjY.main_arg0)
      ∧ r.2.mem ((c.tc : Thread Cert.KernelProjY.nD Cert.KernelProjY.τ).loc Cert.KernelProjY.main_arg1) = m ((c.tc : Thread Cert.KernelProjY.nD Cert.KernelProjY.τ).loc Cert.KernelProjY.main_arg1)
      ∧ r.2.mem ((c.tc : Thread Cert.KernelProjY.nD Cert.KernelProjY.τ).loc Cert.KernelProjY.main_arg2) = m ((c.tc : Thread Cert.KernelProjY.nD Cert.KernelProjY.τ).loc Cert.KernelProjY.main_arg2))
      ∧ r.2.sem = fun _ => 0)

def quiescent_KernelProjYIdeal [hKernelProjYIdeal : Cert.KernelProjYIdeal.Facts] : Prop :=
  ∀ (m : (ℓ : Loc Cert.KernelProjYIdeal.nD Cert.KernelProjYIdeal.τ Cert.KernelProjYIdeal.sig) → Buf (Elt Ideal) ℓ) (g : Dev Cert.KernelProjYIdeal.nD → PrngReg), Pre_KernelProjYIdeal m →
    θ_run (Cert.KernelProjYIdeal.defs (F := Ideal)) (onTc (τ := Cert.KernelProjYIdeal.τ) (Cert.KernelProjYIdeal.main (F := Ideal))) ⟨m, fun _ => 0, g⟩ (fun r => (∀ c : Dev Cert.KernelProjYIdeal.nD,
      r.2.mem ((c.tc : Thread Cert.KernelProjYIdeal.nD Cert.KernelProjYIdeal.τ).loc Cert.KernelProjYIdeal.main_arg0) = m ((c.tc : Thread Cert.KernelProjYIdeal.nD Cert.KernelProjYIdeal.τ).loc Cert.KernelProjYIdeal.main_arg0)
      ∧ r.2.mem ((c.tc : Thread Cert.KernelProjYIdeal.nD Cert.KernelProjYIdeal.τ).loc Cert.KernelProjYIdeal.main_arg1) = m ((c.tc : Thread Cert.KernelProjYIdeal.nD Cert.KernelProjYIdeal.τ).loc Cert.KernelProjYIdeal.main_arg1)
      ∧ r.2.mem ((c.tc : Thread Cert.KernelProjYIdeal.nD Cert.KernelProjYIdeal.τ).loc Cert.KernelProjYIdeal.main_arg2) = m ((c.tc : Thread Cert.KernelProjYIdeal.nD Cert.KernelProjYIdeal.τ).loc Cert.KernelProjYIdeal.main_arg2))
      ∧ r.2.sem = fun _ => 0)

def quiescent_ReferenceProjYIdeal [hReferenceProjYIdeal : Cert.ReferenceProjYIdeal.Facts] : Prop :=
  ∀ (m : (ℓ : Loc Cert.ReferenceProjYIdeal.nD Cert.ReferenceProjYIdeal.τ Cert.ReferenceProjYIdeal.sig) → Buf (Elt Ideal) ℓ) (g : Dev Cert.ReferenceProjYIdeal.nD → PrngReg), Pre_ReferenceProjYIdeal m →
    θ_run (Cert.ReferenceProjYIdeal.defs (F := Ideal)) (onTc (τ := Cert.ReferenceProjYIdeal.τ) (Cert.ReferenceProjYIdeal.main (F := Ideal))) ⟨m, fun _ => 0, g⟩ (fun r => (∀ c : Dev Cert.ReferenceProjYIdeal.nD,
      r.2.mem ((c.tc : Thread Cert.ReferenceProjYIdeal.nD Cert.ReferenceProjYIdeal.τ).loc Cert.ReferenceProjYIdeal.main_arg0) = m ((c.tc : Thread Cert.ReferenceProjYIdeal.nD Cert.ReferenceProjYIdeal.τ).loc Cert.ReferenceProjYIdeal.main_arg0)
      ∧ r.2.mem ((c.tc : Thread Cert.ReferenceProjYIdeal.nD Cert.ReferenceProjYIdeal.τ).loc Cert.ReferenceProjYIdeal.main_arg1) = m ((c.tc : Thread Cert.ReferenceProjYIdeal.nD Cert.ReferenceProjYIdeal.τ).loc Cert.ReferenceProjYIdeal.main_arg1)
      ∧ r.2.mem ((c.tc : Thread Cert.ReferenceProjYIdeal.nD Cert.ReferenceProjYIdeal.τ).loc Cert.ReferenceProjYIdeal.main_arg2) = m ((c.tc : Thread Cert.ReferenceProjYIdeal.nD Cert.ReferenceProjYIdeal.τ).loc Cert.ReferenceProjYIdeal.main_arg2))
      ∧ r.2.sem = fun _ => 0)

def quiescent_KernelProjXY [hKernelProjXY : Cert.KernelProjXY.Facts] : Prop :=
  ∀ (m : (ℓ : Loc Cert.KernelProjXY.nD Cert.KernelProjXY.τ Cert.KernelProjXY.sig) → Buf (Elt Bits) ℓ) (g : Dev Cert.KernelProjXY.nD → PrngReg), Pre_KernelProjXY m →
    θ_run (Cert.KernelProjXY.defs (F := Bits)) (onTc (τ := Cert.KernelProjXY.τ) (Cert.KernelProjXY.main (F := Bits))) ⟨m, fun _ => 0, g⟩ (fun r => (∀ c : Dev Cert.KernelProjXY.nD,
      r.2.mem ((c.tc : Thread Cert.KernelProjXY.nD Cert.KernelProjXY.τ).loc Cert.KernelProjXY.main_arg0) = m ((c.tc : Thread Cert.KernelProjXY.nD Cert.KernelProjXY.τ).loc Cert.KernelProjXY.main_arg0)
      ∧ r.2.mem ((c.tc : Thread Cert.KernelProjXY.nD Cert.KernelProjXY.τ).loc Cert.KernelProjXY.main_arg1) = m ((c.tc : Thread Cert.KernelProjXY.nD Cert.KernelProjXY.τ).loc Cert.KernelProjXY.main_arg1)
      ∧ r.2.mem ((c.tc : Thread Cert.KernelProjXY.nD Cert.KernelProjXY.τ).loc Cert.KernelProjXY.main_arg2) = m ((c.tc : Thread Cert.KernelProjXY.nD Cert.KernelProjXY.τ).loc Cert.KernelProjXY.main_arg2))
      ∧ r.2.sem = fun _ => 0)

def quiescent_KernelProjXYIdeal [hKernelProjXYIdeal : Cert.KernelProjXYIdeal.Facts] : Prop :=
  ∀ (m : (ℓ : Loc Cert.KernelProjXYIdeal.nD Cert.KernelProjXYIdeal.τ Cert.KernelProjXYIdeal.sig) → Buf (Elt Ideal) ℓ) (g : Dev Cert.KernelProjXYIdeal.nD → PrngReg), Pre_KernelProjXYIdeal m →
    θ_run (Cert.KernelProjXYIdeal.defs (F := Ideal)) (onTc (τ := Cert.KernelProjXYIdeal.τ) (Cert.KernelProjXYIdeal.main (F := Ideal))) ⟨m, fun _ => 0, g⟩ (fun r => (∀ c : Dev Cert.KernelProjXYIdeal.nD,
      r.2.mem ((c.tc : Thread Cert.KernelProjXYIdeal.nD Cert.KernelProjXYIdeal.τ).loc Cert.KernelProjXYIdeal.main_arg0) = m ((c.tc : Thread Cert.KernelProjXYIdeal.nD Cert.KernelProjXYIdeal.τ).loc Cert.KernelProjXYIdeal.main_arg0)
      ∧ r.2.mem ((c.tc : Thread Cert.KernelProjXYIdeal.nD Cert.KernelProjXYIdeal.τ).loc Cert.KernelProjXYIdeal.main_arg1) = m ((c.tc : Thread Cert.KernelProjXYIdeal.nD Cert.KernelProjXYIdeal.τ).loc Cert.KernelProjXYIdeal.main_arg1)
      ∧ r.2.mem ((c.tc : Thread Cert.KernelProjXYIdeal.nD Cert.KernelProjXYIdeal.τ).loc Cert.KernelProjXYIdeal.main_arg2) = m ((c.tc : Thread Cert.KernelProjXYIdeal.nD Cert.KernelProjXYIdeal.τ).loc Cert.KernelProjXYIdeal.main_arg2))
      ∧ r.2.sem = fun _ => 0)

def quiescent_ReferenceProjXYIdeal [hReferenceProjXYIdeal : Cert.ReferenceProjXYIdeal.Facts] : Prop :=
  ∀ (m : (ℓ : Loc Cert.ReferenceProjXYIdeal.nD Cert.ReferenceProjXYIdeal.τ Cert.ReferenceProjXYIdeal.sig) → Buf (Elt Ideal) ℓ) (g : Dev Cert.ReferenceProjXYIdeal.nD → PrngReg), Pre_ReferenceProjXYIdeal m →
    θ_run (Cert.ReferenceProjXYIdeal.defs (F := Ideal)) (onTc (τ := Cert.ReferenceProjXYIdeal.τ) (Cert.ReferenceProjXYIdeal.main (F := Ideal))) ⟨m, fun _ => 0, g⟩ (fun r => (∀ c : Dev Cert.ReferenceProjXYIdeal.nD,
      r.2.mem ((c.tc : Thread Cert.ReferenceProjXYIdeal.nD Cert.ReferenceProjXYIdeal.τ).loc Cert.ReferenceProjXYIdeal.main_arg0) = m ((c.tc : Thread Cert.ReferenceProjXYIdeal.nD Cert.ReferenceProjXYIdeal.τ).loc Cert.ReferenceProjXYIdeal.main_arg0)
      ∧ r.2.mem ((c.tc : Thread Cert.ReferenceProjXYIdeal.nD Cert.ReferenceProjXYIdeal.τ).loc Cert.ReferenceProjXYIdeal.main_arg1) = m ((c.tc : Thread Cert.ReferenceProjXYIdeal.nD Cert.ReferenceProjXYIdeal.τ).loc Cert.ReferenceProjXYIdeal.main_arg1)
      ∧ r.2.mem ((c.tc : Thread Cert.ReferenceProjXYIdeal.nD Cert.ReferenceProjXYIdeal.τ).loc Cert.ReferenceProjXYIdeal.main_arg2) = m ((c.tc : Thread Cert.ReferenceProjXYIdeal.nD Cert.ReferenceProjXYIdeal.τ).loc Cert.ReferenceProjXYIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0)

def quiescent_KernelNormZ [hKernelNormZ : Cert.KernelNormZ.Facts] : Prop :=
  ∀ (m : (ℓ : Loc Cert.KernelNormZ.nD Cert.KernelNormZ.τ Cert.KernelNormZ.sig) → Buf (Elt Bits) ℓ) (g : Dev Cert.KernelNormZ.nD → PrngReg), Pre_KernelNormZ m →
    θ_run (Cert.KernelNormZ.defs (F := Bits)) (onTc (τ := Cert.KernelNormZ.τ) (Cert.KernelNormZ.main (F := Bits))) ⟨m, fun _ => 0, g⟩ (fun r => (∀ c : Dev Cert.KernelNormZ.nD,
      r.2.mem ((c.tc : Thread Cert.KernelNormZ.nD Cert.KernelNormZ.τ).loc Cert.KernelNormZ.main_arg0) = m ((c.tc : Thread Cert.KernelNormZ.nD Cert.KernelNormZ.τ).loc Cert.KernelNormZ.main_arg0)
      ∧ r.2.mem ((c.tc : Thread Cert.KernelNormZ.nD Cert.KernelNormZ.τ).loc Cert.KernelNormZ.main_arg1) = m ((c.tc : Thread Cert.KernelNormZ.nD Cert.KernelNormZ.τ).loc Cert.KernelNormZ.main_arg1))
      ∧ r.2.sem = fun _ => 0)

def quiescent_KernelNormZIdeal [hKernelNormZIdeal : Cert.KernelNormZIdeal.Facts] : Prop :=
  ∀ (m : (ℓ : Loc Cert.KernelNormZIdeal.nD Cert.KernelNormZIdeal.τ Cert.KernelNormZIdeal.sig) → Buf (Elt Ideal) ℓ) (g : Dev Cert.KernelNormZIdeal.nD → PrngReg), Pre_KernelNormZIdeal m →
    θ_run (Cert.KernelNormZIdeal.defs (F := Ideal)) (onTc (τ := Cert.KernelNormZIdeal.τ) (Cert.KernelNormZIdeal.main (F := Ideal))) ⟨m, fun _ => 0, g⟩ (fun r => (∀ c : Dev Cert.KernelNormZIdeal.nD,
      r.2.mem ((c.tc : Thread Cert.KernelNormZIdeal.nD Cert.KernelNormZIdeal.τ).loc Cert.KernelNormZIdeal.main_arg0) = m ((c.tc : Thread Cert.KernelNormZIdeal.nD Cert.KernelNormZIdeal.τ).loc Cert.KernelNormZIdeal.main_arg0)
      ∧ r.2.mem ((c.tc : Thread Cert.KernelNormZIdeal.nD Cert.KernelNormZIdeal.τ).loc Cert.KernelNormZIdeal.main_arg1) = m ((c.tc : Thread Cert.KernelNormZIdeal.nD Cert.KernelNormZIdeal.τ).loc Cert.KernelNormZIdeal.main_arg1))
      ∧ r.2.sem = fun _ => 0)

def quiescent_ReferenceNormZIdeal [hReferenceNormZIdeal : Cert.ReferenceNormZIdeal.Facts] : Prop :=
  ∀ (m : (ℓ : Loc Cert.ReferenceNormZIdeal.nD Cert.ReferenceNormZIdeal.τ Cert.ReferenceNormZIdeal.sig) → Buf (Elt Ideal) ℓ) (g : Dev Cert.ReferenceNormZIdeal.nD → PrngReg), Pre_ReferenceNormZIdeal m →
    θ_run (Cert.ReferenceNormZIdeal.defs (F := Ideal)) (onTc (τ := Cert.ReferenceNormZIdeal.τ) (Cert.ReferenceNormZIdeal.main (F := Ideal))) ⟨m, fun _ => 0, g⟩ (fun r => (∀ c : Dev Cert.ReferenceNormZIdeal.nD,
      r.2.mem ((c.tc : Thread Cert.ReferenceNormZIdeal.nD Cert.ReferenceNormZIdeal.τ).loc Cert.ReferenceNormZIdeal.main_arg0) = m ((c.tc : Thread Cert.ReferenceNormZIdeal.nD Cert.ReferenceNormZIdeal.τ).loc Cert.ReferenceNormZIdeal.main_arg0)
      ∧ r.2.mem ((c.tc : Thread Cert.ReferenceNormZIdeal.nD Cert.ReferenceNormZIdeal.τ).loc Cert.ReferenceNormZIdeal.main_arg1) = m ((c.tc : Thread Cert.ReferenceNormZIdeal.nD Cert.ReferenceNormZIdeal.τ).loc Cert.ReferenceNormZIdeal.main_arg1))
      ∧ r.2.sem = fun _ => 0)

def quiescent_KernelNormBwd [hKernelNormBwd : Cert.KernelNormBwd.Facts] : Prop :=
  ∀ (m : (ℓ : Loc Cert.KernelNormBwd.nD Cert.KernelNormBwd.τ Cert.KernelNormBwd.sig) → Buf (Elt Bits) ℓ) (g : Dev Cert.KernelNormBwd.nD → PrngReg), Pre_KernelNormBwd m →
    θ_run (Cert.KernelNormBwd.defs (F := Bits)) (onTc (τ := Cert.KernelNormBwd.τ) (Cert.KernelNormBwd.main (F := Bits))) ⟨m, fun _ => 0, g⟩ (fun r => (∀ c : Dev Cert.KernelNormBwd.nD,
      r.2.mem ((c.tc : Thread Cert.KernelNormBwd.nD Cert.KernelNormBwd.τ).loc Cert.KernelNormBwd.main_arg0) = m ((c.tc : Thread Cert.KernelNormBwd.nD Cert.KernelNormBwd.τ).loc Cert.KernelNormBwd.main_arg0)
      ∧ r.2.mem ((c.tc : Thread Cert.KernelNormBwd.nD Cert.KernelNormBwd.τ).loc Cert.KernelNormBwd.main_arg1) = m ((c.tc : Thread Cert.KernelNormBwd.nD Cert.KernelNormBwd.τ).loc Cert.KernelNormBwd.main_arg1)
      ∧ r.2.mem ((c.tc : Thread Cert.KernelNormBwd.nD Cert.KernelNormBwd.τ).loc Cert.KernelNormBwd.main_arg2) = m ((c.tc : Thread Cert.KernelNormBwd.nD Cert.KernelNormBwd.τ).loc Cert.KernelNormBwd.main_arg2)
      ∧ r.2.mem ((c.tc : Thread Cert.KernelNormBwd.nD Cert.KernelNormBwd.τ).loc Cert.KernelNormBwd.main_arg3) = m ((c.tc : Thread Cert.KernelNormBwd.nD Cert.KernelNormBwd.τ).loc Cert.KernelNormBwd.main_arg3))
      ∧ r.2.sem = fun _ => 0)

def quiescent_KernelNormBwdIdeal [hKernelNormBwdIdeal : Cert.KernelNormBwdIdeal.Facts] : Prop :=
  ∀ (m : (ℓ : Loc Cert.KernelNormBwdIdeal.nD Cert.KernelNormBwdIdeal.τ Cert.KernelNormBwdIdeal.sig) → Buf (Elt Ideal) ℓ) (g : Dev Cert.KernelNormBwdIdeal.nD → PrngReg), Pre_KernelNormBwdIdeal m →
    θ_run (Cert.KernelNormBwdIdeal.defs (F := Ideal)) (onTc (τ := Cert.KernelNormBwdIdeal.τ) (Cert.KernelNormBwdIdeal.main (F := Ideal))) ⟨m, fun _ => 0, g⟩ (fun r => (∀ c : Dev Cert.KernelNormBwdIdeal.nD,
      r.2.mem ((c.tc : Thread Cert.KernelNormBwdIdeal.nD Cert.KernelNormBwdIdeal.τ).loc Cert.KernelNormBwdIdeal.main_arg0) = m ((c.tc : Thread Cert.KernelNormBwdIdeal.nD Cert.KernelNormBwdIdeal.τ).loc Cert.KernelNormBwdIdeal.main_arg0)
      ∧ r.2.mem ((c.tc : Thread Cert.KernelNormBwdIdeal.nD Cert.KernelNormBwdIdeal.τ).loc Cert.KernelNormBwdIdeal.main_arg1) = m ((c.tc : Thread Cert.KernelNormBwdIdeal.nD Cert.KernelNormBwdIdeal.τ).loc Cert.KernelNormBwdIdeal.main_arg1)
      ∧ r.2.mem ((c.tc : Thread Cert.KernelNormBwdIdeal.nD Cert.KernelNormBwdIdeal.τ).loc Cert.KernelNormBwdIdeal.main_arg2) = m ((c.tc : Thread Cert.KernelNormBwdIdeal.nD Cert.KernelNormBwdIdeal.τ).loc Cert.KernelNormBwdIdeal.main_arg2)
      ∧ r.2.mem ((c.tc : Thread Cert.KernelNormBwdIdeal.nD Cert.KernelNormBwdIdeal.τ).loc Cert.KernelNormBwdIdeal.main_arg3) = m ((c.tc : Thread Cert.KernelNormBwdIdeal.nD Cert.KernelNormBwdIdeal.τ).loc Cert.KernelNormBwdIdeal.main_arg3))
      ∧ r.2.sem = fun _ => 0)

def quiescent_ReferenceNormBwdIdeal [hReferenceNormBwdIdeal : Cert.ReferenceNormBwdIdeal.Facts] : Prop :=
  ∀ (m : (ℓ : Loc Cert.ReferenceNormBwdIdeal.nD Cert.ReferenceNormBwdIdeal.τ Cert.ReferenceNormBwdIdeal.sig) → Buf (Elt Ideal) ℓ) (g : Dev Cert.ReferenceNormBwdIdeal.nD → PrngReg), Pre_ReferenceNormBwdIdeal m →
    θ_run (Cert.ReferenceNormBwdIdeal.defs (F := Ideal)) (onTc (τ := Cert.ReferenceNormBwdIdeal.τ) (Cert.ReferenceNormBwdIdeal.main (F := Ideal))) ⟨m, fun _ => 0, g⟩ (fun r => (∀ c : Dev Cert.ReferenceNormBwdIdeal.nD,
      r.2.mem ((c.tc : Thread Cert.ReferenceNormBwdIdeal.nD Cert.ReferenceNormBwdIdeal.τ).loc Cert.ReferenceNormBwdIdeal.main_arg0) = m ((c.tc : Thread Cert.ReferenceNormBwdIdeal.nD Cert.ReferenceNormBwdIdeal.τ).loc Cert.ReferenceNormBwdIdeal.main_arg0)
      ∧ r.2.mem ((c.tc : Thread Cert.ReferenceNormBwdIdeal.nD Cert.ReferenceNormBwdIdeal.τ).loc Cert.ReferenceNormBwdIdeal.main_arg1) = m ((c.tc : Thread Cert.ReferenceNormBwdIdeal.nD Cert.ReferenceNormBwdIdeal.τ).loc Cert.ReferenceNormBwdIdeal.main_arg1)
      ∧ r.2.mem ((c.tc : Thread Cert.ReferenceNormBwdIdeal.nD Cert.ReferenceNormBwdIdeal.τ).loc Cert.ReferenceNormBwdIdeal.main_arg2) = m ((c.tc : Thread Cert.ReferenceNormBwdIdeal.nD Cert.ReferenceNormBwdIdeal.τ).loc Cert.ReferenceNormBwdIdeal.main_arg2)
      ∧ r.2.mem ((c.tc : Thread Cert.ReferenceNormBwdIdeal.nD Cert.ReferenceNormBwdIdeal.τ).loc Cert.ReferenceNormBwdIdeal.main_arg3) = m ((c.tc : Thread Cert.ReferenceNormBwdIdeal.nD Cert.ReferenceNormBwdIdeal.τ).loc Cert.ReferenceNormBwdIdeal.main_arg3))
      ∧ r.2.sem = fun _ => 0)

def quiescent_KernelNormBwdA [hKernelNormBwdA : Cert.KernelNormBwdA.Facts] : Prop :=
  ∀ (m : (ℓ : Loc Cert.KernelNormBwdA.nD Cert.KernelNormBwdA.τ Cert.KernelNormBwdA.sig) → Buf (Elt Bits) ℓ) (g : Dev Cert.KernelNormBwdA.nD → PrngReg), Pre_KernelNormBwdA m →
    θ_run (Cert.KernelNormBwdA.defs (F := Bits)) (onTc (τ := Cert.KernelNormBwdA.τ) (Cert.KernelNormBwdA.main (F := Bits))) ⟨m, fun _ => 0, g⟩ (fun r => (∀ c : Dev Cert.KernelNormBwdA.nD,
      r.2.mem ((c.tc : Thread Cert.KernelNormBwdA.nD Cert.KernelNormBwdA.τ).loc Cert.KernelNormBwdA.main_arg0) = m ((c.tc : Thread Cert.KernelNormBwdA.nD Cert.KernelNormBwdA.τ).loc Cert.KernelNormBwdA.main_arg0)
      ∧ r.2.mem ((c.tc : Thread Cert.KernelNormBwdA.nD Cert.KernelNormBwdA.τ).loc Cert.KernelNormBwdA.main_arg1) = m ((c.tc : Thread Cert.KernelNormBwdA.nD Cert.KernelNormBwdA.τ).loc Cert.KernelNormBwdA.main_arg1)
      ∧ r.2.mem ((c.tc : Thread Cert.KernelNormBwdA.nD Cert.KernelNormBwdA.τ).loc Cert.KernelNormBwdA.main_arg2) = m ((c.tc : Thread Cert.KernelNormBwdA.nD Cert.KernelNormBwdA.τ).loc Cert.KernelNormBwdA.main_arg2)
      ∧ r.2.mem ((c.tc : Thread Cert.KernelNormBwdA.nD Cert.KernelNormBwdA.τ).loc Cert.KernelNormBwdA.main_arg3) = m ((c.tc : Thread Cert.KernelNormBwdA.nD Cert.KernelNormBwdA.τ).loc Cert.KernelNormBwdA.main_arg3)
      ∧ r.2.mem ((c.tc : Thread Cert.KernelNormBwdA.nD Cert.KernelNormBwdA.τ).loc Cert.KernelNormBwdA.main_arg4) = m ((c.tc : Thread Cert.KernelNormBwdA.nD Cert.KernelNormBwdA.τ).loc Cert.KernelNormBwdA.main_arg4))
      ∧ r.2.sem = fun _ => 0)

def quiescent_KernelNormBwdAIdeal [hKernelNormBwdAIdeal : Cert.KernelNormBwdAIdeal.Facts] : Prop :=
  ∀ (m : (ℓ : Loc Cert.KernelNormBwdAIdeal.nD Cert.KernelNormBwdAIdeal.τ Cert.KernelNormBwdAIdeal.sig) → Buf (Elt Ideal) ℓ) (g : Dev Cert.KernelNormBwdAIdeal.nD → PrngReg), Pre_KernelNormBwdAIdeal m →
    θ_run (Cert.KernelNormBwdAIdeal.defs (F := Ideal)) (onTc (τ := Cert.KernelNormBwdAIdeal.τ) (Cert.KernelNormBwdAIdeal.main (F := Ideal))) ⟨m, fun _ => 0, g⟩ (fun r => (∀ c : Dev Cert.KernelNormBwdAIdeal.nD,
      r.2.mem ((c.tc : Thread Cert.KernelNormBwdAIdeal.nD Cert.KernelNormBwdAIdeal.τ).loc Cert.KernelNormBwdAIdeal.main_arg0) = m ((c.tc : Thread Cert.KernelNormBwdAIdeal.nD Cert.KernelNormBwdAIdeal.τ).loc Cert.KernelNormBwdAIdeal.main_arg0)
      ∧ r.2.mem ((c.tc : Thread Cert.KernelNormBwdAIdeal.nD Cert.KernelNormBwdAIdeal.τ).loc Cert.KernelNormBwdAIdeal.main_arg1) = m ((c.tc : Thread Cert.KernelNormBwdAIdeal.nD Cert.KernelNormBwdAIdeal.τ).loc Cert.KernelNormBwdAIdeal.main_arg1)
      ∧ r.2.mem ((c.tc : Thread Cert.KernelNormBwdAIdeal.nD Cert.KernelNormBwdAIdeal.τ).loc Cert.KernelNormBwdAIdeal.main_arg2) = m ((c.tc : Thread Cert.KernelNormBwdAIdeal.nD Cert.KernelNormBwdAIdeal.τ).loc Cert.KernelNormBwdAIdeal.main_arg2)
      ∧ r.2.mem ((c.tc : Thread Cert.KernelNormBwdAIdeal.nD Cert.KernelNormBwdAIdeal.τ).loc Cert.KernelNormBwdAIdeal.main_arg3) = m ((c.tc : Thread Cert.KernelNormBwdAIdeal.nD Cert.KernelNormBwdAIdeal.τ).loc Cert.KernelNormBwdAIdeal.main_arg3)
      ∧ r.2.mem ((c.tc : Thread Cert.KernelNormBwdAIdeal.nD Cert.KernelNormBwdAIdeal.τ).loc Cert.KernelNormBwdAIdeal.main_arg4) = m ((c.tc : Thread Cert.KernelNormBwdAIdeal.nD Cert.KernelNormBwdAIdeal.τ).loc Cert.KernelNormBwdAIdeal.main_arg4))
      ∧ r.2.sem = fun _ => 0)

def quiescent_ReferenceNormBwdAIdeal [hReferenceNormBwdAIdeal : Cert.ReferenceNormBwdAIdeal.Facts] : Prop :=
  ∀ (m : (ℓ : Loc Cert.ReferenceNormBwdAIdeal.nD Cert.ReferenceNormBwdAIdeal.τ Cert.ReferenceNormBwdAIdeal.sig) → Buf (Elt Ideal) ℓ) (g : Dev Cert.ReferenceNormBwdAIdeal.nD → PrngReg), Pre_ReferenceNormBwdAIdeal m →
    θ_run (Cert.ReferenceNormBwdAIdeal.defs (F := Ideal)) (onTc (τ := Cert.ReferenceNormBwdAIdeal.τ) (Cert.ReferenceNormBwdAIdeal.main (F := Ideal))) ⟨m, fun _ => 0, g⟩ (fun r => (∀ c : Dev Cert.ReferenceNormBwdAIdeal.nD,
      r.2.mem ((c.tc : Thread Cert.ReferenceNormBwdAIdeal.nD Cert.ReferenceNormBwdAIdeal.τ).loc Cert.ReferenceNormBwdAIdeal.main_arg0) = m ((c.tc : Thread Cert.ReferenceNormBwdAIdeal.nD Cert.ReferenceNormBwdAIdeal.τ).loc Cert.ReferenceNormBwdAIdeal.main_arg0)
      ∧ r.2.mem ((c.tc : Thread Cert.ReferenceNormBwdAIdeal.nD Cert.ReferenceNormBwdAIdeal.τ).loc Cert.ReferenceNormBwdAIdeal.main_arg1) = m ((c.tc : Thread Cert.ReferenceNormBwdAIdeal.nD Cert.ReferenceNormBwdAIdeal.τ).loc Cert.ReferenceNormBwdAIdeal.main_arg1)
      ∧ r.2.mem ((c.tc : Thread Cert.ReferenceNormBwdAIdeal.nD Cert.ReferenceNormBwdAIdeal.τ).loc Cert.ReferenceNormBwdAIdeal.main_arg2) = m ((c.tc : Thread Cert.ReferenceNormBwdAIdeal.nD Cert.ReferenceNormBwdAIdeal.τ).loc Cert.ReferenceNormBwdAIdeal.main_arg2)
      ∧ r.2.mem ((c.tc : Thread Cert.ReferenceNormBwdAIdeal.nD Cert.ReferenceNormBwdAIdeal.τ).loc Cert.ReferenceNormBwdAIdeal.main_arg3) = m ((c.tc : Thread Cert.ReferenceNormBwdAIdeal.nD Cert.ReferenceNormBwdAIdeal.τ).loc Cert.ReferenceNormBwdAIdeal.main_arg3)
      ∧ r.2.mem ((c.tc : Thread Cert.ReferenceNormBwdAIdeal.nD Cert.ReferenceNormBwdAIdeal.τ).loc Cert.ReferenceNormBwdAIdeal.main_arg4) = m ((c.tc : Thread Cert.ReferenceNormBwdAIdeal.nD Cert.ReferenceNormBwdAIdeal.τ).loc Cert.ReferenceNormBwdAIdeal.main_arg4))
      ∧ r.2.sem = fun _ => 0)

def quiescent_KernelNormZBwd [hKernelNormZBwd : Cert.KernelNormZBwd.Facts] : Prop :=
  ∀ (m : (ℓ : Loc Cert.KernelNormZBwd.nD Cert.KernelNormZBwd.τ Cert.KernelNormZBwd.sig) → Buf (Elt Bits) ℓ) (g : Dev Cert.KernelNormZBwd.nD → PrngReg), Pre_KernelNormZBwd m →
    θ_run (Cert.KernelNormZBwd.defs (F := Bits)) (onTc (τ := Cert.KernelNormZBwd.τ) (Cert.KernelNormZBwd.main (F := Bits))) ⟨m, fun _ => 0, g⟩ (fun r => (∀ c : Dev Cert.KernelNormZBwd.nD,
      r.2.mem ((c.tc : Thread Cert.KernelNormZBwd.nD Cert.KernelNormZBwd.τ).loc Cert.KernelNormZBwd.main_arg0) = m ((c.tc : Thread Cert.KernelNormZBwd.nD Cert.KernelNormZBwd.τ).loc Cert.KernelNormZBwd.main_arg0)
      ∧ r.2.mem ((c.tc : Thread Cert.KernelNormZBwd.nD Cert.KernelNormZBwd.τ).loc Cert.KernelNormZBwd.main_arg1) = m ((c.tc : Thread Cert.KernelNormZBwd.nD Cert.KernelNormZBwd.τ).loc Cert.KernelNormZBwd.main_arg1)
      ∧ r.2.mem ((c.tc : Thread Cert.KernelNormZBwd.nD Cert.KernelNormZBwd.τ).loc Cert.KernelNormZBwd.main_arg2) = m ((c.tc : Thread Cert.KernelNormZBwd.nD Cert.KernelNormZBwd.τ).loc Cert.KernelNormZBwd.main_arg2))
      ∧ r.2.sem = fun _ => 0)

def quiescent_KernelNormZBwdIdeal [hKernelNormZBwdIdeal : Cert.KernelNormZBwdIdeal.Facts] : Prop :=
  ∀ (m : (ℓ : Loc Cert.KernelNormZBwdIdeal.nD Cert.KernelNormZBwdIdeal.τ Cert.KernelNormZBwdIdeal.sig) → Buf (Elt Ideal) ℓ) (g : Dev Cert.KernelNormZBwdIdeal.nD → PrngReg), Pre_KernelNormZBwdIdeal m →
    θ_run (Cert.KernelNormZBwdIdeal.defs (F := Ideal)) (onTc (τ := Cert.KernelNormZBwdIdeal.τ) (Cert.KernelNormZBwdIdeal.main (F := Ideal))) ⟨m, fun _ => 0, g⟩ (fun r => (∀ c : Dev Cert.KernelNormZBwdIdeal.nD,
      r.2.mem ((c.tc : Thread Cert.KernelNormZBwdIdeal.nD Cert.KernelNormZBwdIdeal.τ).loc Cert.KernelNormZBwdIdeal.main_arg0) = m ((c.tc : Thread Cert.KernelNormZBwdIdeal.nD Cert.KernelNormZBwdIdeal.τ).loc Cert.KernelNormZBwdIdeal.main_arg0)
      ∧ r.2.mem ((c.tc : Thread Cert.KernelNormZBwdIdeal.nD Cert.KernelNormZBwdIdeal.τ).loc Cert.KernelNormZBwdIdeal.main_arg1) = m ((c.tc : Thread Cert.KernelNormZBwdIdeal.nD Cert.KernelNormZBwdIdeal.τ).loc Cert.KernelNormZBwdIdeal.main_arg1)
      ∧ r.2.mem ((c.tc : Thread Cert.KernelNormZBwdIdeal.nD Cert.KernelNormZBwdIdeal.τ).loc Cert.KernelNormZBwdIdeal.main_arg2) = m ((c.tc : Thread Cert.KernelNormZBwdIdeal.nD Cert.KernelNormZBwdIdeal.τ).loc Cert.KernelNormZBwdIdeal.main_arg2))
      ∧ r.2.sem = fun _ => 0)

def quiescent_ReferenceNormZBwdIdeal [hReferenceNormZBwdIdeal : Cert.ReferenceNormZBwdIdeal.Facts] : Prop :=
  ∀ (m : (ℓ : Loc Cert.ReferenceNormZBwdIdeal.nD Cert.ReferenceNormZBwdIdeal.τ Cert.ReferenceNormZBwdIdeal.sig) → Buf (Elt Ideal) ℓ) (g : Dev Cert.ReferenceNormZBwdIdeal.nD → PrngReg), Pre_ReferenceNormZBwdIdeal m →
    θ_run (Cert.ReferenceNormZBwdIdeal.defs (F := Ideal)) (onTc (τ := Cert.ReferenceNormZBwdIdeal.τ) (Cert.ReferenceNormZBwdIdeal.main (F := Ideal))) ⟨m, fun _ => 0, g⟩ (fun r => (∀ c : Dev Cert.ReferenceNormZBwdIdeal.nD,
      r.2.mem ((c.tc : Thread Cert.ReferenceNormZBwdIdeal.nD Cert.ReferenceNormZBwdIdeal.τ).loc Cert.ReferenceNormZBwdIdeal.main_arg0) = m ((c.tc : Thread Cert.ReferenceNormZBwdIdeal.nD Cert.ReferenceNormZBwdIdeal.τ).loc Cert.ReferenceNormZBwdIdeal.main_arg0)
      ∧ r.2.mem ((c.tc : Thread Cert.ReferenceNormZBwdIdeal.nD Cert.ReferenceNormZBwdIdeal.τ).loc Cert.ReferenceNormZBwdIdeal.main_arg1) = m ((c.tc : Thread Cert.ReferenceNormZBwdIdeal.nD Cert.ReferenceNormZBwdIdeal.τ).loc Cert.ReferenceNormZBwdIdeal.main_arg1)
      ∧ r.2.mem ((c.tc : Thread Cert.ReferenceNormZBwdIdeal.nD Cert.ReferenceNormZBwdIdeal.τ).loc Cert.ReferenceNormZBwdIdeal.main_arg2) = m ((c.tc : Thread Cert.ReferenceNormZBwdIdeal.nD Cert.ReferenceNormZBwdIdeal.τ).loc Cert.ReferenceNormZBwdIdeal.main_arg2))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelAdamIn [hKernelAdamIn : Cert.KernelAdamIn.Facts] : Prop :=
  ∀ (m : (ℓ : Loc Cert.KernelAdamIn.nD Cert.KernelAdamIn.τ Cert.KernelAdamIn.sig) → Buf (Elt Bits) ℓ) (g : Dev Cert.KernelAdamIn.nD → PrngReg), Pre_KernelAdamIn m →
    θ_run (Cert.KernelAdamIn.defs (F := Bits)) (onTc (τ := Cert.KernelAdamIn.τ) (Cert.KernelAdamIn.main (F := Bits))) ⟨m, fun _ => 0, g⟩ (fun r => (∀ c : Dev Cert.KernelAdamIn.nD,
      r.2.mem ((c.tc : Thread Cert.KernelAdamIn.nD Cert.KernelAdamIn.τ).loc Cert.KernelAdamIn.main_arg0) = m ((c.tc : Thread Cert.KernelAdamIn.nD Cert.KernelAdamIn.τ).loc Cert.KernelAdamIn.main_arg0)
      ∧ r.2.mem ((c.tc : Thread Cert.KernelAdamIn.nD Cert.KernelAdamIn.τ).loc Cert.KernelAdamIn.main_arg1) = m ((c.tc : Thread Cert.KernelAdamIn.nD Cert.KernelAdamIn.τ).loc Cert.KernelAdamIn.main_arg1)
      ∧ r.2.mem ((c.tc : Thread Cert.KernelAdamIn.nD Cert.KernelAdamIn.τ).loc Cert.KernelAdamIn.main_arg2) = m ((c.tc : Thread Cert.KernelAdamIn.nD Cert.KernelAdamIn.τ).loc Cert.KernelAdamIn.main_arg2)
      ∧ r.2.mem ((c.tc : Thread Cert.KernelAdamIn.nD Cert.KernelAdamIn.τ).loc Cert.KernelAdamIn.main_arg3) = m ((c.tc : Thread Cert.KernelAdamIn.nD Cert.KernelAdamIn.τ).loc Cert.KernelAdamIn.main_arg3))
      ∧ r.2.sem = fun _ => 0)

def quiescent_KernelAdamInIdeal [hKernelAdamInIdeal : Cert.KernelAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg), Pre_KernelAdamInIdeal m →
    θ_run (Cert.KernelAdamInIdeal.defs (F := Ideal)) (onTc (τ := Cert.KernelAdamInIdeal.τ) (Cert.KernelAdamInIdeal.main (F := Ideal))) ⟨m, fun _ => 0, g⟩ (fun r => (∀ c : Dev Cert.KernelAdamInIdeal.nD,
      r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
      ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
      ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
      ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ r.2.sem = fun _ => 0)

def quiescent_ReferenceAdamInIdeal [hReferenceAdamInIdeal : Cert.ReferenceAdamInIdeal.Facts] : Prop :=
  ∀ (m : (ℓ : Loc Cert.ReferenceAdamInIdeal.nD Cert.ReferenceAdamInIdeal.τ Cert.ReferenceAdamInIdeal.sig) → Buf (Elt Ideal) ℓ) (g : Dev Cert.ReferenceAdamInIdeal.nD → PrngReg), Pre_ReferenceAdamInIdeal m →
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0)

def quiescent_KernelAdamUp [hKernelAdamUp : Cert.KernelAdamUp.Facts] : Prop :=
  ∀ (m : (ℓ : Loc Cert.KernelAdamUp.nD Cert.KernelAdamUp.τ Cert.KernelAdamUp.sig) → Buf (Elt Bits) ℓ) (g : Dev Cert.KernelAdamUp.nD → PrngReg), Pre_KernelAdamUp m →
    θ_run (Cert.KernelAdamUp.defs (F := Bits)) (onTc (τ := Cert.KernelAdamUp.τ) (Cert.KernelAdamUp.main (F := Bits))) ⟨m, fun _ => 0, g⟩ (fun r => (∀ c : Dev Cert.KernelAdamUp.nD,
      r.2.mem ((c.tc : Thread Cert.KernelAdamUp.nD Cert.KernelAdamUp.τ).loc Cert.KernelAdamUp.main_arg0) = m ((c.tc : Thread Cert.KernelAdamUp.nD Cert.KernelAdamUp.τ).loc Cert.KernelAdamUp.main_arg0)
      ∧ r.2.mem ((c.tc : Thread Cert.KernelAdamUp.nD Cert.KernelAdamUp.τ).loc Cert.KernelAdamUp.main_arg1) = m ((c.tc : Thread Cert.KernelAdamUp.nD Cert.KernelAdamUp.τ).loc Cert.KernelAdamUp.main_arg1)
      ∧ r.2.mem ((c.tc : Thread Cert.KernelAdamUp.nD Cert.KernelAdamUp.τ).loc Cert.KernelAdamUp.main_arg2) = m ((c.tc : Thread Cert.KernelAdamUp.nD Cert.KernelAdamUp.τ).loc Cert.KernelAdamUp.main_arg2)
      ∧ r.2.mem ((c.tc : Thread Cert.KernelAdamUp.nD Cert.KernelAdamUp.τ).loc Cert.KernelAdamUp.main_arg3) = m ((c.tc : Thread Cert.KernelAdamUp.nD Cert.KernelAdamUp.τ).loc Cert.KernelAdamUp.main_arg3))
      ∧ r.2.sem = fun _ => 0)

def quiescent_KernelAdamUpIdeal [hKernelAdamUpIdeal : Cert.KernelAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg), Pre_KernelAdamUpIdeal m →
    θ_run (Cert.KernelAdamUpIdeal.defs (F := Ideal)) (onTc (τ := Cert.KernelAdamUpIdeal.τ) (Cert.KernelAdamUpIdeal.main (F := Ideal))) ⟨m, fun _ => 0, g⟩ (fun r => (∀ c : Dev Cert.KernelAdamUpIdeal.nD,
      r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
      ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
      ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
      ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ r.2.sem = fun _ => 0)

def quiescent_ReferenceAdamUpIdeal [hReferenceAdamUpIdeal : Cert.ReferenceAdamUpIdeal.Facts] : Prop :=
  ∀ (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg), Pre_ReferenceAdamUpIdeal m →
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3))
      ∧ r.2.sem = fun _ => 0)

def quiescent_KernelAdamOut [hKernelAdamOut : Cert.KernelAdamOut.Facts] : Prop :=
  ∀ (m : (ℓ : Loc Cert.KernelAdamOut.nD Cert.KernelAdamOut.τ Cert.KernelAdamOut.sig) → Buf (Elt Bits) ℓ) (g : Dev Cert.KernelAdamOut.nD → PrngReg), Pre_KernelAdamOut m →
    θ_run (Cert.KernelAdamOut.defs (F := Bits)) (onTc (τ := Cert.KernelAdamOut.τ) (Cert.KernelAdamOut.main (F := Bits))) ⟨m, fun _ => 0, g⟩ (fun r => (∀ c : Dev Cert.KernelAdamOut.nD,
      r.2.mem ((c.tc : Thread Cert.KernelAdamOut.nD Cert.KernelAdamOut.τ).loc Cert.KernelAdamOut.main_arg0) = m ((c.tc : Thread Cert.KernelAdamOut.nD Cert.KernelAdamOut.τ).loc Cert.KernelAdamOut.main_arg0)
      ∧ r.2.mem ((c.tc : Thread Cert.KernelAdamOut.nD Cert.KernelAdamOut.τ).loc Cert.KernelAdamOut.main_arg1) = m ((c.tc : Thread Cert.KernelAdamOut.nD Cert.KernelAdamOut.τ).loc Cert.KernelAdamOut.main_arg1)
      ∧ r.2.mem ((c.tc : Thread Cert.KernelAdamOut.nD Cert.KernelAdamOut.τ).loc Cert.KernelAdamOut.main_arg2) = m ((c.tc : Thread Cert.KernelAdamOut.nD Cert.KernelAdamOut.τ).loc Cert.KernelAdamOut.main_arg2)
      ∧ r.2.mem ((c.tc : Thread Cert.KernelAdamOut.nD Cert.KernelAdamOut.τ).loc Cert.KernelAdamOut.main_arg3) = m ((c.tc : Thread Cert.KernelAdamOut.nD Cert.KernelAdamOut.τ).loc Cert.KernelAdamOut.main_arg3))
      ∧ r.2.sem = fun _ => 0)

def quiescent_KernelAdamOutIdeal [hKernelAdamOutIdeal : Cert.KernelAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg), Pre_KernelAdamOutIdeal m →
    θ_run (Cert.KernelAdamOutIdeal.defs (F := Ideal)) (onTc (τ := Cert.KernelAdamOutIdeal.τ) (Cert.KernelAdamOutIdeal.main (F := Ideal))) ⟨m, fun _ => 0, g⟩ (fun r => (∀ c : Dev Cert.KernelAdamOutIdeal.nD,
      r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
      ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
      ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
      ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ r.2.sem = fun _ => 0)

def quiescent_ReferenceAdamOutIdeal [hReferenceAdamOutIdeal : Cert.ReferenceAdamOutIdeal.Facts] : Prop :=
  ∀ (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg), Pre_ReferenceAdamOutIdeal m →
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0)

def quiescent_KernelAdamDown [hKernelAdamDown : Cert.KernelAdamDown.Facts] : Prop :=
  ∀ (m : (ℓ : Loc Cert.KernelAdamDown.nD Cert.KernelAdamDown.τ Cert.KernelAdamDown.sig) → Buf (Elt Bits) ℓ) (g : Dev Cert.KernelAdamDown.nD → PrngReg), Pre_KernelAdamDown m →
    θ_run (Cert.KernelAdamDown.defs (F := Bits)) (onTc (τ := Cert.KernelAdamDown.τ) (Cert.KernelAdamDown.main (F := Bits))) ⟨m, fun _ => 0, g⟩ (fun r => (∀ c : Dev Cert.KernelAdamDown.nD,
      r.2.mem ((c.tc : Thread Cert.KernelAdamDown.nD Cert.KernelAdamDown.τ).loc Cert.KernelAdamDown.main_arg0) = m ((c.tc : Thread Cert.KernelAdamDown.nD Cert.KernelAdamDown.τ).loc Cert.KernelAdamDown.main_arg0)
      ∧ r.2.mem ((c.tc : Thread Cert.KernelAdamDown.nD Cert.KernelAdamDown.τ).loc Cert.KernelAdamDown.main_arg1) = m ((c.tc : Thread Cert.KernelAdamDown.nD Cert.KernelAdamDown.τ).loc Cert.KernelAdamDown.main_arg1)
      ∧ r.2.mem ((c.tc : Thread Cert.KernelAdamDown.nD Cert.KernelAdamDown.τ).loc Cert.KernelAdamDown.main_arg2) = m ((c.tc : Thread Cert.KernelAdamDown.nD Cert.KernelAdamDown.τ).loc Cert.KernelAdamDown.main_arg2)
      ∧ r.2.mem ((c.tc : Thread Cert.KernelAdamDown.nD Cert.KernelAdamDown.τ).loc Cert.KernelAdamDown.main_arg3) = m ((c.tc : Thread Cert.KernelAdamDown.nD Cert.KernelAdamDown.τ).loc Cert.KernelAdamDown.main_arg3))
      ∧ r.2.sem = fun _ => 0)

def quiescent_KernelAdamDownIdeal [hKernelAdamDownIdeal : Cert.KernelAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg), Pre_KernelAdamDownIdeal m →
    θ_run (Cert.KernelAdamDownIdeal.defs (F := Ideal)) (onTc (τ := Cert.KernelAdamDownIdeal.τ) (Cert.KernelAdamDownIdeal.main (F := Ideal))) ⟨m, fun _ => 0, g⟩ (fun r => (∀ c : Dev Cert.KernelAdamDownIdeal.nD,
      r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
      ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
      ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
      ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ r.2.sem = fun _ => 0)

def quiescent_ReferenceAdamDownIdeal [hReferenceAdamDownIdeal : Cert.ReferenceAdamDownIdeal.Facts] : Prop :=
  ∀ (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg), Pre_ReferenceAdamDownIdeal m →
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3))
      ∧ r.2.sem = fun _ => 0)

def quiescent_KernelAdamSmall [hKernelAdamSmall : Cert.KernelAdamSmall.Facts] : Prop :=
  ∀ (m : (ℓ : Loc Cert.KernelAdamSmall.nD Cert.KernelAdamSmall.τ Cert.KernelAdamSmall.sig) → Buf (Elt Bits) ℓ) (g : Dev Cert.KernelAdamSmall.nD → PrngReg), Pre_KernelAdamSmall m →
    θ_run (Cert.KernelAdamSmall.defs (F := Bits)) (onTc (τ := Cert.KernelAdamSmall.τ) (Cert.KernelAdamSmall.main (F := Bits))) ⟨m, fun _ => 0, g⟩ (fun r => (∀ c : Dev Cert.KernelAdamSmall.nD,
      r.2.mem ((c.tc : Thread Cert.KernelAdamSmall.nD Cert.KernelAdamSmall.τ).loc Cert.KernelAdamSmall.main_arg0) = m ((c.tc : Thread Cert.KernelAdamSmall.nD Cert.KernelAdamSmall.τ).loc Cert.KernelAdamSmall.main_arg0)
      ∧ r.2.mem ((c.tc : Thread Cert.KernelAdamSmall.nD Cert.KernelAdamSmall.τ).loc Cert.KernelAdamSmall.main_arg1) = m ((c.tc : Thread Cert.KernelAdamSmall.nD Cert.KernelAdamSmall.τ).loc Cert.KernelAdamSmall.main_arg1)
      ∧ r.2.mem ((c.tc : Thread Cert.KernelAdamSmall.nD Cert.KernelAdamSmall.τ).loc Cert.KernelAdamSmall.main_arg2) = m ((c.tc : Thread Cert.KernelAdamSmall.nD Cert.KernelAdamSmall.τ).loc Cert.KernelAdamSmall.main_arg2)
      ∧ r.2.mem ((c.tc : Thread Cert.KernelAdamSmall.nD Cert.KernelAdamSmall.τ).loc Cert.KernelAdamSmall.main_arg3) = m ((c.tc : Thread Cert.KernelAdamSmall.nD Cert.KernelAdamSmall.τ).loc Cert.KernelAdamSmall.main_arg3))
      ∧ r.2.sem = fun _ => 0)

def quiescent_KernelAdamSmallIdeal [hKernelAdamSmallIdeal : Cert.KernelAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg), Pre_KernelAdamSmallIdeal m →
    θ_run (Cert.KernelAdamSmallIdeal.defs (F := Ideal)) (onTc (τ := Cert.KernelAdamSmallIdeal.τ) (Cert.KernelAdamSmallIdeal.main (F := Ideal))) ⟨m, fun _ => 0, g⟩ (fun r => (∀ c : Dev Cert.KernelAdamSmallIdeal.nD,
      r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
      ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
      ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
      ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ r.2.sem = fun _ => 0)

def quiescent_ReferenceAdamSmallIdeal [hReferenceAdamSmallIdeal : Cert.ReferenceAdamSmallIdeal.Facts] : Prop :=
  ∀ (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg), Pre_ReferenceAdamSmallIdeal m →
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0)

def quiescent_KernelCastIn [hKernelCastIn : Cert.KernelCastIn.Facts] : Prop :=
  ∀ (m : (ℓ : Loc Cert.KernelCastIn.nD Cert.KernelCastIn.τ Cert.KernelCastIn.sig) → Buf (Elt Bits) ℓ) (g : Dev Cert.KernelCastIn.nD → PrngReg), Pre_KernelCastIn m →
    θ_run (Cert.KernelCastIn.defs (F := Bits)) (onTc (τ := Cert.KernelCastIn.τ) (Cert.KernelCastIn.main (F := Bits))) ⟨m, fun _ => 0, g⟩ (fun r => (∀ c : Dev Cert.KernelCastIn.nD,
      r.2.mem ((c.tc : Thread Cert.KernelCastIn.nD Cert.KernelCastIn.τ).loc Cert.KernelCastIn.main_arg0) = m ((c.tc : Thread Cert.KernelCastIn.nD Cert.KernelCastIn.τ).loc Cert.KernelCastIn.main_arg0)
      ∧ r.2.mem ((c.tc : Thread Cert.KernelCastIn.nD Cert.KernelCastIn.τ).loc Cert.KernelCastIn.main_arg1) = m ((c.tc : Thread Cert.KernelCastIn.nD Cert.KernelCastIn.τ).loc Cert.KernelCastIn.main_arg1))
      ∧ r.2.sem = fun _ => 0)

def quiescent_KernelCastInIdeal [hKernelCastInIdeal : Cert.KernelCastInIdeal.Facts] : Prop :=
  ∀ (m : (ℓ : Loc Cert.KernelCastInIdeal.nD Cert.KernelCastInIdeal.τ Cert.KernelCastInIdeal.sig) → Buf (Elt Ideal) ℓ) (g : Dev Cert.KernelCastInIdeal.nD → PrngReg), Pre_KernelCastInIdeal m →
    θ_run (Cert.KernelCastInIdeal.defs (F := Ideal)) (onTc (τ := Cert.KernelCastInIdeal.τ) (Cert.KernelCastInIdeal.main (F := Ideal))) ⟨m, fun _ => 0, g⟩ (fun r => (∀ c : Dev Cert.KernelCastInIdeal.nD,
      r.2.mem ((c.tc : Thread Cert.KernelCastInIdeal.nD Cert.KernelCastInIdeal.τ).loc Cert.KernelCastInIdeal.main_arg0) = m ((c.tc : Thread Cert.KernelCastInIdeal.nD Cert.KernelCastInIdeal.τ).loc Cert.KernelCastInIdeal.main_arg0)
      ∧ r.2.mem ((c.tc : Thread Cert.KernelCastInIdeal.nD Cert.KernelCastInIdeal.τ).loc Cert.KernelCastInIdeal.main_arg1) = m ((c.tc : Thread Cert.KernelCastInIdeal.nD Cert.KernelCastInIdeal.τ).loc Cert.KernelCastInIdeal.main_arg1))
      ∧ r.2.sem = fun _ => 0)

def quiescent_ReferenceCastInIdeal [hReferenceCastInIdeal : Cert.ReferenceCastInIdeal.Facts] : Prop :=
  ∀ (m : (ℓ : Loc Cert.ReferenceCastInIdeal.nD Cert.ReferenceCastInIdeal.τ Cert.ReferenceCastInIdeal.sig) → Buf (Elt Ideal) ℓ) (g : Dev Cert.ReferenceCastInIdeal.nD → PrngReg), Pre_ReferenceCastInIdeal m →
    θ_run (Cert.ReferenceCastInIdeal.defs (F := Ideal)) (onTc (τ := Cert.ReferenceCastInIdeal.τ) (Cert.ReferenceCastInIdeal.main (F := Ideal))) ⟨m, fun _ => 0, g⟩ (fun r => (∀ c : Dev Cert.ReferenceCastInIdeal.nD,
      r.2.mem ((c.tc : Thread Cert.ReferenceCastInIdeal.nD Cert.ReferenceCastInIdeal.τ).loc Cert.ReferenceCastInIdeal.main_arg0) = m ((c.tc : Thread Cert.ReferenceCastInIdeal.nD Cert.ReferenceCastInIdeal.τ).loc Cert.ReferenceCastInIdeal.main_arg0)
      ∧ r.2.mem ((c.tc : Thread Cert.ReferenceCastInIdeal.nD Cert.ReferenceCastInIdeal.τ).loc Cert.ReferenceCastInIdeal.main_arg1) = m ((c.tc : Thread Cert.ReferenceCastInIdeal.nD Cert.ReferenceCastInIdeal.τ).loc Cert.ReferenceCastInIdeal.main_arg1))
      ∧ r.2.sem = fun _ => 0)

def quiescent_KernelCastOut [hKernelCastOut : Cert.KernelCastOut.Facts] : Prop :=
  ∀ (m : (ℓ : Loc Cert.KernelCastOut.nD Cert.KernelCastOut.τ Cert.KernelCastOut.sig) → Buf (Elt Bits) ℓ) (g : Dev Cert.KernelCastOut.nD → PrngReg), Pre_KernelCastOut m →
    θ_run (Cert.KernelCastOut.defs (F := Bits)) (onTc (τ := Cert.KernelCastOut.τ) (Cert.KernelCastOut.main (F := Bits))) ⟨m, fun _ => 0, g⟩ (fun r => (∀ c : Dev Cert.KernelCastOut.nD,
      r.2.mem ((c.tc : Thread Cert.KernelCastOut.nD Cert.KernelCastOut.τ).loc Cert.KernelCastOut.main_arg0) = m ((c.tc : Thread Cert.KernelCastOut.nD Cert.KernelCastOut.τ).loc Cert.KernelCastOut.main_arg0)
      ∧ r.2.mem ((c.tc : Thread Cert.KernelCastOut.nD Cert.KernelCastOut.τ).loc Cert.KernelCastOut.main_arg1) = m ((c.tc : Thread Cert.KernelCastOut.nD Cert.KernelCastOut.τ).loc Cert.KernelCastOut.main_arg1))
      ∧ r.2.sem = fun _ => 0)

def quiescent_KernelCastOutIdeal [hKernelCastOutIdeal : Cert.KernelCastOutIdeal.Facts] : Prop :=
  ∀ (m : (ℓ : Loc Cert.KernelCastOutIdeal.nD Cert.KernelCastOutIdeal.τ Cert.KernelCastOutIdeal.sig) → Buf (Elt Ideal) ℓ) (g : Dev Cert.KernelCastOutIdeal.nD → PrngReg), Pre_KernelCastOutIdeal m →
    θ_run (Cert.KernelCastOutIdeal.defs (F := Ideal)) (onTc (τ := Cert.KernelCastOutIdeal.τ) (Cert.KernelCastOutIdeal.main (F := Ideal))) ⟨m, fun _ => 0, g⟩ (fun r => (∀ c : Dev Cert.KernelCastOutIdeal.nD,
      r.2.mem ((c.tc : Thread Cert.KernelCastOutIdeal.nD Cert.KernelCastOutIdeal.τ).loc Cert.KernelCastOutIdeal.main_arg0) = m ((c.tc : Thread Cert.KernelCastOutIdeal.nD Cert.KernelCastOutIdeal.τ).loc Cert.KernelCastOutIdeal.main_arg0)
      ∧ r.2.mem ((c.tc : Thread Cert.KernelCastOutIdeal.nD Cert.KernelCastOutIdeal.τ).loc Cert.KernelCastOutIdeal.main_arg1) = m ((c.tc : Thread Cert.KernelCastOutIdeal.nD Cert.KernelCastOutIdeal.τ).loc Cert.KernelCastOutIdeal.main_arg1))
      ∧ r.2.sem = fun _ => 0)

def quiescent_ReferenceCastOutIdeal [hReferenceCastOutIdeal : Cert.ReferenceCastOutIdeal.Facts] : Prop :=
  ∀ (m : (ℓ : Loc Cert.ReferenceCastOutIdeal.nD Cert.ReferenceCastOutIdeal.τ Cert.ReferenceCastOutIdeal.sig) → Buf (Elt Ideal) ℓ) (g : Dev Cert.ReferenceCastOutIdeal.nD → PrngReg), Pre_ReferenceCastOutIdeal m →
    θ_run (Cert.ReferenceCastOutIdeal.defs (F := Ideal)) (onTc (τ := Cert.ReferenceCastOutIdeal.τ) (Cert.ReferenceCastOutIdeal.main (F := Ideal))) ⟨m, fun _ => 0, g⟩ (fun r => (∀ c : Dev Cert.ReferenceCastOutIdeal.nD,
      r.2.mem ((c.tc : Thread Cert.ReferenceCastOutIdeal.nD Cert.ReferenceCastOutIdeal.τ).loc Cert.ReferenceCastOutIdeal.main_arg0) = m ((c.tc : Thread Cert.ReferenceCastOutIdeal.nD Cert.ReferenceCastOutIdeal.τ).loc Cert.ReferenceCastOutIdeal.main_arg0)
      ∧ r.2.mem ((c.tc : Thread Cert.ReferenceCastOutIdeal.nD Cert.ReferenceCastOutIdeal.τ).loc Cert.ReferenceCastOutIdeal.main_arg1) = m ((c.tc : Thread Cert.ReferenceCastOutIdeal.nD Cert.ReferenceCastOutIdeal.τ).loc Cert.ReferenceCastOutIdeal.main_arg1))
      ∧ r.2.sem = fun _ => 0)

def quiescent_KernelCastUp [hKernelCastUp : Cert.KernelCastUp.Facts] : Prop :=
  ∀ (m : (ℓ : Loc Cert.KernelCastUp.nD Cert.KernelCastUp.τ Cert.KernelCastUp.sig) → Buf (Elt Bits) ℓ) (g : Dev Cert.KernelCastUp.nD → PrngReg), Pre_KernelCastUp m →
    θ_run (Cert.KernelCastUp.defs (F := Bits)) (onTc (τ := Cert.KernelCastUp.τ) (Cert.KernelCastUp.main (F := Bits))) ⟨m, fun _ => 0, g⟩ (fun r => (∀ c : Dev Cert.KernelCastUp.nD,
      r.2.mem ((c.tc : Thread Cert.KernelCastUp.nD Cert.KernelCastUp.τ).loc Cert.KernelCastUp.main_arg0) = m ((c.tc : Thread Cert.KernelCastUp.nD Cert.KernelCastUp.τ).loc Cert.KernelCastUp.main_arg0)
      ∧ r.2.mem ((c.tc : Thread Cert.KernelCastUp.nD Cert.KernelCastUp.τ).loc Cert.KernelCastUp.main_arg1) = m ((c.tc : Thread Cert.KernelCastUp.nD Cert.KernelCastUp.τ).loc Cert.KernelCastUp.main_arg1))
      ∧ r.2.sem = fun _ => 0)

def quiescent_KernelCastUpIdeal [hKernelCastUpIdeal : Cert.KernelCastUpIdeal.Facts] : Prop :=
  ∀ (m : (ℓ : Loc Cert.KernelCastUpIdeal.nD Cert.KernelCastUpIdeal.τ Cert.KernelCastUpIdeal.sig) → Buf (Elt Ideal) ℓ) (g : Dev Cert.KernelCastUpIdeal.nD → PrngReg), Pre_KernelCastUpIdeal m →
    θ_run (Cert.KernelCastUpIdeal.defs (F := Ideal)) (onTc (τ := Cert.KernelCastUpIdeal.τ) (Cert.KernelCastUpIdeal.main (F := Ideal))) ⟨m, fun _ => 0, g⟩ (fun r => (∀ c : Dev Cert.KernelCastUpIdeal.nD,
      r.2.mem ((c.tc : Thread Cert.KernelCastUpIdeal.nD Cert.KernelCastUpIdeal.τ).loc Cert.KernelCastUpIdeal.main_arg0) = m ((c.tc : Thread Cert.KernelCastUpIdeal.nD Cert.KernelCastUpIdeal.τ).loc Cert.KernelCastUpIdeal.main_arg0)
      ∧ r.2.mem ((c.tc : Thread Cert.KernelCastUpIdeal.nD Cert.KernelCastUpIdeal.τ).loc Cert.KernelCastUpIdeal.main_arg1) = m ((c.tc : Thread Cert.KernelCastUpIdeal.nD Cert.KernelCastUpIdeal.τ).loc Cert.KernelCastUpIdeal.main_arg1))
      ∧ r.2.sem = fun _ => 0)

def quiescent_ReferenceCastUpIdeal [hReferenceCastUpIdeal : Cert.ReferenceCastUpIdeal.Facts] : Prop :=
  ∀ (m : (ℓ : Loc Cert.ReferenceCastUpIdeal.nD Cert.ReferenceCastUpIdeal.τ Cert.ReferenceCastUpIdeal.sig) → Buf (Elt Ideal) ℓ) (g : Dev Cert.ReferenceCastUpIdeal.nD → PrngReg), Pre_ReferenceCastUpIdeal m →
    θ_run (Cert.ReferenceCastUpIdeal.defs (F := Ideal)) (onTc (τ := Cert.ReferenceCastUpIdeal.τ) (Cert.ReferenceCastUpIdeal.main (F := Ideal))) ⟨m, fun _ => 0, g⟩ (fun r => (∀ c : Dev Cert.ReferenceCastUpIdeal.nD,
      r.2.mem ((c.tc : Thread Cert.ReferenceCastUpIdeal.nD Cert.ReferenceCastUpIdeal.τ).loc Cert.ReferenceCastUpIdeal.main_arg0) = m ((c.tc : Thread Cert.ReferenceCastUpIdeal.nD Cert.ReferenceCastUpIdeal.τ).loc Cert.ReferenceCastUpIdeal.main_arg0)
      ∧ r.2.mem ((c.tc : Thread Cert.ReferenceCastUpIdeal.nD Cert.ReferenceCastUpIdeal.τ).loc Cert.ReferenceCastUpIdeal.main_arg1) = m ((c.tc : Thread Cert.ReferenceCastUpIdeal.nD Cert.ReferenceCastUpIdeal.τ).loc Cert.ReferenceCastUpIdeal.main_arg1))
      ∧ r.2.sem = fun _ => 0)

def quiescent_KernelCastDown [hKernelCastDown : Cert.KernelCastDown.Facts] : Prop :=
  ∀ (m : (ℓ : Loc Cert.KernelCastDown.nD Cert.KernelCastDown.τ Cert.KernelCastDown.sig) → Buf (Elt Bits) ℓ) (g : Dev Cert.KernelCastDown.nD → PrngReg), Pre_KernelCastDown m →
    θ_run (Cert.KernelCastDown.defs (F := Bits)) (onTc (τ := Cert.KernelCastDown.τ) (Cert.KernelCastDown.main (F := Bits))) ⟨m, fun _ => 0, g⟩ (fun r => (∀ c : Dev Cert.KernelCastDown.nD,
      r.2.mem ((c.tc : Thread Cert.KernelCastDown.nD Cert.KernelCastDown.τ).loc Cert.KernelCastDown.main_arg0) = m ((c.tc : Thread Cert.KernelCastDown.nD Cert.KernelCastDown.τ).loc Cert.KernelCastDown.main_arg0)
      ∧ r.2.mem ((c.tc : Thread Cert.KernelCastDown.nD Cert.KernelCastDown.τ).loc Cert.KernelCastDown.main_arg1) = m ((c.tc : Thread Cert.KernelCastDown.nD Cert.KernelCastDown.τ).loc Cert.KernelCastDown.main_arg1))
      ∧ r.2.sem = fun _ => 0)

def quiescent_KernelCastDownIdeal [hKernelCastDownIdeal : Cert.KernelCastDownIdeal.Facts] : Prop :=
  ∀ (m : (ℓ : Loc Cert.KernelCastDownIdeal.nD Cert.KernelCastDownIdeal.τ Cert.KernelCastDownIdeal.sig) → Buf (Elt Ideal) ℓ) (g : Dev Cert.KernelCastDownIdeal.nD → PrngReg), Pre_KernelCastDownIdeal m →
    θ_run (Cert.KernelCastDownIdeal.defs (F := Ideal)) (onTc (τ := Cert.KernelCastDownIdeal.τ) (Cert.KernelCastDownIdeal.main (F := Ideal))) ⟨m, fun _ => 0, g⟩ (fun r => (∀ c : Dev Cert.KernelCastDownIdeal.nD,
      r.2.mem ((c.tc : Thread Cert.KernelCastDownIdeal.nD Cert.KernelCastDownIdeal.τ).loc Cert.KernelCastDownIdeal.main_arg0) = m ((c.tc : Thread Cert.KernelCastDownIdeal.nD Cert.KernelCastDownIdeal.τ).loc Cert.KernelCastDownIdeal.main_arg0)
      ∧ r.2.mem ((c.tc : Thread Cert.KernelCastDownIdeal.nD Cert.KernelCastDownIdeal.τ).loc Cert.KernelCastDownIdeal.main_arg1) = m ((c.tc : Thread Cert.KernelCastDownIdeal.nD Cert.KernelCastDownIdeal.τ).loc Cert.KernelCastDownIdeal.main_arg1))
      ∧ r.2.sem = fun _ => 0)

def quiescent_ReferenceCastDownIdeal [hReferenceCastDownIdeal : Cert.ReferenceCastDownIdeal.Facts] : Prop :=
  ∀ (m : (ℓ : Loc Cert.ReferenceCastDownIdeal.nD Cert.ReferenceCastDownIdeal.τ Cert.ReferenceCastDownIdeal.sig) → Buf (Elt Ideal) ℓ) (g : Dev Cert.ReferenceCastDownIdeal.nD → PrngReg), Pre_ReferenceCastDownIdeal m →
    θ_run (Cert.ReferenceCastDownIdeal.defs (F := Ideal)) (onTc (τ := Cert.ReferenceCastDownIdeal.τ) (Cert.ReferenceCastDownIdeal.main (F := Ideal))) ⟨m, fun _ => 0, g⟩ (fun r => (∀ c : Dev Cert.ReferenceCastDownIdeal.nD,
      r.2.mem ((c.tc : Thread Cert.ReferenceCastDownIdeal.nD Cert.ReferenceCastDownIdeal.τ).loc Cert.ReferenceCastDownIdeal.main_arg0) = m ((c.tc : Thread Cert.ReferenceCastDownIdeal.nD Cert.ReferenceCastDownIdeal.τ).loc Cert.ReferenceCastDownIdeal.main_arg0)
      ∧ r.2.mem ((c.tc : Thread Cert.ReferenceCastDownIdeal.nD Cert.ReferenceCastDownIdeal.τ).loc Cert.ReferenceCastDownIdeal.main_arg1) = m ((c.tc : Thread Cert.ReferenceCastDownIdeal.nD Cert.ReferenceCastDownIdeal.τ).loc Cert.ReferenceCastDownIdeal.main_arg1))
      ∧ r.2.sem = fun _ => 0)

def quiescent_KernelOwnIn [hKernelOwnIn : Cert.KernelOwnIn.Facts] : Prop :=
  ∀ (m : (ℓ : Loc Cert.KernelOwnIn.nD Cert.KernelOwnIn.τ Cert.KernelOwnIn.sig) → Buf (Elt Bits) ℓ) (g : Dev Cert.KernelOwnIn.nD → PrngReg), Pre_KernelOwnIn m →
    θ_run (Cert.KernelOwnIn.defs (F := Bits)) (onTc (τ := Cert.KernelOwnIn.τ) (Cert.KernelOwnIn.main (F := Bits))) ⟨m, fun _ => 0, g⟩ (fun r => (∀ c : Dev Cert.KernelOwnIn.nD,
      r.2.mem ((c.tc : Thread Cert.KernelOwnIn.nD Cert.KernelOwnIn.τ).loc Cert.KernelOwnIn.main_arg0) = m ((c.tc : Thread Cert.KernelOwnIn.nD Cert.KernelOwnIn.τ).loc Cert.KernelOwnIn.main_arg0))
      ∧ r.2.sem = fun _ => 0)

def quiescent_KernelOwnInIdeal [hKernelOwnInIdeal : Cert.KernelOwnInIdeal.Facts] : Prop :=
  ∀ (m : (ℓ : Loc Cert.KernelOwnInIdeal.nD Cert.KernelOwnInIdeal.τ Cert.KernelOwnInIdeal.sig) → Buf (Elt Ideal) ℓ) (g : Dev Cert.KernelOwnInIdeal.nD → PrngReg), Pre_KernelOwnInIdeal m →
    θ_run (Cert.KernelOwnInIdeal.defs (F := Ideal)) (onTc (τ := Cert.KernelOwnInIdeal.τ) (Cert.KernelOwnInIdeal.main (F := Ideal))) ⟨m, fun _ => 0, g⟩ (fun r => (∀ c : Dev Cert.KernelOwnInIdeal.nD,
      r.2.mem ((c.tc : Thread Cert.KernelOwnInIdeal.nD Cert.KernelOwnInIdeal.τ).loc Cert.KernelOwnInIdeal.main_arg0) = m ((c.tc : Thread Cert.KernelOwnInIdeal.nD Cert.KernelOwnInIdeal.τ).loc Cert.KernelOwnInIdeal.main_arg0))
      ∧ r.2.sem = fun _ => 0)

def quiescent_ReferenceOwnInIdeal [hReferenceOwnInIdeal : Cert.ReferenceOwnInIdeal.Facts] : Prop :=
  ∀ (m : (ℓ : Loc Cert.ReferenceOwnInIdeal.nD Cert.ReferenceOwnInIdeal.τ Cert.ReferenceOwnInIdeal.sig) → Buf (Elt Ideal) ℓ) (g : Dev Cert.ReferenceOwnInIdeal.nD → PrngReg), Pre_ReferenceOwnInIdeal m →
    θ_run (Cert.ReferenceOwnInIdeal.defs (F := Ideal)) (onTc (τ := Cert.ReferenceOwnInIdeal.τ) (Cert.ReferenceOwnInIdeal.main (F := Ideal))) ⟨m, fun _ => 0, g⟩ (fun r => (∀ c : Dev Cert.ReferenceOwnInIdeal.nD,
      r.2.mem ((c.tc : Thread Cert.ReferenceOwnInIdeal.nD Cert.ReferenceOwnInIdeal.τ).loc Cert.ReferenceOwnInIdeal.main_arg0) = m ((c.tc : Thread Cert.ReferenceOwnInIdeal.nD Cert.ReferenceOwnInIdeal.τ).loc Cert.ReferenceOwnInIdeal.main_arg0))
      ∧ r.2.sem = fun _ => 0)

def quiescent_KernelOwnOut [hKernelOwnOut : Cert.KernelOwnOut.Facts] : Prop :=
  ∀ (m : (ℓ : Loc Cert.KernelOwnOut.nD Cert.KernelOwnOut.τ Cert.KernelOwnOut.sig) → Buf (Elt Bits) ℓ) (g : Dev Cert.KernelOwnOut.nD → PrngReg), Pre_KernelOwnOut m →
    θ_run (Cert.KernelOwnOut.defs (F := Bits)) (onTc (τ := Cert.KernelOwnOut.τ) (Cert.KernelOwnOut.main (F := Bits))) ⟨m, fun _ => 0, g⟩ (fun r => (∀ c : Dev Cert.KernelOwnOut.nD,
      r.2.mem ((c.tc : Thread Cert.KernelOwnOut.nD Cert.KernelOwnOut.τ).loc Cert.KernelOwnOut.main_arg0) = m ((c.tc : Thread Cert.KernelOwnOut.nD Cert.KernelOwnOut.τ).loc Cert.KernelOwnOut.main_arg0))
      ∧ r.2.sem = fun _ => 0)

def quiescent_KernelOwnOutIdeal [hKernelOwnOutIdeal : Cert.KernelOwnOutIdeal.Facts] : Prop :=
  ∀ (m : (ℓ : Loc Cert.KernelOwnOutIdeal.nD Cert.KernelOwnOutIdeal.τ Cert.KernelOwnOutIdeal.sig) → Buf (Elt Ideal) ℓ) (g : Dev Cert.KernelOwnOutIdeal.nD → PrngReg), Pre_KernelOwnOutIdeal m →
    θ_run (Cert.KernelOwnOutIdeal.defs (F := Ideal)) (onTc (τ := Cert.KernelOwnOutIdeal.τ) (Cert.KernelOwnOutIdeal.main (F := Ideal))) ⟨m, fun _ => 0, g⟩ (fun r => (∀ c : Dev Cert.KernelOwnOutIdeal.nD,
      r.2.mem ((c.tc : Thread Cert.KernelOwnOutIdeal.nD Cert.KernelOwnOutIdeal.τ).loc Cert.KernelOwnOutIdeal.main_arg0) = m ((c.tc : Thread Cert.KernelOwnOutIdeal.nD Cert.KernelOwnOutIdeal.τ).loc Cert.KernelOwnOutIdeal.main_arg0))
      ∧ r.2.sem = fun _ => 0)

def quiescent_ReferenceOwnOutIdeal [hReferenceOwnOutIdeal : Cert.ReferenceOwnOutIdeal.Facts] : Prop :=
  ∀ (m : (ℓ : Loc Cert.ReferenceOwnOutIdeal.nD Cert.ReferenceOwnOutIdeal.τ Cert.ReferenceOwnOutIdeal.sig) → Buf (Elt Ideal) ℓ) (g : Dev Cert.ReferenceOwnOutIdeal.nD → PrngReg), Pre_ReferenceOwnOutIdeal m →
    θ_run (Cert.ReferenceOwnOutIdeal.defs (F := Ideal)) (onTc (τ := Cert.ReferenceOwnOutIdeal.τ) (Cert.ReferenceOwnOutIdeal.main (F := Ideal))) ⟨m, fun _ => 0, g⟩ (fun r => (∀ c : Dev Cert.ReferenceOwnOutIdeal.nD,
      r.2.mem ((c.tc : Thread Cert.ReferenceOwnOutIdeal.nD Cert.ReferenceOwnOutIdeal.τ).loc Cert.ReferenceOwnOutIdeal.main_arg0) = m ((c.tc : Thread Cert.ReferenceOwnOutIdeal.nD Cert.ReferenceOwnOutIdeal.τ).loc Cert.ReferenceOwnOutIdeal.main_arg0))
      ∧ r.2.sem = fun _ => 0)

def quiescent_KernelOwnUp [hKernelOwnUp : Cert.KernelOwnUp.Facts] : Prop :=
  ∀ (m : (ℓ : Loc Cert.KernelOwnUp.nD Cert.KernelOwnUp.τ Cert.KernelOwnUp.sig) → Buf (Elt Bits) ℓ) (g : Dev Cert.KernelOwnUp.nD → PrngReg), Pre_KernelOwnUp m →
    θ_run (Cert.KernelOwnUp.defs (F := Bits)) (onTc (τ := Cert.KernelOwnUp.τ) (Cert.KernelOwnUp.main (F := Bits))) ⟨m, fun _ => 0, g⟩ (fun r => (∀ c : Dev Cert.KernelOwnUp.nD,
      r.2.mem ((c.tc : Thread Cert.KernelOwnUp.nD Cert.KernelOwnUp.τ).loc Cert.KernelOwnUp.main_arg0) = m ((c.tc : Thread Cert.KernelOwnUp.nD Cert.KernelOwnUp.τ).loc Cert.KernelOwnUp.main_arg0))
      ∧ r.2.sem = fun _ => 0)

def quiescent_KernelOwnUpIdeal [hKernelOwnUpIdeal : Cert.KernelOwnUpIdeal.Facts] : Prop :=
  ∀ (m : (ℓ : Loc Cert.KernelOwnUpIdeal.nD Cert.KernelOwnUpIdeal.τ Cert.KernelOwnUpIdeal.sig) → Buf (Elt Ideal) ℓ) (g : Dev Cert.KernelOwnUpIdeal.nD → PrngReg), Pre_KernelOwnUpIdeal m →
    θ_run (Cert.KernelOwnUpIdeal.defs (F := Ideal)) (onTc (τ := Cert.KernelOwnUpIdeal.τ) (Cert.KernelOwnUpIdeal.main (F := Ideal))) ⟨m, fun _ => 0, g⟩ (fun r => (∀ c : Dev Cert.KernelOwnUpIdeal.nD,
      r.2.mem ((c.tc : Thread Cert.KernelOwnUpIdeal.nD Cert.KernelOwnUpIdeal.τ).loc Cert.KernelOwnUpIdeal.main_arg0) = m ((c.tc : Thread Cert.KernelOwnUpIdeal.nD Cert.KernelOwnUpIdeal.τ).loc Cert.KernelOwnUpIdeal.main_arg0))
      ∧ r.2.sem = fun _ => 0)

def quiescent_ReferenceOwnUpIdeal [hReferenceOwnUpIdeal : Cert.ReferenceOwnUpIdeal.Facts] : Prop :=
  ∀ (m : (ℓ : Loc Cert.ReferenceOwnUpIdeal.nD Cert.ReferenceOwnUpIdeal.τ Cert.ReferenceOwnUpIdeal.sig) → Buf (Elt Ideal) ℓ) (g : Dev Cert.ReferenceOwnUpIdeal.nD → PrngReg), Pre_ReferenceOwnUpIdeal m →
    θ_run (Cert.ReferenceOwnUpIdeal.defs (F := Ideal)) (onTc (τ := Cert.ReferenceOwnUpIdeal.τ) (Cert.ReferenceOwnUpIdeal.main (F := Ideal))) ⟨m, fun _ => 0, g⟩ (fun r => (∀ c : Dev Cert.ReferenceOwnUpIdeal.nD,
      r.2.mem ((c.tc : Thread Cert.ReferenceOwnUpIdeal.nD Cert.ReferenceOwnUpIdeal.τ).loc Cert.ReferenceOwnUpIdeal.main_arg0) = m ((c.tc : Thread Cert.ReferenceOwnUpIdeal.nD Cert.ReferenceOwnUpIdeal.τ).loc Cert.ReferenceOwnUpIdeal.main_arg0))
      ∧ r.2.sem = fun _ => 0)

def quiescent_KernelOwnDown [hKernelOwnDown : Cert.KernelOwnDown.Facts] : Prop :=
  ∀ (m : (ℓ : Loc Cert.KernelOwnDown.nD Cert.KernelOwnDown.τ Cert.KernelOwnDown.sig) → Buf (Elt Bits) ℓ) (g : Dev Cert.KernelOwnDown.nD → PrngReg), Pre_KernelOwnDown m →
    θ_run (Cert.KernelOwnDown.defs (F := Bits)) (onTc (τ := Cert.KernelOwnDown.τ) (Cert.KernelOwnDown.main (F := Bits))) ⟨m, fun _ => 0, g⟩ (fun r => (∀ c : Dev Cert.KernelOwnDown.nD,
      r.2.mem ((c.tc : Thread Cert.KernelOwnDown.nD Cert.KernelOwnDown.τ).loc Cert.KernelOwnDown.main_arg0) = m ((c.tc : Thread Cert.KernelOwnDown.nD Cert.KernelOwnDown.τ).loc Cert.KernelOwnDown.main_arg0))
      ∧ r.2.sem = fun _ => 0)

def quiescent_KernelOwnDownIdeal [hKernelOwnDownIdeal : Cert.KernelOwnDownIdeal.Facts] : Prop :=
  ∀ (m : (ℓ : Loc Cert.KernelOwnDownIdeal.nD Cert.KernelOwnDownIdeal.τ Cert.KernelOwnDownIdeal.sig) → Buf (Elt Ideal) ℓ) (g : Dev Cert.KernelOwnDownIdeal.nD → PrngReg), Pre_KernelOwnDownIdeal m →
    θ_run (Cert.KernelOwnDownIdeal.defs (F := Ideal)) (onTc (τ := Cert.KernelOwnDownIdeal.τ) (Cert.KernelOwnDownIdeal.main (F := Ideal))) ⟨m, fun _ => 0, g⟩ (fun r => (∀ c : Dev Cert.KernelOwnDownIdeal.nD,
      r.2.mem ((c.tc : Thread Cert.KernelOwnDownIdeal.nD Cert.KernelOwnDownIdeal.τ).loc Cert.KernelOwnDownIdeal.main_arg0) = m ((c.tc : Thread Cert.KernelOwnDownIdeal.nD Cert.KernelOwnDownIdeal.τ).loc Cert.KernelOwnDownIdeal.main_arg0))
      ∧ r.2.sem = fun _ => 0)

def quiescent_ReferenceOwnDownIdeal [hReferenceOwnDownIdeal : Cert.ReferenceOwnDownIdeal.Facts] : Prop :=
  ∀ (m : (ℓ : Loc Cert.ReferenceOwnDownIdeal.nD Cert.ReferenceOwnDownIdeal.τ Cert.ReferenceOwnDownIdeal.sig) → Buf (Elt Ideal) ℓ) (g : Dev Cert.ReferenceOwnDownIdeal.nD → PrngReg), Pre_ReferenceOwnDownIdeal m →
    θ_run (Cert.ReferenceOwnDownIdeal.defs (F := Ideal)) (onTc (τ := Cert.ReferenceOwnDownIdeal.τ) (Cert.ReferenceOwnDownIdeal.main (F := Ideal))) ⟨m, fun _ => 0, g⟩ (fun r => (∀ c : Dev Cert.ReferenceOwnDownIdeal.nD,
      r.2.mem ((c.tc : Thread Cert.ReferenceOwnDownIdeal.nD Cert.ReferenceOwnDownIdeal.τ).loc Cert.ReferenceOwnDownIdeal.main_arg0) = m ((c.tc : Thread Cert.ReferenceOwnDownIdeal.nD Cert.ReferenceOwnDownIdeal.τ).loc Cert.ReferenceOwnDownIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_KernelDHn2_KernelDHn2Ideal : Prop :=
  True

def algebraic_KernelDHn2Ideal_ReferenceDHn2Ideal [hKernelDHn2Ideal : Cert.KernelDHn2Ideal.Facts] [hReferenceDHn2Ideal : Cert.ReferenceDHn2Ideal.Facts] : Prop :=
  ∀ (m : (ℓ : Loc Cert.KernelDHn2Ideal.nD Cert.KernelDHn2Ideal.τ Cert.KernelDHn2Ideal.sig) → Buf (Elt Ideal) ℓ) (g : Dev Cert.KernelDHn2Ideal.nD → PrngReg)
    (m' : (ℓ : Loc Cert.ReferenceDHn2Ideal.nD Cert.ReferenceDHn2Ideal.τ Cert.ReferenceDHn2Ideal.sig) → Buf (Elt Ideal) ℓ) (g' : Dev Cert.ReferenceDHn2Ideal.nD → PrngReg), Pre_KernelDHn2Ideal m →
    (∀ c : Dev Cert.KernelDHn2Ideal.nD,
      m' ((c.tc : Thread Cert.ReferenceDHn2Ideal.nD Cert.ReferenceDHn2Ideal.τ).loc Cert.ReferenceDHn2Ideal.main_arg0) = m ((c.tc : Thread Cert.KernelDHn2Ideal.nD Cert.KernelDHn2Ideal.τ).loc Cert.KernelDHn2Ideal.main_arg0)
      ∧ m' ((c.tc : Thread Cert.ReferenceDHn2Ideal.nD Cert.ReferenceDHn2Ideal.τ).loc Cert.ReferenceDHn2Ideal.main_arg1) = m ((c.tc : Thread Cert.KernelDHn2Ideal.nD Cert.KernelDHn2Ideal.τ).loc Cert.KernelDHn2Ideal.main_arg1)
      ∧ m' ((c.tc : Thread Cert.ReferenceDHn2Ideal.nD Cert.ReferenceDHn2Ideal.τ).loc Cert.ReferenceDHn2Ideal.main_arg2) = m ((c.tc : Thread Cert.KernelDHn2Ideal.nD Cert.KernelDHn2Ideal.τ).loc Cert.KernelDHn2Ideal.main_arg2)) →
    ∃ (v0 : (c : Dev Cert.KernelDHn2Ideal.nD) → Buf (Elt Ideal) ((c.tc : Thread Cert.KernelDHn2Ideal.nD Cert.KernelDHn2Ideal.τ).loc Cert.KernelDHn2Ideal.main_v0)),
      θ_run (Cert.KernelDHn2Ideal.defs (F := Ideal)) (onTc (τ := Cert.KernelDHn2Ideal.τ) (Cert.KernelDHn2Ideal.main (F := Ideal))) ⟨m, fun _ => 0, g⟩ (fun r => ∀ c : Dev Cert.KernelDHn2Ideal.nD,
          r.2.mem ((c.tc : Thread Cert.KernelDHn2Ideal.nD Cert.KernelDHn2Ideal.τ).loc Cert.KernelDHn2Ideal.main_v0) = v0 c
          ∧ r.2.mem ((c.tc : Thread Cert.KernelDHn2Ideal.nD Cert.KernelDHn2Ideal.τ).loc Cert.KernelDHn2Ideal.main_arg0) = m ((c.tc : Thread Cert.KernelDHn2Ideal.nD Cert.KernelDHn2Ideal.τ).loc Cert.KernelDHn2Ideal.main_arg0)
          ∧ r.2.mem ((c.tc : Thread Cert.KernelDHn2Ideal.nD Cert.KernelDHn2Ideal.τ).loc Cert.KernelDHn2Ideal.main_arg1) = m ((c.tc : Thread Cert.KernelDHn2Ideal.nD Cert.KernelDHn2Ideal.τ).loc Cert.KernelDHn2Ideal.main_arg1)
          ∧ r.2.mem ((c.tc : Thread Cert.KernelDHn2Ideal.nD Cert.KernelDHn2Ideal.τ).loc Cert.KernelDHn2Ideal.main_arg2) = m ((c.tc : Thread Cert.KernelDHn2Ideal.nD Cert.KernelDHn2Ideal.τ).loc Cert.KernelDHn2Ideal.main_arg2))
      ∧ θ_run (Cert.ReferenceDHn2Ideal.defs (F := Ideal)) (onTc (τ := Cert.ReferenceDHn2Ideal.τ) (Cert.ReferenceDHn2Ideal.main (F := Ideal))) ⟨m', fun _ => 0, g'⟩ (fun r => ∀ c : Dev Cert.ReferenceDHn2Ideal.nD,
          r.2.mem ((c.tc : Thread Cert.ReferenceDHn2Ideal.nD Cert.ReferenceDHn2Ideal.τ).loc Cert.ReferenceDHn2Ideal.main_v6) = v0 c
          ∧ r.2.mem ((c.tc : Thread Cert.ReferenceDHn2Ideal.nD Cert.ReferenceDHn2Ideal.τ).loc Cert.ReferenceDHn2Ideal.main_arg0) = m' ((c.tc : Thread Cert.ReferenceDHn2Ideal.nD Cert.ReferenceDHn2Ideal.τ).loc Cert.ReferenceDHn2Ideal.main_arg0)
          ∧ r.2.mem ((c.tc : Thread Cert.ReferenceDHn2Ideal.nD Cert.ReferenceDHn2Ideal.τ).loc Cert.ReferenceDHn2Ideal.main_arg1) = m' ((c.tc : Thread Cert.ReferenceDHn2Ideal.nD Cert.ReferenceDHn2Ideal.τ).loc Cert.ReferenceDHn2Ideal.main_arg1)
          ∧ r.2.mem ((c.tc : Thread Cert.ReferenceDHn2Ideal.nD Cert.ReferenceDHn2Ideal.τ).loc Cert.ReferenceDHn2Ideal.main_arg2) = m' ((c.tc : Thread Cert.ReferenceDHn2Ideal.nD Cert.ReferenceDHn2Ideal.τ).loc Cert.ReferenceDHn2Ideal.main_arg2))

def preserves_KernelDAct_KernelDActIdeal : Prop :=
  True

def algebraic_KernelDActIdeal_ReferenceDActIdeal [hKernelDActIdeal : Cert.KernelDActIdeal.Facts] [hReferenceDActIdeal : Cert.ReferenceDActIdeal.Facts] : Prop :=
  ∀ (m : (ℓ : Loc Cert.KernelDActIdeal.nD Cert.KernelDActIdeal.τ Cert.KernelDActIdeal.sig) → Buf (Elt Ideal) ℓ) (g : Dev Cert.KernelDActIdeal.nD → PrngReg)
    (m' : (ℓ : Loc Cert.ReferenceDActIdeal.nD Cert.ReferenceDActIdeal.τ Cert.ReferenceDActIdeal.sig) → Buf (Elt Ideal) ℓ) (g' : Dev Cert.ReferenceDActIdeal.nD → PrngReg), Pre_KernelDActIdeal m →
    (∀ c : Dev Cert.KernelDActIdeal.nD,
      m' ((c.tc : Thread Cert.ReferenceDActIdeal.nD Cert.ReferenceDActIdeal.τ).loc Cert.ReferenceDActIdeal.main_arg0) = m ((c.tc : Thread Cert.KernelDActIdeal.nD Cert.KernelDActIdeal.τ).loc Cert.KernelDActIdeal.main_arg0)
      ∧ m' ((c.tc : Thread Cert.ReferenceDActIdeal.nD Cert.ReferenceDActIdeal.τ).loc Cert.ReferenceDActIdeal.main_arg1) = m ((c.tc : Thread Cert.KernelDActIdeal.nD Cert.KernelDActIdeal.τ).loc Cert.KernelDActIdeal.main_arg1)
      ∧ m' ((c.tc : Thread Cert.ReferenceDActIdeal.nD Cert.ReferenceDActIdeal.τ).loc Cert.ReferenceDActIdeal.main_arg2) = m ((c.tc : Thread Cert.KernelDActIdeal.nD Cert.KernelDActIdeal.τ).loc Cert.KernelDActIdeal.main_arg2)) →
    ∃ (v0 : (c : Dev Cert.KernelDActIdeal.nD) → Buf (Elt Ideal) ((c.tc : Thread Cert.KernelDActIdeal.nD Cert.KernelDActIdeal.τ).loc Cert.KernelDActIdeal.main_v0)),
      θ_run (Cert.KernelDActIdeal.defs (F := Ideal)) (onTc (τ := Cert.KernelDActIdeal.τ) (Cert.KernelDActIdeal.main (F := Ideal))) ⟨m, fun _ => 0, g⟩ (fun r => ∀ c : Dev Cert.KernelDActIdeal.nD,
          r.2.mem ((c.tc : Thread Cert.KernelDActIdeal.nD Cert.KernelDActIdeal.τ).loc Cert.KernelDActIdeal.main_v0) = v0 c
          ∧ r.2.mem ((c.tc : Thread Cert.KernelDActIdeal.nD Cert.KernelDActIdeal.τ).loc Cert.KernelDActIdeal.main_arg0) = m ((c.tc : Thread Cert.KernelDActIdeal.nD Cert.KernelDActIdeal.τ).loc Cert.KernelDActIdeal.main_arg0)
          ∧ r.2.mem ((c.tc : Thread Cert.KernelDActIdeal.nD Cert.KernelDActIdeal.τ).loc Cert.KernelDActIdeal.main_arg1) = m ((c.tc : Thread Cert.KernelDActIdeal.nD Cert.KernelDActIdeal.τ).loc Cert.KernelDActIdeal.main_arg1)
          ∧ r.2.mem ((c.tc : Thread Cert.KernelDActIdeal.nD Cert.KernelDActIdeal.τ).loc Cert.KernelDActIdeal.main_arg2) = m ((c.tc : Thread Cert.KernelDActIdeal.nD Cert.KernelDActIdeal.τ).loc Cert.KernelDActIdeal.main_arg2))
      ∧ θ_run (Cert.ReferenceDActIdeal.defs (F := Ideal)) (onTc (τ := Cert.ReferenceDActIdeal.τ) (Cert.ReferenceDActIdeal.main (F := Ideal))) ⟨m', fun _ => 0, g'⟩ (fun r => ∀ c : Dev Cert.ReferenceDActIdeal.nD,
          r.2.mem ((c.tc : Thread Cert.ReferenceDActIdeal.nD Cert.ReferenceDActIdeal.τ).loc Cert.ReferenceDActIdeal.main_v7) = v0 c
          ∧ r.2.mem ((c.tc : Thread Cert.ReferenceDActIdeal.nD Cert.ReferenceDActIdeal.τ).loc Cert.ReferenceDActIdeal.main_arg0) = m' ((c.tc : Thread Cert.ReferenceDActIdeal.nD Cert.ReferenceDActIdeal.τ).loc Cert.ReferenceDActIdeal.main_arg0)
          ∧ r.2.mem ((c.tc : Thread Cert.ReferenceDActIdeal.nD Cert.ReferenceDActIdeal.τ).loc Cert.ReferenceDActIdeal.main_arg1) = m' ((c.tc : Thread Cert.ReferenceDActIdeal.nD Cert.ReferenceDActIdeal.τ).loc Cert.ReferenceDActIdeal.main_arg1)
          ∧ r.2.mem ((c.tc : Thread Cert.ReferenceDActIdeal.nD Cert.ReferenceDActIdeal.τ).loc Cert.ReferenceDActIdeal.main_arg2) = m' ((c.tc : Thread Cert.ReferenceDActIdeal.nD Cert.ReferenceDActIdeal.τ).loc Cert.ReferenceDActIdeal.main_arg2))

def preserves_KernelDHn1_KernelDHn1Ideal : Prop :=
  True

def algebraic_KernelDHn1Ideal_ReferenceDHn1Ideal [hKernelDHn1Ideal : Cert.KernelDHn1Ideal.Facts] [hReferenceDHn1Ideal : Cert.ReferenceDHn1Ideal.Facts] : Prop :=
  ∀ (m : (ℓ : Loc Cert.KernelDHn1Ideal.nD Cert.KernelDHn1Ideal.τ Cert.KernelDHn1Ideal.sig) → Buf (Elt Ideal) ℓ) (g : Dev Cert.KernelDHn1Ideal.nD → PrngReg)
    (m' : (ℓ : Loc Cert.ReferenceDHn1Ideal.nD Cert.ReferenceDHn1Ideal.τ Cert.ReferenceDHn1Ideal.sig) → Buf (Elt Ideal) ℓ) (g' : Dev Cert.ReferenceDHn1Ideal.nD → PrngReg), Pre_KernelDHn1Ideal m →
    (∀ c : Dev Cert.KernelDHn1Ideal.nD,
      m' ((c.tc : Thread Cert.ReferenceDHn1Ideal.nD Cert.ReferenceDHn1Ideal.τ).loc Cert.ReferenceDHn1Ideal.main_arg0) = m ((c.tc : Thread Cert.KernelDHn1Ideal.nD Cert.KernelDHn1Ideal.τ).loc Cert.KernelDHn1Ideal.main_arg0)
      ∧ m' ((c.tc : Thread Cert.ReferenceDHn1Ideal.nD Cert.ReferenceDHn1Ideal.τ).loc Cert.ReferenceDHn1Ideal.main_arg1) = m ((c.tc : Thread Cert.KernelDHn1Ideal.nD Cert.KernelDHn1Ideal.τ).loc Cert.KernelDHn1Ideal.main_arg1)
      ∧ m' ((c.tc : Thread Cert.ReferenceDHn1Ideal.nD Cert.ReferenceDHn1Ideal.τ).loc Cert.ReferenceDHn1Ideal.main_arg2) = m ((c.tc : Thread Cert.KernelDHn1Ideal.nD Cert.KernelDHn1Ideal.τ).loc Cert.KernelDHn1Ideal.main_arg2)) →
    ∃ (v0 : (c : Dev Cert.KernelDHn1Ideal.nD) → Buf (Elt Ideal) ((c.tc : Thread Cert.KernelDHn1Ideal.nD Cert.KernelDHn1Ideal.τ).loc Cert.KernelDHn1Ideal.main_v0)),
      θ_run (Cert.KernelDHn1Ideal.defs (F := Ideal)) (onTc (τ := Cert.KernelDHn1Ideal.τ) (Cert.KernelDHn1Ideal.main (F := Ideal))) ⟨m, fun _ => 0, g⟩ (fun r => ∀ c : Dev Cert.KernelDHn1Ideal.nD,
          r.2.mem ((c.tc : Thread Cert.KernelDHn1Ideal.nD Cert.KernelDHn1Ideal.τ).loc Cert.KernelDHn1Ideal.main_v0) = v0 c
          ∧ r.2.mem ((c.tc : Thread Cert.KernelDHn1Ideal.nD Cert.KernelDHn1Ideal.τ).loc Cert.KernelDHn1Ideal.main_arg0) = m ((c.tc : Thread Cert.KernelDHn1Ideal.nD Cert.KernelDHn1Ideal.τ).loc Cert.KernelDHn1Ideal.main_arg0)
          ∧ r.2.mem ((c.tc : Thread Cert.KernelDHn1Ideal.nD Cert.KernelDHn1Ideal.τ).loc Cert.KernelDHn1Ideal.main_arg1) = m ((c.tc : Thread Cert.KernelDHn1Ideal.nD Cert.KernelDHn1Ideal.τ).loc Cert.KernelDHn1Ideal.main_arg1)
          ∧ r.2.mem ((c.tc : Thread Cert.KernelDHn1Ideal.nD Cert.KernelDHn1Ideal.τ).loc Cert.KernelDHn1Ideal.main_arg2) = m ((c.tc : Thread Cert.KernelDHn1Ideal.nD Cert.KernelDHn1Ideal.τ).loc Cert.KernelDHn1Ideal.main_arg2))
      ∧ θ_run (Cert.ReferenceDHn1Ideal.defs (F := Ideal)) (onTc (τ := Cert.ReferenceDHn1Ideal.τ) (Cert.ReferenceDHn1Ideal.main (F := Ideal))) ⟨m', fun _ => 0, g'⟩ (fun r => ∀ c : Dev Cert.ReferenceDHn1Ideal.nD,
          r.2.mem ((c.tc : Thread Cert.ReferenceDHn1Ideal.nD Cert.ReferenceDHn1Ideal.τ).loc Cert.ReferenceDHn1Ideal.main_v6) = v0 c
          ∧ r.2.mem ((c.tc : Thread Cert.ReferenceDHn1Ideal.nD Cert.ReferenceDHn1Ideal.τ).loc Cert.ReferenceDHn1Ideal.main_arg0) = m' ((c.tc : Thread Cert.ReferenceDHn1Ideal.nD Cert.ReferenceDHn1Ideal.τ).loc Cert.ReferenceDHn1Ideal.main_arg0)
          ∧ r.2.mem ((c.tc : Thread Cert.ReferenceDHn1Ideal.nD Cert.ReferenceDHn1Ideal.τ).loc Cert.ReferenceDHn1Ideal.main_arg1) = m' ((c.tc : Thread Cert.ReferenceDHn1Ideal.nD Cert.ReferenceDHn1Ideal.τ).loc Cert.ReferenceDHn1Ideal.main_arg1)
          ∧ r.2.mem ((c.tc : Thread Cert.ReferenceDHn1Ideal.nD Cert.ReferenceDHn1Ideal.τ).loc Cert.ReferenceDHn1Ideal.main_arg2) = m' ((c.tc : Thread Cert.ReferenceDHn1Ideal.nD Cert.ReferenceDHn1Ideal.τ).loc Cert.ReferenceDHn1Ideal.main_arg2))

def preserves_KernelDMix_KernelDMixIdeal : Prop :=
  True

def algebraic_KernelDMixIdeal_ReferenceDMixIdeal [hKernelDMixIdeal : Cert.KernelDMixIdeal.Facts] [hReferenceDMixIdeal : Cert.ReferenceDMixIdeal.Facts] : Prop :=
  ∀ (m : (ℓ : Loc Cert.KernelDMixIdeal.nD Cert.KernelDMixIdeal.τ Cert.KernelDMixIdeal.sig) → Buf (Elt Ideal) ℓ) (g : Dev Cert.KernelDMixIdeal.nD → PrngReg)
    (m' : (ℓ : Loc Cert.ReferenceDMixIdeal.nD Cert.ReferenceDMixIdeal.τ Cert.ReferenceDMixIdeal.sig) → Buf (Elt Ideal) ℓ) (g' : Dev Cert.ReferenceDMixIdeal.nD → PrngReg), Pre_KernelDMixIdeal m →
    (∀ c : Dev Cert.KernelDMixIdeal.nD,
      m' ((c.tc : Thread Cert.ReferenceDMixIdeal.nD Cert.ReferenceDMixIdeal.τ).loc Cert.ReferenceDMixIdeal.main_arg0) = m ((c.tc : Thread Cert.KernelDMixIdeal.nD Cert.KernelDMixIdeal.τ).loc Cert.KernelDMixIdeal.main_arg0)
      ∧ m' ((c.tc : Thread Cert.ReferenceDMixIdeal.nD Cert.ReferenceDMixIdeal.τ).loc Cert.ReferenceDMixIdeal.main_arg1) = m ((c.tc : Thread Cert.KernelDMixIdeal.nD Cert.KernelDMixIdeal.τ).loc Cert.KernelDMixIdeal.main_arg1)
      ∧ m' ((c.tc : Thread Cert.ReferenceDMixIdeal.nD Cert.ReferenceDMixIdeal.τ).loc Cert.ReferenceDMixIdeal.main_arg2) = m ((c.tc : Thread Cert.KernelDMixIdeal.nD Cert.KernelDMixIdeal.τ).loc Cert.KernelDMixIdeal.main_arg2)) →
    ∃ (v0 : (c : Dev Cert.KernelDMixIdeal.nD) → Buf (Elt Ideal) ((c.tc : Thread Cert.KernelDMixIdeal.nD Cert.KernelDMixIdeal.τ).loc Cert.KernelDMixIdeal.main_v0)),
      θ_run (Cert.KernelDMixIdeal.defs (F := Ideal)) (onTc (τ := Cert.KernelDMixIdeal.τ) (Cert.KernelDMixIdeal.main (F := Ideal))) ⟨m, fun _ => 0, g⟩ (fun r => ∀ c : Dev Cert.KernelDMixIdeal.nD,
          r.2.mem ((c.tc : Thread Cert.KernelDMixIdeal.nD Cert.KernelDMixIdeal.τ).loc Cert.KernelDMixIdeal.main_v0) = v0 c
          ∧ r.2.mem ((c.tc : Thread Cert.KernelDMixIdeal.nD Cert.KernelDMixIdeal.τ).loc Cert.KernelDMixIdeal.main_arg0) = m ((c.tc : Thread Cert.KernelDMixIdeal.nD Cert.KernelDMixIdeal.τ).loc Cert.KernelDMixIdeal.main_arg0)
          ∧ r.2.mem ((c.tc : Thread Cert.KernelDMixIdeal.nD Cert.KernelDMixIdeal.τ).loc Cert.KernelDMixIdeal.main_arg1) = m ((c.tc : Thread Cert.KernelDMixIdeal.nD Cert.KernelDMixIdeal.τ).loc Cert.KernelDMixIdeal.main_arg1)
          ∧ r.2.mem ((c.tc : Thread Cert.KernelDMixIdeal.nD Cert.KernelDMixIdeal.τ).loc Cert.KernelDMixIdeal.main_arg2) = m ((c.tc : Thread Cert.KernelDMixIdeal.nD Cert.KernelDMixIdeal.τ).loc Cert.KernelDMixIdeal.main_arg2))
      ∧ θ_run (Cert.ReferenceDMixIdeal.defs (F := Ideal)) (onTc (τ := Cert.ReferenceDMixIdeal.τ) (Cert.ReferenceDMixIdeal.main (F := Ideal))) ⟨m', fun _ => 0, g'⟩ (fun r => ∀ c : Dev Cert.ReferenceDMixIdeal.nD,
          r.2.mem ((c.tc : Thread Cert.ReferenceDMixIdeal.nD Cert.ReferenceDMixIdeal.τ).loc Cert.ReferenceDMixIdeal.main_v6) = v0 c
          ∧ r.2.mem ((c.tc : Thread Cert.ReferenceDMixIdeal.nD Cert.ReferenceDMixIdeal.τ).loc Cert.ReferenceDMixIdeal.main_arg0) = m' ((c.tc : Thread Cert.ReferenceDMixIdeal.nD Cert.ReferenceDMixIdeal.τ).loc Cert.ReferenceDMixIdeal.main_arg0)
          ∧ r.2.mem ((c.tc : Thread Cert.ReferenceDMixIdeal.nD Cert.ReferenceDMixIdeal.τ).loc Cert.ReferenceDMixIdeal.main_arg1) = m' ((c.tc : Thread Cert.ReferenceDMixIdeal.nD Cert.ReferenceDMixIdeal.τ).loc Cert.ReferenceDMixIdeal.main_arg1)
          ∧ r.2.mem ((c.tc : Thread Cert.ReferenceDMixIdeal.nD Cert.ReferenceDMixIdeal.τ).loc Cert.ReferenceDMixIdeal.main_arg2) = m' ((c.tc : Thread Cert.ReferenceDMixIdeal.nD Cert.ReferenceDMixIdeal.τ).loc Cert.ReferenceDMixIdeal.main_arg2))

def preserves_KernelGUpS_KernelGUpSIdeal : Prop :=
  True

def algebraic_KernelGUpSIdeal_ReferenceGUpSIdeal [hKernelGUpSIdeal : Cert.KernelGUpSIdeal.Facts] [hReferenceGUpSIdeal : Cert.ReferenceGUpSIdeal.Facts] : Prop :=
  ∀ (m : (ℓ : Loc Cert.KernelGUpSIdeal.nD Cert.KernelGUpSIdeal.τ Cert.KernelGUpSIdeal.sig) → Buf (Elt Ideal) ℓ) (g : Dev Cert.KernelGUpSIdeal.nD → PrngReg)
    (m' : (ℓ : Loc Cert.ReferenceGUpSIdeal.nD Cert.ReferenceGUpSIdeal.τ Cert.ReferenceGUpSIdeal.sig) → Buf (Elt Ideal) ℓ) (g' : Dev Cert.ReferenceGUpSIdeal.nD → PrngReg), Pre_KernelGUpSIdeal m →
    (∀ c : Dev Cert.KernelGUpSIdeal.nD,
      m' ((c.tc : Thread Cert.ReferenceGUpSIdeal.nD Cert.ReferenceGUpSIdeal.τ).loc Cert.ReferenceGUpSIdeal.main_arg0) = m ((c.tc : Thread Cert.KernelGUpSIdeal.nD Cert.KernelGUpSIdeal.τ).loc Cert.KernelGUpSIdeal.main_arg0)
      ∧ m' ((c.tc : Thread Cert.ReferenceGUpSIdeal.nD Cert.ReferenceGUpSIdeal.τ).loc Cert.ReferenceGUpSIdeal.main_arg1) = m ((c.tc : Thread Cert.KernelGUpSIdeal.nD Cert.KernelGUpSIdeal.τ).loc Cert.KernelGUpSIdeal.main_arg1)) →
    ∃ (v0 : (c : Dev Cert.KernelGUpSIdeal.nD) → Buf (Elt Ideal) ((c.tc : Thread Cert.KernelGUpSIdeal.nD Cert.KernelGUpSIdeal.τ).loc Cert.KernelGUpSIdeal.main_v1)),
      θ_run (Cert.KernelGUpSIdeal.defs (F := Ideal)) (onTc (τ := Cert.KernelGUpSIdeal.τ) (Cert.KernelGUpSIdeal.main (F := Ideal))) ⟨m, fun _ => 0, g⟩ (fun r => ∀ c : Dev Cert.KernelGUpSIdeal.nD,
          r.2.mem ((c.tc : Thread Cert.KernelGUpSIdeal.nD Cert.KernelGUpSIdeal.τ).loc Cert.KernelGUpSIdeal.main_v1) = v0 c
          ∧ r.2.mem ((c.tc : Thread Cert.KernelGUpSIdeal.nD Cert.KernelGUpSIdeal.τ).loc Cert.KernelGUpSIdeal.main_arg0) = m ((c.tc : Thread Cert.KernelGUpSIdeal.nD Cert.KernelGUpSIdeal.τ).loc Cert.KernelGUpSIdeal.main_arg0)
          ∧ r.2.mem ((c.tc : Thread Cert.KernelGUpSIdeal.nD Cert.KernelGUpSIdeal.τ).loc Cert.KernelGUpSIdeal.main_arg1) = m ((c.tc : Thread Cert.KernelGUpSIdeal.nD Cert.KernelGUpSIdeal.τ).loc Cert.KernelGUpSIdeal.main_arg1))
      ∧ θ_run (Cert.ReferenceGUpSIdeal.defs (F := Ideal)) (onTc (τ := Cert.ReferenceGUpSIdeal.τ) (Cert.ReferenceGUpSIdeal.main (F := Ideal))) ⟨m', fun _ => 0, g'⟩ (fun r => ∀ c : Dev Cert.ReferenceGUpSIdeal.nD,
          r.2.mem ((c.tc : Thread Cert.ReferenceGUpSIdeal.nD Cert.ReferenceGUpSIdeal.τ).loc Cert.ReferenceGUpSIdeal.main_v9) = v0 c
          ∧ r.2.mem ((c.tc : Thread Cert.ReferenceGUpSIdeal.nD Cert.ReferenceGUpSIdeal.τ).loc Cert.ReferenceGUpSIdeal.main_arg0) = m' ((c.tc : Thread Cert.ReferenceGUpSIdeal.nD Cert.ReferenceGUpSIdeal.τ).loc Cert.ReferenceGUpSIdeal.main_arg0)
          ∧ r.2.mem ((c.tc : Thread Cert.ReferenceGUpSIdeal.nD Cert.ReferenceGUpSIdeal.τ).loc Cert.ReferenceGUpSIdeal.main_arg1) = m' ((c.tc : Thread Cert.ReferenceGUpSIdeal.nD Cert.ReferenceGUpSIdeal.τ).loc Cert.ReferenceGUpSIdeal.main_arg1))

def preserves_KernelGUpO_KernelGUpOIdeal : Prop :=
  True

def algebraic_KernelGUpOIdeal_ReferenceGUpOIdeal [hKernelGUpOIdeal : Cert.KernelGUpOIdeal.Facts] [hReferenceGUpOIdeal : Cert.ReferenceGUpOIdeal.Facts] : Prop :=
  ∀ (m : (ℓ : Loc Cert.KernelGUpOIdeal.nD Cert.KernelGUpOIdeal.τ Cert.KernelGUpOIdeal.sig) → Buf (Elt Ideal) ℓ) (g : Dev Cert.KernelGUpOIdeal.nD → PrngReg)
    (m' : (ℓ : Loc Cert.ReferenceGUpOIdeal.nD Cert.ReferenceGUpOIdeal.τ Cert.ReferenceGUpOIdeal.sig) → Buf (Elt Ideal) ℓ) (g' : Dev Cert.ReferenceGUpOIdeal.nD → PrngReg), Pre_KernelGUpOIdeal m →
    (∀ c : Dev Cert.KernelGUpOIdeal.nD,
      m' ((c.tc : Thread Cert.ReferenceGUpOIdeal.nD Cert.ReferenceGUpOIdeal.τ).loc Cert.ReferenceGUpOIdeal.main_arg0) = m ((c.tc : Thread Cert.KernelGUpOIdeal.nD Cert.KernelGUpOIdeal.τ).loc Cert.KernelGUpOIdeal.main_arg0)
      ∧ m' ((c.tc : Thread Cert.ReferenceGUpOIdeal.nD Cert.ReferenceGUpOIdeal.τ).loc Cert.ReferenceGUpOIdeal.main_arg1) = m ((c.tc : Thread Cert.KernelGUpOIdeal.nD Cert.KernelGUpOIdeal.τ).loc Cert.KernelGUpOIdeal.main_arg1)
      ∧ m' ((c.tc : Thread Cert.ReferenceGUpOIdeal.nD Cert.ReferenceGUpOIdeal.τ).loc Cert.ReferenceGUpOIdeal.main_arg2) = m ((c.tc : Thread Cert.KernelGUpOIdeal.nD Cert.KernelGUpOIdeal.τ).loc Cert.KernelGUpOIdeal.main_arg2)) →
    ∃ (v0 : (c : Dev Cert.KernelGUpOIdeal.nD) → Buf (Elt Ideal) ((c.tc : Thread Cert.KernelGUpOIdeal.nD Cert.KernelGUpOIdeal.τ).loc Cert.KernelGUpOIdeal.main_v1)),
      θ_run (Cert.KernelGUpOIdeal.defs (F := Ideal)) (onTc (τ := Cert.KernelGUpOIdeal.τ) (Cert.KernelGUpOIdeal.main (F := Ideal))) ⟨m, fun _ => 0, g⟩ (fun r => ∀ c : Dev Cert.KernelGUpOIdeal.nD,
          r.2.mem ((c.tc : Thread Cert.KernelGUpOIdeal.nD Cert.KernelGUpOIdeal.τ).loc Cert.KernelGUpOIdeal.main_v1) = v0 c
          ∧ r.2.mem ((c.tc : Thread Cert.KernelGUpOIdeal.nD Cert.KernelGUpOIdeal.τ).loc Cert.KernelGUpOIdeal.main_arg0) = m ((c.tc : Thread Cert.KernelGUpOIdeal.nD Cert.KernelGUpOIdeal.τ).loc Cert.KernelGUpOIdeal.main_arg0)
          ∧ r.2.mem ((c.tc : Thread Cert.KernelGUpOIdeal.nD Cert.KernelGUpOIdeal.τ).loc Cert.KernelGUpOIdeal.main_arg1) = m ((c.tc : Thread Cert.KernelGUpOIdeal.nD Cert.KernelGUpOIdeal.τ).loc Cert.KernelGUpOIdeal.main_arg1)
          ∧ r.2.mem ((c.tc : Thread Cert.KernelGUpOIdeal.nD Cert.KernelGUpOIdeal.τ).loc Cert.KernelGUpOIdeal.main_arg2) = m ((c.tc : Thread Cert.KernelGUpOIdeal.nD Cert.KernelGUpOIdeal.τ).loc Cert.KernelGUpOIdeal.main_arg2))
      ∧ θ_run (Cert.ReferenceGUpOIdeal.defs (F := Ideal)) (onTc (τ := Cert.ReferenceGUpOIdeal.τ) (Cert.ReferenceGUpOIdeal.main (F := Ideal))) ⟨m', fun _ => 0, g'⟩ (fun r => ∀ c : Dev Cert.ReferenceGUpOIdeal.nD,
          r.2.mem ((c.tc : Thread Cert.ReferenceGUpOIdeal.nD Cert.ReferenceGUpOIdeal.τ).loc Cert.ReferenceGUpOIdeal.main_v11) = v0 c
          ∧ r.2.mem ((c.tc : Thread Cert.ReferenceGUpOIdeal.nD Cert.ReferenceGUpOIdeal.τ).loc Cert.ReferenceGUpOIdeal.main_arg0) = m' ((c.tc : Thread Cert.ReferenceGUpOIdeal.nD Cert.ReferenceGUpOIdeal.τ).loc Cert.ReferenceGUpOIdeal.main_arg0)
          ∧ r.2.mem ((c.tc : Thread Cert.ReferenceGUpOIdeal.nD Cert.ReferenceGUpOIdeal.τ).loc Cert.ReferenceGUpOIdeal.main_arg1) = m' ((c.tc : Thread Cert.ReferenceGUpOIdeal.nD Cert.ReferenceGUpOIdeal.τ).loc Cert.ReferenceGUpOIdeal.main_arg1)
          ∧ r.2.mem ((c.tc : Thread Cert.ReferenceGUpOIdeal.nD Cert.ReferenceGUpOIdeal.τ).loc Cert.ReferenceGUpOIdeal.main_arg2) = m' ((c.tc : Thread Cert.ReferenceGUpOIdeal.nD Cert.ReferenceGUpOIdeal.τ).loc Cert.ReferenceGUpOIdeal.main_arg2))

def preserves_KernelGDownS_KernelGDownSIdeal : Prop :=
  True

def algebraic_KernelGDownSIdeal_ReferenceGDownSIdeal [hKernelGDownSIdeal : Cert.KernelGDownSIdeal.Facts] [hReferenceGDownSIdeal : Cert.ReferenceGDownSIdeal.Facts] : Prop :=
  ∀ (m : (ℓ : Loc Cert.KernelGDownSIdeal.nD Cert.KernelGDownSIdeal.τ Cert.KernelGDownSIdeal.sig) → Buf (Elt Ideal) ℓ) (g : Dev Cert.KernelGDownSIdeal.nD → PrngReg)
    (m' : (ℓ : Loc Cert.ReferenceGDownSIdeal.nD Cert.ReferenceGDownSIdeal.τ Cert.ReferenceGDownSIdeal.sig) → Buf (Elt Ideal) ℓ) (g' : Dev Cert.ReferenceGDownSIdeal.nD → PrngReg), Pre_KernelGDownSIdeal m →
    (∀ c : Dev Cert.KernelGDownSIdeal.nD,
      m' ((c.tc : Thread Cert.ReferenceGDownSIdeal.nD Cert.ReferenceGDownSIdeal.τ).loc Cert.ReferenceGDownSIdeal.main_arg0) = m ((c.tc : Thread Cert.KernelGDownSIdeal.nD Cert.KernelGDownSIdeal.τ).loc Cert.KernelGDownSIdeal.main_arg0)
      ∧ m' ((c.tc : Thread Cert.ReferenceGDownSIdeal.nD Cert.ReferenceGDownSIdeal.τ).loc Cert.ReferenceGDownSIdeal.main_arg1) = m ((c.tc : Thread Cert.KernelGDownSIdeal.nD Cert.KernelGDownSIdeal.τ).loc Cert.KernelGDownSIdeal.main_arg1)) →
    ∃ (v0 : (c : Dev Cert.KernelGDownSIdeal.nD) → Buf (Elt Ideal) ((c.tc : Thread Cert.KernelGDownSIdeal.nD Cert.KernelGDownSIdeal.τ).loc Cert.KernelGDownSIdeal.main_v1)),
      θ_run (Cert.KernelGDownSIdeal.defs (F := Ideal)) (onTc (τ := Cert.KernelGDownSIdeal.τ) (Cert.KernelGDownSIdeal.main (F := Ideal))) ⟨m, fun _ => 0, g⟩ (fun r => ∀ c : Dev Cert.KernelGDownSIdeal.nD,
          r.2.mem ((c.tc : Thread Cert.KernelGDownSIdeal.nD Cert.KernelGDownSIdeal.τ).loc Cert.KernelGDownSIdeal.main_v1) = v0 c
          ∧ r.2.mem ((c.tc : Thread Cert.KernelGDownSIdeal.nD Cert.KernelGDownSIdeal.τ).loc Cert.KernelGDownSIdeal.main_arg0) = m ((c.tc : Thread Cert.KernelGDownSIdeal.nD Cert.KernelGDownSIdeal.τ).loc Cert.KernelGDownSIdeal.main_arg0)
          ∧ r.2.mem ((c.tc : Thread Cert.KernelGDownSIdeal.nD Cert.KernelGDownSIdeal.τ).loc Cert.KernelGDownSIdeal.main_arg1) = m ((c.tc : Thread Cert.KernelGDownSIdeal.nD Cert.KernelGDownSIdeal.τ).loc Cert.KernelGDownSIdeal.main_arg1))
      ∧ θ_run (Cert.ReferenceGDownSIdeal.defs (F := Ideal)) (onTc (τ := Cert.ReferenceGDownSIdeal.τ) (Cert.ReferenceGDownSIdeal.main (F := Ideal))) ⟨m', fun _ => 0, g'⟩ (fun r => ∀ c : Dev Cert.ReferenceGDownSIdeal.nD,
          r.2.mem ((c.tc : Thread Cert.ReferenceGDownSIdeal.nD Cert.ReferenceGDownSIdeal.τ).loc Cert.ReferenceGDownSIdeal.main_v9) = v0 c
          ∧ r.2.mem ((c.tc : Thread Cert.ReferenceGDownSIdeal.nD Cert.ReferenceGDownSIdeal.τ).loc Cert.ReferenceGDownSIdeal.main_arg0) = m' ((c.tc : Thread Cert.ReferenceGDownSIdeal.nD Cert.ReferenceGDownSIdeal.τ).loc Cert.ReferenceGDownSIdeal.main_arg0)
          ∧ r.2.mem ((c.tc : Thread Cert.ReferenceGDownSIdeal.nD Cert.ReferenceGDownSIdeal.τ).loc Cert.ReferenceGDownSIdeal.main_arg1) = m' ((c.tc : Thread Cert.ReferenceGDownSIdeal.nD Cert.ReferenceGDownSIdeal.τ).loc Cert.ReferenceGDownSIdeal.main_arg1))

def preserves_KernelGDownO_KernelGDownOIdeal : Prop :=
  True

def algebraic_KernelGDownOIdeal_ReferenceGDownOIdeal [hKernelGDownOIdeal : Cert.KernelGDownOIdeal.Facts] [hReferenceGDownOIdeal : Cert.ReferenceGDownOIdeal.Facts] : Prop :=
  ∀ (m : (ℓ : Loc Cert.KernelGDownOIdeal.nD Cert.KernelGDownOIdeal.τ Cert.KernelGDownOIdeal.sig) → Buf (Elt Ideal) ℓ) (g : Dev Cert.KernelGDownOIdeal.nD → PrngReg)
    (m' : (ℓ : Loc Cert.ReferenceGDownOIdeal.nD Cert.ReferenceGDownOIdeal.τ Cert.ReferenceGDownOIdeal.sig) → Buf (Elt Ideal) ℓ) (g' : Dev Cert.ReferenceGDownOIdeal.nD → PrngReg), Pre_KernelGDownOIdeal m →
    (∀ c : Dev Cert.KernelGDownOIdeal.nD,
      m' ((c.tc : Thread Cert.ReferenceGDownOIdeal.nD Cert.ReferenceGDownOIdeal.τ).loc Cert.ReferenceGDownOIdeal.main_arg0) = m ((c.tc : Thread Cert.KernelGDownOIdeal.nD Cert.KernelGDownOIdeal.τ).loc Cert.KernelGDownOIdeal.main_arg0)
      ∧ m' ((c.tc : Thread Cert.ReferenceGDownOIdeal.nD Cert.ReferenceGDownOIdeal.τ).loc Cert.ReferenceGDownOIdeal.main_arg1) = m ((c.tc : Thread Cert.KernelGDownOIdeal.nD Cert.KernelGDownOIdeal.τ).loc Cert.KernelGDownOIdeal.main_arg1)
      ∧ m' ((c.tc : Thread Cert.ReferenceGDownOIdeal.nD Cert.ReferenceGDownOIdeal.τ).loc Cert.ReferenceGDownOIdeal.main_arg2) = m ((c.tc : Thread Cert.KernelGDownOIdeal.nD Cert.KernelGDownOIdeal.τ).loc Cert.KernelGDownOIdeal.main_arg2)) →
    ∃ (v0 : (c : Dev Cert.KernelGDownOIdeal.nD) → Buf (Elt Ideal) ((c.tc : Thread Cert.KernelGDownOIdeal.nD Cert.KernelGDownOIdeal.τ).loc Cert.KernelGDownOIdeal.main_v1)),
      θ_run (Cert.KernelGDownOIdeal.defs (F := Ideal)) (onTc (τ := Cert.KernelGDownOIdeal.τ) (Cert.KernelGDownOIdeal.main (F := Ideal))) ⟨m, fun _ => 0, g⟩ (fun r => ∀ c : Dev Cert.KernelGDownOIdeal.nD,
          r.2.mem ((c.tc : Thread Cert.KernelGDownOIdeal.nD Cert.KernelGDownOIdeal.τ).loc Cert.KernelGDownOIdeal.main_v1) = v0 c
          ∧ r.2.mem ((c.tc : Thread Cert.KernelGDownOIdeal.nD Cert.KernelGDownOIdeal.τ).loc Cert.KernelGDownOIdeal.main_arg0) = m ((c.tc : Thread Cert.KernelGDownOIdeal.nD Cert.KernelGDownOIdeal.τ).loc Cert.KernelGDownOIdeal.main_arg0)
          ∧ r.2.mem ((c.tc : Thread Cert.KernelGDownOIdeal.nD Cert.KernelGDownOIdeal.τ).loc Cert.KernelGDownOIdeal.main_arg1) = m ((c.tc : Thread Cert.KernelGDownOIdeal.nD Cert.KernelGDownOIdeal.τ).loc Cert.KernelGDownOIdeal.main_arg1)
          ∧ r.2.mem ((c.tc : Thread Cert.KernelGDownOIdeal.nD Cert.KernelGDownOIdeal.τ).loc Cert.KernelGDownOIdeal.main_arg2) = m ((c.tc : Thread Cert.KernelGDownOIdeal.nD Cert.KernelGDownOIdeal.τ).loc Cert.KernelGDownOIdeal.main_arg2))
      ∧ θ_run (Cert.ReferenceGDownOIdeal.defs (F := Ideal)) (onTc (τ := Cert.ReferenceGDownOIdeal.τ) (Cert.ReferenceGDownOIdeal.main (F := Ideal))) ⟨m', fun _ => 0, g'⟩ (fun r => ∀ c : Dev Cert.ReferenceGDownOIdeal.nD,
          r.2.mem ((c.tc : Thread Cert.ReferenceGDownOIdeal.nD Cert.ReferenceGDownOIdeal.τ).loc Cert.ReferenceGDownOIdeal.main_v11) = v0 c
          ∧ r.2.mem ((c.tc : Thread Cert.ReferenceGDownOIdeal.nD Cert.ReferenceGDownOIdeal.τ).loc Cert.ReferenceGDownOIdeal.main_arg0) = m' ((c.tc : Thread Cert.ReferenceGDownOIdeal.nD Cert.ReferenceGDownOIdeal.τ).loc Cert.ReferenceGDownOIdeal.main_arg0)
          ∧ r.2.mem ((c.tc : Thread Cert.ReferenceGDownOIdeal.nD Cert.ReferenceGDownOIdeal.τ).loc Cert.ReferenceGDownOIdeal.main_arg1) = m' ((c.tc : Thread Cert.ReferenceGDownOIdeal.nD Cert.ReferenceGDownOIdeal.τ).loc Cert.ReferenceGDownOIdeal.main_arg1)
          ∧ r.2.mem ((c.tc : Thread Cert.ReferenceGDownOIdeal.nD Cert.ReferenceGDownOIdeal.τ).loc Cert.ReferenceGDownOIdeal.main_arg2) = m' ((c.tc : Thread Cert.ReferenceGDownOIdeal.nD Cert.ReferenceGDownOIdeal.τ).loc Cert.ReferenceGDownOIdeal.main_arg2))

def preserves_KernelGInS_KernelGInSIdeal : Prop :=
  True

def algebraic_KernelGInSIdeal_ReferenceGInSIdeal [hKernelGInSIdeal : Cert.KernelGInSIdeal.Facts] [hReferenceGInSIdeal : Cert.ReferenceGInSIdeal.Facts] : Prop :=
  ∀ (m : (ℓ : Loc Cert.KernelGInSIdeal.nD Cert.KernelGInSIdeal.τ Cert.KernelGInSIdeal.sig) → Buf (Elt Ideal) ℓ) (g : Dev Cert.KernelGInSIdeal.nD → PrngReg)
    (m' : (ℓ : Loc Cert.ReferenceGInSIdeal.nD Cert.ReferenceGInSIdeal.τ Cert.ReferenceGInSIdeal.sig) → Buf (Elt Ideal) ℓ) (g' : Dev Cert.ReferenceGInSIdeal.nD → PrngReg), Pre_KernelGInSIdeal m →
    (∀ c : Dev Cert.KernelGInSIdeal.nD,
      m' ((c.tc : Thread Cert.ReferenceGInSIdeal.nD Cert.ReferenceGInSIdeal.τ).loc Cert.ReferenceGInSIdeal.main_arg0) = m ((c.tc : Thread Cert.KernelGInSIdeal.nD Cert.KernelGInSIdeal.τ).loc Cert.KernelGInSIdeal.main_arg0)
      ∧ m' ((c.tc : Thread Cert.ReferenceGInSIdeal.nD Cert.ReferenceGInSIdeal.τ).loc Cert.ReferenceGInSIdeal.main_arg1) = m ((c.tc : Thread Cert.KernelGInSIdeal.nD Cert.KernelGInSIdeal.τ).loc Cert.KernelGInSIdeal.main_arg1)) →
    ∃ (v0 : (c : Dev Cert.KernelGInSIdeal.nD) → Buf (Elt Ideal) ((c.tc : Thread Cert.KernelGInSIdeal.nD Cert.KernelGInSIdeal.τ).loc Cert.KernelGInSIdeal.main_v1)),
      θ_run (Cert.KernelGInSIdeal.defs (F := Ideal)) (onTc (τ := Cert.KernelGInSIdeal.τ) (Cert.KernelGInSIdeal.main (F := Ideal))) ⟨m, fun _ => 0, g⟩ (fun r => ∀ c : Dev Cert.KernelGInSIdeal.nD,
          r.2.mem ((c.tc : Thread Cert.KernelGInSIdeal.nD Cert.KernelGInSIdeal.τ).loc Cert.KernelGInSIdeal.main_v1) = v0 c
          ∧ r.2.mem ((c.tc : Thread Cert.KernelGInSIdeal.nD Cert.KernelGInSIdeal.τ).loc Cert.KernelGInSIdeal.main_arg0) = m ((c.tc : Thread Cert.KernelGInSIdeal.nD Cert.KernelGInSIdeal.τ).loc Cert.KernelGInSIdeal.main_arg0)
          ∧ r.2.mem ((c.tc : Thread Cert.KernelGInSIdeal.nD Cert.KernelGInSIdeal.τ).loc Cert.KernelGInSIdeal.main_arg1) = m ((c.tc : Thread Cert.KernelGInSIdeal.nD Cert.KernelGInSIdeal.τ).loc Cert.KernelGInSIdeal.main_arg1))
      ∧ θ_run (Cert.ReferenceGInSIdeal.defs (F := Ideal)) (onTc (τ := Cert.ReferenceGInSIdeal.τ) (Cert.ReferenceGInSIdeal.main (F := Ideal))) ⟨m', fun _ => 0, g'⟩ (fun r => ∀ c : Dev Cert.ReferenceGInSIdeal.nD,
          r.2.mem ((c.tc : Thread Cert.ReferenceGInSIdeal.nD Cert.ReferenceGInSIdeal.τ).loc Cert.ReferenceGInSIdeal.main_v9) = v0 c
          ∧ r.2.mem ((c.tc : Thread Cert.ReferenceGInSIdeal.nD Cert.ReferenceGInSIdeal.τ).loc Cert.ReferenceGInSIdeal.main_arg0) = m' ((c.tc : Thread Cert.ReferenceGInSIdeal.nD Cert.ReferenceGInSIdeal.τ).loc Cert.ReferenceGInSIdeal.main_arg0)
          ∧ r.2.mem ((c.tc : Thread Cert.ReferenceGInSIdeal.nD Cert.ReferenceGInSIdeal.τ).loc Cert.ReferenceGInSIdeal.main_arg1) = m' ((c.tc : Thread Cert.ReferenceGInSIdeal.nD Cert.ReferenceGInSIdeal.τ).loc Cert.ReferenceGInSIdeal.main_arg1))

def preserves_KernelGInO_KernelGInOIdeal : Prop :=
  True

def algebraic_KernelGInOIdeal_ReferenceGInOIdeal [hKernelGInOIdeal : Cert.KernelGInOIdeal.Facts] [hReferenceGInOIdeal : Cert.ReferenceGInOIdeal.Facts] : Prop :=
  ∀ (m : (ℓ : Loc Cert.KernelGInOIdeal.nD Cert.KernelGInOIdeal.τ Cert.KernelGInOIdeal.sig) → Buf (Elt Ideal) ℓ) (g : Dev Cert.KernelGInOIdeal.nD → PrngReg)
    (m' : (ℓ : Loc Cert.ReferenceGInOIdeal.nD Cert.ReferenceGInOIdeal.τ Cert.ReferenceGInOIdeal.sig) → Buf (Elt Ideal) ℓ) (g' : Dev Cert.ReferenceGInOIdeal.nD → PrngReg), Pre_KernelGInOIdeal m →
    (∀ c : Dev Cert.KernelGInOIdeal.nD,
      m' ((c.tc : Thread Cert.ReferenceGInOIdeal.nD Cert.ReferenceGInOIdeal.τ).loc Cert.ReferenceGInOIdeal.main_arg0) = m ((c.tc : Thread Cert.KernelGInOIdeal.nD Cert.KernelGInOIdeal.τ).loc Cert.KernelGInOIdeal.main_arg0)
      ∧ m' ((c.tc : Thread Cert.ReferenceGInOIdeal.nD Cert.ReferenceGInOIdeal.τ).loc Cert.ReferenceGInOIdeal.main_arg1) = m ((c.tc : Thread Cert.KernelGInOIdeal.nD Cert.KernelGInOIdeal.τ).loc Cert.KernelGInOIdeal.main_arg1)
      ∧ m' ((c.tc : Thread Cert.ReferenceGInOIdeal.nD Cert.ReferenceGInOIdeal.τ).loc Cert.ReferenceGInOIdeal.main_arg2) = m ((c.tc : Thread Cert.KernelGInOIdeal.nD Cert.KernelGInOIdeal.τ).loc Cert.KernelGInOIdeal.main_arg2)) →
    ∃ (v0 : (c : Dev Cert.KernelGInOIdeal.nD) → Buf (Elt Ideal) ((c.tc : Thread Cert.KernelGInOIdeal.nD Cert.KernelGInOIdeal.τ).loc Cert.KernelGInOIdeal.main_v1)),
      θ_run (Cert.KernelGInOIdeal.defs (F := Ideal)) (onTc (τ := Cert.KernelGInOIdeal.τ) (Cert.KernelGInOIdeal.main (F := Ideal))) ⟨m, fun _ => 0, g⟩ (fun r => ∀ c : Dev Cert.KernelGInOIdeal.nD,
          r.2.mem ((c.tc : Thread Cert.KernelGInOIdeal.nD Cert.KernelGInOIdeal.τ).loc Cert.KernelGInOIdeal.main_v1) = v0 c
          ∧ r.2.mem ((c.tc : Thread Cert.KernelGInOIdeal.nD Cert.KernelGInOIdeal.τ).loc Cert.KernelGInOIdeal.main_arg0) = m ((c.tc : Thread Cert.KernelGInOIdeal.nD Cert.KernelGInOIdeal.τ).loc Cert.KernelGInOIdeal.main_arg0)
          ∧ r.2.mem ((c.tc : Thread Cert.KernelGInOIdeal.nD Cert.KernelGInOIdeal.τ).loc Cert.KernelGInOIdeal.main_arg1) = m ((c.tc : Thread Cert.KernelGInOIdeal.nD Cert.KernelGInOIdeal.τ).loc Cert.KernelGInOIdeal.main_arg1)
          ∧ r.2.mem ((c.tc : Thread Cert.KernelGInOIdeal.nD Cert.KernelGInOIdeal.τ).loc Cert.KernelGInOIdeal.main_arg2) = m ((c.tc : Thread Cert.KernelGInOIdeal.nD Cert.KernelGInOIdeal.τ).loc Cert.KernelGInOIdeal.main_arg2))
      ∧ θ_run (Cert.ReferenceGInOIdeal.defs (F := Ideal)) (onTc (τ := Cert.ReferenceGInOIdeal.τ) (Cert.ReferenceGInOIdeal.main (F := Ideal))) ⟨m', fun _ => 0, g'⟩ (fun r => ∀ c : Dev Cert.ReferenceGInOIdeal.nD,
          r.2.mem ((c.tc : Thread Cert.ReferenceGInOIdeal.nD Cert.ReferenceGInOIdeal.τ).loc Cert.ReferenceGInOIdeal.main_v11) = v0 c
          ∧ r.2.mem ((c.tc : Thread Cert.ReferenceGInOIdeal.nD Cert.ReferenceGInOIdeal.τ).loc Cert.ReferenceGInOIdeal.main_arg0) = m' ((c.tc : Thread Cert.ReferenceGInOIdeal.nD Cert.ReferenceGInOIdeal.τ).loc Cert.ReferenceGInOIdeal.main_arg0)
          ∧ r.2.mem ((c.tc : Thread Cert.ReferenceGInOIdeal.nD Cert.ReferenceGInOIdeal.τ).loc Cert.ReferenceGInOIdeal.main_arg1) = m' ((c.tc : Thread Cert.ReferenceGInOIdeal.nD Cert.ReferenceGInOIdeal.τ).loc Cert.ReferenceGInOIdeal.main_arg1)
          ∧ r.2.mem ((c.tc : Thread Cert.ReferenceGInOIdeal.nD Cert.ReferenceGInOIdeal.τ).loc Cert.ReferenceGInOIdeal.main_arg2) = m' ((c.tc : Thread Cert.ReferenceGInOIdeal.nD Cert.ReferenceGInOIdeal.τ).loc Cert.ReferenceGInOIdeal.main_arg2))

def preserves_KernelGOutS_KernelGOutSIdeal : Prop :=
  True

def algebraic_KernelGOutSIdeal_ReferenceGOutSIdeal [hKernelGOutSIdeal : Cert.KernelGOutSIdeal.Facts] [hReferenceGOutSIdeal : Cert.ReferenceGOutSIdeal.Facts] : Prop :=
  ∀ (m : (ℓ : Loc Cert.KernelGOutSIdeal.nD Cert.KernelGOutSIdeal.τ Cert.KernelGOutSIdeal.sig) → Buf (Elt Ideal) ℓ) (g : Dev Cert.KernelGOutSIdeal.nD → PrngReg)
    (m' : (ℓ : Loc Cert.ReferenceGOutSIdeal.nD Cert.ReferenceGOutSIdeal.τ Cert.ReferenceGOutSIdeal.sig) → Buf (Elt Ideal) ℓ) (g' : Dev Cert.ReferenceGOutSIdeal.nD → PrngReg), Pre_KernelGOutSIdeal m →
    (∀ c : Dev Cert.KernelGOutSIdeal.nD,
      m' ((c.tc : Thread Cert.ReferenceGOutSIdeal.nD Cert.ReferenceGOutSIdeal.τ).loc Cert.ReferenceGOutSIdeal.main_arg0) = m ((c.tc : Thread Cert.KernelGOutSIdeal.nD Cert.KernelGOutSIdeal.τ).loc Cert.KernelGOutSIdeal.main_arg0)
      ∧ m' ((c.tc : Thread Cert.ReferenceGOutSIdeal.nD Cert.ReferenceGOutSIdeal.τ).loc Cert.ReferenceGOutSIdeal.main_arg1) = m ((c.tc : Thread Cert.KernelGOutSIdeal.nD Cert.KernelGOutSIdeal.τ).loc Cert.KernelGOutSIdeal.main_arg1)) →
    ∃ (v0 : (c : Dev Cert.KernelGOutSIdeal.nD) → Buf (Elt Ideal) ((c.tc : Thread Cert.KernelGOutSIdeal.nD Cert.KernelGOutSIdeal.τ).loc Cert.KernelGOutSIdeal.main_v1)),
      θ_run (Cert.KernelGOutSIdeal.defs (F := Ideal)) (onTc (τ := Cert.KernelGOutSIdeal.τ) (Cert.KernelGOutSIdeal.main (F := Ideal))) ⟨m, fun _ => 0, g⟩ (fun r => ∀ c : Dev Cert.KernelGOutSIdeal.nD,
          r.2.mem ((c.tc : Thread Cert.KernelGOutSIdeal.nD Cert.KernelGOutSIdeal.τ).loc Cert.KernelGOutSIdeal.main_v1) = v0 c
          ∧ r.2.mem ((c.tc : Thread Cert.KernelGOutSIdeal.nD Cert.KernelGOutSIdeal.τ).loc Cert.KernelGOutSIdeal.main_arg0) = m ((c.tc : Thread Cert.KernelGOutSIdeal.nD Cert.KernelGOutSIdeal.τ).loc Cert.KernelGOutSIdeal.main_arg0)
          ∧ r.2.mem ((c.tc : Thread Cert.KernelGOutSIdeal.nD Cert.KernelGOutSIdeal.τ).loc Cert.KernelGOutSIdeal.main_arg1) = m ((c.tc : Thread Cert.KernelGOutSIdeal.nD Cert.KernelGOutSIdeal.τ).loc Cert.KernelGOutSIdeal.main_arg1))
      ∧ θ_run (Cert.ReferenceGOutSIdeal.defs (F := Ideal)) (onTc (τ := Cert.ReferenceGOutSIdeal.τ) (Cert.ReferenceGOutSIdeal.main (F := Ideal))) ⟨m', fun _ => 0, g'⟩ (fun r => ∀ c : Dev Cert.ReferenceGOutSIdeal.nD,
          r.2.mem ((c.tc : Thread Cert.ReferenceGOutSIdeal.nD Cert.ReferenceGOutSIdeal.τ).loc Cert.ReferenceGOutSIdeal.main_v9) = v0 c
          ∧ r.2.mem ((c.tc : Thread Cert.ReferenceGOutSIdeal.nD Cert.ReferenceGOutSIdeal.τ).loc Cert.ReferenceGOutSIdeal.main_arg0) = m' ((c.tc : Thread Cert.ReferenceGOutSIdeal.nD Cert.ReferenceGOutSIdeal.τ).loc Cert.ReferenceGOutSIdeal.main_arg0)
          ∧ r.2.mem ((c.tc : Thread Cert.ReferenceGOutSIdeal.nD Cert.ReferenceGOutSIdeal.τ).loc Cert.ReferenceGOutSIdeal.main_arg1) = m' ((c.tc : Thread Cert.ReferenceGOutSIdeal.nD Cert.ReferenceGOutSIdeal.τ).loc Cert.ReferenceGOutSIdeal.main_arg1))

def preserves_KernelGOutO_KernelGOutOIdeal : Prop :=
  True

def algebraic_KernelGOutOIdeal_ReferenceGOutOIdeal [hKernelGOutOIdeal : Cert.KernelGOutOIdeal.Facts] [hReferenceGOutOIdeal : Cert.ReferenceGOutOIdeal.Facts] : Prop :=
  ∀ (m : (ℓ : Loc Cert.KernelGOutOIdeal.nD Cert.KernelGOutOIdeal.τ Cert.KernelGOutOIdeal.sig) → Buf (Elt Ideal) ℓ) (g : Dev Cert.KernelGOutOIdeal.nD → PrngReg)
    (m' : (ℓ : Loc Cert.ReferenceGOutOIdeal.nD Cert.ReferenceGOutOIdeal.τ Cert.ReferenceGOutOIdeal.sig) → Buf (Elt Ideal) ℓ) (g' : Dev Cert.ReferenceGOutOIdeal.nD → PrngReg), Pre_KernelGOutOIdeal m →
    (∀ c : Dev Cert.KernelGOutOIdeal.nD,
      m' ((c.tc : Thread Cert.ReferenceGOutOIdeal.nD Cert.ReferenceGOutOIdeal.τ).loc Cert.ReferenceGOutOIdeal.main_arg0) = m ((c.tc : Thread Cert.KernelGOutOIdeal.nD Cert.KernelGOutOIdeal.τ).loc Cert.KernelGOutOIdeal.main_arg0)
      ∧ m' ((c.tc : Thread Cert.ReferenceGOutOIdeal.nD Cert.ReferenceGOutOIdeal.τ).loc Cert.ReferenceGOutOIdeal.main_arg1) = m ((c.tc : Thread Cert.KernelGOutOIdeal.nD Cert.KernelGOutOIdeal.τ).loc Cert.KernelGOutOIdeal.main_arg1)
      ∧ m' ((c.tc : Thread Cert.ReferenceGOutOIdeal.nD Cert.ReferenceGOutOIdeal.τ).loc Cert.ReferenceGOutOIdeal.main_arg2) = m ((c.tc : Thread Cert.KernelGOutOIdeal.nD Cert.KernelGOutOIdeal.τ).loc Cert.KernelGOutOIdeal.main_arg2)) →
    ∃ (v0 : (c : Dev Cert.KernelGOutOIdeal.nD) → Buf (Elt Ideal) ((c.tc : Thread Cert.KernelGOutOIdeal.nD Cert.KernelGOutOIdeal.τ).loc Cert.KernelGOutOIdeal.main_v1)),
      θ_run (Cert.KernelGOutOIdeal.defs (F := Ideal)) (onTc (τ := Cert.KernelGOutOIdeal.τ) (Cert.KernelGOutOIdeal.main (F := Ideal))) ⟨m, fun _ => 0, g⟩ (fun r => ∀ c : Dev Cert.KernelGOutOIdeal.nD,
          r.2.mem ((c.tc : Thread Cert.KernelGOutOIdeal.nD Cert.KernelGOutOIdeal.τ).loc Cert.KernelGOutOIdeal.main_v1) = v0 c
          ∧ r.2.mem ((c.tc : Thread Cert.KernelGOutOIdeal.nD Cert.KernelGOutOIdeal.τ).loc Cert.KernelGOutOIdeal.main_arg0) = m ((c.tc : Thread Cert.KernelGOutOIdeal.nD Cert.KernelGOutOIdeal.τ).loc Cert.KernelGOutOIdeal.main_arg0)
          ∧ r.2.mem ((c.tc : Thread Cert.KernelGOutOIdeal.nD Cert.KernelGOutOIdeal.τ).loc Cert.KernelGOutOIdeal.main_arg1) = m ((c.tc : Thread Cert.KernelGOutOIdeal.nD Cert.KernelGOutOIdeal.τ).loc Cert.KernelGOutOIdeal.main_arg1)
          ∧ r.2.mem ((c.tc : Thread Cert.KernelGOutOIdeal.nD Cert.KernelGOutOIdeal.τ).loc Cert.KernelGOutOIdeal.main_arg2) = m ((c.tc : Thread Cert.KernelGOutOIdeal.nD Cert.KernelGOutOIdeal.τ).loc Cert.KernelGOutOIdeal.main_arg2))
      ∧ θ_run (Cert.ReferenceGOutOIdeal.defs (F := Ideal)) (onTc (τ := Cert.ReferenceGOutOIdeal.τ) (Cert.ReferenceGOutOIdeal.main (F := Ideal))) ⟨m', fun _ => 0, g'⟩ (fun r => ∀ c : Dev Cert.ReferenceGOutOIdeal.nD,
          r.2.mem ((c.tc : Thread Cert.ReferenceGOutOIdeal.nD Cert.ReferenceGOutOIdeal.τ).loc Cert.ReferenceGOutOIdeal.main_v11) = v0 c
          ∧ r.2.mem ((c.tc : Thread Cert.ReferenceGOutOIdeal.nD Cert.ReferenceGOutOIdeal.τ).loc Cert.ReferenceGOutOIdeal.main_arg0) = m' ((c.tc : Thread Cert.ReferenceGOutOIdeal.nD Cert.ReferenceGOutOIdeal.τ).loc Cert.ReferenceGOutOIdeal.main_arg0)
          ∧ r.2.mem ((c.tc : Thread Cert.ReferenceGOutOIdeal.nD Cert.ReferenceGOutOIdeal.τ).loc Cert.ReferenceGOutOIdeal.main_arg1) = m' ((c.tc : Thread Cert.ReferenceGOutOIdeal.nD Cert.ReferenceGOutOIdeal.τ).loc Cert.ReferenceGOutOIdeal.main_arg1)
          ∧ r.2.mem ((c.tc : Thread Cert.ReferenceGOutOIdeal.nD Cert.ReferenceGOutOIdeal.τ).loc Cert.ReferenceGOutOIdeal.main_arg2) = m' ((c.tc : Thread Cert.ReferenceGOutOIdeal.nD Cert.ReferenceGOutOIdeal.τ).loc Cert.ReferenceGOutOIdeal.main_arg2))

def preserves_KernelProjOwn_KernelProjOwnIdeal : Prop :=
  True

def algebraic_KernelProjOwnIdeal_ReferenceProjOwnIdeal [hKernelProjOwnIdeal : Cert.KernelProjOwnIdeal.Facts] [hReferenceProjOwnIdeal : Cert.ReferenceProjOwnIdeal.Facts] : Prop :=
  ∀ (m : (ℓ : Loc Cert.KernelProjOwnIdeal.nD Cert.KernelProjOwnIdeal.τ Cert.KernelProjOwnIdeal.sig) → Buf (Elt Ideal) ℓ) (g : Dev Cert.KernelProjOwnIdeal.nD → PrngReg)
    (m' : (ℓ : Loc Cert.ReferenceProjOwnIdeal.nD Cert.ReferenceProjOwnIdeal.τ Cert.ReferenceProjOwnIdeal.sig) → Buf (Elt Ideal) ℓ) (g' : Dev Cert.ReferenceProjOwnIdeal.nD → PrngReg), Pre_KernelProjOwnIdeal m →
    (∀ c : Dev Cert.KernelProjOwnIdeal.nD,
      m' ((c.tc : Thread Cert.ReferenceProjOwnIdeal.nD Cert.ReferenceProjOwnIdeal.τ).loc Cert.ReferenceProjOwnIdeal.main_arg0) = m ((c.tc : Thread Cert.KernelProjOwnIdeal.nD Cert.KernelProjOwnIdeal.τ).loc Cert.KernelProjOwnIdeal.main_arg0)
      ∧ m' ((c.tc : Thread Cert.ReferenceProjOwnIdeal.nD Cert.ReferenceProjOwnIdeal.τ).loc Cert.ReferenceProjOwnIdeal.main_arg1) = m ((c.tc : Thread Cert.KernelProjOwnIdeal.nD Cert.KernelProjOwnIdeal.τ).loc Cert.KernelProjOwnIdeal.main_arg1)
      ∧ m' ((c.tc : Thread Cert.ReferenceProjOwnIdeal.nD Cert.ReferenceProjOwnIdeal.τ).loc Cert.ReferenceProjOwnIdeal.main_arg2) = m ((c.tc : Thread Cert.KernelProjOwnIdeal.nD Cert.KernelProjOwnIdeal.τ).loc Cert.KernelProjOwnIdeal.main_arg2)) →
    ∃ (v0 : (c : Dev Cert.KernelProjOwnIdeal.nD) → Buf (Elt Ideal) ((c.tc : Thread Cert.KernelProjOwnIdeal.nD Cert.KernelProjOwnIdeal.τ).loc Cert.KernelProjOwnIdeal.main_v2)),
      θ_run (Cert.KernelProjOwnIdeal.defs (F := Ideal)) (onTc (τ := Cert.KernelProjOwnIdeal.τ) (Cert.KernelProjOwnIdeal.main (F := Ideal))) ⟨m, fun _ => 0, g⟩ (fun r => ∀ c : Dev Cert.KernelProjOwnIdeal.nD,
          r.2.mem ((c.tc : Thread Cert.KernelProjOwnIdeal.nD Cert.KernelProjOwnIdeal.τ).loc Cert.KernelProjOwnIdeal.main_v2) = v0 c
          ∧ r.2.mem ((c.tc : Thread Cert.KernelProjOwnIdeal.nD Cert.KernelProjOwnIdeal.τ).loc Cert.KernelProjOwnIdeal.main_arg0) = m ((c.tc : Thread Cert.KernelProjOwnIdeal.nD Cert.KernelProjOwnIdeal.τ).loc Cert.KernelProjOwnIdeal.main_arg0)
          ∧ r.2.mem ((c.tc : Thread Cert.KernelProjOwnIdeal.nD Cert.KernelProjOwnIdeal.τ).loc Cert.KernelProjOwnIdeal.main_arg1) = m ((c.tc : Thread Cert.KernelProjOwnIdeal.nD Cert.KernelProjOwnIdeal.τ).loc Cert.KernelProjOwnIdeal.main_arg1)
          ∧ r.2.mem ((c.tc : Thread Cert.KernelProjOwnIdeal.nD Cert.KernelProjOwnIdeal.τ).loc Cert.KernelProjOwnIdeal.main_arg2) = m ((c.tc : Thread Cert.KernelProjOwnIdeal.nD Cert.KernelProjOwnIdeal.τ).loc Cert.KernelProjOwnIdeal.main_arg2))
      ∧ θ_run (Cert.ReferenceProjOwnIdeal.defs (F := Ideal)) (onTc (τ := Cert.ReferenceProjOwnIdeal.τ) (Cert.ReferenceProjOwnIdeal.main (F := Ideal))) ⟨m', fun _ => 0, g'⟩ (fun r => ∀ c : Dev Cert.ReferenceProjOwnIdeal.nD,
          r.2.mem ((c.tc : Thread Cert.ReferenceProjOwnIdeal.nD Cert.ReferenceProjOwnIdeal.τ).loc Cert.ReferenceProjOwnIdeal.main_v4) = v0 c
          ∧ r.2.mem ((c.tc : Thread Cert.ReferenceProjOwnIdeal.nD Cert.ReferenceProjOwnIdeal.τ).loc Cert.ReferenceProjOwnIdeal.main_arg0) = m' ((c.tc : Thread Cert.ReferenceProjOwnIdeal.nD Cert.ReferenceProjOwnIdeal.τ).loc Cert.ReferenceProjOwnIdeal.main_arg0)
          ∧ r.2.mem ((c.tc : Thread Cert.ReferenceProjOwnIdeal.nD Cert.ReferenceProjOwnIdeal.τ).loc Cert.ReferenceProjOwnIdeal.main_arg1) = m' ((c.tc : Thread Cert.ReferenceProjOwnIdeal.nD Cert.ReferenceProjOwnIdeal.τ).loc Cert.ReferenceProjOwnIdeal.main_arg1)
          ∧ r.2.mem ((c.tc : Thread Cert.ReferenceProjOwnIdeal.nD Cert.ReferenceProjOwnIdeal.τ).loc Cert.ReferenceProjOwnIdeal.main_arg2) = m' ((c.tc : Thread Cert.ReferenceProjOwnIdeal.nD Cert.ReferenceProjOwnIdeal.τ).loc Cert.ReferenceProjOwnIdeal.main_arg2))

def preserves_KernelProjX_KernelProjXIdeal : Prop :=
  True

def algebraic_KernelProjXIdeal_ReferenceProjXIdeal [hKernelProjXIdeal : Cert.KernelProjXIdeal.Facts] [hReferenceProjXIdeal : Cert.ReferenceProjXIdeal.Facts] : Prop :=
  ∀ (m : (ℓ : Loc Cert.KernelProjXIdeal.nD Cert.KernelProjXIdeal.τ Cert.KernelProjXIdeal.sig) → Buf (Elt Ideal) ℓ) (g : Dev Cert.KernelProjXIdeal.nD → PrngReg)
    (m' : (ℓ : Loc Cert.ReferenceProjXIdeal.nD Cert.ReferenceProjXIdeal.τ Cert.ReferenceProjXIdeal.sig) → Buf (Elt Ideal) ℓ) (g' : Dev Cert.ReferenceProjXIdeal.nD → PrngReg), Pre_KernelProjXIdeal m →
    (∀ c : Dev Cert.KernelProjXIdeal.nD,
      m' ((c.tc : Thread Cert.ReferenceProjXIdeal.nD Cert.ReferenceProjXIdeal.τ).loc Cert.ReferenceProjXIdeal.main_arg0) = m ((c.tc : Thread Cert.KernelProjXIdeal.nD Cert.KernelProjXIdeal.τ).loc Cert.KernelProjXIdeal.main_arg0)
      ∧ m' ((c.tc : Thread Cert.ReferenceProjXIdeal.nD Cert.ReferenceProjXIdeal.τ).loc Cert.ReferenceProjXIdeal.main_arg1) = m ((c.tc : Thread Cert.KernelProjXIdeal.nD Cert.KernelProjXIdeal.τ).loc Cert.KernelProjXIdeal.main_arg1)
      ∧ m' ((c.tc : Thread Cert.ReferenceProjXIdeal.nD Cert.ReferenceProjXIdeal.τ).loc Cert.ReferenceProjXIdeal.main_arg2) = m ((c.tc : Thread Cert.KernelProjXIdeal.nD Cert.KernelProjXIdeal.τ).loc Cert.KernelProjXIdeal.main_arg2)) →
    ∃ (v0 : (c : Dev Cert.KernelProjXIdeal.nD) → Buf (Elt Ideal) ((c.tc : Thread Cert.KernelProjXIdeal.nD Cert.KernelProjXIdeal.τ).loc Cert.KernelProjXIdeal.main_v1)),
      θ_run (Cert.KernelProjXIdeal.defs (F := Ideal)) (onTc (τ := Cert.KernelProjXIdeal.τ) (Cert.KernelProjXIdeal.main (F := Ideal))) ⟨m, fun _ => 0, g⟩ (fun r => ∀ c : Dev Cert.KernelProjXIdeal.nD,
          r.2.mem ((c.tc : Thread Cert.KernelProjXIdeal.nD Cert.KernelProjXIdeal.τ).loc Cert.KernelProjXIdeal.main_v1) = v0 c
          ∧ r.2.mem ((c.tc : Thread Cert.KernelProjXIdeal.nD Cert.KernelProjXIdeal.τ).loc Cert.KernelProjXIdeal.main_arg0) = m ((c.tc : Thread Cert.KernelProjXIdeal.nD Cert.KernelProjXIdeal.τ).loc Cert.KernelProjXIdeal.main_arg0)
          ∧ r.2.mem ((c.tc : Thread Cert.KernelProjXIdeal.nD Cert.KernelProjXIdeal.τ).loc Cert.KernelProjXIdeal.main_arg1) = m ((c.tc : Thread Cert.KernelProjXIdeal.nD Cert.KernelProjXIdeal.τ).loc Cert.KernelProjXIdeal.main_arg1)
          ∧ r.2.mem ((c.tc : Thread Cert.KernelProjXIdeal.nD Cert.KernelProjXIdeal.τ).loc Cert.KernelProjXIdeal.main_arg2) = m ((c.tc : Thread Cert.KernelProjXIdeal.nD Cert.KernelProjXIdeal.τ).loc Cert.KernelProjXIdeal.main_arg2))
      ∧ θ_run (Cert.ReferenceProjXIdeal.defs (F := Ideal)) (onTc (τ := Cert.ReferenceProjXIdeal.τ) (Cert.ReferenceProjXIdeal.main (F := Ideal))) ⟨m', fun _ => 0, g'⟩ (fun r => ∀ c : Dev Cert.ReferenceProjXIdeal.nD,
          r.2.mem ((c.tc : Thread Cert.ReferenceProjXIdeal.nD Cert.ReferenceProjXIdeal.τ).loc Cert.ReferenceProjXIdeal.main_v8) = v0 c
          ∧ r.2.mem ((c.tc : Thread Cert.ReferenceProjXIdeal.nD Cert.ReferenceProjXIdeal.τ).loc Cert.ReferenceProjXIdeal.main_arg0) = m' ((c.tc : Thread Cert.ReferenceProjXIdeal.nD Cert.ReferenceProjXIdeal.τ).loc Cert.ReferenceProjXIdeal.main_arg0)
          ∧ r.2.mem ((c.tc : Thread Cert.ReferenceProjXIdeal.nD Cert.ReferenceProjXIdeal.τ).loc Cert.ReferenceProjXIdeal.main_arg1) = m' ((c.tc : Thread Cert.ReferenceProjXIdeal.nD Cert.ReferenceProjXIdeal.τ).loc Cert.ReferenceProjXIdeal.main_arg1)
          ∧ r.2.mem ((c.tc : Thread Cert.ReferenceProjXIdeal.nD Cert.ReferenceProjXIdeal.τ).loc Cert.ReferenceProjXIdeal.main_arg2) = m' ((c.tc : Thread Cert.ReferenceProjXIdeal.nD Cert.ReferenceProjXIdeal.τ).loc Cert.ReferenceProjXIdeal.main_arg2))

def preserves_KernelProjY_KernelProjYIdeal : Prop :=
  True

def algebraic_KernelProjYIdeal_ReferenceProjYIdeal [hKernelProjYIdeal : Cert.KernelProjYIdeal.Facts] [hReferenceProjYIdeal : Cert.ReferenceProjYIdeal.Facts] : Prop :=
  ∀ (m : (ℓ : Loc Cert.KernelProjYIdeal.nD Cert.KernelProjYIdeal.τ Cert.KernelProjYIdeal.sig) → Buf (Elt Ideal) ℓ) (g : Dev Cert.KernelProjYIdeal.nD → PrngReg)
    (m' : (ℓ : Loc Cert.ReferenceProjYIdeal.nD Cert.ReferenceProjYIdeal.τ Cert.ReferenceProjYIdeal.sig) → Buf (Elt Ideal) ℓ) (g' : Dev Cert.ReferenceProjYIdeal.nD → PrngReg), Pre_KernelProjYIdeal m →
    (∀ c : Dev Cert.KernelProjYIdeal.nD,
      m' ((c.tc : Thread Cert.ReferenceProjYIdeal.nD Cert.ReferenceProjYIdeal.τ).loc Cert.ReferenceProjYIdeal.main_arg0) = m ((c.tc : Thread Cert.KernelProjYIdeal.nD Cert.KernelProjYIdeal.τ).loc Cert.KernelProjYIdeal.main_arg0)
      ∧ m' ((c.tc : Thread Cert.ReferenceProjYIdeal.nD Cert.ReferenceProjYIdeal.τ).loc Cert.ReferenceProjYIdeal.main_arg1) = m ((c.tc : Thread Cert.KernelProjYIdeal.nD Cert.KernelProjYIdeal.τ).loc Cert.KernelProjYIdeal.main_arg1)
      ∧ m' ((c.tc : Thread Cert.ReferenceProjYIdeal.nD Cert.ReferenceProjYIdeal.τ).loc Cert.ReferenceProjYIdeal.main_arg2) = m ((c.tc : Thread Cert.KernelProjYIdeal.nD Cert.KernelProjYIdeal.τ).loc Cert.KernelProjYIdeal.main_arg2)) →
    ∃ (v0 : (c : Dev Cert.KernelProjYIdeal.nD) → Buf (Elt Ideal) ((c.tc : Thread Cert.KernelProjYIdeal.nD Cert.KernelProjYIdeal.τ).loc Cert.KernelProjYIdeal.main_v1)),
      θ_run (Cert.KernelProjYIdeal.defs (F := Ideal)) (onTc (τ := Cert.KernelProjYIdeal.τ) (Cert.KernelProjYIdeal.main (F := Ideal))) ⟨m, fun _ => 0, g⟩ (fun r => ∀ c : Dev Cert.KernelProjYIdeal.nD,
          r.2.mem ((c.tc : Thread Cert.KernelProjYIdeal.nD Cert.KernelProjYIdeal.τ).loc Cert.KernelProjYIdeal.main_v1) = v0 c
          ∧ r.2.mem ((c.tc : Thread Cert.KernelProjYIdeal.nD Cert.KernelProjYIdeal.τ).loc Cert.KernelProjYIdeal.main_arg0) = m ((c.tc : Thread Cert.KernelProjYIdeal.nD Cert.KernelProjYIdeal.τ).loc Cert.KernelProjYIdeal.main_arg0)
          ∧ r.2.mem ((c.tc : Thread Cert.KernelProjYIdeal.nD Cert.KernelProjYIdeal.τ).loc Cert.KernelProjYIdeal.main_arg1) = m ((c.tc : Thread Cert.KernelProjYIdeal.nD Cert.KernelProjYIdeal.τ).loc Cert.KernelProjYIdeal.main_arg1)
          ∧ r.2.mem ((c.tc : Thread Cert.KernelProjYIdeal.nD Cert.KernelProjYIdeal.τ).loc Cert.KernelProjYIdeal.main_arg2) = m ((c.tc : Thread Cert.KernelProjYIdeal.nD Cert.KernelProjYIdeal.τ).loc Cert.KernelProjYIdeal.main_arg2))
      ∧ θ_run (Cert.ReferenceProjYIdeal.defs (F := Ideal)) (onTc (τ := Cert.ReferenceProjYIdeal.τ) (Cert.ReferenceProjYIdeal.main (F := Ideal))) ⟨m', fun _ => 0, g'⟩ (fun r => ∀ c : Dev Cert.ReferenceProjYIdeal.nD,
          r.2.mem ((c.tc : Thread Cert.ReferenceProjYIdeal.nD Cert.ReferenceProjYIdeal.τ).loc Cert.ReferenceProjYIdeal.main_v8) = v0 c
          ∧ r.2.mem ((c.tc : Thread Cert.ReferenceProjYIdeal.nD Cert.ReferenceProjYIdeal.τ).loc Cert.ReferenceProjYIdeal.main_arg0) = m' ((c.tc : Thread Cert.ReferenceProjYIdeal.nD Cert.ReferenceProjYIdeal.τ).loc Cert.ReferenceProjYIdeal.main_arg0)
          ∧ r.2.mem ((c.tc : Thread Cert.ReferenceProjYIdeal.nD Cert.ReferenceProjYIdeal.τ).loc Cert.ReferenceProjYIdeal.main_arg1) = m' ((c.tc : Thread Cert.ReferenceProjYIdeal.nD Cert.ReferenceProjYIdeal.τ).loc Cert.ReferenceProjYIdeal.main_arg1)
          ∧ r.2.mem ((c.tc : Thread Cert.ReferenceProjYIdeal.nD Cert.ReferenceProjYIdeal.τ).loc Cert.ReferenceProjYIdeal.main_arg2) = m' ((c.tc : Thread Cert.ReferenceProjYIdeal.nD Cert.ReferenceProjYIdeal.τ).loc Cert.ReferenceProjYIdeal.main_arg2))

def preserves_KernelProjXY_KernelProjXYIdeal : Prop :=
  True

def algebraic_KernelProjXYIdeal_ReferenceProjXYIdeal [hKernelProjXYIdeal : Cert.KernelProjXYIdeal.Facts] [hReferenceProjXYIdeal : Cert.ReferenceProjXYIdeal.Facts] : Prop :=
  ∀ (m : (ℓ : Loc Cert.KernelProjXYIdeal.nD Cert.KernelProjXYIdeal.τ Cert.KernelProjXYIdeal.sig) → Buf (Elt Ideal) ℓ) (g : Dev Cert.KernelProjXYIdeal.nD → PrngReg)
    (m' : (ℓ : Loc Cert.ReferenceProjXYIdeal.nD Cert.ReferenceProjXYIdeal.τ Cert.ReferenceProjXYIdeal.sig) → Buf (Elt Ideal) ℓ) (g' : Dev Cert.ReferenceProjXYIdeal.nD → PrngReg), Pre_KernelProjXYIdeal m →
    (∀ c : Dev Cert.KernelProjXYIdeal.nD,
      m' ((c.tc : Thread Cert.ReferenceProjXYIdeal.nD Cert.ReferenceProjXYIdeal.τ).loc Cert.ReferenceProjXYIdeal.main_arg0) = m ((c.tc : Thread Cert.KernelProjXYIdeal.nD Cert.KernelProjXYIdeal.τ).loc Cert.KernelProjXYIdeal.main_arg0)
      ∧ m' ((c.tc : Thread Cert.ReferenceProjXYIdeal.nD Cert.ReferenceProjXYIdeal.τ).loc Cert.ReferenceProjXYIdeal.main_arg1) = m ((c.tc : Thread Cert.KernelProjXYIdeal.nD Cert.KernelProjXYIdeal.τ).loc Cert.KernelProjXYIdeal.main_arg1)
      ∧ m' ((c.tc : Thread Cert.ReferenceProjXYIdeal.nD Cert.ReferenceProjXYIdeal.τ).loc Cert.ReferenceProjXYIdeal.main_arg2) = m ((c.tc : Thread Cert.KernelProjXYIdeal.nD Cert.KernelProjXYIdeal.τ).loc Cert.KernelProjXYIdeal.main_arg2)) →
    ∃ (v0 : (c : Dev Cert.KernelProjXYIdeal.nD) → Buf (Elt Ideal) ((c.tc : Thread Cert.KernelProjXYIdeal.nD Cert.KernelProjXYIdeal.τ).loc Cert.KernelProjXYIdeal.main_v1)),
      θ_run (Cert.KernelProjXYIdeal.defs (F := Ideal)) (onTc (τ := Cert.KernelProjXYIdeal.τ) (Cert.KernelProjXYIdeal.main (F := Ideal))) ⟨m, fun _ => 0, g⟩ (fun r => ∀ c : Dev Cert.KernelProjXYIdeal.nD,
          r.2.mem ((c.tc : Thread Cert.KernelProjXYIdeal.nD Cert.KernelProjXYIdeal.τ).loc Cert.KernelProjXYIdeal.main_v1) = v0 c
          ∧ r.2.mem ((c.tc : Thread Cert.KernelProjXYIdeal.nD Cert.KernelProjXYIdeal.τ).loc Cert.KernelProjXYIdeal.main_arg0) = m ((c.tc : Thread Cert.KernelProjXYIdeal.nD Cert.KernelProjXYIdeal.τ).loc Cert.KernelProjXYIdeal.main_arg0)
          ∧ r.2.mem ((c.tc : Thread Cert.KernelProjXYIdeal.nD Cert.KernelProjXYIdeal.τ).loc Cert.KernelProjXYIdeal.main_arg1) = m ((c.tc : Thread Cert.KernelProjXYIdeal.nD Cert.KernelProjXYIdeal.τ).loc Cert.KernelProjXYIdeal.main_arg1)
          ∧ r.2.mem ((c.tc : Thread Cert.KernelProjXYIdeal.nD Cert.KernelProjXYIdeal.τ).loc Cert.KernelProjXYIdeal.main_arg2) = m ((c.tc : Thread Cert.KernelProjXYIdeal.nD Cert.KernelProjXYIdeal.τ).loc Cert.KernelProjXYIdeal.main_arg2))
      ∧ θ_run (Cert.ReferenceProjXYIdeal.defs (F := Ideal)) (onTc (τ := Cert.ReferenceProjXYIdeal.τ) (Cert.ReferenceProjXYIdeal.main (F := Ideal))) ⟨m', fun _ => 0, g'⟩ (fun r => ∀ c : Dev Cert.ReferenceProjXYIdeal.nD,
          r.2.mem ((c.tc : Thread Cert.ReferenceProjXYIdeal.nD Cert.ReferenceProjXYIdeal.τ).loc Cert.ReferenceProjXYIdeal.main_v7) = v0 c
          ∧ r.2.mem ((c.tc : Thread Cert.ReferenceProjXYIdeal.nD Cert.ReferenceProjXYIdeal.τ).loc Cert.ReferenceProjXYIdeal.main_arg0) = m' ((c.tc : Thread Cert.ReferenceProjXYIdeal.nD Cert.ReferenceProjXYIdeal.τ).loc Cert.ReferenceProjXYIdeal.main_arg0)
          ∧ r.2.mem ((c.tc : Thread Cert.ReferenceProjXYIdeal.nD Cert.ReferenceProjXYIdeal.τ).loc Cert.ReferenceProjXYIdeal.main_arg1) = m' ((c.tc : Thread Cert.ReferenceProjXYIdeal.nD Cert.ReferenceProjXYIdeal.τ).loc Cert.ReferenceProjXYIdeal.main_arg1)
          ∧ r.2.mem ((c.tc : Thread Cert.ReferenceProjXYIdeal.nD Cert.ReferenceProjXYIdeal.τ).loc Cert.ReferenceProjXYIdeal.main_arg2) = m' ((c.tc : Thread Cert.ReferenceProjXYIdeal.nD Cert.ReferenceProjXYIdeal.τ).loc Cert.ReferenceProjXYIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v4) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v6) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v6) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)) →
    ∃ (v0 : (c : Dev Cert.KernelNormIdeal.nD) → Buf (Elt Ideal) ((c.tc : Thread Cert.KernelNormIdeal.nD Cert.KernelNormIdeal.τ).loc Cert.KernelNormIdeal.main_v0)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v0) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v16) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1))

def preserves_KernelNormZ_KernelNormZIdeal : Prop :=
  True

def algebraic_KernelNormZIdeal_ReferenceNormZIdeal [hKernelNormZIdeal : Cert.KernelNormZIdeal.Facts] [hReferenceNormZIdeal : Cert.ReferenceNormZIdeal.Facts] : Prop :=
  ∀ (m : (ℓ : Loc Cert.KernelNormZIdeal.nD Cert.KernelNormZIdeal.τ Cert.KernelNormZIdeal.sig) → Buf (Elt Ideal) ℓ) (g : Dev Cert.KernelNormZIdeal.nD → PrngReg)
    (m' : (ℓ : Loc Cert.ReferenceNormZIdeal.nD Cert.ReferenceNormZIdeal.τ Cert.ReferenceNormZIdeal.sig) → Buf (Elt Ideal) ℓ) (g' : Dev Cert.ReferenceNormZIdeal.nD → PrngReg), Pre_KernelNormZIdeal m →
    (∀ c : Dev Cert.KernelNormZIdeal.nD,
      m' ((c.tc : Thread Cert.ReferenceNormZIdeal.nD Cert.ReferenceNormZIdeal.τ).loc Cert.ReferenceNormZIdeal.main_arg0) = m ((c.tc : Thread Cert.KernelNormZIdeal.nD Cert.KernelNormZIdeal.τ).loc Cert.KernelNormZIdeal.main_arg0)
      ∧ m' ((c.tc : Thread Cert.ReferenceNormZIdeal.nD Cert.ReferenceNormZIdeal.τ).loc Cert.ReferenceNormZIdeal.main_arg1) = m ((c.tc : Thread Cert.KernelNormZIdeal.nD Cert.KernelNormZIdeal.τ).loc Cert.KernelNormZIdeal.main_arg1)) →
    ∃ (v0 : (c : Dev Cert.KernelNormZIdeal.nD) → Buf (Elt Ideal) ((c.tc : Thread Cert.KernelNormZIdeal.nD Cert.KernelNormZIdeal.τ).loc Cert.KernelNormZIdeal.main_v0)),
      θ_run (Cert.KernelNormZIdeal.defs (F := Ideal)) (onTc (τ := Cert.KernelNormZIdeal.τ) (Cert.KernelNormZIdeal.main (F := Ideal))) ⟨m, fun _ => 0, g⟩ (fun r => ∀ c : Dev Cert.KernelNormZIdeal.nD,
          r.2.mem ((c.tc : Thread Cert.KernelNormZIdeal.nD Cert.KernelNormZIdeal.τ).loc Cert.KernelNormZIdeal.main_v0) = v0 c
          ∧ r.2.mem ((c.tc : Thread Cert.KernelNormZIdeal.nD Cert.KernelNormZIdeal.τ).loc Cert.KernelNormZIdeal.main_arg0) = m ((c.tc : Thread Cert.KernelNormZIdeal.nD Cert.KernelNormZIdeal.τ).loc Cert.KernelNormZIdeal.main_arg0)
          ∧ r.2.mem ((c.tc : Thread Cert.KernelNormZIdeal.nD Cert.KernelNormZIdeal.τ).loc Cert.KernelNormZIdeal.main_arg1) = m ((c.tc : Thread Cert.KernelNormZIdeal.nD Cert.KernelNormZIdeal.τ).loc Cert.KernelNormZIdeal.main_arg1))
      ∧ θ_run (Cert.ReferenceNormZIdeal.defs (F := Ideal)) (onTc (τ := Cert.ReferenceNormZIdeal.τ) (Cert.ReferenceNormZIdeal.main (F := Ideal))) ⟨m', fun _ => 0, g'⟩ (fun r => ∀ c : Dev Cert.ReferenceNormZIdeal.nD,
          r.2.mem ((c.tc : Thread Cert.ReferenceNormZIdeal.nD Cert.ReferenceNormZIdeal.τ).loc Cert.ReferenceNormZIdeal.main_v16) = v0 c
          ∧ r.2.mem ((c.tc : Thread Cert.ReferenceNormZIdeal.nD Cert.ReferenceNormZIdeal.τ).loc Cert.ReferenceNormZIdeal.main_arg0) = m' ((c.tc : Thread Cert.ReferenceNormZIdeal.nD Cert.ReferenceNormZIdeal.τ).loc Cert.ReferenceNormZIdeal.main_arg0)
          ∧ r.2.mem ((c.tc : Thread Cert.ReferenceNormZIdeal.nD Cert.ReferenceNormZIdeal.τ).loc Cert.ReferenceNormZIdeal.main_arg1) = m' ((c.tc : Thread Cert.ReferenceNormZIdeal.nD Cert.ReferenceNormZIdeal.τ).loc Cert.ReferenceNormZIdeal.main_arg1))

def preserves_KernelNormBwd_KernelNormBwdIdeal : Prop :=
  True

def algebraic_KernelNormBwdIdeal_ReferenceNormBwdIdeal [hKernelNormBwdIdeal : Cert.KernelNormBwdIdeal.Facts] [hReferenceNormBwdIdeal : Cert.ReferenceNormBwdIdeal.Facts] : Prop :=
  ∀ (m : (ℓ : Loc Cert.KernelNormBwdIdeal.nD Cert.KernelNormBwdIdeal.τ Cert.KernelNormBwdIdeal.sig) → Buf (Elt Ideal) ℓ) (g : Dev Cert.KernelNormBwdIdeal.nD → PrngReg)
    (m' : (ℓ : Loc Cert.ReferenceNormBwdIdeal.nD Cert.ReferenceNormBwdIdeal.τ Cert.ReferenceNormBwdIdeal.sig) → Buf (Elt Ideal) ℓ) (g' : Dev Cert.ReferenceNormBwdIdeal.nD → PrngReg), Pre_KernelNormBwdIdeal m →
    (∀ c : Dev Cert.KernelNormBwdIdeal.nD,
      m' ((c.tc : Thread Cert.ReferenceNormBwdIdeal.nD Cert.ReferenceNormBwdIdeal.τ).loc Cert.ReferenceNormBwdIdeal.main_arg0) = m ((c.tc : Thread Cert.KernelNormBwdIdeal.nD Cert.KernelNormBwdIdeal.τ).loc Cert.KernelNormBwdIdeal.main_arg0)
      ∧ m' ((c.tc : Thread Cert.ReferenceNormBwdIdeal.nD Cert.ReferenceNormBwdIdeal.τ).loc Cert.ReferenceNormBwdIdeal.main_arg1) = m ((c.tc : Thread Cert.KernelNormBwdIdeal.nD Cert.KernelNormBwdIdeal.τ).loc Cert.KernelNormBwdIdeal.main_arg1)
      ∧ m' ((c.tc : Thread Cert.ReferenceNormBwdIdeal.nD Cert.ReferenceNormBwdIdeal.τ).loc Cert.ReferenceNormBwdIdeal.main_arg2) = m ((c.tc : Thread Cert.KernelNormBwdIdeal.nD Cert.KernelNormBwdIdeal.τ).loc Cert.KernelNormBwdIdeal.main_arg2)
      ∧ m' ((c.tc : Thread Cert.ReferenceNormBwdIdeal.nD Cert.ReferenceNormBwdIdeal.τ).loc Cert.ReferenceNormBwdIdeal.main_arg3) = m ((c.tc : Thread Cert.KernelNormBwdIdeal.nD Cert.KernelNormBwdIdeal.τ).loc Cert.KernelNormBwdIdeal.main_arg3)) →
    ∃ (v0 : (c : Dev Cert.KernelNormBwdIdeal.nD) → Buf (Elt Ideal) ((c.tc : Thread Cert.KernelNormBwdIdeal.nD Cert.KernelNormBwdIdeal.τ).loc Cert.KernelNormBwdIdeal.main_v0_0)) (v1 : (c : Dev Cert.KernelNormBwdIdeal.nD) → Buf (Elt Ideal) ((c.tc : Thread Cert.KernelNormBwdIdeal.nD Cert.KernelNormBwdIdeal.τ).loc Cert.KernelNormBwdIdeal.main_v0_1)),
      θ_run (Cert.KernelNormBwdIdeal.defs (F := Ideal)) (onTc (τ := Cert.KernelNormBwdIdeal.τ) (Cert.KernelNormBwdIdeal.main (F := Ideal))) ⟨m, fun _ => 0, g⟩ (fun r => ∀ c : Dev Cert.KernelNormBwdIdeal.nD,
          r.2.mem ((c.tc : Thread Cert.KernelNormBwdIdeal.nD Cert.KernelNormBwdIdeal.τ).loc Cert.KernelNormBwdIdeal.main_v0_0) = v0 c
          ∧ r.2.mem ((c.tc : Thread Cert.KernelNormBwdIdeal.nD Cert.KernelNormBwdIdeal.τ).loc Cert.KernelNormBwdIdeal.main_v0_1) = v1 c
          ∧ r.2.mem ((c.tc : Thread Cert.KernelNormBwdIdeal.nD Cert.KernelNormBwdIdeal.τ).loc Cert.KernelNormBwdIdeal.main_arg0) = m ((c.tc : Thread Cert.KernelNormBwdIdeal.nD Cert.KernelNormBwdIdeal.τ).loc Cert.KernelNormBwdIdeal.main_arg0)
          ∧ r.2.mem ((c.tc : Thread Cert.KernelNormBwdIdeal.nD Cert.KernelNormBwdIdeal.τ).loc Cert.KernelNormBwdIdeal.main_arg1) = m ((c.tc : Thread Cert.KernelNormBwdIdeal.nD Cert.KernelNormBwdIdeal.τ).loc Cert.KernelNormBwdIdeal.main_arg1)
          ∧ r.2.mem ((c.tc : Thread Cert.KernelNormBwdIdeal.nD Cert.KernelNormBwdIdeal.τ).loc Cert.KernelNormBwdIdeal.main_arg2) = m ((c.tc : Thread Cert.KernelNormBwdIdeal.nD Cert.KernelNormBwdIdeal.τ).loc Cert.KernelNormBwdIdeal.main_arg2)
          ∧ r.2.mem ((c.tc : Thread Cert.KernelNormBwdIdeal.nD Cert.KernelNormBwdIdeal.τ).loc Cert.KernelNormBwdIdeal.main_arg3) = m ((c.tc : Thread Cert.KernelNormBwdIdeal.nD Cert.KernelNormBwdIdeal.τ).loc Cert.KernelNormBwdIdeal.main_arg3))
      ∧ θ_run (Cert.ReferenceNormBwdIdeal.defs (F := Ideal)) (onTc (τ := Cert.ReferenceNormBwdIdeal.τ) (Cert.ReferenceNormBwdIdeal.main (F := Ideal))) ⟨m', fun _ => 0, g'⟩ (fun r => ∀ c : Dev Cert.ReferenceNormBwdIdeal.nD,
          r.2.mem ((c.tc : Thread Cert.ReferenceNormBwdIdeal.nD Cert.ReferenceNormBwdIdeal.τ).loc Cert.ReferenceNormBwdIdeal.main_v41) = v0 c
          ∧ r.2.mem ((c.tc : Thread Cert.ReferenceNormBwdIdeal.nD Cert.ReferenceNormBwdIdeal.τ).loc Cert.ReferenceNormBwdIdeal.main_v42) = v1 c
          ∧ r.2.mem ((c.tc : Thread Cert.ReferenceNormBwdIdeal.nD Cert.ReferenceNormBwdIdeal.τ).loc Cert.ReferenceNormBwdIdeal.main_arg0) = m' ((c.tc : Thread Cert.ReferenceNormBwdIdeal.nD Cert.ReferenceNormBwdIdeal.τ).loc Cert.ReferenceNormBwdIdeal.main_arg0)
          ∧ r.2.mem ((c.tc : Thread Cert.ReferenceNormBwdIdeal.nD Cert.ReferenceNormBwdIdeal.τ).loc Cert.ReferenceNormBwdIdeal.main_arg1) = m' ((c.tc : Thread Cert.ReferenceNormBwdIdeal.nD Cert.ReferenceNormBwdIdeal.τ).loc Cert.ReferenceNormBwdIdeal.main_arg1)
          ∧ r.2.mem ((c.tc : Thread Cert.ReferenceNormBwdIdeal.nD Cert.ReferenceNormBwdIdeal.τ).loc Cert.ReferenceNormBwdIdeal.main_arg2) = m' ((c.tc : Thread Cert.ReferenceNormBwdIdeal.nD Cert.ReferenceNormBwdIdeal.τ).loc Cert.ReferenceNormBwdIdeal.main_arg2)
          ∧ r.2.mem ((c.tc : Thread Cert.ReferenceNormBwdIdeal.nD Cert.ReferenceNormBwdIdeal.τ).loc Cert.ReferenceNormBwdIdeal.main_arg3) = m' ((c.tc : Thread Cert.ReferenceNormBwdIdeal.nD Cert.ReferenceNormBwdIdeal.τ).loc Cert.ReferenceNormBwdIdeal.main_arg3))

def preserves_KernelNormBwdA_KernelNormBwdAIdeal : Prop :=
  True

def algebraic_KernelNormBwdAIdeal_ReferenceNormBwdAIdeal [hKernelNormBwdAIdeal : Cert.KernelNormBwdAIdeal.Facts] [hReferenceNormBwdAIdeal : Cert.ReferenceNormBwdAIdeal.Facts] : Prop :=
  ∀ (m : (ℓ : Loc Cert.KernelNormBwdAIdeal.nD Cert.KernelNormBwdAIdeal.τ Cert.KernelNormBwdAIdeal.sig) → Buf (Elt Ideal) ℓ) (g : Dev Cert.KernelNormBwdAIdeal.nD → PrngReg)
    (m' : (ℓ : Loc Cert.ReferenceNormBwdAIdeal.nD Cert.ReferenceNormBwdAIdeal.τ Cert.ReferenceNormBwdAIdeal.sig) → Buf (Elt Ideal) ℓ) (g' : Dev Cert.ReferenceNormBwdAIdeal.nD → PrngReg), Pre_KernelNormBwdAIdeal m →
    (∀ c : Dev Cert.KernelNormBwdAIdeal.nD,
      m' ((c.tc : Thread Cert.ReferenceNormBwdAIdeal.nD Cert.ReferenceNormBwdAIdeal.τ).loc Cert.ReferenceNormBwdAIdeal.main_arg0) = m ((c.tc : Thread Cert.KernelNormBwdAIdeal.nD Cert.KernelNormBwdAIdeal.τ).loc Cert.KernelNormBwdAIdeal.main_arg0)
      ∧ m' ((c.tc : Thread Cert.ReferenceNormBwdAIdeal.nD Cert.ReferenceNormBwdAIdeal.τ).loc Cert.ReferenceNormBwdAIdeal.main_arg1) = m ((c.tc : Thread Cert.KernelNormBwdAIdeal.nD Cert.KernelNormBwdAIdeal.τ).loc Cert.KernelNormBwdAIdeal.main_arg1)
      ∧ m' ((c.tc : Thread Cert.ReferenceNormBwdAIdeal.nD Cert.ReferenceNormBwdAIdeal.τ).loc Cert.ReferenceNormBwdAIdeal.main_arg2) = m ((c.tc : Thread Cert.KernelNormBwdAIdeal.nD Cert.KernelNormBwdAIdeal.τ).loc Cert.KernelNormBwdAIdeal.main_arg2)
      ∧ m' ((c.tc : Thread Cert.ReferenceNormBwdAIdeal.nD Cert.ReferenceNormBwdAIdeal.τ).loc Cert.ReferenceNormBwdAIdeal.main_arg3) = m ((c.tc : Thread Cert.KernelNormBwdAIdeal.nD Cert.KernelNormBwdAIdeal.τ).loc Cert.KernelNormBwdAIdeal.main_arg3)
      ∧ m' ((c.tc : Thread Cert.ReferenceNormBwdAIdeal.nD Cert.ReferenceNormBwdAIdeal.τ).loc Cert.ReferenceNormBwdAIdeal.main_arg4) = m ((c.tc : Thread Cert.KernelNormBwdAIdeal.nD Cert.KernelNormBwdAIdeal.τ).loc Cert.KernelNormBwdAIdeal.main_arg4)) →
    ∃ (v0 : (c : Dev Cert.KernelNormBwdAIdeal.nD) → Buf (Elt Ideal) ((c.tc : Thread Cert.KernelNormBwdAIdeal.nD Cert.KernelNormBwdAIdeal.τ).loc Cert.KernelNormBwdAIdeal.main_v0_0)) (v1 : (c : Dev Cert.KernelNormBwdAIdeal.nD) → Buf (Elt Ideal) ((c.tc : Thread Cert.KernelNormBwdAIdeal.nD Cert.KernelNormBwdAIdeal.τ).loc Cert.KernelNormBwdAIdeal.main_v0_1)) (v2 : (c : Dev Cert.KernelNormBwdAIdeal.nD) → Buf (Elt Ideal) ((c.tc : Thread Cert.KernelNormBwdAIdeal.nD Cert.KernelNormBwdAIdeal.τ).loc Cert.KernelNormBwdAIdeal.main_v0_2)),
      θ_run (Cert.KernelNormBwdAIdeal.defs (F := Ideal)) (onTc (τ := Cert.KernelNormBwdAIdeal.τ) (Cert.KernelNormBwdAIdeal.main (F := Ideal))) ⟨m, fun _ => 0, g⟩ (fun r => ∀ c : Dev Cert.KernelNormBwdAIdeal.nD,
          r.2.mem ((c.tc : Thread Cert.KernelNormBwdAIdeal.nD Cert.KernelNormBwdAIdeal.τ).loc Cert.KernelNormBwdAIdeal.main_v0_0) = v0 c
          ∧ r.2.mem ((c.tc : Thread Cert.KernelNormBwdAIdeal.nD Cert.KernelNormBwdAIdeal.τ).loc Cert.KernelNormBwdAIdeal.main_v0_1) = v1 c
          ∧ r.2.mem ((c.tc : Thread Cert.KernelNormBwdAIdeal.nD Cert.KernelNormBwdAIdeal.τ).loc Cert.KernelNormBwdAIdeal.main_v0_2) = v2 c
          ∧ r.2.mem ((c.tc : Thread Cert.KernelNormBwdAIdeal.nD Cert.KernelNormBwdAIdeal.τ).loc Cert.KernelNormBwdAIdeal.main_arg0) = m ((c.tc : Thread Cert.KernelNormBwdAIdeal.nD Cert.KernelNormBwdAIdeal.τ).loc Cert.KernelNormBwdAIdeal.main_arg0)
          ∧ r.2.mem ((c.tc : Thread Cert.KernelNormBwdAIdeal.nD Cert.KernelNormBwdAIdeal.τ).loc Cert.KernelNormBwdAIdeal.main_arg1) = m ((c.tc : Thread Cert.KernelNormBwdAIdeal.nD Cert.KernelNormBwdAIdeal.τ).loc Cert.KernelNormBwdAIdeal.main_arg1)
          ∧ r.2.mem ((c.tc : Thread Cert.KernelNormBwdAIdeal.nD Cert.KernelNormBwdAIdeal.τ).loc Cert.KernelNormBwdAIdeal.main_arg2) = m ((c.tc : Thread Cert.KernelNormBwdAIdeal.nD Cert.KernelNormBwdAIdeal.τ).loc Cert.KernelNormBwdAIdeal.main_arg2)
          ∧ r.2.mem ((c.tc : Thread Cert.KernelNormBwdAIdeal.nD Cert.KernelNormBwdAIdeal.τ).loc Cert.KernelNormBwdAIdeal.main_arg3) = m ((c.tc : Thread Cert.KernelNormBwdAIdeal.nD Cert.KernelNormBwdAIdeal.τ).loc Cert.KernelNormBwdAIdeal.main_arg3)
          ∧ r.2.mem ((c.tc : Thread Cert.KernelNormBwdAIdeal.nD Cert.KernelNormBwdAIdeal.τ).loc Cert.KernelNormBwdAIdeal.main_arg4) = m ((c.tc : Thread Cert.KernelNormBwdAIdeal.nD Cert.KernelNormBwdAIdeal.τ).loc Cert.KernelNormBwdAIdeal.main_arg4))
      ∧ θ_run (Cert.ReferenceNormBwdAIdeal.defs (F := Ideal)) (onTc (τ := Cert.ReferenceNormBwdAIdeal.τ) (Cert.ReferenceNormBwdAIdeal.main (F := Ideal))) ⟨m', fun _ => 0, g'⟩ (fun r => ∀ c : Dev Cert.ReferenceNormBwdAIdeal.nD,
          r.2.mem ((c.tc : Thread Cert.ReferenceNormBwdAIdeal.nD Cert.ReferenceNormBwdAIdeal.τ).loc Cert.ReferenceNormBwdAIdeal.main_v41) = v0 c
          ∧ r.2.mem ((c.tc : Thread Cert.ReferenceNormBwdAIdeal.nD Cert.ReferenceNormBwdAIdeal.τ).loc Cert.ReferenceNormBwdAIdeal.main_v42) = v1 c
          ∧ r.2.mem ((c.tc : Thread Cert.ReferenceNormBwdAIdeal.nD Cert.ReferenceNormBwdAIdeal.τ).loc Cert.ReferenceNormBwdAIdeal.main_v43) = v2 c
          ∧ r.2.mem ((c.tc : Thread Cert.ReferenceNormBwdAIdeal.nD Cert.ReferenceNormBwdAIdeal.τ).loc Cert.ReferenceNormBwdAIdeal.main_arg0) = m' ((c.tc : Thread Cert.ReferenceNormBwdAIdeal.nD Cert.ReferenceNormBwdAIdeal.τ).loc Cert.ReferenceNormBwdAIdeal.main_arg0)
          ∧ r.2.mem ((c.tc : Thread Cert.ReferenceNormBwdAIdeal.nD Cert.ReferenceNormBwdAIdeal.τ).loc Cert.ReferenceNormBwdAIdeal.main_arg1) = m' ((c.tc : Thread Cert.ReferenceNormBwdAIdeal.nD Cert.ReferenceNormBwdAIdeal.τ).loc Cert.ReferenceNormBwdAIdeal.main_arg1)
          ∧ r.2.mem ((c.tc : Thread Cert.ReferenceNormBwdAIdeal.nD Cert.ReferenceNormBwdAIdeal.τ).loc Cert.ReferenceNormBwdAIdeal.main_arg2) = m' ((c.tc : Thread Cert.ReferenceNormBwdAIdeal.nD Cert.ReferenceNormBwdAIdeal.τ).loc Cert.ReferenceNormBwdAIdeal.main_arg2)
          ∧ r.2.mem ((c.tc : Thread Cert.ReferenceNormBwdAIdeal.nD Cert.ReferenceNormBwdAIdeal.τ).loc Cert.ReferenceNormBwdAIdeal.main_arg3) = m' ((c.tc : Thread Cert.ReferenceNormBwdAIdeal.nD Cert.ReferenceNormBwdAIdeal.τ).loc Cert.ReferenceNormBwdAIdeal.main_arg3)
          ∧ r.2.mem ((c.tc : Thread Cert.ReferenceNormBwdAIdeal.nD Cert.ReferenceNormBwdAIdeal.τ).loc Cert.ReferenceNormBwdAIdeal.main_arg4) = m' ((c.tc : Thread Cert.ReferenceNormBwdAIdeal.nD Cert.ReferenceNormBwdAIdeal.τ).loc Cert.ReferenceNormBwdAIdeal.main_arg4))

def preserves_KernelNormZBwd_KernelNormZBwdIdeal : Prop :=
  True

def algebraic_KernelNormZBwdIdeal_ReferenceNormZBwdIdeal [hKernelNormZBwdIdeal : Cert.KernelNormZBwdIdeal.Facts] [hReferenceNormZBwdIdeal : Cert.ReferenceNormZBwdIdeal.Facts] : Prop :=
  ∀ (m : (ℓ : Loc Cert.KernelNormZBwdIdeal.nD Cert.KernelNormZBwdIdeal.τ Cert.KernelNormZBwdIdeal.sig) → Buf (Elt Ideal) ℓ) (g : Dev Cert.KernelNormZBwdIdeal.nD → PrngReg)
    (m' : (ℓ : Loc Cert.ReferenceNormZBwdIdeal.nD Cert.ReferenceNormZBwdIdeal.τ Cert.ReferenceNormZBwdIdeal.sig) → Buf (Elt Ideal) ℓ) (g' : Dev Cert.ReferenceNormZBwdIdeal.nD → PrngReg), Pre_KernelNormZBwdIdeal m →
    (∀ c : Dev Cert.KernelNormZBwdIdeal.nD,
      m' ((c.tc : Thread Cert.ReferenceNormZBwdIdeal.nD Cert.ReferenceNormZBwdIdeal.τ).loc Cert.ReferenceNormZBwdIdeal.main_arg0) = m ((c.tc : Thread Cert.KernelNormZBwdIdeal.nD Cert.KernelNormZBwdIdeal.τ).loc Cert.KernelNormZBwdIdeal.main_arg0)
      ∧ m' ((c.tc : Thread Cert.ReferenceNormZBwdIdeal.nD Cert.ReferenceNormZBwdIdeal.τ).loc Cert.ReferenceNormZBwdIdeal.main_arg1) = m ((c.tc : Thread Cert.KernelNormZBwdIdeal.nD Cert.KernelNormZBwdIdeal.τ).loc Cert.KernelNormZBwdIdeal.main_arg1)
      ∧ m' ((c.tc : Thread Cert.ReferenceNormZBwdIdeal.nD Cert.ReferenceNormZBwdIdeal.τ).loc Cert.ReferenceNormZBwdIdeal.main_arg2) = m ((c.tc : Thread Cert.KernelNormZBwdIdeal.nD Cert.KernelNormZBwdIdeal.τ).loc Cert.KernelNormZBwdIdeal.main_arg2)) →
    ∃ (v0 : (c : Dev Cert.KernelNormZBwdIdeal.nD) → Buf (Elt Ideal) ((c.tc : Thread Cert.KernelNormZBwdIdeal.nD Cert.KernelNormZBwdIdeal.τ).loc Cert.KernelNormZBwdIdeal.main_v0_0)) (v1 : (c : Dev Cert.KernelNormZBwdIdeal.nD) → Buf (Elt Ideal) ((c.tc : Thread Cert.KernelNormZBwdIdeal.nD Cert.KernelNormZBwdIdeal.τ).loc Cert.KernelNormZBwdIdeal.main_v0_1)),
      θ_run (Cert.KernelNormZBwdIdeal.defs (F := Ideal)) (onTc (τ := Cert.KernelNormZBwdIdeal.τ) (Cert.KernelNormZBwdIdeal.main (F := Ideal))) ⟨m, fun _ => 0, g⟩ (fun r => ∀ c : Dev Cert.KernelNormZBwdIdeal.nD,
          r.2.mem ((c.tc : Thread Cert.KernelNormZBwdIdeal.nD Cert.KernelNormZBwdIdeal.τ).loc Cert.KernelNormZBwdIdeal.main_v0_0) = v0 c
          ∧ r.2.mem ((c.tc : Thread Cert.KernelNormZBwdIdeal.nD Cert.KernelNormZBwdIdeal.τ).loc Cert.KernelNormZBwdIdeal.main_v0_1) = v1 c
          ∧ r.2.mem ((c.tc : Thread Cert.KernelNormZBwdIdeal.nD Cert.KernelNormZBwdIdeal.τ).loc Cert.KernelNormZBwdIdeal.main_arg0) = m ((c.tc : Thread Cert.KernelNormZBwdIdeal.nD Cert.KernelNormZBwdIdeal.τ).loc Cert.KernelNormZBwdIdeal.main_arg0)
          ∧ r.2.mem ((c.tc : Thread Cert.KernelNormZBwdIdeal.nD Cert.KernelNormZBwdIdeal.τ).loc Cert.KernelNormZBwdIdeal.main_arg1) = m ((c.tc : Thread Cert.KernelNormZBwdIdeal.nD Cert.KernelNormZBwdIdeal.τ).loc Cert.KernelNormZBwdIdeal.main_arg1)
          ∧ r.2.mem ((c.tc : Thread Cert.KernelNormZBwdIdeal.nD Cert.KernelNormZBwdIdeal.τ).loc Cert.KernelNormZBwdIdeal.main_arg2) = m ((c.tc : Thread Cert.KernelNormZBwdIdeal.nD Cert.KernelNormZBwdIdeal.τ).loc Cert.KernelNormZBwdIdeal.main_arg2))
      ∧ θ_run (Cert.ReferenceNormZBwdIdeal.defs (F := Ideal)) (onTc (τ := Cert.ReferenceNormZBwdIdeal.τ) (Cert.ReferenceNormZBwdIdeal.main (F := Ideal))) ⟨m', fun _ => 0, g'⟩ (fun r => ∀ c : Dev Cert.ReferenceNormZBwdIdeal.nD,
          r.2.mem ((c.tc : Thread Cert.ReferenceNormZBwdIdeal.nD Cert.ReferenceNormZBwdIdeal.τ).loc Cert.ReferenceNormZBwdIdeal.main_v40) = v0 c
          ∧ r.2.mem ((c.tc : Thread Cert.ReferenceNormZBwdIdeal.nD Cert.ReferenceNormZBwdIdeal.τ).loc Cert.ReferenceNormZBwdIdeal.main_v41) = v1 c
          ∧ r.2.mem ((c.tc : Thread Cert.ReferenceNormZBwdIdeal.nD Cert.ReferenceNormZBwdIdeal.τ).loc Cert.ReferenceNormZBwdIdeal.main_arg0) = m' ((c.tc : Thread Cert.ReferenceNormZBwdIdeal.nD Cert.ReferenceNormZBwdIdeal.τ).loc Cert.ReferenceNormZBwdIdeal.main_arg0)
          ∧ r.2.mem ((c.tc : Thread Cert.ReferenceNormZBwdIdeal.nD Cert.ReferenceNormZBwdIdeal.τ).loc Cert.ReferenceNormZBwdIdeal.main_arg1) = m' ((c.tc : Thread Cert.ReferenceNormZBwdIdeal.nD Cert.ReferenceNormZBwdIdeal.τ).loc Cert.ReferenceNormZBwdIdeal.main_arg1)
          ∧ r.2.mem ((c.tc : Thread Cert.ReferenceNormZBwdIdeal.nD Cert.ReferenceNormZBwdIdeal.τ).loc Cert.ReferenceNormZBwdIdeal.main_arg2) = m' ((c.tc : Thread Cert.ReferenceNormZBwdIdeal.nD Cert.ReferenceNormZBwdIdeal.τ).loc Cert.ReferenceNormZBwdIdeal.main_arg2))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)) (v3 : (c : Dev Cert.KernelLossIdeal.nD) → Buf (Elt Ideal) ((c.tc : Thread Cert.KernelLossIdeal.nD Cert.KernelLossIdeal.τ).loc Cert.KernelLossIdeal.main_v0_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_v0_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v54) = v0 c
          ∧ r.2.mem ((c.tc : Thread Cert.ReferenceLossIdeal.nD Cert.ReferenceLossIdeal.τ).loc Cert.ReferenceLossIdeal.main_v55) = v1 c
          ∧ r.2.mem ((c.tc : Thread Cert.ReferenceLossIdeal.nD Cert.ReferenceLossIdeal.τ).loc Cert.ReferenceLossIdeal.main_v56) = v2 c
          ∧ r.2.mem ((c.tc : Thread Cert.ReferenceLossIdeal.nD Cert.ReferenceLossIdeal.τ).loc Cert.ReferenceLossIdeal.main_v57) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelAdamIn_KernelAdamInIdeal : Prop :=
  True

def algebraic_KernelAdamInIdeal_ReferenceAdamInIdeal [hKernelAdamInIdeal : Cert.KernelAdamInIdeal.Facts] [hReferenceAdamInIdeal : Cert.ReferenceAdamInIdeal.Facts] : Prop :=
  ∀ (m : (ℓ : Loc Cert.KernelAdamInIdeal.nD Cert.KernelAdamInIdeal.τ Cert.KernelAdamInIdeal.sig) → Buf (Elt Ideal) ℓ) (g : Dev Cert.KernelAdamInIdeal.nD → PrngReg)
    (m' : (ℓ : Loc Cert.ReferenceAdamInIdeal.nD Cert.ReferenceAdamInIdeal.τ Cert.ReferenceAdamInIdeal.sig) → Buf (Elt Ideal) ℓ) (g' : Dev Cert.ReferenceAdamInIdeal.nD → PrngReg), Pre_KernelAdamInIdeal m →
    (∀ c : Dev Cert.KernelAdamInIdeal.nD,
      m' ((c.tc : Thread Cert.ReferenceAdamInIdeal.nD Cert.ReferenceAdamInIdeal.τ).loc Cert.ReferenceAdamInIdeal.main_arg0) = m ((c.tc : Thread Cert.KernelAdamInIdeal.nD Cert.KernelAdamInIdeal.τ).loc Cert.KernelAdamInIdeal.main_arg0)
      ∧ m' ((c.tc : Thread Cert.ReferenceAdamInIdeal.nD Cert.ReferenceAdamInIdeal.τ).loc Cert.ReferenceAdamInIdeal.main_arg1) = m ((c.tc : Thread Cert.KernelAdamInIdeal.nD Cert.KernelAdamInIdeal.τ).loc Cert.KernelAdamInIdeal.main_arg1)
      ∧ m' ((c.tc : Thread Cert.ReferenceAdamInIdeal.nD Cert.ReferenceAdamInIdeal.τ).loc Cert.ReferenceAdamInIdeal.main_arg2) = m ((c.tc : Thread Cert.KernelAdamInIdeal.nD Cert.KernelAdamInIdeal.τ).loc Cert.KernelAdamInIdeal.main_arg2)
      ∧ m' ((c.tc : Thread Cert.ReferenceAdamInIdeal.nD Cert.ReferenceAdamInIdeal.τ).loc Cert.ReferenceAdamInIdeal.main_arg3) = m ((c.tc : Thread Cert.KernelAdamInIdeal.nD Cert.KernelAdamInIdeal.τ).loc Cert.KernelAdamInIdeal.main_arg3)) →
    ∃ (v0 : (c : Dev Cert.KernelAdamInIdeal.nD) → Buf (Elt Ideal) ((c.tc : Thread Cert.KernelAdamInIdeal.nD Cert.KernelAdamInIdeal.τ).loc Cert.KernelAdamInIdeal.main_v0_0)) (v1 : (c : Dev Cert.KernelAdamInIdeal.nD) → Buf (Elt Ideal) ((c.tc : Thread Cert.KernelAdamInIdeal.nD Cert.KernelAdamInIdeal.τ).loc Cert.KernelAdamInIdeal.main_v0_1)) (v2 : (c : Dev Cert.KernelAdamInIdeal.nD) → Buf (Elt Ideal) ((c.tc : Thread Cert.KernelAdamInIdeal.nD Cert.KernelAdamInIdeal.τ).loc Cert.KernelAdamInIdeal.main_v0_2)) (v3 : (c : Dev Cert.KernelAdamInIdeal.nD) → Buf (Elt Ideal) ((c.tc : Thread Cert.KernelAdamInIdeal.nD Cert.KernelAdamInIdeal.τ).loc Cert.KernelAdamInIdeal.main_v0_3)),
      θ_run (Cert.KernelAdamInIdeal.defs (F := Ideal)) (onTc (τ := Cert.KernelAdamInIdeal.τ) (Cert.KernelAdamInIdeal.main (F := Ideal))) ⟨m, fun _ => 0, g⟩ (fun r => ∀ c : Dev Cert.KernelAdamInIdeal.nD,
          r.2.mem ((c.tc : Thread Cert.KernelAdamInIdeal.nD Cert.KernelAdamInIdeal.τ).loc Cert.KernelAdamInIdeal.main_v0_0) = v0 c
          ∧ r.2.mem ((c.tc : Thread Cert.KernelAdamInIdeal.nD Cert.KernelAdamInIdeal.τ).loc Cert.KernelAdamInIdeal.main_v0_1) = v1 c
          ∧ r.2.mem ((c.tc : Thread Cert.KernelAdamInIdeal.nD Cert.KernelAdamInIdeal.τ).loc Cert.KernelAdamInIdeal.main_v0_2) = v2 c
          ∧ r.2.mem ((c.tc : Thread Cert.KernelAdamInIdeal.nD Cert.KernelAdamInIdeal.τ).loc Cert.KernelAdamInIdeal.main_v0_3) = v3 c
          ∧ r.2.mem ((c.tc : Thread Cert.KernelAdamInIdeal.nD Cert.KernelAdamInIdeal.τ).loc Cert.KernelAdamInIdeal.main_arg0) = m ((c.tc : Thread Cert.KernelAdamInIdeal.nD Cert.KernelAdamInIdeal.τ).loc Cert.KernelAdamInIdeal.main_arg0)
          ∧ r.2.mem ((c.tc : Thread Cert.KernelAdamInIdeal.nD Cert.KernelAdamInIdeal.τ).loc Cert.KernelAdamInIdeal.main_arg1) = m ((c.tc : Thread Cert.KernelAdamInIdeal.nD Cert.KernelAdamInIdeal.τ).loc Cert.KernelAdamInIdeal.main_arg1)
          ∧ r.2.mem ((c.tc : Thread Cert.KernelAdamInIdeal.nD Cert.KernelAdamInIdeal.τ).loc Cert.KernelAdamInIdeal.main_arg2) = m ((c.tc : Thread Cert.KernelAdamInIdeal.nD Cert.KernelAdamInIdeal.τ).loc Cert.KernelAdamInIdeal.main_arg2)
          ∧ r.2.mem ((c.tc : Thread Cert.KernelAdamInIdeal.nD Cert.KernelAdamInIdeal.τ).loc Cert.KernelAdamInIdeal.main_arg3) = m ((c.tc : Thread Cert.KernelAdamInIdeal.nD Cert.KernelAdamInIdeal.τ).loc Cert.KernelAdamInIdeal.main_arg3))
      ∧ θ_run (Cert.ReferenceAdamInIdeal.defs (F := Ideal)) (onTc (τ := Cert.ReferenceAdamInIdeal.τ) (Cert.ReferenceAdamInIdeal.main (F := Ideal))) ⟨m', fun _ => 0, g'⟩ (fun r => ∀ c : Dev Cert.ReferenceAdamInIdeal.nD,
          r.2.mem ((c.tc : Thread Cert.ReferenceAdamInIdeal.nD Cert.ReferenceAdamInIdeal.τ).loc Cert.ReferenceAdamInIdeal.main_v2) = v0 c
          ∧ r.2.mem ((c.tc : Thread Cert.ReferenceAdamInIdeal.nD Cert.ReferenceAdamInIdeal.τ).loc Cert.ReferenceAdamInIdeal.main_v26) = v1 c
          ∧ r.2.mem ((c.tc : Thread Cert.ReferenceAdamInIdeal.nD Cert.ReferenceAdamInIdeal.τ).loc Cert.ReferenceAdamInIdeal.main_v7) = v2 c
          ∧ r.2.mem ((c.tc : Thread Cert.ReferenceAdamInIdeal.nD Cert.ReferenceAdamInIdeal.τ).loc Cert.ReferenceAdamInIdeal.main_v13) = v3 c
          ∧ r.2.mem ((c.tc : Thread Cert.ReferenceAdamInIdeal.nD Cert.ReferenceAdamInIdeal.τ).loc Cert.ReferenceAdamInIdeal.main_arg0) = m' ((c.tc : Thread Cert.ReferenceAdamInIdeal.nD Cert.ReferenceAdamInIdeal.τ).loc Cert.ReferenceAdamInIdeal.main_arg0)
          ∧ r.2.mem ((c.tc : Thread Cert.ReferenceAdamInIdeal.nD Cert.ReferenceAdamInIdeal.τ).loc Cert.ReferenceAdamInIdeal.main_arg1) = m' ((c.tc : Thread Cert.ReferenceAdamInIdeal.nD Cert.ReferenceAdamInIdeal.τ).loc Cert.ReferenceAdamInIdeal.main_arg1)
          ∧ r.2.mem ((c.tc : Thread Cert.ReferenceAdamInIdeal.nD Cert.ReferenceAdamInIdeal.τ).loc Cert.ReferenceAdamInIdeal.main_arg2) = m' ((c.tc : Thread Cert.ReferenceAdamInIdeal.nD Cert.ReferenceAdamInIdeal.τ).loc Cert.ReferenceAdamInIdeal.main_arg2)
          ∧ r.2.mem ((c.tc : Thread Cert.ReferenceAdamInIdeal.nD Cert.ReferenceAdamInIdeal.τ).loc Cert.ReferenceAdamInIdeal.main_arg3) = m' ((c.tc : Thread Cert.ReferenceAdamInIdeal.nD Cert.ReferenceAdamInIdeal.τ).loc Cert.ReferenceAdamInIdeal.main_arg3))

def preserves_KernelAdamUp_KernelAdamUpIdeal : Prop :=
  True

def algebraic_KernelAdamUpIdeal_ReferenceAdamUpIdeal [hKernelAdamUpIdeal : Cert.KernelAdamUpIdeal.Facts] [hReferenceAdamUpIdeal : Cert.ReferenceAdamUpIdeal.Facts] : Prop :=
  ∀ (m : (ℓ : Loc Cert.KernelAdamUpIdeal.nD Cert.KernelAdamUpIdeal.τ Cert.KernelAdamUpIdeal.sig) → Buf (Elt Ideal) ℓ) (g : Dev Cert.KernelAdamUpIdeal.nD → PrngReg)
    (m' : (ℓ : Loc Cert.ReferenceAdamUpIdeal.nD Cert.ReferenceAdamUpIdeal.τ Cert.ReferenceAdamUpIdeal.sig) → Buf (Elt Ideal) ℓ) (g' : Dev Cert.ReferenceAdamUpIdeal.nD → PrngReg), Pre_KernelAdamUpIdeal m →
    (∀ c : Dev Cert.KernelAdamUpIdeal.nD,
      m' ((c.tc : Thread Cert.ReferenceAdamUpIdeal.nD Cert.ReferenceAdamUpIdeal.τ).loc Cert.ReferenceAdamUpIdeal.main_arg0) = m ((c.tc : Thread Cert.KernelAdamUpIdeal.nD Cert.KernelAdamUpIdeal.τ).loc Cert.KernelAdamUpIdeal.main_arg0)
      ∧ m' ((c.tc : Thread Cert.ReferenceAdamUpIdeal.nD Cert.ReferenceAdamUpIdeal.τ).loc Cert.ReferenceAdamUpIdeal.main_arg1) = m ((c.tc : Thread Cert.KernelAdamUpIdeal.nD Cert.KernelAdamUpIdeal.τ).loc Cert.KernelAdamUpIdeal.main_arg1)
      ∧ m' ((c.tc : Thread Cert.ReferenceAdamUpIdeal.nD Cert.ReferenceAdamUpIdeal.τ).loc Cert.ReferenceAdamUpIdeal.main_arg2) = m ((c.tc : Thread Cert.KernelAdamUpIdeal.nD Cert.KernelAdamUpIdeal.τ).loc Cert.KernelAdamUpIdeal.main_arg2)
      ∧ m' ((c.tc : Thread Cert.ReferenceAdamUpIdeal.nD Cert.ReferenceAdamUpIdeal.τ).loc Cert.ReferenceAdamUpIdeal.main_arg3) = m ((c.tc : Thread Cert.KernelAdamUpIdeal.nD Cert.KernelAdamUpIdeal.τ).loc Cert.KernelAdamUpIdeal.main_arg3)) →
    ∃ (v0 : (c : Dev Cert.KernelAdamUpIdeal.nD) → Buf (Elt Ideal) ((c.tc : Thread Cert.KernelAdamUpIdeal.nD Cert.KernelAdamUpIdeal.τ).loc Cert.KernelAdamUpIdeal.main_v0_0)) (v1 : (c : Dev Cert.KernelAdamUpIdeal.nD) → Buf (Elt Ideal) ((c.tc : Thread Cert.KernelAdamUpIdeal.nD Cert.KernelAdamUpIdeal.τ).loc Cert.KernelAdamUpIdeal.main_v0_1)) (v2 : (c : Dev Cert.KernelAdamUpIdeal.nD) → Buf (Elt Ideal) ((c.tc : Thread Cert.KernelAdamUpIdeal.nD Cert.KernelAdamUpIdeal.τ).loc Cert.KernelAdamUpIdeal.main_v0_2)) (v3 : (c : Dev Cert.KernelAdamUpIdeal.nD) → Buf (Elt Ideal) ((c.tc : Thread Cert.KernelAdamUpIdeal.nD Cert.KernelAdamUpIdeal.τ).loc Cert.KernelAdamUpIdeal.main_v0_3)),
      θ_run (Cert.KernelAdamUpIdeal.defs (F := Ideal)) (onTc (τ := Cert.KernelAdamUpIdeal.τ) (Cert.KernelAdamUpIdeal.main (F := Ideal))) ⟨m, fun _ => 0, g⟩ (fun r => ∀ c : Dev Cert.KernelAdamUpIdeal.nD,
          r.2.mem ((c.tc : Thread Cert.KernelAdamUpIdeal.nD Cert.KernelAdamUpIdeal.τ).loc Cert.KernelAdamUpIdeal.main_v0_0) = v0 c
          ∧ r.2.mem ((c.tc : Thread Cert.KernelAdamUpIdeal.nD Cert.KernelAdamUpIdeal.τ).loc Cert.KernelAdamUpIdeal.main_v0_1) = v1 c
          ∧ r.2.mem ((c.tc : Thread Cert.KernelAdamUpIdeal.nD Cert.KernelAdamUpIdeal.τ).loc Cert.KernelAdamUpIdeal.main_v0_2) = v2 c
          ∧ r.2.mem ((c.tc : Thread Cert.KernelAdamUpIdeal.nD Cert.KernelAdamUpIdeal.τ).loc Cert.KernelAdamUpIdeal.main_v0_3) = v3 c
          ∧ r.2.mem ((c.tc : Thread Cert.KernelAdamUpIdeal.nD Cert.KernelAdamUpIdeal.τ).loc Cert.KernelAdamUpIdeal.main_arg0) = m ((c.tc : Thread Cert.KernelAdamUpIdeal.nD Cert.KernelAdamUpIdeal.τ).loc Cert.KernelAdamUpIdeal.main_arg0)
          ∧ r.2.mem ((c.tc : Thread Cert.KernelAdamUpIdeal.nD Cert.KernelAdamUpIdeal.τ).loc Cert.KernelAdamUpIdeal.main_arg1) = m ((c.tc : Thread Cert.KernelAdamUpIdeal.nD Cert.KernelAdamUpIdeal.τ).loc Cert.KernelAdamUpIdeal.main_arg1)
          ∧ r.2.mem ((c.tc : Thread Cert.KernelAdamUpIdeal.nD Cert.KernelAdamUpIdeal.τ).loc Cert.KernelAdamUpIdeal.main_arg2) = m ((c.tc : Thread Cert.KernelAdamUpIdeal.nD Cert.KernelAdamUpIdeal.τ).loc Cert.KernelAdamUpIdeal.main_arg2)
          ∧ r.2.mem ((c.tc : Thread Cert.KernelAdamUpIdeal.nD Cert.KernelAdamUpIdeal.τ).loc Cert.KernelAdamUpIdeal.main_arg3) = m ((c.tc : Thread Cert.KernelAdamUpIdeal.nD Cert.KernelAdamUpIdeal.τ).loc Cert.KernelAdamUpIdeal.main_arg3))
      ∧ θ_run (Cert.ReferenceAdamUpIdeal.defs (F := Ideal)) (onTc (τ := Cert.ReferenceAdamUpIdeal.τ) (Cert.ReferenceAdamUpIdeal.main (F := Ideal))) ⟨m', fun _ => 0, g'⟩ (fun r => ∀ c : Dev Cert.ReferenceAdamUpIdeal.nD,
          r.2.mem ((c.tc : Thread Cert.ReferenceAdamUpIdeal.nD Cert.ReferenceAdamUpIdeal.τ).loc Cert.ReferenceAdamUpIdeal.main_v2) = v0 c
          ∧ r.2.mem ((c.tc : Thread Cert.ReferenceAdamUpIdeal.nD Cert.ReferenceAdamUpIdeal.τ).loc Cert.ReferenceAdamUpIdeal.main_v26) = v1 c
          ∧ r.2.mem ((c.tc : Thread Cert.ReferenceAdamUpIdeal.nD Cert.ReferenceAdamUpIdeal.τ).loc Cert.ReferenceAdamUpIdeal.main_v7) = v2 c
          ∧ r.2.mem ((c.tc : Thread Cert.ReferenceAdamUpIdeal.nD Cert.ReferenceAdamUpIdeal.τ).loc Cert.ReferenceAdamUpIdeal.main_v13) = v3 c
          ∧ r.2.mem ((c.tc : Thread Cert.ReferenceAdamUpIdeal.nD Cert.ReferenceAdamUpIdeal.τ).loc Cert.ReferenceAdamUpIdeal.main_arg0) = m' ((c.tc : Thread Cert.ReferenceAdamUpIdeal.nD Cert.ReferenceAdamUpIdeal.τ).loc Cert.ReferenceAdamUpIdeal.main_arg0)
          ∧ r.2.mem ((c.tc : Thread Cert.ReferenceAdamUpIdeal.nD Cert.ReferenceAdamUpIdeal.τ).loc Cert.ReferenceAdamUpIdeal.main_arg1) = m' ((c.tc : Thread Cert.ReferenceAdamUpIdeal.nD Cert.ReferenceAdamUpIdeal.τ).loc Cert.ReferenceAdamUpIdeal.main_arg1)
          ∧ r.2.mem ((c.tc : Thread Cert.ReferenceAdamUpIdeal.nD Cert.ReferenceAdamUpIdeal.τ).loc Cert.ReferenceAdamUpIdeal.main_arg2) = m' ((c.tc : Thread Cert.ReferenceAdamUpIdeal.nD Cert.ReferenceAdamUpIdeal.τ).loc Cert.ReferenceAdamUpIdeal.main_arg2)
          ∧ r.2.mem ((c.tc : Thread Cert.ReferenceAdamUpIdeal.nD Cert.ReferenceAdamUpIdeal.τ).loc Cert.ReferenceAdamUpIdeal.main_arg3) = m' ((c.tc : Thread Cert.ReferenceAdamUpIdeal.nD Cert.ReferenceAdamUpIdeal.τ).loc Cert.ReferenceAdamUpIdeal.main_arg3))

def preserves_KernelAdamOut_KernelAdamOutIdeal : Prop :=
  True

def algebraic_KernelAdamOutIdeal_ReferenceAdamOutIdeal [hKernelAdamOutIdeal : Cert.KernelAdamOutIdeal.Facts] [hReferenceAdamOutIdeal : Cert.ReferenceAdamOutIdeal.Facts] : Prop :=
  ∀ (m : (ℓ : Loc Cert.KernelAdamOutIdeal.nD Cert.KernelAdamOutIdeal.τ Cert.KernelAdamOutIdeal.sig) → Buf (Elt Ideal) ℓ) (g : Dev Cert.KernelAdamOutIdeal.nD → PrngReg)
    (m' : (ℓ : Loc Cert.ReferenceAdamOutIdeal.nD Cert.ReferenceAdamOutIdeal.τ Cert.ReferenceAdamOutIdeal.sig) → Buf (Elt Ideal) ℓ) (g' : Dev Cert.ReferenceAdamOutIdeal.nD → PrngReg), Pre_KernelAdamOutIdeal m →
    (∀ c : Dev Cert.KernelAdamOutIdeal.nD,
      m' ((c.tc : Thread Cert.ReferenceAdamOutIdeal.nD Cert.ReferenceAdamOutIdeal.τ).loc Cert.ReferenceAdamOutIdeal.main_arg0) = m ((c.tc : Thread Cert.KernelAdamOutIdeal.nD Cert.KernelAdamOutIdeal.τ).loc Cert.KernelAdamOutIdeal.main_arg0)
      ∧ m' ((c.tc : Thread Cert.ReferenceAdamOutIdeal.nD Cert.ReferenceAdamOutIdeal.τ).loc Cert.ReferenceAdamOutIdeal.main_arg1) = m ((c.tc : Thread Cert.KernelAdamOutIdeal.nD Cert.KernelAdamOutIdeal.τ).loc Cert.KernelAdamOutIdeal.main_arg1)
      ∧ m' ((c.tc : Thread Cert.ReferenceAdamOutIdeal.nD Cert.ReferenceAdamOutIdeal.τ).loc Cert.ReferenceAdamOutIdeal.main_arg2) = m ((c.tc : Thread Cert.KernelAdamOutIdeal.nD Cert.KernelAdamOutIdeal.τ).loc Cert.KernelAdamOutIdeal.main_arg2)
      ∧ m' ((c.tc : Thread Cert.ReferenceAdamOutIdeal.nD Cert.ReferenceAdamOutIdeal.τ).loc Cert.ReferenceAdamOutIdeal.main_arg3) = m ((c.tc : Thread Cert.KernelAdamOutIdeal.nD Cert.KernelAdamOutIdeal.τ).loc Cert.KernelAdamOutIdeal.main_arg3)) →
    ∃ (v0 : (c : Dev Cert.KernelAdamOutIdeal.nD) → Buf (Elt Ideal) ((c.tc : Thread Cert.KernelAdamOutIdeal.nD Cert.KernelAdamOutIdeal.τ).loc Cert.KernelAdamOutIdeal.main_v0_0)) (v1 : (c : Dev Cert.KernelAdamOutIdeal.nD) → Buf (Elt Ideal) ((c.tc : Thread Cert.KernelAdamOutIdeal.nD Cert.KernelAdamOutIdeal.τ).loc Cert.KernelAdamOutIdeal.main_v0_1)) (v2 : (c : Dev Cert.KernelAdamOutIdeal.nD) → Buf (Elt Ideal) ((c.tc : Thread Cert.KernelAdamOutIdeal.nD Cert.KernelAdamOutIdeal.τ).loc Cert.KernelAdamOutIdeal.main_v0_2)) (v3 : (c : Dev Cert.KernelAdamOutIdeal.nD) → Buf (Elt Ideal) ((c.tc : Thread Cert.KernelAdamOutIdeal.nD Cert.KernelAdamOutIdeal.τ).loc Cert.KernelAdamOutIdeal.main_v0_3)),
      θ_run (Cert.KernelAdamOutIdeal.defs (F := Ideal)) (onTc (τ := Cert.KernelAdamOutIdeal.τ) (Cert.KernelAdamOutIdeal.main (F := Ideal))) ⟨m, fun _ => 0, g⟩ (fun r => ∀ c : Dev Cert.KernelAdamOutIdeal.nD,
          r.2.mem ((c.tc : Thread Cert.KernelAdamOutIdeal.nD Cert.KernelAdamOutIdeal.τ).loc Cert.KernelAdamOutIdeal.main_v0_0) = v0 c
          ∧ r.2.mem ((c.tc : Thread Cert.KernelAdamOutIdeal.nD Cert.KernelAdamOutIdeal.τ).loc Cert.KernelAdamOutIdeal.main_v0_1) = v1 c
          ∧ r.2.mem ((c.tc : Thread Cert.KernelAdamOutIdeal.nD Cert.KernelAdamOutIdeal.τ).loc Cert.KernelAdamOutIdeal.main_v0_2) = v2 c
          ∧ r.2.mem ((c.tc : Thread Cert.KernelAdamOutIdeal.nD Cert.KernelAdamOutIdeal.τ).loc Cert.KernelAdamOutIdeal.main_v0_3) = v3 c
          ∧ r.2.mem ((c.tc : Thread Cert.KernelAdamOutIdeal.nD Cert.KernelAdamOutIdeal.τ).loc Cert.KernelAdamOutIdeal.main_arg0) = m ((c.tc : Thread Cert.KernelAdamOutIdeal.nD Cert.KernelAdamOutIdeal.τ).loc Cert.KernelAdamOutIdeal.main_arg0)
          ∧ r.2.mem ((c.tc : Thread Cert.KernelAdamOutIdeal.nD Cert.KernelAdamOutIdeal.τ).loc Cert.KernelAdamOutIdeal.main_arg1) = m ((c.tc : Thread Cert.KernelAdamOutIdeal.nD Cert.KernelAdamOutIdeal.τ).loc Cert.KernelAdamOutIdeal.main_arg1)
          ∧ r.2.mem ((c.tc : Thread Cert.KernelAdamOutIdeal.nD Cert.KernelAdamOutIdeal.τ).loc Cert.KernelAdamOutIdeal.main_arg2) = m ((c.tc : Thread Cert.KernelAdamOutIdeal.nD Cert.KernelAdamOutIdeal.τ).loc Cert.KernelAdamOutIdeal.main_arg2)
          ∧ r.2.mem ((c.tc : Thread Cert.KernelAdamOutIdeal.nD Cert.KernelAdamOutIdeal.τ).loc Cert.KernelAdamOutIdeal.main_arg3) = m ((c.tc : Thread Cert.KernelAdamOutIdeal.nD Cert.KernelAdamOutIdeal.τ).loc Cert.KernelAdamOutIdeal.main_arg3))
      ∧ θ_run (Cert.ReferenceAdamOutIdeal.defs (F := Ideal)) (onTc (τ := Cert.ReferenceAdamOutIdeal.τ) (Cert.ReferenceAdamOutIdeal.main (F := Ideal))) ⟨m', fun _ => 0, g'⟩ (fun r => ∀ c : Dev Cert.ReferenceAdamOutIdeal.nD,
          r.2.mem ((c.tc : Thread Cert.ReferenceAdamOutIdeal.nD Cert.ReferenceAdamOutIdeal.τ).loc Cert.ReferenceAdamOutIdeal.main_v6) = v0 c
          ∧ r.2.mem ((c.tc : Thread Cert.ReferenceAdamOutIdeal.nD Cert.ReferenceAdamOutIdeal.τ).loc Cert.ReferenceAdamOutIdeal.main_v30) = v1 c
          ∧ r.2.mem ((c.tc : Thread Cert.ReferenceAdamOutIdeal.nD Cert.ReferenceAdamOutIdeal.τ).loc Cert.ReferenceAdamOutIdeal.main_v11) = v2 c
          ∧ r.2.mem ((c.tc : Thread Cert.ReferenceAdamOutIdeal.nD Cert.ReferenceAdamOutIdeal.τ).loc Cert.ReferenceAdamOutIdeal.main_v17) = v3 c
          ∧ r.2.mem ((c.tc : Thread Cert.ReferenceAdamOutIdeal.nD Cert.ReferenceAdamOutIdeal.τ).loc Cert.ReferenceAdamOutIdeal.main_arg0) = m' ((c.tc : Thread Cert.ReferenceAdamOutIdeal.nD Cert.ReferenceAdamOutIdeal.τ).loc Cert.ReferenceAdamOutIdeal.main_arg0)
          ∧ r.2.mem ((c.tc : Thread Cert.ReferenceAdamOutIdeal.nD Cert.ReferenceAdamOutIdeal.τ).loc Cert.ReferenceAdamOutIdeal.main_arg1) = m' ((c.tc : Thread Cert.ReferenceAdamOutIdeal.nD Cert.ReferenceAdamOutIdeal.τ).loc Cert.ReferenceAdamOutIdeal.main_arg1)
          ∧ r.2.mem ((c.tc : Thread Cert.ReferenceAdamOutIdeal.nD Cert.ReferenceAdamOutIdeal.τ).loc Cert.ReferenceAdamOutIdeal.main_arg2) = m' ((c.tc : Thread Cert.ReferenceAdamOutIdeal.nD Cert.ReferenceAdamOutIdeal.τ).loc Cert.ReferenceAdamOutIdeal.main_arg2)
          ∧ r.2.mem ((c.tc : Thread Cert.ReferenceAdamOutIdeal.nD Cert.ReferenceAdamOutIdeal.τ).loc Cert.ReferenceAdamOutIdeal.main_arg3) = m' ((c.tc : Thread Cert.ReferenceAdamOutIdeal.nD Cert.ReferenceAdamOutIdeal.τ).loc Cert.ReferenceAdamOutIdeal.main_arg3))

def preserves_KernelAdamDown_KernelAdamDownIdeal : Prop :=
  True

def algebraic_KernelAdamDownIdeal_ReferenceAdamDownIdeal [hKernelAdamDownIdeal : Cert.KernelAdamDownIdeal.Facts] [hReferenceAdamDownIdeal : Cert.ReferenceAdamDownIdeal.Facts] : Prop :=
  ∀ (m : (ℓ : Loc Cert.KernelAdamDownIdeal.nD Cert.KernelAdamDownIdeal.τ Cert.KernelAdamDownIdeal.sig) → Buf (Elt Ideal) ℓ) (g : Dev Cert.KernelAdamDownIdeal.nD → PrngReg)
    (m' : (ℓ : Loc Cert.ReferenceAdamDownIdeal.nD Cert.ReferenceAdamDownIdeal.τ Cert.ReferenceAdamDownIdeal.sig) → Buf (Elt Ideal) ℓ) (g' : Dev Cert.ReferenceAdamDownIdeal.nD → PrngReg), Pre_KernelAdamDownIdeal m →
    (∀ c : Dev Cert.KernelAdamDownIdeal.nD,
      m' ((c.tc : Thread Cert.ReferenceAdamDownIdeal.nD Cert.ReferenceAdamDownIdeal.τ).loc Cert.ReferenceAdamDownIdeal.main_arg0) = m ((c.tc : Thread Cert.KernelAdamDownIdeal.nD Cert.KernelAdamDownIdeal.τ).loc Cert.KernelAdamDownIdeal.main_arg0)
      ∧ m' ((c.tc : Thread Cert.ReferenceAdamDownIdeal.nD Cert.ReferenceAdamDownIdeal.τ).loc Cert.ReferenceAdamDownIdeal.main_arg1) = m ((c.tc : Thread Cert.KernelAdamDownIdeal.nD Cert.KernelAdamDownIdeal.τ).loc Cert.KernelAdamDownIdeal.main_arg1)
      ∧ m' ((c.tc : Thread Cert.ReferenceAdamDownIdeal.nD Cert.ReferenceAdamDownIdeal.τ).loc Cert.ReferenceAdamDownIdeal.main_arg2) = m ((c.tc : Thread Cert.KernelAdamDownIdeal.nD Cert.KernelAdamDownIdeal.τ).loc Cert.KernelAdamDownIdeal.main_arg2)
      ∧ m' ((c.tc : Thread Cert.ReferenceAdamDownIdeal.nD Cert.ReferenceAdamDownIdeal.τ).loc Cert.ReferenceAdamDownIdeal.main_arg3) = m ((c.tc : Thread Cert.KernelAdamDownIdeal.nD Cert.KernelAdamDownIdeal.τ).loc Cert.KernelAdamDownIdeal.main_arg3)) →
    ∃ (v0 : (c : Dev Cert.KernelAdamDownIdeal.nD) → Buf (Elt Ideal) ((c.tc : Thread Cert.KernelAdamDownIdeal.nD Cert.KernelAdamDownIdeal.τ).loc Cert.KernelAdamDownIdeal.main_v0_0)) (v1 : (c : Dev Cert.KernelAdamDownIdeal.nD) → Buf (Elt Ideal) ((c.tc : Thread Cert.KernelAdamDownIdeal.nD Cert.KernelAdamDownIdeal.τ).loc Cert.KernelAdamDownIdeal.main_v0_1)) (v2 : (c : Dev Cert.KernelAdamDownIdeal.nD) → Buf (Elt Ideal) ((c.tc : Thread Cert.KernelAdamDownIdeal.nD Cert.KernelAdamDownIdeal.τ).loc Cert.KernelAdamDownIdeal.main_v0_2)) (v3 : (c : Dev Cert.KernelAdamDownIdeal.nD) → Buf (Elt Ideal) ((c.tc : Thread Cert.KernelAdamDownIdeal.nD Cert.KernelAdamDownIdeal.τ).loc Cert.KernelAdamDownIdeal.main_v0_3)),
      θ_run (Cert.KernelAdamDownIdeal.defs (F := Ideal)) (onTc (τ := Cert.KernelAdamDownIdeal.τ) (Cert.KernelAdamDownIdeal.main (F := Ideal))) ⟨m, fun _ => 0, g⟩ (fun r => ∀ c : Dev Cert.KernelAdamDownIdeal.nD,
          r.2.mem ((c.tc : Thread Cert.KernelAdamDownIdeal.nD Cert.KernelAdamDownIdeal.τ).loc Cert.KernelAdamDownIdeal.main_v0_0) = v0 c
          ∧ r.2.mem ((c.tc : Thread Cert.KernelAdamDownIdeal.nD Cert.KernelAdamDownIdeal.τ).loc Cert.KernelAdamDownIdeal.main_v0_1) = v1 c
          ∧ r.2.mem ((c.tc : Thread Cert.KernelAdamDownIdeal.nD Cert.KernelAdamDownIdeal.τ).loc Cert.KernelAdamDownIdeal.main_v0_2) = v2 c
          ∧ r.2.mem ((c.tc : Thread Cert.KernelAdamDownIdeal.nD Cert.KernelAdamDownIdeal.τ).loc Cert.KernelAdamDownIdeal.main_v0_3) = v3 c
          ∧ r.2.mem ((c.tc : Thread Cert.KernelAdamDownIdeal.nD Cert.KernelAdamDownIdeal.τ).loc Cert.KernelAdamDownIdeal.main_arg0) = m ((c.tc : Thread Cert.KernelAdamDownIdeal.nD Cert.KernelAdamDownIdeal.τ).loc Cert.KernelAdamDownIdeal.main_arg0)
          ∧ r.2.mem ((c.tc : Thread Cert.KernelAdamDownIdeal.nD Cert.KernelAdamDownIdeal.τ).loc Cert.KernelAdamDownIdeal.main_arg1) = m ((c.tc : Thread Cert.KernelAdamDownIdeal.nD Cert.KernelAdamDownIdeal.τ).loc Cert.KernelAdamDownIdeal.main_arg1)
          ∧ r.2.mem ((c.tc : Thread Cert.KernelAdamDownIdeal.nD Cert.KernelAdamDownIdeal.τ).loc Cert.KernelAdamDownIdeal.main_arg2) = m ((c.tc : Thread Cert.KernelAdamDownIdeal.nD Cert.KernelAdamDownIdeal.τ).loc Cert.KernelAdamDownIdeal.main_arg2)
          ∧ r.2.mem ((c.tc : Thread Cert.KernelAdamDownIdeal.nD Cert.KernelAdamDownIdeal.τ).loc Cert.KernelAdamDownIdeal.main_arg3) = m ((c.tc : Thread Cert.KernelAdamDownIdeal.nD Cert.KernelAdamDownIdeal.τ).loc Cert.KernelAdamDownIdeal.main_arg3))
      ∧ θ_run (Cert.ReferenceAdamDownIdeal.defs (F := Ideal)) (onTc (τ := Cert.ReferenceAdamDownIdeal.τ) (Cert.ReferenceAdamDownIdeal.main (F := Ideal))) ⟨m', fun _ => 0, g'⟩ (fun r => ∀ c : Dev Cert.ReferenceAdamDownIdeal.nD,
          r.2.mem ((c.tc : Thread Cert.ReferenceAdamDownIdeal.nD Cert.ReferenceAdamDownIdeal.τ).loc Cert.ReferenceAdamDownIdeal.main_v6) = v0 c
          ∧ r.2.mem ((c.tc : Thread Cert.ReferenceAdamDownIdeal.nD Cert.ReferenceAdamDownIdeal.τ).loc Cert.ReferenceAdamDownIdeal.main_v30) = v1 c
          ∧ r.2.mem ((c.tc : Thread Cert.ReferenceAdamDownIdeal.nD Cert.ReferenceAdamDownIdeal.τ).loc Cert.ReferenceAdamDownIdeal.main_v11) = v2 c
          ∧ r.2.mem ((c.tc : Thread Cert.ReferenceAdamDownIdeal.nD Cert.ReferenceAdamDownIdeal.τ).loc Cert.ReferenceAdamDownIdeal.main_v17) = v3 c
          ∧ r.2.mem ((c.tc : Thread Cert.ReferenceAdamDownIdeal.nD Cert.ReferenceAdamDownIdeal.τ).loc Cert.ReferenceAdamDownIdeal.main_arg0) = m' ((c.tc : Thread Cert.ReferenceAdamDownIdeal.nD Cert.ReferenceAdamDownIdeal.τ).loc Cert.ReferenceAdamDownIdeal.main_arg0)
          ∧ r.2.mem ((c.tc : Thread Cert.ReferenceAdamDownIdeal.nD Cert.ReferenceAdamDownIdeal.τ).loc Cert.ReferenceAdamDownIdeal.main_arg1) = m' ((c.tc : Thread Cert.ReferenceAdamDownIdeal.nD Cert.ReferenceAdamDownIdeal.τ).loc Cert.ReferenceAdamDownIdeal.main_arg1)
          ∧ r.2.mem ((c.tc : Thread Cert.ReferenceAdamDownIdeal.nD Cert.ReferenceAdamDownIdeal.τ).loc Cert.ReferenceAdamDownIdeal.main_arg2) = m' ((c.tc : Thread Cert.ReferenceAdamDownIdeal.nD Cert.ReferenceAdamDownIdeal.τ).loc Cert.ReferenceAdamDownIdeal.main_arg2)
          ∧ r.2.mem ((c.tc : Thread Cert.ReferenceAdamDownIdeal.nD Cert.ReferenceAdamDownIdeal.τ).loc Cert.ReferenceAdamDownIdeal.main_arg3) = m' ((c.tc : Thread Cert.ReferenceAdamDownIdeal.nD Cert.ReferenceAdamDownIdeal.τ).loc Cert.ReferenceAdamDownIdeal.main_arg3))

def preserves_KernelAdamSmall_KernelAdamSmallIdeal : Prop :=
  True

def algebraic_KernelAdamSmallIdeal_ReferenceAdamSmallIdeal [hKernelAdamSmallIdeal : Cert.KernelAdamSmallIdeal.Facts] [hReferenceAdamSmallIdeal : Cert.ReferenceAdamSmallIdeal.Facts] : Prop :=
  ∀ (m : (ℓ : Loc Cert.KernelAdamSmallIdeal.nD Cert.KernelAdamSmallIdeal.τ Cert.KernelAdamSmallIdeal.sig) → Buf (Elt Ideal) ℓ) (g : Dev Cert.KernelAdamSmallIdeal.nD → PrngReg)
    (m' : (ℓ : Loc Cert.ReferenceAdamSmallIdeal.nD Cert.ReferenceAdamSmallIdeal.τ Cert.ReferenceAdamSmallIdeal.sig) → Buf (Elt Ideal) ℓ) (g' : Dev Cert.ReferenceAdamSmallIdeal.nD → PrngReg), Pre_KernelAdamSmallIdeal m →
    (∀ c : Dev Cert.KernelAdamSmallIdeal.nD,
      m' ((c.tc : Thread Cert.ReferenceAdamSmallIdeal.nD Cert.ReferenceAdamSmallIdeal.τ).loc Cert.ReferenceAdamSmallIdeal.main_arg0) = m ((c.tc : Thread Cert.KernelAdamSmallIdeal.nD Cert.KernelAdamSmallIdeal.τ).loc Cert.KernelAdamSmallIdeal.main_arg0)
      ∧ m' ((c.tc : Thread Cert.ReferenceAdamSmallIdeal.nD Cert.ReferenceAdamSmallIdeal.τ).loc Cert.ReferenceAdamSmallIdeal.main_arg1) = m ((c.tc : Thread Cert.KernelAdamSmallIdeal.nD Cert.KernelAdamSmallIdeal.τ).loc Cert.KernelAdamSmallIdeal.main_arg1)
      ∧ m' ((c.tc : Thread Cert.ReferenceAdamSmallIdeal.nD Cert.ReferenceAdamSmallIdeal.τ).loc Cert.ReferenceAdamSmallIdeal.main_arg2) = m ((c.tc : Thread Cert.KernelAdamSmallIdeal.nD Cert.KernelAdamSmallIdeal.τ).loc Cert.KernelAdamSmallIdeal.main_arg2)
      ∧ m' ((c.tc : Thread Cert.ReferenceAdamSmallIdeal.nD Cert.ReferenceAdamSmallIdeal.τ).loc Cert.ReferenceAdamSmallIdeal.main_arg3) = m ((c.tc : Thread Cert.KernelAdamSmallIdeal.nD Cert.KernelAdamSmallIdeal.τ).loc Cert.KernelAdamSmallIdeal.main_arg3)) →
    ∃ (v0 : (c : Dev Cert.KernelAdamSmallIdeal.nD) → Buf (Elt Ideal) ((c.tc : Thread Cert.KernelAdamSmallIdeal.nD Cert.KernelAdamSmallIdeal.τ).loc Cert.KernelAdamSmallIdeal.main_v0_0)) (v1 : (c : Dev Cert.KernelAdamSmallIdeal.nD) → Buf (Elt Ideal) ((c.tc : Thread Cert.KernelAdamSmallIdeal.nD Cert.KernelAdamSmallIdeal.τ).loc Cert.KernelAdamSmallIdeal.main_v0_1)) (v2 : (c : Dev Cert.KernelAdamSmallIdeal.nD) → Buf (Elt Ideal) ((c.tc : Thread Cert.KernelAdamSmallIdeal.nD Cert.KernelAdamSmallIdeal.τ).loc Cert.KernelAdamSmallIdeal.main_v0_2)),
      θ_run (Cert.KernelAdamSmallIdeal.defs (F := Ideal)) (onTc (τ := Cert.KernelAdamSmallIdeal.τ) (Cert.KernelAdamSmallIdeal.main (F := Ideal))) ⟨m, fun _ => 0, g⟩ (fun r => ∀ c : Dev Cert.KernelAdamSmallIdeal.nD,
          r.2.mem ((c.tc : Thread Cert.KernelAdamSmallIdeal.nD Cert.KernelAdamSmallIdeal.τ).loc Cert.KernelAdamSmallIdeal.main_v0_0) = v0 c
          ∧ r.2.mem ((c.tc : Thread Cert.KernelAdamSmallIdeal.nD Cert.KernelAdamSmallIdeal.τ).loc Cert.KernelAdamSmallIdeal.main_v0_1) = v1 c
          ∧ r.2.mem ((c.tc : Thread Cert.KernelAdamSmallIdeal.nD Cert.KernelAdamSmallIdeal.τ).loc Cert.KernelAdamSmallIdeal.main_v0_2) = v2 c
          ∧ r.2.mem ((c.tc : Thread Cert.KernelAdamSmallIdeal.nD Cert.KernelAdamSmallIdeal.τ).loc Cert.KernelAdamSmallIdeal.main_arg0) = m ((c.tc : Thread Cert.KernelAdamSmallIdeal.nD Cert.KernelAdamSmallIdeal.τ).loc Cert.KernelAdamSmallIdeal.main_arg0)
          ∧ r.2.mem ((c.tc : Thread Cert.KernelAdamSmallIdeal.nD Cert.KernelAdamSmallIdeal.τ).loc Cert.KernelAdamSmallIdeal.main_arg1) = m ((c.tc : Thread Cert.KernelAdamSmallIdeal.nD Cert.KernelAdamSmallIdeal.τ).loc Cert.KernelAdamSmallIdeal.main_arg1)
          ∧ r.2.mem ((c.tc : Thread Cert.KernelAdamSmallIdeal.nD Cert.KernelAdamSmallIdeal.τ).loc Cert.KernelAdamSmallIdeal.main_arg2) = m ((c.tc : Thread Cert.KernelAdamSmallIdeal.nD Cert.KernelAdamSmallIdeal.τ).loc Cert.KernelAdamSmallIdeal.main_arg2)
          ∧ r.2.mem ((c.tc : Thread Cert.KernelAdamSmallIdeal.nD Cert.KernelAdamSmallIdeal.τ).loc Cert.KernelAdamSmallIdeal.main_arg3) = m ((c.tc : Thread Cert.KernelAdamSmallIdeal.nD Cert.KernelAdamSmallIdeal.τ).loc Cert.KernelAdamSmallIdeal.main_arg3))
      ∧ θ_run (Cert.ReferenceAdamSmallIdeal.defs (F := Ideal)) (onTc (τ := Cert.ReferenceAdamSmallIdeal.τ) (Cert.ReferenceAdamSmallIdeal.main (F := Ideal))) ⟨m', fun _ => 0, g'⟩ (fun r => ∀ c : Dev Cert.ReferenceAdamSmallIdeal.nD,
          r.2.mem ((c.tc : Thread Cert.ReferenceAdamSmallIdeal.nD Cert.ReferenceAdamSmallIdeal.τ).loc Cert.ReferenceAdamSmallIdeal.main_v23) = v0 c
          ∧ r.2.mem ((c.tc : Thread Cert.ReferenceAdamSmallIdeal.nD Cert.ReferenceAdamSmallIdeal.τ).loc Cert.ReferenceAdamSmallIdeal.main_v4) = v1 c
          ∧ r.2.mem ((c.tc : Thread Cert.ReferenceAdamSmallIdeal.nD Cert.ReferenceAdamSmallIdeal.τ).loc Cert.ReferenceAdamSmallIdeal.main_v10) = v2 c
          ∧ r.2.mem ((c.tc : Thread Cert.ReferenceAdamSmallIdeal.nD Cert.ReferenceAdamSmallIdeal.τ).loc Cert.ReferenceAdamSmallIdeal.main_arg0) = m' ((c.tc : Thread Cert.ReferenceAdamSmallIdeal.nD Cert.ReferenceAdamSmallIdeal.τ).loc Cert.ReferenceAdamSmallIdeal.main_arg0)
          ∧ r.2.mem ((c.tc : Thread Cert.ReferenceAdamSmallIdeal.nD Cert.ReferenceAdamSmallIdeal.τ).loc Cert.ReferenceAdamSmallIdeal.main_arg1) = m' ((c.tc : Thread Cert.ReferenceAdamSmallIdeal.nD Cert.ReferenceAdamSmallIdeal.τ).loc Cert.ReferenceAdamSmallIdeal.main_arg1)
          ∧ r.2.mem ((c.tc : Thread Cert.ReferenceAdamSmallIdeal.nD Cert.ReferenceAdamSmallIdeal.τ).loc Cert.ReferenceAdamSmallIdeal.main_arg2) = m' ((c.tc : Thread Cert.ReferenceAdamSmallIdeal.nD Cert.ReferenceAdamSmallIdeal.τ).loc Cert.ReferenceAdamSmallIdeal.main_arg2)
          ∧ r.2.mem ((c.tc : Thread Cert.ReferenceAdamSmallIdeal.nD Cert.ReferenceAdamSmallIdeal.τ).loc Cert.ReferenceAdamSmallIdeal.main_arg3) = m' ((c.tc : Thread Cert.ReferenceAdamSmallIdeal.nD Cert.ReferenceAdamSmallIdeal.τ).loc Cert.ReferenceAdamSmallIdeal.main_arg3))

def preserves_KernelCastIn_KernelCastInIdeal : Prop :=
  True

def algebraic_KernelCastInIdeal_ReferenceCastInIdeal [hKernelCastInIdeal : Cert.KernelCastInIdeal.Facts] [hReferenceCastInIdeal : Cert.ReferenceCastInIdeal.Facts] : Prop :=
  ∀ (m : (ℓ : Loc Cert.KernelCastInIdeal.nD Cert.KernelCastInIdeal.τ Cert.KernelCastInIdeal.sig) → Buf (Elt Ideal) ℓ) (g : Dev Cert.KernelCastInIdeal.nD → PrngReg)
    (m' : (ℓ : Loc Cert.ReferenceCastInIdeal.nD Cert.ReferenceCastInIdeal.τ Cert.ReferenceCastInIdeal.sig) → Buf (Elt Ideal) ℓ) (g' : Dev Cert.ReferenceCastInIdeal.nD → PrngReg), Pre_KernelCastInIdeal m →
    (∀ c : Dev Cert.KernelCastInIdeal.nD,
      m' ((c.tc : Thread Cert.ReferenceCastInIdeal.nD Cert.ReferenceCastInIdeal.τ).loc Cert.ReferenceCastInIdeal.main_arg0) = m ((c.tc : Thread Cert.KernelCastInIdeal.nD Cert.KernelCastInIdeal.τ).loc Cert.KernelCastInIdeal.main_arg0)
      ∧ m' ((c.tc : Thread Cert.ReferenceCastInIdeal.nD Cert.ReferenceCastInIdeal.τ).loc Cert.ReferenceCastInIdeal.main_arg1) = m ((c.tc : Thread Cert.KernelCastInIdeal.nD Cert.KernelCastInIdeal.τ).loc Cert.KernelCastInIdeal.main_arg1)) →
    ∃ (v0 : (c : Dev Cert.KernelCastInIdeal.nD) → Buf (Elt Ideal) ((c.tc : Thread Cert.KernelCastInIdeal.nD Cert.KernelCastInIdeal.τ).loc Cert.KernelCastInIdeal.main_v2)) (v1 : (c : Dev Cert.KernelCastInIdeal.nD) → Buf (Elt Ideal) ((c.tc : Thread Cert.KernelCastInIdeal.nD Cert.KernelCastInIdeal.τ).loc Cert.KernelCastInIdeal.main_v1_1)),
      θ_run (Cert.KernelCastInIdeal.defs (F := Ideal)) (onTc (τ := Cert.KernelCastInIdeal.τ) (Cert.KernelCastInIdeal.main (F := Ideal))) ⟨m, fun _ => 0, g⟩ (fun r => ∀ c : Dev Cert.KernelCastInIdeal.nD,
          r.2.mem ((c.tc : Thread Cert.KernelCastInIdeal.nD Cert.KernelCastInIdeal.τ).loc Cert.KernelCastInIdeal.main_v2) = v0 c
          ∧ r.2.mem ((c.tc : Thread Cert.KernelCastInIdeal.nD Cert.KernelCastInIdeal.τ).loc Cert.KernelCastInIdeal.main_v1_1) = v1 c
          ∧ r.2.mem ((c.tc : Thread Cert.KernelCastInIdeal.nD Cert.KernelCastInIdeal.τ).loc Cert.KernelCastInIdeal.main_arg0) = m ((c.tc : Thread Cert.KernelCastInIdeal.nD Cert.KernelCastInIdeal.τ).loc Cert.KernelCastInIdeal.main_arg0)
          ∧ r.2.mem ((c.tc : Thread Cert.KernelCastInIdeal.nD Cert.KernelCastInIdeal.τ).loc Cert.KernelCastInIdeal.main_arg1) = m ((c.tc : Thread Cert.KernelCastInIdeal.nD Cert.KernelCastInIdeal.τ).loc Cert.KernelCastInIdeal.main_arg1))
      ∧ θ_run (Cert.ReferenceCastInIdeal.defs (F := Ideal)) (onTc (τ := Cert.ReferenceCastInIdeal.τ) (Cert.ReferenceCastInIdeal.main (F := Ideal))) ⟨m', fun _ => 0, g'⟩ (fun r => ∀ c : Dev Cert.ReferenceCastInIdeal.nD,
          r.2.mem ((c.tc : Thread Cert.ReferenceCastInIdeal.nD Cert.ReferenceCastInIdeal.τ).loc Cert.ReferenceCastInIdeal.main_v0) = v0 c
          ∧ r.2.mem ((c.tc : Thread Cert.ReferenceCastInIdeal.nD Cert.ReferenceCastInIdeal.τ).loc Cert.ReferenceCastInIdeal.main_v0) = v1 c
          ∧ r.2.mem ((c.tc : Thread Cert.ReferenceCastInIdeal.nD Cert.ReferenceCastInIdeal.τ).loc Cert.ReferenceCastInIdeal.main_arg0) = m' ((c.tc : Thread Cert.ReferenceCastInIdeal.nD Cert.ReferenceCastInIdeal.τ).loc Cert.ReferenceCastInIdeal.main_arg0)
          ∧ r.2.mem ((c.tc : Thread Cert.ReferenceCastInIdeal.nD Cert.ReferenceCastInIdeal.τ).loc Cert.ReferenceCastInIdeal.main_arg1) = m' ((c.tc : Thread Cert.ReferenceCastInIdeal.nD Cert.ReferenceCastInIdeal.τ).loc Cert.ReferenceCastInIdeal.main_arg1))

def preserves_KernelCastOut_KernelCastOutIdeal : Prop :=
  True

def algebraic_KernelCastOutIdeal_ReferenceCastOutIdeal [hKernelCastOutIdeal : Cert.KernelCastOutIdeal.Facts] [hReferenceCastOutIdeal : Cert.ReferenceCastOutIdeal.Facts] : Prop :=
  ∀ (m : (ℓ : Loc Cert.KernelCastOutIdeal.nD Cert.KernelCastOutIdeal.τ Cert.KernelCastOutIdeal.sig) → Buf (Elt Ideal) ℓ) (g : Dev Cert.KernelCastOutIdeal.nD → PrngReg)
    (m' : (ℓ : Loc Cert.ReferenceCastOutIdeal.nD Cert.ReferenceCastOutIdeal.τ Cert.ReferenceCastOutIdeal.sig) → Buf (Elt Ideal) ℓ) (g' : Dev Cert.ReferenceCastOutIdeal.nD → PrngReg), Pre_KernelCastOutIdeal m →
    (∀ c : Dev Cert.KernelCastOutIdeal.nD,
      m' ((c.tc : Thread Cert.ReferenceCastOutIdeal.nD Cert.ReferenceCastOutIdeal.τ).loc Cert.ReferenceCastOutIdeal.main_arg0) = m ((c.tc : Thread Cert.KernelCastOutIdeal.nD Cert.KernelCastOutIdeal.τ).loc Cert.KernelCastOutIdeal.main_arg0)
      ∧ m' ((c.tc : Thread Cert.ReferenceCastOutIdeal.nD Cert.ReferenceCastOutIdeal.τ).loc Cert.ReferenceCastOutIdeal.main_arg1) = m ((c.tc : Thread Cert.KernelCastOutIdeal.nD Cert.KernelCastOutIdeal.τ).loc Cert.KernelCastOutIdeal.main_arg1)) →
    ∃ (v0 : (c : Dev Cert.KernelCastOutIdeal.nD) → Buf (Elt Ideal) ((c.tc : Thread Cert.KernelCastOutIdeal.nD Cert.KernelCastOutIdeal.τ).loc Cert.KernelCastOutIdeal.main_v2)),
      θ_run (Cert.KernelCastOutIdeal.defs (F := Ideal)) (onTc (τ := Cert.KernelCastOutIdeal.τ) (Cert.KernelCastOutIdeal.main (F := Ideal))) ⟨m, fun _ => 0, g⟩ (fun r => ∀ c : Dev Cert.KernelCastOutIdeal.nD,
          r.2.mem ((c.tc : Thread Cert.KernelCastOutIdeal.nD Cert.KernelCastOutIdeal.τ).loc Cert.KernelCastOutIdeal.main_v2) = v0 c
          ∧ r.2.mem ((c.tc : Thread Cert.KernelCastOutIdeal.nD Cert.KernelCastOutIdeal.τ).loc Cert.KernelCastOutIdeal.main_arg0) = m ((c.tc : Thread Cert.KernelCastOutIdeal.nD Cert.KernelCastOutIdeal.τ).loc Cert.KernelCastOutIdeal.main_arg0)
          ∧ r.2.mem ((c.tc : Thread Cert.KernelCastOutIdeal.nD Cert.KernelCastOutIdeal.τ).loc Cert.KernelCastOutIdeal.main_arg1) = m ((c.tc : Thread Cert.KernelCastOutIdeal.nD Cert.KernelCastOutIdeal.τ).loc Cert.KernelCastOutIdeal.main_arg1))
      ∧ θ_run (Cert.ReferenceCastOutIdeal.defs (F := Ideal)) (onTc (τ := Cert.ReferenceCastOutIdeal.τ) (Cert.ReferenceCastOutIdeal.main (F := Ideal))) ⟨m', fun _ => 0, g'⟩ (fun r => ∀ c : Dev Cert.ReferenceCastOutIdeal.nD,
          r.2.mem ((c.tc : Thread Cert.ReferenceCastOutIdeal.nD Cert.ReferenceCastOutIdeal.τ).loc Cert.ReferenceCastOutIdeal.main_v0) = v0 c
          ∧ r.2.mem ((c.tc : Thread Cert.ReferenceCastOutIdeal.nD Cert.ReferenceCastOutIdeal.τ).loc Cert.ReferenceCastOutIdeal.main_arg0) = m' ((c.tc : Thread Cert.ReferenceCastOutIdeal.nD Cert.ReferenceCastOutIdeal.τ).loc Cert.ReferenceCastOutIdeal.main_arg0)
          ∧ r.2.mem ((c.tc : Thread Cert.ReferenceCastOutIdeal.nD Cert.ReferenceCastOutIdeal.τ).loc Cert.ReferenceCastOutIdeal.main_arg1) = m' ((c.tc : Thread Cert.ReferenceCastOutIdeal.nD Cert.ReferenceCastOutIdeal.τ).loc Cert.ReferenceCastOutIdeal.main_arg1))

def preserves_KernelCastUp_KernelCastUpIdeal : Prop :=
  True

def algebraic_KernelCastUpIdeal_ReferenceCastUpIdeal [hKernelCastUpIdeal : Cert.KernelCastUpIdeal.Facts] [hReferenceCastUpIdeal : Cert.ReferenceCastUpIdeal.Facts] : Prop :=
  ∀ (m : (ℓ : Loc Cert.KernelCastUpIdeal.nD Cert.KernelCastUpIdeal.τ Cert.KernelCastUpIdeal.sig) → Buf (Elt Ideal) ℓ) (g : Dev Cert.KernelCastUpIdeal.nD → PrngReg)
    (m' : (ℓ : Loc Cert.ReferenceCastUpIdeal.nD Cert.ReferenceCastUpIdeal.τ Cert.ReferenceCastUpIdeal.sig) → Buf (Elt Ideal) ℓ) (g' : Dev Cert.ReferenceCastUpIdeal.nD → PrngReg), Pre_KernelCastUpIdeal m →
    (∀ c : Dev Cert.KernelCastUpIdeal.nD,
      m' ((c.tc : Thread Cert.ReferenceCastUpIdeal.nD Cert.ReferenceCastUpIdeal.τ).loc Cert.ReferenceCastUpIdeal.main_arg0) = m ((c.tc : Thread Cert.KernelCastUpIdeal.nD Cert.KernelCastUpIdeal.τ).loc Cert.KernelCastUpIdeal.main_arg0)
      ∧ m' ((c.tc : Thread Cert.ReferenceCastUpIdeal.nD Cert.ReferenceCastUpIdeal.τ).loc Cert.ReferenceCastUpIdeal.main_arg1) = m ((c.tc : Thread Cert.KernelCastUpIdeal.nD Cert.KernelCastUpIdeal.τ).loc Cert.KernelCastUpIdeal.main_arg1)) →
    ∃ (v0 : (c : Dev Cert.KernelCastUpIdeal.nD) → Buf (Elt Ideal) ((c.tc : Thread Cert.KernelCastUpIdeal.nD Cert.KernelCastUpIdeal.τ).loc Cert.KernelCastUpIdeal.main_v2)),
      θ_run (Cert.KernelCastUpIdeal.defs (F := Ideal)) (onTc (τ := Cert.KernelCastUpIdeal.τ) (Cert.KernelCastUpIdeal.main (F := Ideal))) ⟨m, fun _ => 0, g⟩ (fun r => ∀ c : Dev Cert.KernelCastUpIdeal.nD,
          r.2.mem ((c.tc : Thread Cert.KernelCastUpIdeal.nD Cert.KernelCastUpIdeal.τ).loc Cert.KernelCastUpIdeal.main_v2) = v0 c
          ∧ r.2.mem ((c.tc : Thread Cert.KernelCastUpIdeal.nD Cert.KernelCastUpIdeal.τ).loc Cert.KernelCastUpIdeal.main_arg0) = m ((c.tc : Thread Cert.KernelCastUpIdeal.nD Cert.KernelCastUpIdeal.τ).loc Cert.KernelCastUpIdeal.main_arg0)
          ∧ r.2.mem ((c.tc : Thread Cert.KernelCastUpIdeal.nD Cert.KernelCastUpIdeal.τ).loc Cert.KernelCastUpIdeal.main_arg1) = m ((c.tc : Thread Cert.KernelCastUpIdeal.nD Cert.KernelCastUpIdeal.τ).loc Cert.KernelCastUpIdeal.main_arg1))
      ∧ θ_run (Cert.ReferenceCastUpIdeal.defs (F := Ideal)) (onTc (τ := Cert.ReferenceCastUpIdeal.τ) (Cert.ReferenceCastUpIdeal.main (F := Ideal))) ⟨m', fun _ => 0, g'⟩ (fun r => ∀ c : Dev Cert.ReferenceCastUpIdeal.nD,
          r.2.mem ((c.tc : Thread Cert.ReferenceCastUpIdeal.nD Cert.ReferenceCastUpIdeal.τ).loc Cert.ReferenceCastUpIdeal.main_v0) = v0 c
          ∧ r.2.mem ((c.tc : Thread Cert.ReferenceCastUpIdeal.nD Cert.ReferenceCastUpIdeal.τ).loc Cert.ReferenceCastUpIdeal.main_arg0) = m' ((c.tc : Thread Cert.ReferenceCastUpIdeal.nD Cert.ReferenceCastUpIdeal.τ).loc Cert.ReferenceCastUpIdeal.main_arg0)
          ∧ r.2.mem ((c.tc : Thread Cert.ReferenceCastUpIdeal.nD Cert.ReferenceCastUpIdeal.τ).loc Cert.ReferenceCastUpIdeal.main_arg1) = m' ((c.tc : Thread Cert.ReferenceCastUpIdeal.nD Cert.ReferenceCastUpIdeal.τ).loc Cert.ReferenceCastUpIdeal.main_arg1))

def preserves_KernelCastDown_KernelCastDownIdeal : Prop :=
  True

def algebraic_KernelCastDownIdeal_ReferenceCastDownIdeal [hKernelCastDownIdeal : Cert.KernelCastDownIdeal.Facts] [hReferenceCastDownIdeal : Cert.ReferenceCastDownIdeal.Facts] : Prop :=
  ∀ (m : (ℓ : Loc Cert.KernelCastDownIdeal.nD Cert.KernelCastDownIdeal.τ Cert.KernelCastDownIdeal.sig) → Buf (Elt Ideal) ℓ) (g : Dev Cert.KernelCastDownIdeal.nD → PrngReg)
    (m' : (ℓ : Loc Cert.ReferenceCastDownIdeal.nD Cert.ReferenceCastDownIdeal.τ Cert.ReferenceCastDownIdeal.sig) → Buf (Elt Ideal) ℓ) (g' : Dev Cert.ReferenceCastDownIdeal.nD → PrngReg), Pre_KernelCastDownIdeal m →
    (∀ c : Dev Cert.KernelCastDownIdeal.nD,
      m' ((c.tc : Thread Cert.ReferenceCastDownIdeal.nD Cert.ReferenceCastDownIdeal.τ).loc Cert.ReferenceCastDownIdeal.main_arg0) = m ((c.tc : Thread Cert.KernelCastDownIdeal.nD Cert.KernelCastDownIdeal.τ).loc Cert.KernelCastDownIdeal.main_arg0)
      ∧ m' ((c.tc : Thread Cert.ReferenceCastDownIdeal.nD Cert.ReferenceCastDownIdeal.τ).loc Cert.ReferenceCastDownIdeal.main_arg1) = m ((c.tc : Thread Cert.KernelCastDownIdeal.nD Cert.KernelCastDownIdeal.τ).loc Cert.KernelCastDownIdeal.main_arg1)) →
    ∃ (v0 : (c : Dev Cert.KernelCastDownIdeal.nD) → Buf (Elt Ideal) ((c.tc : Thread Cert.KernelCastDownIdeal.nD Cert.KernelCastDownIdeal.τ).loc Cert.KernelCastDownIdeal.main_v2)),
      θ_run (Cert.KernelCastDownIdeal.defs (F := Ideal)) (onTc (τ := Cert.KernelCastDownIdeal.τ) (Cert.KernelCastDownIdeal.main (F := Ideal))) ⟨m, fun _ => 0, g⟩ (fun r => ∀ c : Dev Cert.KernelCastDownIdeal.nD,
          r.2.mem ((c.tc : Thread Cert.KernelCastDownIdeal.nD Cert.KernelCastDownIdeal.τ).loc Cert.KernelCastDownIdeal.main_v2) = v0 c
          ∧ r.2.mem ((c.tc : Thread Cert.KernelCastDownIdeal.nD Cert.KernelCastDownIdeal.τ).loc Cert.KernelCastDownIdeal.main_arg0) = m ((c.tc : Thread Cert.KernelCastDownIdeal.nD Cert.KernelCastDownIdeal.τ).loc Cert.KernelCastDownIdeal.main_arg0)
          ∧ r.2.mem ((c.tc : Thread Cert.KernelCastDownIdeal.nD Cert.KernelCastDownIdeal.τ).loc Cert.KernelCastDownIdeal.main_arg1) = m ((c.tc : Thread Cert.KernelCastDownIdeal.nD Cert.KernelCastDownIdeal.τ).loc Cert.KernelCastDownIdeal.main_arg1))
      ∧ θ_run (Cert.ReferenceCastDownIdeal.defs (F := Ideal)) (onTc (τ := Cert.ReferenceCastDownIdeal.τ) (Cert.ReferenceCastDownIdeal.main (F := Ideal))) ⟨m', fun _ => 0, g'⟩ (fun r => ∀ c : Dev Cert.ReferenceCastDownIdeal.nD,
          r.2.mem ((c.tc : Thread Cert.ReferenceCastDownIdeal.nD Cert.ReferenceCastDownIdeal.τ).loc Cert.ReferenceCastDownIdeal.main_v0) = v0 c
          ∧ r.2.mem ((c.tc : Thread Cert.ReferenceCastDownIdeal.nD Cert.ReferenceCastDownIdeal.τ).loc Cert.ReferenceCastDownIdeal.main_arg0) = m' ((c.tc : Thread Cert.ReferenceCastDownIdeal.nD Cert.ReferenceCastDownIdeal.τ).loc Cert.ReferenceCastDownIdeal.main_arg0)
          ∧ r.2.mem ((c.tc : Thread Cert.ReferenceCastDownIdeal.nD Cert.ReferenceCastDownIdeal.τ).loc Cert.ReferenceCastDownIdeal.main_arg1) = m' ((c.tc : Thread Cert.ReferenceCastDownIdeal.nD Cert.ReferenceCastDownIdeal.τ).loc Cert.ReferenceCastDownIdeal.main_arg1))

def preserves_KernelOwnIn_KernelOwnInIdeal : Prop :=
  True

def algebraic_KernelOwnInIdeal_ReferenceOwnInIdeal [hKernelOwnInIdeal : Cert.KernelOwnInIdeal.Facts] [hReferenceOwnInIdeal : Cert.ReferenceOwnInIdeal.Facts] : Prop :=
  ∀ (m : (ℓ : Loc Cert.KernelOwnInIdeal.nD Cert.KernelOwnInIdeal.τ Cert.KernelOwnInIdeal.sig) → Buf (Elt Ideal) ℓ) (g : Dev Cert.KernelOwnInIdeal.nD → PrngReg)
    (m' : (ℓ : Loc Cert.ReferenceOwnInIdeal.nD Cert.ReferenceOwnInIdeal.τ Cert.ReferenceOwnInIdeal.sig) → Buf (Elt Ideal) ℓ) (g' : Dev Cert.ReferenceOwnInIdeal.nD → PrngReg), Pre_KernelOwnInIdeal m →
    (∀ c : Dev Cert.KernelOwnInIdeal.nD,
      m' ((c.tc : Thread Cert.ReferenceOwnInIdeal.nD Cert.ReferenceOwnInIdeal.τ).loc Cert.ReferenceOwnInIdeal.main_arg0) = m ((c.tc : Thread Cert.KernelOwnInIdeal.nD Cert.KernelOwnInIdeal.τ).loc Cert.KernelOwnInIdeal.main_arg0)) →
    ∃ (v0 : (c : Dev Cert.KernelOwnInIdeal.nD) → Buf (Elt Ideal) ((c.tc : Thread Cert.KernelOwnInIdeal.nD Cert.KernelOwnInIdeal.τ).loc Cert.KernelOwnInIdeal.main_v4)),
      θ_run (Cert.KernelOwnInIdeal.defs (F := Ideal)) (onTc (τ := Cert.KernelOwnInIdeal.τ) (Cert.KernelOwnInIdeal.main (F := Ideal))) ⟨m, fun _ => 0, g⟩ (fun r => ∀ c : Dev Cert.KernelOwnInIdeal.nD,
          r.2.mem ((c.tc : Thread Cert.KernelOwnInIdeal.nD Cert.KernelOwnInIdeal.τ).loc Cert.KernelOwnInIdeal.main_v4) = v0 c
          ∧ r.2.mem ((c.tc : Thread Cert.KernelOwnInIdeal.nD Cert.KernelOwnInIdeal.τ).loc Cert.KernelOwnInIdeal.main_arg0) = m ((c.tc : Thread Cert.KernelOwnInIdeal.nD Cert.KernelOwnInIdeal.τ).loc Cert.KernelOwnInIdeal.main_arg0))
      ∧ θ_run (Cert.ReferenceOwnInIdeal.defs (F := Ideal)) (onTc (τ := Cert.ReferenceOwnInIdeal.τ) (Cert.ReferenceOwnInIdeal.main (F := Ideal))) ⟨m', fun _ => 0, g'⟩ (fun r => ∀ c : Dev Cert.ReferenceOwnInIdeal.nD,
          r.2.mem ((c.tc : Thread Cert.ReferenceOwnInIdeal.nD Cert.ReferenceOwnInIdeal.τ).loc Cert.ReferenceOwnInIdeal.main_v1) = v0 c
          ∧ r.2.mem ((c.tc : Thread Cert.ReferenceOwnInIdeal.nD Cert.ReferenceOwnInIdeal.τ).loc Cert.ReferenceOwnInIdeal.main_arg0) = m' ((c.tc : Thread Cert.ReferenceOwnInIdeal.nD Cert.ReferenceOwnInIdeal.τ).loc Cert.ReferenceOwnInIdeal.main_arg0))

def preserves_KernelOwnOut_KernelOwnOutIdeal : Prop :=
  True

def algebraic_KernelOwnOutIdeal_ReferenceOwnOutIdeal [hKernelOwnOutIdeal : Cert.KernelOwnOutIdeal.Facts] [hReferenceOwnOutIdeal : Cert.ReferenceOwnOutIdeal.Facts] : Prop :=
  ∀ (m : (ℓ : Loc Cert.KernelOwnOutIdeal.nD Cert.KernelOwnOutIdeal.τ Cert.KernelOwnOutIdeal.sig) → Buf (Elt Ideal) ℓ) (g : Dev Cert.KernelOwnOutIdeal.nD → PrngReg)
    (m' : (ℓ : Loc Cert.ReferenceOwnOutIdeal.nD Cert.ReferenceOwnOutIdeal.τ Cert.ReferenceOwnOutIdeal.sig) → Buf (Elt Ideal) ℓ) (g' : Dev Cert.ReferenceOwnOutIdeal.nD → PrngReg), Pre_KernelOwnOutIdeal m →
    (∀ c : Dev Cert.KernelOwnOutIdeal.nD,
      m' ((c.tc : Thread Cert.ReferenceOwnOutIdeal.nD Cert.ReferenceOwnOutIdeal.τ).loc Cert.ReferenceOwnOutIdeal.main_arg0) = m ((c.tc : Thread Cert.KernelOwnOutIdeal.nD Cert.KernelOwnOutIdeal.τ).loc Cert.KernelOwnOutIdeal.main_arg0)) →
    ∃ (v0 : (c : Dev Cert.KernelOwnOutIdeal.nD) → Buf (Elt Ideal) ((c.tc : Thread Cert.KernelOwnOutIdeal.nD Cert.KernelOwnOutIdeal.τ).loc Cert.KernelOwnOutIdeal.main_v4)),
      θ_run (Cert.KernelOwnOutIdeal.defs (F := Ideal)) (onTc (τ := Cert.KernelOwnOutIdeal.τ) (Cert.KernelOwnOutIdeal.main (F := Ideal))) ⟨m, fun _ => 0, g⟩ (fun r => ∀ c : Dev Cert.KernelOwnOutIdeal.nD,
          r.2.mem ((c.tc : Thread Cert.KernelOwnOutIdeal.nD Cert.KernelOwnOutIdeal.τ).loc Cert.KernelOwnOutIdeal.main_v4) = v0 c
          ∧ r.2.mem ((c.tc : Thread Cert.KernelOwnOutIdeal.nD Cert.KernelOwnOutIdeal.τ).loc Cert.KernelOwnOutIdeal.main_arg0) = m ((c.tc : Thread Cert.KernelOwnOutIdeal.nD Cert.KernelOwnOutIdeal.τ).loc Cert.KernelOwnOutIdeal.main_arg0))
      ∧ θ_run (Cert.ReferenceOwnOutIdeal.defs (F := Ideal)) (onTc (τ := Cert.ReferenceOwnOutIdeal.τ) (Cert.ReferenceOwnOutIdeal.main (F := Ideal))) ⟨m', fun _ => 0, g'⟩ (fun r => ∀ c : Dev Cert.ReferenceOwnOutIdeal.nD,
          r.2.mem ((c.tc : Thread Cert.ReferenceOwnOutIdeal.nD Cert.ReferenceOwnOutIdeal.τ).loc Cert.ReferenceOwnOutIdeal.main_v1) = v0 c
          ∧ r.2.mem ((c.tc : Thread Cert.ReferenceOwnOutIdeal.nD Cert.ReferenceOwnOutIdeal.τ).loc Cert.ReferenceOwnOutIdeal.main_arg0) = m' ((c.tc : Thread Cert.ReferenceOwnOutIdeal.nD Cert.ReferenceOwnOutIdeal.τ).loc Cert.ReferenceOwnOutIdeal.main_arg0))

def preserves_KernelOwnUp_KernelOwnUpIdeal : Prop :=
  True

def algebraic_KernelOwnUpIdeal_ReferenceOwnUpIdeal [hKernelOwnUpIdeal : Cert.KernelOwnUpIdeal.Facts] [hReferenceOwnUpIdeal : Cert.ReferenceOwnUpIdeal.Facts] : Prop :=
  ∀ (m : (ℓ : Loc Cert.KernelOwnUpIdeal.nD Cert.KernelOwnUpIdeal.τ Cert.KernelOwnUpIdeal.sig) → Buf (Elt Ideal) ℓ) (g : Dev Cert.KernelOwnUpIdeal.nD → PrngReg)
    (m' : (ℓ : Loc Cert.ReferenceOwnUpIdeal.nD Cert.ReferenceOwnUpIdeal.τ Cert.ReferenceOwnUpIdeal.sig) → Buf (Elt Ideal) ℓ) (g' : Dev Cert.ReferenceOwnUpIdeal.nD → PrngReg), Pre_KernelOwnUpIdeal m →
    (∀ c : Dev Cert.KernelOwnUpIdeal.nD,
      m' ((c.tc : Thread Cert.ReferenceOwnUpIdeal.nD Cert.ReferenceOwnUpIdeal.τ).loc Cert.ReferenceOwnUpIdeal.main_arg0) = m ((c.tc : Thread Cert.KernelOwnUpIdeal.nD Cert.KernelOwnUpIdeal.τ).loc Cert.KernelOwnUpIdeal.main_arg0)) →
    ∃ (v0 : (c : Dev Cert.KernelOwnUpIdeal.nD) → Buf (Elt Ideal) ((c.tc : Thread Cert.KernelOwnUpIdeal.nD Cert.KernelOwnUpIdeal.τ).loc Cert.KernelOwnUpIdeal.main_v4)),
      θ_run (Cert.KernelOwnUpIdeal.defs (F := Ideal)) (onTc (τ := Cert.KernelOwnUpIdeal.τ) (Cert.KernelOwnUpIdeal.main (F := Ideal))) ⟨m, fun _ => 0, g⟩ (fun r => ∀ c : Dev Cert.KernelOwnUpIdeal.nD,
          r.2.mem ((c.tc : Thread Cert.KernelOwnUpIdeal.nD Cert.KernelOwnUpIdeal.τ).loc Cert.KernelOwnUpIdeal.main_v4) = v0 c
          ∧ r.2.mem ((c.tc : Thread Cert.KernelOwnUpIdeal.nD Cert.KernelOwnUpIdeal.τ).loc Cert.KernelOwnUpIdeal.main_arg0) = m ((c.tc : Thread Cert.KernelOwnUpIdeal.nD Cert.KernelOwnUpIdeal.τ).loc Cert.KernelOwnUpIdeal.main_arg0))
      ∧ θ_run (Cert.ReferenceOwnUpIdeal.defs (F := Ideal)) (onTc (τ := Cert.ReferenceOwnUpIdeal.τ) (Cert.ReferenceOwnUpIdeal.main (F := Ideal))) ⟨m', fun _ => 0, g'⟩ (fun r => ∀ c : Dev Cert.ReferenceOwnUpIdeal.nD,
          r.2.mem ((c.tc : Thread Cert.ReferenceOwnUpIdeal.nD Cert.ReferenceOwnUpIdeal.τ).loc Cert.ReferenceOwnUpIdeal.main_v1) = v0 c
          ∧ r.2.mem ((c.tc : Thread Cert.ReferenceOwnUpIdeal.nD Cert.ReferenceOwnUpIdeal.τ).loc Cert.ReferenceOwnUpIdeal.main_arg0) = m' ((c.tc : Thread Cert.ReferenceOwnUpIdeal.nD Cert.ReferenceOwnUpIdeal.τ).loc Cert.ReferenceOwnUpIdeal.main_arg0))

def preserves_KernelOwnDown_KernelOwnDownIdeal : Prop :=
  True

def algebraic_KernelOwnDownIdeal_ReferenceOwnDownIdeal [hKernelOwnDownIdeal : Cert.KernelOwnDownIdeal.Facts] [hReferenceOwnDownIdeal : Cert.ReferenceOwnDownIdeal.Facts] : Prop :=
  ∀ (m : (ℓ : Loc Cert.KernelOwnDownIdeal.nD Cert.KernelOwnDownIdeal.τ Cert.KernelOwnDownIdeal.sig) → Buf (Elt Ideal) ℓ) (g : Dev Cert.KernelOwnDownIdeal.nD → PrngReg)
    (m' : (ℓ : Loc Cert.ReferenceOwnDownIdeal.nD Cert.ReferenceOwnDownIdeal.τ Cert.ReferenceOwnDownIdeal.sig) → Buf (Elt Ideal) ℓ) (g' : Dev Cert.ReferenceOwnDownIdeal.nD → PrngReg), Pre_KernelOwnDownIdeal m →
    (∀ c : Dev Cert.KernelOwnDownIdeal.nD,
      m' ((c.tc : Thread Cert.ReferenceOwnDownIdeal.nD Cert.ReferenceOwnDownIdeal.τ).loc Cert.ReferenceOwnDownIdeal.main_arg0) = m ((c.tc : Thread Cert.KernelOwnDownIdeal.nD Cert.KernelOwnDownIdeal.τ).loc Cert.KernelOwnDownIdeal.main_arg0)) →
    ∃ (v0 : (c : Dev Cert.KernelOwnDownIdeal.nD) → Buf (Elt Ideal) ((c.tc : Thread Cert.KernelOwnDownIdeal.nD Cert.KernelOwnDownIdeal.τ).loc Cert.KernelOwnDownIdeal.main_v4)),
      θ_run (Cert.KernelOwnDownIdeal.defs (F := Ideal)) (onTc (τ := Cert.KernelOwnDownIdeal.τ) (Cert.KernelOwnDownIdeal.main (F := Ideal))) ⟨m, fun _ => 0, g⟩ (fun r => ∀ c : Dev Cert.KernelOwnDownIdeal.nD,
          r.2.mem ((c.tc : Thread Cert.KernelOwnDownIdeal.nD Cert.KernelOwnDownIdeal.τ).loc Cert.KernelOwnDownIdeal.main_v4) = v0 c
          ∧ r.2.mem ((c.tc : Thread Cert.KernelOwnDownIdeal.nD Cert.KernelOwnDownIdeal.τ).loc Cert.KernelOwnDownIdeal.main_arg0) = m ((c.tc : Thread Cert.KernelOwnDownIdeal.nD Cert.KernelOwnDownIdeal.τ).loc Cert.KernelOwnDownIdeal.main_arg0))
      ∧ θ_run (Cert.ReferenceOwnDownIdeal.defs (F := Ideal)) (onTc (τ := Cert.ReferenceOwnDownIdeal.τ) (Cert.ReferenceOwnDownIdeal.main (F := Ideal))) ⟨m', fun _ => 0, g'⟩ (fun r => ∀ c : Dev Cert.ReferenceOwnDownIdeal.nD,
          r.2.mem ((c.tc : Thread Cert.ReferenceOwnDownIdeal.nD Cert.ReferenceOwnDownIdeal.τ).loc Cert.ReferenceOwnDownIdeal.main_v1) = v0 c
          ∧ r.2.mem ((c.tc : Thread Cert.ReferenceOwnDownIdeal.nD Cert.ReferenceOwnDownIdeal.τ).loc Cert.ReferenceOwnDownIdeal.main_arg0) = m' ((c.tc : Thread Cert.ReferenceOwnDownIdeal.nD Cert.ReferenceOwnDownIdeal.τ).loc Cert.ReferenceOwnDownIdeal.main_arg0))

def Claim : Prop :=
  ∃ (hKernel : Cert.Kernel.Facts) (hKernelIdeal : Cert.KernelIdeal.Facts) (hReferenceIdeal : Cert.ReferenceIdeal.Facts) (hKernelDHn2 : Cert.KernelDHn2.Facts) (hKernelDHn2Ideal : Cert.KernelDHn2Ideal.Facts) (hReferenceDHn2Ideal : Cert.ReferenceDHn2Ideal.Facts) (hKernelDAct : Cert.KernelDAct.Facts) (hKernelDActIdeal : Cert.KernelDActIdeal.Facts) (hReferenceDActIdeal : Cert.ReferenceDActIdeal.Facts) (hKernelDHn1 : Cert.KernelDHn1.Facts) (hKernelDHn1Ideal : Cert.KernelDHn1Ideal.Facts) (hReferenceDHn1Ideal : Cert.ReferenceDHn1Ideal.Facts) (hKernelDMix : Cert.KernelDMix.Facts) (hKernelDMixIdeal : Cert.KernelDMixIdeal.Facts) (hReferenceDMixIdeal : Cert.ReferenceDMixIdeal.Facts) (hKernelGUpS : Cert.KernelGUpS.Facts) (hKernelGUpSIdeal : Cert.KernelGUpSIdeal.Facts) (hReferenceGUpSIdeal : Cert.ReferenceGUpSIdeal.Facts) (hKernelGUpO : Cert.KernelGUpO.Facts) (hKernelGUpOIdeal : Cert.KernelGUpOIdeal.Facts) (hReferenceGUpOIdeal : Cert.ReferenceGUpOIdeal.Facts) (hKernelGDownS : Cert.KernelGDownS.Facts) (hKernelGDownSIdeal : Cert.KernelGDownSIdeal.Facts) (hReferenceGDownSIdeal : Cert.ReferenceGDownSIdeal.Facts) (hKernelGDownO : Cert.KernelGDownO.Facts) (hKernelGDownOIdeal : Cert.KernelGDownOIdeal.Facts) (hReferenceGDownOIdeal : Cert.ReferenceGDownOIdeal.Facts) (hKernelGInS : Cert.KernelGInS.Facts) (hKernelGInSIdeal : Cert.KernelGInSIdeal.Facts) (hReferenceGInSIdeal : Cert.ReferenceGInSIdeal.Facts) (hKernelGInO : Cert.KernelGInO.Facts) (hKernelGInOIdeal : Cert.KernelGInOIdeal.Facts) (hReferenceGInOIdeal : Cert.ReferenceGInOIdeal.Facts) (hKernelGOutS : Cert.KernelGOutS.Facts) (hKernelGOutSIdeal : Cert.KernelGOutSIdeal.Facts) (hReferenceGOutSIdeal : Cert.ReferenceGOutSIdeal.Facts) (hKernelGOutO : Cert.KernelGOutO.Facts) (hKernelGOutOIdeal : Cert.KernelGOutOIdeal.Facts) (hReferenceGOutOIdeal : Cert.ReferenceGOutOIdeal.Facts) (hKernelProjOwn : Cert.KernelProjOwn.Facts) (hKernelProjOwnIdeal : Cert.KernelProjOwnIdeal.Facts) (hReferenceProjOwnIdeal : Cert.ReferenceProjOwnIdeal.Facts) (hKernelProjX : Cert.KernelProjX.Facts) (hKernelProjXIdeal : Cert.KernelProjXIdeal.Facts) (hReferenceProjXIdeal : Cert.ReferenceProjXIdeal.Facts) (hKernelProjY : Cert.KernelProjY.Facts) (hKernelProjYIdeal : Cert.KernelProjYIdeal.Facts) (hReferenceProjYIdeal : Cert.ReferenceProjYIdeal.Facts) (hKernelProjXY : Cert.KernelProjXY.Facts) (hKernelProjXYIdeal : Cert.KernelProjXYIdeal.Facts) (hReferenceProjXYIdeal : Cert.ReferenceProjXYIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelOut : Cert.KernelOut.Facts) (hKernelOutIdeal : Cert.KernelOutIdeal.Facts) (hReferenceOutIdeal : Cert.ReferenceOutIdeal.Facts) (hKernelNorm : Cert.KernelNorm.Facts) (hKernelNormIdeal : Cert.KernelNormIdeal.Facts) (hReferenceNormIdeal : Cert.ReferenceNormIdeal.Facts) (hKernelNormZ : Cert.KernelNormZ.Facts) (hKernelNormZIdeal : Cert.KernelNormZIdeal.Facts) (hReferenceNormZIdeal : Cert.ReferenceNormZIdeal.Facts) (hKernelNormBwd : Cert.KernelNormBwd.Facts) (hKernelNormBwdIdeal : Cert.KernelNormBwdIdeal.Facts) (hReferenceNormBwdIdeal : Cert.ReferenceNormBwdIdeal.Facts) (hKernelNormBwdA : Cert.KernelNormBwdA.Facts) (hKernelNormBwdAIdeal : Cert.KernelNormBwdAIdeal.Facts) (hReferenceNormBwdAIdeal : Cert.ReferenceNormBwdAIdeal.Facts) (hKernelNormZBwd : Cert.KernelNormZBwd.Facts) (hKernelNormZBwdIdeal : Cert.KernelNormZBwdIdeal.Facts) (hReferenceNormZBwdIdeal : Cert.ReferenceNormZBwdIdeal.Facts) (hKernelLoss : Cert.KernelLoss.Facts) (hKernelLossIdeal : Cert.KernelLossIdeal.Facts) (hReferenceLossIdeal : Cert.ReferenceLossIdeal.Facts) (hKernelAdamIn : Cert.KernelAdamIn.Facts) (hKernelAdamInIdeal : Cert.KernelAdamInIdeal.Facts) (hReferenceAdamInIdeal : Cert.ReferenceAdamInIdeal.Facts) (hKernelAdamUp : Cert.KernelAdamUp.Facts) (hKernelAdamUpIdeal : Cert.KernelAdamUpIdeal.Facts) (hReferenceAdamUpIdeal : Cert.ReferenceAdamUpIdeal.Facts) (hKernelAdamOut : Cert.KernelAdamOut.Facts) (hKernelAdamOutIdeal : Cert.KernelAdamOutIdeal.Facts) (hReferenceAdamOutIdeal : Cert.ReferenceAdamOutIdeal.Facts) (hKernelAdamDown : Cert.KernelAdamDown.Facts) (hKernelAdamDownIdeal : Cert.KernelAdamDownIdeal.Facts) (hReferenceAdamDownIdeal : Cert.ReferenceAdamDownIdeal.Facts) (hKernelAdamSmall : Cert.KernelAdamSmall.Facts) (hKernelAdamSmallIdeal : Cert.KernelAdamSmallIdeal.Facts) (hReferenceAdamSmallIdeal : Cert.ReferenceAdamSmallIdeal.Facts) (hKernelCastIn : Cert.KernelCastIn.Facts) (hKernelCastInIdeal : Cert.KernelCastInIdeal.Facts) (hReferenceCastInIdeal : Cert.ReferenceCastInIdeal.Facts) (hKernelCastOut : Cert.KernelCastOut.Facts) (hKernelCastOutIdeal : Cert.KernelCastOutIdeal.Facts) (hReferenceCastOutIdeal : Cert.ReferenceCastOutIdeal.Facts) (hKernelCastUp : Cert.KernelCastUp.Facts) (hKernelCastUpIdeal : Cert.KernelCastUpIdeal.Facts) (hReferenceCastUpIdeal : Cert.ReferenceCastUpIdeal.Facts) (hKernelCastDown : Cert.KernelCastDown.Facts) (hKernelCastDownIdeal : Cert.KernelCastDownIdeal.Facts) (hReferenceCastDownIdeal : Cert.ReferenceCastDownIdeal.Facts) (hKernelOwnIn : Cert.KernelOwnIn.Facts) (hKernelOwnInIdeal : Cert.KernelOwnInIdeal.Facts) (hReferenceOwnInIdeal : Cert.ReferenceOwnInIdeal.Facts) (hKernelOwnOut : Cert.KernelOwnOut.Facts) (hKernelOwnOutIdeal : Cert.KernelOwnOutIdeal.Facts) (hReferenceOwnOutIdeal : Cert.ReferenceOwnOutIdeal.Facts) (hKernelOwnUp : Cert.KernelOwnUp.Facts) (hKernelOwnUpIdeal : Cert.KernelOwnUpIdeal.Facts) (hReferenceOwnUpIdeal : Cert.ReferenceOwnUpIdeal.Facts) (hKernelOwnDown : Cert.KernelOwnDown.Facts) (hKernelOwnDownIdeal : Cert.KernelOwnDownIdeal.Facts) (hReferenceOwnDownIdeal : Cert.ReferenceOwnDownIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelDHn2 (hKernelDHn2 := hKernelDHn2)
    ∧ quiescent_KernelDHn2Ideal (hKernelDHn2Ideal := hKernelDHn2Ideal)
    ∧ quiescent_ReferenceDHn2Ideal (hReferenceDHn2Ideal := hReferenceDHn2Ideal)
    ∧ quiescent_KernelDAct (hKernelDAct := hKernelDAct)
    ∧ quiescent_KernelDActIdeal (hKernelDActIdeal := hKernelDActIdeal)
    ∧ quiescent_ReferenceDActIdeal (hReferenceDActIdeal := hReferenceDActIdeal)
    ∧ quiescent_KernelDHn1 (hKernelDHn1 := hKernelDHn1)
    ∧ quiescent_KernelDHn1Ideal (hKernelDHn1Ideal := hKernelDHn1Ideal)
    ∧ quiescent_ReferenceDHn1Ideal (hReferenceDHn1Ideal := hReferenceDHn1Ideal)
    ∧ quiescent_KernelDMix (hKernelDMix := hKernelDMix)
    ∧ quiescent_KernelDMixIdeal (hKernelDMixIdeal := hKernelDMixIdeal)
    ∧ quiescent_ReferenceDMixIdeal (hReferenceDMixIdeal := hReferenceDMixIdeal)
    ∧ quiescent_KernelGUpS (hKernelGUpS := hKernelGUpS)
    ∧ quiescent_KernelGUpSIdeal (hKernelGUpSIdeal := hKernelGUpSIdeal)
    ∧ quiescent_ReferenceGUpSIdeal (hReferenceGUpSIdeal := hReferenceGUpSIdeal)
    ∧ quiescent_KernelGUpO (hKernelGUpO := hKernelGUpO)
    ∧ quiescent_KernelGUpOIdeal (hKernelGUpOIdeal := hKernelGUpOIdeal)
    ∧ quiescent_ReferenceGUpOIdeal (hReferenceGUpOIdeal := hReferenceGUpOIdeal)
    ∧ quiescent_KernelGDownS (hKernelGDownS := hKernelGDownS)
    ∧ quiescent_KernelGDownSIdeal (hKernelGDownSIdeal := hKernelGDownSIdeal)
    ∧ quiescent_ReferenceGDownSIdeal (hReferenceGDownSIdeal := hReferenceGDownSIdeal)
    ∧ quiescent_KernelGDownO (hKernelGDownO := hKernelGDownO)
    ∧ quiescent_KernelGDownOIdeal (hKernelGDownOIdeal := hKernelGDownOIdeal)
    ∧ quiescent_ReferenceGDownOIdeal (hReferenceGDownOIdeal := hReferenceGDownOIdeal)
    ∧ quiescent_KernelGInS (hKernelGInS := hKernelGInS)
    ∧ quiescent_KernelGInSIdeal (hKernelGInSIdeal := hKernelGInSIdeal)
    ∧ quiescent_ReferenceGInSIdeal (hReferenceGInSIdeal := hReferenceGInSIdeal)
    ∧ quiescent_KernelGInO (hKernelGInO := hKernelGInO)
    ∧ quiescent_KernelGInOIdeal (hKernelGInOIdeal := hKernelGInOIdeal)
    ∧ quiescent_ReferenceGInOIdeal (hReferenceGInOIdeal := hReferenceGInOIdeal)
    ∧ quiescent_KernelGOutS (hKernelGOutS := hKernelGOutS)
    ∧ quiescent_KernelGOutSIdeal (hKernelGOutSIdeal := hKernelGOutSIdeal)
    ∧ quiescent_ReferenceGOutSIdeal (hReferenceGOutSIdeal := hReferenceGOutSIdeal)
    ∧ quiescent_KernelGOutO (hKernelGOutO := hKernelGOutO)
    ∧ quiescent_KernelGOutOIdeal (hKernelGOutOIdeal := hKernelGOutOIdeal)
    ∧ quiescent_ReferenceGOutOIdeal (hReferenceGOutOIdeal := hReferenceGOutOIdeal)
    ∧ quiescent_KernelProjOwn (hKernelProjOwn := hKernelProjOwn)
    ∧ quiescent_KernelProjOwnIdeal (hKernelProjOwnIdeal := hKernelProjOwnIdeal)
    ∧ quiescent_ReferenceProjOwnIdeal (hReferenceProjOwnIdeal := hReferenceProjOwnIdeal)
    ∧ quiescent_KernelProjX (hKernelProjX := hKernelProjX)
    ∧ quiescent_KernelProjXIdeal (hKernelProjXIdeal := hKernelProjXIdeal)
    ∧ quiescent_ReferenceProjXIdeal (hReferenceProjXIdeal := hReferenceProjXIdeal)
    ∧ quiescent_KernelProjY (hKernelProjY := hKernelProjY)
    ∧ quiescent_KernelProjYIdeal (hKernelProjYIdeal := hKernelProjYIdeal)
    ∧ quiescent_ReferenceProjYIdeal (hReferenceProjYIdeal := hReferenceProjYIdeal)
    ∧ quiescent_KernelProjXY (hKernelProjXY := hKernelProjXY)
    ∧ quiescent_KernelProjXYIdeal (hKernelProjXYIdeal := hKernelProjXYIdeal)
    ∧ quiescent_ReferenceProjXYIdeal (hReferenceProjXYIdeal := hReferenceProjXYIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelNormZ (hKernelNormZ := hKernelNormZ)
    ∧ quiescent_KernelNormZIdeal (hKernelNormZIdeal := hKernelNormZIdeal)
    ∧ quiescent_ReferenceNormZIdeal (hReferenceNormZIdeal := hReferenceNormZIdeal)
    ∧ quiescent_KernelNormBwd (hKernelNormBwd := hKernelNormBwd)
    ∧ quiescent_KernelNormBwdIdeal (hKernelNormBwdIdeal := hKernelNormBwdIdeal)
    ∧ quiescent_ReferenceNormBwdIdeal (hReferenceNormBwdIdeal := hReferenceNormBwdIdeal)
    ∧ quiescent_KernelNormBwdA (hKernelNormBwdA := hKernelNormBwdA)
    ∧ quiescent_KernelNormBwdAIdeal (hKernelNormBwdAIdeal := hKernelNormBwdAIdeal)
    ∧ quiescent_ReferenceNormBwdAIdeal (hReferenceNormBwdAIdeal := hReferenceNormBwdAIdeal)
    ∧ quiescent_KernelNormZBwd (hKernelNormZBwd := hKernelNormZBwd)
    ∧ quiescent_KernelNormZBwdIdeal (hKernelNormZBwdIdeal := hKernelNormZBwdIdeal)
    ∧ quiescent_ReferenceNormZBwdIdeal (hReferenceNormZBwdIdeal := hReferenceNormZBwdIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelAdamIn (hKernelAdamIn := hKernelAdamIn)
    ∧ quiescent_KernelAdamInIdeal (hKernelAdamInIdeal := hKernelAdamInIdeal)
    ∧ quiescent_ReferenceAdamInIdeal (hReferenceAdamInIdeal := hReferenceAdamInIdeal)
    ∧ quiescent_KernelAdamUp (hKernelAdamUp := hKernelAdamUp)
    ∧ quiescent_KernelAdamUpIdeal (hKernelAdamUpIdeal := hKernelAdamUpIdeal)
    ∧ quiescent_ReferenceAdamUpIdeal (hReferenceAdamUpIdeal := hReferenceAdamUpIdeal)
    ∧ quiescent_KernelAdamOut (hKernelAdamOut := hKernelAdamOut)
    ∧ quiescent_KernelAdamOutIdeal (hKernelAdamOutIdeal := hKernelAdamOutIdeal)
    ∧ quiescent_ReferenceAdamOutIdeal (hReferenceAdamOutIdeal := hReferenceAdamOutIdeal)
    ∧ quiescent_KernelAdamDown (hKernelAdamDown := hKernelAdamDown)
    ∧ quiescent_KernelAdamDownIdeal (hKernelAdamDownIdeal := hKernelAdamDownIdeal)
    ∧ quiescent_ReferenceAdamDownIdeal (hReferenceAdamDownIdeal := hReferenceAdamDownIdeal)
    ∧ quiescent_KernelAdamSmall (hKernelAdamSmall := hKernelAdamSmall)
    ∧ quiescent_KernelAdamSmallIdeal (hKernelAdamSmallIdeal := hKernelAdamSmallIdeal)
    ∧ quiescent_ReferenceAdamSmallIdeal (hReferenceAdamSmallIdeal := hReferenceAdamSmallIdeal)
    ∧ quiescent_KernelCastIn (hKernelCastIn := hKernelCastIn)
    ∧ quiescent_KernelCastInIdeal (hKernelCastInIdeal := hKernelCastInIdeal)
    ∧ quiescent_ReferenceCastInIdeal (hReferenceCastInIdeal := hReferenceCastInIdeal)
    ∧ quiescent_KernelCastOut (hKernelCastOut := hKernelCastOut)
    ∧ quiescent_KernelCastOutIdeal (hKernelCastOutIdeal := hKernelCastOutIdeal)
    ∧ quiescent_ReferenceCastOutIdeal (hReferenceCastOutIdeal := hReferenceCastOutIdeal)
    ∧ quiescent_KernelCastUp (hKernelCastUp := hKernelCastUp)
    ∧ quiescent_KernelCastUpIdeal (hKernelCastUpIdeal := hKernelCastUpIdeal)
    ∧ quiescent_ReferenceCastUpIdeal (hReferenceCastUpIdeal := hReferenceCastUpIdeal)
    ∧ quiescent_KernelCastDown (hKernelCastDown := hKernelCastDown)
    ∧ quiescent_KernelCastDownIdeal (hKernelCastDownIdeal := hKernelCastDownIdeal)
    ∧ quiescent_ReferenceCastDownIdeal (hReferenceCastDownIdeal := hReferenceCastDownIdeal)
    ∧ quiescent_KernelOwnIn (hKernelOwnIn := hKernelOwnIn)
    ∧ quiescent_KernelOwnInIdeal (hKernelOwnInIdeal := hKernelOwnInIdeal)
    ∧ quiescent_ReferenceOwnInIdeal (hReferenceOwnInIdeal := hReferenceOwnInIdeal)
    ∧ quiescent_KernelOwnOut (hKernelOwnOut := hKernelOwnOut)
    ∧ quiescent_KernelOwnOutIdeal (hKernelOwnOutIdeal := hKernelOwnOutIdeal)
    ∧ quiescent_ReferenceOwnOutIdeal (hReferenceOwnOutIdeal := hReferenceOwnOutIdeal)
    ∧ quiescent_KernelOwnUp (hKernelOwnUp := hKernelOwnUp)
    ∧ quiescent_KernelOwnUpIdeal (hKernelOwnUpIdeal := hKernelOwnUpIdeal)
    ∧ quiescent_ReferenceOwnUpIdeal (hReferenceOwnUpIdeal := hReferenceOwnUpIdeal)
    ∧ quiescent_KernelOwnDown (hKernelOwnDown := hKernelOwnDown)
    ∧ quiescent_KernelOwnDownIdeal (hKernelOwnDownIdeal := hKernelOwnDownIdeal)
    ∧ quiescent_ReferenceOwnDownIdeal (hReferenceOwnDownIdeal := hReferenceOwnDownIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelDHn2_KernelDHn2Ideal
    ∧ algebraic_KernelDHn2Ideal_ReferenceDHn2Ideal (hKernelDHn2Ideal := hKernelDHn2Ideal) (hReferenceDHn2Ideal := hReferenceDHn2Ideal)
    ∧ preserves_KernelDAct_KernelDActIdeal
    ∧ algebraic_KernelDActIdeal_ReferenceDActIdeal (hKernelDActIdeal := hKernelDActIdeal) (hReferenceDActIdeal := hReferenceDActIdeal)
    ∧ preserves_KernelDHn1_KernelDHn1Ideal
    ∧ algebraic_KernelDHn1Ideal_ReferenceDHn1Ideal (hKernelDHn1Ideal := hKernelDHn1Ideal) (hReferenceDHn1Ideal := hReferenceDHn1Ideal)
    ∧ preserves_KernelDMix_KernelDMixIdeal
    ∧ algebraic_KernelDMixIdeal_ReferenceDMixIdeal (hKernelDMixIdeal := hKernelDMixIdeal) (hReferenceDMixIdeal := hReferenceDMixIdeal)
    ∧ preserves_KernelGUpS_KernelGUpSIdeal
    ∧ algebraic_KernelGUpSIdeal_ReferenceGUpSIdeal (hKernelGUpSIdeal := hKernelGUpSIdeal) (hReferenceGUpSIdeal := hReferenceGUpSIdeal)
    ∧ preserves_KernelGUpO_KernelGUpOIdeal
    ∧ algebraic_KernelGUpOIdeal_ReferenceGUpOIdeal (hKernelGUpOIdeal := hKernelGUpOIdeal) (hReferenceGUpOIdeal := hReferenceGUpOIdeal)
    ∧ preserves_KernelGDownS_KernelGDownSIdeal
    ∧ algebraic_KernelGDownSIdeal_ReferenceGDownSIdeal (hKernelGDownSIdeal := hKernelGDownSIdeal) (hReferenceGDownSIdeal := hReferenceGDownSIdeal)
    ∧ preserves_KernelGDownO_KernelGDownOIdeal
    ∧ algebraic_KernelGDownOIdeal_ReferenceGDownOIdeal (hKernelGDownOIdeal := hKernelGDownOIdeal) (hReferenceGDownOIdeal := hReferenceGDownOIdeal)
    ∧ preserves_KernelGInS_KernelGInSIdeal
    ∧ algebraic_KernelGInSIdeal_ReferenceGInSIdeal (hKernelGInSIdeal := hKernelGInSIdeal) (hReferenceGInSIdeal := hReferenceGInSIdeal)
    ∧ preserves_KernelGInO_KernelGInOIdeal
    ∧ algebraic_KernelGInOIdeal_ReferenceGInOIdeal (hKernelGInOIdeal := hKernelGInOIdeal) (hReferenceGInOIdeal := hReferenceGInOIdeal)
    ∧ preserves_KernelGOutS_KernelGOutSIdeal
    ∧ algebraic_KernelGOutSIdeal_ReferenceGOutSIdeal (hKernelGOutSIdeal := hKernelGOutSIdeal) (hReferenceGOutSIdeal := hReferenceGOutSIdeal)
    ∧ preserves_KernelGOutO_KernelGOutOIdeal
    ∧ algebraic_KernelGOutOIdeal_ReferenceGOutOIdeal (hKernelGOutOIdeal := hKernelGOutOIdeal) (hReferenceGOutOIdeal := hReferenceGOutOIdeal)
    ∧ preserves_KernelProjOwn_KernelProjOwnIdeal
    ∧ algebraic_KernelProjOwnIdeal_ReferenceProjOwnIdeal (hKernelProjOwnIdeal := hKernelProjOwnIdeal) (hReferenceProjOwnIdeal := hReferenceProjOwnIdeal)
    ∧ preserves_KernelProjX_KernelProjXIdeal
    ∧ algebraic_KernelProjXIdeal_ReferenceProjXIdeal (hKernelProjXIdeal := hKernelProjXIdeal) (hReferenceProjXIdeal := hReferenceProjXIdeal)
    ∧ preserves_KernelProjY_KernelProjYIdeal
    ∧ algebraic_KernelProjYIdeal_ReferenceProjYIdeal (hKernelProjYIdeal := hKernelProjYIdeal) (hReferenceProjYIdeal := hReferenceProjYIdeal)
    ∧ preserves_KernelProjXY_KernelProjXYIdeal
    ∧ algebraic_KernelProjXYIdeal_ReferenceProjXYIdeal (hKernelProjXYIdeal := hKernelProjXYIdeal) (hReferenceProjXYIdeal := hReferenceProjXYIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelOut_KernelOutIdeal
    ∧ algebraic_KernelOutIdeal_ReferenceOutIdeal (hKernelOutIdeal := hKernelOutIdeal) (hReferenceOutIdeal := hReferenceOutIdeal)
    ∧ preserves_KernelNorm_KernelNormIdeal
    ∧ algebraic_KernelNormIdeal_ReferenceNormIdeal (hKernelNormIdeal := hKernelNormIdeal) (hReferenceNormIdeal := hReferenceNormIdeal)
    ∧ preserves_KernelNormZ_KernelNormZIdeal
    ∧ algebraic_KernelNormZIdeal_ReferenceNormZIdeal (hKernelNormZIdeal := hKernelNormZIdeal) (hReferenceNormZIdeal := hReferenceNormZIdeal)
    ∧ preserves_KernelNormBwd_KernelNormBwdIdeal
    ∧ algebraic_KernelNormBwdIdeal_ReferenceNormBwdIdeal (hKernelNormBwdIdeal := hKernelNormBwdIdeal) (hReferenceNormBwdIdeal := hReferenceNormBwdIdeal)
    ∧ preserves_KernelNormBwdA_KernelNormBwdAIdeal
    ∧ algebraic_KernelNormBwdAIdeal_ReferenceNormBwdAIdeal (hKernelNormBwdAIdeal := hKernelNormBwdAIdeal) (hReferenceNormBwdAIdeal := hReferenceNormBwdAIdeal)
    ∧ preserves_KernelNormZBwd_KernelNormZBwdIdeal
    ∧ algebraic_KernelNormZBwdIdeal_ReferenceNormZBwdIdeal (hKernelNormZBwdIdeal := hKernelNormZBwdIdeal) (hReferenceNormZBwdIdeal := hReferenceNormZBwdIdeal)
    ∧ preserves_KernelLoss_KernelLossIdeal
    ∧ algebraic_KernelLossIdeal_ReferenceLossIdeal (hKernelLossIdeal := hKernelLossIdeal) (hReferenceLossIdeal := hReferenceLossIdeal)
    ∧ preserves_KernelAdamIn_KernelAdamInIdeal
    ∧ algebraic_KernelAdamInIdeal_ReferenceAdamInIdeal (hKernelAdamInIdeal := hKernelAdamInIdeal) (hReferenceAdamInIdeal := hReferenceAdamInIdeal)
    ∧ preserves_KernelAdamUp_KernelAdamUpIdeal
    ∧ algebraic_KernelAdamUpIdeal_ReferenceAdamUpIdeal (hKernelAdamUpIdeal := hKernelAdamUpIdeal) (hReferenceAdamUpIdeal := hReferenceAdamUpIdeal)
    ∧ preserves_KernelAdamOut_KernelAdamOutIdeal
    ∧ algebraic_KernelAdamOutIdeal_ReferenceAdamOutIdeal (hKernelAdamOutIdeal := hKernelAdamOutIdeal) (hReferenceAdamOutIdeal := hReferenceAdamOutIdeal)
    ∧ preserves_KernelAdamDown_KernelAdamDownIdeal
    ∧ algebraic_KernelAdamDownIdeal_ReferenceAdamDownIdeal (hKernelAdamDownIdeal := hKernelAdamDownIdeal) (hReferenceAdamDownIdeal := hReferenceAdamDownIdeal)
    ∧ preserves_KernelAdamSmall_KernelAdamSmallIdeal
    ∧ algebraic_KernelAdamSmallIdeal_ReferenceAdamSmallIdeal (hKernelAdamSmallIdeal := hKernelAdamSmallIdeal) (hReferenceAdamSmallIdeal := hReferenceAdamSmallIdeal)
    ∧ preserves_KernelCastIn_KernelCastInIdeal
    ∧ algebraic_KernelCastInIdeal_ReferenceCastInIdeal (hKernelCastInIdeal := hKernelCastInIdeal) (hReferenceCastInIdeal := hReferenceCastInIdeal)
    ∧ preserves_KernelCastOut_KernelCastOutIdeal
    ∧ algebraic_KernelCastOutIdeal_ReferenceCastOutIdeal (hKernelCastOutIdeal := hKernelCastOutIdeal) (hReferenceCastOutIdeal := hReferenceCastOutIdeal)
    ∧ preserves_KernelCastUp_KernelCastUpIdeal
    ∧ algebraic_KernelCastUpIdeal_ReferenceCastUpIdeal (hKernelCastUpIdeal := hKernelCastUpIdeal) (hReferenceCastUpIdeal := hReferenceCastUpIdeal)
    ∧ preserves_KernelCastDown_KernelCastDownIdeal
    ∧ algebraic_KernelCastDownIdeal_ReferenceCastDownIdeal (hKernelCastDownIdeal := hKernelCastDownIdeal) (hReferenceCastDownIdeal := hReferenceCastDownIdeal)
    ∧ preserves_KernelOwnIn_KernelOwnInIdeal
    ∧ algebraic_KernelOwnInIdeal_ReferenceOwnInIdeal (hKernelOwnInIdeal := hKernelOwnInIdeal) (hReferenceOwnInIdeal := hReferenceOwnInIdeal)
    ∧ preserves_KernelOwnOut_KernelOwnOutIdeal
    ∧ algebraic_KernelOwnOutIdeal_ReferenceOwnOutIdeal (hKernelOwnOutIdeal := hKernelOwnOutIdeal) (hReferenceOwnOutIdeal := hReferenceOwnOutIdeal)
    ∧ preserves_KernelOwnUp_KernelOwnUpIdeal
    ∧ algebraic_KernelOwnUpIdeal_ReferenceOwnUpIdeal (hKernelOwnUpIdeal := hKernelOwnUpIdeal) (hReferenceOwnUpIdeal := hReferenceOwnUpIdeal)
    ∧ preserves_KernelOwnDown_KernelOwnDownIdeal
    ∧ algebraic_KernelOwnDownIdeal_ReferenceOwnDownIdeal (hKernelOwnDownIdeal := hKernelOwnDownIdeal) (hReferenceOwnDownIdeal := hReferenceOwnDownIdeal)
-- ==== Pre_finite.lean ====
abbrev S4096x22016 : Shape := ⟨2, ![4096, 22016]⟩
abbrev S3x22016 : Shape := ⟨2, ![3, 22016]⟩
abbrev S1x22016 : Shape := ⟨2, ![1, 22016]⟩
abbrev S4096x11008 : Shape := ⟨2, ![4096, 11008]⟩
abbrev S_ : Shape := ⟨0, ![]⟩

class Facts : Prop where
  bcast_S_S4096x22016 : S_.BroadcastsInDim S4096x22016 (![] : Fin 0 → Fin S4096x22016.rank)
  reducesTo_S4096x22016_S_d0_1 : S4096x22016.ReducesTo [0, 1] S_
  h_S_ : 0 < S_.numel
  bcast_S_S3x22016 : S_.BroadcastsInDim S3x22016 (![] : Fin 0 → Fin S3x22016.rank)
  reducesTo_S3x22016_S_d0_1 : S3x22016.ReducesTo [0, 1] S_
  bcast_S_S1x22016 : S_.BroadcastsInDim S1x22016 (![] : Fin 0 → Fin S1x22016.rank)
  reducesTo_S1x22016_S_d0_1 : S1x22016.ReducesTo [0, 1] S_
  bitsLt_bf16_f32 : FTy.bits .bf16 < FTy.bits .f32
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v15 : FVec F S4096x11008 .f32) (main_v16 : FVec F S4096x11008 .f32) : IVec S_ 1 :=
  let main_v17 : IVec S4096x11008 1 := cmpf .olt main_v15 main_v16
  let main_c_5 : IVec S_ 1 := constantI S_ 1 1#1
  let main_v18 : IVec S_ 1 := (fun x v => Host.reduce IntOp.andi x v reducesTo_S4096x11008_S_d0_1 h_S_) main_v17 main_c_5
  let main_v19 : IVec S_ 1 := andi main_v13 main_v18
  main_v19

def fn {F : FTy → Type} [FloatOps F] (main_arg0 : FVec F S4096x22016 .f32) (main_arg1 : FVec F S3x22016 .f32) (main_arg2 : FVec F S1x22016 .f32) (main_arg3 : FVec F S4096x11008 .bf16) : IVec S_ 1 :=
  let main_v0 : FVec F S4096x22016 .f32 := Host.absf main_arg0
  let main_cst : FVec F S_ .f32 := constant S_ .f32 0x7F800000#32
  let main_v1 : FVec F S4096x22016 .f32 := broadcastInDim S4096x22016 ![] bcast_S_S4096x22016 main_cst
  let main_v2 : IVec S4096x22016 1 := cmpf .olt main_v0 main_v1
  let main_c : IVec S_ 1 := constantI S_ 1 1#1
  let main_v3 : IVec S_ 1 := (fun x v => Host.reduce IntOp.andi x v reducesTo_S4096x22016_S_d0_1 h_S_) main_v2 main_c
  let main_v4 : FVec F S3x22016 .f32 := Host.absf main_arg1
  let main_cst_0 : FVec F S_ .f32 := constant S_ .f32 0x7F800000#32
  let main_v5 : FVec F S3x22016 .f32 := broadcastInDim S3x22016 ![] bcast_S_S3x22016 main_cst_0
  let main_v6 : IVec S3x22016 1 := cmpf .olt main_v4 main_v5
  let main_c_1 : IVec S_ 1 := constantI S_ 1 1#1
  let main_v7 : IVec S_ 1 := (fun x v => Host.reduce IntOp.andi x v reducesTo_S3x22016_S_d0_1 h_S_) main_v6 main_c_1
  let main_v8 : IVec S_ 1 := andi main_v3 main_v7
  let main_v9 : FVec F S1x22016 .f32 := Host.absf main_arg2
  let main_cst_2 : FVec F S_ .f32 := constant S_ .f32 0x7F800000#32
  let main_v10 : FVec F S1x22016 .f32 := broadcastInDim S1x22016 ![] bcast_S_S1x22016 main_cst_2
  let main_v11 : IVec S1x22016 1 := cmpf .olt main_v9 main_v10
  let main_c_3 : IVec S_ 1 := constantI S_ 1 1#1
  let main_v12 : IVec S_ 1 := (fun x v => Host.reduce IntOp.andi x v reducesTo_S1x22016_S_d0_1 h_S_) main_v11 main_c_3
  let main_v13 : IVec S_ 1 := andi main_v8 main_v12
  let main_v14 : FVec F S4096x11008 .f32 := (extf .f32 · bitsLt_bf16_f32) main_arg3
  let main_v15 : FVec F S4096x11008 .f32 := Host.absf main_v14
  let main_cst_4 : FVec F S_ .f32 := constant S_ .f32 0x7F800000#32
  let main_v16 : FVec F S4096x11008 .f32 := broadcastInDim S4096x11008 ![] bcast_S_S4096x11008 main_cst_4
  fn_part1 (F := F) main_v13 main_v15 main_v16
-- ==== Kernel.lean ====
abbrev S4096x22016 : Shape := ⟨2, ![4096, 22016]⟩
abbrev S3x22016 : Shape := ⟨2, ![3, 22016]⟩
abbrev S1x22016 : Shape := ⟨2, ![1, 22016]⟩
abbrev S4096x11008 : Shape := ⟨2, ![4096, 11008]⟩
abbrev S2048x256 : Shape := ⟨2, ![2048, 256]⟩
abbrev S3x256 : Shape := ⟨2, ![3, 256]⟩
abbrev S1x256 : Shape := ⟨2, ![1, 256]⟩
abbrev S2048x1 : Shape := ⟨2, ![2048, 1]⟩
abbrev S256 : Shape := ⟨1, ![256]⟩

abbrev nBuf : Space → Nat
  | .hbm => 10
  | .vmem => 34
  | .smem => 0
  | _ => 0

abbrev bufTy : (tb : Table) → Fin (tcTables nBuf tb) → BufTy
  | .hbm, ⟨0, _⟩ => ⟨S4096x22016, .f32⟩
  | .hbm, ⟨1, _⟩ => ⟨S3x22016, .f32⟩
  | .hbm, ⟨2, _⟩ => ⟨S1x22016, .f32⟩
  | .hbm, ⟨3, _⟩ => ⟨S4096x11008, .bf16⟩
  | .hbm, ⟨4, _⟩ => ⟨S4096x11008, .bf16⟩
  | .hbm, ⟨5, _⟩ => ⟨S4096x11008, .bf16⟩
  | .hbm, ⟨6, _⟩ => ⟨S4096x11008, .bf16⟩
  | .hbm, ⟨7, _⟩ => ⟨S4096x22016, .bf16⟩
  | .hbm, ⟨8, _⟩ => ⟨S3x22016, .f32⟩
  | .hbm, ⟨9, _⟩ => ⟨S1x22016, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .f32⟩
  | .local _ .vmem, ⟨19, _⟩ => ⟨S2048x256, .f32⟩
  | .local _ .vmem, ⟨20, _⟩ => ⟨S3x256, .f32⟩
  | .local _ .vmem, ⟨21, _⟩ => ⟨S3x256, .f32⟩
  | .local _ .vmem, ⟨22, _⟩ => ⟨S2048x256, .bf16⟩
  | .local _ .vmem, ⟨23, _⟩ => ⟨S2048x256, .bf16⟩
  | .local _ .vmem, ⟨24, _⟩ => ⟨S2048x256, .bf16⟩
  | .local _ .vmem, ⟨25, _⟩ => ⟨S2048x256, .bf16⟩
  | .local _ .vmem, ⟨26, _⟩ => ⟨S2048x256, .bf16⟩
  | .local _ .vmem, ⟨27, _⟩ => ⟨S2048x256, .bf16⟩
  | .local _ .vmem, ⟨28, _⟩ => ⟨S2048x256, .bf16⟩
  | .local _ .vmem, ⟨29, _⟩ => ⟨S2048x256, .bf16⟩
  | .local _ .vmem, ⟨30, _⟩ => ⟨S3x256, .f32⟩
  | .local _ .vmem, ⟨31, _⟩ => ⟨S3x256, .f32⟩
  | .local _ .vmem, ⟨32, _⟩ => ⟨S1x256, .f32⟩
  | .local _ .vmem, ⟨33, _⟩ => ⟨S1x256, .f32⟩
  | _, _ => ⟨S4096x22016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33

abbrev nD : Nat := 1
abbrev τ : Topo := Topo.v7x

variable {F : FTy → Type} [FloatOps F]

abbrev grid0 : Pipeline.Grid := ⟨2, ![2, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![86, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c43_i32 : BitVec 32 := 43#32
  let c0_i32 : BitVec 32 := 0#32
  let v0 : BitVec 1 := Scalar.cmpi .eq c43_i32 c0_i32
  let c1_i32 : BitVec 32 := 1#32
  let v1 : BitVec 32 := Scalar.select v0 c1_i32 c43_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc1_transform_3 (i : grid1.Coords) : Fin 2 → Nat :=
  let arg0 : BitVec 32 := BitVec.ofNat 32 (i 0).val
  let arg1 : BitVec 32 := BitVec.ofNat 32 (i 1).val
  let c43_i32 : BitVec 32 := 43#32
  let c0_i32 : BitVec 32 := 0#32
  let v0 : BitVec 1 := Scalar.cmpi .eq c43_i32 c0_i32
  let c1_i32 : BitVec 32 := 1#32
  let v1 : BitVec 32 := Scalar.select v0 c1_i32 c43_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc1_transform_4 (i : grid1.Coords) : Fin 2 → Nat :=
  let arg0 : BitVec 32 := BitVec.ofNat 32 (i 0).val
  let arg1 : BitVec 32 := BitVec.ofNat 32 (i 1).val
  let c43_i32 : BitVec 32 := 43#32
  let c0_i32 : BitVec 32 := 0#32
  let v0 : BitVec 1 := Scalar.cmpi .eq c43_i32 c0_i32
  let c1_i32 : BitVec 32 := 1#32
  let v1 : BitVec 32 := Scalar.select v0 c1_i32 c43_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  ![arg1.toNat, v9.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S3x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S3x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S4096x22016 : Shape := ⟨2, ![4096, 22016]⟩
abbrev S3x22016 : Shape := ⟨2, ![3, 22016]⟩
abbrev S1x22016 : Shape := ⟨2, ![1, 22016]⟩
abbrev S4096x11008 : Shape := ⟨2, ![4096, 11008]⟩
abbrev S2x2048x22016 : Shape := ⟨3, ![2, 2048, 22016]⟩
abbrev S22016 : Shape := ⟨1, ![22016]⟩
abbrev S_ : Shape := ⟨0, ![]⟩
abbrev S2x2x22016 : Shape := ⟨3, ![2, 2, 22016]⟩
abbrev S2x2050x22016 : Shape := ⟨3, ![2, 2050, 22016]⟩
abbrev S1x1x22016 : Shape := ⟨3, ![1, 1, 22016]⟩
abbrev S2x2048x11008 : Shape := ⟨3, ![2, 2048, 11008]⟩

abbrev nBuf : Space → Nat
  | .hbm => 114
  | .vmem => 0
  | .smem => 0
  | _ => 0

abbrev bufTy : (tb : Table) → Fin (tcTables nBuf tb) → BufTy
  | .hbm, ⟨0, _⟩ => ⟨S4096x22016, .f32⟩
  | .hbm, ⟨1, _⟩ => ⟨S3x22016, .f32⟩
  | .hbm, ⟨2, _⟩ => ⟨S1x22016, .f32⟩
  | .hbm, ⟨3, _⟩ => ⟨S4096x11008, .bf16⟩
  | .hbm, ⟨4, _⟩ => ⟨S2x2048x22016, .f32⟩
  | .hbm, ⟨5, _⟩ => ⟨S22016, .f32⟩
  | .hbm, ⟨6, _⟩ => ⟨S_, .f32⟩
  | .hbm, ⟨7, _⟩ => ⟨S2x2x22016, .f32⟩
  | .hbm, ⟨8, _⟩ => ⟨S2x2050x22016, .f32⟩
  | .hbm, ⟨9, _⟩ => ⟨S_, .f32⟩
  | .hbm, ⟨10, _⟩ => ⟨S2x2x22016, .f32⟩
  | .hbm, ⟨11, _⟩ => ⟨S2x2048x22016, .f32⟩
  | .hbm, ⟨12, _⟩ => ⟨S1x22016, .f32⟩
  | .hbm, ⟨13, _⟩ => ⟨S22016, .f32⟩
  | .hbm, ⟨14, _⟩ => ⟨S1x1x22016, .f32⟩
  | .hbm, ⟨15, _⟩ => ⟨S2x2048x22016, .f32⟩
  | .hbm, ⟨16, _⟩ => ⟨S2x2048x22016, .f32⟩
  | .hbm, ⟨17, _⟩ => ⟨S1x1x22016, .f32⟩
  | .hbm, ⟨18, _⟩ => ⟨S2x2048x22016, .f32⟩
  | .hbm, ⟨19, _⟩ => ⟨S2x2048x22016, .f32⟩
  | .hbm, ⟨20, _⟩ => ⟨S2x2048x22016, .f32⟩
  | .hbm, ⟨21, _⟩ => ⟨S1x22016, .f32⟩
  | .hbm, ⟨22, _⟩ => ⟨S22016, .f32⟩
  | .hbm, ⟨23, _⟩ => ⟨S1x1x22016, .f32⟩
  | .hbm, ⟨24, _⟩ => ⟨S2x2048x22016, .f32⟩
  | .hbm, ⟨25, _⟩ => ⟨S2x2048x22016, .f32⟩
  | .hbm, ⟨26, _⟩ => ⟨S2x2048x22016, .f32⟩
  | .hbm, ⟨27, _⟩ => ⟨S2x2048x22016, .f32⟩
  | .hbm, ⟨28, _⟩ => ⟨S1x22016, .f32⟩
  | .hbm, ⟨29, _⟩ => ⟨S22016, .f32⟩
  | .hbm, ⟨30, _⟩ => ⟨S1x1x22016, .f32⟩
  | .hbm, ⟨31, _⟩ => ⟨S2x2048x22016, .f32⟩
  | .hbm, ⟨32, _⟩ => ⟨S2x2048x22016, .f32⟩
  | .hbm, ⟨33, _⟩ => ⟨S2x2048x22016, .f32⟩
  | .hbm, ⟨34, _⟩ => ⟨S2x2048x11008, .f32⟩
  | .hbm, ⟨35, _⟩ => ⟨S2x2048x11008, .f32⟩
  | .hbm, ⟨36, _⟩ => ⟨S2x2048x11008, .f32⟩
  | .hbm, ⟨37, _⟩ => ⟨S2x2048x11008, .f32⟩
  | .hbm, ⟨38, _⟩ => ⟨S_, .f32⟩
  | .hbm, ⟨39, _⟩ => ⟨S2x2048x11008, .f32⟩
  | .hbm, ⟨40, _⟩ => ⟨S2x2048x11008, .f32⟩
  | .hbm, ⟨41, _⟩ => ⟨S_, .f32⟩
  | .hbm, ⟨42, _⟩ => ⟨S2x2048x11008, .f32⟩
  | .hbm, ⟨43, _⟩ => ⟨S2x2048x11008, .f32⟩
  | .hbm, ⟨44, _⟩ => ⟨S_, .f32⟩
  | .hbm, ⟨45, _⟩ => ⟨S2x2048x11008, .f32⟩
  | .hbm, ⟨46, _⟩ => ⟨S2x2048x11008, .f32⟩
  | .hbm, ⟨47, _⟩ => ⟨S2x2048x11008, .f32⟩
  | .hbm, ⟨48, _⟩ => ⟨S2x2048x11008, .f32⟩
  | .hbm, ⟨49, _⟩ => ⟨S2x2048x11008, .f32⟩
  | .hbm, ⟨50, _⟩ => ⟨S4096x11008, .f32⟩
  | .hbm, ⟨51, _⟩ => ⟨S2x2048x11008, .f32⟩
  | .hbm, ⟨52, _⟩ => ⟨S2x2048x11008, .f32⟩
  | .hbm, ⟨53, _⟩ => ⟨S2x2048x11008, .f32⟩
  | .hbm, ⟨54, _⟩ => ⟨S2x2048x11008, .f32⟩
  | .hbm, ⟨55, _⟩ => ⟨S2x2048x11008, .f32⟩
  | .hbm, ⟨56, _⟩ => ⟨S2x2048x11008, .f32⟩
  | .hbm, ⟨57, _⟩ => ⟨S2x2048x11008, .f32⟩
  | .hbm, ⟨58, _⟩ => ⟨S2x2048x22016, .f32⟩
  | .hbm, ⟨59, _⟩ => ⟨S2x2048x22016, .f32⟩
  | .hbm, ⟨60, _⟩ => ⟨S_, .f32⟩
  | .hbm, ⟨61, _⟩ => ⟨S22016, .f32⟩
  | .hbm, ⟨62, _⟩ => ⟨S1x1x22016, .f32⟩
  | .hbm, ⟨63, _⟩ => ⟨S2x2048x22016, .f32⟩
  | .hbm, ⟨64, _⟩ => ⟨S2x2048x22016, .f32⟩
  | .hbm, ⟨65, _⟩ => ⟨S_, .f32⟩
  | .hbm, ⟨66, _⟩ => ⟨S22016, .f32⟩
  | .hbm, ⟨67, _⟩ => ⟨S1x22016, .f32⟩
  | .hbm, ⟨68, _⟩ => ⟨S_, .f32⟩
  | .hbm, ⟨69, _⟩ => ⟨S3x22016, .f32⟩
  | .hbm, ⟨70, _⟩ => ⟨S_, .f32⟩
  | .hbm, ⟨71, _⟩ => ⟨S2x2050x22016, .f32⟩
  | .hbm, ⟨72, _⟩ => ⟨S2x2048x22016, .f32⟩
  | .hbm, ⟨73, _⟩ => ⟨S_, .f32⟩
  | .hbm, ⟨74, _⟩ => ⟨S22016, .f32⟩
  | .hbm, ⟨75, _⟩ => ⟨S1x1x22016, .f32⟩
  | .hbm, ⟨76, _⟩ => ⟨S2x2048x22016, .f32⟩
  | .hbm, ⟨77, _⟩ => ⟨S2x2048x22016, .f32⟩
  | .hbm, ⟨78, _⟩ => ⟨S_, .f32⟩
  | .hbm, ⟨79, _⟩ => ⟨S22016, .f32⟩
  | .hbm, ⟨80, _⟩ => ⟨S1x22016, .f32⟩
  | .hbm, ⟨81, _⟩ => ⟨S_, .f32⟩
  | .hbm, ⟨82, _⟩ => ⟨S3x22016, .f32⟩
  | .hbm, ⟨83, _⟩ => ⟨S3x22016, .f32⟩
  | .hbm, ⟨84, _⟩ => ⟨S_, .f32⟩
  | .hbm, ⟨85, _⟩ => ⟨S2x2050x22016, .f32⟩
  | .hbm, ⟨86, _⟩ => ⟨S2x2050x22016, .f32⟩
  | .hbm, ⟨87, _⟩ => ⟨S_, .f32⟩
  | .hbm, ⟨88, _⟩ => ⟨S22016, .f32⟩
  | .hbm, ⟨89, _⟩ => ⟨S1x1x22016, .f32⟩
  | .hbm, ⟨90, _⟩ => ⟨S_, .f32⟩
  | .hbm, ⟨91, _⟩ => ⟨S22016, .f32⟩
  | .hbm, ⟨92, _⟩ => ⟨S2x2048x22016, .f32⟩
  | .hbm, ⟨93, _⟩ => ⟨S_, .f32⟩
  | .hbm, ⟨94, _⟩ => ⟨S22016, .f32⟩
  | .hbm, ⟨95, _⟩ => ⟨S1x1x22016, .f32⟩
  | .hbm, ⟨96, _⟩ => ⟨S2x2048x22016, .f32⟩
  | .hbm, ⟨97, _⟩ => ⟨S2x2048x22016, .f32⟩
  | .hbm, ⟨98, _⟩ => ⟨S_, .f32⟩
  | .hbm, ⟨99, _⟩ => ⟨S22016, .f32⟩
  | .hbm, ⟨100, _⟩ => ⟨S1x22016, .f32⟩
  | .hbm, ⟨101, _⟩ => ⟨S_, .f32⟩
  | .hbm, ⟨102, _⟩ => ⟨S3x22016, .f32⟩
  | .hbm, ⟨103, _⟩ => ⟨S3x22016, .f32⟩
  | .hbm, ⟨104, _⟩ => ⟨S_, .f32⟩
  | .hbm, ⟨105, _⟩ => ⟨S2x2050x22016, .f32⟩
  | .hbm, ⟨106, _⟩ => ⟨S2x2050x22016, .f32⟩
  | .hbm, ⟨107, _⟩ => ⟨S2x2x22016, .f32⟩
  | .hbm, ⟨108, _⟩ => ⟨S2x2048x22016, .f32⟩
  | .hbm, ⟨109, _⟩ => ⟨S4096x11008, .f32⟩
  | .hbm, ⟨110, _⟩ => ⟨S4096x11008, .bf16⟩
  | .hbm, ⟨111, _⟩ => ⟨S4096x22016, .f32⟩
  | .hbm, ⟨112, _⟩ => ⟨S4096x22016, .bf16⟩
  | .hbm, ⟨113, _⟩ => ⟨S1x22016, .f32⟩
  | _, _ => ⟨S4096x22016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_v30_2 : Ref sig .tc := ⟨.hbm, 43, rfl⟩
abbrev main_call0_cst_1 : Ref sig .tc := ⟨.hbm, 44, rfl⟩
abbrev main_call0_v6 : Ref sig .tc := ⟨.hbm, 45, rfl⟩
abbrev main_call0_v7 : Ref sig .tc := ⟨.hbm, 46, rfl⟩
abbrev main_v30_1 : Ref sig .tc := ⟨.hbm, 47, rfl⟩
abbrev main_v30_0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_1 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_2 : Ref sig .tc := ⟨.hbm, 65, rfl⟩
abbrev main_v43 : Ref sig .tc := ⟨.hbm, 66, rfl⟩
abbrev main_v44 : Ref sig .tc := ⟨.hbm, 67, rfl⟩
abbrev main_cst_3 : Ref sig .tc := ⟨.hbm, 68, rfl⟩
abbrev main_v45 : Ref sig .tc := ⟨.hbm, 69, rfl⟩
abbrev main_cst_4 : Ref sig .tc := ⟨.hbm, 70, rfl⟩
abbrev main_v46 : Ref sig .tc := ⟨.hbm, 71, rfl⟩
abbrev main_v47 : Ref sig .tc := ⟨.hbm, 72, rfl⟩
abbrev main_cst_5 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_6 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_12 : Ref sig .tc := ⟨.hbm, 98, rfl⟩
abbrev main_v66 : Ref sig .tc := ⟨.hbm, 99, rfl⟩
abbrev main_v67 : Ref sig .tc := ⟨.hbm, 100, rfl⟩
abbrev main_cst_13 : Ref sig .tc := ⟨.hbm, 101, rfl⟩
abbrev main_v68 : Ref sig .tc := ⟨.hbm, 102, rfl⟩
abbrev main_v69 : Ref sig .tc := ⟨.hbm, 103, rfl⟩
abbrev main_cst_14 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩

abbrev nD : Nat := 1
abbrev τ : Topo := Topo.v7x

variable {F : FTy → Type} [FloatOps F]
-- ==== KernelDHn2.lean ====
abbrev S4096x22016 : Shape := ⟨2, ![4096, 22016]⟩
abbrev S8x128 : Shape := ⟨2, ![8, 128]⟩
abbrev S4096x4096 : Shape := ⟨2, ![4096, 4096]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x22016, .bf16⟩
  | .hbm, ⟨1, _⟩ => ⟨S4096x22016, .bf16⟩
  | .hbm, ⟨2, _⟩ => ⟨S8x128, .f32⟩
  | .hbm, ⟨3, _⟩ => ⟨S4096x4096, .f32⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x22016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 43], ![false, false, false]⟩

def k0_cond2 (i : grid0.Coords) : BitVec 1 :=
  let arg2 : BitVec 32 := BitVec.ofNat 32 (i 2).val
  let c42_i32 : BitVec 32 := 42#32
  let v11 : BitVec 1 := Scalar.cmpi .eq arg2 c42_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDHn2Ideal.lean ====
abbrev S4096x22016 : Shape := ⟨2, ![4096, 22016]⟩
abbrev S8x128 : Shape := ⟨2, ![8, 128]⟩
abbrev S_ : Shape := ⟨0, ![]⟩
abbrev S2x2048x4096 : Shape := ⟨3, ![2, 2048, 4096]⟩
abbrev S2x2048x22016 : Shape := ⟨3, ![2, 2048, 22016]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x22016, .bf16⟩
  | .hbm, ⟨1, _⟩ => ⟨S4096x22016, .bf16⟩
  | .hbm, ⟨2, _⟩ => ⟨S8x128, .f32⟩
  | .hbm, ⟨3, _⟩ => ⟨S_, .f32⟩
  | .hbm, ⟨4, _⟩ => ⟨S2x2048x4096, .f32⟩
  | .hbm, ⟨5, _⟩ => ⟨S4096x22016, .f32⟩
  | .hbm, ⟨6, _⟩ => ⟨S2x2048x22016, .f32⟩
  | .hbm, ⟨7, _⟩ => ⟨S4096x22016, .f32⟩
  | .hbm, ⟨8, _⟩ => ⟨S2x2048x22016, .f32⟩
  | .hbm, ⟨9, _⟩ => ⟨S2x2048x4096, .f32⟩
  | .hbm, ⟨10, _⟩ => ⟨S4096x4096, .f32⟩
  | _, _ => ⟨S4096x22016, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelDAct.lean ====
abbrev S4096x4096 : Shape := ⟨2, ![4096, 4096]⟩
abbrev S11008x4096 : Shape := ⟨2, ![11008, 4096]⟩
abbrev S8x128 : Shape := ⟨2, ![8, 128]⟩
abbrev S4096x11008 : Shape := ⟨2, ![4096, 11008]⟩
abbrev S512x512 : Shape := ⟨2, ![512, 512]⟩
abbrev S5504x512 : Shape := ⟨2, ![5504, 512]⟩
abbrev S512x5504 : Shape := ⟨2, ![512, 5504]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S11008x4096, .bf16⟩
  | .hbm, ⟨2, _⟩ => ⟨S8x128, .f32⟩
  | .hbm, ⟨3, _⟩ => ⟨S4096x11008, .bf16⟩
  | .local _ .vmem, ⟨0, _⟩ => ⟨S512x512, .bf16⟩
  | .local _ .vmem, ⟨1, _⟩ => ⟨S512x512, .bf16⟩
  | .local _ .vmem, ⟨2, _⟩ => ⟨S5504x512, .bf16⟩
  | .local _ .vmem, ⟨3, _⟩ => ⟨S5504x512, .bf16⟩
  | .local _ .vmem, ⟨4, _⟩ => ⟨S512x5504, .bf16⟩
  | .local _ .vmem, ⟨5, _⟩ => ⟨S512x5504, .bf16⟩
  | .local _ .vmem, ⟨6, _⟩ => ⟨S512x5504, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x5504 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDActIdeal.lean ====
abbrev S4096x4096 : Shape := ⟨2, ![4096, 4096]⟩
abbrev S11008x4096 : Shape := ⟨2, ![11008, 4096]⟩
abbrev S8x128 : Shape := ⟨2, ![8, 128]⟩
abbrev S_ : Shape := ⟨0, ![]⟩
abbrev S2x2048x11008 : Shape := ⟨3, ![2, 2048, 11008]⟩
abbrev S2x2048x4096 : Shape := ⟨3, ![2, 2048, 4096]⟩
abbrev S4096x11008 : Shape := ⟨2, ![4096, 11008]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S11008x4096, .bf16⟩
  | .hbm, ⟨2, _⟩ => ⟨S8x128, .f32⟩
  | .hbm, ⟨3, _⟩ => ⟨S_, .f32⟩
  | .hbm, ⟨4, _⟩ => ⟨S2x2048x11008, .f32⟩
  | .hbm, ⟨5, _⟩ => ⟨S11008x4096, .f32⟩
  | .hbm, ⟨6, _⟩ => ⟨S2x2048x4096, .f32⟩
  | .hbm, ⟨7, _⟩ => ⟨S4096x4096, .f32⟩
  | .hbm, ⟨8, _⟩ => ⟨S2x2048x4096, .f32⟩
  | .hbm, ⟨9, _⟩ => ⟨S2x2048x11008, .f32⟩
  | .hbm, ⟨10, _⟩ => ⟨S4096x11008, .f32⟩
  | .hbm, ⟨11, _⟩ => ⟨S4096x11008, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelDHn1.lean ====
abbrev S4096x12288 : Shape := ⟨2, ![4096, 12288]⟩
abbrev S8x128 : Shape := ⟨2, ![8, 128]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x12288, .bf16⟩
  | .hbm, ⟨1, _⟩ => ⟨S4096x12288, .bf16⟩
  | .hbm, ⟨2, _⟩ => ⟨S8x128, .f32⟩
  | .hbm, ⟨3, _⟩ => ⟨S4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 12], ![false, false, false]⟩

def k0_cond2 (i : grid0.Coords) : BitVec 1 :=
  let arg2 : BitVec 32 := BitVec.ofNat 32 (i 2).val
  let c11_i32 : BitVec 32 := 11#32
  let v11 : BitVec 1 := Scalar.cmpi .eq arg2 c11_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDHn1Ideal.lean ====
abbrev S4096x12288 : Shape := ⟨2, ![4096, 12288]⟩
abbrev S8x128 : Shape := ⟨2, ![8, 128]⟩
abbrev S_ : Shape := ⟨0, ![]⟩
abbrev S2x2048x4096 : Shape := ⟨3, ![2, 2048, 4096]⟩
abbrev S2x2048x12288 : Shape := ⟨3, ![2, 2048, 12288]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x12288, .bf16⟩
  | .hbm, ⟨1, _⟩ => ⟨S4096x12288, .bf16⟩
  | .hbm, ⟨2, _⟩ => ⟨S8x128, .f32⟩
  | .hbm, ⟨3, _⟩ => ⟨S_, .f32⟩
  | .hbm, ⟨4, _⟩ => ⟨S2x2048x4096, .f32⟩
  | .hbm, ⟨5, _⟩ => ⟨S4096x12288, .f32⟩
  | .hbm, ⟨6, _⟩ => ⟨S2x2048x12288, .f32⟩
  | .hbm, ⟨7, _⟩ => ⟨S4096x12288, .f32⟩
  | .hbm, ⟨8, _⟩ => ⟨S2x2048x12288, .f32⟩
  | .hbm, ⟨9, _⟩ => ⟨S2x2048x4096, .f32⟩
  | .hbm, ⟨10, _⟩ => ⟨S4096x4096, .f32⟩
  | _, _ => ⟨S4096x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelDMix.lean ====
abbrev S4096x4096 : Shape := ⟨2, ![4096, 4096]⟩
abbrev S8x128 : Shape := ⟨2, ![8, 128]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x128, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDMixIdeal.lean ====
abbrev S4096x4096 : Shape := ⟨2, ![4096, 4096]⟩
abbrev S8x128 : Shape := ⟨2, ![8, 128]⟩
abbrev S_ : Shape := ⟨0, ![]⟩
abbrev S2x2048x4096 : Shape := ⟨3, ![2, 2048, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S8x128, .f32⟩
  | .hbm, ⟨3, _⟩ => ⟨S_, .f32⟩
  | .hbm, ⟨4, _⟩ => ⟨S2x2048x4096, .f32⟩
  | .hbm, ⟨5, _⟩ => ⟨S4096x4096, .f32⟩
  | .hbm, ⟨6, _⟩ => ⟨S2x2048x4096, .f32⟩
  | .hbm, ⟨7, _⟩ => ⟨S4096x4096, .f32⟩
  | .hbm, ⟨8, _⟩ => ⟨S2x2048x4096, .f32⟩
  | .hbm, ⟨9, _⟩ => ⟨S2x2048x4096, .f32⟩
  | .hbm, ⟨10, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== KernelGUpS.lean ====
abbrev S4096x4096 : Shape := ⟨2, ![4096, 4096]⟩
abbrev S4096x22016 : Shape := ⟨2, ![4096, 22016]⟩
abbrev S_ : Shape := ⟨0, ![]⟩
abbrev S1 : Shape := ⟨1, ![1]⟩
abbrev S2048x22016 : Shape := ⟨2, ![2048, 22016]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S4096x22016, .bf16⟩
  | .hbm, ⟨2, _⟩ => ⟨S_, .i32⟩
  | .hbm, ⟨3, _⟩ => ⟨S2048x22016, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 43], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGUpSIdeal.lean ====
abbrev S4096x4096 : Shape := ⟨2, ![4096, 4096]⟩
abbrev S4096x22016 : Shape := ⟨2, ![4096, 22016]⟩
abbrev S2x2048x4096 : Shape := ⟨3, ![2, 2048, 4096]⟩
abbrev S_ : Shape := ⟨0, ![]⟩
abbrev S2x2048x22016 : Shape := ⟨3, ![2, 2048, 22016]⟩
abbrev S22016x4096 : Shape := ⟨2, ![22016, 4096]⟩
abbrev S2048x22016 : Shape := ⟨2, ![2048, 22016]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x22016, .bf16⟩
  | .hbm, ⟨2, _⟩ => ⟨S4096x4096, .f32⟩
  | .hbm, ⟨3, _⟩ => ⟨S2x2048x4096, .f32⟩
  | .hbm, ⟨4, _⟩ => ⟨S_, .f32⟩
  | .hbm, ⟨5, _⟩ => ⟨S4096x22016, .f32⟩
  | .hbm, ⟨6, _⟩ => ⟨S2x2048x22016, .f32⟩
  | .hbm, ⟨7, _⟩ => ⟨S4096x22016, .f32⟩
  | .hbm, ⟨8, _⟩ => ⟨S2x2048x22016, .f32⟩
  | .hbm, ⟨9, _⟩ => ⟨S22016x4096, .f32⟩
  | .hbm, ⟨10, _⟩ => ⟨S4096x22016, .f32⟩
  | .hbm, ⟨11, _⟩ => ⟨S2048x22016, .f32⟩
  | .hbm, ⟨12, _⟩ => ⟨S2048x22016, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelGUpO.lean ====
abbrev S4096x4096 : Shape := ⟨2, ![4096, 4096]⟩
abbrev S4096x22016 : Shape := ⟨2, ![4096, 22016]⟩
abbrev S2048x22016 : Shape := ⟨2, ![2048, 22016]⟩
abbrev S_ : Shape := ⟨0, ![]⟩
abbrev S1 : Shape := ⟨1, ![1]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 5
  | .vmem => 8
  | .smem => 1
  | _ => 0

abbrev bufTy : (tb : Table) → Fin (tcTables nBuf tb) → BufTy
  | .hbm, ⟨0, _⟩ => ⟨S4096x4096, .bf16⟩
  | .hbm, ⟨1, _⟩ => ⟨S4096x22016, .bf16⟩
  | .hbm, ⟨2, _⟩ => ⟨S2048x22016, .bf16⟩
  | .hbm, ⟨3, _⟩ => ⟨S_, .i32⟩
  | .hbm, ⟨4, _⟩ => ⟨S2048x22016, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 43], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGUpOIdeal.lean ====
abbrev S4096x4096 : Shape := ⟨2, ![4096, 4096]⟩
abbrev S4096x22016 : Shape := ⟨2, ![4096, 22016]⟩
abbrev S2048x22016 : Shape := ⟨2, ![2048, 22016]⟩
abbrev S2x2048x4096 : Shape := ⟨3, ![2, 2048, 4096]⟩
abbrev S_ : Shape := ⟨0, ![]⟩
abbrev S2x2048x22016 : Shape := ⟨3, ![2, 2048, 22016]⟩
abbrev S22016x4096 : Shape := ⟨2, ![22016, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x22016, .bf16⟩
  | .hbm, ⟨2, _⟩ => ⟨S2048x22016, .bf16⟩
  | .hbm, ⟨3, _⟩ => ⟨S4096x4096, .f32⟩
  | .hbm, ⟨4, _⟩ => ⟨S2x2048x4096, .f32⟩
  | .hbm, ⟨5, _⟩ => ⟨S_, .f32⟩
  | .hbm, ⟨6, _⟩ => ⟨S4096x22016, .f32⟩
  | .hbm, ⟨7, _⟩ => ⟨S2x2048x22016, .f32⟩
  | .hbm, ⟨8, _⟩ => ⟨S4096x22016, .f32⟩
  | .hbm, ⟨9, _⟩ => ⟨S2x2048x22016, .f32⟩
  | .hbm, ⟨10, _⟩ => ⟨S22016x4096, .f32⟩
  | .hbm, ⟨11, _⟩ => ⟨S4096x22016, .f32⟩
  | .hbm, ⟨12, _⟩ => ⟨S2048x22016, .f32⟩
  | .hbm, ⟨13, _⟩ => ⟨S2048x22016, .f32⟩
  | .hbm, ⟨14, _⟩ => ⟨S2048x22016, .f32⟩
  | .hbm, ⟨15, _⟩ => ⟨S2048x22016, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== KernelGDownS.lean ====
abbrev S4096x11008 : Shape := ⟨2, ![4096, 11008]⟩
abbrev S4096x4096 : Shape := ⟨2, ![4096, 4096]⟩
abbrev S_ : Shape := ⟨0, ![]⟩
abbrev S1 : Shape := ⟨1, ![1]⟩
abbrev S11008x2048 : Shape := ⟨2, ![11008, 2048]⟩
abbrev S4096x256 : Shape := ⟨2, ![4096, 256]⟩
abbrev S4096x1024 : Shape := ⟨2, ![4096, 1024]⟩
abbrev S256x1024 : Shape := ⟨2, ![256, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4096x11008, .bf16⟩
  | .hbm, ⟨1, _⟩ => ⟨S4096x4096, .bf16⟩
  | .hbm, ⟨2, _⟩ => ⟨S_, .i32⟩
  | .hbm, ⟨3, _⟩ => ⟨S11008x2048, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .bf16⟩
  | .local _ .vmem, ⟨5, _⟩ => ⟨S256x1024, .bf16⟩
  | .local _ .smem, ⟨0, _⟩ => ⟨S1, .i32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 43], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGDownSIdeal.lean ====
abbrev S4096x11008 : Shape := ⟨2, ![4096, 11008]⟩
abbrev S4096x4096 : Shape := ⟨2, ![4096, 4096]⟩
abbrev S2x2048x11008 : Shape := ⟨3, ![2, 2048, 11008]⟩
abbrev S_ : Shape := ⟨0, ![]⟩
abbrev S11008x4096 : Shape := ⟨2, ![11008, 4096]⟩
abbrev S2x2048x4096 : Shape := ⟨3, ![2, 2048, 4096]⟩
abbrev S11008x2048 : Shape := ⟨2, ![11008, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S4096x4096, .bf16⟩
  | .hbm, ⟨2, _⟩ => ⟨S4096x11008, .f32⟩
  | .hbm, ⟨3, _⟩ => ⟨S2x2048x11008, .f32⟩
  | .hbm, ⟨4, _⟩ => ⟨S_, .f32⟩
  | .hbm, ⟨5, _⟩ => ⟨S11008x4096, .f32⟩
  | .hbm, ⟨6, _⟩ => ⟨S2x2048x4096, .f32⟩
  | .hbm, ⟨7, _⟩ => ⟨S4096x4096, .f32⟩
  | .hbm, ⟨8, _⟩ => ⟨S2x2048x4096, .f32⟩
  | .hbm, ⟨9, _⟩ => ⟨S4096x11008, .f32⟩
  | .hbm, ⟨10, _⟩ => ⟨S11008x4096, .f32⟩
  | .hbm, ⟨11, _⟩ => ⟨S11008x2048, .f32⟩
  | .hbm, ⟨12, _⟩ => ⟨S11008x2048, .bf16⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelGDownO.lean ====
abbrev S4096x11008 : Shape := ⟨2, ![4096, 11008]⟩
abbrev S4096x4096 : Shape := ⟨2, ![4096, 4096]⟩
abbrev S11008x2048 : Shape := ⟨2, ![11008, 2048]⟩
abbrev S_ : Shape := ⟨0, ![]⟩
abbrev S1 : Shape := ⟨1, ![1]⟩
abbrev S4096x256 : Shape := ⟨2, ![4096, 256]⟩
abbrev S4096x1024 : Shape := ⟨2, ![4096, 1024]⟩
abbrev S256x1024 : Shape := ⟨2, ![256, 1024]⟩

abbrev nBuf : Space → Nat
  | .hbm => 5
  | .vmem => 8
  | .smem => 1
  | _ => 0

abbrev bufTy : (tb : Table) → Fin (tcTables nBuf tb) → BufTy
  | .hbm, ⟨0, _⟩ => ⟨S4096x11008, .bf16⟩
  | .hbm, ⟨1, _⟩ => ⟨S4096x4096, .bf16⟩
  | .hbm, ⟨2, _⟩ => ⟨S11008x2048, .bf16⟩
  | .hbm, ⟨3, _⟩ => ⟨S_, .i32⟩
  | .hbm, ⟨4, _⟩ => ⟨S11008x2048, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S4096x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .smem, ⟨0, _⟩ => ⟨S1, .i32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 43], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGDownOIdeal.lean ====
abbrev S4096x11008 : Shape := ⟨2, ![4096, 11008]⟩
abbrev S4096x4096 : Shape := ⟨2, ![4096, 4096]⟩
abbrev S11008x2048 : Shape := ⟨2, ![11008, 2048]⟩
abbrev S2x2048x11008 : Shape := ⟨3, ![2, 2048, 11008]⟩
abbrev S_ : Shape := ⟨0, ![]⟩
abbrev S11008x4096 : Shape := ⟨2, ![11008, 4096]⟩
abbrev S2x2048x4096 : Shape := ⟨3, ![2, 2048, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S4096x4096, .bf16⟩
  | .hbm, ⟨2, _⟩ => ⟨S11008x2048, .bf16⟩
  | .hbm, ⟨3, _⟩ => ⟨S4096x11008, .f32⟩
  | .hbm, ⟨4, _⟩ => ⟨S2x2048x11008, .f32⟩
  | .hbm, ⟨5, _⟩ => ⟨S_, .f32⟩
  | .hbm, ⟨6, _⟩ => ⟨S11008x4096, .f32⟩
  | .hbm, ⟨7, _⟩ => ⟨S2x2048x4096, .f32⟩
  | .hbm, ⟨8, _⟩ => ⟨S4096x4096, .f32⟩
  | .hbm, ⟨9, _⟩ => ⟨S2x2048x4096, .f32⟩
  | .hbm, ⟨10, _⟩ => ⟨S4096x11008, .f32⟩
  | .hbm, ⟨11, _⟩ => ⟨S11008x4096, .f32⟩
  | .hbm, ⟨12, _⟩ => ⟨S11008x2048, .f32⟩
  | .hbm, ⟨13, _⟩ => ⟨S11008x2048, .f32⟩
  | .hbm, ⟨14, _⟩ => ⟨S11008x2048, .f32⟩
  | .hbm, ⟨15, _⟩ => ⟨S11008x2048, .bf16⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== KernelGInS.lean ====
abbrev S4096x4096 : Shape := ⟨2, ![4096, 4096]⟩
abbrev S4096x12288 : Shape := ⟨2, ![4096, 12288]⟩
abbrev S_ : Shape := ⟨0, ![]⟩
abbrev S1 : Shape := ⟨1, ![1]⟩
abbrev S2048x12288 : Shape := ⟨2, ![2048, 12288]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S_, .i32⟩
  | .hbm, ⟨3, _⟩ => ⟨S2048x12288, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 24], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGInSIdeal.lean ====
abbrev S4096x4096 : Shape := ⟨2, ![4096, 4096]⟩
abbrev S4096x12288 : Shape := ⟨2, ![4096, 12288]⟩
abbrev S2x2048x4096 : Shape := ⟨3, ![2, 2048, 4096]⟩
abbrev S_ : Shape := ⟨0, ![]⟩
abbrev S2x2048x12288 : Shape := ⟨3, ![2, 2048, 12288]⟩
abbrev S12288x4096 : Shape := ⟨2, ![12288, 4096]⟩
abbrev S2048x12288 : Shape := ⟨2, ![2048, 12288]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S4096x4096, .f32⟩
  | .hbm, ⟨3, _⟩ => ⟨S2x2048x4096, .f32⟩
  | .hbm, ⟨4, _⟩ => ⟨S_, .f32⟩
  | .hbm, ⟨5, _⟩ => ⟨S4096x12288, .f32⟩
  | .hbm, ⟨6, _⟩ => ⟨S2x2048x12288, .f32⟩
  | .hbm, ⟨7, _⟩ => ⟨S4096x12288, .f32⟩
  | .hbm, ⟨8, _⟩ => ⟨S2x2048x12288, .f32⟩
  | .hbm, ⟨9, _⟩ => ⟨S12288x4096, .f32⟩
  | .hbm, ⟨10, _⟩ => ⟨S4096x12288, .f32⟩
  | .hbm, ⟨11, _⟩ => ⟨S2048x12288, .f32⟩
  | .hbm, ⟨12, _⟩ => ⟨S2048x12288, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelGInO.lean ====
abbrev S4096x4096 : Shape := ⟨2, ![4096, 4096]⟩
abbrev S4096x12288 : Shape := ⟨2, ![4096, 12288]⟩
abbrev S2048x12288 : Shape := ⟨2, ![2048, 12288]⟩
abbrev S_ : Shape := ⟨0, ![]⟩
abbrev S1 : Shape := ⟨1, ![1]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 5
  | .vmem => 8
  | .smem => 1
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S2048x12288, .bf16⟩
  | .hbm, ⟨3, _⟩ => ⟨S_, .i32⟩
  | .hbm, ⟨4, _⟩ => ⟨S2048x12288, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 24], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![c0_i32.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGInOIdeal.lean ====
abbrev S4096x4096 : Shape := ⟨2, ![4096, 4096]⟩
abbrev S4096x12288 : Shape := ⟨2, ![4096, 12288]⟩
abbrev S2048x12288 : Shape := ⟨2, ![2048, 12288]⟩
abbrev S2x2048x4096 : Shape := ⟨3, ![2, 2048, 4096]⟩
abbrev S_ : Shape := ⟨0, ![]⟩
abbrev S2x2048x12288 : Shape := ⟨3, ![2, 2048, 12288]⟩
abbrev S12288x4096 : Shape := ⟨2, ![12288, 4096]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S2048x12288, .bf16⟩
  | .hbm, ⟨3, _⟩ => ⟨S4096x4096, .f32⟩
  | .hbm, ⟨4, _⟩ => ⟨S2x2048x4096, .f32⟩
  | .hbm, ⟨5, _⟩ => ⟨S_, .f32⟩
  | .hbm, ⟨6, _⟩ => ⟨S4096x12288, .f32⟩
  | .hbm, ⟨7, _⟩ => ⟨S2x2048x12288, .f32⟩
  | .hbm, ⟨8, _⟩ => ⟨S4096x12288, .f32⟩
  | .hbm, ⟨9, _⟩ => ⟨S2x2048x12288, .f32⟩
  | .hbm, ⟨10, _⟩ => ⟨S12288x4096, .f32⟩
  | .hbm, ⟨11, _⟩ => ⟨S4096x12288, .f32⟩
  | .hbm, ⟨12, _⟩ => ⟨S2048x12288, .f32⟩
  | .hbm, ⟨13, _⟩ => ⟨S2048x12288, .f32⟩
  | .hbm, ⟨14, _⟩ => ⟨S2048x12288, .f32⟩
  | .hbm, ⟨15, _⟩ => ⟨S2048x12288, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== KernelGOutS.lean ====
abbrev S4096x4096 : Shape := ⟨2, ![4096, 4096]⟩
abbrev S_ : Shape := ⟨0, ![]⟩
abbrev S1 : Shape := ⟨1, ![1]⟩
abbrev S4096x2048 : Shape := ⟨2, ![4096, 2048]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 4
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .i32⟩
  | .hbm, ⟨3, _⟩ => ⟨S4096x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceGOutSIdeal.lean ====
abbrev S4096x4096 : Shape := ⟨2, ![4096, 4096]⟩
abbrev S2x2048x4096 : Shape := ⟨3, ![2, 2048, 4096]⟩
abbrev S_ : Shape := ⟨0, ![]⟩
abbrev S4096x2048 : Shape := ⟨2, ![4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S2x2048x4096, .f32⟩
  | .hbm, ⟨4, _⟩ => ⟨S_, .f32⟩
  | .hbm, ⟨5, _⟩ => ⟨S4096x4096, .f32⟩
  | .hbm, ⟨6, _⟩ => ⟨S2x2048x4096, .f32⟩
  | .hbm, ⟨7, _⟩ => ⟨S4096x4096, .f32⟩
  | .hbm, ⟨8, _⟩ => ⟨S2x2048x4096, .f32⟩
  | .hbm, ⟨9, _⟩ => ⟨S4096x4096, .f32⟩
  | .hbm, ⟨10, _⟩ => ⟨S4096x4096, .f32⟩
  | .hbm, ⟨11, _⟩ => ⟨S4096x2048, .f32⟩
  | .hbm, ⟨12, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelGOutO.lean ====
abbrev S4096x4096 : Shape := ⟨2, ![4096, 4096]⟩
abbrev S4096x2048 : Shape := ⟨2, ![4096, 2048]⟩
abbrev S_ : Shape := ⟨0, ![]⟩
abbrev S1 : Shape := ⟨1, ![1]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 5
  | .vmem => 8
  | .smem => 1
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x2048, .bf16⟩
  | .hbm, ⟨3, _⟩ => ⟨S_, .i32⟩
  | .hbm, ⟨4, _⟩ => ⟨S4096x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceGOutOIdeal.lean ====
abbrev S4096x4096 : Shape := ⟨2, ![4096, 4096]⟩
abbrev S4096x2048 : Shape := ⟨2, ![4096, 2048]⟩
abbrev S2x2048x4096 : Shape := ⟨3, ![2, 2048, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x2048, .bf16⟩
  | .hbm, ⟨3, _⟩ => ⟨S4096x4096, .f32⟩
  | .hbm, ⟨4, _⟩ => ⟨S2x2048x4096, .f32⟩
  | .hbm, ⟨5, _⟩ => ⟨S_, .f32⟩
  | .hbm, ⟨6, _⟩ => ⟨S4096x4096, .f32⟩
  | .hbm, ⟨7, _⟩ => ⟨S2x2048x4096, .f32⟩
  | .hbm, ⟨8, _⟩ => ⟨S4096x4096, .f32⟩
  | .hbm, ⟨9, _⟩ => ⟨S2x2048x4096, .f32⟩
  | .hbm, ⟨10, _⟩ => ⟨S4096x4096, .f32⟩
  | .hbm, ⟨11, _⟩ => ⟨S4096x4096, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== KernelProjOwn.lean ====
abbrev S4096x4096 : Shape := ⟨2, ![4096, 4096]⟩
abbrev S4096x3072 : Shape := ⟨2, ![4096, 3072]⟩
abbrev S8x128 : Shape := ⟨2, ![8, 128]⟩
abbrev S_ : Shape := ⟨0, ![]⟩
abbrev S1 : Shape := ⟨1, ![1]⟩
abbrev S4096x12288 : Shape := ⟨2, ![4096, 12288]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 6
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S4096x3072, .bf16⟩
  | .hbm, ⟨2, _⟩ => ⟨S8x128, .f32⟩
  | .hbm, ⟨3, _⟩ => ⟨S_, .i32⟩
  | .hbm, ⟨4, _⟩ => ⟨S4096x12288, .f32⟩
  | .hbm, ⟨5, _⟩ => ⟨S4096x3072, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c6_i32 : BitVec 32 := 6#32
  let v1 : BitVec 32 := Scalar.muli v0 c6_i32
  let v2 : BitVec 32 := Scalar.addi v1 arg1
  let c0_i32 : BitVec 32 := 0#32
  ![arg0.toNat, v2.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjOwnIdeal.lean ====
abbrev S4096x4096 : Shape := ⟨2, ![4096, 4096]⟩
abbrev S4096x3072 : Shape := ⟨2, ![4096, 3072]⟩
abbrev S8x128 : Shape := ⟨2, ![8, 128]⟩
abbrev S2x2048x4096 : Shape := ⟨3, ![2, 2048, 4096]⟩
abbrev S2x2048x3072 : Shape := ⟨3, ![2, 2048, 3072]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x3072, .bf16⟩
  | .hbm, ⟨2, _⟩ => ⟨S8x128, .f32⟩
  | .hbm, ⟨3, _⟩ => ⟨S4096x4096, .f32⟩
  | .hbm, ⟨4, _⟩ => ⟨S2x2048x4096, .f32⟩
  | .hbm, ⟨5, _⟩ => ⟨S4096x3072, .f32⟩
  | .hbm, ⟨6, _⟩ => ⟨S2x2048x3072, .f32⟩
  | .hbm, ⟨7, _⟩ => ⟨S4096x3072, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelProjX.lean ====
abbrev S4096x4096 : Shape := ⟨2, ![4096, 4096]⟩
abbrev S4096x12288 : Shape := ⟨2, ![4096, 12288]⟩
abbrev S_ : Shape := ⟨0, ![]⟩
abbrev S1 : Shape := ⟨1, ![1]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S4096x12288, .f32⟩
  | .hbm, ⟨3, _⟩ => ⟨S_, .i32⟩
  | .hbm, ⟨4, _⟩ => ⟨S4096x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c6_i32 : BitVec 32 := 6#32
  let v1 : BitVec 32 := Scalar.muli v0 c6_i32
  let v2 : BitVec 32 := Scalar.addi v1 arg1
  let c0_i32 : BitVec 32 := 0#32
  let c0_i32_0 : BitVec 32 := 0#32
  ![c0_i32.toNat, v2.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c6_i32 : BitVec 32 := 6#32
  let v1 : BitVec 32 := Scalar.muli v0 c6_i32
  let v2 : BitVec 32 := Scalar.addi v1 arg1
  let c0_i32 : BitVec 32 := 0#32
  ![arg0.toNat, v2.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjXIdeal.lean ====
abbrev S4096x4096 : Shape := ⟨2, ![4096, 4096]⟩
abbrev S4096x12288 : Shape := ⟨2, ![4096, 12288]⟩
abbrev S2x2048x4096 : Shape := ⟨3, ![2, 2048, 4096]⟩
abbrev S4096x3072 : Shape := ⟨2, ![4096, 3072]⟩
abbrev S2x2048x3072 : Shape := ⟨3, ![2, 2048, 3072]⟩
abbrev S4096x6144 : Shape := ⟨2, ![4096, 6144]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S4096x12288, .f32⟩
  | .hbm, ⟨3, _⟩ => ⟨S4096x4096, .f32⟩
  | .hbm, ⟨4, _⟩ => ⟨S2x2048x4096, .f32⟩
  | .hbm, ⟨5, _⟩ => ⟨S4096x3072, .bf16⟩
  | .hbm, ⟨6, _⟩ => ⟨S4096x3072, .f32⟩
  | .hbm, ⟨7, _⟩ => ⟨S2x2048x3072, .f32⟩
  | .hbm, ⟨8, _⟩ => ⟨S4096x3072, .f32⟩
  | .hbm, ⟨9, _⟩ => ⟨S4096x6144, .f32⟩
  | .hbm, ⟨10, _⟩ => ⟨S4096x3072, .f32⟩
  | .hbm, ⟨11, _⟩ => ⟨S4096x12288, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelProjY.lean ====
abbrev S4096x4096 : Shape := ⟨2, ![4096, 4096]⟩
abbrev S4096x12288 : Shape := ⟨2, ![4096, 12288]⟩
abbrev S_ : Shape := ⟨0, ![]⟩
abbrev S1 : Shape := ⟨1, ![1]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S4096x12288, .f32⟩
  | .hbm, ⟨3, _⟩ => ⟨S_, .i32⟩
  | .hbm, ⟨4, _⟩ => ⟨S4096x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c6_i32 : BitVec 32 := 6#32
  let v1 : BitVec 32 := Scalar.muli v0 c6_i32
  let v2 : BitVec 32 := Scalar.addi v1 arg1
  let c0_i32 : BitVec 32 := 0#32
  let c0_i32_0 : BitVec 32 := 0#32
  ![c0_i32.toNat, v2.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c6_i32 : BitVec 32 := 6#32
  let v1 : BitVec 32 := Scalar.muli v0 c6_i32
  let v2 : BitVec 32 := Scalar.addi v1 arg1
  let c0_i32 : BitVec 32 := 0#32
  ![arg0.toNat, v2.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjYIdeal.lean ====
abbrev S4096x4096 : Shape := ⟨2, ![4096, 4096]⟩
abbrev S4096x12288 : Shape := ⟨2, ![4096, 12288]⟩
abbrev S2x2048x4096 : Shape := ⟨3, ![2, 2048, 4096]⟩
abbrev S4096x3072 : Shape := ⟨2, ![4096, 3072]⟩
abbrev S2x2048x3072 : Shape := ⟨3, ![2, 2048, 3072]⟩
abbrev S4096x6144 : Shape := ⟨2, ![4096, 6144]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S4096x12288, .f32⟩
  | .hbm, ⟨3, _⟩ => ⟨S4096x4096, .f32⟩
  | .hbm, ⟨4, _⟩ => ⟨S2x2048x4096, .f32⟩
  | .hbm, ⟨5, _⟩ => ⟨S4096x3072, .bf16⟩
  | .hbm, ⟨6, _⟩ => ⟨S4096x3072, .f32⟩
  | .hbm, ⟨7, _⟩ => ⟨S2x2048x3072, .f32⟩
  | .hbm, ⟨8, _⟩ => ⟨S4096x3072, .f32⟩
  | .hbm, ⟨9, _⟩ => ⟨S4096x3072, .f32⟩
  | .hbm, ⟨10, _⟩ => ⟨S4096x6144, .f32⟩
  | .hbm, ⟨11, _⟩ => ⟨S4096x12288, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelProjXY.lean ====
abbrev S4096x4096 : Shape := ⟨2, ![4096, 4096]⟩
abbrev S4096x12288 : Shape := ⟨2, ![4096, 12288]⟩
abbrev S_ : Shape := ⟨0, ![]⟩
abbrev S1 : Shape := ⟨1, ![1]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 5
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S4096x12288, .f32⟩
  | .hbm, ⟨3, _⟩ => ⟨S_, .i32⟩
  | .hbm, ⟨4, _⟩ => ⟨S4096x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .smem, ⟨0, _⟩ => ⟨S1, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v1 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c6_i32 : BitVec 32 := 6#32
  let v1 : BitVec 32 := Scalar.muli v0 c6_i32
  let v2 : BitVec 32 := Scalar.addi v1 arg1
  let c0_i32 : BitVec 32 := 0#32
  let c0_i32_0 : BitVec 32 := 0#32
  ![c0_i32.toNat, v2.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c6_i32 : BitVec 32 := 6#32
  let v1 : BitVec 32 := Scalar.muli v0 c6_i32
  let v2 : BitVec 32 := Scalar.addi v1 arg1
  let c0_i32 : BitVec 32 := 0#32
  ![arg0.toNat, v2.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceProjXYIdeal.lean ====
abbrev S4096x4096 : Shape := ⟨2, ![4096, 4096]⟩
abbrev S4096x12288 : Shape := ⟨2, ![4096, 12288]⟩
abbrev S2x2048x4096 : Shape := ⟨3, ![2, 2048, 4096]⟩
abbrev S4096x3072 : Shape := ⟨2, ![4096, 3072]⟩
abbrev S2x2048x3072 : Shape := ⟨3, ![2, 2048, 3072]⟩
abbrev S4096x9216 : Shape := ⟨2, ![4096, 9216]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x12288, .bf16⟩
  | .hbm, ⟨2, _⟩ => ⟨S4096x12288, .f32⟩
  | .hbm, ⟨3, _⟩ => ⟨S4096x4096, .f32⟩
  | .hbm, ⟨4, _⟩ => ⟨S2x2048x4096, .f32⟩
  | .hbm, ⟨5, _⟩ => ⟨S4096x3072, .bf16⟩
  | .hbm, ⟨6, _⟩ => ⟨S4096x3072, .f32⟩
  | .hbm, ⟨7, _⟩ => ⟨S2x2048x3072, .f32⟩
  | .hbm, ⟨8, _⟩ => ⟨S4096x3072, .f32⟩
  | .hbm, ⟨9, _⟩ => ⟨S4096x9216, .f32⟩
  | .hbm, ⟨10, _⟩ => ⟨S4096x12288, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelUp.lean ====
abbrev S4096x4096 : Shape := ⟨2, ![4096, 4096]⟩
abbrev S4096x22016 : Shape := ⟨2, ![4096, 22016]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x22016, .bf16⟩
  | .hbm, ⟨2, _⟩ => ⟨S4096x22016, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S4096x4096 : Shape := ⟨2, ![4096, 4096]⟩
abbrev S4096x22016 : Shape := ⟨2, ![4096, 22016]⟩
abbrev S2x2048x4096 : Shape := ⟨3, ![2, 2048, 4096]⟩
abbrev S2x2048x22016 : Shape := ⟨3, ![2, 2048, 22016]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x22016, .bf16⟩
  | .hbm, ⟨2, _⟩ => ⟨S4096x4096, .f32⟩
  | .hbm, ⟨3, _⟩ => ⟨S2x2048x4096, .f32⟩
  | .hbm, ⟨4, _⟩ => ⟨S4096x22016, .f32⟩
  | .hbm, ⟨5, _⟩ => ⟨S2x2048x22016, .f32⟩
  | .hbm, ⟨6, _⟩ => ⟨S4096x22016, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KernelDown.lean ====
abbrev S4096x11008 : Shape := ⟨2, ![4096, 11008]⟩
abbrev S11008x4096 : Shape := ⟨2, ![11008, 4096]⟩
abbrev S4096x4096 : Shape := ⟨2, ![4096, 4096]⟩
abbrev S1024x5504 : Shape := ⟨2, ![1024, 5504]⟩
abbrev S5504x512 : Shape := ⟨2, ![5504, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x11008, .bf16⟩
  | .hbm, ⟨1, _⟩ => ⟨S11008x4096, .bf16⟩
  | .hbm, ⟨2, _⟩ => ⟨S4096x4096, .f32⟩
  | .hbm, ⟨3, _⟩ => ⟨S4096x4096, .f32⟩
  | .local _ .vmem, ⟨0, _⟩ => ⟨S1024x5504, .bf16⟩
  | .local _ .vmem, ⟨1, _⟩ => ⟨S1024x5504, .bf16⟩
  | .local _ .vmem, ⟨2, _⟩ => ⟨S5504x512, .bf16⟩
  | .local _ .vmem, ⟨3, _⟩ => ⟨S5504x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4096x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S4096x11008 : Shape := ⟨2, ![4096, 11008]⟩
abbrev S11008x4096 : Shape := ⟨2, ![11008, 4096]⟩
abbrev S4096x4096 : Shape := ⟨2, ![4096, 4096]⟩
abbrev S2x2048x4096 : Shape := ⟨3, ![2, 2048, 4096]⟩
abbrev S2x2048x11008 : Shape := ⟨3, ![2, 2048, 11008]⟩

abbrev nBuf : Space → Nat
  | .hbm => 10
  | .vmem => 0
  | .smem => 0
  | _ => 0

abbrev bufTy : (tb : Table) → Fin (tcTables nBuf tb) → BufTy
  | .hbm, ⟨0, _⟩ => ⟨S4096x11008, .bf16⟩
  | .hbm, ⟨1, _⟩ => ⟨S11008x4096, .bf16⟩
  | .hbm, ⟨2, _⟩ => ⟨S4096x4096, .f32⟩
  | .hbm, ⟨3, _⟩ => ⟨S2x2048x4096, .f32⟩
  | .hbm, ⟨4, _⟩ => ⟨S4096x11008, .f32⟩
  | .hbm, ⟨5, _⟩ => ⟨S2x2048x11008, .f32⟩
  | .hbm, ⟨6, _⟩ => ⟨S11008x4096, .f32⟩
  | .hbm, ⟨7, _⟩ => ⟨S2x2048x4096, .f32⟩
  | .hbm, ⟨8, _⟩ => ⟨S2x2048x4096, .f32⟩
  | .hbm, ⟨9, _⟩ => ⟨S4096x4096, .f32⟩
  | _, _ => ⟨S4096x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelOut.lean ====
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutIdeal.lean ====
abbrev S4096x4096 : Shape := ⟨2, ![4096, 4096]⟩
abbrev S2x2048x4096 : Shape := ⟨3, ![2, 2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S2x2048x4096, .f32⟩
  | .hbm, ⟨4, _⟩ => ⟨S4096x4096, .f32⟩
  | .hbm, ⟨5, _⟩ => ⟨S2x2048x4096, .f32⟩
  | .hbm, ⟨6, _⟩ => ⟨S4096x4096, .f32⟩
  | .hbm, ⟨7, _⟩ => ⟨S2x2048x4096, .f32⟩
  | .hbm, ⟨8, _⟩ => ⟨S2x2048x4096, .f32⟩
  | .hbm, ⟨9, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelNorm.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormIdeal.lean ====
abbrev S4096x4096 : Shape := ⟨2, ![4096, 4096]⟩
abbrev S1x4096 : Shape := ⟨2, ![1, 4096]⟩
abbrev S2x2048x4096 : Shape := ⟨3, ![2, 2048, 4096]⟩
abbrev S4096 : Shape := ⟨1, ![4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S2x2048x4096, .f32⟩
  | .hbm, ⟨3, _⟩ => ⟨S4096, .f32⟩
  | .hbm, ⟨4, _⟩ => ⟨S2x2048x4096, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x4096, .f32⟩
  | .hbm, ⟨16, _⟩ => ⟨S2x2048x4096, .f32⟩
  | .hbm, ⟨17, _⟩ => ⟨S1x1x4096, .f32⟩
  | .hbm, ⟨18, _⟩ => ⟨S2x2048x4096, .f32⟩
  | .hbm, ⟨19, _⟩ => ⟨S2x2048x4096, .f32⟩
  | .hbm, ⟨20, _⟩ => ⟨S4096x4096, .f32⟩
  | .hbm, ⟨21, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== KernelNormZ.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceNormZIdeal.lean ====
abbrev S4096x2048 : Shape := ⟨2, ![4096, 2048]⟩
abbrev S1x2048 : Shape := ⟨2, ![1, 2048]⟩
abbrev S2x2048x2048 : Shape := ⟨3, ![2, 2048, 2048]⟩
abbrev S2048 : Shape := ⟨1, ![2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2x2048x2048, .f32⟩
  | .hbm, ⟨3, _⟩ => ⟨S2048, .f32⟩
  | .hbm, ⟨4, _⟩ => ⟨S2x2048x2048, .f32⟩
  | .hbm, ⟨5, _⟩ => ⟨S_, .f32⟩
  | .hbm, ⟨6, _⟩ => ⟨S2x2048, .f32⟩
  | .hbm, ⟨7, _⟩ => ⟨S2x2048x1, .f32⟩
  | .hbm, ⟨8, _⟩ => ⟨S_, .f32⟩
  | .hbm, ⟨9, _⟩ => ⟨S2x2048x1, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S2x2048x1, .f32⟩
  | .hbm, ⟨15, _⟩ => ⟨S2x2048x2048, .f32⟩
  | .hbm, ⟨16, _⟩ => ⟨S2x2048x2048, .f32⟩
  | .hbm, ⟨17, _⟩ => ⟨S1x1x2048, .f32⟩
  | .hbm, ⟨18, _⟩ => ⟨S2x2048x2048, .f32⟩
  | .hbm, ⟨19, _⟩ => ⟨S2x2048x2048, .f32⟩
  | .hbm, ⟨20, _⟩ => ⟨S4096x2048, .f32⟩
  | .hbm, ⟨21, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== KernelNormBwd.lean ====
abbrev S4096x4096 : Shape := ⟨2, ![4096, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4096 : Shape := ⟨1, ![4096]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceNormBwdIdeal.lean ====
abbrev S4096x4096 : Shape := ⟨2, ![4096, 4096]⟩
abbrev S1x4096 : Shape := ⟨2, ![1, 4096]⟩
abbrev S2x2048x4096 : Shape := ⟨3, ![2, 2048, 4096]⟩
abbrev S4096 : Shape := ⟨1, ![4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S2x2048x4096, .f32⟩
  | .hbm, ⟨5, _⟩ => ⟨S4096, .f32⟩
  | .hbm, ⟨6, _⟩ => ⟨S2x2048x4096, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x4096, .f32⟩
  | .hbm, ⟨22, _⟩ => ⟨S2x2048x4096, .f32⟩
  | .hbm, ⟨23, _⟩ => ⟨S1x1x4096, .f32⟩
  | .hbm, ⟨24, _⟩ => ⟨S2x2048x4096, .f32⟩
  | .hbm, ⟨25, _⟩ => ⟨S2x2048x4096, .f32⟩
  | .hbm, ⟨26, _⟩ => ⟨S2x2048x4096, .f32⟩
  | .hbm, ⟨27, _⟩ => ⟨S2x2048x4096, .f32⟩
  | .hbm, ⟨28, _⟩ => ⟨S_, .f32⟩
  | .hbm, ⟨29, _⟩ => ⟨S4096, .f32⟩
  | .hbm, ⟨30, _⟩ => ⟨S1x1x4096, .f32⟩
  | .hbm, ⟨31, _⟩ => ⟨S2x2048x4096, .f32⟩
  | .hbm, ⟨32, _⟩ => ⟨S2x2048x4096, .f32⟩
  | .hbm, ⟨33, _⟩ => ⟨S_, .f32⟩
  | .hbm, ⟨34, _⟩ => ⟨S4096, .f32⟩
  | .hbm, ⟨35, _⟩ => ⟨S2x2048x4096, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x4096, .f32⟩
  | .hbm, ⟨40, _⟩ => ⟨S2x2048x4096, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S_, .f32⟩
  | .hbm, ⟨46, _⟩ => ⟨S2x2048, .f32⟩
  | .hbm, ⟨47, _⟩ => ⟨S2x2048x4096, .f32⟩
  | .hbm, ⟨48, _⟩ => ⟨S2x2048x4096, .f32⟩
  | .hbm, ⟨49, _⟩ => ⟨S2x2048x4096, .f32⟩
  | .hbm, ⟨50, _⟩ => ⟨S2x2048x4096, .f32⟩
  | .hbm, ⟨51, _⟩ => ⟨S2x2048x4096, .f32⟩
  | .hbm, ⟨52, _⟩ => ⟨S2x2048x4096, .f32⟩
  | .hbm, ⟨53, _⟩ => ⟨S2x2048x4096, .f32⟩
  | .hbm, ⟨54, _⟩ => ⟨S4096x4096, .f32⟩
  | .hbm, ⟨55, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== KernelNormBwdA.lean ====
abbrev S4096x4096 : Shape := ⟨2, ![4096, 4096]⟩
abbrev S1x4096 : Shape := ⟨2, ![1, 4096]⟩
abbrev S8x128 : Shape := ⟨2, ![8, 128]⟩
abbrev S256x4096 : Shape := ⟨2, ![256, 4096]⟩
abbrev S256 : Shape := ⟨1, ![256]⟩
abbrev S256x1 : Shape := ⟨2, ![256, 1]⟩
abbrev S4096 : Shape := ⟨1, ![4096]⟩

abbrev nBuf : Space → Nat
  | .hbm => 8
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S8x128, .f32⟩
  | .hbm, ⟨5, _⟩ => ⟨S4096x4096, .f32⟩
  | .hbm, ⟨6, _⟩ => ⟨S4096x4096, .bf16⟩
  | .hbm, ⟨7, _⟩ => ⟨S1x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .bf16⟩
  | .local _ .vmem, ⟨10, _⟩ => ⟨S256x4096, .bf16⟩
  | .local _ .vmem, ⟨11, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceNormBwdAIdeal.lean ====
abbrev S4096x4096 : Shape := ⟨2, ![4096, 4096]⟩
abbrev S1x4096 : Shape := ⟨2, ![1, 4096]⟩
abbrev S8x128 : Shape := ⟨2, ![8, 128]⟩
abbrev S2x2048x4096 : Shape := ⟨3, ![2, 2048, 4096]⟩
abbrev S4096 : Shape := ⟨1, ![4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩

abbrev nBuf : Space → Nat
  | .hbm => 58
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S8x128, .f32⟩
  | .hbm, ⟨5, _⟩ => ⟨S2x2048x4096, .f32⟩
  | .hbm, ⟨6, _⟩ => ⟨S4096, .f32⟩
  | .hbm, ⟨7, _⟩ => ⟨S2x2048x4096, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x4096, .f32⟩
  | .hbm, ⟨23, _⟩ => ⟨S2x2048x4096, .f32⟩
  | .hbm, ⟨24, _⟩ => ⟨S1x1x4096, .f32⟩
  | .hbm, ⟨25, _⟩ => ⟨S2x2048x4096, .f32⟩
  | .hbm, ⟨26, _⟩ => ⟨S2x2048x4096, .f32⟩
  | .hbm, ⟨27, _⟩ => ⟨S2x2048x4096, .f32⟩
  | .hbm, ⟨28, _⟩ => ⟨S2x2048x4096, .f32⟩
  | .hbm, ⟨29, _⟩ => ⟨S_, .f32⟩
  | .hbm, ⟨30, _⟩ => ⟨S4096, .f32⟩
  | .hbm, ⟨31, _⟩ => ⟨S1x1x4096, .f32⟩
  | .hbm, ⟨32, _⟩ => ⟨S2x2048x4096, .f32⟩
  | .hbm, ⟨33, _⟩ => ⟨S2x2048x4096, .f32⟩
  | .hbm, ⟨34, _⟩ => ⟨S_, .f32⟩
  | .hbm, ⟨35, _⟩ => ⟨S4096, .f32⟩
  | .hbm, ⟨36, _⟩ => ⟨S2x2048x4096, .f32⟩
  | .hbm, ⟨37, _⟩ => ⟨S_, .f32⟩
  | .hbm, ⟨38, _⟩ => ⟨S2x2048, .f32⟩
  | .hbm, ⟨39, _⟩ => ⟨S2x2048x1, .f32⟩
  | .hbm, ⟨40, _⟩ => ⟨S2x2048x4096, .f32⟩
  | .hbm, ⟨41, _⟩ => ⟨S2x2048x4096, .f32⟩
  | .hbm, ⟨42, _⟩ => ⟨S2x2048x1, .f32⟩
  | .hbm, ⟨43, _⟩ => ⟨S_, .f32⟩
  | .hbm, ⟨44, _⟩ => ⟨S2x2048x1, .f32⟩
  | .hbm, ⟨45, _⟩ => ⟨S2x2048x1, .f32⟩
  | .hbm, ⟨46, _⟩ => ⟨S_, .f32⟩
  | .hbm, ⟨47, _⟩ => ⟨S2x2048, .f32⟩
  | .hbm, ⟨48, _⟩ => ⟨S2x2048x4096, .f32⟩
  | .hbm, ⟨49, _⟩ => ⟨S2x2048x4096, .f32⟩
  | .hbm, ⟨50, _⟩ => ⟨S2x2048x4096, .f32⟩
  | .hbm, ⟨51, _⟩ => ⟨S2x2048x4096, .f32⟩
  | .hbm, ⟨52, _⟩ => ⟨S2x2048x4096, .f32⟩
  | .hbm, ⟨53, _⟩ => ⟨S2x2048x4096, .f32⟩
  | .hbm, ⟨54, _⟩ => ⟨S2x2048x4096, .f32⟩
  | .hbm, ⟨55, _⟩ => ⟨S4096x4096, .f32⟩
  | .hbm, ⟨56, _⟩ => ⟨S4096x4096, .bf16⟩
  | .hbm, ⟨57, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== KernelNormZBwd.lean ====
abbrev S4096x2048 : Shape := ⟨2, ![4096, 2048]⟩
abbrev S1x2048 : Shape := ⟨2, ![1, 2048]⟩
abbrev S4096x4096 : Shape := ⟨2, ![4096, 4096]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x4096, .f32⟩
  | .hbm, ⟨3, _⟩ => ⟨S4096x2048, .f32⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceNormZBwdIdeal.lean ====
abbrev S4096x2048 : Shape := ⟨2, ![4096, 2048]⟩
abbrev S1x2048 : Shape := ⟨2, ![1, 2048]⟩
abbrev S4096x4096 : Shape := ⟨2, ![4096, 4096]⟩
abbrev S2x2048x2048 : Shape := ⟨3, ![2, 2048, 2048]⟩
abbrev S2048 : Shape := ⟨1, ![2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S2x2048x4096 : Shape := ⟨3, ![2, 2048, 4096]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x4096, .f32⟩
  | .hbm, ⟨3, _⟩ => ⟨S2x2048x2048, .f32⟩
  | .hbm, ⟨4, _⟩ => ⟨S2048, .f32⟩
  | .hbm, ⟨5, _⟩ => ⟨S2x2048x2048, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x2048, .f32⟩
  | .hbm, ⟨21, _⟩ => ⟨S2x2048x2048, .f32⟩
  | .hbm, ⟨22, _⟩ => ⟨S1x1x2048, .f32⟩
  | .hbm, ⟨23, _⟩ => ⟨S2x2048x2048, .f32⟩
  | .hbm, ⟨24, _⟩ => ⟨S2x2048x2048, .f32⟩
  | .hbm, ⟨25, _⟩ => ⟨S2x2048x4096, .f32⟩
  | .hbm, ⟨26, _⟩ => ⟨S2x2048x2048, .f32⟩
  | .hbm, ⟨27, _⟩ => ⟨S2x2048x2048, .f32⟩
  | .hbm, ⟨28, _⟩ => ⟨S_, .f32⟩
  | .hbm, ⟨29, _⟩ => ⟨S2048, .f32⟩
  | .hbm, ⟨30, _⟩ => ⟨S1x1x2048, .f32⟩
  | .hbm, ⟨31, _⟩ => ⟨S2x2048x2048, .f32⟩
  | .hbm, ⟨32, _⟩ => ⟨S2x2048x2048, .f32⟩
  | .hbm, ⟨33, _⟩ => ⟨S_, .f32⟩
  | .hbm, ⟨34, _⟩ => ⟨S2048, .f32⟩
  | .hbm, ⟨35, _⟩ => ⟨S2x2048x2048, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x2048, .f32⟩
  | .hbm, ⟨40, _⟩ => ⟨S2x2048x2048, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S_, .f32⟩
  | .hbm, ⟨46, _⟩ => ⟨S2x2048, .f32⟩
  | .hbm, ⟨47, _⟩ => ⟨S2x2048x2048, .f32⟩
  | .hbm, ⟨48, _⟩ => ⟨S2x2048x2048, .f32⟩
  | .hbm, ⟨49, _⟩ => ⟨S2x2048x2048, .f32⟩
  | .hbm, ⟨50, _⟩ => ⟨S2x2048x2048, .f32⟩
  | .hbm, ⟨51, _⟩ => ⟨S2x2048x2048, .f32⟩
  | .hbm, ⟨52, _⟩ => ⟨S4096x2048, .f32⟩
  | .hbm, ⟨53, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== KernelLoss.lean ====
abbrev S4096x4096 : Shape := ⟨2, ![4096, 4096]⟩
abbrev S1x4096 : Shape := ⟨2, ![1, 4096]⟩
abbrev S8x128 : Shape := ⟨2, ![8, 128]⟩
abbrev S256x4096 : Shape := ⟨2, ![256, 4096]⟩
abbrev S256 : Shape := ⟨1, ![256]⟩
abbrev S256x1 : Shape := ⟨2, ![256, 1]⟩
abbrev S4096 : Shape := ⟨1, ![4096]⟩
abbrev S1 : Shape := ⟨1, ![1]⟩
abbrev S1x1 : Shape := ⟨2, ![1, 1]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S4096x4096, .f32⟩
  | .hbm, ⟨4, _⟩ => ⟨S4096x4096, .bf16⟩
  | .hbm, ⟨5, _⟩ => ⟨S1x4096, .f32⟩
  | .hbm, ⟨6, _⟩ => ⟨S8x128, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | .local _ .vmem, ⟨9, _⟩ => ⟨S1x4096, .f32⟩
  | .local _ .vmem, ⟨10, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceLossIdeal.lean ====
abbrev S4096x4096 : Shape := ⟨2, ![4096, 4096]⟩
abbrev S1x4096 : Shape := ⟨2, ![1, 4096]⟩
abbrev S2x2048x4096 : Shape := ⟨3, ![2, 2048, 4096]⟩
abbrev S4096 : Shape := ⟨1, ![4096]⟩
abbrev S_ : Shape := ⟨0, ![]⟩
abbrev S2x2048 : Shape := ⟨2, ![2, 2048]⟩
abbrev S2x2048x1 : Shape := ⟨3, ![2, 2048, 1]⟩
abbrev S1x1x4096 : Shape := ⟨3, ![1, 1, 4096]⟩
abbrev S8x128 : Shape := ⟨2, ![8, 128]⟩

abbrev nBuf : Space → Nat
  | .hbm => 78
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S2x2048x4096, .f32⟩
  | .hbm, ⟨4, _⟩ => ⟨S4096, .f32⟩
  | .hbm, ⟨5, _⟩ => ⟨S2x2048x4096, .f32⟩
  | .hbm, ⟨6, _⟩ => ⟨S2x2048x4096, .f32⟩
  | .hbm, ⟨7, _⟩ => ⟨S_, .f32⟩
  | .hbm, ⟨8, _⟩ => ⟨S2x2048, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S_, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x4096, .f32⟩
  | .hbm, ⟨22, _⟩ => ⟨S2x2048x4096, .f32⟩
  | .hbm, ⟨23, _⟩ => ⟨S1x1x4096, .f32⟩
  | .hbm, ⟨24, _⟩ => ⟨S2x2048x4096, .f32⟩
  | .hbm, ⟨25, _⟩ => ⟨S2x2048x4096, .f32⟩
  | .hbm, ⟨26, _⟩ => ⟨S2x2048x4096, .f32⟩
  | .hbm, ⟨27, _⟩ => ⟨S2x2048x4096, .f32⟩
  | .hbm, ⟨28, _⟩ => ⟨S_, .f32⟩
  | .hbm, ⟨29, _⟩ => ⟨S2x2048x4096, .f32⟩
  | .hbm, ⟨30, _⟩ => ⟨S2x2048x4096, .f32⟩
  | .hbm, ⟨31, _⟩ => ⟨S_, .f32⟩
  | .hbm, ⟨32, _⟩ => ⟨S2x2048, .f32⟩
  | .hbm, ⟨33, _⟩ => ⟨S_, .f32⟩
  | .hbm, ⟨34, _⟩ => ⟨S2x2048, .f32⟩
  | .hbm, ⟨35, _⟩ => ⟨S2x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2x2048, .f32⟩
  | .hbm, ⟨44, _⟩ => ⟨S_, .f32⟩
  | .hbm, ⟨45, _⟩ => ⟨S2x2048, .f32⟩
  | .hbm, ⟨46, _⟩ => ⟨S2x2048, .f32⟩
  | .hbm, ⟨47, _⟩ => ⟨S2x2048x4096, .f32⟩
  | .hbm, ⟨48, _⟩ => ⟨S2x2048x4096, .f32⟩
  | .hbm, ⟨49, _⟩ => ⟨S2x2048x4096, .f32⟩
  | .hbm, ⟨50, _⟩ => ⟨S_, .f32⟩
  | .hbm, ⟨51, _⟩ => ⟨S4096, .f32⟩
  | .hbm, ⟨52, _⟩ => ⟨S1x1x4096, .f32⟩
  | .hbm, ⟨53, _⟩ => ⟨S2x2048x4096, .f32⟩
  | .hbm, ⟨54, _⟩ => ⟨S2x2048x4096, .f32⟩
  | .hbm, ⟨55, _⟩ => ⟨S_, .f32⟩
  | .hbm, ⟨56, _⟩ => ⟨S4096, .f32⟩
  | .hbm, ⟨57, _⟩ => ⟨S2x2048x4096, .f32⟩
  | .hbm, ⟨58, _⟩ => ⟨S_, .f32⟩
  | .hbm, ⟨59, _⟩ => ⟨S2x2048, .f32⟩
  | .hbm, ⟨60, _⟩ => ⟨S2x2048x1, .f32⟩
  | .hbm, ⟨61, _⟩ => ⟨S2x2048x4096, .f32⟩
  | .hbm, ⟨62, _⟩ => ⟨S2x2048x4096, .f32⟩
  | .hbm, ⟨63, _⟩ => ⟨S2x2048x1, .f32⟩
  | .hbm, ⟨64, _⟩ => ⟨S_, .f32⟩
  | .hbm, ⟨65, _⟩ => ⟨S2x2048x1, .f32⟩
  | .hbm, ⟨66, _⟩ => ⟨S2x2048x1, .f32⟩
  | .hbm, ⟨67, _⟩ => ⟨S_, .f32⟩
  | .hbm, ⟨68, _⟩ => ⟨S2x2048, .f32⟩
  | .hbm, ⟨69, _⟩ => ⟨S2x2048x4096, .f32⟩
  | .hbm, ⟨70, _⟩ => ⟨S2x2048x4096, .f32⟩
  | .hbm, ⟨71, _⟩ => ⟨S2x2048x4096, .f32⟩
  | .hbm, ⟨72, _⟩ => ⟨S2x2048x4096, .f32⟩
  | .hbm, ⟨73, _⟩ => ⟨S2x2048x4096, .f32⟩
  | .hbm, ⟨74, _⟩ => ⟨S4096x4096, .f32⟩
  | .hbm, ⟨75, _⟩ => ⟨S4096x4096, .bf16⟩
  | .hbm, ⟨76, _⟩ => ⟨S1x4096, .f32⟩
  | .hbm, ⟨77, _⟩ => ⟨S8x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_cst_8 : Ref sig .tc := ⟨.hbm, 40, rfl⟩
abbrev main_cst_9 : Ref sig .tc := ⟨.hbm, 41, rfl⟩
abbrev main_v28 : Ref sig .tc := ⟨.hbm, 42, rfl⟩
abbrev main_v29 : Ref sig .tc := ⟨.hbm, 43, rfl⟩
abbrev main_cst_10 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_11 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_12 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_14 : Ref sig .tc := ⟨.hbm, 64, rfl⟩
abbrev main_v46 : Ref sig .tc := ⟨.hbm, 65, rfl⟩
abbrev main_v47 : Ref sig .tc := ⟨.hbm, 66, rfl⟩
abbrev main_cst_15 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== KernelAdamIn.lean ====
abbrev S4096x3072 : Shape := ⟨2, ![4096, 3072]⟩
abbrev S4x2x2048x3072 : Shape := ⟨4, ![4, 2, 2048, 3072]⟩
abbrev S64x3072 : Shape := ⟨2, ![64, 3072]⟩
abbrev S4x1x64x3072 : Shape := ⟨4, ![4, 1, 64, 3072]⟩
abbrev S1x1x64x3072 : Shape := ⟨4, ![1, 1, 64, 3072]⟩

abbrev nBuf : Space → Nat
  | .hbm => 8
  | .vmem => 16
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4x2x2048x3072, .bf16⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .local _ .vmem, ⟨0, _⟩ => ⟨S64x3072, .f32⟩
  | .local _ .vmem, ⟨1, _⟩ => ⟨S64x3072, .f32⟩
  | .local _ .vmem, ⟨2, _⟩ => ⟨S64x3072, .f32⟩
  | .local _ .vmem, ⟨3, _⟩ => ⟨S64x3072, .f32⟩
  | .local _ .vmem, ⟨4, _⟩ => ⟨S64x3072, .f32⟩
  | .local _ .vmem, ⟨5, _⟩ => ⟨S64x3072, .f32⟩
  | .local _ .vmem, ⟨6, _⟩ => ⟨S4x1x64x3072, .bf16⟩
  | .local _ .vmem, ⟨7, _⟩ => ⟨S4x1x64x3072, .bf16⟩
  | .local _ .vmem, ⟨8, _⟩ => ⟨S64x3072, .f32⟩
  | .local _ .vmem, ⟨9, _⟩ => ⟨S64x3072, .f32⟩
  | .local _ .vmem, ⟨10, _⟩ => ⟨S64x3072, .f32⟩
  | .local _ .vmem, ⟨11, _⟩ => ⟨S64x3072, .f32⟩
  | .local _ .vmem, ⟨12, _⟩ => ⟨S64x3072, .f32⟩
  | .local _ .vmem, ⟨13, _⟩ => ⟨S64x3072, .f32⟩
  | .local _ .vmem, ⟨14, _⟩ => ⟨S64x3072, .f32⟩
  | .local _ .vmem, ⟨15, _⟩ => ⟨S64x3072, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x64x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamInIdeal.lean ====
abbrev S4096x3072 : Shape := ⟨2, ![4096, 3072]⟩
abbrev S4x2x2048x3072 : Shape := ⟨4, ![4, 2, 2048, 3072]⟩
abbrev S_ : Shape := ⟨0, ![]⟩
abbrev S2x2048x3072 : Shape := ⟨3, ![2, 2048, 3072]⟩

abbrev nBuf : Space → Nat
  | .hbm => 41
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x3072, .f32⟩
  | .hbm, ⟨2, _⟩ => ⟨S4096x3072, .f32⟩
  | .hbm, ⟨3, _⟩ => ⟨S4x2x2048x3072, .bf16⟩
  | .hbm, ⟨4, _⟩ => ⟨S4x2x2048x3072, .f32⟩
  | .hbm, ⟨5, _⟩ => ⟨S_, .f32⟩
  | .hbm, ⟨6, _⟩ => ⟨S2x2048x3072, .f32⟩
  | .hbm, ⟨7, _⟩ => ⟨S4096x3072, .f32⟩
  | .hbm, ⟨8, _⟩ => ⟨S_, .f32⟩
  | .hbm, ⟨9, _⟩ => ⟨S4096x3072, .f32⟩
  | .hbm, ⟨10, _⟩ => ⟨S4096x3072, .f32⟩
  | .hbm, ⟨11, _⟩ => ⟨S_, .f32⟩
  | .hbm, ⟨12, _⟩ => ⟨S4096x3072, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S4096x3072, .f32⟩
  | .hbm, ⟨19, _⟩ => ⟨S_, .f32⟩
  | .hbm, ⟨20, _⟩ => ⟨S4096x3072, .f32⟩
  | .hbm, ⟨21, _⟩ => ⟨S4096x3072, .f32⟩
  | .hbm, ⟨22, _⟩ => ⟨S4096x3072, .f32⟩
  | .hbm, ⟨23, _⟩ => ⟨S_, .f32⟩
  | .hbm, ⟨24, _⟩ => ⟨S4096x3072, .f32⟩
  | .hbm, ⟨25, _⟩ => ⟨S4096x3072, .f32⟩
  | .hbm, ⟨26, _⟩ => ⟨S_, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S_, .f32⟩
  | .hbm, ⟨31, _⟩ => ⟨S4096x3072, .f32⟩
  | .hbm, ⟨32, _⟩ => ⟨S4096x3072, .f32⟩
  | .hbm, ⟨33, _⟩ => ⟨S4096x3072, .f32⟩
  | .hbm, ⟨34, _⟩ => ⟨S_, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S_, .f32⟩
  | .hbm, ⟨39, _⟩ => ⟨S4096x3072, .f32⟩
  | .hbm, ⟨40, _⟩ => ⟨S4096x3072, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamUp.lean ====
abbrev S4096x5504 : Shape := ⟨2, ![4096, 5504]⟩
abbrev S4x2x2048x5504 : Shape := ⟨4, ![4, 2, 2048, 5504]⟩
abbrev S64x5504 : Shape := ⟨2, ![64, 5504]⟩
abbrev S4x1x64x5504 : Shape := ⟨4, ![4, 1, 64, 5504]⟩
abbrev S1x1x64x5504 : Shape := ⟨4, ![1, 1, 64, 5504]⟩

abbrev nBuf : Space → Nat
  | .hbm => 8
  | .vmem => 16
  | .smem => 0
  | _ => 0

abbrev bufTy : (tb : Table) → Fin (tcTables nBuf tb) → BufTy
  | .hbm, ⟨0, _⟩ => ⟨S4096x5504, .f32⟩
  | .hbm, ⟨1, _⟩ => ⟨S4096x5504, .f32⟩
  | .hbm, ⟨2, _⟩ => ⟨S4096x5504, .f32⟩
  | .hbm, ⟨3, _⟩ => ⟨S4x2x2048x5504, .bf16⟩
  | .hbm, ⟨4, _⟩ => ⟨S4096x5504, .f32⟩
  | .hbm, ⟨5, _⟩ => ⟨S4096x5504, .f32⟩
  | .hbm, ⟨6, _⟩ => ⟨S4096x5504, .f32⟩
  | .hbm, ⟨7, _⟩ => ⟨S4096x5504, .f32⟩
  | .local _ .vmem, ⟨0, _⟩ => ⟨S64x5504, .f32⟩
  | .local _ .vmem, ⟨1, _⟩ => ⟨S64x5504, .f32⟩
  | .local _ .vmem, ⟨2, _⟩ => ⟨S64x5504, .f32⟩
  | .local _ .vmem, ⟨3, _⟩ => ⟨S64x5504, .f32⟩
  | .local _ .vmem, ⟨4, _⟩ => ⟨S64x5504, .f32⟩
  | .local _ .vmem, ⟨5, _⟩ => ⟨S64x5504, .f32⟩
  | .local _ .vmem, ⟨6, _⟩ => ⟨S4x1x64x5504, .bf16⟩
  | .local _ .vmem, ⟨7, _⟩ => ⟨S4x1x64x5504, .bf16⟩
  | .local _ .vmem, ⟨8, _⟩ => ⟨S64x5504, .f32⟩
  | .local _ .vmem, ⟨9, _⟩ => ⟨S64x5504, .f32⟩
  | .local _ .vmem, ⟨10, _⟩ => ⟨S64x5504, .f32⟩
  | .local _ .vmem, ⟨11, _⟩ => ⟨S64x5504, .f32⟩
  | .local _ .vmem, ⟨12, _⟩ => ⟨S64x5504, .f32⟩
  | .local _ .vmem, ⟨13, _⟩ => ⟨S64x5504, .f32⟩
  | .local _ .vmem, ⟨14, _⟩ => ⟨S64x5504, .f32⟩
  | .local _ .vmem, ⟨15, _⟩ => ⟨S64x5504, .f32⟩
  | _, _ => ⟨S4096x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![c0_i32_10.toNat, v16.toNat, v26.toNat, c0_i32_11.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x5504 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x5504 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x1x64x5504 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x5504 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x5504 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x5504 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x5504 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamUpIdeal.lean ====
abbrev S4096x5504 : Shape := ⟨2, ![4096, 5504]⟩
abbrev S4x2x2048x5504 : Shape := ⟨4, ![4, 2, 2048, 5504]⟩
abbrev S_ : Shape := ⟨0, ![]⟩
abbrev S2x2048x5504 : Shape := ⟨3, ![2, 2048, 5504]⟩

abbrev nBuf : Space → Nat
  | .hbm => 41
  | .vmem => 0
  | .smem => 0
  | _ => 0

abbrev bufTy : (tb : Table) → Fin (tcTables nBuf tb) → BufTy
  | .hbm, ⟨0, _⟩ => ⟨S4096x5504, .f32⟩
  | .hbm, ⟨1, _⟩ => ⟨S4096x5504, .f32⟩
  | .hbm, ⟨2, _⟩ => ⟨S4096x5504, .f32⟩
  | .hbm, ⟨3, _⟩ => ⟨S4x2x2048x5504, .bf16⟩
  | .hbm, ⟨4, _⟩ => ⟨S4x2x2048x5504, .f32⟩
  | .hbm, ⟨5, _⟩ => ⟨S_, .f32⟩
  | .hbm, ⟨6, _⟩ => ⟨S2x2048x5504, .f32⟩
  | .hbm, ⟨7, _⟩ => ⟨S4096x5504, .f32⟩
  | .hbm, ⟨8, _⟩ => ⟨S_, .f32⟩
  | .hbm, ⟨9, _⟩ => ⟨S4096x5504, .f32⟩
  | .hbm, ⟨10, _⟩ => ⟨S4096x5504, .f32⟩
  | .hbm, ⟨11, _⟩ => ⟨S_, .f32⟩
  | .hbm, ⟨12, _⟩ => ⟨S4096x5504, .f32⟩
  | .hbm, ⟨13, _⟩ => ⟨S4096x5504, .f32⟩
  | .hbm, ⟨14, _⟩ => ⟨S4096x5504, .f32⟩
  | .hbm, ⟨15, _⟩ => ⟨S_, .f32⟩
  | .hbm, ⟨16, _⟩ => ⟨S4096x5504, .f32⟩
  | .hbm, ⟨17, _⟩ => ⟨S4096x5504, .f32⟩
  | .hbm, ⟨18, _⟩ => ⟨S4096x5504, .f32⟩
  | .hbm, ⟨19, _⟩ => ⟨S_, .f32⟩
  | .hbm, ⟨20, _⟩ => ⟨S4096x5504, .f32⟩
  | .hbm, ⟨21, _⟩ => ⟨S4096x5504, .f32⟩
  | .hbm, ⟨22, _⟩ => ⟨S4096x5504, .f32⟩
  | .hbm, ⟨23, _⟩ => ⟨S_, .f32⟩
  | .hbm, ⟨24, _⟩ => ⟨S4096x5504, .f32⟩
  | .hbm, ⟨25, _⟩ => ⟨S4096x5504, .f32⟩
  | .hbm, ⟨26, _⟩ => ⟨S_, .f32⟩
  | .hbm, ⟨27, _⟩ => ⟨S4096x5504, .f32⟩
  | .hbm, ⟨28, _⟩ => ⟨S4096x5504, .f32⟩
  | .hbm, ⟨29, _⟩ => ⟨S4096x5504, .f32⟩
  | .hbm, ⟨30, _⟩ => ⟨S_, .f32⟩
  | .hbm, ⟨31, _⟩ => ⟨S4096x5504, .f32⟩
  | .hbm, ⟨32, _⟩ => ⟨S4096x5504, .f32⟩
  | .hbm, ⟨33, _⟩ => ⟨S4096x5504, .f32⟩
  | .hbm, ⟨34, _⟩ => ⟨S_, .f32⟩
  | .hbm, ⟨35, _⟩ => ⟨S4096x5504, .f32⟩
  | .hbm, ⟨36, _⟩ => ⟨S4096x5504, .f32⟩
  | .hbm, ⟨37, _⟩ => ⟨S4096x5504, .f32⟩
  | .hbm, ⟨38, _⟩ => ⟨S_, .f32⟩
  | .hbm, ⟨39, _⟩ => ⟨S4096x5504, .f32⟩
  | .hbm, ⟨40, _⟩ => ⟨S4096x5504, .f32⟩
  | _, _ => ⟨S4096x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== KernelAdamOut.lean ====
abbrev S1024x4096 : Shape := ⟨2, ![1024, 4096]⟩
abbrev S4x2x1024x2048 : Shape := ⟨4, ![4, 2, 1024, 2048]⟩
abbrev S64x4096 : Shape := ⟨2, ![64, 4096]⟩
abbrev S4x2x64x2048 : Shape := ⟨4, ![4, 2, 64, 2048]⟩
abbrev S1x1x64x2048 : Shape := ⟨4, ![1, 1, 64, 2048]⟩
abbrev S64x2048 : Shape := ⟨2, ![64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S4x2x1024x2048, .bf16⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S4x2x64x2048, .bf16⟩
  | .local _ .vmem, ⟨7, _⟩ => ⟨S4x2x64x2048, .bf16⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x2x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamOutIdeal.lean ====
abbrev S1024x4096 : Shape := ⟨2, ![1024, 4096]⟩
abbrev S4x2x1024x2048 : Shape := ⟨4, ![4, 2, 1024, 2048]⟩
abbrev S_ : Shape := ⟨0, ![]⟩
abbrev S2x1024x2048 : Shape := ⟨3, ![2, 1024, 2048]⟩
abbrev S1x1024x2048 : Shape := ⟨3, ![1, 1024, 2048]⟩
abbrev S1024x2048 : Shape := ⟨2, ![1024, 2048]⟩

abbrev nBuf : Space → Nat
  | .hbm => 45
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S4x2x1024x2048, .bf16⟩
  | .hbm, ⟨4, _⟩ => ⟨S4x2x1024x2048, .f32⟩
  | .hbm, ⟨5, _⟩ => ⟨S_, .f32⟩
  | .hbm, ⟨6, _⟩ => ⟨S2x1024x2048, .f32⟩
  | .hbm, ⟨7, _⟩ => ⟨S1x1024x2048, .f32⟩
  | .hbm, ⟨8, _⟩ => ⟨S1024x2048, .f32⟩
  | .hbm, ⟨9, _⟩ => ⟨S1x1024x2048, .f32⟩
  | .hbm, ⟨10, _⟩ => ⟨S1024x2048, .f32⟩
  | .hbm, ⟨11, _⟩ => ⟨S1024x4096, .f32⟩
  | .hbm, ⟨12, _⟩ => ⟨S_, .f32⟩
  | .hbm, ⟨13, _⟩ => ⟨S1024x4096, .f32⟩
  | .hbm, ⟨14, _⟩ => ⟨S1024x4096, .f32⟩
  | .hbm, ⟨15, _⟩ => ⟨S_, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S1024x4096, .f32⟩
  | .hbm, ⟨23, _⟩ => ⟨S_, .f32⟩
  | .hbm, ⟨24, _⟩ => ⟨S1024x4096, .f32⟩
  | .hbm, ⟨25, _⟩ => ⟨S1024x4096, .f32⟩
  | .hbm, ⟨26, _⟩ => ⟨S1024x4096, .f32⟩
  | .hbm, ⟨27, _⟩ => ⟨S_, .f32⟩
  | .hbm, ⟨28, _⟩ => ⟨S1024x4096, .f32⟩
  | .hbm, ⟨29, _⟩ => ⟨S1024x4096, .f32⟩
  | .hbm, ⟨30, _⟩ => ⟨S_, .f32⟩
  | .hbm, ⟨31, _⟩ => ⟨S1024x4096, .f32⟩
  | .hbm, ⟨32, _⟩ => ⟨S1024x4096, .f32⟩
  | .hbm, ⟨33, _⟩ => ⟨S1024x4096, .f32⟩
  | .hbm, ⟨34, _⟩ => ⟨S_, .f32⟩
  | .hbm, ⟨35, _⟩ => ⟨S1024x4096, .f32⟩
  | .hbm, ⟨36, _⟩ => ⟨S1024x4096, .f32⟩
  | .hbm, ⟨37, _⟩ => ⟨S1024x4096, .f32⟩
  | .hbm, ⟨38, _⟩ => ⟨S_, .f32⟩
  | .hbm, ⟨39, _⟩ => ⟨S1024x4096, .f32⟩
  | .hbm, ⟨40, _⟩ => ⟨S1024x4096, .f32⟩
  | .hbm, ⟨41, _⟩ => ⟨S1024x4096, .f32⟩
  | .hbm, ⟨42, _⟩ => ⟨S_, .f32⟩
  | .hbm, ⟨43, _⟩ => ⟨S1024x4096, .f32⟩
  | .hbm, ⟨44, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== KernelAdamDown.lean ====
abbrev S2752x4096 : Shape := ⟨2, ![2752, 4096]⟩
abbrev S4x2x2752x2048 : Shape := ⟨4, ![4, 2, 2752, 2048]⟩
abbrev S64x4096 : Shape := ⟨2, ![64, 4096]⟩
abbrev S4x2x64x2048 : Shape := ⟨4, ![4, 2, 64, 2048]⟩
abbrev S1x1x64x2048 : Shape := ⟨4, ![1, 1, 64, 2048]⟩
abbrev S64x2048 : Shape := ⟨2, ![64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2752x4096, .f32⟩
  | .hbm, ⟨1, _⟩ => ⟨S2752x4096, .f32⟩
  | .hbm, ⟨2, _⟩ => ⟨S2752x4096, .f32⟩
  | .hbm, ⟨3, _⟩ => ⟨S4x2x2752x2048, .bf16⟩
  | .hbm, ⟨4, _⟩ => ⟨S2752x4096, .f32⟩
  | .hbm, ⟨5, _⟩ => ⟨S2752x4096, .f32⟩
  | .hbm, ⟨6, _⟩ => ⟨S2752x4096, .f32⟩
  | .hbm, ⟨7, _⟩ => ⟨S2752x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S4x2x64x2048, .bf16⟩
  | .local _ .vmem, ⟨7, _⟩ => ⟨S4x2x64x2048, .bf16⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S2752x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x2x64x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamDownIdeal.lean ====
abbrev S2752x4096 : Shape := ⟨2, ![2752, 4096]⟩
abbrev S4x2x2752x2048 : Shape := ⟨4, ![4, 2, 2752, 2048]⟩
abbrev S_ : Shape := ⟨0, ![]⟩
abbrev S2x2752x2048 : Shape := ⟨3, ![2, 2752, 2048]⟩
abbrev S1x2752x2048 : Shape := ⟨3, ![1, 2752, 2048]⟩
abbrev S2752x2048 : Shape := ⟨2, ![2752, 2048]⟩

abbrev nBuf : Space → Nat
  | .hbm => 45
  | .vmem => 0
  | .smem => 0
  | _ => 0

abbrev bufTy : (tb : Table) → Fin (tcTables nBuf tb) → BufTy
  | .hbm, ⟨0, _⟩ => ⟨S2752x4096, .f32⟩
  | .hbm, ⟨1, _⟩ => ⟨S2752x4096, .f32⟩
  | .hbm, ⟨2, _⟩ => ⟨S2752x4096, .f32⟩
  | .hbm, ⟨3, _⟩ => ⟨S4x2x2752x2048, .bf16⟩
  | .hbm, ⟨4, _⟩ => ⟨S4x2x2752x2048, .f32⟩
  | .hbm, ⟨5, _⟩ => ⟨S_, .f32⟩
  | .hbm, ⟨6, _⟩ => ⟨S2x2752x2048, .f32⟩
  | .hbm, ⟨7, _⟩ => ⟨S1x2752x2048, .f32⟩
  | .hbm, ⟨8, _⟩ => ⟨S2752x2048, .f32⟩
  | .hbm, ⟨9, _⟩ => ⟨S1x2752x2048, .f32⟩
  | .hbm, ⟨10, _⟩ => ⟨S2752x2048, .f32⟩
  | .hbm, ⟨11, _⟩ => ⟨S2752x4096, .f32⟩
  | .hbm, ⟨12, _⟩ => ⟨S_, .f32⟩
  | .hbm, ⟨13, _⟩ => ⟨S2752x4096, .f32⟩
  | .hbm, ⟨14, _⟩ => ⟨S2752x4096, .f32⟩
  | .hbm, ⟨15, _⟩ => ⟨S_, .f32⟩
  | .hbm, ⟨16, _⟩ => ⟨S2752x4096, .f32⟩
  | .hbm, ⟨17, _⟩ => ⟨S2752x4096, .f32⟩
  | .hbm, ⟨18, _⟩ => ⟨S2752x4096, .f32⟩
  | .hbm, ⟨19, _⟩ => ⟨S_, .f32⟩
  | .hbm, ⟨20, _⟩ => ⟨S2752x4096, .f32⟩
  | .hbm, ⟨21, _⟩ => ⟨S2752x4096, .f32⟩
  | .hbm, ⟨22, _⟩ => ⟨S2752x4096, .f32⟩
  | .hbm, ⟨23, _⟩ => ⟨S_, .f32⟩
  | .hbm, ⟨24, _⟩ => ⟨S2752x4096, .f32⟩
  | .hbm, ⟨25, _⟩ => ⟨S2752x4096, .f32⟩
  | .hbm, ⟨26, _⟩ => ⟨S2752x4096, .f32⟩
  | .hbm, ⟨27, _⟩ => ⟨S_, .f32⟩
  | .hbm, ⟨28, _⟩ => ⟨S2752x4096, .f32⟩
  | .hbm, ⟨29, _⟩ => ⟨S2752x4096, .f32⟩
  | .hbm, ⟨30, _⟩ => ⟨S_, .f32⟩
  | .hbm, ⟨31, _⟩ => ⟨S2752x4096, .f32⟩
  | .hbm, ⟨32, _⟩ => ⟨S2752x4096, .f32⟩
  | .hbm, ⟨33, _⟩ => ⟨S2752x4096, .f32⟩
  | .hbm, ⟨34, _⟩ => ⟨S_, .f32⟩
  | .hbm, ⟨35, _⟩ => ⟨S2752x4096, .f32⟩
  | .hbm, ⟨36, _⟩ => ⟨S2752x4096, .f32⟩
  | .hbm, ⟨37, _⟩ => ⟨S2752x4096, .f32⟩
  | .hbm, ⟨38, _⟩ => ⟨S_, .f32⟩
  | .hbm, ⟨39, _⟩ => ⟨S2752x4096, .f32⟩
  | .hbm, ⟨40, _⟩ => ⟨S2752x4096, .f32⟩
  | .hbm, ⟨41, _⟩ => ⟨S2752x4096, .f32⟩
  | .hbm, ⟨42, _⟩ => ⟨S_, .f32⟩
  | .hbm, ⟨43, _⟩ => ⟨S2752x4096, .f32⟩
  | .hbm, ⟨44, _⟩ => ⟨S2752x4096, .f32⟩
  | _, _ => ⟨S2752x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== KernelAdamSmall.lean ====
abbrev S4640x128 : Shape := ⟨2, ![4640, 128]⟩

abbrev nBuf : Space → Nat
  | .hbm => 7
  | .vmem => 7
  | .smem => 0
  | _ => 0

abbrev bufTy : (tb : Table) → Fin (tcTables nBuf tb) → BufTy
  | .hbm, ⟨0, _⟩ => ⟨S4640x128, .f32⟩
  | .hbm, ⟨1, _⟩ => ⟨S4640x128, .f32⟩
  | .hbm, ⟨2, _⟩ => ⟨S4640x128, .f32⟩
  | .hbm, ⟨3, _⟩ => ⟨S4640x128, .f32⟩
  | .hbm, ⟨4, _⟩ => ⟨S4640x128, .f32⟩
  | .hbm, ⟨5, _⟩ => ⟨S4640x128, .f32⟩
  | .hbm, ⟨6, _⟩ => ⟨S4640x128, .f32⟩
  | .local _ .vmem, ⟨0, _⟩ => ⟨S4640x128, .f32⟩
  | .local _ .vmem, ⟨1, _⟩ => ⟨S4640x128, .f32⟩
  | .local _ .vmem, ⟨2, _⟩ => ⟨S4640x128, .f32⟩
  | .local _ .vmem, ⟨3, _⟩ => ⟨S4640x128, .f32⟩
  | .local _ .vmem, ⟨4, _⟩ => ⟨S4640x128, .f32⟩
  | .local _ .vmem, ⟨5, _⟩ => ⟨S4640x128, .f32⟩
  | .local _ .vmem, ⟨6, _⟩ => ⟨S4640x128, .f32⟩
  | _, _ => ⟨S4640x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4640x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4640x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4640x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4640x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4640x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4640x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceAdamSmallIdeal.lean ====
abbrev S4640x128 : Shape := ⟨2, ![4640, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4640x128, .f32⟩
  | .hbm, ⟨1, _⟩ => ⟨S4640x128, .f32⟩
  | .hbm, ⟨2, _⟩ => ⟨S4640x128, .f32⟩
  | .hbm, ⟨3, _⟩ => ⟨S4640x128, .f32⟩
  | .hbm, ⟨4, _⟩ => ⟨S_, .f32⟩
  | .hbm, ⟨5, _⟩ => ⟨S4640x128, .f32⟩
  | .hbm, ⟨6, _⟩ => ⟨S4640x128, .f32⟩
  | .hbm, ⟨7, _⟩ => ⟨S_, .f32⟩
  | .hbm, ⟨8, _⟩ => ⟨S4640x128, .f32⟩
  | .hbm, ⟨9, _⟩ => ⟨S4640x128, .f32⟩
  | .hbm, ⟨10, _⟩ => ⟨S4640x128, .f32⟩
  | .hbm, ⟨11, _⟩ => ⟨S_, .f32⟩
  | .hbm, ⟨12, _⟩ => ⟨S4640x128, .f32⟩
  | .hbm, ⟨13, _⟩ => ⟨S4640x128, .f32⟩
  | .hbm, ⟨14, _⟩ => ⟨S4640x128, .f32⟩
  | .hbm, ⟨15, _⟩ => ⟨S_, .f32⟩
  | .hbm, ⟨16, _⟩ => ⟨S4640x128, .f32⟩
  | .hbm, ⟨17, _⟩ => ⟨S4640x128, .f32⟩
  | .hbm, ⟨18, _⟩ => ⟨S4640x128, .f32⟩
  | .hbm, ⟨19, _⟩ => ⟨S_, .f32⟩
  | .hbm, ⟨20, _⟩ => ⟨S4640x128, .f32⟩
  | .hbm, ⟨21, _⟩ => ⟨S4640x128, .f32⟩
  | .hbm, ⟨22, _⟩ => ⟨S_, .f32⟩
  | .hbm, ⟨23, _⟩ => ⟨S4640x128, .f32⟩
  | .hbm, ⟨24, _⟩ => ⟨S4640x128, .f32⟩
  | .hbm, ⟨25, _⟩ => ⟨S4640x128, .f32⟩
  | .hbm, ⟨26, _⟩ => ⟨S_, .f32⟩
  | .hbm, ⟨27, _⟩ => ⟨S4640x128, .f32⟩
  | .hbm, ⟨28, _⟩ => ⟨S4640x128, .f32⟩
  | .hbm, ⟨29, _⟩ => ⟨S4640x128, .f32⟩
  | .hbm, ⟨30, _⟩ => ⟨S_, .f32⟩
  | .hbm, ⟨31, _⟩ => ⟨S4640x128, .f32⟩
  | .hbm, ⟨32, _⟩ => ⟨S4640x128, .f32⟩
  | .hbm, ⟨33, _⟩ => ⟨S4640x128, .f32⟩
  | .hbm, ⟨34, _⟩ => ⟨S_, .f32⟩
  | .hbm, ⟨35, _⟩ => ⟨S4640x128, .f32⟩
  | .hbm, ⟨36, _⟩ => ⟨S4640x128, .f32⟩
  | _, _ => ⟨S4640x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelCastIn.lean ====
abbrev S4096x3072 : Shape := ⟨2, ![4096, 3072]⟩
abbrev S4x160x128 : Shape := ⟨3, ![4, 160, 128]⟩
abbrev S_ : Shape := ⟨0, ![]⟩
abbrev S1 : Shape := ⟨1, ![1]⟩
abbrev S4096x12288 : Shape := ⟨2, ![4096, 12288]⟩
abbrev S256x3072 : Shape := ⟨2, ![256, 3072]⟩

abbrev nBuf : Space → Nat
  | .hbm => 6
  | .vmem => 6
  | .smem => 1
  | _ => 0

abbrev bufTy : (tb : Table) → Fin (tcTables nBuf tb) → BufTy
  | .hbm, ⟨0, _⟩ => ⟨S4096x3072, .f32⟩
  | .hbm, ⟨1, _⟩ => ⟨S4x160x128, .f32⟩
  | .hbm, ⟨2, _⟩ => ⟨S_, .i32⟩
  | .hbm, ⟨3, _⟩ => ⟨S4096x12288, .bf16⟩
  | .hbm, ⟨4, _⟩ => ⟨S4096x3072, .bf16⟩
  | .hbm, ⟨5, _⟩ => ⟨S4096x3072, .bf16⟩
  | .local _ .vmem, ⟨0, _⟩ => ⟨S256x3072, .f32⟩
  | .local _ .vmem, ⟨1, _⟩ => ⟨S256x3072, .f32⟩
  | .local _ .vmem, ⟨2, _⟩ => ⟨S256x3072, .bf16⟩
  | .local _ .vmem, ⟨3, _⟩ => ⟨S256x3072, .bf16⟩
  | .local _ .vmem, ⟨4, _⟩ => ⟨S256x3072, .bf16⟩
  | .local _ .vmem, ⟨5, _⟩ => ⟨S256x3072, .bf16⟩
  | .local _ .smem, ⟨0, _⟩ => ⟨S1, .i32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceCastInIdeal.lean ====
abbrev S4096x3072 : Shape := ⟨2, ![4096, 3072]⟩
abbrev S4x160x128 : Shape := ⟨3, ![4, 160, 128]⟩

abbrev nBuf : Space → Nat
  | .hbm => 3
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x160x128, .f32⟩
  | .hbm, ⟨2, _⟩ => ⟨S4096x3072, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelCastOut.lean ====
abbrev S1024x4096 : Shape := ⟨2, ![1024, 4096]⟩
abbrev S8x128 : Shape := ⟨2, ![8, 128]⟩
abbrev S_ : Shape := ⟨0, ![]⟩
abbrev S1 : Shape := ⟨1, ![1]⟩
abbrev S4096x4096 : Shape := ⟨2, ![4096, 4096]⟩
abbrev S256x4096 : Shape := ⟨2, ![256, 4096]⟩

abbrev nBuf : Space → Nat
  | .hbm => 5
  | .vmem => 4
  | .smem => 1
  | _ => 0

abbrev bufTy : (tb : Table) → Fin (tcTables nBuf tb) → BufTy
  | .hbm, ⟨0, _⟩ => ⟨S1024x4096, .f32⟩
  | .hbm, ⟨1, _⟩ => ⟨S8x128, .f32⟩
  | .hbm, ⟨2, _⟩ => ⟨S_, .i32⟩
  | .hbm, ⟨3, _⟩ => ⟨S4096x4096, .bf16⟩
  | .hbm, ⟨4, _⟩ => ⟨S1024x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .smem, ⟨0, _⟩ => ⟨S1, .i32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceCastOutIdeal.lean ====
abbrev S1024x4096 : Shape := ⟨2, ![1024, 4096]⟩
abbrev S8x128 : Shape := ⟨2, ![8, 128]⟩

abbrev nBuf : Space → Nat
  | .hbm => 3
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S8x128, .f32⟩
  | .hbm, ⟨2, _⟩ => ⟨S1024x4096, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelCastUp.lean ====
abbrev S4096x5504 : Shape := ⟨2, ![4096, 5504]⟩
abbrev S8x128 : Shape := ⟨2, ![8, 128]⟩
abbrev S_ : Shape := ⟨0, ![]⟩
abbrev S1 : Shape := ⟨1, ![1]⟩
abbrev S4096x22016 : Shape := ⟨2, ![4096, 22016]⟩
abbrev S256x5504 : Shape := ⟨2, ![256, 5504]⟩

abbrev nBuf : Space → Nat
  | .hbm => 5
  | .vmem => 4
  | .smem => 1
  | _ => 0

abbrev bufTy : (tb : Table) → Fin (tcTables nBuf tb) → BufTy
  | .hbm, ⟨0, _⟩ => ⟨S4096x5504, .f32⟩
  | .hbm, ⟨1, _⟩ => ⟨S8x128, .f32⟩
  | .hbm, ⟨2, _⟩ => ⟨S_, .i32⟩
  | .hbm, ⟨3, _⟩ => ⟨S4096x22016, .bf16⟩
  | .hbm, ⟨4, _⟩ => ⟨S4096x5504, .bf16⟩
  | .local _ .vmem, ⟨0, _⟩ => ⟨S256x5504, .f32⟩
  | .local _ .vmem, ⟨1, _⟩ => ⟨S256x5504, .f32⟩
  | .local _ .vmem, ⟨2, _⟩ => ⟨S256x5504, .bf16⟩
  | .local _ .vmem, ⟨3, _⟩ => ⟨S256x5504, .bf16⟩
  | .local _ .smem, ⟨0, _⟩ => ⟨S1, .i32⟩
  | _, _ => ⟨S4096x5504, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

abbrev stage0_0 : Fin 2 → Memref sig .tc .vmem S256x5504 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceCastUpIdeal.lean ====
abbrev S4096x5504 : Shape := ⟨2, ![4096, 5504]⟩
abbrev S8x128 : Shape := ⟨2, ![8, 128]⟩

abbrev nBuf : Space → Nat
  | .hbm => 3
  | .vmem => 0
  | .smem => 0
  | _ => 0

abbrev bufTy : (tb : Table) → Fin (tcTables nBuf tb) → BufTy
  | .hbm, ⟨0, _⟩ => ⟨S4096x5504, .f32⟩
  | .hbm, ⟨1, _⟩ => ⟨S8x128, .f32⟩
  | .hbm, ⟨2, _⟩ => ⟨S4096x5504, .bf16⟩
  | _, _ => ⟨S4096x5504, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelCastDown.lean ====
abbrev S2752x4096 : Shape := ⟨2, ![2752, 4096]⟩
abbrev S8x128 : Shape := ⟨2, ![8, 128]⟩
abbrev S_ : Shape := ⟨0, ![]⟩
abbrev S1 : Shape := ⟨1, ![1]⟩
abbrev S11008x4096 : Shape := ⟨2, ![11008, 4096]⟩
abbrev S64x4096 : Shape := ⟨2, ![64, 4096]⟩

abbrev nBuf : Space → Nat
  | .hbm => 5
  | .vmem => 4
  | .smem => 1
  | _ => 0

abbrev bufTy : (tb : Table) → Fin (tcTables nBuf tb) → BufTy
  | .hbm, ⟨0, _⟩ => ⟨S2752x4096, .f32⟩
  | .hbm, ⟨1, _⟩ => ⟨S8x128, .f32⟩
  | .hbm, ⟨2, _⟩ => ⟨S_, .i32⟩
  | .hbm, ⟨3, _⟩ => ⟨S11008x4096, .bf16⟩
  | .hbm, ⟨4, _⟩ => ⟨S2752x4096, .bf16⟩
  | .local _ .vmem, ⟨0, _⟩ => ⟨S64x4096, .f32⟩
  | .local _ .vmem, ⟨1, _⟩ => ⟨S64x4096, .f32⟩
  | .local _ .vmem, ⟨2, _⟩ => ⟨S64x4096, .bf16⟩
  | .local _ .vmem, ⟨3, _⟩ => ⟨S64x4096, .bf16⟩
  | .local _ .smem, ⟨0, _⟩ => ⟨S1, .i32⟩
  | _, _ => ⟨S2752x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![43], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c43_i32 : BitVec 32 := 43#32
  let v1 : BitVec 32 := Scalar.muli v0 c43_i32
  let v2 : BitVec 32 := Scalar.addi v1 arg0
  let c0_i32 : BitVec 32 := 0#32
  let c0_i32_0 : BitVec 32 := 0#32
  ![v2.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceCastDownIdeal.lean ====
abbrev S2752x4096 : Shape := ⟨2, ![2752, 4096]⟩
abbrev S8x128 : Shape := ⟨2, ![8, 128]⟩

abbrev nBuf : Space → Nat
  | .hbm => 3
  | .vmem => 0
  | .smem => 0
  | _ => 0

abbrev bufTy : (tb : Table) → Fin (tcTables nBuf tb) → BufTy
  | .hbm, ⟨0, _⟩ => ⟨S2752x4096, .f32⟩
  | .hbm, ⟨1, _⟩ => ⟨S8x128, .f32⟩
  | .hbm, ⟨2, _⟩ => ⟨S2752x4096, .bf16⟩
  | _, _ => ⟨S2752x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelOwnIn.lean ====
abbrev S1x2048x12288 : Shape := ⟨3, ![1, 2048, 12288]⟩
abbrev S_ : Shape := ⟨0, ![]⟩
abbrev S1 : Shape := ⟨1, ![1]⟩
abbrev S4x2x2048x3072 : Shape := ⟨4, ![4, 2, 2048, 3072]⟩
abbrev S1x256x3072 : Shape := ⟨3, ![1, 256, 3072]⟩
abbrev S1x1x256x3072 : Shape := ⟨4, ![1, 1, 256, 3072]⟩
abbrev S256x3072 : Shape := ⟨2, ![256, 3072]⟩
abbrev S1x1x2048x3072 : Shape := ⟨4, ![1, 1, 2048, 3072]⟩
abbrev S2048x3072 : Shape := ⟨2, ![2048, 3072]⟩

abbrev nBuf : Space → Nat
  | .hbm => 6
  | .vmem => 4
  | .smem => 2
  | _ => 0

abbrev bufTy : (tb : Table) → Fin (tcTables nBuf tb) → BufTy
  | .hbm, ⟨0, _⟩ => ⟨S1x2048x12288, .bf16⟩
  | .hbm, ⟨1, _⟩ => ⟨S_, .i32⟩
  | .hbm, ⟨2, _⟩ => ⟨S_, .i32⟩
  | .hbm, ⟨3, _⟩ => ⟨S4x2x2048x3072, .bf16⟩
  | .hbm, ⟨4, _⟩ => ⟨S1x1x2048x3072, .bf16⟩
  | .hbm, ⟨5, _⟩ => ⟨S2048x3072, .bf16⟩
  | .local _ .vmem, ⟨0, _⟩ => ⟨S1x256x3072, .bf16⟩
  | .local _ .vmem, ⟨1, _⟩ => ⟨S1x256x3072, .bf16⟩
  | .local _ .vmem, ⟨2, _⟩ => ⟨S1x1x256x3072, .bf16⟩
  | .local _ .vmem, ⟨3, _⟩ => ⟨S1x1x256x3072, .bf16⟩
  | .local _ .smem, ⟨0, _⟩ => ⟨S1, .i32⟩
  | .local _ .smem, ⟨1, _⟩ => ⟨S1, .i32⟩
  | _, _ => ⟨S1x2048x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 1], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, arg0.toNat, v2.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_0 : Index := 0#32
  let v1 : BitVec 32 := pf.at 1 (Rect.unit (s := S1) ![0] S1.size inb_S1_S1_0) numel1_S1
  let c0_i32 : BitVec 32 := 0#32
  ![v0.toNat, v1.toNat, arg0.toNat, arg1.toNat]

abbrev stage0_0 : Fin 2 → Memref sig .tc .vmem S1x256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceOwnInIdeal.lean ====
abbrev S1x2048x12288 : Shape := ⟨3, ![1, 2048, 12288]⟩
abbrev S1x2048x3072 : Shape := ⟨3, ![1, 2048, 3072]⟩
abbrev S2048x3072 : Shape := ⟨2, ![2048, 3072]⟩

abbrev nBuf : Space → Nat
  | .hbm => 3
  | .vmem => 0
  | .smem => 0
  | _ => 0

abbrev bufTy : (tb : Table) → Fin (tcTables nBuf tb) → BufTy
  | .hbm, ⟨0, _⟩ => ⟨S1x2048x12288, .bf16⟩
  | .hbm, ⟨1, _⟩ => ⟨S1x2048x3072, .bf16⟩
  | .hbm, ⟨2, _⟩ => ⟨S2048x3072, .bf16⟩
  | _, _ => ⟨S1x2048x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== KernelOwnOut.lean ====
abbrev S4x1024x2048 : Shape := ⟨3, ![4, 1024, 2048]⟩
abbrev S_ : Shape := ⟨0, ![]⟩
abbrev S1 : Shape := ⟨1, ![1]⟩
abbrev S4x2x1024x2048 : Shape := ⟨4, ![4, 2, 1024, 2048]⟩
abbrev S1x256x2048 : Shape := ⟨3, ![1, 256, 2048]⟩
abbrev S1x1x256x2048 : Shape := ⟨4, ![1, 1, 256, 2048]⟩
abbrev S256x2048 : Shape := ⟨2, ![256, 2048]⟩
abbrev S1x1x1024x2048 : Shape := ⟨4, ![1, 1, 1024, 2048]⟩
abbrev S1024x2048 : Shape := ⟨2, ![1024, 2048]⟩

abbrev nBuf : Space → Nat
  | .hbm => 6
  | .vmem => 4
  | .smem => 2
  | _ => 0

abbrev bufTy : (tb : Table) → Fin (tcTables nBuf tb) → BufTy
  | .hbm, ⟨0, _⟩ => ⟨S4x1024x2048, .bf16⟩
  | .hbm, ⟨1, _⟩ => ⟨S_, .i32⟩
  | .hbm, ⟨2, _⟩ => ⟨S_, .i32⟩
  | .hbm, ⟨3, _⟩ => ⟨S4x2x1024x2048, .bf16⟩
  | .hbm, ⟨4, _⟩ => ⟨S1x1x1024x2048, .bf16⟩
  | .hbm, ⟨5, _⟩ => ⟨S1024x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x1x256x2048, .bf16⟩
  | .local _ .vmem, ⟨3, _⟩ => ⟨S1x1x256x2048, .bf16⟩
  | .local _ .smem, ⟨0, _⟩ => ⟨S1, .i32⟩
  | .local _ .smem, ⟨1, _⟩ => ⟨S1, .i32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 1], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_0 : Index := 0#32
  let v1 : BitVec 32 := pf.at 1 (Rect.unit (s := S1) ![0] S1.size inb_S1_S1_0) numel1_S1
  let c0_i32 : BitVec 32 := 0#32
  ![v0.toNat, v1.toNat, arg0.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceOwnOutIdeal.lean ====
abbrev S4x1024x2048 : Shape := ⟨3, ![4, 1024, 2048]⟩
abbrev S1x1024x2048 : Shape := ⟨3, ![1, 1024, 2048]⟩
abbrev S1024x2048 : Shape := ⟨2, ![1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x1024x2048, .bf16⟩
  | .hbm, ⟨1, _⟩ => ⟨S1x1024x2048, .bf16⟩
  | .hbm, ⟨2, _⟩ => ⟨S1024x2048, .bf16⟩
  | _, _ => ⟨S4x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== KernelOwnUp.lean ====
abbrev S1x2048x22016 : Shape := ⟨3, ![1, 2048, 22016]⟩
abbrev S_ : Shape := ⟨0, ![]⟩
abbrev S1 : Shape := ⟨1, ![1]⟩
abbrev S4x2x2048x5504 : Shape := ⟨4, ![4, 2, 2048, 5504]⟩
abbrev S1x256x5504 : Shape := ⟨3, ![1, 256, 5504]⟩
abbrev S1x1x256x5504 : Shape := ⟨4, ![1, 1, 256, 5504]⟩
abbrev S256x5504 : Shape := ⟨2, ![256, 5504]⟩
abbrev S1x1x2048x5504 : Shape := ⟨4, ![1, 1, 2048, 5504]⟩
abbrev S2048x5504 : Shape := ⟨2, ![2048, 5504]⟩

abbrev nBuf : Space → Nat
  | .hbm => 6
  | .vmem => 4
  | .smem => 2
  | _ => 0

abbrev bufTy : (tb : Table) → Fin (tcTables nBuf tb) → BufTy
  | .hbm, ⟨0, _⟩ => ⟨S1x2048x22016, .bf16⟩
  | .hbm, ⟨1, _⟩ => ⟨S_, .i32⟩
  | .hbm, ⟨2, _⟩ => ⟨S_, .i32⟩
  | .hbm, ⟨3, _⟩ => ⟨S4x2x2048x5504, .bf16⟩
  | .hbm, ⟨4, _⟩ => ⟨S1x1x2048x5504, .bf16⟩
  | .hbm, ⟨5, _⟩ => ⟨S2048x5504, .bf16⟩
  | .local _ .vmem, ⟨0, _⟩ => ⟨S1x256x5504, .bf16⟩
  | .local _ .vmem, ⟨1, _⟩ => ⟨S1x256x5504, .bf16⟩
  | .local _ .vmem, ⟨2, _⟩ => ⟨S1x1x256x5504, .bf16⟩
  | .local _ .vmem, ⟨3, _⟩ => ⟨S1x1x256x5504, .bf16⟩
  | .local _ .smem, ⟨0, _⟩ => ⟨S1, .i32⟩
  | .local _ .smem, ⟨1, _⟩ => ⟨S1, .i32⟩
  | _, _ => ⟨S1x2048x22016, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 1], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg1
  let c0_i32 : BitVec 32 := 0#32
  let c0_i32_0 : BitVec 32 := 0#32
  ![c0_i32.toNat, arg0.toNat, v2.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_0 : Index := 0#32
  let v1 : BitVec 32 := pf.at 1 (Rect.unit (s := S1) ![0] S1.size inb_S1_S1_0) numel1_S1
  let c0_i32 : BitVec 32 := 0#32
  ![v0.toNat, v1.toNat, arg0.toNat, arg1.toNat]

abbrev stage0_0 : Fin 2 → Memref sig .tc .vmem S1x256x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceOwnUpIdeal.lean ====
abbrev S1x2048x22016 : Shape := ⟨3, ![1, 2048, 22016]⟩
abbrev S1x2048x5504 : Shape := ⟨3, ![1, 2048, 5504]⟩
abbrev S2048x5504 : Shape := ⟨2, ![2048, 5504]⟩

abbrev nBuf : Space → Nat
  | .hbm => 3
  | .vmem => 0
  | .smem => 0
  | _ => 0

abbrev bufTy : (tb : Table) → Fin (tcTables nBuf tb) → BufTy
  | .hbm, ⟨0, _⟩ => ⟨S1x2048x22016, .bf16⟩
  | .hbm, ⟨1, _⟩ => ⟨S1x2048x5504, .bf16⟩
  | .hbm, ⟨2, _⟩ => ⟨S2048x5504, .bf16⟩
  | _, _ => ⟨S1x2048x22016, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== KernelOwnDown.lean ====
abbrev S4x2752x2048 : Shape := ⟨3, ![4, 2752, 2048]⟩
abbrev S_ : Shape := ⟨0, ![]⟩
abbrev S1 : Shape := ⟨1, ![1]⟩
abbrev S4x2x2752x2048 : Shape := ⟨4, ![4, 2, 2752, 2048]⟩
abbrev S1x64x2048 : Shape := ⟨3, ![1, 64, 2048]⟩
abbrev S1x1x64x2048 : Shape := ⟨4, ![1, 1, 64, 2048]⟩
abbrev S64x2048 : Shape := ⟨2, ![64, 2048]⟩
abbrev S1x1x2752x2048 : Shape := ⟨4, ![1, 1, 2752, 2048]⟩
abbrev S2752x2048 : Shape := ⟨2, ![2752, 2048]⟩

abbrev nBuf : Space → Nat
  | .hbm => 6
  | .vmem => 4
  | .smem => 2
  | _ => 0

abbrev bufTy : (tb : Table) → Fin (tcTables nBuf tb) → BufTy
  | .hbm, ⟨0, _⟩ => ⟨S4x2752x2048, .bf16⟩
  | .hbm, ⟨1, _⟩ => ⟨S_, .i32⟩
  | .hbm, ⟨2, _⟩ => ⟨S_, .i32⟩
  | .hbm, ⟨3, _⟩ => ⟨S4x2x2752x2048, .bf16⟩
  | .hbm, ⟨4, _⟩ => ⟨S1x1x2752x2048, .bf16⟩
  | .hbm, ⟨5, _⟩ => ⟨S2752x2048, .bf16⟩
  | .local _ .vmem, ⟨0, _⟩ => ⟨S1x64x2048, .bf16⟩
  | .local _ .vmem, ⟨1, _⟩ => ⟨S1x64x2048, .bf16⟩
  | .local _ .vmem, ⟨2, _⟩ => ⟨S1x1x64x2048, .bf16⟩
  | .local _ .vmem, ⟨3, _⟩ => ⟨S1x1x64x2048, .bf16⟩
  | .local _ .smem, ⟨0, _⟩ => ⟨S1, .i32⟩
  | .local _ .smem, ⟨1, _⟩ => ⟨S1, .i32⟩
  | _, _ => ⟨S4x2752x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![43, 1], ![false, false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_0 : Index := 0#32
  let v1 : BitVec 32 := pf.at 1 (Rect.unit (s := S1) ![0] S1.size inb_S1_S1_0) numel1_S1
  let c0_i32 : BitVec 32 := 0#32
  ![v0.toNat, v1.toNat, arg0.toNat, arg1.toNat]

abbrev stage0_0 : Fin 2 → Memref sig .tc .vmem S1x64x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceOwnDownIdeal.lean ====
abbrev S4x2752x2048 : Shape := ⟨3, ![4, 2752, 2048]⟩
abbrev S1x2752x2048 : Shape := ⟨3, ![1, 2752, 2048]⟩
abbrev S2752x2048 : Shape := ⟨2, ![2752, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x2752x2048, .bf16⟩
  | .hbm, ⟨1, _⟩ => ⟨S1x2752x2048, .bf16⟩
  | .hbm, ⟨2, _⟩ => ⟨S2752x2048, .bf16⟩
  | _, _ => ⟨S4x2752x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.Col.lean ====
/- Columns: one channel of one sequence as a function of the position, and what the causal convolution, the gate and
   their gradients are on a column. Every value of the two programs is stated over these functions. -/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.Col

/-- A column shifted `k` positions later, zeros before its start. -/
def later (k : ℕ) (x : Fin 2048 → EReal) (s : Fin 2048) : EReal :=
  if h : k ≤ s.val then x ⟨s.val - k, by omega⟩ else 0
/-- A column shifted `k` positions earlier, zeros after its end. -/
def earlier (k : ℕ) (x : Fin 2048 → EReal) (s : Fin 2048) : EReal :=
  if h : s.val + k < 2048 then x ⟨s.val + k, h⟩ else 0
/-- The causal convolution of width three. -/
def conv (x : Fin 2048 → EReal) (w0 w1 w2 b : EReal) (s : Fin 2048) : EReal :=
  b + x s * w2 + later 2 x s * w0 + later 1 x s * w1
/-- The logistic function as the kernel writes it. -/
def sg (a : EReal) : EReal := Ideal.div 1 (1 + Ideal.exp (0 - a))
/-- The gate's result, -/
def act (g v : EReal) : EReal := g * sg g * v
/-- its derivative in the gate channel, -/
def mg (g v : EReal) : EReal := v * (sg g * (1 + g * (1 - sg g)))
/-- and in the value channel. -/
def mv (g : EReal) : EReal := g * sg g
/-- The gradient of the convolution's input. -/
def dx (d : Fin 2048 → EReal) (w0 w1 w2 : EReal) (s : Fin 2048) : EReal :=
  d s * w2 + earlier 2 d s * w0 + earlier 1 d s * w1

end Cert.Col

namespace Cert.KernelIdeal.Pure

open Cert.KernelIdeal Cert.KernelIdeal.Gen Cert.Col

theorem sge2 : ∀ r : Fin 2048, IntOp.cmpi .sge (BitVec.ofNat 32 r.val) 2#32 = if 2 ≤ r.val then 1#1 else 0#1 := by decide +kernel
theorem sge1 : ∀ r : Fin 2048, IntOp.cmpi .sge (BitVec.ofNat 32 r.val) 1#32 = if 1 ≤ r.val then 1#1 else 0#1 := by decide +kernel
theorem slt2 : ∀ r : Fin 2048, IntOp.cmpi .slt (BitVec.ofNat 32 r.val) 2046#32 = if r.val + 2 < 2048 then 1#1 else 0#1 := by decide +kernel
theorem slt1 : ∀ r : Fin 2048, IntOp.cmpi .slt (BitVec.ofNat 32 r.val) 2047#32 = if r.val + 1 < 2048 then 1#1 else 0#1 := by decide +kernel
theorem slt43 : ∀ r : Fin 86, IntOp.cmpi .slt (BitVec.ofNat 32 r.val) 43#32 = if r.val < 43 then 1#1 else 0#1 := by decide +kernel

/-- A rolled column kept where the position is at least `k` is the column shifted `k` later; -/
theorem later_of (k : ℕ) (hk : k ≤ 2048) (x : Fin 2048 → EReal) (w : EReal) (c : BitVec 1) (r : Fin 2048) (hc : c = if k ≤ r.val then 1#1 else 0#1)
    (q : Fin 2048) (hq : q.val = (r.val + 2048 - k) % 2048) : Scalar.select c (x q * w) 0 = later k x r * w := by
  have hr := r.isLt
  subst hc
  unfold later
  by_cases h : k ≤ r.val
  · rw [if_pos h, dif_pos h]
    have e : q = ⟨r.val - k, by omega⟩ := Fin.ext (by rw [hq]; show _ = r.val - k; omega)
    rw [e]; rfl
  · rw [if_neg h, dif_neg h, zero_mul]; rfl

/-- and one kept where the position is `k` below the end is the column shifted `k` earlier. -/
theorem earlier_of (k : ℕ) (hk : k ≤ 2048) (x : Fin 2048 → EReal) (c : BitVec 1) (r : Fin 2048) (hc : c = if r.val + k < 2048 then 1#1 else 0#1)
    (q : Fin 2048) (hq : q.val = (r.val + 2048 - (2048 - k)) % 2048) : Scalar.select c (x q) 0 = earlier k x r := by
  have hr := r.isLt
  subst hc
  unfold earlier
  by_cases h : r.val + k < 2048
  · rw [if_pos h, dif_pos h]
    have e : q = ⟨r.val + k, h⟩ := Fin.ext (by rw [hq]; show _ = r.val + k; omega)
    rw [e]; rfl
  · rw [if_neg h, dif_neg h]; rfl

theorem mul_earlier_of (k : ℕ) (hk : k ≤ 2048) (x : Fin 2048 → EReal) (w : EReal) (c : BitVec 1) (r : Fin 2048) (hc : c = if r.val + k < 2048 then 1#1 else 0#1)
    (q : Fin 2048) (hq : q.val = (r.val + 2048 - (2048 - k)) % 2048) : Scalar.select c (w * x q) 0 = w * earlier k x r := by
  rw [← earlier_of k hk x c r hc q hq]
  subst hc
  by_cases h : r.val + k < 2048
  · rw [if_pos h]; rfl
  · rw [if_neg h]; exact (mul_zero w).symm

theorem pay3_at (x : Vec Ideal S2048x256 .f32) (b w2 w0 w1 : Vec Ideal S1x256 .f32) (r : Fin 2048) (l : Fin 256) :
    k0_pay3 (F := Ideal) x b w2 w0 w1 (ix2 r l) = conv (fun s => x (ix2 s l)) (w0 (ix2 0 l)) (w1 (ix2 0 l)) (w2 (ix2 0 l)) (b (ix2 0 l)) r := by
  pointwise [k0_pay3]
  exact congrArg₂ (· + ·) (congrArg₂ (· + ·) rfl (later_of 2 (by omega) (fun s => x (ix2 s l)) _ _ r (sge2 r) _ rfl))
    (later_of 1 (by omega) (fun s => x (ix2 s l)) _ _ r (sge1 r) _ rfl)

theorem pay5_at (x : Vec Ideal S2048x256 .f32) (b w2 w0 w1 : Vec Ideal S1x256 .f32) (r : Fin 2048) (l : Fin 256) :
    k0_pay5 (F := Ideal) x b (iota .tc S2048x1 32 [0] iota_S2048x1_d0_w32) (k0_pay4 x w2) w0 w1 (ix2 r l) = conv (fun s => x (ix2 s l)) (w0 (ix2 0 l)) (w1 (ix2 0 l)) (w2 (ix2 0 l)) (b (ix2 0 l)) r := by
  pointwise [k0_pay5, k0_pay4]
  exact congrArg₂ (· + ·) (congrArg₂ (· + ·) rfl (later_of 2 (by omega) (fun s => x (ix2 s l)) _ _ r (sge2 r) _ rfl))
    (later_of 1 (by omega) (fun s => x (ix2 s l)) _ _ r (sge1 r) _ rfl)

theorem pay6_at (g : FVec Ideal S2048x256 .f32) (r : Fin 2048) (l : Fin 256) : k0_pay6 (F := Ideal) g (ix2 r l) = sg (g (ix2 r l)) := by
  pointwise [k0_pay6, sg]

theorem pay1_at (i : grid1.Coords) (a b d : Vec Ideal S2048x256 .bf16) (r : Fin 2048) (l : Fin 256) :
    k1_pay1 (F := Ideal) i a b d (ix2 r l) = d (ix2 r l) * (if (i 0).val < 43 then a (ix2 r l) else b (ix2 r l)) := by
  pointwise [k1_pay1]
  refine congrArg (d (ix2 r l) * ·) ?_
  have h := slt43 ⟨(i 0).val, (i 0).isLt⟩
  show Scalar.select (IntOp.cmpi .slt (BitVec.ofNat 32 (i 0).val) 43#32) (a (ix2 r l)) (b (ix2 r l)) = _
  rw [show IntOp.cmpi .slt (BitVec.ofNat 32 (i 0).val) 43#32 = _ from h]
  by_cases h : (i 0).val < 43
  · rw [if_pos h, if_pos h]; rfl
  · rw [if_neg h, if_neg h]; rfl

theorem pay3b_at (i : grid1.Coords) (a b d : Vec Ideal S2048x256 .bf16) (r : Fin 2048) (l : Fin 256) :
    k1_pay3 (F := Ideal) i a b d (ix2 r l) = earlier 2 (fun s => k1_pay1 (F := Ideal) i a b d (ix2 s l)) r := by
  pointwise [k1_pay3]
  exact earlier_of 2 (by omega) (fun s => k1_pay1 (F := Ideal) i a b d (ix2 s l)) _ r (slt2 r) _ rfl

theorem pay8_at (v : FVec Ideal S2048x256 .f32) (r : Fin 2048) (l : Fin 256) :
    k1_pay8 (F := Ideal) (dynamicRotate 0 2047#32 none v rotates_S2048x256_d0) (Scalar.ofBits .f32 0x00000000#32) k1_pay7 (ix2 r l) = earlier 1 (fun s => v (ix2 s l)) r := by
  pointwise [k1_pay8, k1_pay7]
  exact earlier_of 1 (by omega) (fun s => v (ix2 s l)) _ r (slt1 r) _ rfl

theorem pay2_at (i : grid1.Coords) (a b d : Vec Ideal S2048x256 .bf16) (x : Vec Ideal S2048x256 .f32) (l : Fin 256) :
    k1_pay2 (F := Ideal) i a b d x (ix2 0 l) = ∑ s : Fin 2048, x (ix2 s l) * k1_pay1 (F := Ideal) i a b d (ix2 s l) := by
  pointwise [k1_pay2]

theorem pay5b_at (i : grid1.Coords) (a b d : Vec Ideal S2048x256 .bf16) (x : Vec Ideal S2048x256 .f32) (l : Fin 256) :
    k1_pay5 (F := Ideal) i a b d x (ix2 0 l) = ∑ s : Fin 2048, x (ix2 s l) * k1_pay3 (F := Ideal) i a b d (ix2 s l) := by
  pointwise [k1_pay5]

theorem pay13_at (v : FVec Ideal S2048x256 .f32) (x : Vec Ideal S2048x256 .f32) (p : Vec Ideal S1x256 .f32) (l : Fin 256) :
    k1_pay13 (F := Ideal) x (dynamicRotate 0 2047#32 none v rotates_S2048x256_d0) (Scalar.ofBits .f32 0x00000000#32) k1_pay7 p (ix2 0 l)
      = p (ix2 0 l) + ∑ s : Fin 2048, x (ix2 s l) * earlier 1 (fun q => v (ix2 q l)) s := by
  pointwise [k1_pay13, k1_pay8, k1_pay7]
  exact congrArg (p (ix2 0 l) + ·) (Finset.sum_congr rfl fun s _ => mul_earlier_of 1 (by omega) (fun q => v (ix2 q l)) _ _ s (slt1 s) _ rfl)

theorem pay15_at (v : FVec Ideal S2048x256 .f32) (p : Vec Ideal S1x256 .f32) (l : Fin 256) :
    k1_pay15 (F := Ideal) v p (ix2 0 l) = p (ix2 0 l) + ∑ s : Fin 2048, v (ix2 s l) := by
  pointwise [k1_pay15]

end Cert.KernelIdeal.Pure

end
-- ==== Proof.Fwd.lean ====
/- The forward call's three result arrays: the gate's result and its two derivatives, each a function of the arrays the
   call reads, column by column. -/
module

public import proofs.«01_k».proof.Proof.Col
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Fwd

open Cert.KernelIdeal Cert.KernelIdeal.Gen Cert.Col Cert.KernelIdeal.Pure

/-- Channel `j` of sequence `b`. -/
def col {n : ℕ} (X : FVec Ideal (⟨2, ![4096, n]⟩ : Shape) .f32) (b : Fin 2) (j : Fin n) (s : Fin 2048) : EReal :=
  X (ix2 ⟨b.val * 2048 + s.val, by omega⟩ j)
/-- Channel `j` of sequence `b` after the convolution. -/
def cv (X : FVec Ideal S4096x22016 .f32) (W : FVec Ideal S3x22016 .f32) (Bi : FVec Ideal S1x22016 .f32) (b : Fin 2) (j : Fin 22016) : Fin 2048 → EReal :=
  conv (col X b j) (W (ix2 0 j)) (W (ix2 1 j)) (W (ix2 2 j)) (Bi (ix2 0 j))
/-- A row's sequence, -/
def sq (i : Fin 4096) : Fin 2 := ⟨i.val / 2048, by omega⟩
/-- its position in it, -/
def ps (i : Fin 4096) : Fin 2048 := ⟨i.val % 2048, by omega⟩
theorem sq_at (b : ℕ) (hb : b < 2) (r : Fin 2048) : sq ⟨b * 2048 + r.val, by omega⟩ = ⟨b, hb⟩ :=
  Fin.ext (show (b * 2048 + r.val) / 2048 = b by omega)
theorem ps_at (b : ℕ) (hb : b < 2) (r : Fin 2048) : ps ⟨b * 2048 + r.val, by omega⟩ = r :=
  Fin.ext (show (b * 2048 + r.val) % 2048 = r.val by omega)
/-- a gate channel, -/
def gch (j : Fin 11008) : Fin 22016 := ⟨j.val, by omega⟩
/-- and its value channel. -/
def vch (j : Fin 11008) : Fin 22016 := ⟨11008 + j.val, by omega⟩

def ACT (X : FVec Ideal S4096x22016 .f32) (W : FVec Ideal S3x22016 .f32) (Bi : FVec Ideal S1x22016 .f32) : FVec Ideal S4096x11008 .bf16 :=
  fun i => act (cv X W Bi (sq (i 0)) (gch (i 1)) (ps (i 0))) (cv X W Bi (sq (i 0)) (vch (i 1)) (ps (i 0)))
def MG (X : FVec Ideal S4096x22016 .f32) (W : FVec Ideal S3x22016 .f32) (Bi : FVec Ideal S1x22016 .f32) : FVec Ideal S4096x11008 .bf16 :=
  fun i => mg (cv X W Bi (sq (i 0)) (gch (i 1)) (ps (i 0))) (cv X W Bi (sq (i 0)) (vch (i 1)) (ps (i 0)))
def MV (X : FVec Ideal S4096x22016 .f32) (W : FVec Ideal S3x22016 .f32) (Bi : FVec Ideal S1x22016 .f32) : FVec Ideal S4096x11008 .bf16 :=
  fun i => mv (cv X W Bi (sq (i 0)) (gch (i 1)) (ps (i 0)))

variable (V : (c : Dev nD) → (b : Ref sig .tc) → Buf (Elt Ideal) ((c : Thread nD τ).loc b))

theorem idx : ∀ t : Fin cfg0.N, win0_0.index t = ![t.val / 43, t.val % 43] ∧ win0_1.index t = ![t.val / 43, 43 + t.val % 43]
    ∧ win0_2.index t = ![0, t.val % 43] ∧ win0_3.index t = ![0, 43 + t.val % 43] ∧ win0_4.index t = ![0, t.val % 43] ∧ win0_5.index t = ![0, 43 + t.val % 43]
    ∧ win0_6.index t = ![t.val / 43, t.val % 43] ∧ win0_7.index t = ![t.val / 43, t.val % 43] ∧ win0_8.index t = ![t.val / 43, t.val % 43] ∧ t.val / 43 < 2 :=
  (by decide +kernel : ∀ t : Fin grid0.N, _)

/-- The two convolutions of a point, read at an entry of its blocks, are the arrays' columns there. -/
theorem gate_at (c : Dev nD) (t : Fin cfg0.N) (r : Fin 2048) (l : Fin 256) (b : Fin 2) (j : Fin 11008) (hb : b.val = t.val / 43) (hj : j.val = t.val % 43 * 256 + l.val) :
    conv (fun s => iblk0 V c 0 t (ix2 s l)) (iblk0 V c 2 t (ix2 0 l)) (iblk0 V c 2 t (ix2 1 l)) (iblk0 V c 2 t (ix2 2 l)) (iblk0 V c 4 t (ix2 0 l)) r
      = cv (V c main_arg0) (V c main_arg1) (V c main_arg2) b (gch j) r := by
  have h0 : (fun s => iblk0 V c 0 t (ix2 s l)) = col (V c main_arg0) b (gch j) := funext fun s => by
    unfold col gch; blk_ext [iblk0, idx t]
  have h2 (k : Fin 3) : iblk0 V c 2 t (ix2 k l) = V c main_arg1 (ix2 k (gch j)) := by
    unfold gch; blk_ext [iblk0, idx t]
  have h4 : iblk0 V c 4 t (ix2 0 l) = V c main_arg2 (ix2 0 (gch j)) := by
    unfold gch; blk_ext [iblk0, idx t]
  unfold cv
  rw [← h0, ← h2, ← h2, ← h2, ← h4]

theorem value_at (c : Dev nD) (t : Fin cfg0.N) (r : Fin 2048) (l : Fin 256) (b : Fin 2) (j : Fin 11008) (hb : b.val = t.val / 43) (hj : j.val = t.val % 43 * 256 + l.val) :
    conv (fun s => iblk0 V c 1 t (ix2 s l)) (iblk0 V c 3 t (ix2 0 l)) (iblk0 V c 3 t (ix2 1 l)) (iblk0 V c 3 t (ix2 2 l)) (iblk0 V c 5 t (ix2 0 l)) r
      = cv (V c main_arg0) (V c main_arg1) (V c main_arg2) b (vch j) r := by
  have h0 : (fun s => iblk0 V c 1 t (ix2 s l)) = col (V c main_arg0) b (vch j) := funext fun s => by
    unfold col vch; blk_ext [iblk0, idx t]
  have h2 (k : Fin 3) : iblk0 V c 3 t (ix2 k l) = V c main_arg1 (ix2 k (vch j)) := by
    unfold vch; blk_ext [iblk0, idx t]
  have h4 : iblk0 V c 5 t (ix2 0 l) = V c main_arg2 (ix2 0 (vch j)) := by
    unfold vch; blk_ext [iblk0, idx t]
  unfold cv
  rw [← h0, ← h2, ← h2, ← h2, ← h4]

/-- Each store's payload at an entry: the gate of the two convolutions there. -/
theorem pay8_act (g : FVec Ideal S2048x256 .f32) (x : Vec Ideal S2048x256 .f32) (b w2 w0 w1 : Vec Ideal S1x256 .f32) (r : Fin 2048) (l : Fin 256) :
    k0_pay8 (F := Ideal) g x b (iota .tc S2048x1 32 [0] iota_S2048x1_d0_w32) (k0_pay4 x w2) w0 w1 (ix2 r l)
      = act (g (ix2 r l)) (conv (fun s => x (ix2 s l)) (w0 (ix2 0 l)) (w1 (ix2 0 l)) (w2 (ix2 0 l)) (b (ix2 0 l)) r) := by
  pointwise [k0_pay8, k0_pay7, act]
  rw [pay5_at, pay6_at]

theorem pay9_mg (g : FVec Ideal S2048x256 .f32) (x : Vec Ideal S2048x256 .f32) (b w2 w0 w1 : Vec Ideal S1x256 .f32) (r : Fin 2048) (l : Fin 256) :
    k0_pay1 (F := Ideal) (k0_pay9 g x b (iota .tc S2048x1 32 [0] iota_S2048x1_d0_w32) (k0_pay4 x w2) w0 w1) (ix2 r l)
      = mg (g (ix2 r l)) (conv (fun s => x (ix2 s l)) (w0 (ix2 0 l)) (w1 (ix2 0 l)) (w2 (ix2 0 l)) (b (ix2 0 l)) r) := by
  pointwise [k0_pay1, k0_pay9, mg]
  rw [pay5_at, pay6_at]

theorem pay2_mv (g : FVec Ideal S2048x256 .f32) (r : Fin 2048) (l : Fin 256) :
    k0_pay2 (F := Ideal) (k0_pay7 g) (ix2 r l) = mv (g (ix2 r l)) := by
  pointwise [k0_pay2, k0_pay7, mv]
  rw [pay6_at]

theorem out6_at (x0 x1 : Vec Ideal S2048x256 .f32) (x2 x3 : Vec Ideal S3x256 .f32) (x4 x5 : Vec Ideal S1x256 .f32) (r : Fin 2048) (l : Fin 256) :
    out0_6 x0 x1 x2 x3 x4 x5 (ix2 r l) = act (conv (fun s => x0 (ix2 s l)) (x2 (ix2 0 l)) (x2 (ix2 1 l)) (x2 (ix2 2 l)) (x4 (ix2 0 l)) r) (conv (fun s => x1 (ix2 s l)) (x3 (ix2 0 l)) (x3 (ix2 1 l)) (x3 (ix2 2 l)) (x5 (ix2 0 l)) r) := by
  unfold_out out0_6
  frame_out
  rw [pay8_act, pay3_at]
  pointwise

theorem final6 (c : Dev nD) : (dat0 V c).arrAt 6 cfg0.N = ACT (V c main_arg0) (V c main_arg1) (V c main_arg2) := by
  refine (dat0 V c).arrAt_eq_of_covers 6 _ (by decide +kernel) fun t _ y => ?_
  blk_simp
  rw [after0_6]
  have ht : t.val / 43 < 2 := (idx t).2.2.2.2.2.2.2.2.2
  have he : ((cfg0.win 6).blk t).view.emb y = ix2 ⟨t.val / 43 * 2048 + (y 0).val, by have := (y 0).isLt; change (y 0).val < 2048 at this; omega⟩ ⟨t.val % 43 * 256 + (y 1).val, by have := (y 1).isLt; change (y 1).val < 256 at this; omega⟩ := by
    blk_ext [idx t]
  rw [he]
  obtain ⟨r, l, rfl⟩ : ∃ (r : Fin 2048) (l : Fin 256), y = ix2 r l := ⟨y 0, y 1, eq_ix2 y⟩
  rw [out6_at, gate_at V c t r l ⟨t.val / 43, ht⟩ ⟨t.val % 43 * 256 + l.val, by omega⟩ rfl rfl, value_at V c t r l ⟨t.val / 43, ht⟩ ⟨t.val % 43 * 256 + l.val, by omega⟩ rfl rfl]
  show _ = act (cv _ _ _ (sq ⟨t.val / 43 * 2048 + r.val, _⟩) (gch ⟨t.val % 43 * 256 + l.val, _⟩) (ps ⟨t.val / 43 * 2048 + r.val, _⟩)) (cv _ _ _ (sq ⟨t.val / 43 * 2048 + r.val, _⟩) (vch ⟨t.val % 43 * 256 + l.val, _⟩) (ps ⟨t.val / 43 * 2048 + r.val, _⟩))
  rw [sq_at _ ht r, ps_at _ ht r]

theorem out7_at (x0 x1 : Vec Ideal S2048x256 .f32) (x2 x3 : Vec Ideal S3x256 .f32) (x4 x5 : Vec Ideal S1x256 .f32) (r : Fin 2048) (l : Fin 256) :
    out0_7 x0 x1 x2 x3 x4 x5 (ix2 r l) = mg (conv (fun s => x0 (ix2 s l)) (x2 (ix2 0 l)) (x2 (ix2 1 l)) (x2 (ix2 2 l)) (x4 (ix2 0 l)) r) (conv (fun s => x1 (ix2 s l)) (x3 (ix2 0 l)) (x3 (ix2 1 l)) (x3 (ix2 2 l)) (x5 (ix2 0 l)) r) := by
  unfold_out out0_7
  frame_out
  rw [pay9_mg, pay3_at]
  pointwise

theorem final7 (c : Dev nD) : (dat0 V c).arrAt 7 cfg0.N = MG (V c main_arg0) (V c main_arg1) (V c main_arg2) := by
  refine (dat0 V c).arrAt_eq_of_covers 7 _ (by decide +kernel) fun t _ y => ?_
  blk_simp
  rw [after0_7]
  have ht : t.val / 43 < 2 := (idx t).2.2.2.2.2.2.2.2.2
  have he : ((cfg0.win 7).blk t).view.emb y = ix2 ⟨t.val / 43 * 2048 + (y 0).val, by have := (y 0).isLt; change (y 0).val < 2048 at this; omega⟩ ⟨t.val % 43 * 256 + (y 1).val, by have := (y 1).isLt; change (y 1).val < 256 at this; omega⟩ := by
    blk_ext [idx t]
  rw [he]
  obtain ⟨r, l, rfl⟩ : ∃ (r : Fin 2048) (l : Fin 256), y = ix2 r l := ⟨y 0, y 1, eq_ix2 y⟩
  rw [out7_at, gate_at V c t r l ⟨t.val / 43, ht⟩ ⟨t.val % 43 * 256 + l.val, by omega⟩ rfl rfl, value_at V c t r l ⟨t.val / 43, ht⟩ ⟨t.val % 43 * 256 + l.val, by omega⟩ rfl rfl]
  show _ = mg (cv _ _ _ (sq ⟨t.val / 43 * 2048 + r.val, _⟩) (gch ⟨t.val % 43 * 256 + l.val, _⟩) (ps ⟨t.val / 43 * 2048 + r.val, _⟩)) (cv _ _ _ (sq ⟨t.val / 43 * 2048 + r.val, _⟩) (vch ⟨t.val % 43 * 256 + l.val, _⟩) (ps ⟨t.val / 43 * 2048 + r.val, _⟩))
  rw [sq_at _ ht r, ps_at _ ht r]

theorem out8_at (x0 x1 : Vec Ideal S2048x256 .f32) (x2 x3 : Vec Ideal S3x256 .f32) (x4 x5 : Vec Ideal S1x256 .f32) (r : Fin 2048) (l : Fin 256) :
    out0_8 x0 x1 x2 x3 x4 x5 (ix2 r l) = mv (conv (fun s => x0 (ix2 s l)) (x2 (ix2 0 l)) (x2 (ix2 1 l)) (x2 (ix2 2 l)) (x4 (ix2 0 l)) r) := by
  unfold_out out0_8
  frame_out
  rw [pay2_mv, pay3_at]
  pointwise

theorem final8 (c : Dev nD) : (dat0 V c).arrAt 8 cfg0.N = MV (V c main_arg0) (V c main_arg1) (V c main_arg2) := by
  refine (dat0 V c).arrAt_eq_of_covers 8 _ (by decide +kernel) fun t _ y => ?_
  blk_simp
  rw [after0_8]
  have ht : t.val / 43 < 2 := (idx t).2.2.2.2.2.2.2.2.2
  have he : ((cfg0.win 8).blk t).view.emb y = ix2 ⟨t.val / 43 * 2048 + (y 0).val, by have := (y 0).isLt; change (y 0).val < 2048 at this; omega⟩ ⟨t.val % 43 * 256 + (y 1).val, by have := (y 1).isLt; change (y 1).val < 256 at this; omega⟩ := by
    blk_ext [idx t]
  rw [he]
  obtain ⟨r, l, rfl⟩ : ∃ (r : Fin 2048) (l : Fin 256), y = ix2 r l := ⟨y 0, y 1, eq_ix2 y⟩
  rw [out8_at, gate_at V c t r l ⟨t.val / 43, ht⟩ ⟨t.val % 43 * 256 + l.val, by omega⟩ rfl rfl]
  show _ = mv (cv _ _ _ (sq ⟨t.val / 43 * 2048 + r.val, _⟩) (gch ⟨t.val % 43 * 256 + l.val, _⟩) (ps ⟨t.val / 43 * 2048 + r.val, _⟩))
  rw [sq_at _ ht r, ps_at _ ht r]

end Cert.KernelIdeal.Fwd

end
-- ==== Proof.Bwd.lean ====
/- The backward call's three result arrays: the gradient of the gate's input, of the convolution's weights and of its bias,
   each a function of the arrays the call reads. The two gradients that are summed over the sequences are read off the
   accumulation over the two points of a channel block. -/
module

public import proofs.«01_k».proof.Proof.Fwd
public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Bwd

open Cert.KernelIdeal Cert.KernelIdeal.Gen Cert.Col Cert.KernelIdeal.Pure Cert.KernelIdeal.Fwd

variable (V : (c : Dev nD) → (b : Ref sig .tc) → Buf (Elt Ideal) ((c : Thread nD τ).loc b))

theorem idx : ∀ t : Fin cfg1.N, win1_0.index t = ![t.val % 2, t.val / 2] ∧ win1_1.index t = ![0, t.val / 2]
    ∧ win1_2.index t = ![t.val % 2, t.val / 2 % 43] ∧ win1_3.index t = ![t.val % 2, t.val / 2 % 43] ∧ win1_4.index t = ![t.val % 2, t.val / 2 % 43]
    ∧ win1_5.index t = ![t.val % 2, t.val / 2] ∧ win1_6.index t = ![0, t.val / 2] ∧ win1_7.index t = ![0, t.val / 2] ∧ t.val / 2 < 86 ∧ (grid1.coords t 0).val = t.val / 2 :=
  (by decide +kernel : ∀ t : Fin grid1.N, _)

/-- The incoming gradient of channel `J` after the gate: the result's gradient times the gate's derivative (`M` in the gate's half, `N` in the other's). -/
def dcol (M N C : FVec Ideal S4096x11008 .bf16) (b : Fin 2) (J : Fin 22016) (s : Fin 2048) : EReal :=
  C (ix2 ⟨b.val * 2048 + s.val, by omega⟩ ⟨J.val % 11008, by omega⟩)
    * (if J.val < 11008 then M (ix2 ⟨b.val * 2048 + s.val, by omega⟩ ⟨J.val % 11008, by omega⟩) else N (ix2 ⟨b.val * 2048 + s.val, by omega⟩ ⟨J.val % 11008, by omega⟩))
/-- Row `k` of one sequence's share of the weights' gradient. -/
def row (k : ℕ) (x d : Fin 2048 → EReal) : EReal := ∑ s : Fin 2048, x s * earlier (2 - k) d s

theorem earlier_zero (d : Fin 2048 → EReal) (s : Fin 2048) : earlier 0 d s = d s := by
  unfold earlier
  exact dif_pos s.isLt

theorem dblk (c : Dev nD) (t : Fin cfg1.N) (l : Fin 256) (b : Fin 2) (J : Fin 22016) (hb : b.val = t.val % 2) (hJ : J.val = t.val / 2 * 256 + l.val) :
    (fun s : Fin 2048 => k1_pay1 (F := Ideal) (grid1.coords t) (iblk1 V c 2 t) (iblk1 V c 3 t) (iblk1 V c 4 t) (ix2 s l))
      = dcol (V c main_v0_1) (V c main_v0_2) (V c main_arg3) b J := funext fun s => by
  have ht : t.val / 2 < 86 := (idx t).2.2.2.2.2.2.2.2.1
  have hg : (grid1.coords t 0).val = t.val / 2 := (idx t).2.2.2.2.2.2.2.2.2
  have hm : J.val % 11008 = t.val / 2 % 43 * 256 + l.val := by omega
  have h2 : iblk1 V c 2 t (ix2 s l) = V c main_v0_1 (ix2 ⟨b.val * 2048 + s.val, by omega⟩ ⟨J.val % 11008, by omega⟩) := by
    blk_ext [iblk1, idx t]
  have h3 : iblk1 V c 3 t (ix2 s l) = V c main_v0_2 (ix2 ⟨b.val * 2048 + s.val, by omega⟩ ⟨J.val % 11008, by omega⟩) := by
    blk_ext [iblk1, idx t]
  have h4 : iblk1 V c 4 t (ix2 s l) = V c main_arg3 (ix2 ⟨b.val * 2048 + s.val, by omega⟩ ⟨J.val % 11008, by omega⟩) := by
    blk_ext [iblk1, idx t]
  rw [pay1_at, h2, h3, h4, hg]
  unfold dcol
  by_cases h : t.val / 2 < 43
  · rw [if_pos h, if_pos (by omega)]
  · rw [if_neg h, if_neg (by omega)]

theorem xblk (c : Dev nD) (t : Fin cfg1.N) (l : Fin 256) (b : Fin 2) (J : Fin 22016) (hb : b.val = t.val % 2) (hJ : J.val = t.val / 2 * 256 + l.val) :
    (fun s : Fin 2048 => iblk1 V c 0 t (ix2 s l)) = col (V c main_arg0) b J := funext fun s => by
  unfold col; blk_ext [iblk1, idx t]

theorem wblk (c : Dev nD) (t : Fin cfg1.N) (l : Fin 256) (J : Fin 22016) (hJ : J.val = t.val / 2 * 256 + l.val) (k : Fin 3) :
    iblk1 V c 1 t (ix2 k l) = V c main_arg1 (ix2 k J) := by
  blk_ext [iblk1, idx t]

theorem pay9_at (i : grid1.Coords) (a b d : Vec Ideal S2048x256 .bf16) (w2 w0 w1 : Vec Ideal S1x256 .f32) (r : Fin 2048) (l : Fin 256) :
    k1_pay9 (F := Ideal) (k1_pay4 i a b d w2 w0) (k1_pay6 i a b d) (FloatOps.ofBits FTy.f32 0#32) k1_pay7 w1 (ix2 r l)
      = dx (fun s => k1_pay1 (F := Ideal) i a b d (ix2 s l)) (w0 (ix2 0 l)) (w1 (ix2 0 l)) (w2 (ix2 0 l)) r := by
  have h : k1_pay8 (F := Ideal) (k1_pay6 i a b d) (FloatOps.ofBits FTy.f32 0#32) k1_pay7 (ix2 r l) = _ := pay8_at (k1_pay1 i a b d) r l
  unfold dx
  rw [← h, ← pay3b_at]
  pointwise [k1_pay9, k1_pay4]

theorem out5_at (c : Dev nD) (t : Fin cfg1.N) (r : Fin 2048) (l : Fin 256) (b : Fin 2) (J : Fin 22016) (hb : b.val = t.val % 2) (hJ : J.val = t.val / 2 * 256 + l.val) :
    (outsAt1 V c t.val t.isLt).1 (ix2 r l)
      = dx (dcol (V c main_v0_1) (V c main_v0_2) (V c main_arg3) b J) (V c main_arg1 (ix2 0 J)) (V c main_arg1 (ix2 1 J)) (V c main_arg1 (ix2 2 J)) r := by
  rw [← dblk V c t l b J hb hJ, ← wblk V c t l J hJ 0, ← wblk V c t l J hJ 1, ← wblk V c t l J hJ 2]
  by_cases h : t.val % 2 = 0
  · rw [outsAt1_A V c t h]; frame_out
    rw [pay9_at]
    pointwise
  · rw [outsAt1_B V c t h]; frame_out
    rw [pay9_at]
    pointwise

def DU (X : FVec Ideal S4096x22016 .f32) (W : FVec Ideal S3x22016 .f32) (M N C : FVec Ideal S4096x11008 .bf16) : FVec Ideal S4096x22016 .bf16 :=
  fun i => dx (dcol M N C (sq (i 0)) (i 1)) (W (ix2 0 (i 1))) (W (ix2 1 (i 1))) (W (ix2 2 (i 1))) (ps (i 0))
def DW (X : FVec Ideal S4096x22016 .f32) (M N C : FVec Ideal S4096x11008 .bf16) : FVec Ideal S3x22016 .f32 :=
  fun i => ∑ b : Fin 2, row (i 0).val (col X b (i 1)) (dcol M N C b (i 1))
def DB (M N C : FVec Ideal S4096x11008 .bf16) : FVec Ideal S1x22016 .f32 :=
  fun i => ∑ b : Fin 2, ∑ s : Fin 2048, dcol M N C b (i 1) s

theorem final5 (c : Dev nD) : (dat1 V c).arrAt 5 cfg1.N = DU (V c main_arg0) (V c main_arg1) (V c main_v0_1) (V c main_v0_2) (V c main_arg3) := by
  refine (dat1 V c).arrAt_eq_of_covers 5 _ (by decide +kernel) fun t _ y => ?_
  blk_simp
  rw [after1_5]
  have ht : t.val / 2 < 86 := (idx t).2.2.2.2.2.2.2.2.1
  have h2 : t.val % 2 < 2 := Nat.mod_lt _ (by decide)
  have he : ((cfg1.win 5).blk t).view.emb y = ix2 ⟨t.val % 2 * 2048 + (y 0).val, by have := (y 0).isLt; change (y 0).val < 2048 at this; omega⟩ ⟨t.val / 2 * 256 + (y 1).val, by have := (y 1).isLt; change (y 1).val < 256 at this; omega⟩ := by
    blk_ext [idx t]
  rw [he]
  obtain ⟨r, l, rfl⟩ : ∃ (r : Fin 2048) (l : Fin 256), y = ix2 r l := ⟨y 0, y 1, eq_ix2 y⟩
  rw [out5_at V c t r l ⟨t.val % 2, h2⟩ ⟨t.val / 2 * 256 + l.val, by omega⟩ rfl rfl]
  show _ = dx (dcol _ _ _ (sq ⟨t.val % 2 * 2048 + r.val, _⟩) ⟨t.val / 2 * 256 + l.val, _⟩) _ _ _ (ps ⟨t.val % 2 * 2048 + r.val, _⟩)
  rw [sq_at _ h2 r, ps_at _ h2 r]
  rfl

/-- What one point adds to row `k` of the weights' gradient. -/
def wpart (c : Dev nD) (t : Fin cfg1.N) (k : ℕ) (l : Fin 256) : EReal :=
  row k (fun s => iblk1 V c 0 t (ix2 s l)) (fun s => k1_pay1 (F := Ideal) (grid1.coords t) (iblk1 V c 2 t) (iblk1 V c 3 t) (iblk1 V c 4 t) (ix2 s l))

theorem pay12_row (i : grid1.Coords) (a b d : Vec Ideal S2048x256 .bf16) (x : Vec Ideal S2048x256 .f32) (p : Vec Ideal S1x256 .f32) (l : Fin 256) :
    k1_pay12 (F := Ideal) (k1_pay5 i a b d x) p (ix2 0 l) = p (ix2 0 l) + row 0 (fun s => x (ix2 s l)) (fun s => k1_pay1 (F := Ideal) i a b d (ix2 s l)) := by
  pointwise [k1_pay12]
  rw [pay5b_at]
  exact congrArg (p (ix2 0 l) + ·) (Finset.sum_congr rfl fun s _ => by rw [pay3b_at])

theorem pay13_row (i : grid1.Coords) (a b d : Vec Ideal S2048x256 .bf16) (x : Vec Ideal S2048x256 .f32) (p : Vec Ideal S1x256 .f32) (l : Fin 256) :
    k1_pay13 (F := Ideal) x (k1_pay6 i a b d) (FloatOps.ofBits FTy.f32 0#32) k1_pay7 p (ix2 0 l) = p (ix2 0 l) + row 1 (fun s => x (ix2 s l)) (fun s => k1_pay1 (F := Ideal) i a b d (ix2 s l)) :=
  pay13_at (k1_pay1 i a b d) x p l

theorem pay14_row (i : grid1.Coords) (a b d : Vec Ideal S2048x256 .bf16) (x : Vec Ideal S2048x256 .f32) (p : Vec Ideal S1x256 .f32) (l : Fin 256) :
    k1_pay14 (F := Ideal) (k1_pay2 i a b d x) p (ix2 0 l) = p (ix2 0 l) + row 2 (fun s => x (ix2 s l)) (fun s => k1_pay1 (F := Ideal) i a b d (ix2 s l)) := by
  pointwise [k1_pay14]
  rw [pay2_at]
  exact congrArg (p (ix2 0 l) + ·) (Finset.sum_congr rfl fun s _ => by rw [earlier_zero])

theorem idx1 (x : S1x256.Idx) : ∃ u : Fin 256, x = ix2 0 u :=
  ⟨x 1, (eq_ix2 x).trans (congrArg (fun a => ix2 a (x 1)) (Subsingleton.elim (α := Fin 1) _ _))⟩

theorem reset6 (c : Dev nD) (t : Fin cfg1.N) (h : t.val % 2 = 0) (r : Fin 3) (l : Fin 256) :
    (outsAt1 V c t.val t.isLt).2.1 (ix2 r l) = 0 + wpart V c t r.val l := by
  rw [outsAt1_A V c t h]; frame_out
  repeat first
    | rw [View.readCov_skip _ _ _ _ _ (by decide)]
    | rw [View.readCov_fill _ _ _ _ _ (by decide)]
  refine View.canon_append_of_piecesOf (Val := Elt Ideal) (e := .f32) (fun y : S3x256.Idx => (0 + wpart V c t (y 0).val (y 1) : EReal)) [_] [_, _, _]
    ⟨fun x => ?_, fun x => ?_, fun x => ?_, trivial⟩ (ix2 r l) ?_
  · obtain ⟨u, rfl⟩ := idx1 x
    have e : (Rect.unit (s := S3x256) ![2, 0] ![1, 256] inb_S3x256_S1x256_2_0).emb (ix2 0 u) = ix2 2 u :=
      funext fun a => by
        fin_cases a
        · rfl
        · exact Fin.ext (show 0 + 1 * u.val = u.val by omega)
    refine (pay14_row _ _ _ _ _ _ u).trans (Eq.trans ?_ (congrArg (fun y : S3x256.Idx => (0 + wpart V c t (y 0).val (y 1) : EReal)) e.symm))
    refine congrArg₂ (· + ·) ?_ rfl
    pointwise [k1_pay10]
  · obtain ⟨u, rfl⟩ := idx1 x
    have e : (Rect.unit (s := S3x256) ![1, 0] ![1, 256] inb_S3x256_S1x256_1_0).emb (ix2 0 u) = ix2 1 u :=
      funext fun a => by
        fin_cases a
        · rfl
        · exact Fin.ext (show 0 + 1 * u.val = u.val by omega)
    refine (pay13_row _ _ _ _ _ _ u).trans (Eq.trans ?_ (congrArg (fun y : S3x256.Idx => (0 + wpart V c t (y 0).val (y 1) : EReal)) e.symm))
    refine congrArg₂ (· + ·) ?_ rfl
    pointwise [k1_pay10]
  · obtain ⟨u, rfl⟩ := idx1 x
    have e : (Rect.unit (s := S3x256) ![0, 0] ![1, 256] inb_S3x256_S1x256_0_0).emb (ix2 0 u) = ix2 0 u :=
      funext fun a => by
        fin_cases a
        · rfl
        · exact Fin.ext (show 0 + 1 * u.val = u.val by omega)
    refine (pay12_row _ _ _ _ _ _ u).trans (Eq.trans ?_ (congrArg (fun y : S3x256.Idx => (0 + wpart V c t (y 0).val (y 1) : EReal)) e.symm))
    refine congrArg₂ (· + ·) ?_ rfl
    pointwise [k1_pay10]
  · exact View.cover_of_tiled _ ![1, 256] (by rfl) (ix2 r l)

theorem step6 (c : Dev nD) (t : Fin cfg1.N) (h : ¬ t.val % 2 = 0) (r : Fin 3) (l : Fin 256) :
    (outsAt1 V c t.val t.isLt).2.1 (ix2 r l) = (outsAt1 V c (t.val - 1) (Nat.lt_of_le_of_lt (Nat.sub_le _ _) t.isLt)).2.1 (ix2 r l) + wpart V c t r.val l := by
  rw [outsAt1_B V c t h]; frame_out
  canon_tiles x e
  · obtain ⟨u, rfl⟩ := idx1 x
    obtain rfl : l = u := Fin.ext e1
    obtain rfl : r = 2 := Fin.ext e0
    rw [pay14_row]
    pointwise
    rfl
  · obtain ⟨u, rfl⟩ := idx1 x
    obtain rfl : l = u := Fin.ext e1
    obtain rfl : r = 1 := Fin.ext e0
    rw [pay13_row]
    pointwise
    rfl
  · obtain ⟨u, rfl⟩ := idx1 x
    obtain rfl : l = u := Fin.ext e1
    obtain rfl : r = 0 := Fin.ext e0
    rw [pay12_row]
    pointwise
    rfl

theorem reset7 (c : Dev nD) (t : Fin cfg1.N) (h : t.val % 2 = 0) (l : Fin 256) :
    (outsAt1 V c t.val t.isLt).2.2 (ix2 0 l) = 0 + ∑ s : Fin 2048, k1_pay1 (F := Ideal) (grid1.coords t) (iblk1 V c 2 t) (iblk1 V c 3 t) (iblk1 V c 4 t) (ix2 s l) := by
  rw [outsAt1_A V c t h]; frame_out
  rw [pay15_at]
  pointwise [k1_pay11]

theorem step7 (c : Dev nD) (t : Fin cfg1.N) (h : ¬ t.val % 2 = 0) (l : Fin 256) :
    (outsAt1 V c t.val t.isLt).2.2 (ix2 0 l) = (outsAt1 V c (t.val - 1) (Nat.lt_of_le_of_lt (Nat.sub_le _ _) t.isLt)).2.2 (ix2 0 l)
      + ∑ s : Fin 2048, k1_pay1 (F := Ideal) (grid1.coords t) (iblk1 V c 2 t) (iblk1 V c 3 t) (iblk1 V c 4 t) (ix2 s l) := by
  rw [outsAt1_B V c t h]; frame_out
  rw [pay15_at]

theorem final6 (c : Dev nD) : (dat1 V c).arrAt 6 cfg1.N = DW (V c main_arg0) (V c main_v0_1) (V c main_v0_2) (V c main_arg3) := by
  refine (dat1 V c).arrAt_eq_of_covers 6 _ (by decide +kernel) fun t hf y => ?_
  blk_simp
  rw [after1_6]
  have ht : t.val / 2 < 86 := (idx t).2.2.2.2.2.2.2.2.1
  have he : ((cfg1.win 6).blk t).view.emb y = ix2 ⟨(y 0).val, (y 0).isLt⟩ ⟨t.val / 2 * 256 + (y 1).val, by have := (y 1).isLt; change (y 1).val < 256 at this; omega⟩ := by
    blk_ext [idx t]
  rw [he]
  obtain ⟨r, l, rfl⟩ : ∃ (r : Fin 3) (l : Fin 256), y = ix2 r l := ⟨y 0, y 1, eq_ix2 y⟩
  refine (Pipeline.eq_sum_fin_of_reset_step_apply_of_flush (fun n h => (outsAt1 V c n h).2.1) 2 (fun _ => 0) (fun t y => wpart V c t (y 0).val (y 1))
    (fun t h j => by rw [eq_ix2 j]; exact reset6 V c t h _ _) (fun t h j => by rw [eq_ix2 j]; exact step6 V c t h _ _) t ((flush1_6 t).mp hf) (ix2 r l)).trans ?_
  rw [zero_add]
  refine Fin.sum_fin_congr fun s => ?_
  have hp : ((⟨2 * (t.val / 2) + s.val, Pipeline.run_point_lt_of_flush t ((flush1_6 t).mp hf) s⟩ : Fin cfg1.N)).val = 2 * (t.val / 2) + s.val := rfl
  show row r.val _ _ = row r.val (col _ s ⟨t.val / 2 * 256 + l.val, _⟩) (dcol _ _ _ s ⟨t.val / 2 * 256 + l.val, _⟩)
  exact congrArg₂ (row r.val) (xblk V c ⟨2 * (t.val / 2) + s.val, Pipeline.run_point_lt_of_flush t ((flush1_6 t).mp hf) s⟩ l s ⟨t.val / 2 * 256 + l.val, by omega⟩ (by dsimp only; omega) (by dsimp only; omega))
    (dblk V c ⟨2 * (t.val / 2) + s.val, Pipeline.run_point_lt_of_flush t ((flush1_6 t).mp hf) s⟩ l s ⟨t.val / 2 * 256 + l.val, by omega⟩ (by dsimp only; omega) (by dsimp only; omega))

theorem final7 (c : Dev nD) : (dat1 V c).arrAt 7 cfg1.N = DB (V c main_v0_1) (V c main_v0_2) (V c main_arg3) := by
  refine (dat1 V c).arrAt_eq_of_covers 7 _ (by decide +kernel) fun t hf y => ?_
  blk_simp
  rw [after1_7]
  have ht : t.val / 2 < 86 := (idx t).2.2.2.2.2.2.2.2.1
  have he : ((cfg1.win 7).blk t).view.emb y = ix2 0 ⟨t.val / 2 * 256 + (y 1).val, by have := (y 1).isLt; change (y 1).val < 256 at this; omega⟩ := by
    blk_ext [idx t]
  rw [he]
  obtain ⟨l, rfl⟩ : ∃ l : Fin 256, y = ix2 0 l := idx1 y
  refine (Pipeline.eq_sum_fin_of_reset_step_apply_of_flush (fun n h => (outsAt1 V c n h).2.2) 2 (fun _ => 0)
    (fun t y => ∑ s : Fin 2048, k1_pay1 (F := Ideal) (grid1.coords t) (iblk1 V c 2 t) (iblk1 V c 3 t) (iblk1 V c 4 t) (ix2 s (y 1)))
    (fun t h j => by obtain ⟨u, rfl⟩ := idx1 j; exact reset7 V c t h u) (fun t h j => by obtain ⟨u, rfl⟩ := idx1 j; exact step7 V c t h u) t ((flush1_7 t).mp hf) (ix2 0 l)).trans ?_
  rw [zero_add]
  refine Fin.sum_fin_congr fun s => ?_
  show _ = ∑ q : Fin 2048, dcol _ _ _ s ⟨t.val / 2 * 256 + l.val, _⟩ q
  refine Finset.sum_congr rfl fun q _ => ?_
  exact congrFun (dblk V c ⟨2 * (t.val / 2) + s.val, Pipeline.run_point_lt_of_flush t ((flush1_7 t).mp hf) s⟩ l s ⟨t.val / 2 * 256 + l.val, by omega⟩ (by dsimp only; omega) (by dsimp only; omega)) q

end Cert.KernelIdeal.Bwd

end
-- ==== Proof.Run.lean ====
/- The program's run with every result array named: the two calls one after the other, each call's results a function of the
   arrays it reads, the second reading what the first left. -/
module

public import proofs.«01_k».proof.Proof.Bwd
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Two

open Cert.KernelIdeal Cert.KernelIdeal.Gen Cert.Col Cert.KernelIdeal.Fwd Cert.KernelIdeal.Bwd
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

/-- What the arguments hold at launch. -/
abbrev AX (c : Dev nD) : FVec Ideal S4096x22016 .f32 := m ((c.tc : Thread nD τ).loc main_arg0)
abbrev AW (c : Dev nD) : FVec Ideal S3x22016 .f32 := m ((c.tc : Thread nD τ).loc main_arg1)
abbrev AB (c : Dev nD) : FVec Ideal S1x22016 .f32 := m ((c.tc : Thread nD τ).loc main_arg2)
abbrev AD (c : Dev nD) : FVec Ideal S4096x11008 .bf16 := m ((c.tc : Thread nD τ).loc main_arg3)

def RA (c : Dev nD) : FVec Ideal S4096x11008 .bf16 := ACT (AX m c) (AW m c) (AB m c)
def RU (c : Dev nD) : FVec Ideal S4096x22016 .bf16 := DU (AX m c) (AW m c) (MG (AX m c) (AW m c) (AB m c)) (MV (AX m c) (AW m c) (AB m c)) (AD m c)
def RW (c : Dev nD) : FVec Ideal S3x22016 .f32 := DW (AX m c) (MG (AX m c) (AW m c) (AB m c)) (MV (AX m c) (AW m c) (AB m c)) (AD m c)
def RB (c : Dev nD) : FVec Ideal S1x22016 .f32 := DB (MG (AX m c) (AW m c) (AB m c)) (MV (AX m c) (AW m c) (AB m c)) (AD m c)

theorem v1_mg (c : Dev nD) : V1 m ρ c main_v0_1 = MG (AX m c) (AW m c) (AB m c) :=
  (hF0 m ρ c 7).symm.trans (Fwd.final7 (V0 m ρ) c)
theorem v1_mv (c : Dev nD) : V1 m ρ c main_v0_2 = MV (AX m c) (AW m c) (AB m c) :=
  (hF0 m ρ c 8).symm.trans (Fwd.final8 (V0 m ρ) c)
theorem v1_0 (c : Dev nD) : V1 m ρ c main_arg0 = AX m c := W1_args m ρ c main_arg0 (by decide)
theorem v1_1 (c : Dev nD) : V1 m ρ c main_arg1 = AW m c := W1_args m ρ c main_arg1 (by decide)
theorem v1_3 (c : Dev nD) : V1 m ρ c main_arg3 = AD m c := W1_args m ρ c main_arg3 (by decide)

theorem act_end (c : Dev nD) : W2 m ρ c (Proc.devRef .tc main_v0_0) = RA m c :=
  (W2_of_ne m ρ c main_v0_0 (by decide)).trans ((hF0 m ρ c 6).symm.trans (Fwd.final6 (V0 m ρ) c))
theorem du_end (c : Dev nD) : W2 m ρ c (Proc.devRef .tc main_v1_0) = RU m c :=
  (hF1 m ρ c 5).symm.trans ((Bwd.final5 (V1 m ρ) c).trans (by rw [v1_mg, v1_mv, v1_0, v1_1, v1_3]; rfl))
theorem dw_end (c : Dev nD) : W2 m ρ c (Proc.devRef .tc main_v1_1) = RW m c :=
  (hF1 m ρ c 6).symm.trans ((Bwd.final6 (V1 m ρ) c).trans (by rw [v1_mg, v1_mv, v1_0, v1_3]; rfl))
theorem db_end (c : Dev nD) : W2 m ρ c (Proc.devRef .tc main_v1_2) = RB m c :=
  (hF1 m ρ c 7).symm.trans ((Bwd.final7 (V1 m ρ) c).trans (by rw [v1_mg, v1_mv, v1_3]; rfl))

set_option backward.isDefEq.respectTransparency.types false in
/-- Every execution ends with the four results at these arrays, the arguments as launched. -/
theorem run : θ_run defs (onTc (τ := τ) (main (F := Ideal))) ⟨m, fun _ => 0, ρ⟩ (fun r => ∀ c : Dev nD,
      r.2.mem ((c.tc : Thread nD τ).loc main_v0_0) = RA m c
      ∧ r.2.mem ((c.tc : Thread nD τ).loc main_v1_0) = RU m c
      ∧ r.2.mem ((c.tc : Thread nD τ).loc main_v1_1) = RW m c
      ∧ r.2.mem ((c.tc : Thread nD τ).loc main_v1_2) = RB m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz c =>
      ⟨(h c _ (mem_uc main_v0_0 (by decide))).trans (act_end m ρ c),
       (h c _ (mem_uc main_v1_0 (by decide))).trans (du_end m ρ c),
       (h c _ (mem_uc main_v1_1 (by decide))).trans (dw_end m ρ c),
       (h c _ (mem_uc main_v1_2 (by decide))).trans (db_end m ρ c),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.Two

end
-- ==== Proof.Real.lean ====
/- What finiteness gives: on real entries the two ways of writing the gate's derivative agree. And the sum of a column
   against a shifted one, moved to the other column. -/
module

public import proofs.«01_k».proof.Proof.Col
public import Idealize.ShloMosaic.Lib.Pointwise

@[expose] public section

noncomputable section

open Idealize.ShloMosaic

namespace Cert.Col

/-- An entry that is a real number. -/
def IsR (a : EReal) : Prop := ∃ r : ℝ, a = (r : EReal)

theorem IsR.add {a b : EReal} : IsR a → IsR b → IsR (a + b) := by
  rintro ⟨r, rfl⟩ ⟨s, rfl⟩; exact ⟨r + s, (EReal.coe_add r s).symm⟩
theorem IsR.mul {a b : EReal} : IsR a → IsR b → IsR (a * b) := by
  rintro ⟨r, rfl⟩ ⟨s, rfl⟩; exact ⟨r * s, (EReal.coe_mul r s).symm⟩
theorem IsR.zero : IsR 0 := ⟨0, rfl⟩

theorem IsR.of_abs {a : EReal} (h : max a (-a) < ⊤) : IsR a := by
  induction a using EReal.rec with
  | bot => simp at h
  | top => simp at h
  | coe r => exact ⟨r, rfl⟩

theorem IsR.later {k : ℕ} {x : Fin 2048 → EReal} (h : ∀ s, IsR (x s)) (s : Fin 2048) : IsR (later k x s) := by
  unfold Col.later
  by_cases e : k ≤ s.val
  · rw [dif_pos e]; exact h _
  · rw [dif_neg e]; exact IsR.zero

theorem IsR.conv {x : Fin 2048 → EReal} {w0 w1 w2 b : EReal} (h : ∀ s, IsR (x s)) (h0 : IsR w0) (h1 : IsR w1) (h2 : IsR w2) (hb : IsR b)
    (s : Fin 2048) : IsR (conv x w0 w1 w2 b s) :=
  ((hb.add ((h s).mul h2)).add ((IsR.later h s).mul h0)).add ((IsR.later h s).mul h1)

theorem sg_real (r : ℝ) : sg (r : EReal) = ((1 / (1 + Real.exp (-r)) : ℝ) : EReal) := by
  unfold sg
  have hne : (1 + Real.exp (-r)) ≠ 0 := by have := Real.exp_pos (-r); linarith
  have e : (1 : EReal) + Ideal.exp (0 - (r : EReal)) = ((1 + Real.exp (-r) : ℝ) : EReal) := by
    rw [sub_eq_add_neg, zero_add, ← EReal.coe_neg, Ideal.exp_coe, EReal.coe_add]; rfl
  rw [e, Ideal.div_coe hne, one_mul]

/-- The gate's derivative: the product the kernel forms is the sum the product rule gives. -/
theorem gate_rule {d g v : EReal} (hd : IsR d) (hg : IsR g) (hv : IsR v) :
    d * v * sg g + g * (d * v) * (sg g * (1 - sg g)) = d * mg g v := by
  obtain ⟨d, rfl⟩ := hd
  obtain ⟨g, rfl⟩ := hg
  obtain ⟨v, rfl⟩ := hv
  unfold mg
  rw [sg_real]
  generalize (1 / (1 + Real.exp (-g)) : ℝ) = s
  rw [show (1 : EReal) = ((1 : ℝ) : EReal) from rfl]
  simp only [← EReal.coe_mul, ← EReal.coe_add, ← EReal.coe_sub]
  congr 1
  ring

/-- A column's numbers continued by zeros. -/
def ext (x : Fin 2048 → EReal) (n : ℕ) : EReal := if h : n < 2048 then x ⟨n, h⟩ else 0

theorem ext_val (x : Fin 2048 → EReal) (s : Fin 2048) : ext x s.val = x s := dif_pos s.isLt

/-- Shifting one factor later is shifting the other earlier. -/
theorem sum_later (k : ℕ) (hk : k ≤ 2048) (x d : Fin 2048 → EReal) : ∑ s, later k x s * d s = ∑ s, x s * earlier k d s := by
  have e1 : ∀ s : Fin 2048, later k x s * d s = (fun n => if k ≤ n then ext x (n - k) * ext d n else 0) s.val := by
    intro s
    have hs := s.isLt
    show _ = if k ≤ s.val then ext x (s.val - k) * ext d s.val else 0
    unfold later
    by_cases h : k ≤ s.val
    · rw [dif_pos h, if_pos h, ext_val]; unfold ext; rw [dif_pos (by omega)]
    · rw [dif_neg h, if_neg h, zero_mul]
  have e2 : ∀ s : Fin 2048, x s * earlier k d s = (fun n => ext x n * ext d (n + k)) s.val := by
    intro s
    show _ = ext x s.val * ext d (s.val + k)
    rw [ext_val]; rfl
  rw [Finset.sum_congr rfl fun s _ => e1 s, Finset.sum_congr rfl fun s _ => e2 s, Fin.sum_univ_eq_sum_range (fun n => if k ≤ n then ext x (n - k) * ext d n else 0), Fin.sum_univ_eq_sum_range (fun n => ext x n * ext d (n + k))]
  obtain ⟨q, hq⟩ : ∃ q, 2048 = k + q := ⟨2048 - k, by omega⟩
  have hl : ∑ n ∈ Finset.range 2048, (if k ≤ n then ext x (n - k) * ext d n else 0) = ∑ i ∈ Finset.range q, ext x i * ext d (i + k) := by
    rw [hq, Finset.sum_range_add, Finset.sum_eq_zero (s := Finset.range k), zero_add]
    · refine Finset.sum_congr rfl fun i _ => ?_
      rw [if_pos (by omega), show k + i - k = i by omega, Nat.add_comm k i]
    · intro i hi
      rw [if_neg (by have := Finset.mem_range.1 hi; omega)]
  have hr : ∑ n ∈ Finset.range 2048, ext x n * ext d (n + k) = ∑ i ∈ Finset.range q, ext x i * ext d (i + k) := by
    rw [hq, Nat.add_comm k q, Finset.sum_range_add, Finset.sum_eq_zero (s := Finset.range k), add_zero]
    intro i hi
    rw [show ext d (q + i + k) = 0 from dif_neg (by omega), mul_zero]
  rw [hl, hr]

end Cert.Col

end
-- ==== Proof.Rows.lean ====
/- Sums over the 4096 rows of one device, which are two sequences of 2048 positions. -/
module

public import Idealize.ShloMosaic.PureOps.Ideal
public import Idealize.ShloMosaic.Lib.Pointwise

@[expose] public section

namespace Cert.Rows

open Idealize.ShloMosaic

/-- A sum over the rows, sequence by sequence. -/
theorem sum_rows (f : Fin 4096 → EReal) : ∑ k, f k = ∑ x : Fin 2, ∑ y : Fin 2048, f ⟨x.val * 2048 + y.val, by omega⟩ := by
  rw [← Equiv.sum_comp (finProdFinEquiv (m := 2) (n := 2048)) f, Fintype.sum_prod_type]
  refine Finset.sum_congr rfl fun x _ => Finset.sum_congr rfl fun y _ => congrArg f (Fin.ext ?_)
  change y.val + 2048 * x.val = x.val * 2048 + y.val
  ring

/-- The entries a reduction of the two leading axes sums. -/
theorem sum01 {n0 n1 n2 : ℕ} {t : Shape} (h : (⟨3, ![n0, n1, n2]⟩ : Shape).ReducesTo [0, 1] t) (hr : t.rank = 1) (j : t.Idx) (q : Fin n2)
    (hq : (j ⟨0, by omega⟩).val = q.val) (v : (⟨3, ![n0, n1, n2]⟩ : Shape).Idx → EReal) :
    ∑ i ∈ Finset.univ.filter (fun i => h.drop i = j), v i = ∑ a : Fin n0, ∑ b : Fin n1, v (ix3 a b q) := by
  refine (Finset.sum_filter_eq_sum_of_fiber _ (fun k : Fin n0 × Fin n1 => ix3 k.1 k.2 q)
    (fun _ _ e => Prod.ext (congrFun e 0) (congrFun e 1)) (fun i => ?_) v).trans ?_
  · constructor
    · intro e
      refine ⟨(i 0, i 1), ?_⟩
      funext a; apply Fin.ext
      match a with
      | ⟨0, _⟩ => rfl
      | ⟨1, _⟩ => rfl
      | ⟨2, _⟩ => exact hq.symm.trans (congrArg Fin.val (congrFun e ⟨0, by omega⟩)).symm
    · rintro ⟨k, rfl⟩
      funext b
      apply Fin.ext
      match b with
      | ⟨0, _⟩ => exact hq.symm
      | ⟨_ + 1, hb⟩ => exact absurd hb (by omega)
  · simp only [Fintype.sum_prod_type]

end Cert.Rows
-- ==== Proof.Ref.lean ====
/- The reference's results read at an entry: the padded input, the convolution, the gate and its gradient, and the four
   results, each as a function of the columns. -/
module

public import proofs.«01_k».proof.Proof.Real
public import proofs.«01_k».proof.Proof.Rows
public import proofs.«01_k».proof.Proof.Fwd
public import proofs.«01_k».proof.Proof.Bwd
public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Side

open Cert.ReferenceIdeal Cert.ReferenceIdeal.Gen Cert.ReferenceIdeal.Value Cert.Col
open Cert.Rows (sum01)
open Cert.KernelIdeal.Fwd (col cv sq ps gch vch ACT MG MV)
open Cert.KernelIdeal.Bwd (dcol row DU DW DB)

def xp (X : FVec Ideal S4096x22016 .f32) : FVec Ideal S2x2050x22016 .f32 :=
  (fn_main_v3 (F := Ideal)) (broadcastInDim S2x2x22016 ![] bcast_S_S2x2x22016 (constant S_ .f32 0x00000000#32 : FVec Ideal S_ .f32) : FVec Ideal S2x2x22016 .f32) (shapeCast _ X shapeCasts_S4096x22016_S2x2048x22016 : FVec Ideal S2x2048x22016 .f32)
def s0 (X : FVec Ideal S4096x22016 .f32) : FVec Ideal S2x2048x22016 .f32 :=
  (extractStridedSlice S2x2048x22016 ![0, 0, 0] (xp X) slices_S2x2050x22016_S2x2048x22016_0_0_0)
def s1 (X : FVec Ideal S4096x22016 .f32) : FVec Ideal S2x2048x22016 .f32 :=
  (extractStridedSlice S2x2048x22016 ![0, 1, 0] (xp X) slices_S2x2050x22016_S2x2048x22016_0_1_0)
def s2 (X : FVec Ideal S4096x22016 .f32) : FVec Ideal S2x2048x22016 .f32 :=
  (extractStridedSlice S2x2048x22016 ![0, 2, 0] (xp X) slices_S2x2050x22016_S2x2048x22016_0_2_0)
def bc (B : FVec Ideal S1x22016 .f32) : FVec Ideal S2x2048x22016 .f32 :=
  (broadcastInDim S2x2048x22016 ![0, 1, 2] bcast_S1x1x22016_S2x2048x22016_0_1_2 (broadcastInDim S1x1x22016 ![2] bcast_S22016_S1x1x22016_2 (shapeCast _ B shapeCasts_S1x22016_S22016)))
def w0 (W : FVec Ideal S3x22016 .f32) : FVec Ideal S2x2048x22016 .f32 :=
  (broadcastInDim S2x2048x22016 ![0, 1, 2] bcast_S1x1x22016_S2x2048x22016_0_1_2 (broadcastInDim S1x1x22016 ![2] bcast_S22016_S1x1x22016_2 (shapeCast _ (extractStridedSlice S1x22016 ![0, 0] W slices_S3x22016_S1x22016_0_0) shapeCasts_S1x22016_S22016)))
def w1 (W : FVec Ideal S3x22016 .f32) : FVec Ideal S2x2048x22016 .f32 :=
  (broadcastInDim S2x2048x22016 ![0, 1, 2] bcast_S1x1x22016_S2x2048x22016_0_1_2 (broadcastInDim S1x1x22016 ![2] bcast_S22016_S1x1x22016_2 (shapeCast _ (extractStridedSlice S1x22016 ![1, 0] W slices_S3x22016_S1x22016_1_0) shapeCasts_S1x22016_S22016)))
def w2 (W : FVec Ideal S3x22016 .f32) : FVec Ideal S2x2048x22016 .f32 :=
  (broadcastInDim S2x2048x22016 ![0, 1, 2] bcast_S1x1x22016_S2x2048x22016_0_1_2 (broadcastInDim S1x1x22016 ![2] bcast_S22016_S1x1x22016_2 (shapeCast _ (extractStridedSlice S1x22016 ![2, 0] W slices_S3x22016_S1x22016_2_0) shapeCasts_S1x22016_S22016)))
def cvR (X : FVec Ideal S4096x22016 .f32) (W : FVec Ideal S3x22016 .f32) (B : FVec Ideal S1x22016 .f32) : FVec Ideal S2x2048x22016 .f32 :=
  (addf (addf (addf (bc B) (mulf (s0 X) (w0 W))) (mulf (s1 X) (w1 W))) (mulf (s2 X) (w2 W)))
def gt (X : FVec Ideal S4096x22016 .f32) (W : FVec Ideal S3x22016 .f32) (B : FVec Ideal S1x22016 .f32) : FVec Ideal S2x2048x11008 .f32 :=
  (extractStridedSlice S2x2048x11008 ![0, 0, 0] (cvR X W B) slices_S2x2048x22016_S2x2048x11008_0_0_0)
def vl (X : FVec Ideal S4096x22016 .f32) (W : FVec Ideal S3x22016 .f32) (B : FVec Ideal S1x22016 .f32) : FVec Ideal S2x2048x11008 .f32 :=
  (extractStridedSlice S2x2048x11008 ![0, 0, 11008] (cvR X W B) slices_S2x2048x22016_S2x2048x11008_0_0_11008)
def sgm (X : FVec Ideal S4096x22016 .f32) (W : FVec Ideal S3x22016 .f32) (B : FVec Ideal S1x22016 .f32) : FVec Ideal S2x2048x11008 .f32 :=
  (Host.divf ((broadcastInDim S2x2048x11008 ![] bcast_S_S2x2048x11008) (constant S_ .f32 0x3F800000#32)) (addf ((broadcastInDim S2x2048x11008 ![] bcast_S_S2x2048x11008) (constant S_ .f32 0x3F800000#32)) (Host.exp (Host.negf (gt X W B)))))
def dr (A : FVec Ideal S4096x11008 .bf16) : FVec Ideal S2x2048x11008 .f32 :=
  (shapeCast _ (extf .f32 A bitsLt_bf16_f32) shapeCasts_S4096x11008_S2x2048x11008)
def dgt (X : FVec Ideal S4096x22016 .f32) (W : FVec Ideal S3x22016 .f32) (B : FVec Ideal S1x22016 .f32) (A : FVec Ideal S4096x11008 .bf16) : FVec Ideal S2x2048x11008 .f32 :=
  (addf (mulf (mulf (dr A) (vl X W B)) (sgm X W B)) (mulf (mulf (gt X W B) (mulf (dr A) (vl X W B))) (mulf (sgm X W B) (subf ((broadcastInDim S2x2048x11008 ![] bcast_S_S2x2048x11008) (constant S_ .f32 0x3F800000#32)) (sgm X W B)))))
def dvl (X : FVec Ideal S4096x22016 .f32) (W : FVec Ideal S3x22016 .f32) (B : FVec Ideal S1x22016 .f32) (A : FVec Ideal S4096x11008 .bf16) : FVec Ideal S2x2048x11008 .f32 :=
  (mulf (mulf (gt X W B) (sgm X W B)) (dr A))
def DR (X : FVec Ideal S4096x22016 .f32) (W : FVec Ideal S3x22016 .f32) (B : FVec Ideal S1x22016 .f32) (A : FVec Ideal S4096x11008 .bf16) : FVec Ideal S2x2048x22016 .f32 :=
  ((fn_main_v37 (F := Ideal)) (dgt X W B A) (dvl X W B A))
def outA (X : FVec Ideal S4096x22016 .f32) (W : FVec Ideal S3x22016 .f32) (B : FVec Ideal S1x22016 .f32) : FVec Ideal S4096x11008 .bf16 :=
  (truncf .bf16 (shapeCast _ (mulf (mulf (gt X W B) (sgm X W B)) (vl X W B)) shapeCasts_S2x2048x11008_S4096x11008) bitsLt_bf16_f32)
def outU (X : FVec Ideal S4096x22016 .f32) (W : FVec Ideal S3x22016 .f32) (B : FVec Ideal S1x22016 .f32) (A : FVec Ideal S4096x11008 .bf16) : FVec Ideal S4096x22016 .bf16 :=
  (truncf .bf16 (shapeCast _ (extractStridedSlice S2x2048x22016 ![0, 2, 0] (addf (addf (pad S2x2050x22016 ![0, 2, 0] ![0, 0, 0] ![0, 0, 0] (mulf (DR X W B A) (w2 W)) (constant S_ .f32 0x00000000#32) pads_S2x2048x22016_S2x2050x22016_000_200_000 h_S_) (pad S2x2050x22016 ![0, 1, 0] ![0, 1, 0] ![0, 0, 0] (mulf (DR X W B A) (w1 W)) (constant S_ .f32 0x00000000#32) pads_S2x2048x22016_S2x2050x22016_000_110_000 h_S_)) (pad S2x2050x22016 ![0, 0, 0] ![0, 2, 0] ![0, 0, 0] (mulf (DR X W B A) (w0 W)) (constant S_ .f32 0x00000000#32) pads_S2x2048x22016_S2x2050x22016_000_020_000 h_S_)) slices_S2x2050x22016_S2x2048x22016_0_2_0) shapeCasts_S2x2048x22016_S4096x22016) bitsLt_bf16_f32)
def outW (X : FVec Ideal S4096x22016 .f32) (W : FVec Ideal S3x22016 .f32) (B : FVec Ideal S1x22016 .f32) (A : FVec Ideal S4096x11008 .bf16) : FVec Ideal S3x22016 .f32 :=
  (addf (addf (pad S3x22016 ![2, 0] ![0, 0] ![0, 0] (broadcastInDim S1x22016 ![1] bcast_S22016_S1x22016_1 (Host.reduceAdd (shapeCast _ (Host.reduceAdd (mulf (s2 X) (DR X W B A)) (constant S_ .f32 0x00000000#32) reducesTo_S2x2048x22016_S22016_d0_1 h_S_) shapeCasts_S22016_S1x1x22016) (constant S_ .f32 0x00000000#32) reducesTo_S1x1x22016_S22016_d0_1 h_S_)) (constant S_ .f32 0x00000000#32) pads_S1x22016_S3x22016_200_000 h_S_) (pad S3x22016 ![1, 0] ![1, 0] ![0, 0] (broadcastInDim S1x22016 ![1] bcast_S22016_S1x22016_1 (Host.reduceAdd (shapeCast _ (Host.reduceAdd (mulf (s1 X) (DR X W B A)) (constant S_ .f32 0x00000000#32) reducesTo_S2x2048x22016_S22016_d0_1 h_S_) shapeCasts_S22016_S1x1x22016) (constant S_ .f32 0x00000000#32) reducesTo_S1x1x22016_S22016_d0_1 h_S_)) (constant S_ .f32 0x00000000#32) pads_S1x22016_S3x22016_110_000 h_S_)) (pad S3x22016 ![0, 0] ![2, 0] ![0, 0] (broadcastInDim S1x22016 ![1] bcast_S22016_S1x22016_1 (Host.reduceAdd (shapeCast _ (Host.reduceAdd (mulf (s0 X) (DR X W B A)) (constant S_ .f32 0x00000000#32) reducesTo_S2x2048x22016_S22016_d0_1 h_S_) shapeCasts_S22016_S1x1x22016) (constant S_ .f32 0x00000000#32) reducesTo_S1x1x22016_S22016_d0_1 h_S_)) (constant S_ .f32 0x00000000#32) pads_S1x22016_S3x22016_020_000 h_S_))
def outB (X : FVec Ideal S4096x22016 .f32) (W : FVec Ideal S3x22016 .f32) (B : FVec Ideal S1x22016 .f32) (A : FVec Ideal S4096x11008 .bf16) : FVec Ideal S1x22016 .f32 :=
  (shapeCast _ (Host.reduceAdd (shapeCast _ (Host.reduceAdd (DR X W B A) (constant S_ .f32 0x00000000#32) reducesTo_S2x2048x22016_S22016_d0_1 h_S_) shapeCasts_S22016_S1x1x22016) (constant S_ .f32 0x00000000#32) reducesTo_S1x1x22016_S22016_d0_1 h_S_) shapeCasts_S22016_S1x22016)

variable (m : (ℓ : Loc nD τ sig) → Buf (Elt Ideal) ℓ) (c : Dev nD)

theorem res75 : res_main_v75 m c = outA (m ((c.tc : Thread nD τ).loc main_arg0)) (m ((c.tc : Thread nD τ).loc main_arg1)) (m ((c.tc : Thread nD τ).loc main_arg2)) := by
  unfold res_main_v75; rfl
theorem res77 : res_main_v77 m c = outU (m ((c.tc : Thread nD τ).loc main_arg0)) (m ((c.tc : Thread nD τ).loc main_arg1)) (m ((c.tc : Thread nD τ).loc main_arg2)) (m ((c.tc : Thread nD τ).loc main_arg3)) := by
  unfold res_main_v77; rfl
theorem res69 : res_main_v69 m c = outW (m ((c.tc : Thread nD τ).loc main_arg0)) (m ((c.tc : Thread nD τ).loc main_arg1)) (m ((c.tc : Thread nD τ).loc main_arg2)) (m ((c.tc : Thread nD τ).loc main_arg3)) := by
  unfold res_main_v69; rfl
theorem res78 : res_main_v78 m c = outB (m ((c.tc : Thread nD τ).loc main_arg0)) (m ((c.tc : Thread nD τ).loc main_arg1)) (m ((c.tc : Thread nD τ).loc main_arg2)) (m ((c.tc : Thread nD τ).loc main_arg3)) := by
  unfold res_main_v78; rfl

variable (X : FVec Ideal S4096x22016 .f32) (W : FVec Ideal S3x22016 .f32) (B : FVec Ideal S1x22016 .f32) (A : FVec Ideal S4096x11008 .bf16)

theorem s0_at (b : Fin 2) (s : Fin 2048) (j : Fin 22016) : s0 X (ix3 b s j) = later 2 (col X b j) s := by
  pointwise [s0, xp, fn_main_v3]
  unfold later
  by_cases e : 2 ≤ s.val
  · rw [dif_neg (by omega), dif_pos e]; rfl
  · rw [dif_pos (by omega), dif_neg e]
theorem s1_at (b : Fin 2) (s : Fin 2048) (j : Fin 22016) : s1 X (ix3 b s j) = later 1 (col X b j) s := by
  pointwise [s1, xp, fn_main_v3]
  unfold later
  by_cases e : 1 ≤ s.val
  · rw [dif_neg (by omega), dif_pos e]
    exact congrArg X ((ix2_inj ..).2 ⟨Fin.ext (show b.val * 2048 + (1 + s.val - 2) = b.val * 2048 + (s.val - 1) by omega), rfl⟩)
  · rw [dif_pos (by omega), dif_neg e]
theorem s2_at (b : Fin 2) (s : Fin 2048) (j : Fin 22016) : s2 X (ix3 b s j) = col X b j s := by
  pointwise [s2, xp, fn_main_v3]
  rfl
theorem bc_at (b : Fin 2) (s : Fin 2048) (j : Fin 22016) : bc B (ix3 b s j) = B (ix2 0 j) := by
  pointwise [bc]
theorem w0_at (b : Fin 2) (s : Fin 2048) (j : Fin 22016) : w0 W (ix3 b s j) = W (ix2 0 j) := by
  pointwise [w0]
theorem w1_at (b : Fin 2) (s : Fin 2048) (j : Fin 22016) : w1 W (ix3 b s j) = W (ix2 1 j) := by
  pointwise [w1]
theorem w2_at (b : Fin 2) (s : Fin 2048) (j : Fin 22016) : w2 W (ix3 b s j) = W (ix2 2 j) := by
  pointwise [w2]
theorem cvR_at (b : Fin 2) (s : Fin 2048) (j : Fin 22016) : cvR X W B (ix3 b s j) = cv X W B b j s := by
  show bc B (ix3 b s j) + s0 X (ix3 b s j) * w0 W (ix3 b s j) + s1 X (ix3 b s j) * w1 W (ix3 b s j) + s2 X (ix3 b s j) * w2 W (ix3 b s j) = _
  rw [bc_at, s0_at, s1_at, s2_at, w0_at, w1_at, w2_at]
  unfold cv conv
  ac_nf
theorem gt_at (b : Fin 2) (s : Fin 2048) (j : Fin 11008) : gt X W B (ix3 b s j) = cv X W B b (gch j) s := by
  have h : gt X W B (ix3 b s j) = cvR X W B (ix3 b s (gch j)) := by
    pointwise [gt]
    rfl
  rw [h, cvR_at]
theorem vl_at (b : Fin 2) (s : Fin 2048) (j : Fin 11008) : vl X W B (ix3 b s j) = cv X W B b (vch j) s := by
  have h : vl X W B (ix3 b s j) = cvR X W B (ix3 b s (vch j)) := by
    pointwise [vl]
    exact congrArg (cvR X W B) ((ix3_inj ..).2 ⟨rfl, rfl, Fin.ext (by show 11008 + j.val = _; rfl)⟩)
  rw [h, cvR_at]
theorem sgm_at (b : Fin 2) (s : Fin 2048) (j : Fin 11008) : sgm X W B (ix3 b s j) = sg (cv X W B b (gch j) s) := by
  rw [← gt_at]
  pointwise [sgm, sg]
  rw [sub_eq_add_neg, zero_add]
theorem dr_at (b : Fin 2) (s : Fin 2048) (j : Fin 11008) : dr A (ix3 b s j) = A (ix2 ⟨b.val * 2048 + s.val, by omega⟩ j) := by
  pointwise [dr]
theorem dvl_at (b : Fin 2) (s : Fin 2048) (j : Fin 11008) :
    dvl X W B A (ix3 b s j) = A (ix2 ⟨b.val * 2048 + s.val, by omega⟩ j) * mv (cv X W B b (gch j) s) := by
  show gt X W B (ix3 b s j) * sgm X W B (ix3 b s j) * dr A (ix3 b s j) = _
  rw [gt_at, sgm_at, dr_at, mul_comm]; rfl
theorem dgt_at (b : Fin 2) (s : Fin 2048) (j : Fin 11008) :
    dgt X W B A (ix3 b s j) = A (ix2 ⟨b.val * 2048 + s.val, by omega⟩ j) * cv X W B b (vch j) s * sg (cv X W B b (gch j) s)
      + cv X W B b (gch j) s * (A (ix2 ⟨b.val * 2048 + s.val, by omega⟩ j) * cv X W B b (vch j) s) * (sg (cv X W B b (gch j) s) * (1 - sg (cv X W B b (gch j) s))) := by
  show dr A (ix3 b s j) * vl X W B (ix3 b s j) * sgm X W B (ix3 b s j) + gt X W B (ix3 b s j) * (dr A (ix3 b s j) * vl X W B (ix3 b s j)) * (sgm X W B (ix3 b s j) * ((broadcastInDim S2x2048x11008 ![] bcast_S_S2x2048x11008 (constant S_ .f32 0x3F800000#32 : FVec Ideal S_ .f32) : FVec Ideal S2x2048x11008 .f32) (ix3 b s j) - sgm X W B (ix3 b s j))) = _
  rw [gt_at, vl_at, sgm_at, dr_at]
  pointwise

theorem red_at (v : FVec Ideal S2x2048x22016 .f32) (j : Fin 22016) :
    (Host.reduceAdd v (constant S_ .f32 0x00000000#32 : FVec Ideal S_ .f32) reducesTo_S2x2048x22016_S22016_d0_1 h_S_ : FVec Ideal S22016 .f32) (ix1 j)
      = ∑ b : Fin 2, ∑ s : Fin 2048, v (ix3 b s j) := by
  have e : ∀ z : EReal, z = 0 → (z + ∑ i ∈ Finset.univ.filter (fun i => reducesTo_S2x2048x22016_S22016_d0_1.drop i = ix1 j), v i : EReal) = ∑ b : Fin 2, ∑ s : Fin 2048, v (ix3 b s j) := by
    intro z hz
    rw [hz, zero_add]
    exact sum01 reducesTo_S2x2048x22016_S22016_d0_1 rfl (ix1 j) j rfl v
  refine e _ ?_
  pointwise

theorem red1_at (v : FVec Ideal S1x1x22016 .f32) (j : Fin 22016) :
    (Host.reduceAdd v (constant S_ .f32 0x00000000#32 : FVec Ideal S_ .f32) reducesTo_S1x1x22016_S22016_d0_1 h_S_ : FVec Ideal S22016 .f32) (ix1 j)
      = v (ix3 0 0 j) := by
  have e : ∀ z : EReal, z = 0 → (z + ∑ i ∈ Finset.univ.filter (fun i => reducesTo_S1x1x22016_S22016_d0_1.drop i = ix1 j), v i : EReal) = v (ix3 0 0 j) := by
    intro z hz
    rw [hz, zero_add, sum01 reducesTo_S1x1x22016_S22016_d0_1 rfl (ix1 j) j rfl v, Fin.sum_univ_one, Fin.sum_univ_one]
  refine e _ ?_
  pointwise

/-- The entries are real numbers. -/
structure Fin4 : Prop where
  x : ∀ i, IsR (X i)
  w : ∀ i, IsR (W i)
  b : ∀ i, IsR (B i)
  a : ∀ i, IsR (A i)

variable {X W B A}
theorem cv_real (h : Fin4 X W B A) (b : Fin 2) (j : Fin 22016) (s : Fin 2048) : IsR (cv X W B b j s) :=
  IsR.conv (fun _ => h.x _) (h.w _) (h.w _) (h.w _) (h.b _) s

theorem MG_at (b : Fin 2) (s : Fin 2048) (j : Fin 11008) :
    MG X W B (ix2 ⟨b.val * 2048 + s.val, by omega⟩ j) = mg (cv X W B b (gch j) s) (cv X W B b (vch j) s) := by
  show mg (cv X W B (sq ⟨b.val * 2048 + s.val, by omega⟩) (gch j) (ps ⟨b.val * 2048 + s.val, by omega⟩)) (cv X W B (sq ⟨b.val * 2048 + s.val, by omega⟩) (vch j) (ps ⟨b.val * 2048 + s.val, by omega⟩)) = _
  rw [Cert.KernelIdeal.Fwd.sq_at b.val b.isLt s, Cert.KernelIdeal.Fwd.ps_at b.val b.isLt s]
theorem MV_at (b : Fin 2) (s : Fin 2048) (j : Fin 11008) :
    MV X W B (ix2 ⟨b.val * 2048 + s.val, by omega⟩ j) = mv (cv X W B b (gch j) s) := by
  show mv (cv X W B (sq ⟨b.val * 2048 + s.val, by omega⟩) (gch j) (ps ⟨b.val * 2048 + s.val, by omega⟩)) = _
  rw [Cert.KernelIdeal.Fwd.sq_at b.val b.isLt s, Cert.KernelIdeal.Fwd.ps_at b.val b.isLt s]

theorem DR_at (h : Fin4 X W B A) (b : Fin 2) (s : Fin 2048) (J : Fin 22016) :
    DR X W B A (ix3 b s J) = dcol (MG X W B) (MV X W B) A b J s := by
  have hJ := J.isLt
  by_cases e : J.val < 11008
  · have r : DR X W B A (ix3 b s J) = dgt X W B A (ix3 b s ⟨J.val, e⟩) := by
      pointwise [DR, fn_main_v37]
      rw [dif_pos e]
    rw [r, dgt_at, gate_rule (h.a _) (cv_real h _ _ _) (cv_real h _ _ _)]
    unfold Cert.KernelIdeal.Bwd.dcol
    rw [if_pos e]
    have q : (⟨J.val % 11008, by omega⟩ : Fin 11008) = ⟨J.val, e⟩ := Fin.ext (Nat.mod_eq_of_lt e)
    rw [q, MG_at]
  · have r : DR X W B A (ix3 b s J) = dvl X W B A (ix3 b s ⟨J.val - 11008, by omega⟩) := by
      pointwise [DR, fn_main_v37]
      rw [dif_neg e]
    rw [r, dvl_at]
    unfold Cert.KernelIdeal.Bwd.dcol
    rw [if_neg e]
    have q : (⟨J.val % 11008, by omega⟩ : Fin 11008) = ⟨J.val - 11008, by omega⟩ := Fin.ext (show J.val % 11008 = J.val - 11008 by omega)
    rw [q, MV_at]

theorem outA_eq : outA X W B = ACT X W B := by
  funext i
  idx_vars i
  pointwise [outA]
  rw [gt_at, sgm_at, vl_at]
  rfl

theorem tot_at (v : FVec Ideal S2x2048x22016 .f32) (j : Fin 22016) :
    Ideal.hostReduceAdd reducesTo_S1x1x22016_S22016_d0_1
      (shapeCast S1x1x22016 (Host.reduceAdd v (constant S_ .f32 0x00000000#32 : FVec Ideal S_ .f32) reducesTo_S2x2048x22016_S22016_d0_1 h_S_ : FVec Ideal S22016 .f32) shapeCasts_S22016_S1x1x22016)
      0 (ix1 j) = ∑ b : Fin 2, ∑ s : Fin 2048, v (ix3 b s j) := by
  rw [← red_at]
  have e : ∀ u : FVec Ideal S22016 .f32, (0 + ∑ i ∈ Finset.univ.filter (fun i => reducesTo_S1x1x22016_S22016_d0_1.drop i = ix1 j), (shapeCast S1x1x22016 u shapeCasts_S22016_S1x1x22016) i : EReal) = u (ix1 j) := by
    intro u
    rw [zero_add, sum01 reducesTo_S1x1x22016_S22016_d0_1 rfl (ix1 j) j rfl (shapeCast S1x1x22016 u shapeCasts_S22016_S1x1x22016), Fin.sum_univ_one, Fin.sum_univ_one]
    pointwise
  exact e _

theorem outB_eq (h : Fin4 X W B A) : outB X W B A = DB (MG X W B) (MV X W B) A := by
  funext i
  idx_vars i
  pointwise [outB]
  rw [tot_at]
  exact Finset.sum_congr rfl fun b _ => Finset.sum_congr rfl fun s _ => DR_at h b s i1

theorem row_eq (h : Fin4 X W B A) (k : ℕ) (hk : k ≤ 2) (v : FVec Ideal S2x2048x22016 .f32) (j : Fin 22016)
    (hv : ∀ b s, v (ix3 b s j) = later (2 - k) (col X b j) s) :
    ∑ b : Fin 2, ∑ s : Fin 2048, (mulf v (DR X W B A)) (ix3 b s j) = ∑ b : Fin 2, row k (col X b j) (dcol (MG X W B) (MV X W B) A b j) := by
  refine Finset.sum_congr rfl fun b _ => ?_
  refine Eq.trans (Finset.sum_congr rfl fun s _ => ?_) (sum_later (2 - k) (by omega) (col X b j) (dcol (MG X W B) (MV X W B) A b j))
  show v (ix3 b s j) * DR X W B A (ix3 b s j) = _
  rw [hv, DR_at h]

theorem outW_eq (h : Fin4 X W B A) : outW X W B A = DW X (MG X W B) (MV X W B) A := by
  funext i
  idx_vars i
  pointwise [outW]
  rw [tot_at, tot_at, tot_at, row_eq h 0 (by omega) (s0 X) i1 (fun b s => s0_at X b s i1), row_eq h 1 (by omega) (s1 X) i1 (fun b s => s1_at X b s i1),
    row_eq h 2 (by omega) (s2 X) i1 (fun b s => (s2_at X b s i1).trans (by unfold later; rw [dif_pos (by omega)]; rfl))]
  show _ = ∑ b : Fin 2, row i0.val (col X b i1) (dcol (MG X W B) (MV X W B) A b i1)
  obtain ⟨k, hk⟩ := i0
  match k, hk with
  | 0, _ => rw [dif_neg (by simp), dif_neg (by simp), dif_pos (by simp), add_zero, zero_add]
  | 1, _ => rw [dif_neg (by simp), dif_pos (by simp), dif_neg (by simp), add_zero, zero_add]
  | 2, _ => rw [dif_pos (by simp), dif_neg (by simp), dif_neg (by simp), add_zero, add_zero]

theorem dx_order (d : Fin 2048 → EReal) (a0 a1 a2 : EReal) (p : Fin 2048) :
    d p * a2 + earlier 1 d p * a1 + earlier 2 d p * a0 = dx d a0 a1 a2 p := add_right_comm _ _ _

theorem pad_at (k : ℕ) (d : Fin 2048 → EReal) (f : Fin 2048 → EReal) (w : EReal) (hf : ∀ s, f s = d s * w) (p : Fin 2048) (q : ℕ) (hq : q = p.val + k)
    (P : Prop) [Decidable P] (hP : P ↔ q < 2048) : (if h : P then f ⟨q, hP.1 h⟩ else 0) = earlier k d p * w := by
  subst hq
  unfold earlier
  by_cases e : p.val + k < 2048
  · rw [dif_pos (hP.2 e), dif_pos e, hf]
  · rw [dif_neg (fun h => e (hP.1 h)), dif_neg e, zero_mul]

theorem outU_eq (h : Fin4 X W B A) : outU X W B A = DU X W (MG X W B) (MV X W B) A := by
  funext i
  idx_vars i
  pointwise [outU]
  have h0 := i0.isLt
  have hs : ∀ s : Fin 2048, DR X W B A (ix3 (sq i0) s i1) * w0 W (ix3 (sq i0) s i1) = dcol (MG X W B) (MV X W B) A (sq i0) i1 s * W (ix2 0 i1) :=
    fun s => by rw [DR_at h, w0_at]
  have hs1 : ∀ s : Fin 2048, DR X W B A (ix3 (sq i0) s i1) * w1 W (ix3 (sq i0) s i1) = dcol (MG X W B) (MV X W B) A (sq i0) i1 s * W (ix2 1 i1) :=
    fun s => by rw [DR_at h, w1_at]
  have hs2 : ∀ s : Fin 2048, DR X W B A (ix3 (sq i0) s i1) * w2 W (ix3 (sq i0) s i1) = dcol (MG X W B) (MV X W B) A (sq i0) i1 s * W (ix2 2 i1) :=
    fun s => by rw [DR_at h, w2_at]
  refine Eq.trans (congrArg₂ (· + ·) (congrArg₂ (· + ·) ?_ ?_) ?_) (dx_order (dcol (MG X W B) (MV X W B) A (sq i0) i1) (W (ix2 0 i1)) (W (ix2 1 i1)) (W (ix2 2 i1)) (ps i0))
  · rw [dif_pos (by omega)]; exact hs2 (ps i0)
  · exact pad_at 1 _ _ _ hs1 (ps i0) (2 + i0.val % 2048 - 1) (by show _ = i0.val % 2048 + 1; omega) _ (by omega)
  · exact pad_at 2 _ _ _ hs (ps i0) (2 + i0.val % 2048) (by show _ = i0.val % 2048 + 2; omega) _ (by omega)

end Cert.ReferenceIdeal.Side

end
-- ==== Proof.Pre.lean ====
/- The precondition read: every argument's entries are real numbers. -/
module

public import proofs.«01_k».proof.Defs
public import proofs.«01_k».proof.Proof.Gen.KernelIdeal
public import proofs.«01_k».proof.Proof.Gen.ReferenceIdeal
public import proofs.«01_k».proof.Proof.Real
public import Idealize.ShloMosaic.Lib.ReduceAll
public import Idealize.ShloMosaic.Lib.Pointwise

@[expose] public section

set_option maxRecDepth 16384

noncomputable section

open Idealize.ShloMosaic Idealize.ShloMosaic.TcCoe Idealize.SL.Sem

namespace Cert.Pre_finite

instance facts : Cert.Pre_finite.Facts where
  bcast_S_S4096x22016 := by decide
  reducesTo_S4096x22016_S_d0_1 := by decide
  h_S_ := by decide
  bcast_S_S3x22016 := by decide
  reducesTo_S3x22016_S_d0_1 := by decide
  bcast_S_S1x22016 := by decide
  reducesTo_S1x22016_S_d0_1 := by decide
  bitsLt_bf16_f32 := by decide
  bcast_S_S4096x11008 := by decide
  reducesTo_S4096x11008_S_d0_1 := by decide

open Cert.Col

theorem inf_top : Ideal.ofBits .f32 0x7F800000#32 = (⊤ : EReal) := by
  show Ideal.ieee 8 23 0x7F800000#32 = _
  unfold Ideal.ieee
  simp

instance : Subsingleton S_.Idx := ⟨fun a b => funext fun i => i.elim0⟩

theorem one_real (a : EReal) (h : Ideal.cmp .olt (max a (-a)) (Ideal.ofBits .f32 0x7F800000#32) = 1#1) : IsR a := by
  refine IsR.of_abs ?_
  rw [inf_top] at h
  by_contra e
  unfold Ideal.cmp at h
  simp only [decide_eq_false e] at h
  exact absurd h (by decide)

theorem finite_real (x : FVec Ideal S4096x22016 .f32) (w : FVec Ideal S3x22016 .f32) (b : FVec Ideal S1x22016 .f32) (a : FVec Ideal S4096x11008 .bf16)
    (h : fn (F := Ideal) x w b a = fun _ => 1#1) : (∀ i, IsR (x i)) ∧ (∀ i, IsR (w i)) ∧ (∀ i, IsR (b i)) ∧ (∀ i, IsR (a i)) := by
  have h' := congrFun h (fun i => i.elim0)
  unfold fn fn_part1 at h'
  obtain ⟨h3, h4⟩ := IntOp.andi_eq_one.1 h'
  obtain ⟨h2, h3⟩ := IntOp.andi_eq_one.1 h3
  obtain ⟨h1, h2⟩ := IntOp.andi_eq_one.1 h2
  exact ⟨fun i => one_real _ (Host.reduce_andi_all _ _ _ _ _ h1 i), fun i => one_real _ (Host.reduce_andi_all _ _ _ _ _ h2 i),
    fun i => one_real _ (Host.reduce_andi_all _ _ _ _ _ h3 i), fun i => one_real _ (Host.reduce_andi_all _ _ _ _ _ h4 i)⟩

end Cert.Pre_finite

end
-- ==== Proof.Ffn.lean ====
/- The gate and its gradient: the kernel's four results are the reference's, given that every entry is finite. -/
module

public import proofs.«01_k».proof.Defs
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Ref
public import proofs.«01_k».proof.Proof.Pre
public import Idealize.ShloMosaic.Lib.Quiescent

@[expose] public section

noncomputable section

namespace Cert.Ffn

open Idealize.ShloMosaic Idealize.SL.Sem

theorem frame_r (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2.2, Idealize.ShloMosaic.sem_eq_zero_of_no_sems (by decide) r.2⟩) (Cert.ReferenceIdeal.Value.run m g)

theorem value : Cert.algebraic_KernelIdeal_ReferenceIdeal_pre_finite := by
  intro m g m' g' hpre hag
  have hf : ∀ c, Cert.ReferenceIdeal.Side.Fin4 (Cert.KernelIdeal.Two.AX m c) (Cert.KernelIdeal.Two.AW m c) (Cert.KernelIdeal.Two.AB m c) (Cert.KernelIdeal.Two.AD m c) := by
    intro c
    obtain ⟨h0, h1, h2, h3⟩ := Cert.Pre_finite.finite_real _ _ _ _ (hpre c)
    exact ⟨h0, h1, h2, h3⟩
  refine ⟨Cert.KernelIdeal.Two.RA m, Cert.KernelIdeal.Two.RU m, Cert.KernelIdeal.Two.RW m, Cert.KernelIdeal.Two.RB m, Cert.KernelIdeal.Two.run m g,
    (θ_run _ _ _).mono (fun r h c => ?_) (Cert.ReferenceIdeal.Value.run m' g')⟩
  obtain ⟨e0, e1, e2, e3, ea⟩ := h c
  obtain ⟨a0, a1, a2, a3⟩ := hag c
  rw [Cert.ReferenceIdeal.Side.res75, a0, a1, a2] at e0
  rw [Cert.ReferenceIdeal.Side.res77, a0, a1, a2, a3] at e1
  rw [Cert.ReferenceIdeal.Side.res69, a0, a1, a2, a3] at e2
  rw [Cert.ReferenceIdeal.Side.res78, a0, a1, a2, a3] at e3
  exact ⟨e0.trans Cert.ReferenceIdeal.Side.outA_eq, e1.trans (Cert.ReferenceIdeal.Side.outU_eq (hf c)), e2.trans (Cert.ReferenceIdeal.Side.outW_eq (hf c)),
    e3.trans (Cert.ReferenceIdeal.Side.outB_eq (hf c)), ea⟩

end Cert.Ffn

end
-- ==== Proof.DHn2.lean ====
/- The gradient through the up-projection: the array the kernel leaves, block by block, is one sum over the contracted axis, and so is the reference's. -/
module

public import proofs.«01_k».proof.Defs
public import proofs.«01_k».proof.Proof.Gen.KernelDHn2Ideal.Frame
public import proofs.«01_k».proof.Proof.Gen.ReferenceDHn2Ideal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelDHn2Ideal.Prod

open Cert.KernelDHn2Ideal Cert.KernelDHn2Ideal.Gen

variable (m : (ℓ : Loc nD τ sig) → Buf (Elt Ideal) ℓ)

theorem idx : ∀ t : Fin cfg0.N, win0_0.index t = ![t.val / 172, t.val % 43] ∧ win0_1.index t = ![t.val / 43 % 4, t.val % 43]
    ∧ win0_2.index t = ![t.val / 172, t.val / 43 % 4] ∧ t.val / 172 < 2 :=
  (by decide +kernel : ∀ t : Fin grid0.N, _)

/-- What one point adds to a block's entry. -/
def part (a : Vec Ideal S2048x512 .bf16) (b : Vec Ideal S1024x512 .bf16) (y : S2048x1024.Idx) : EReal := ∑ k : Fin 512, a (ix2 (y 0) k) * b (ix2 (y 1) k)

theorem zero_at (y : S2048x1024.Idx) : k0_pay1 (F := Ideal) y = 0 := by
  pointwise [k0_pay1]

theorem step_at (v : Vec Ideal S2048x1024 .f32) (a : Vec Ideal S2048x512 .bf16) (b : Vec Ideal S1024x512 .bf16) (y : S2048x1024.Idx) :
    k0_pay2 (F := Ideal) v a b y = v y + part a b y := by
  unfold part
  pointwise [k0_pay2]

theorem sum_at (c : Dev nD) (t : Fin cfg0.N) (h : t.val % 43 = 42) (y : S2048x1024.Idx) :
    (outsAt0 m c t.val t.isLt).2 y = ∑ s : Fin 43, part (iblk m c 0 ⟨43 * (t.val / 43) + s.val, by have := t.isLt; have := s.isLt; have : cfg0.N = 344 := N_0; omega⟩) (iblk m c 1 ⟨43 * (t.val / 43) + s.val, by have := t.isLt; have := s.isLt; have : cfg0.N = 344 := N_0; omega⟩) y := by
  have e := Pipeline.eq_sum_fin_of_reset_step_apply_of_flush (fun n h => (outsAt0 m c n h).2) 43 (fun _ => (0 : EReal)) (fun t => part (iblk m c 0 t) (iblk m c 1 t))
    (fun t h j => by
      rw [outsAt0_A m c t h (by omega)]; frame_out
      rw [step_at, zero_at])
    (fun t h j => by
      by_cases h1 : t.val % 43 = 42
      · rw [outsAt0_C m c t h h1]; frame_out
        rw [step_at]
        exact congrArg (· + _) (congrFun (Memref.IsWhole.read_unread _ _) j)
      · rw [outsAt0_B m c t h h1]; frame_out
        rw [step_at]
        exact congrArg (· + _) (congrFun (Memref.IsWhole.read_unread _ _) j)) t h y
  rw [e, zero_add]

theorem last_at (c : Dev nD) (t : Fin cfg0.N) (h : t.val % 43 = 42) (y : S2048x1024.Idx) :
    (outsAt0 m c t.val t.isLt).1 y = (outsAt0 m c t.val t.isLt).2 y := by
  rw [outsAt0_C m c t (by omega) h]; frame_out

/-- The result: row `i 0` of the first operand with column `i 1` of the second, contracted. -/
def OUT (A : FVec Ideal S4096x22016 .bf16) (B : FVec Ideal S4096x22016 .bf16) : FVec Ideal S4096x4096 .f32 :=
  fun i => (∑ k : Fin 22016, A (ix2 (i 0) k) * B (ix2 (i 1) k))

theorem final (c : Dev nD) : (dats m 0 c).arrAt 2 cfg0.N = OUT (m ((c : Thread nD τ).loc main_arg0)) (m ((c : Thread nD τ).loc main_arg1)) := by
  refine (dats m 0 c).arrAt_eq_of_covers 2 _ (by decide +kernel) fun t hf y => ?_
  have h : t.val % 43 = 42 := (flush0_2 t).mp hf
  blk_simp
  rw [after0_2, last_at m c t h, sum_at m c t h]
  have h2 := (idx t).2.2.2
  unfold OUT part
  refine Fin.sum_mul_add_congr fun s k hl => ?_
  have e0 : iblk m c 0 ⟨43 * (t.val / 43) + s.val, by have := t.isLt; have := s.isLt; have : cfg0.N = 344 := N_0; omega⟩ (ix2 (y 0) k) = (m ((c : Thread nD τ).loc main_arg0)) (ix2 ((((cfg0.win 2).blk t).view.emb y) 0) ⟨s.val * 512 + k.val, hl⟩) := by
    blk_ext [iblk, idx t, idx ⟨43 * (t.val / 43) + s.val, by have := t.isLt; have := s.isLt; have : cfg0.N = 344 := N_0; omega⟩]
  have e1 : iblk m c 1 ⟨43 * (t.val / 43) + s.val, by have := t.isLt; have := s.isLt; have : cfg0.N = 344 := N_0; omega⟩ (ix2 (y 1) k) = (m ((c : Thread nD τ).loc main_arg1)) (ix2 ((((cfg0.win 2).blk t).view.emb y) 1) ⟨s.val * 512 + k.val, hl⟩) := by
    blk_ext [iblk, idx t, idx ⟨43 * (t.val / 43) + s.val, by have := t.isLt; have := s.isLt; have : cfg0.N = 344 := N_0; omega⟩]
  rw [e0, e1]

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v0) = OUT (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans (final m c), h.2 c⟩) (θ_run_and (run_main m ρ) (unchanged m ρ))

end Cert.KernelDHn2Ideal.Prod

namespace Cert.ReferenceDHn2Ideal.Prod

open Cert.ReferenceDHn2Ideal Cert.ReferenceDHn2Ideal.Gen

theorem ref_eq (A : FVec Ideal S4096x22016 .bf16) (B : FVec Ideal S4096x22016 .bf16) :
    (shapeCast _ (Host.dotGeneral dot_S2x2048x22016_S4096x22016_S2x2048x4096_2_1_01_0_n_n none (shapeCast _ (extf .f32 A bitsLt_bf16_f32) shapeCasts_S4096x22016_S2x2048x22016) (extf .f32 B bitsLt_bf16_f32)) shapeCasts_S2x2048x4096_S4096x4096 : FVec Ideal S4096x4096 .f32)
      = Cert.KernelDHn2Ideal.Prod.OUT A B := funext fun i => by
  obtain ⟨r, l, rfl⟩ : ∃ (r : Fin 4096) (l : Fin 4096), i = ix2 r l := ⟨i 0, i 1, eq_ix2 i⟩
  unfold Cert.KernelDHn2Ideal.Prod.OUT
  pointwise

end Cert.ReferenceDHn2Ideal.Prod

namespace Cert.DHn2

theorem frame_r (m : (ℓ : Loc Cert.ReferenceDHn2Ideal.nD Cert.ReferenceDHn2Ideal.τ Cert.ReferenceDHn2Ideal.sig) → Buf (Elt Ideal) ℓ) (g : Dev Cert.ReferenceDHn2Ideal.nD → PrngReg) :
    θ_run (Cert.ReferenceDHn2Ideal.defs (F := Ideal)) (onTc (τ := Cert.ReferenceDHn2Ideal.τ) (Cert.ReferenceDHn2Ideal.main (F := Ideal))) ⟨m, fun _ => 0, g⟩ (fun r => (∀ c : Dev Cert.ReferenceDHn2Ideal.nD,
      r.2.mem ((c.tc : Thread Cert.ReferenceDHn2Ideal.nD Cert.ReferenceDHn2Ideal.τ).loc Cert.ReferenceDHn2Ideal.main_arg0) = m ((c.tc : Thread Cert.ReferenceDHn2Ideal.nD Cert.ReferenceDHn2Ideal.τ).loc Cert.ReferenceDHn2Ideal.main_arg0)
      ∧ r.2.mem ((c.tc : Thread Cert.ReferenceDHn2Ideal.nD Cert.ReferenceDHn2Ideal.τ).loc Cert.ReferenceDHn2Ideal.main_arg1) = m ((c.tc : Thread Cert.ReferenceDHn2Ideal.nD Cert.ReferenceDHn2Ideal.τ).loc Cert.ReferenceDHn2Ideal.main_arg1)
      ∧ r.2.mem ((c.tc : Thread Cert.ReferenceDHn2Ideal.nD Cert.ReferenceDHn2Ideal.τ).loc Cert.ReferenceDHn2Ideal.main_arg2) = m ((c.tc : Thread Cert.ReferenceDHn2Ideal.nD Cert.ReferenceDHn2Ideal.τ).loc Cert.ReferenceDHn2Ideal.main_arg2))
      ∧ r.2.sem = fun _ => 0) :=
  (θ_run _ _ _).mono (fun r h => ⟨fun c => (h c).2, Idealize.ShloMosaic.sem_eq_zero_of_no_sems (by decide) r.2⟩) (Cert.ReferenceDHn2Ideal.Value.run m g)

theorem value : Cert.algebraic_KernelDHn2Ideal_ReferenceDHn2Ideal := by
  intro m g m' g' _ hag
  refine ⟨_, Cert.KernelDHn2Ideal.Prod.run m g, (θ_run _ _ _).mono (fun r h c => ?_) (Cert.ReferenceDHn2Ideal.Value.run m' g')⟩
  obtain ⟨e0, ea⟩ := h c
  rw [(hag c).1, (hag c).2.1] at e0
  exact ⟨e0.trans (Cert.ReferenceDHn2Ideal.Prod.ref_eq _ _), ea⟩

end Cert.DHn2

end
-- ==== Proof.DAct.lean ====
/- The gradient through the down-projection: the array the kernel leaves, block by block, is one sum over the contracted axis, and so is the reference's. -/
module

public import proofs.«01_k».proof.Defs
public import proofs.«01_k».proof.Proof.Gen.KernelDActIdeal.Frame
public import proofs.«01_k».proof.Proof.Gen.ReferenceDActIdeal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelDActIdeal.Prod

open Cert.KernelDActIdeal Cert.KernelDActIdeal.Gen

variable (m : (ℓ : Loc nD τ sig) → Buf (Elt Ideal) ℓ)

theorem idx : ∀ t : Fin cfg0.N, win0_0.index t = ![t.val / 16, t.val % 8] ∧ win0_1.index t = ![t.val / 8 % 2, t.val % 8]
    ∧ win0_2.index t = ![t.val / 16, t.val / 8 % 2] ∧ t.val / 16 < 8 :=
  (by decide +kernel : ∀ t : Fin grid0.N, _)

/-- What one point adds to a block's entry. -/
def part (a : Vec Ideal S512x512 .bf16) (b : Vec Ideal S5504x512 .bf16) (y : S512x5504.Idx) : EReal := ∑ k : Fin 512, a (ix2 (y 0) k) * b (ix2 (y 1) k)

theorem zero_at (y : S512x5504.Idx) : k0_pay1 (F := Ideal) y = 0 := by
  pointwise [k0_pay1]

theorem step_at (v : Vec Ideal S512x5504 .f32) (a : Vec Ideal S512x512 .bf16) (b : Vec Ideal S5504x512 .bf16) (y : S512x5504.Idx) :
    k0_pay2 (F := Ideal) v a b y = v y + part a b y := by
  unfold part
  pointwise [k0_pay2]

theorem sum_at (c : Dev nD) (t : Fin cfg0.N) (h : t.val % 8 = 7) (y : S512x5504.Idx) :
    (outsAt0 m c t.val t.isLt).2 y = ∑ s : Fin 8, part (iblk m c 0 ⟨8 * (t.val / 8) + s.val, by have := t.isLt; have := s.isLt; have : cfg0.N = 128 := N_0; omega⟩) (iblk m c 1 ⟨8 * (t.val / 8) + s.val, by have := t.isLt; have := s.isLt; have : cfg0.N = 128 := N_0; omega⟩) y := by
  have e := Pipeline.eq_sum_fin_of_reset_step_apply_of_flush (fun n h => (outsAt0 m c n h).2) 8 (fun _ => (0 : EReal)) (fun t => part (iblk m c 0 t) (iblk m c 1 t))
    (fun t h j => by
      rw [outsAt0_A m c t h (by omega)]; frame_out
      rw [step_at, zero_at])
    (fun t h j => by
      by_cases h1 : t.val % 8 = 7
      · rw [outsAt0_C m c t h h1]; frame_out
        rw [step_at]
        exact congrArg (· + _) (congrFun (Memref.IsWhole.read_unread _ _) j)
      · rw [outsAt0_B m c t h h1]; frame_out
        rw [step_at]
        exact congrArg (· + _) (congrFun (Memref.IsWhole.read_unread _ _) j)) t h y
  rw [e, zero_add]

theorem last_at (c : Dev nD) (t : Fin cfg0.N) (h : t.val % 8 = 7) (y : S512x5504.Idx) :
    (outsAt0 m c t.val t.isLt).1 y = (outsAt0 m c t.val t.isLt).2 y := by
  rw [outsAt0_C m c t (by omega) h]; frame_out
  pointwise [k0_pay3]

/-- The result: row `i 0` of the first operand with column `i 1` of the second, contracted. -/
def OUT (A : FVec Ideal S4096x4096 .bf16) (B : FVec Ideal S11008x4096 .bf16) : FVec Ideal S4096x11008 .bf16 :=
  fun i => (∑ k : Fin 4096, A (ix2 (i 0) k) * B (ix2 (i 1) k))

theorem final (c : Dev nD) : (dats m 0 c).arrAt 2 cfg0.N = OUT (m ((c : Thread nD τ).loc main_arg0)) (m ((c : Thread nD τ).loc main_arg1)) := by
  refine (dats m 0 c).arrAt_eq_of_covers 2 _ (by decide +kernel) fun t hf y => ?_
  have h : t.val % 8 = 7 := (flush0_2 t).mp hf
  blk_simp
  rw [after0_2, last_at m c t h, sum_at m c t h]
  have h2 := (idx t).2.2.2
  unfold OUT part
  refine Fin.sum_mul_add_congr fun s k hl => ?_
  have e0 : iblk m c 0 ⟨8 * (t.val / 8) + s.val, by have := t.isLt; have := s.isLt; have : cfg0.N = 128 := N_0; omega⟩ (ix2 (y 0) k) = (m ((c : Thread nD τ).loc main_arg0)) (ix2 ((((cfg0.win 2).blk t).view.emb y) 0) ⟨s.val * 512 + k.val, hl⟩) := by
    blk_ext [iblk, idx t, idx ⟨8 * (t.val / 8) + s.val, by have := t.isLt; have := s.isLt; have : cfg0.N = 128 := N_0; omega⟩]
  have e1 : iblk m c 1 ⟨8 * (t.val / 8) + s.val, by have := t.isLt; have := s.isLt; have : cfg0.N = 128 := N_0; omega⟩ (ix2 (y 1) k) = (m ((c : Thread nD τ).loc main_arg1)) (ix2 ((((cfg0.win 2).blk t).view.emb y) 1) ⟨s.val * 512 + k.val, hl⟩) := by
    blk_ext [iblk, idx t, idx ⟨8 * (t.val / 8) + s.val, by have := t.isLt; have := s.isLt; have : cfg0.N = 128 := N_0; omega⟩]
  rw [e0, e1]

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v0) = OUT (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans (final m c), h.2 c⟩) (θ_run_and (run_main m ρ) (unchanged m ρ))

end Cert.KernelDActIdeal.Prod

namespace Cert.ReferenceDActIdeal.Prod

open Cert.ReferenceDActIdeal Cert.ReferenceDActIdeal.Gen

theorem ref_eq (A : FVec Ideal S4096x4096 .bf16) (B : FVec Ideal S11008x4096 .bf16) :
    (truncf .bf16 (shapeCast _ (Host.dotGeneral dot_S2x2048x4096_S11008x4096_S2x2048x11008_2_1_01_0_n_n none (shapeCast _ (extf .f32 A bitsLt_bf16_f32) shapeCasts_S4096x4096_S2x2048x4096) (extf .f32 B bitsLt_bf16_f32)) shapeCasts_S2x2048x11008_S4096x11008) bitsLt_bf16_f32 : FVec Ideal S4096x11008 .bf16)
      = Cert.KernelDActIdeal.Prod.OUT A B := funext fun i => by
  obtain ⟨r, l, rfl⟩ : ∃ (r : Fin 4096) (l : Fin 11008), i = ix2 r l := ⟨i 0, i 1, eq_ix2 i⟩
  unfold Cert.KernelDActIdeal.Prod.OUT
  pointwise

end Cert.ReferenceDActIdeal.Prod

namespace Cert.DAct

theorem frame_r (m : (ℓ : Loc Cert.ReferenceDActIdeal.nD Cert.ReferenceDActIdeal.τ Cert.ReferenceDActIdeal.sig) → Buf (Elt Ideal) ℓ) (g : Dev Cert.ReferenceDActIdeal.nD → PrngReg) :
    θ_run (Cert.ReferenceDActIdeal.defs (F := Ideal)) (onTc (τ := Cert.ReferenceDActIdeal.τ) (Cert.ReferenceDActIdeal.main (F := Ideal))) ⟨m, fun _ => 0, g⟩ (fun r => (∀ c : Dev Cert.ReferenceDActIdeal.nD,
      r.2.mem ((c.tc : Thread Cert.ReferenceDActIdeal.nD Cert.ReferenceDActIdeal.τ).loc Cert.ReferenceDActIdeal.main_arg0) = m ((c.tc : Thread Cert.ReferenceDActIdeal.nD Cert.ReferenceDActIdeal.τ).loc Cert.ReferenceDActIdeal.main_arg0)
      ∧ r.2.mem ((c.tc : Thread Cert.ReferenceDActIdeal.nD Cert.ReferenceDActIdeal.τ).loc Cert.ReferenceDActIdeal.main_arg1) = m ((c.tc : Thread Cert.ReferenceDActIdeal.nD Cert.ReferenceDActIdeal.τ).loc Cert.ReferenceDActIdeal.main_arg1)
      ∧ r.2.mem ((c.tc : Thread Cert.ReferenceDActIdeal.nD Cert.ReferenceDActIdeal.τ).loc Cert.ReferenceDActIdeal.main_arg2) = m ((c.tc : Thread Cert.ReferenceDActIdeal.nD Cert.ReferenceDActIdeal.τ).loc Cert.ReferenceDActIdeal.main_arg2))
      ∧ r.2.sem = fun _ => 0) :=
  (θ_run _ _ _).mono (fun r h => ⟨fun c => (h c).2, Idealize.ShloMosaic.sem_eq_zero_of_no_sems (by decide) r.2⟩) (Cert.ReferenceDActIdeal.Value.run m g)

theorem value : Cert.algebraic_KernelDActIdeal_ReferenceDActIdeal := by
  intro m g m' g' _ hag
  refine ⟨_, Cert.KernelDActIdeal.Prod.run m g, (θ_run _ _ _).mono (fun r h c => ?_) (Cert.ReferenceDActIdeal.Value.run m' g')⟩
  obtain ⟨e0, ea⟩ := h c
  rw [(hag c).1, (hag c).2.1] at e0
  exact ⟨e0.trans (Cert.ReferenceDActIdeal.Prod.ref_eq _ _), ea⟩

end Cert.DAct

end
-- ==== Proof.DHn1.lean ====
/- The gradient through the input projection: the array the kernel leaves, block by block, is one sum over the contracted axis, and so is the reference's. -/
module

public import proofs.«01_k».proof.Defs
public import proofs.«01_k».proof.Proof.Gen.KernelDHn1Ideal.Frame
public import proofs.«01_k».proof.Proof.Gen.ReferenceDHn1Ideal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelDHn1Ideal.Prod

open Cert.KernelDHn1Ideal Cert.KernelDHn1Ideal.Gen

variable (m : (ℓ : Loc nD τ sig) → Buf (Elt Ideal) ℓ)

theorem idx : ∀ t : Fin cfg0.N, win0_0.index t = ![t.val / 48, t.val % 12] ∧ win0_1.index t = ![t.val / 12 % 4, t.val % 12]
    ∧ win0_2.index t = ![t.val / 48, t.val / 12 % 4] ∧ t.val / 48 < 2 :=
  (by decide +kernel : ∀ t : Fin grid0.N, _)

/-- What one point adds to a block's entry. -/
def part (a : Vec Ideal S2048x1024 .bf16) (b : Vec Ideal S1024x1024 .bf16) (y : S2048x1024.Idx) : EReal := ∑ k : Fin 1024, a (ix2 (y 0) k) * b (ix2 (y 1) k)

theorem zero_at (y : S2048x1024.Idx) : k0_pay1 (F := Ideal) y = 0 := by
  pointwise [k0_pay1]

theorem step_at (v : Vec Ideal S2048x1024 .f32) (a : Vec Ideal S2048x1024 .bf16) (b : Vec Ideal S1024x1024 .bf16) (y : S2048x1024.Idx) :
    k0_pay2 (F := Ideal) v a b y = v y + part a b y := by
  unfold part
  pointwise [k0_pay2]

theorem sum_at (c : Dev nD) (t : Fin cfg0.N) (h : t.val % 12 = 11) (y : S2048x1024.Idx) :
    (outsAt0 m c t.val t.isLt).2 y = ∑ s : Fin 12, part (iblk m c 0 ⟨12 * (t.val / 12) + s.val, by have := t.isLt; have := s.isLt; have : cfg0.N = 96 := N_0; omega⟩) (iblk m c 1 ⟨12 * (t.val / 12) + s.val, by have := t.isLt; have := s.isLt; have : cfg0.N = 96 := N_0; omega⟩) y := by
  have e := Pipeline.eq_sum_fin_of_reset_step_apply_of_flush (fun n h => (outsAt0 m c n h).2) 12 (fun _ => (0 : EReal)) (fun t => part (iblk m c 0 t) (iblk m c 1 t))
    (fun t h j => by
      rw [outsAt0_A m c t h (by omega)]; frame_out
      rw [step_at, zero_at])
    (fun t h j => by
      by_cases h1 : t.val % 12 = 11
      · rw [outsAt0_C m c t h h1]; frame_out
        rw [step_at]
        exact congrArg (· + _) (congrFun (Memref.IsWhole.read_unread _ _) j)
      · rw [outsAt0_B m c t h h1]; frame_out
        rw [step_at]
        exact congrArg (· + _) (congrFun (Memref.IsWhole.read_unread _ _) j)) t h y
  rw [e, zero_add]

theorem last_at (c : Dev nD) (t : Fin cfg0.N) (h : t.val % 12 = 11) (y : S2048x1024.Idx) :
    (outsAt0 m c t.val t.isLt).1 y = (outsAt0 m c t.val t.isLt).2 y := by
  rw [outsAt0_C m c t (by omega) h]; frame_out

/-- The result: row `i 0` of the first operand with column `i 1` of the second, contracted. -/
def OUT (A : FVec Ideal S4096x12288 .bf16) (B : FVec Ideal S4096x12288 .bf16) : FVec Ideal S4096x4096 .f32 :=
  fun i => (∑ k : Fin 12288, A (ix2 (i 0) k) * B (ix2 (i 1) k))

theorem final (c : Dev nD) : (dats m 0 c).arrAt 2 cfg0.N = OUT (m ((c : Thread nD τ).loc main_arg0)) (m ((c : Thread nD τ).loc main_arg1)) := by
  refine (dats m 0 c).arrAt_eq_of_covers 2 _ (by decide +kernel) fun t hf y => ?_
  have h : t.val % 12 = 11 := (flush0_2 t).mp hf
  blk_simp
  rw [after0_2, last_at m c t h, sum_at m c t h]
  have h2 := (idx t).2.2.2
  unfold OUT part
  refine Fin.sum_mul_add_congr fun s k hl => ?_
  have e0 : iblk m c 0 ⟨12 * (t.val / 12) + s.val, by have := t.isLt; have := s.isLt; have : cfg0.N = 96 := N_0; omega⟩ (ix2 (y 0) k) = (m ((c : Thread nD τ).loc main_arg0)) (ix2 ((((cfg0.win 2).blk t).view.emb y) 0) ⟨s.val * 1024 + k.val, hl⟩) := by
    blk_ext [iblk, idx t, idx ⟨12 * (t.val / 12) + s.val, by have := t.isLt; have := s.isLt; have : cfg0.N = 96 := N_0; omega⟩]
  have e1 : iblk m c 1 ⟨12 * (t.val / 12) + s.val, by have := t.isLt; have := s.isLt; have : cfg0.N = 96 := N_0; omega⟩ (ix2 (y 1) k) = (m ((c : Thread nD τ).loc main_arg1)) (ix2 ((((cfg0.win 2).blk t).view.emb y) 1) ⟨s.val * 1024 + k.val, hl⟩) := by
    blk_ext [iblk, idx t, idx ⟨12 * (t.val / 12) + s.val, by have := t.isLt; have := s.isLt; have : cfg0.N = 96 := N_0; omega⟩]
  rw [e0, e1]

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v0) = OUT (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans (final m c), h.2 c⟩) (θ_run_and (run_main m ρ) (unchanged m ρ))

end Cert.KernelDHn1Ideal.Prod

namespace Cert.ReferenceDHn1Ideal.Prod

open Cert.ReferenceDHn1Ideal Cert.ReferenceDHn1Ideal.Gen

theorem ref_eq (A : FVec Ideal S4096x12288 .bf16) (B : FVec Ideal S4096x12288 .bf16) :
    (shapeCast _ (Host.dotGeneral dot_S2x2048x12288_S4096x12288_S2x2048x4096_2_1_01_0_n_n none (shapeCast _ (extf .f32 A bitsLt_bf16_f32) shapeCasts_S4096x12288_S2x2048x12288) (extf .f32 B bitsLt_bf16_f32)) shapeCasts_S2x2048x4096_S4096x4096 : FVec Ideal S4096x4096 .f32)
      = Cert.KernelDHn1Ideal.Prod.OUT A B := funext fun i => by
  obtain ⟨r, l, rfl⟩ : ∃ (r : Fin 4096) (l : Fin 4096), i = ix2 r l := ⟨i 0, i 1, eq_ix2 i⟩
  unfold Cert.KernelDHn1Ideal.Prod.OUT
  pointwise

end Cert.ReferenceDHn1Ideal.Prod

namespace Cert.DHn1

theorem frame_r (m : (ℓ : Loc Cert.ReferenceDHn1Ideal.nD Cert.ReferenceDHn1Ideal.τ Cert.ReferenceDHn1Ideal.sig) → Buf (Elt Ideal) ℓ) (g : Dev Cert.ReferenceDHn1Ideal.nD → PrngReg) :
    θ_run (Cert.ReferenceDHn1Ideal.defs (F := Ideal)) (onTc (τ := Cert.ReferenceDHn1Ideal.τ) (Cert.ReferenceDHn1Ideal.main (F := Ideal))) ⟨m, fun _ => 0, g⟩ (fun r => (∀ c : Dev Cert.ReferenceDHn1Ideal.nD,
      r.2.mem ((c.tc : Thread Cert.ReferenceDHn1Ideal.nD Cert.ReferenceDHn1Ideal.τ).loc Cert.ReferenceDHn1Ideal.main_arg0) = m ((c.tc : Thread Cert.ReferenceDHn1Ideal.nD Cert.ReferenceDHn1Ideal.τ).loc Cert.ReferenceDHn1Ideal.main_arg0)
      ∧ r.2.mem ((c.tc : Thread Cert.ReferenceDHn1Ideal.nD Cert.ReferenceDHn1Ideal.τ).loc Cert.ReferenceDHn1Ideal.main_arg1) = m ((c.tc : Thread Cert.ReferenceDHn1Ideal.nD Cert.ReferenceDHn1Ideal.τ).loc Cert.ReferenceDHn1Ideal.main_arg1)
      ∧ r.2.mem ((c.tc : Thread Cert.ReferenceDHn1Ideal.nD Cert.ReferenceDHn1Ideal.τ).loc Cert.ReferenceDHn1Ideal.main_arg2) = m ((c.tc : Thread Cert.ReferenceDHn1Ideal.nD Cert.ReferenceDHn1Ideal.τ).loc Cert.ReferenceDHn1Ideal.main_arg2))
      ∧ r.2.sem = fun _ => 0) :=
  (θ_run _ _ _).mono (fun r h => ⟨fun c => (h c).2, Idealize.ShloMosaic.sem_eq_zero_of_no_sems (by decide) r.2⟩) (Cert.ReferenceDHn1Ideal.Value.run m g)

theorem value : Cert.algebraic_KernelDHn1Ideal_ReferenceDHn1Ideal := by
  intro m g m' g' _ hag
  refine ⟨_, Cert.KernelDHn1Ideal.Prod.run m g, (θ_run _ _ _).mono (fun r h c => ?_) (Cert.ReferenceDHn1Ideal.Value.run m' g')⟩
  obtain ⟨e0, ea⟩ := h c
  rw [(hag c).1, (hag c).2.1] at e0
  exact ⟨e0.trans (Cert.ReferenceDHn1Ideal.Prod.ref_eq _ _), ea⟩

end Cert.DHn1

end
-- ==== Proof.DMix.lean ====
/- The gradient through the output projection: the array the kernel leaves, block by block, is one sum over the contracted axis, and so is the reference's. -/
module

public import proofs.«01_k».proof.Defs
public import proofs.«01_k».proof.Proof.Gen.KernelDMixIdeal.Frame
public import proofs.«01_k».proof.Proof.Gen.ReferenceDMixIdeal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelDMixIdeal.Prod

open Cert.KernelDMixIdeal Cert.KernelDMixIdeal.Gen

variable (m : (ℓ : Loc nD τ sig) → Buf (Elt Ideal) ℓ)

theorem idx : ∀ t : Fin cfg0.N, win0_0.index t = ![t.val / 8, 0] ∧ win0_1.index t = ![t.val % 8, 0]
    ∧ win0_2.index t = ![t.val / 8, t.val % 8] ∧ t.val / 8 < 4 :=
  (by decide +kernel : ∀ t : Fin grid0.N, _)

/-- What one point adds to a block's entry. -/
def part (a : Vec Ideal S1024x4096 .bf16) (b : Vec Ideal S512x4096 .bf16) (y : S1024x512.Idx) : EReal := ∑ k : Fin 4096, a (ix2 (y 0) k) * b (ix2 (y 1) k)

theorem out_at (a : Vec Ideal S1024x4096 .bf16) (b : Vec Ideal S512x4096 .bf16) (y : S1024x512.Idx) :
    k0_pay1 (F := Ideal) a b y = part a b y := by
  unfold part
  pointwise [k0_pay1]

theorem last_at (c : Dev nD) (t : Fin cfg0.N) (y : S1024x512.Idx) :
    (dats m 0 c).after 2 t y = part (iblk m c 0 t) (iblk m c 1 t) y := by
  rw [after0_2]
  unfold outsAt0
  frame_out
  rw [out_at]

/-- The result: row `i 0` of the first operand with column `i 1` of the second, contracted. -/
def OUT (A : FVec Ideal S4096x4096 .bf16) (B : FVec Ideal S4096x4096 .bf16) : FVec Ideal S4096x4096 .f32 :=
  fun i => (∑ k : Fin 4096, A (ix2 (i 0) k) * B (ix2 (i 1) k))

theorem final (c : Dev nD) : (dats m 0 c).arrAt 2 cfg0.N = OUT (m ((c : Thread nD τ).loc main_arg0)) (m ((c : Thread nD τ).loc main_arg1)) := by
  refine (dats m 0 c).arrAt_eq_of_covers 2 _ (by decide +kernel) fun t hf y => ?_
  blk_simp
  rw [last_at m c t]
  have h2 := (idx t).2.2.2
  unfold OUT part
  change (_ : EReal) = _
  refine Finset.sum_congr rfl fun k _ => ?_
  have e0 : iblk m c 0 t (ix2 (y 0) k) = (m ((c : Thread nD τ).loc main_arg0)) (ix2 ((((cfg0.win 2).blk t).view.emb y) 0) k) := by
    blk_ext [iblk, idx t]
  have e1 : iblk m c 1 t (ix2 (y 1) k) = (m ((c : Thread nD τ).loc main_arg1)) (ix2 ((((cfg0.win 2).blk t).view.emb y) 1) k) := by
    blk_ext [iblk, idx t]
  rw [e0, e1]

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v0) = OUT (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans (final m c), h.2 c⟩) (θ_run_and (run_main m ρ) (unchanged m ρ))

end Cert.KernelDMixIdeal.Prod

namespace Cert.ReferenceDMixIdeal.Prod

open Cert.ReferenceDMixIdeal Cert.ReferenceDMixIdeal.Gen

theorem ref_eq (A : FVec Ideal S4096x4096 .bf16) (B : FVec Ideal S4096x4096 .bf16) :
    (shapeCast _ (Host.dotGeneral dot_S2x2048x4096_S4096x4096_S2x2048x4096_2_1_01_0_n_n none (shapeCast _ (extf .f32 A bitsLt_bf16_f32) shapeCasts_S4096x4096_S2x2048x4096) (extf .f32 B bitsLt_bf16_f32)) shapeCasts_S2x2048x4096_S4096x4096 : FVec Ideal S4096x4096 .f32)
      = Cert.KernelDMixIdeal.Prod.OUT A B := funext fun i => by
  obtain ⟨r, l, rfl⟩ : ∃ (r : Fin 4096) (l : Fin 4096), i = ix2 r l := ⟨i 0, i 1, eq_ix2 i⟩
  unfold Cert.KernelDMixIdeal.Prod.OUT
  pointwise

end Cert.ReferenceDMixIdeal.Prod

namespace Cert.DMix

theorem frame_r (m : (ℓ : Loc Cert.ReferenceDMixIdeal.nD Cert.ReferenceDMixIdeal.τ Cert.ReferenceDMixIdeal.sig) → Buf (Elt Ideal) ℓ) (g : Dev Cert.ReferenceDMixIdeal.nD → PrngReg) :
    θ_run (Cert.ReferenceDMixIdeal.defs (F := Ideal)) (onTc (τ := Cert.ReferenceDMixIdeal.τ) (Cert.ReferenceDMixIdeal.main (F := Ideal))) ⟨m, fun _ => 0, g⟩ (fun r => (∀ c : Dev Cert.ReferenceDMixIdeal.nD,
      r.2.mem ((c.tc : Thread Cert.ReferenceDMixIdeal.nD Cert.ReferenceDMixIdeal.τ).loc Cert.ReferenceDMixIdeal.main_arg0) = m ((c.tc : Thread Cert.ReferenceDMixIdeal.nD Cert.ReferenceDMixIdeal.τ).loc Cert.ReferenceDMixIdeal.main_arg0)
      ∧ r.2.mem ((c.tc : Thread Cert.ReferenceDMixIdeal.nD Cert.ReferenceDMixIdeal.τ).loc Cert.ReferenceDMixIdeal.main_arg1) = m ((c.tc : Thread Cert.ReferenceDMixIdeal.nD Cert.ReferenceDMixIdeal.τ).loc Cert.ReferenceDMixIdeal.main_arg1)
      ∧ r.2.mem ((c.tc : Thread Cert.ReferenceDMixIdeal.nD Cert.ReferenceDMixIdeal.τ).loc Cert.ReferenceDMixIdeal.main_arg2) = m ((c.tc : Thread Cert.ReferenceDMixIdeal.nD Cert.ReferenceDMixIdeal.τ).loc Cert.ReferenceDMixIdeal.main_arg2))
      ∧ r.2.sem = fun _ => 0) :=
  (θ_run _ _ _).mono (fun r h => ⟨fun c => (h c).2, Idealize.ShloMosaic.sem_eq_zero_of_no_sems (by decide) r.2⟩) (Cert.ReferenceDMixIdeal.Value.run m g)

theorem value : Cert.algebraic_KernelDMixIdeal_ReferenceDMixIdeal := by
  intro m g m' g' _ hag
  refine ⟨_, Cert.KernelDMixIdeal.Prod.run m g, (θ_run _ _ _).mono (fun r h c => ?_) (Cert.ReferenceDMixIdeal.Value.run m' g')⟩
  obtain ⟨e0, ea⟩ := h c
  rw [(hag c).1, (hag c).2.1] at e0
  exact ⟨e0.trans (Cert.ReferenceDMixIdeal.Prod.ref_eq _ _), ea⟩

end Cert.DMix

end
-- ==== Proof.GUpS.lean ====
/- The weight gradient of the up-projection, the half that is sent: the array the kernel leaves, block by block, is one sum over the contracted axis, and so is the reference's. -/
module

public import proofs.«01_k».proof.Defs
public import proofs.«01_k».proof.Proof.Gen.KernelGUpS.Frame
public import proofs.«01_k».proof.Proof.Gen.KernelGUpSIdeal.Frame
public import proofs.«01_k».proof.Proof.Gen.ReferenceGUpSIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.KernelGUpS.Prod

open Cert.KernelGUpS Cert.KernelGUpS.Gen

/-- The table holds the constant word it is made of. -/
theorem tbl_eq (m : (ℓ : Loc nD τ sig) → Buf (Elt Bits) ℓ) : tbl m 0 = fun _ => 1#32 := by
  unfold tbl V
  simp only [hostOps0, List.flatten_cons, List.flatten_nil, List.append_nil, List.cons_append, List.nil_append]
  rfl

/-- The block index of the window that reads the table. -/
theorem tr (m : (ℓ : Loc nD τ sig) → Buf (Elt Bits) ℓ) (i : grid0.Coords) : cc0_transform_0 Gen.facts₀.inb_S1_S1_0 Gen.facts₀.numel1_S1 (tbl m) i = ![0, (Scalar.addi (Scalar.muli 1#32 2#32) (BitVec.ofNat 32 (i 0).val)).toNat] := by
  unfold cc0_transform_0 Pipeline.Prefetch.Contents.at
  simp only [tbl_eq]
  rfl

theorem ok_blocks : ∀ i : grid0.Coords, ∃ h : (∀ a, ((![0, (Scalar.addi (Scalar.muli 1#32 2#32) (BitVec.ofNat 32 (i 0).val)).toNat] : Fin 2 → ℕ) a + 1) * S4096x1024.size a ≤ S4096x4096.size a),
    EltTy.bits .bf16 = 32 ∨ (Rect.block (s := S4096x4096) S4096x1024.size ![0, (Scalar.addi (Scalar.muli 1#32 2#32) (BitVec.ofNat 32 (i 0).val)).toNat] h).WholeWords (EltTy.packing .bf16) := by
  decide +kernel

/-- Every block the table names lies inside the array. -/
theorem ok (m : (ℓ : Loc nD τ sig) → Buf (Elt Bits) ℓ) : Ok m := by
  unfold Ok ok0
  simp only [tr]
  exact ok_blocks

end Cert.KernelGUpS.Prod

namespace Cert.KernelGUpSIdeal.Prod

open Cert.KernelGUpSIdeal Cert.KernelGUpSIdeal.Gen

/-- The table holds the constant word it is made of. -/
theorem tbl_eq (m : (ℓ : Loc nD τ sig) → Buf (Elt Ideal) ℓ) : tbl m 0 = fun _ => 1#32 := by
  unfold tbl V
  simp only [hostOps0, List.flatten_cons, List.flatten_nil, List.append_nil, List.cons_append, List.nil_append]
  rfl

/-- The block index of the window that reads the table. -/
theorem tr (m : (ℓ : Loc nD τ sig) → Buf (Elt Ideal) ℓ) (i : grid0.Coords) : cc0_transform_0 Gen.facts₀.inb_S1_S1_0 Gen.facts₀.numel1_S1 (tbl m) i = ![0, (Scalar.addi (Scalar.muli 1#32 2#32) (BitVec.ofNat 32 (i 0).val)).toNat] := by
  unfold cc0_transform_0 Pipeline.Prefetch.Contents.at
  simp only [tbl_eq]
  rfl

theorem ok_blocks : ∀ i : grid0.Coords, ∃ h : (∀ a, ((![0, (Scalar.addi (Scalar.muli 1#32 2#32) (BitVec.ofNat 32 (i 0).val)).toNat] : Fin 2 → ℕ) a + 1) * S4096x1024.size a ≤ S4096x4096.size a),
    EltTy.bits .bf16 = 32 ∨ (Rect.block (s := S4096x4096) S4096x1024.size ![0, (Scalar.addi (Scalar.muli 1#32 2#32) (BitVec.ofNat 32 (i 0).val)).toNat] h).WholeWords (EltTy.packing .bf16) := by
  decide +kernel

/-- Every block the table names lies inside the array. -/
theorem ok (m : (ℓ : Loc nD τ sig) → Buf (Elt Ideal) ℓ) : Ok m := by
  unfold Ok ok0
  simp only [tr]
  exact ok_blocks

end Cert.KernelGUpSIdeal.Prod

namespace Cert.KernelGUpSIdeal.Prod

open Cert.KernelGUpSIdeal Cert.KernelGUpSIdeal.Gen

variable (m : (ℓ : Loc nD τ sig) → Buf (Elt Ideal) ℓ) (hO : Ok m)

theorem idx_grid : ∀ t : Fin grid0.N, ![0, (Scalar.addi (Scalar.muli 1#32 2#32) (BitVec.ofNat 32 (grid0.coords t 0).val)).toNat] = ![0, 2 + t.val / 43] ∧ cc0_transform_1 (grid0.coords t) = ![0, t.val % 43]
    ∧ cc0_transform_2 (grid0.coords t) = ![t.val / 43, t.val % 43] ∧ t.val / 43 < 2 ∧ t.val % 43 < 43 := by
  decide +kernel

theorem idx (t : Fin (cfgM m hO).N) : ((cfgM m hO).win 0).index t = ![0, 2 + t.val / 43] ∧ ((cfgM m hO).win 1).index t = ![0, t.val % 43]
    ∧ ((cfgM m hO).win 2).index t = ![t.val / 43, t.val % 43] ∧ t.val / 43 < 2 ∧ t.val % 43 < 43 := by
  have h := idx_grid t
  rw [← tr m (grid0.coords t)] at h
  exact h

theorem surj : ∀ (x : Fin 2) (y : Fin 43), ∃ t : Fin grid0.N, cc0_transform_2 (grid0.coords t) = ![x.val, y.val] := by
  decide +kernel

theorem covers : ((cfgM m hO).win 2).Covers :=
  Pipeline.Window.covers_of_index_surj _ rfl (show ∀ a : Fin 2, 0 < S1024x512.size a by decide) fun β => by
    obtain ⟨t, ht⟩ := surj ⟨(β (0 : Fin 2)).val, lt_of_lt_of_eq (β (0 : Fin 2)).isLt (show (2048 + 1024 - 1) / 1024 = 2 by decide)⟩ ⟨(β (1 : Fin 2)).val, lt_of_lt_of_eq (β (1 : Fin 2)).isLt (show (22016 + 512 - 1) / 512 = 43 by decide)⟩
    exact ⟨t, fun (a : Fin 2) => match a with
      | 0 => congrFun ht 0
      | 1 => congrFun ht 1⟩

/-- What one point leaves at a block's entry. -/
def part (a : Vec Ideal S4096x1024 .bf16) (b : Vec Ideal S4096x512 .bf16) (y : S1024x512.Idx) : EReal := ∑ k : Fin 4096, a (ix2 k (y 0)) * b (ix2 k (y 1))

theorem out_at (a : Vec Ideal S4096x1024 .bf16) (b : Vec Ideal S4096x512 .bf16) (y : S1024x512.Idx) :
    k0_pay1 (F := Ideal) a b y = part a b y := by
  unfold part
  pointwise [k0_pay1]

theorem last_at (c : Dev nD) (t : Fin (cfgM m hO).N) (y : S1024x512.Idx) :
    (dats m hO 0 c).after 2 t y = part (iblk m hO c 0 t) (iblk m hO c 1 t) y := by
  rw [after0_2]
  unfold outsAt0
  frame_out
  rw [out_at]
  exact congrArg₂ (fun a b => part a b y) ((hs0_0 m hO t).read_unread _) ((hs0_1 m hO t).read_unread _)

/-- Row of the whole gradient at row `x` of the half. -/
def sh0 (x : Fin 2048) : Fin 4096 := ⟨2048 + x.val, by omega⟩

/-- Where entry `y` of the block at a point lies in the result. -/
def pos (t : Fin (cfgM m hO).N) (y : S1024x512.Idx) : S2048x22016.Idx := (((cfgM m hO).win 2).blk t).view.emb y

/-- The result: column of the first operand with column of the second, contracted over the rows. -/
def OUT (A : FVec Ideal S4096x4096 .bf16) (B : FVec Ideal S4096x22016 .bf16) : FVec Ideal S2048x22016 .bf16 :=
  fun i => (∑ k : Fin 4096, A (ix2 k (sh0 (i 0))) * B (ix2 k (i 1)))

theorem final (c : Dev nD) : (dats m hO 0 c).arrAt 2 (cfgM m hO).N = OUT (m ((c : Thread nD τ).loc main_arg0)) (m ((c : Thread nD τ).loc main_arg1)) := by
  refine (dats m hO 0 c).arrAt_eq_of_covers 2 _ (covers m hO) fun t hf (y : S1024x512.Idx) => ?_
  blk_simp
  refine (last_at m hO c t y).trans ?_
  obtain ⟨h0, h1, hw, hi, hj⟩ := idx m hO t
  unfold part
  change (_ : EReal) = _
  refine Finset.sum_congr rfl fun k _ => ?_
  have e0 : iblk m hO c 0 t (ix2 k (y 0)) = (m ((c : Thread nD τ).loc main_arg0)) (ix2 k (sh0 ((pos m hO t y) 0))) := by
    rw [← V_main_arg0 m c]
    blk_ext [pos, iblk, h0, hw, sh0]
  have e1 : iblk m hO c 1 t (ix2 k (y 1)) = (m ((c : Thread nD τ).loc main_arg1)) (ix2 k ((pos m hO t y) 1)) := by
    rw [← V_main_arg1 m c]
    blk_ext [pos, iblk, h1, hw]
  exact congrArg₂ (· * ·) e0 e1

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v1) = OUT (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m (ok m) c), h.2 c⟩) (θ_run_and (run_main m ρ (ok m)) (unchanged m ρ (ok m)))

end Cert.KernelGUpSIdeal.Prod

namespace Cert.ReferenceGUpSIdeal.Prod

open Cert.ReferenceGUpSIdeal Cert.ReferenceGUpSIdeal.Gen

theorem ref_eq (A : FVec Ideal S4096x4096 .bf16) (B : FVec Ideal S4096x22016 .bf16) :
    (truncf .bf16 (extractStridedSlice S2048x22016 ![2048, 0] (transpose S4096x22016 [1, 0] (Host.dotGeneral dot_S2x2048x22016_S2x2048x4096_S22016x4096_01_01_2_2_n_n none (shapeCast _ (extf .f32 B bitsLt_bf16_f32) shapeCasts_S4096x22016_S2x2048x22016) (shapeCast _ (extf .f32 A bitsLt_bf16_f32) shapeCasts_S4096x4096_S2x2048x4096)) transposes_S22016x4096_S4096x22016_1_0) slices_S4096x22016_S2048x22016_2048_0) bitsLt_bf16_f32 : FVec Ideal S2048x22016 .bf16)
      = Cert.KernelGUpSIdeal.Prod.OUT A B := funext fun i => by
  obtain ⟨r, l, rfl⟩ : ∃ (r : Fin 2048) (l : Fin 22016), i = ix2 r l := ⟨i 0, i 1, eq_ix2 i⟩
  unfold Cert.KernelGUpSIdeal.Prod.OUT
  pointwise
  rw [Cert.Rows.sum_rows]
  exact Finset.sum_congr rfl fun x _ => Finset.sum_congr rfl fun y _ => mul_comm _ _
end Cert.ReferenceGUpSIdeal.Prod

namespace Cert.GUpS

theorem ok (m : (ℓ : Loc Cert.KernelGUpS.nD Cert.KernelGUpS.τ Cert.KernelGUpS.sig) → Buf (Elt Bits) ℓ) : Cert.KernelGUpS.Gen.Ok m := Cert.KernelGUpS.Prod.ok m

theorem frame_r (m : (ℓ : Loc Cert.ReferenceGUpSIdeal.nD Cert.ReferenceGUpSIdeal.τ Cert.ReferenceGUpSIdeal.sig) → Buf (Elt Ideal) ℓ) (g : Dev Cert.ReferenceGUpSIdeal.nD → PrngReg) :
    θ_run (Cert.ReferenceGUpSIdeal.defs (F := Ideal)) (onTc (τ := Cert.ReferenceGUpSIdeal.τ) (Cert.ReferenceGUpSIdeal.main (F := Ideal))) ⟨m, fun _ => 0, g⟩ (fun r => (∀ c : Dev Cert.ReferenceGUpSIdeal.nD,
      r.2.mem ((c.tc : Thread Cert.ReferenceGUpSIdeal.nD Cert.ReferenceGUpSIdeal.τ).loc Cert.ReferenceGUpSIdeal.main_arg0) = m ((c.tc : Thread Cert.ReferenceGUpSIdeal.nD Cert.ReferenceGUpSIdeal.τ).loc Cert.ReferenceGUpSIdeal.main_arg0)
      ∧ r.2.mem ((c.tc : Thread Cert.ReferenceGUpSIdeal.nD Cert.ReferenceGUpSIdeal.τ).loc Cert.ReferenceGUpSIdeal.main_arg1) = m ((c.tc : Thread Cert.ReferenceGUpSIdeal.nD Cert.ReferenceGUpSIdeal.τ).loc Cert.ReferenceGUpSIdeal.main_arg1))
      ∧ r.2.sem = fun _ => 0) :=
  (θ_run _ _ _).mono (fun r h => ⟨fun c => (h c).2, Idealize.ShloMosaic.sem_eq_zero_of_no_sems (by decide) r.2⟩) (Cert.ReferenceGUpSIdeal.Value.run m g)

theorem value : Cert.algebraic_KernelGUpSIdeal_ReferenceGUpSIdeal := by
  intro m g m' g' _ hag
  refine ⟨_, Cert.KernelGUpSIdeal.Prod.run m g, (θ_run _ _ _).mono (fun r h c => ?_) (Cert.ReferenceGUpSIdeal.Value.run m' g')⟩
  obtain ⟨e0, ea⟩ := h c
  rw [(hag c).1, (hag c).2] at e0
  exact ⟨e0.trans (Cert.ReferenceGUpSIdeal.Prod.ref_eq _ _), ea⟩

end Cert.GUpS

end
-- ==== Proof.GUpO.lean ====
/- The weight gradient of the up-projection, the half that is kept, with the received half added: the array the kernel leaves, block by block, is one sum over the contracted axis, and so is the reference's. -/
module

public import proofs.«01_k».proof.Defs
public import proofs.«01_k».proof.Proof.Gen.KernelGUpO.Frame
public import proofs.«01_k».proof.Proof.Gen.KernelGUpOIdeal.Frame
public import proofs.«01_k».proof.Proof.Gen.ReferenceGUpOIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.KernelGUpO.Prod

open Cert.KernelGUpO Cert.KernelGUpO.Gen

/-- The table holds the constant word it is made of. -/
theorem tbl_eq (m : (ℓ : Loc nD τ sig) → Buf (Elt Bits) ℓ) : tbl m 0 = fun _ => 0#32 := by
  unfold tbl V
  simp only [hostOps0, List.flatten_cons, List.flatten_nil, List.append_nil, List.cons_append, List.nil_append]
  rfl

/-- The block index of the window that reads the table. -/
theorem tr (m : (ℓ : Loc nD τ sig) → Buf (Elt Bits) ℓ) (i : grid0.Coords) : cc0_transform_0 Gen.facts₀.inb_S1_S1_0 Gen.facts₀.numel1_S1 (tbl m) i = ![0, (Scalar.addi (Scalar.muli 0#32 2#32) (BitVec.ofNat 32 (i 0).val)).toNat] := by
  unfold cc0_transform_0 Pipeline.Prefetch.Contents.at
  simp only [tbl_eq]
  rfl

theorem ok_blocks : ∀ i : grid0.Coords, ∃ h : (∀ a, ((![0, (Scalar.addi (Scalar.muli 0#32 2#32) (BitVec.ofNat 32 (i 0).val)).toNat] : Fin 2 → ℕ) a + 1) * S4096x1024.size a ≤ S4096x4096.size a),
    EltTy.bits .bf16 = 32 ∨ (Rect.block (s := S4096x4096) S4096x1024.size ![0, (Scalar.addi (Scalar.muli 0#32 2#32) (BitVec.ofNat 32 (i 0).val)).toNat] h).WholeWords (EltTy.packing .bf16) := by
  decide +kernel

/-- Every block the table names lies inside the array. -/
theorem ok (m : (ℓ : Loc nD τ sig) → Buf (Elt Bits) ℓ) : Ok m := by
  unfold Ok ok0
  simp only [tr]
  exact ok_blocks

end Cert.KernelGUpO.Prod

namespace Cert.KernelGUpOIdeal.Prod

open Cert.KernelGUpOIdeal Cert.KernelGUpOIdeal.Gen

/-- The table holds the constant word it is made of. -/
theorem tbl_eq (m : (ℓ : Loc nD τ sig) → Buf (Elt Ideal) ℓ) : tbl m 0 = fun _ => 0#32 := by
  unfold tbl V
  simp only [hostOps0, List.flatten_cons, List.flatten_nil, List.append_nil, List.cons_append, List.nil_append]
  rfl

/-- The block index of the window that reads the table. -/
theorem tr (m : (ℓ : Loc nD τ sig) → Buf (Elt Ideal) ℓ) (i : grid0.Coords) : cc0_transform_0 Gen.facts₀.inb_S1_S1_0 Gen.facts₀.numel1_S1 (tbl m) i = ![0, (Scalar.addi (Scalar.muli 0#32 2#32) (BitVec.ofNat 32 (i 0).val)).toNat] := by
  unfold cc0_transform_0 Pipeline.Prefetch.Contents.at
  simp only [tbl_eq]
  rfl

theorem ok_blocks : ∀ i : grid0.Coords, ∃ h : (∀ a, ((![0, (Scalar.addi (Scalar.muli 0#32 2#32) (BitVec.ofNat 32 (i 0).val)).toNat] : Fin 2 → ℕ) a + 1) * S4096x1024.size a ≤ S4096x4096.size a),
    EltTy.bits .bf16 = 32 ∨ (Rect.block (s := S4096x4096) S4096x1024.size ![0, (Scalar.addi (Scalar.muli 0#32 2#32) (BitVec.ofNat 32 (i 0).val)).toNat] h).WholeWords (EltTy.packing .bf16) := by
  decide +kernel

/-- Every block the table names lies inside the array. -/
theorem ok (m : (ℓ : Loc nD τ sig) → Buf (Elt Ideal) ℓ) : Ok m := by
  unfold Ok ok0
  simp only [tr]
  exact ok_blocks

end Cert.KernelGUpOIdeal.Prod

namespace Cert.KernelGUpOIdeal.Prod

open Cert.KernelGUpOIdeal Cert.KernelGUpOIdeal.Gen

variable (m : (ℓ : Loc nD τ sig) → Buf (Elt Ideal) ℓ) (hO : Ok m)

theorem idx_grid : ∀ t : Fin grid0.N, ![0, (Scalar.addi (Scalar.muli 0#32 2#32) (BitVec.ofNat 32 (grid0.coords t 0).val)).toNat] = ![0, t.val / 43] ∧ cc0_transform_1 (grid0.coords t) = ![0, t.val % 43] ∧ cc0_transform_2 (grid0.coords t) = ![t.val / 43, t.val % 43]
    ∧ cc0_transform_3 (grid0.coords t) = ![t.val / 43, t.val % 43] ∧ t.val / 43 < 2 ∧ t.val % 43 < 43 := by
  decide +kernel

theorem idx (t : Fin (cfgM m hO).N) : ((cfgM m hO).win 0).index t = ![0, t.val / 43] ∧ ((cfgM m hO).win 1).index t = ![0, t.val % 43] ∧ ((cfgM m hO).win 2).index t = ![t.val / 43, t.val % 43]
    ∧ ((cfgM m hO).win 3).index t = ![t.val / 43, t.val % 43] ∧ t.val / 43 < 2 ∧ t.val % 43 < 43 := by
  have h := idx_grid t
  rw [← tr m (grid0.coords t)] at h
  exact h

/-- The block of the array added, at a point. -/
def blk2 (c : Dev nD) (t : Fin (cfgM m hO).N) : Vec Ideal S1024x512 .bf16 := iblk m hO c 2 t

theorem surj : ∀ (x : Fin 2) (y : Fin 43), ∃ t : Fin grid0.N, cc0_transform_3 (grid0.coords t) = ![x.val, y.val] := by
  decide +kernel

theorem covers : ((cfgM m hO).win 3).Covers :=
  Pipeline.Window.covers_of_index_surj _ rfl (show ∀ a : Fin 2, 0 < S1024x512.size a by decide) fun β => by
    obtain ⟨t, ht⟩ := surj ⟨(β (0 : Fin 2)).val, lt_of_lt_of_eq (β (0 : Fin 2)).isLt (show (2048 + 1024 - 1) / 1024 = 2 by decide)⟩ ⟨(β (1 : Fin 2)).val, lt_of_lt_of_eq (β (1 : Fin 2)).isLt (show (22016 + 512 - 1) / 512 = 43 by decide)⟩
    exact ⟨t, fun (a : Fin 2) => match a with
      | 0 => congrFun ht 0
      | 1 => congrFun ht 1⟩

/-- What one point leaves at a block's entry. -/
def part (a : Vec Ideal S4096x1024 .bf16) (b : Vec Ideal S4096x512 .bf16) (y : S1024x512.Idx) : EReal := ∑ k : Fin 4096, a (ix2 k (y 0)) * b (ix2 k (y 1))

theorem out_at (a : Vec Ideal S4096x1024 .bf16) (b : Vec Ideal S4096x512 .bf16) (d : Vec Ideal S1024x512 .bf16) (y : S1024x512.Idx) :
    k0_pay1 (F := Ideal) a b d y = part a b y + d y := by
  unfold part
  pointwise [k0_pay1]

theorem last_at (c : Dev nD) (t : Fin (cfgM m hO).N) (y : S1024x512.Idx) :
    (dats m hO 0 c).after 3 t y = part (iblk m hO c 0 t) (iblk m hO c 1 t) y + blk2 m hO c t y := by
  rw [after0_3]
  unfold outsAt0
  frame_out
  rw [out_at]
  exact congrArg₂ (· + ·) (congrArg₂ (fun a b => part a b y) ((hs0_0 m hO t).read_unread _) ((hs0_1 m hO t).read_unread _)) (congrFun ((hs0_2 m hO t).read_unread _) y)

/-- Row of the whole gradient at row `x` of the half. -/
def sh0 (x : Fin 2048) : Fin 4096 := ⟨0 + x.val, by omega⟩

/-- Where entry `y` of the block at a point lies in the result. -/
def pos (t : Fin (cfgM m hO).N) (y : S1024x512.Idx) : S2048x22016.Idx := (((cfgM m hO).win 3).blk t).view.emb y

/-- The result: column of the first operand with column of the second, contracted over the rows. -/
def OUT (A : FVec Ideal S4096x4096 .bf16) (B : FVec Ideal S4096x22016 .bf16) (D : FVec Ideal S2048x22016 .bf16) : FVec Ideal S2048x22016 .bf16 :=
  fun i => (∑ k : Fin 4096, A (ix2 k (sh0 (i 0))) * B (ix2 k (i 1))) + D i

theorem final (c : Dev nD) : (dats m hO 0 c).arrAt 3 (cfgM m hO).N = OUT (m ((c : Thread nD τ).loc main_arg0)) (m ((c : Thread nD τ).loc main_arg1)) (m ((c : Thread nD τ).loc main_arg2)) := by
  refine (dats m hO 0 c).arrAt_eq_of_covers 3 _ (covers m hO) fun t hf (y : S1024x512.Idx) => ?_
  blk_simp
  refine (last_at m hO c t y).trans ?_
  obtain ⟨h0, h1, h2, hw, hi, hj⟩ := idx m hO t
  have e2 : blk2 m hO c t y = (m ((c : Thread nD τ).loc main_arg2)) (pos m hO t y) := by
    rw [← V_main_arg2 m c]
    blk_ext [blk2, pos, iblk, h2, hw]
  refine congrArg₂ (· + ·) ?_ e2
  unfold part
  change (_ : EReal) = _
  refine Finset.sum_congr rfl fun k _ => ?_
  have e0 : iblk m hO c 0 t (ix2 k (y 0)) = (m ((c : Thread nD τ).loc main_arg0)) (ix2 k (sh0 ((pos m hO t y) 0))) := by
    rw [← V_main_arg0 m c]
    blk_ext [pos, iblk, h0, hw, sh0]
  have e1 : iblk m hO c 1 t (ix2 k (y 1)) = (m ((c : Thread nD τ).loc main_arg1)) (ix2 k ((pos m hO t y) 1)) := by
    rw [← V_main_arg1 m c]
    blk_ext [pos, iblk, h1, hw]
  exact congrArg₂ (· * ·) e0 e1

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v1) = OUT (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final m (ok m) c), h.2 c⟩) (θ_run_and (run_main m ρ (ok m)) (unchanged m ρ (ok m)))

end Cert.KernelGUpOIdeal.Prod

namespace Cert.ReferenceGUpOIdeal.Prod

open Cert.ReferenceGUpOIdeal Cert.ReferenceGUpOIdeal.Gen

theorem ref_eq (A : FVec Ideal S4096x4096 .bf16) (B : FVec Ideal S4096x22016 .bf16) (D : FVec Ideal S2048x22016 .bf16) :
    (truncf .bf16 (addf (extractStridedSlice S2048x22016 ![0, 0] (transpose S4096x22016 [1, 0] (Host.dotGeneral dot_S2x2048x22016_S2x2048x4096_S22016x4096_01_01_2_2_n_n none (shapeCast _ (extf .f32 B bitsLt_bf16_f32) shapeCasts_S4096x22016_S2x2048x22016) (shapeCast _ (extf .f32 A bitsLt_bf16_f32) shapeCasts_S4096x4096_S2x2048x4096)) transposes_S22016x4096_S4096x22016_1_0) slices_S4096x22016_S2048x22016_0_0) (extf .f32 D bitsLt_bf16_f32)) bitsLt_bf16_f32 : FVec Ideal S2048x22016 .bf16)
      = Cert.KernelGUpOIdeal.Prod.OUT A B D := funext fun i => by
  obtain ⟨r, l, rfl⟩ : ∃ (r : Fin 2048) (l : Fin 22016), i = ix2 r l := ⟨i 0, i 1, eq_ix2 i⟩
  unfold Cert.KernelGUpOIdeal.Prod.OUT
  pointwise
  refine congrArg (· + _) ?_
  rw [Cert.Rows.sum_rows]
  exact Finset.sum_congr rfl fun x _ => Finset.sum_congr rfl fun y _ => by
    rw [mul_comm]
    congr 3
    all_goals exact Fin.ext (by simp [Cert.KernelGUpOIdeal.Prod.sh0])
end Cert.ReferenceGUpOIdeal.Prod

namespace Cert.GUpO

theorem ok (m : (ℓ : Loc Cert.KernelGUpO.nD Cert.KernelGUpO.τ Cert.KernelGUpO.sig) → Buf (Elt Bits) ℓ) : Cert.KernelGUpO.Gen.Ok m := Cert.KernelGUpO.Prod.ok m

theorem frame_r (m : (ℓ : Loc Cert.ReferenceGUpOIdeal.nD Cert.ReferenceGUpOIdeal.τ Cert.ReferenceGUpOIdeal.sig) → Buf (Elt Ideal) ℓ) (g : Dev Cert.ReferenceGUpOIdeal.nD → PrngReg) :
    θ_run (Cert.ReferenceGUpOIdeal.defs (F := Ideal)) (onTc (τ := Cert.ReferenceGUpOIdeal.τ) (Cert.ReferenceGUpOIdeal.main (F := Ideal))) ⟨m, fun _ => 0, g⟩ (fun r => (∀ c : Dev Cert.ReferenceGUpOIdeal.nD,
      r.2.mem ((c.tc : Thread Cert.ReferenceGUpOIdeal.nD Cert.ReferenceGUpOIdeal.τ).loc Cert.ReferenceGUpOIdeal.main_arg0) = m ((c.tc : Thread Cert.ReferenceGUpOIdeal.nD Cert.ReferenceGUpOIdeal.τ).loc Cert.ReferenceGUpOIdeal.main_arg0)
      ∧ r.2.mem ((c.tc : Thread Cert.ReferenceGUpOIdeal.nD Cert.ReferenceGUpOIdeal.τ).loc Cert.ReferenceGUpOIdeal.main_arg1) = m ((c.tc : Thread Cert.ReferenceGUpOIdeal.nD Cert.ReferenceGUpOIdeal.τ).loc Cert.ReferenceGUpOIdeal.main_arg1)
      ∧ r.2.mem ((c.tc : Thread Cert.ReferenceGUpOIdeal.nD Cert.ReferenceGUpOIdeal.τ).loc Cert.ReferenceGUpOIdeal.main_arg2) = m ((c.tc : Thread Cert.ReferenceGUpOIdeal.nD Cert.ReferenceGUpOIdeal.τ).loc Cert.ReferenceGUpOIdeal.main_arg2))
      ∧ r.2.sem = fun _ => 0) :=
  (θ_run _ _ _).mono (fun r h => ⟨fun c => (h c).2, Idealize.ShloMosaic.sem_eq_zero_of_no_sems (by decide) r.2⟩) (Cert.ReferenceGUpOIdeal.Value.run m g)

theorem value : Cert.algebraic_KernelGUpOIdeal_ReferenceGUpOIdeal := by
  intro m g m' g' _ hag
  refine ⟨_, Cert.KernelGUpOIdeal.Prod.run m g, (θ_run _ _ _).mono (fun r h c => ?_) (Cert.ReferenceGUpOIdeal.Value.run m' g')⟩
  obtain ⟨e0, ea⟩ := h c
  rw [(hag c).1, (hag c).2.1, (hag c).2.2] at e0
  exact ⟨e0.trans (Cert.ReferenceGUpOIdeal.Prod.ref_eq _ _ _), ea⟩

end Cert.GUpO

end
-- ==== Proof.GDownS.lean ====
/- The weight gradient of the down-projection, the half that is sent: the array the kernel leaves, block by block, is one sum over the contracted axis, and so is the reference's. -/
module

public import proofs.«01_k».proof.Defs
public import proofs.«01_k».proof.Proof.Gen.KernelGDownS.Frame
public import proofs.«01_k».proof.Proof.Gen.KernelGDownSIdeal.Frame
public import proofs.«01_k».proof.Proof.Gen.ReferenceGDownSIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.KernelGDownS.Prod

open Cert.KernelGDownS Cert.KernelGDownS.Gen

/-- The table holds the constant word it is made of. -/
theorem tbl_eq (m : (ℓ : Loc nD τ sig) → Buf (Elt Bits) ℓ) : tbl m 0 = fun _ => 1#32 := by
  unfold tbl V
  simp only [hostOps0, List.flatten_cons, List.flatten_nil, List.append_nil, List.cons_append, List.nil_append]
  rfl

/-- The block index of the window that reads the table. -/
theorem tr (m : (ℓ : Loc nD τ sig) → Buf (Elt Bits) ℓ) (i : grid0.Coords) : cc0_transform_1 Gen.facts₀.inb_S1_S1_0 Gen.facts₀.numel1_S1 (tbl m) i = ![0, (Scalar.addi (Scalar.muli 1#32 2#32) (BitVec.ofNat 32 (i 0).val)).toNat] := by
  unfold cc0_transform_1 Pipeline.Prefetch.Contents.at
  simp only [tbl_eq]
  rfl

theorem ok_blocks : ∀ i : grid0.Coords, ∃ h : (∀ a, ((![0, (Scalar.addi (Scalar.muli 1#32 2#32) (BitVec.ofNat 32 (i 0).val)).toNat] : Fin 2 → ℕ) a + 1) * S4096x1024.size a ≤ S4096x4096.size a),
    EltTy.bits .bf16 = 32 ∨ (Rect.block (s := S4096x4096) S4096x1024.size ![0, (Scalar.addi (Scalar.muli 1#32 2#32) (BitVec.ofNat 32 (i 0).val)).toNat] h).WholeWords (EltTy.packing .bf16) := by
  decide +kernel

/-- Every block the table names lies inside the array. -/
theorem ok (m : (ℓ : Loc nD τ sig) → Buf (Elt Bits) ℓ) : Ok m := by
  unfold Ok ok0
  simp only [tr]
  exact ok_blocks

end Cert.KernelGDownS.Prod

namespace Cert.KernelGDownSIdeal.Prod

open Cert.KernelGDownSIdeal Cert.KernelGDownSIdeal.Gen

/-- The table holds the constant word it is made of. -/
theorem tbl_eq (m : (ℓ : Loc nD τ sig) → Buf (Elt Ideal) ℓ) : tbl m 0 = fun _ => 1#32 := by
  unfold tbl V
  simp only [hostOps0, List.flatten_cons, List.flatten_nil, List.append_nil, List.cons_append, List.nil_append]
  rfl

/-- The block index of the window that reads the table. -/
theorem tr (m : (ℓ : Loc nD τ sig) → Buf (Elt Ideal) ℓ) (i : grid0.Coords) : cc0_transform_1 Gen.facts₀.inb_S1_S1_0 Gen.facts₀.numel1_S1 (tbl m) i = ![0, (Scalar.addi (Scalar.muli 1#32 2#32) (BitVec.ofNat 32 (i 0).val)).toNat] := by
  unfold cc0_transform_1 Pipeline.Prefetch.Contents.at
  simp only [tbl_eq]
  rfl

theorem ok_blocks : ∀ i : grid0.Coords, ∃ h : (∀ a, ((![0, (Scalar.addi (Scalar.muli 1#32 2#32) (BitVec.ofNat 32 (i 0).val)).toNat] : Fin 2 → ℕ) a + 1) * S4096x1024.size a ≤ S4096x4096.size a),
    EltTy.bits .bf16 = 32 ∨ (Rect.block (s := S4096x4096) S4096x1024.size ![0, (Scalar.addi (Scalar.muli 1#32 2#32) (BitVec.ofNat 32 (i 0).val)).toNat] h).WholeWords (EltTy.packing .bf16) := by
  decide +kernel

/-- Every block the table names lies inside the array. -/
theorem ok (m : (ℓ : Loc nD τ sig) → Buf (Elt Ideal) ℓ) : Ok m := by
  unfold Ok ok0
  simp only [tr]
  exact ok_blocks

end Cert.KernelGDownSIdeal.Prod

namespace Cert.KernelGDownSIdeal.Prod

open Cert.KernelGDownSIdeal Cert.KernelGDownSIdeal.Gen

variable (m : (ℓ : Loc nD τ sig) → Buf (Elt Ideal) ℓ) (hO : Ok m)

theorem idx_grid : ∀ t : Fin grid0.N, cc0_transform_0 (grid0.coords t) = ![0, t.val % 43] ∧ ![0, (Scalar.addi (Scalar.muli 1#32 2#32) (BitVec.ofNat 32 (grid0.coords t 0).val)).toNat] = ![0, 2 + t.val / 43]
    ∧ cc0_transform_2 (grid0.coords t) = ![t.val % 43, t.val / 43] ∧ t.val % 43 < 43 ∧ t.val / 43 < 2 := by
  decide +kernel

theorem idx (t : Fin (cfgM m hO).N) : ((cfgM m hO).win 0).index t = ![0, t.val % 43] ∧ ((cfgM m hO).win 1).index t = ![0, 2 + t.val / 43]
    ∧ ((cfgM m hO).win 2).index t = ![t.val % 43, t.val / 43] ∧ t.val % 43 < 43 ∧ t.val / 43 < 2 := by
  have h := idx_grid t
  rw [← tr m (grid0.coords t)] at h
  exact h

theorem surj : ∀ (x : Fin 43) (y : Fin 2), ∃ t : Fin grid0.N, cc0_transform_2 (grid0.coords t) = ![x.val, y.val] := by
  decide +kernel

theorem covers : ((cfgM m hO).win 2).Covers :=
  Pipeline.Window.covers_of_index_surj _ rfl (show ∀ a : Fin 2, 0 < S256x1024.size a by decide) fun β => by
    obtain ⟨t, ht⟩ := surj ⟨(β (0 : Fin 2)).val, lt_of_lt_of_eq (β (0 : Fin 2)).isLt (show (11008 + 256 - 1) / 256 = 43 by decide)⟩ ⟨(β (1 : Fin 2)).val, lt_of_lt_of_eq (β (1 : Fin 2)).isLt (show (2048 + 1024 - 1) / 1024 = 2 by decide)⟩
    exact ⟨t, fun (a : Fin 2) => match a with
      | 0 => congrFun ht 0
      | 1 => congrFun ht 1⟩

/-- What one point leaves at a block's entry. -/
def part (a : Vec Ideal S4096x256 .bf16) (b : Vec Ideal S4096x1024 .bf16) (y : S256x1024.Idx) : EReal := ∑ k : Fin 4096, a (ix2 k (y 0)) * b (ix2 k (y 1))

theorem out_at (a : Vec Ideal S4096x256 .bf16) (b : Vec Ideal S4096x1024 .bf16) (y : S256x1024.Idx) :
    k0_pay1 (F := Ideal) a b y = part a b y := by
  unfold part
  pointwise [k0_pay1]

theorem last_at (c : Dev nD) (t : Fin (cfgM m hO).N) (y : S256x1024.Idx) :
    (dats m hO 0 c).after 2 t y = part (iblk m hO c 0 t) (iblk m hO c 1 t) y := by
  rw [after0_2]
  unfold outsAt0
  frame_out
  rw [out_at]
  exact congrArg₂ (fun a b => part a b y) ((hs0_0 m hO t).read_unread _) ((hs0_1 m hO t).read_unread _)

/-- Column of the whole gradient at column `x` of the half. -/
def sh1 (x : Fin 2048) : Fin 4096 := ⟨2048 + x.val, by omega⟩

/-- Where entry `y` of the block at a point lies in the result. -/
def pos (t : Fin (cfgM m hO).N) (y : S256x1024.Idx) : S11008x2048.Idx := (((cfgM m hO).win 2).blk t).view.emb y

/-- The result: column of the first operand with column of the second, contracted over the rows. -/
def OUT (A : FVec Ideal S4096x11008 .bf16) (B : FVec Ideal S4096x4096 .bf16) : FVec Ideal S11008x2048 .bf16 :=
  fun i => (∑ k : Fin 4096, A (ix2 k (i 0)) * B (ix2 k (sh1 (i 1))))

theorem final (c : Dev nD) : (dats m hO 0 c).arrAt 2 (cfgM m hO).N = OUT (m ((c : Thread nD τ).loc main_arg0)) (m ((c : Thread nD τ).loc main_arg1)) := by
  refine (dats m hO 0 c).arrAt_eq_of_covers 2 _ (covers m hO) fun t hf (y : S256x1024.Idx) => ?_
  blk_simp
  refine (last_at m hO c t y).trans ?_
  obtain ⟨h0, h1, hw, hi, hj⟩ := idx m hO t
  unfold part
  change (_ : EReal) = _
  refine Finset.sum_congr rfl fun k _ => ?_
  have e0 : iblk m hO c 0 t (ix2 k (y 0)) = (m ((c : Thread nD τ).loc main_arg0)) (ix2 k ((pos m hO t y) 0)) := by
    rw [← V_main_arg0 m c]
    blk_ext [pos, iblk, h0, hw]
  have e1 : iblk m hO c 1 t (ix2 k (y 1)) = (m ((c : Thread nD τ).loc main_arg1)) (ix2 k (sh1 ((pos m hO t y) 1))) := by
    rw [← V_main_arg1 m c]
    blk_ext [pos, iblk, h1, hw, sh1]
  exact congrArg₂ (· * ·) e0 e1

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v1) = OUT (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m (ok m) c), h.2 c⟩) (θ_run_and (run_main m ρ (ok m)) (unchanged m ρ (ok m)))

end Cert.KernelGDownSIdeal.Prod

namespace Cert.ReferenceGDownSIdeal.Prod

open Cert.ReferenceGDownSIdeal Cert.ReferenceGDownSIdeal.Gen

theorem ref_eq (A : FVec Ideal S4096x11008 .bf16) (B : FVec Ideal S4096x4096 .bf16) :
    (truncf .bf16 (extractStridedSlice S11008x2048 ![0, 2048] (transpose S11008x4096 [1, 0] (Host.dotGeneral dot_S2x2048x4096_S2x2048x11008_S4096x11008_01_01_2_2_n_n none (shapeCast _ (extf .f32 B bitsLt_bf16_f32) shapeCasts_S4096x4096_S2x2048x4096) (shapeCast _ (extf .f32 A bitsLt_bf16_f32) shapeCasts_S4096x11008_S2x2048x11008)) transposes_S4096x11008_S11008x4096_1_0) slices_S11008x4096_S11008x2048_0_2048) bitsLt_bf16_f32 : FVec Ideal S11008x2048 .bf16)
      = Cert.KernelGDownSIdeal.Prod.OUT A B := funext fun i => by
  obtain ⟨r, l, rfl⟩ : ∃ (r : Fin 11008) (l : Fin 2048), i = ix2 r l := ⟨i 0, i 1, eq_ix2 i⟩
  unfold Cert.KernelGDownSIdeal.Prod.OUT
  pointwise
  rw [Cert.Rows.sum_rows]
  exact Finset.sum_congr rfl fun x _ => Finset.sum_congr rfl fun y _ => mul_comm _ _
end Cert.ReferenceGDownSIdeal.Prod

namespace Cert.GDownS

theorem ok (m : (ℓ : Loc Cert.KernelGDownS.nD Cert.KernelGDownS.τ Cert.KernelGDownS.sig) → Buf (Elt Bits) ℓ) : Cert.KernelGDownS.Gen.Ok m := Cert.KernelGDownS.Prod.ok m

theorem frame_r (m : (ℓ : Loc Cert.ReferenceGDownSIdeal.nD Cert.ReferenceGDownSIdeal.τ Cert.ReferenceGDownSIdeal.sig) → Buf (Elt Ideal) ℓ) (g : Dev Cert.ReferenceGDownSIdeal.nD → PrngReg) :
    θ_run (Cert.ReferenceGDownSIdeal.defs (F := Ideal)) (onTc (τ := Cert.ReferenceGDownSIdeal.τ) (Cert.ReferenceGDownSIdeal.main (F := Ideal))) ⟨m, fun _ => 0, g⟩ (fun r => (∀ c : Dev Cert.ReferenceGDownSIdeal.nD,
      r.2.mem ((c.tc : Thread Cert.ReferenceGDownSIdeal.nD Cert.ReferenceGDownSIdeal.τ).loc Cert.ReferenceGDownSIdeal.main_arg0) = m ((c.tc : Thread Cert.ReferenceGDownSIdeal.nD Cert.ReferenceGDownSIdeal.τ).loc Cert.ReferenceGDownSIdeal.main_arg0)
      ∧ r.2.mem ((c.tc : Thread Cert.ReferenceGDownSIdeal.nD Cert.ReferenceGDownSIdeal.τ).loc Cert.ReferenceGDownSIdeal.main_arg1) = m ((c.tc : Thread Cert.ReferenceGDownSIdeal.nD Cert.ReferenceGDownSIdeal.τ).loc Cert.ReferenceGDownSIdeal.main_arg1))
      ∧ r.2.sem = fun _ => 0) :=
  (θ_run _ _ _).mono (fun r h => ⟨fun c => (h c).2, Idealize.ShloMosaic.sem_eq_zero_of_no_sems (by decide) r.2⟩) (Cert.ReferenceGDownSIdeal.Value.run m g)

theorem value : Cert.algebraic_KernelGDownSIdeal_ReferenceGDownSIdeal := by
  intro m g m' g' _ hag
  refine ⟨_, Cert.KernelGDownSIdeal.Prod.run m g, (θ_run _ _ _).mono (fun r h c => ?_) (Cert.ReferenceGDownSIdeal.Value.run m' g')⟩
  obtain ⟨e0, ea⟩ := h c
  rw [(hag c).1, (hag c).2] at e0
  exact ⟨e0.trans (Cert.ReferenceGDownSIdeal.Prod.ref_eq _ _), ea⟩

end Cert.GDownS

end
-- ==== Proof.GDownO.lean ====
/- The weight gradient of the down-projection, the half that is kept, with the received half added: the array the kernel leaves, block by block, is one sum over the contracted axis, and so is the reference's. -/
module

public import proofs.«01_k».proof.Defs
public import proofs.«01_k».proof.Proof.Gen.KernelGDownO.Frame
public import proofs.«01_k».proof.Proof.Gen.KernelGDownOIdeal.Frame
public import proofs.«01_k».proof.Proof.Gen.ReferenceGDownOIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.KernelGDownO.Prod

open Cert.KernelGDownO Cert.KernelGDownO.Gen

/-- The table holds the constant word it is made of. -/
theorem tbl_eq (m : (ℓ : Loc nD τ sig) → Buf (Elt Bits) ℓ) : tbl m 0 = fun _ => 0#32 := by
  unfold tbl V
  simp only [hostOps0, List.flatten_cons, List.flatten_nil, List.append_nil, List.cons_append, List.nil_append]
  rfl

/-- The block index of the window that reads the table. -/
theorem tr (m : (ℓ : Loc nD τ sig) → Buf (Elt Bits) ℓ) (i : grid0.Coords) : cc0_transform_1 Gen.facts₀.inb_S1_S1_0 Gen.facts₀.numel1_S1 (tbl m) i = ![0, (Scalar.addi (Scalar.muli 0#32 2#32) (BitVec.ofNat 32 (i 0).val)).toNat] := by
  unfold cc0_transform_1 Pipeline.Prefetch.Contents.at
  simp only [tbl_eq]
  rfl

theorem ok_blocks : ∀ i : grid0.Coords, ∃ h : (∀ a, ((![0, (Scalar.addi (Scalar.muli 0#32 2#32) (BitVec.ofNat 32 (i 0).val)).toNat] : Fin 2 → ℕ) a + 1) * S4096x1024.size a ≤ S4096x4096.size a),
    EltTy.bits .bf16 = 32 ∨ (Rect.block (s := S4096x4096) S4096x1024.size ![0, (Scalar.addi (Scalar.muli 0#32 2#32) (BitVec.ofNat 32 (i 0).val)).toNat] h).WholeWords (EltTy.packing .bf16) := by
  decide +kernel

/-- Every block the table names lies inside the array. -/
theorem ok (m : (ℓ : Loc nD τ sig) → Buf (Elt Bits) ℓ) : Ok m := by
  unfold Ok ok0
  simp only [tr]
  exact ok_blocks

end Cert.KernelGDownO.Prod

namespace Cert.KernelGDownOIdeal.Prod

open Cert.KernelGDownOIdeal Cert.KernelGDownOIdeal.Gen

/-- The table holds the constant word it is made of. -/
theorem tbl_eq (m : (ℓ : Loc nD τ sig) → Buf (Elt Ideal) ℓ) : tbl m 0 = fun _ => 0#32 := by
  unfold tbl V
  simp only [hostOps0, List.flatten_cons, List.flatten_nil, List.append_nil, List.cons_append, List.nil_append]
  rfl

/-- The block index of the window that reads the table. -/
theorem tr (m : (ℓ : Loc nD τ sig) → Buf (Elt Ideal) ℓ) (i : grid0.Coords) : cc0_transform_1 Gen.facts₀.inb_S1_S1_0 Gen.facts₀.numel1_S1 (tbl m) i = ![0, (Scalar.addi (Scalar.muli 0#32 2#32) (BitVec.ofNat 32 (i 0).val)).toNat] := by
  unfold cc0_transform_1 Pipeline.Prefetch.Contents.at
  simp only [tbl_eq]
  rfl

theorem ok_blocks : ∀ i : grid0.Coords, ∃ h : (∀ a, ((![0, (Scalar.addi (Scalar.muli 0#32 2#32) (BitVec.ofNat 32 (i 0).val)).toNat] : Fin 2 → ℕ) a + 1) * S4096x1024.size a ≤ S4096x4096.size a),
    EltTy.bits .bf16 = 32 ∨ (Rect.block (s := S4096x4096) S4096x1024.size ![0, (Scalar.addi (Scalar.muli 0#32 2#32) (BitVec.ofNat 32 (i 0).val)).toNat] h).WholeWords (EltTy.packing .bf16) := by
  decide +kernel

/-- Every block the table names lies inside the array. -/
theorem ok (m : (ℓ : Loc nD τ sig) → Buf (Elt Ideal) ℓ) : Ok m := by
  unfold Ok ok0
  simp only [tr]
  exact ok_blocks

end Cert.KernelGDownOIdeal.Prod

namespace Cert.KernelGDownOIdeal.Prod

open Cert.KernelGDownOIdeal Cert.KernelGDownOIdeal.Gen

variable (m : (ℓ : Loc nD τ sig) → Buf (Elt Ideal) ℓ) (hO : Ok m)

theorem idx_grid : ∀ t : Fin grid0.N, cc0_transform_0 (grid0.coords t) = ![0, t.val % 43] ∧ ![0, (Scalar.addi (Scalar.muli 0#32 2#32) (BitVec.ofNat 32 (grid0.coords t 0).val)).toNat] = ![0, t.val / 43] ∧ cc0_transform_2 (grid0.coords t) = ![t.val % 43, t.val / 43]
    ∧ cc0_transform_3 (grid0.coords t) = ![t.val % 43, t.val / 43] ∧ t.val % 43 < 43 ∧ t.val / 43 < 2 := by
  decide +kernel

theorem idx (t : Fin (cfgM m hO).N) : ((cfgM m hO).win 0).index t = ![0, t.val % 43] ∧ ((cfgM m hO).win 1).index t = ![0, t.val / 43] ∧ ((cfgM m hO).win 2).index t = ![t.val % 43, t.val / 43]
    ∧ ((cfgM m hO).win 3).index t = ![t.val % 43, t.val / 43] ∧ t.val % 43 < 43 ∧ t.val / 43 < 2 := by
  have h := idx_grid t
  rw [← tr m (grid0.coords t)] at h
  exact h

/-- The block of the array added, at a point. -/
def blk2 (c : Dev nD) (t : Fin (cfgM m hO).N) : Vec Ideal S256x1024 .bf16 := iblk m hO c 2 t

theorem surj : ∀ (x : Fin 43) (y : Fin 2), ∃ t : Fin grid0.N, cc0_transform_3 (grid0.coords t) = ![x.val, y.val] := by
  decide +kernel

theorem covers : ((cfgM m hO).win 3).Covers :=
  Pipeline.Window.covers_of_index_surj _ rfl (show ∀ a : Fin 2, 0 < S256x1024.size a by decide) fun β => by
    obtain ⟨t, ht⟩ := surj ⟨(β (0 : Fin 2)).val, lt_of_lt_of_eq (β (0 : Fin 2)).isLt (show (11008 + 256 - 1) / 256 = 43 by decide)⟩ ⟨(β (1 : Fin 2)).val, lt_of_lt_of_eq (β (1 : Fin 2)).isLt (show (2048 + 1024 - 1) / 1024 = 2 by decide)⟩
    exact ⟨t, fun (a : Fin 2) => match a with
      | 0 => congrFun ht 0
      | 1 => congrFun ht 1⟩

/-- What one point leaves at a block's entry. -/
def part (a : Vec Ideal S4096x256 .bf16) (b : Vec Ideal S4096x1024 .bf16) (y : S256x1024.Idx) : EReal := ∑ k : Fin 4096, a (ix2 k (y 0)) * b (ix2 k (y 1))

theorem out_at (a : Vec Ideal S4096x256 .bf16) (b : Vec Ideal S4096x1024 .bf16) (d : Vec Ideal S256x1024 .bf16) (y : S256x1024.Idx) :
    k0_pay1 (F := Ideal) a b d y = part a b y + d y := by
  unfold part
  pointwise [k0_pay1]

theorem last_at (c : Dev nD) (t : Fin (cfgM m hO).N) (y : S256x1024.Idx) :
    (dats m hO 0 c).after 3 t y = part (iblk m hO c 0 t) (iblk m hO c 1 t) y + blk2 m hO c t y := by
  rw [after0_3]
  unfold outsAt0
  frame_out
  rw [out_at]
  exact congrArg₂ (· + ·) (congrArg₂ (fun a b => part a b y) ((hs0_0 m hO t).read_unread _) ((hs0_1 m hO t).read_unread _)) (congrFun ((hs0_2 m hO t).read_unread _) y)

/-- Column of the whole gradient at column `x` of the half. -/
def sh1 (x : Fin 2048) : Fin 4096 := ⟨0 + x.val, by omega⟩

/-- Where entry `y` of the block at a point lies in the result. -/
def pos (t : Fin (cfgM m hO).N) (y : S256x1024.Idx) : S11008x2048.Idx := (((cfgM m hO).win 3).blk t).view.emb y

/-- The result: column of the first operand with column of the second, contracted over the rows. -/
def OUT (A : FVec Ideal S4096x11008 .bf16) (B : FVec Ideal S4096x4096 .bf16) (D : FVec Ideal S11008x2048 .bf16) : FVec Ideal S11008x2048 .bf16 :=
  fun i => (∑ k : Fin 4096, A (ix2 k (i 0)) * B (ix2 k (sh1 (i 1)))) + D i

theorem final (c : Dev nD) : (dats m hO 0 c).arrAt 3 (cfgM m hO).N = OUT (m ((c : Thread nD τ).loc main_arg0)) (m ((c : Thread nD τ).loc main_arg1)) (m ((c : Thread nD τ).loc main_arg2)) := by
  refine (dats m hO 0 c).arrAt_eq_of_covers 3 _ (covers m hO) fun t hf (y : S256x1024.Idx) => ?_
  blk_simp
  refine (last_at m hO c t y).trans ?_
  obtain ⟨h0, h1, h2, hw, hi, hj⟩ := idx m hO t
  have e2 : blk2 m hO c t y = (m ((c : Thread nD τ).loc main_arg2)) (pos m hO t y) := by
    rw [← V_main_arg2 m c]
    blk_ext [blk2, pos, iblk, h2, hw]
  refine congrArg₂ (· + ·) ?_ e2
  unfold part
  change (_ : EReal) = _
  refine Finset.sum_congr rfl fun k _ => ?_
  have e0 : iblk m hO c 0 t (ix2 k (y 0)) = (m ((c : Thread nD τ).loc main_arg0)) (ix2 k ((pos m hO t y) 0)) := by
    rw [← V_main_arg0 m c]
    blk_ext [pos, iblk, h0, hw]
  have e1 : iblk m hO c 1 t (ix2 k (y 1)) = (m ((c : Thread nD τ).loc main_arg1)) (ix2 k (sh1 ((pos m hO t y) 1))) := by
    rw [← V_main_arg1 m c]
    blk_ext [pos, iblk, h1, hw, sh1]
  exact congrArg₂ (· * ·) e0 e1

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v1) = OUT (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final m (ok m) c), h.2 c⟩) (θ_run_and (run_main m ρ (ok m)) (unchanged m ρ (ok m)))

end Cert.KernelGDownOIdeal.Prod

namespace Cert.ReferenceGDownOIdeal.Prod

open Cert.ReferenceGDownOIdeal Cert.ReferenceGDownOIdeal.Gen

theorem ref_eq (A : FVec Ideal S4096x11008 .bf16) (B : FVec Ideal S4096x4096 .bf16) (D : FVec Ideal S11008x2048 .bf16) :
    (truncf .bf16 (addf (extractStridedSlice S11008x2048 ![0, 0] (transpose S11008x4096 [1, 0] (Host.dotGeneral dot_S2x2048x4096_S2x2048x11008_S4096x11008_01_01_2_2_n_n none (shapeCast _ (extf .f32 B bitsLt_bf16_f32) shapeCasts_S4096x4096_S2x2048x4096) (shapeCast _ (extf .f32 A bitsLt_bf16_f32) shapeCasts_S4096x11008_S2x2048x11008)) transposes_S4096x11008_S11008x4096_1_0) slices_S11008x4096_S11008x2048_0_0) (extf .f32 D bitsLt_bf16_f32)) bitsLt_bf16_f32 : FVec Ideal S11008x2048 .bf16)
      = Cert.KernelGDownOIdeal.Prod.OUT A B D := funext fun i => by
  obtain ⟨r, l, rfl⟩ : ∃ (r : Fin 11008) (l : Fin 2048), i = ix2 r l := ⟨i 0, i 1, eq_ix2 i⟩
  unfold Cert.KernelGDownOIdeal.Prod.OUT
  pointwise
  refine congrArg (· + _) ?_
  rw [Cert.Rows.sum_rows]
  exact Finset.sum_congr rfl fun x _ => Finset.sum_congr rfl fun y _ => by
    rw [mul_comm]
    congr 3
    all_goals exact Fin.ext (by simp [Cert.KernelGDownOIdeal.Prod.sh1])
end Cert.ReferenceGDownOIdeal.Prod

namespace Cert.GDownO

theorem ok (m : (ℓ : Loc Cert.KernelGDownO.nD Cert.KernelGDownO.τ Cert.KernelGDownO.sig) → Buf (Elt Bits) ℓ) : Cert.KernelGDownO.Gen.Ok m := Cert.KernelGDownO.Prod.ok m

theorem frame_r (m : (ℓ : Loc Cert.ReferenceGDownOIdeal.nD Cert.ReferenceGDownOIdeal.τ Cert.ReferenceGDownOIdeal.sig) → Buf (Elt Ideal) ℓ) (g : Dev Cert.ReferenceGDownOIdeal.nD → PrngReg) :
    θ_run (Cert.ReferenceGDownOIdeal.defs (F := Ideal)) (onTc (τ := Cert.ReferenceGDownOIdeal.τ) (Cert.ReferenceGDownOIdeal.main (F := Ideal))) ⟨m, fun _ => 0, g⟩ (fun r => (∀ c : Dev Cert.ReferenceGDownOIdeal.nD,
      r.2.mem ((c.tc : Thread Cert.ReferenceGDownOIdeal.nD Cert.ReferenceGDownOIdeal.τ).loc Cert.ReferenceGDownOIdeal.main_arg0) = m ((c.tc : Thread Cert.ReferenceGDownOIdeal.nD Cert.ReferenceGDownOIdeal.τ).loc Cert.ReferenceGDownOIdeal.main_arg0)
      ∧ r.2.mem ((c.tc : Thread Cert.ReferenceGDownOIdeal.nD Cert.ReferenceGDownOIdeal.τ).loc Cert.ReferenceGDownOIdeal.main_arg1) = m ((c.tc : Thread Cert.ReferenceGDownOIdeal.nD Cert.ReferenceGDownOIdeal.τ).loc Cert.ReferenceGDownOIdeal.main_arg1)
      ∧ r.2.mem ((c.tc : Thread Cert.ReferenceGDownOIdeal.nD Cert.ReferenceGDownOIdeal.τ).loc Cert.ReferenceGDownOIdeal.main_arg2) = m ((c.tc : Thread Cert.ReferenceGDownOIdeal.nD Cert.ReferenceGDownOIdeal.τ).loc Cert.ReferenceGDownOIdeal.main_arg2))
      ∧ r.2.sem = fun _ => 0) :=
  (θ_run _ _ _).mono (fun r h => ⟨fun c => (h c).2, Idealize.ShloMosaic.sem_eq_zero_of_no_sems (by decide) r.2⟩) (Cert.ReferenceGDownOIdeal.Value.run m g)

theorem value : Cert.algebraic_KernelGDownOIdeal_ReferenceGDownOIdeal := by
  intro m g m' g' _ hag
  refine ⟨_, Cert.KernelGDownOIdeal.Prod.run m g, (θ_run _ _ _).mono (fun r h c => ?_) (Cert.ReferenceGDownOIdeal.Value.run m' g')⟩
  obtain ⟨e0, ea⟩ := h c
  rw [(hag c).1, (hag c).2.1, (hag c).2.2] at e0
  exact ⟨e0.trans (Cert.ReferenceGDownOIdeal.Prod.ref_eq _ _ _), ea⟩

end Cert.GDownO

end
-- ==== Proof.GInS.lean ====
/- The weight gradient of the input projection, the half that is sent: the array the kernel leaves, block by block, is one sum over the contracted axis, and so is the reference's. -/
module

public import proofs.«01_k».proof.Defs
public import proofs.«01_k».proof.Proof.Gen.KernelGInS.Frame
public import proofs.«01_k».proof.Proof.Gen.KernelGInSIdeal.Frame
public import proofs.«01_k».proof.Proof.Gen.ReferenceGInSIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.KernelGInS.Prod

open Cert.KernelGInS Cert.KernelGInS.Gen

/-- The table holds the constant word it is made of. -/
theorem tbl_eq (m : (ℓ : Loc nD τ sig) → Buf (Elt Bits) ℓ) : tbl m 0 = fun _ => 1#32 := by
  unfold tbl V
  simp only [hostOps0, List.flatten_cons, List.flatten_nil, List.append_nil, List.cons_append, List.nil_append]
  rfl

/-- The block index of the window that reads the table. -/
theorem tr (m : (ℓ : Loc nD τ sig) → Buf (Elt Bits) ℓ) (i : grid0.Coords) : cc0_transform_0 Gen.facts₀.inb_S1_S1_0 Gen.facts₀.numel1_S1 (tbl m) i = ![0, (Scalar.addi (Scalar.muli 1#32 2#32) (BitVec.ofNat 32 (i 0).val)).toNat] := by
  unfold cc0_transform_0 Pipeline.Prefetch.Contents.at
  simp only [tbl_eq]
  rfl

theorem ok_blocks : ∀ i : grid0.Coords, ∃ h : (∀ a, ((![0, (Scalar.addi (Scalar.muli 1#32 2#32) (BitVec.ofNat 32 (i 0).val)).toNat] : Fin 2 → ℕ) a + 1) * S4096x1024.size a ≤ S4096x4096.size a),
    EltTy.bits .bf16 = 32 ∨ (Rect.block (s := S4096x4096) S4096x1024.size ![0, (Scalar.addi (Scalar.muli 1#32 2#32) (BitVec.ofNat 32 (i 0).val)).toNat] h).WholeWords (EltTy.packing .bf16) := by
  decide +kernel

/-- Every block the table names lies inside the array. -/
theorem ok (m : (ℓ : Loc nD τ sig) → Buf (Elt Bits) ℓ) : Ok m := by
  unfold Ok ok0
  simp only [tr]
  exact ok_blocks

end Cert.KernelGInS.Prod

namespace Cert.KernelGInSIdeal.Prod

open Cert.KernelGInSIdeal Cert.KernelGInSIdeal.Gen

/-- The table holds the constant word it is made of. -/
theorem tbl_eq (m : (ℓ : Loc nD τ sig) → Buf (Elt Ideal) ℓ) : tbl m 0 = fun _ => 1#32 := by
  unfold tbl V
  simp only [hostOps0, List.flatten_cons, List.flatten_nil, List.append_nil, List.cons_append, List.nil_append]
  rfl

/-- The block index of the window that reads the table. -/
theorem tr (m : (ℓ : Loc nD τ sig) → Buf (Elt Ideal) ℓ) (i : grid0.Coords) : cc0_transform_0 Gen.facts₀.inb_S1_S1_0 Gen.facts₀.numel1_S1 (tbl m) i = ![0, (Scalar.addi (Scalar.muli 1#32 2#32) (BitVec.ofNat 32 (i 0).val)).toNat] := by
  unfold cc0_transform_0 Pipeline.Prefetch.Contents.at
  simp only [tbl_eq]
  rfl

theorem ok_blocks : ∀ i : grid0.Coords, ∃ h : (∀ a, ((![0, (Scalar.addi (Scalar.muli 1#32 2#32) (BitVec.ofNat 32 (i 0).val)).toNat] : Fin 2 → ℕ) a + 1) * S4096x1024.size a ≤ S4096x4096.size a),
    EltTy.bits .bf16 = 32 ∨ (Rect.block (s := S4096x4096) S4096x1024.size ![0, (Scalar.addi (Scalar.muli 1#32 2#32) (BitVec.ofNat 32 (i 0).val)).toNat] h).WholeWords (EltTy.packing .bf16) := by
  decide +kernel

/-- Every block the table names lies inside the array. -/
theorem ok (m : (ℓ : Loc nD τ sig) → Buf (Elt Ideal) ℓ) : Ok m := by
  unfold Ok ok0
  simp only [tr]
  exact ok_blocks

end Cert.KernelGInSIdeal.Prod

namespace Cert.KernelGInSIdeal.Prod

open Cert.KernelGInSIdeal Cert.KernelGInSIdeal.Gen

variable (m : (ℓ : Loc nD τ sig) → Buf (Elt Ideal) ℓ) (hO : Ok m)

theorem idx_grid : ∀ t : Fin grid0.N, ![0, (Scalar.addi (Scalar.muli 1#32 2#32) (BitVec.ofNat 32 (grid0.coords t 0).val)).toNat] = ![0, 2 + t.val / 24] ∧ cc0_transform_1 (grid0.coords t) = ![0, t.val % 24]
    ∧ cc0_transform_2 (grid0.coords t) = ![t.val / 24, t.val % 24] ∧ t.val / 24 < 2 ∧ t.val % 24 < 24 := by
  decide +kernel

theorem idx (t : Fin (cfgM m hO).N) : ((cfgM m hO).win 0).index t = ![0, 2 + t.val / 24] ∧ ((cfgM m hO).win 1).index t = ![0, t.val % 24]
    ∧ ((cfgM m hO).win 2).index t = ![t.val / 24, t.val % 24] ∧ t.val / 24 < 2 ∧ t.val % 24 < 24 := by
  have h := idx_grid t
  rw [← tr m (grid0.coords t)] at h
  exact h

theorem surj : ∀ (x : Fin 2) (y : Fin 24), ∃ t : Fin grid0.N, cc0_transform_2 (grid0.coords t) = ![x.val, y.val] := by
  decide +kernel

theorem covers : ((cfgM m hO).win 2).Covers :=
  Pipeline.Window.covers_of_index_surj _ rfl (show ∀ a : Fin 2, 0 < S1024x512.size a by decide) fun β => by
    obtain ⟨t, ht⟩ := surj ⟨(β (0 : Fin 2)).val, lt_of_lt_of_eq (β (0 : Fin 2)).isLt (show (2048 + 1024 - 1) / 1024 = 2 by decide)⟩ ⟨(β (1 : Fin 2)).val, lt_of_lt_of_eq (β (1 : Fin 2)).isLt (show (12288 + 512 - 1) / 512 = 24 by decide)⟩
    exact ⟨t, fun (a : Fin 2) => match a with
      | 0 => congrFun ht 0
      | 1 => congrFun ht 1⟩

/-- What one point leaves at a block's entry. -/
def part (a : Vec Ideal S4096x1024 .bf16) (b : Vec Ideal S4096x512 .bf16) (y : S1024x512.Idx) : EReal := ∑ k : Fin 4096, a (ix2 k (y 0)) * b (ix2 k (y 1))

theorem out_at (a : Vec Ideal S4096x1024 .bf16) (b : Vec Ideal S4096x512 .bf16) (y : S1024x512.Idx) :
    k0_pay1 (F := Ideal) a b y = part a b y := by
  unfold part
  pointwise [k0_pay1]

theorem last_at (c : Dev nD) (t : Fin (cfgM m hO).N) (y : S1024x512.Idx) :
    (dats m hO 0 c).after 2 t y = part (iblk m hO c 0 t) (iblk m hO c 1 t) y := by
  rw [after0_2]
  unfold outsAt0
  frame_out
  rw [out_at]
  exact congrArg₂ (fun a b => part a b y) ((hs0_0 m hO t).read_unread _) ((hs0_1 m hO t).read_unread _)

/-- Row of the whole gradient at row `x` of the half. -/
def sh0 (x : Fin 2048) : Fin 4096 := ⟨2048 + x.val, by omega⟩

/-- Where entry `y` of the block at a point lies in the result. -/
def pos (t : Fin (cfgM m hO).N) (y : S1024x512.Idx) : S2048x12288.Idx := (((cfgM m hO).win 2).blk t).view.emb y

/-- The result: column of the first operand with column of the second, contracted over the rows. -/
def OUT (A : FVec Ideal S4096x4096 .bf16) (B : FVec Ideal S4096x12288 .bf16) : FVec Ideal S2048x12288 .bf16 :=
  fun i => (∑ k : Fin 4096, A (ix2 k (sh0 (i 0))) * B (ix2 k (i 1)))

theorem final (c : Dev nD) : (dats m hO 0 c).arrAt 2 (cfgM m hO).N = OUT (m ((c : Thread nD τ).loc main_arg0)) (m ((c : Thread nD τ).loc main_arg1)) := by
  refine (dats m hO 0 c).arrAt_eq_of_covers 2 _ (covers m hO) fun t hf (y : S1024x512.Idx) => ?_
  blk_simp
  refine (last_at m hO c t y).trans ?_
  obtain ⟨h0, h1, hw, hi, hj⟩ := idx m hO t
  unfold part
  change (_ : EReal) = _
  refine Finset.sum_congr rfl fun k _ => ?_
  have e0 : iblk m hO c 0 t (ix2 k (y 0)) = (m ((c : Thread nD τ).loc main_arg0)) (ix2 k (sh0 ((pos m hO t y) 0))) := by
    rw [← V_main_arg0 m c]
    blk_ext [pos, iblk, h0, hw, sh0]
  have e1 : iblk m hO c 1 t (ix2 k (y 1)) = (m ((c : Thread nD τ).loc main_arg1)) (ix2 k ((pos m hO t y) 1)) := by
    rw [← V_main_arg1 m c]
    blk_ext [pos, iblk, h1, hw]
  exact congrArg₂ (· * ·) e0 e1

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v1) = OUT (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m (ok m) c), h.2 c⟩) (θ_run_and (run_main m ρ (ok m)) (unchanged m ρ (ok m)))

end Cert.KernelGInSIdeal.Prod

namespace Cert.ReferenceGInSIdeal.Prod

open Cert.ReferenceGInSIdeal Cert.ReferenceGInSIdeal.Gen

theorem ref_eq (A : FVec Ideal S4096x4096 .bf16) (B : FVec Ideal S4096x12288 .bf16) :
    (truncf .bf16 (extractStridedSlice S2048x12288 ![2048, 0] (transpose S4096x12288 [1, 0] (Host.dotGeneral dot_S2x2048x12288_S2x2048x4096_S12288x4096_01_01_2_2_n_n none (shapeCast _ (extf .f32 B bitsLt_bf16_f32) shapeCasts_S4096x12288_S2x2048x12288) (shapeCast _ (extf .f32 A bitsLt_bf16_f32) shapeCasts_S4096x4096_S2x2048x4096)) transposes_S12288x4096_S4096x12288_1_0) slices_S4096x12288_S2048x12288_2048_0) bitsLt_bf16_f32 : FVec Ideal S2048x12288 .bf16)
      = Cert.KernelGInSIdeal.Prod.OUT A B := funext fun i => by
  obtain ⟨r, l, rfl⟩ : ∃ (r : Fin 2048) (l : Fin 12288), i = ix2 r l := ⟨i 0, i 1, eq_ix2 i⟩
  unfold Cert.KernelGInSIdeal.Prod.OUT
  pointwise
  rw [Cert.Rows.sum_rows]
  exact Finset.sum_congr rfl fun x _ => Finset.sum_congr rfl fun y _ => mul_comm _ _
end Cert.ReferenceGInSIdeal.Prod

namespace Cert.GInS

theorem ok (m : (ℓ : Loc Cert.KernelGInS.nD Cert.KernelGInS.τ Cert.KernelGInS.sig) → Buf (Elt Bits) ℓ) : Cert.KernelGInS.Gen.Ok m := Cert.KernelGInS.Prod.ok m

theorem frame_r (m : (ℓ : Loc Cert.ReferenceGInSIdeal.nD Cert.ReferenceGInSIdeal.τ Cert.ReferenceGInSIdeal.sig) → Buf (Elt Ideal) ℓ) (g : Dev Cert.ReferenceGInSIdeal.nD → PrngReg) :
    θ_run (Cert.ReferenceGInSIdeal.defs (F := Ideal)) (onTc (τ := Cert.ReferenceGInSIdeal.τ) (Cert.ReferenceGInSIdeal.main (F := Ideal))) ⟨m, fun _ => 0, g⟩ (fun r => (∀ c : Dev Cert.ReferenceGInSIdeal.nD,
      r.2.mem ((c.tc : Thread Cert.ReferenceGInSIdeal.nD Cert.ReferenceGInSIdeal.τ).loc Cert.ReferenceGInSIdeal.main_arg0) = m ((c.tc : Thread Cert.ReferenceGInSIdeal.nD Cert.ReferenceGInSIdeal.τ).loc Cert.ReferenceGInSIdeal.main_arg0)
      ∧ r.2.mem ((c.tc : Thread Cert.ReferenceGInSIdeal.nD Cert.ReferenceGInSIdeal.τ).loc Cert.ReferenceGInSIdeal.main_arg1) = m ((c.tc : Thread Cert.ReferenceGInSIdeal.nD Cert.ReferenceGInSIdeal.τ).loc Cert.ReferenceGInSIdeal.main_arg1))
      ∧ r.2.sem = fun _ => 0) :=
  (θ_run _ _ _).mono (fun r h => ⟨fun c => (h c).2, Idealize.ShloMosaic.sem_eq_zero_of_no_sems (by decide) r.2⟩) (Cert.ReferenceGInSIdeal.Value.run m g)

theorem value : Cert.algebraic_KernelGInSIdeal_ReferenceGInSIdeal := by
  intro m g m' g' _ hag
  refine ⟨_, Cert.KernelGInSIdeal.Prod.run m g, (θ_run _ _ _).mono (fun r h c => ?_) (Cert.ReferenceGInSIdeal.Value.run m' g')⟩
  obtain ⟨e0, ea⟩ := h c
  rw [(hag c).1, (hag c).2] at e0
  exact ⟨e0.trans (Cert.ReferenceGInSIdeal.Prod.ref_eq _ _), ea⟩

end Cert.GInS

end
-- ==== Proof.GInO.lean ====
/- The weight gradient of the input projection, the half that is kept, with the received half added: the array the kernel leaves, block by block, is one sum over the contracted axis, and so is the reference's. -/
module

public import proofs.«01_k».proof.Defs
public import proofs.«01_k».proof.Proof.Gen.KernelGInO.Frame
public import proofs.«01_k».proof.Proof.Gen.KernelGInOIdeal.Frame
public import proofs.«01_k».proof.Proof.Gen.ReferenceGInOIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.KernelGInO.Prod

open Cert.KernelGInO Cert.KernelGInO.Gen

/-- The table holds the constant word it is made of. -/
theorem tbl_eq (m : (ℓ : Loc nD τ sig) → Buf (Elt Bits) ℓ) : tbl m 0 = fun _ => 0#32 := by
  unfold tbl V
  simp only [hostOps0, List.flatten_cons, List.flatten_nil, List.append_nil, List.cons_append, List.nil_append]
  rfl

/-- The block index of the window that reads the table. -/
theorem tr (m : (ℓ : Loc nD τ sig) → Buf (Elt Bits) ℓ) (i : grid0.Coords) : cc0_transform_0 Gen.facts₀.inb_S1_S1_0 Gen.facts₀.numel1_S1 (tbl m) i = ![0, (Scalar.addi (Scalar.muli 0#32 2#32) (BitVec.ofNat 32 (i 0).val)).toNat] := by
  unfold cc0_transform_0 Pipeline.Prefetch.Contents.at
  simp only [tbl_eq]
  rfl

theorem ok_blocks : ∀ i : grid0.Coords, ∃ h : (∀ a, ((![0, (Scalar.addi (Scalar.muli 0#32 2#32) (BitVec.ofNat 32 (i 0).val)).toNat] : Fin 2 → ℕ) a + 1) * S4096x1024.size a ≤ S4096x4096.size a),
    EltTy.bits .bf16 = 32 ∨ (Rect.block (s := S4096x4096) S4096x1024.size ![0, (Scalar.addi (Scalar.muli 0#32 2#32) (BitVec.ofNat 32 (i 0).val)).toNat] h).WholeWords (EltTy.packing .bf16) := by
  decide +kernel

/-- Every block the table names lies inside the array. -/
theorem ok (m : (ℓ : Loc nD τ sig) → Buf (Elt Bits) ℓ) : Ok m := by
  unfold Ok ok0
  simp only [tr]
  exact ok_blocks

end Cert.KernelGInO.Prod

namespace Cert.KernelGInOIdeal.Prod

open Cert.KernelGInOIdeal Cert.KernelGInOIdeal.Gen

/-- The table holds the constant word it is made of. -/
theorem tbl_eq (m : (ℓ : Loc nD τ sig) → Buf (Elt Ideal) ℓ) : tbl m 0 = fun _ => 0#32 := by
  unfold tbl V
  simp only [hostOps0, List.flatten_cons, List.flatten_nil, List.append_nil, List.cons_append, List.nil_append]
  rfl

/-- The block index of the window that reads the table. -/
theorem tr (m : (ℓ : Loc nD τ sig) → Buf (Elt Ideal) ℓ) (i : grid0.Coords) : cc0_transform_0 Gen.facts₀.inb_S1_S1_0 Gen.facts₀.numel1_S1 (tbl m) i = ![0, (Scalar.addi (Scalar.muli 0#32 2#32) (BitVec.ofNat 32 (i 0).val)).toNat] := by
  unfold cc0_transform_0 Pipeline.Prefetch.Contents.at
  simp only [tbl_eq]
  rfl

theorem ok_blocks : ∀ i : grid0.Coords, ∃ h : (∀ a, ((![0, (Scalar.addi (Scalar.muli 0#32 2#32) (BitVec.ofNat 32 (i 0).val)).toNat] : Fin 2 → ℕ) a + 1) * S4096x1024.size a ≤ S4096x4096.size a),
    EltTy.bits .bf16 = 32 ∨ (Rect.block (s := S4096x4096) S4096x1024.size ![0, (Scalar.addi (Scalar.muli 0#32 2#32) (BitVec.ofNat 32 (i 0).val)).toNat] h).WholeWords (EltTy.packing .bf16) := by
  decide +kernel

/-- Every block the table names lies inside the array. -/
theorem ok (m : (ℓ : Loc nD τ sig) → Buf (Elt Ideal) ℓ) : Ok m := by
  unfold Ok ok0
  simp only [tr]
  exact ok_blocks

end Cert.KernelGInOIdeal.Prod

namespace Cert.KernelGInOIdeal.Prod

open Cert.KernelGInOIdeal Cert.KernelGInOIdeal.Gen

variable (m : (ℓ : Loc nD τ sig) → Buf (Elt Ideal) ℓ) (hO : Ok m)

theorem idx_grid : ∀ t : Fin grid0.N, ![0, (Scalar.addi (Scalar.muli 0#32 2#32) (BitVec.ofNat 32 (grid0.coords t 0).val)).toNat] = ![0, t.val / 24] ∧ cc0_transform_1 (grid0.coords t) = ![0, t.val % 24] ∧ cc0_transform_2 (grid0.coords t) = ![t.val / 24, t.val % 24]
    ∧ cc0_transform_3 (grid0.coords t) = ![t.val / 24, t.val % 24] ∧ t.val / 24 < 2 ∧ t.val % 24 < 24 := by
  decide +kernel

theorem idx (t : Fin (cfgM m hO).N) : ((cfgM m hO).win 0).index t = ![0, t.val / 24] ∧ ((cfgM m hO).win 1).index t = ![0, t.val % 24] ∧ ((cfgM m hO).win 2).index t = ![t.val / 24, t.val % 24]
    ∧ ((cfgM m hO).win 3).index t = ![t.val / 24, t.val % 24] ∧ t.val / 24 < 2 ∧ t.val % 24 < 24 := by
  have h := idx_grid t
  rw [← tr m (grid0.coords t)] at h
  exact h

/-- The block of the array added, at a point. -/
def blk2 (c : Dev nD) (t : Fin (cfgM m hO).N) : Vec Ideal S1024x512 .bf16 := iblk m hO c 2 t

theorem surj : ∀ (x : Fin 2) (y : Fin 24), ∃ t : Fin grid0.N, cc0_transform_3 (grid0.coords t) = ![x.val, y.val] := by
  decide +kernel

theorem covers : ((cfgM m hO).win 3).Covers :=
  Pipeline.Window.covers_of_index_surj _ rfl (show ∀ a : Fin 2, 0 < S1024x512.size a by decide) fun β => by
    obtain ⟨t, ht⟩ := surj ⟨(β (0 : Fin 2)).val, lt_of_lt_of_eq (β (0 : Fin 2)).isLt (show (2048 + 1024 - 1) / 1024 = 2 by decide)⟩ ⟨(β (1 : Fin 2)).val, lt_of_lt_of_eq (β (1 : Fin 2)).isLt (show (12288 + 512 - 1) / 512 = 24 by decide)⟩
    exact ⟨t, fun (a : Fin 2) => match a with
      | 0 => congrFun ht 0
      | 1 => congrFun ht 1⟩

/-- What one point leaves at a block's entry. -/
def part (a : Vec Ideal S4096x1024 .bf16) (b : Vec Ideal S4096x512 .bf16) (y : S1024x512.Idx) : EReal := ∑ k : Fin 4096, a (ix2 k (y 0)) * b (ix2 k (y 1))

theorem out_at (a : Vec Ideal S4096x1024 .bf16) (b : Vec Ideal S4096x512 .bf16) (d : Vec Ideal S1024x512 .bf16) (y : S1024x512.Idx) :
    k0_pay1 (F := Ideal) a b d y = part a b y + d y := by
  unfold part
  pointwise [k0_pay1]

theorem last_at (c : Dev nD) (t : Fin (cfgM m hO).N) (y : S1024x512.Idx) :
    (dats m hO 0 c).after 3 t y = part (iblk m hO c 0 t) (iblk m hO c 1 t) y + blk2 m hO c t y := by
  rw [after0_3]
  unfold outsAt0
  frame_out
  rw [out_at]
  exact congrArg₂ (· + ·) (congrArg₂ (fun a b => part a b y) ((hs0_0 m hO t).read_unread _) ((hs0_1 m hO t).read_unread _)) (congrFun ((hs0_2 m hO t).read_unread _) y)

/-- Row of the whole gradient at row `x` of the half. -/
def sh0 (x : Fin 2048) : Fin 4096 := ⟨0 + x.val, by omega⟩

/-- Where entry `y` of the block at a point lies in the result. -/
def pos (t : Fin (cfgM m hO).N) (y : S1024x512.Idx) : S2048x12288.Idx := (((cfgM m hO).win 3).blk t).view.emb y

/-- The result: column of the first operand with column of the second, contracted over the rows. -/
def OUT (A : FVec Ideal S4096x4096 .bf16) (B : FVec Ideal S4096x12288 .bf16) (D : FVec Ideal S2048x12288 .bf16) : FVec Ideal S2048x12288 .bf16 :=
  fun i => (∑ k : Fin 4096, A (ix2 k (sh0 (i 0))) * B (ix2 k (i 1))) + D i

theorem final (c : Dev nD) : (dats m hO 0 c).arrAt 3 (cfgM m hO).N = OUT (m ((c : Thread nD τ).loc main_arg0)) (m ((c : Thread nD τ).loc main_arg1)) (m ((c : Thread nD τ).loc main_arg2)) := by
  refine (dats m hO 0 c).arrAt_eq_of_covers 3 _ (covers m hO) fun t hf (y : S1024x512.Idx) => ?_
  blk_simp
  refine (last_at m hO c t y).trans ?_
  obtain ⟨h0, h1, h2, hw, hi, hj⟩ := idx m hO t
  have e2 : blk2 m hO c t y = (m ((c : Thread nD τ).loc main_arg2)) (pos m hO t y) := by
    rw [← V_main_arg2 m c]
    blk_ext [blk2, pos, iblk, h2, hw]
  refine congrArg₂ (· + ·) ?_ e2
  unfold part
  change (_ : EReal) = _
  refine Finset.sum_congr rfl fun k _ => ?_
  have e0 : iblk m hO c 0 t (ix2 k (y 0)) = (m ((c : Thread nD τ).loc main_arg0)) (ix2 k (sh0 ((pos m hO t y) 0))) := by
    rw [← V_main_arg0 m c]
    blk_ext [pos, iblk, h0, hw, sh0]
  have e1 : iblk m hO c 1 t (ix2 k (y 1)) = (m ((c : Thread nD τ).loc main_arg1)) (ix2 k ((pos m hO t y) 1)) := by
    rw [← V_main_arg1 m c]
    blk_ext [pos, iblk, h1, hw]
  exact congrArg₂ (· * ·) e0 e1

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v1) = OUT (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final m (ok m) c), h.2 c⟩) (θ_run_and (run_main m ρ (ok m)) (unchanged m ρ (ok m)))

end Cert.KernelGInOIdeal.Prod

namespace Cert.ReferenceGInOIdeal.Prod

open Cert.ReferenceGInOIdeal Cert.ReferenceGInOIdeal.Gen

theorem ref_eq (A : FVec Ideal S4096x4096 .bf16) (B : FVec Ideal S4096x12288 .bf16) (D : FVec Ideal S2048x12288 .bf16) :
    (truncf .bf16 (addf (extractStridedSlice S2048x12288 ![0, 0] (transpose S4096x12288 [1, 0] (Host.dotGeneral dot_S2x2048x12288_S2x2048x4096_S12288x4096_01_01_2_2_n_n none (shapeCast _ (extf .f32 B bitsLt_bf16_f32) shapeCasts_S4096x12288_S2x2048x12288) (shapeCast _ (extf .f32 A bitsLt_bf16_f32) shapeCasts_S4096x4096_S2x2048x4096)) transposes_S12288x4096_S4096x12288_1_0) slices_S4096x12288_S2048x12288_0_0) (extf .f32 D bitsLt_bf16_f32)) bitsLt_bf16_f32 : FVec Ideal S2048x12288 .bf16)
      = Cert.KernelGInOIdeal.Prod.OUT A B D := funext fun i => by
  obtain ⟨r, l, rfl⟩ : ∃ (r : Fin 2048) (l : Fin 12288), i = ix2 r l := ⟨i 0, i 1, eq_ix2 i⟩
  unfold Cert.KernelGInOIdeal.Prod.OUT
  pointwise
  refine congrArg (· + _) ?_
  rw [Cert.Rows.sum_rows]
  exact Finset.sum_congr rfl fun x _ => Finset.sum_congr rfl fun y _ => by
    rw [mul_comm]
    congr 3
    all_goals exact Fin.ext (by simp [Cert.KernelGInOIdeal.Prod.sh0])
end Cert.ReferenceGInOIdeal.Prod

namespace Cert.GInO

theorem ok (m : (ℓ : Loc Cert.KernelGInO.nD Cert.KernelGInO.τ Cert.KernelGInO.sig) → Buf (Elt Bits) ℓ) : Cert.KernelGInO.Gen.Ok m := Cert.KernelGInO.Prod.ok m

theorem frame_r (m : (ℓ : Loc Cert.ReferenceGInOIdeal.nD Cert.ReferenceGInOIdeal.τ Cert.ReferenceGInOIdeal.sig) → Buf (Elt Ideal) ℓ) (g : Dev Cert.ReferenceGInOIdeal.nD → PrngReg) :
    θ_run (Cert.ReferenceGInOIdeal.defs (F := Ideal)) (onTc (τ := Cert.ReferenceGInOIdeal.τ) (Cert.ReferenceGInOIdeal.main (F := Ideal))) ⟨m, fun _ => 0, g⟩ (fun r => (∀ c : Dev Cert.ReferenceGInOIdeal.nD,
      r.2.mem ((c.tc : Thread Cert.ReferenceGInOIdeal.nD Cert.ReferenceGInOIdeal.τ).loc Cert.ReferenceGInOIdeal.main_arg0) = m ((c.tc : Thread Cert.ReferenceGInOIdeal.nD Cert.ReferenceGInOIdeal.τ).loc Cert.ReferenceGInOIdeal.main_arg0)
      ∧ r.2.mem ((c.tc : Thread Cert.ReferenceGInOIdeal.nD Cert.ReferenceGInOIdeal.τ).loc Cert.ReferenceGInOIdeal.main_arg1) = m ((c.tc : Thread Cert.ReferenceGInOIdeal.nD Cert.ReferenceGInOIdeal.τ).loc Cert.ReferenceGInOIdeal.main_arg1)
      ∧ r.2.mem ((c.tc : Thread Cert.ReferenceGInOIdeal.nD Cert.ReferenceGInOIdeal.τ).loc Cert.ReferenceGInOIdeal.main_arg2) = m ((c.tc : Thread Cert.ReferenceGInOIdeal.nD Cert.ReferenceGInOIdeal.τ).loc Cert.ReferenceGInOIdeal.main_arg2))
      ∧ r.2.sem = fun _ => 0) :=
  (θ_run _ _ _).mono (fun r h => ⟨fun c => (h c).2, Idealize.ShloMosaic.sem_eq_zero_of_no_sems (by decide) r.2⟩) (Cert.ReferenceGInOIdeal.Value.run m g)

theorem value : Cert.algebraic_KernelGInOIdeal_ReferenceGInOIdeal := by
  intro m g m' g' _ hag
  refine ⟨_, Cert.KernelGInOIdeal.Prod.run m g, (θ_run _ _ _).mono (fun r h c => ?_) (Cert.ReferenceGInOIdeal.Value.run m' g')⟩
  obtain ⟨e0, ea⟩ := h c
  rw [(hag c).1, (hag c).2.1, (hag c).2.2] at e0
  exact ⟨e0.trans (Cert.ReferenceGInOIdeal.Prod.ref_eq _ _ _), ea⟩

end Cert.GInO

end
-- ==== Proof.GOutS.lean ====
/- The weight gradient of the output projection, the half that is sent: the array the kernel leaves, block by block, is one sum over the contracted axis, and so is the reference's. -/
module

public import proofs.«01_k».proof.Defs
public import proofs.«01_k».proof.Proof.Gen.KernelGOutS.Frame
public import proofs.«01_k».proof.Proof.Gen.KernelGOutSIdeal.Frame
public import proofs.«01_k».proof.Proof.Gen.ReferenceGOutSIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.KernelGOutS.Prod

open Cert.KernelGOutS Cert.KernelGOutS.Gen

/-- The table holds the constant word it is made of. -/
theorem tbl_eq (m : (ℓ : Loc nD τ sig) → Buf (Elt Bits) ℓ) : tbl m 0 = fun _ => 1#32 := by
  unfold tbl V
  simp only [hostOps0, List.flatten_cons, List.flatten_nil, List.append_nil, List.cons_append, List.nil_append]
  rfl

/-- The block index of the window that reads the table. -/
theorem tr (m : (ℓ : Loc nD τ sig) → Buf (Elt Bits) ℓ) (i : grid0.Coords) : cc0_transform_1 Gen.facts₀.inb_S1_S1_0 Gen.facts₀.numel1_S1 (tbl m) i = ![0, (Scalar.addi (Scalar.muli 1#32 4#32) (BitVec.ofNat 32 (i 0).val)).toNat] := by
  unfold cc0_transform_1 Pipeline.Prefetch.Contents.at
  simp only [tbl_eq]
  rfl

theorem ok_blocks : ∀ i : grid0.Coords, ∃ h : (∀ a, ((![0, (Scalar.addi (Scalar.muli 1#32 4#32) (BitVec.ofNat 32 (i 0).val)).toNat] : Fin 2 → ℕ) a + 1) * S4096x512.size a ≤ S4096x4096.size a),
    EltTy.bits .bf16 = 32 ∨ (Rect.block (s := S4096x4096) S4096x512.size ![0, (Scalar.addi (Scalar.muli 1#32 4#32) (BitVec.ofNat 32 (i 0).val)).toNat] h).WholeWords (EltTy.packing .bf16) := by
  decide +kernel

/-- Every block the table names lies inside the array. -/
theorem ok (m : (ℓ : Loc nD τ sig) → Buf (Elt Bits) ℓ) : Ok m := by
  unfold Ok ok0
  simp only [tr]
  exact ok_blocks

end Cert.KernelGOutS.Prod

namespace Cert.KernelGOutSIdeal.Prod

open Cert.KernelGOutSIdeal Cert.KernelGOutSIdeal.Gen

/-- The table holds the constant word it is made of. -/
theorem tbl_eq (m : (ℓ : Loc nD τ sig) → Buf (Elt Ideal) ℓ) : tbl m 0 = fun _ => 1#32 := by
  unfold tbl V
  simp only [hostOps0, List.flatten_cons, List.flatten_nil, List.append_nil, List.cons_append, List.nil_append]
  rfl

/-- The block index of the window that reads the table. -/
theorem tr (m : (ℓ : Loc nD τ sig) → Buf (Elt Ideal) ℓ) (i : grid0.Coords) : cc0_transform_1 Gen.facts₀.inb_S1_S1_0 Gen.facts₀.numel1_S1 (tbl m) i = ![0, (Scalar.addi (Scalar.muli 1#32 4#32) (BitVec.ofNat 32 (i 0).val)).toNat] := by
  unfold cc0_transform_1 Pipeline.Prefetch.Contents.at
  simp only [tbl_eq]
  rfl

theorem ok_blocks : ∀ i : grid0.Coords, ∃ h : (∀ a, ((![0, (Scalar.addi (Scalar.muli 1#32 4#32) (BitVec.ofNat 32 (i 0).val)).toNat] : Fin 2 → ℕ) a + 1) * S4096x512.size a ≤ S4096x4096.size a),
    EltTy.bits .bf16 = 32 ∨ (Rect.block (s := S4096x4096) S4096x512.size ![0, (Scalar.addi (Scalar.muli 1#32 4#32) (BitVec.ofNat 32 (i 0).val)).toNat] h).WholeWords (EltTy.packing .bf16) := by
  decide +kernel

/-- Every block the table names lies inside the array. -/
theorem ok (m : (ℓ : Loc nD τ sig) → Buf (Elt Ideal) ℓ) : Ok m := by
  unfold Ok ok0
  simp only [tr]
  exact ok_blocks

end Cert.KernelGOutSIdeal.Prod

namespace Cert.KernelGOutSIdeal.Prod

open Cert.KernelGOutSIdeal Cert.KernelGOutSIdeal.Gen

variable (m : (ℓ : Loc nD τ sig) → Buf (Elt Ideal) ℓ) (hO : Ok m)

theorem idx_grid : ∀ t : Fin grid0.N, cc0_transform_0 (grid0.coords t) = ![0, t.val % 4] ∧ ![0, (Scalar.addi (Scalar.muli 1#32 4#32) (BitVec.ofNat 32 (grid0.coords t 0).val)).toNat] = ![0, 4 + t.val / 4]
    ∧ cc0_transform_2 (grid0.coords t) = ![t.val % 4, t.val / 4] ∧ t.val % 4 < 4 ∧ t.val / 4 < 4 := by
  decide +kernel

theorem idx (t : Fin (cfgM m hO).N) : ((cfgM m hO).win 0).index t = ![0, t.val % 4] ∧ ((cfgM m hO).win 1).index t = ![0, 4 + t.val / 4]
    ∧ ((cfgM m hO).win 2).index t = ![t.val % 4, t.val / 4] ∧ t.val % 4 < 4 ∧ t.val / 4 < 4 := by
  have h := idx_grid t
  rw [← tr m (grid0.coords t)] at h
  exact h

theorem surj : ∀ (x : Fin 4) (y : Fin 4), ∃ t : Fin grid0.N, cc0_transform_2 (grid0.coords t) = ![x.val, y.val] := by
  decide +kernel

theorem covers : ((cfgM m hO).win 2).Covers :=
  Pipeline.Window.covers_of_index_surj _ rfl (show ∀ a : Fin 2, 0 < S1024x512.size a by decide) fun β => by
    obtain ⟨t, ht⟩ := surj ⟨(β (0 : Fin 2)).val, lt_of_lt_of_eq (β (0 : Fin 2)).isLt (show (4096 + 1024 - 1) / 1024 = 4 by decide)⟩ ⟨(β (1 : Fin 2)).val, lt_of_lt_of_eq (β (1 : Fin 2)).isLt (show (2048 + 512 - 1) / 512 = 4 by decide)⟩
    exact ⟨t, fun (a : Fin 2) => match a with
      | 0 => congrFun ht 0
      | 1 => congrFun ht 1⟩

/-- What one point leaves at a block's entry. -/
def part (a : Vec Ideal S4096x1024 .bf16) (b : Vec Ideal S4096x512 .bf16) (y : S1024x512.Idx) : EReal := ∑ k : Fin 4096, a (ix2 k (y 0)) * b (ix2 k (y 1))

theorem out_at (a : Vec Ideal S4096x1024 .bf16) (b : Vec Ideal S4096x512 .bf16) (y : S1024x512.Idx) :
    k0_pay1 (F := Ideal) a b y = part a b y := by
  unfold part
  pointwise [k0_pay1]

theorem last_at (c : Dev nD) (t : Fin (cfgM m hO).N) (y : S1024x512.Idx) :
    (dats m hO 0 c).after 2 t y = part (iblk m hO c 0 t) (iblk m hO c 1 t) y := by
  rw [after0_2]
  unfold outsAt0
  frame_out
  rw [out_at]
  exact congrArg₂ (fun a b => part a b y) ((hs0_0 m hO t).read_unread _) ((hs0_1 m hO t).read_unread _)

/-- Column of the whole gradient at column `x` of the half. -/
def sh1 (x : Fin 2048) : Fin 4096 := ⟨2048 + x.val, by omega⟩

/-- Where entry `y` of the block at a point lies in the result. -/
def pos (t : Fin (cfgM m hO).N) (y : S1024x512.Idx) : S4096x2048.Idx := (((cfgM m hO).win 2).blk t).view.emb y

/-- The result: column of the first operand with column of the second, contracted over the rows. -/
def OUT (A : FVec Ideal S4096x4096 .bf16) (B : FVec Ideal S4096x4096 .bf16) : FVec Ideal S4096x2048 .bf16 :=
  fun i => (∑ k : Fin 4096, A (ix2 k (i 0)) * B (ix2 k (sh1 (i 1))))

theorem final (c : Dev nD) : (dats m hO 0 c).arrAt 2 (cfgM m hO).N = OUT (m ((c : Thread nD τ).loc main_arg0)) (m ((c : Thread nD τ).loc main_arg1)) := by
  refine (dats m hO 0 c).arrAt_eq_of_covers 2 _ (covers m hO) fun t hf (y : S1024x512.Idx) => ?_
  blk_simp
  refine (last_at m hO c t y).trans ?_
  obtain ⟨h0, h1, hw, hi, hj⟩ := idx m hO t
  unfold part
  change (_ : EReal) = _
  refine Finset.sum_congr rfl fun k _ => ?_
  have e0 : iblk m hO c 0 t (ix2 k (y 0)) = (m ((c : Thread nD τ).loc main_arg0)) (ix2 k ((pos m hO t y) 0)) := by
    rw [← V_main_arg0 m c]
    blk_ext [pos, iblk, h0, hw]
  have e1 : iblk m hO c 1 t (ix2 k (y 1)) = (m ((c : Thread nD τ).loc main_arg1)) (ix2 k (sh1 ((pos m hO t y) 1))) := by
    rw [← V_main_arg1 m c]
    blk_ext [pos, iblk, h1, hw, sh1]
  exact congrArg₂ (· * ·) e0 e1

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v1) = OUT (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m (ok m) c), h.2 c⟩) (θ_run_and (run_main m ρ (ok m)) (unchanged m ρ (ok m)))

end Cert.KernelGOutSIdeal.Prod

namespace Cert.ReferenceGOutSIdeal.Prod

open Cert.ReferenceGOutSIdeal Cert.ReferenceGOutSIdeal.Gen

theorem ref_eq (A : FVec Ideal S4096x4096 .bf16) (B : FVec Ideal S4096x4096 .bf16) :
    (truncf .bf16 (extractStridedSlice S4096x2048 ![0, 2048] (transpose S4096x4096 [1, 0] (Host.dotGeneral dot_S2x2048x4096_S2x2048x4096_S4096x4096_01_01_2_2_n_n none (shapeCast _ (extf .f32 B bitsLt_bf16_f32) shapeCasts_S4096x4096_S2x2048x4096) (shapeCast _ (extf .f32 A bitsLt_bf16_f32) shapeCasts_S4096x4096_S2x2048x4096)) transposes_S4096x4096_S4096x4096_1_0) slices_S4096x4096_S4096x2048_0_2048) bitsLt_bf16_f32 : FVec Ideal S4096x2048 .bf16)
      = Cert.KernelGOutSIdeal.Prod.OUT A B := funext fun i => by
  obtain ⟨r, l, rfl⟩ : ∃ (r : Fin 4096) (l : Fin 2048), i = ix2 r l := ⟨i 0, i 1, eq_ix2 i⟩
  unfold Cert.KernelGOutSIdeal.Prod.OUT
  pointwise
  rw [Cert.Rows.sum_rows]
  exact Finset.sum_congr rfl fun x _ => Finset.sum_congr rfl fun y _ => mul_comm _ _
end Cert.ReferenceGOutSIdeal.Prod

namespace Cert.GOutS

theorem ok (m : (ℓ : Loc Cert.KernelGOutS.nD Cert.KernelGOutS.τ Cert.KernelGOutS.sig) → Buf (Elt Bits) ℓ) : Cert.KernelGOutS.Gen.Ok m := Cert.KernelGOutS.Prod.ok m

theorem frame_r (m : (ℓ : Loc Cert.ReferenceGOutSIdeal.nD Cert.ReferenceGOutSIdeal.τ Cert.ReferenceGOutSIdeal.sig) → Buf (Elt Ideal) ℓ) (g : Dev Cert.ReferenceGOutSIdeal.nD → PrngReg) :
    θ_run (Cert.ReferenceGOutSIdeal.defs (F := Ideal)) (onTc (τ := Cert.ReferenceGOutSIdeal.τ) (Cert.ReferenceGOutSIdeal.main (F := Ideal))) ⟨m, fun _ => 0, g⟩ (fun r => (∀ c : Dev Cert.ReferenceGOutSIdeal.nD,
      r.2.mem ((c.tc : Thread Cert.ReferenceGOutSIdeal.nD Cert.ReferenceGOutSIdeal.τ).loc Cert.ReferenceGOutSIdeal.main_arg0) = m ((c.tc : Thread Cert.ReferenceGOutSIdeal.nD Cert.ReferenceGOutSIdeal.τ).loc Cert.ReferenceGOutSIdeal.main_arg0)
      ∧ r.2.mem ((c.tc : Thread Cert.ReferenceGOutSIdeal.nD Cert.ReferenceGOutSIdeal.τ).loc Cert.ReferenceGOutSIdeal.main_arg1) = m ((c.tc : Thread Cert.ReferenceGOutSIdeal.nD Cert.ReferenceGOutSIdeal.τ).loc Cert.ReferenceGOutSIdeal.main_arg1))
      ∧ r.2.sem = fun _ => 0) :=
  (θ_run _ _ _).mono (fun r h => ⟨fun c => (h c).2, Idealize.ShloMosaic.sem_eq_zero_of_no_sems (by decide) r.2⟩) (Cert.ReferenceGOutSIdeal.Value.run m g)

theorem value : Cert.algebraic_KernelGOutSIdeal_ReferenceGOutSIdeal := by
  intro m g m' g' _ hag
  refine ⟨_, Cert.KernelGOutSIdeal.Prod.run m g, (θ_run _ _ _).mono (fun r h c => ?_) (Cert.ReferenceGOutSIdeal.Value.run m' g')⟩
  obtain ⟨e0, ea⟩ := h c
  rw [(hag c).1, (hag c).2] at e0
  exact ⟨e0.trans (Cert.ReferenceGOutSIdeal.Prod.ref_eq _ _), ea⟩

end Cert.GOutS

end
-- ==== Proof.GOutO.lean ====
/- The weight gradient of the output projection, the half that is kept, with the received half added: the array the kernel leaves, block by block, is one sum over the contracted axis, and so is the reference's. -/
module

public import proofs.«01_k».proof.Defs
public import proofs.«01_k».proof.Proof.Gen.KernelGOutO.Frame
public import proofs.«01_k».proof.Proof.Gen.KernelGOutOIdeal.Frame
public import proofs.«01_k».proof.Proof.Gen.ReferenceGOutOIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.KernelGOutO.Prod

open Cert.KernelGOutO Cert.KernelGOutO.Gen

/-- The table holds the constant word it is made of. -/
theorem tbl_eq (m : (ℓ : Loc nD τ sig) → Buf (Elt Bits) ℓ) : tbl m 0 = fun _ => 0#32 := by
  unfold tbl V
  simp only [hostOps0, List.flatten_cons, List.flatten_nil, List.append_nil, List.cons_append, List.nil_append]
  rfl

/-- The block index of the window that reads the table. -/
theorem tr (m : (ℓ : Loc nD τ sig) → Buf (Elt Bits) ℓ) (i : grid0.Coords) : cc0_transform_1 Gen.facts₀.inb_S1_S1_0 Gen.facts₀.numel1_S1 (tbl m) i = ![0, (Scalar.addi (Scalar.muli 0#32 4#32) (BitVec.ofNat 32 (i 0).val)).toNat] := by
  unfold cc0_transform_1 Pipeline.Prefetch.Contents.at
  simp only [tbl_eq]
  rfl

theorem ok_blocks : ∀ i : grid0.Coords, ∃ h : (∀ a, ((![0, (Scalar.addi (Scalar.muli 0#32 4#32) (BitVec.ofNat 32 (i 0).val)).toNat] : Fin 2 → ℕ) a + 1) * S4096x512.size a ≤ S4096x4096.size a),
    EltTy.bits .bf16 = 32 ∨ (Rect.block (s := S4096x4096) S4096x512.size ![0, (Scalar.addi (Scalar.muli 0#32 4#32) (BitVec.ofNat 32 (i 0).val)).toNat] h).WholeWords (EltTy.packing .bf16) := by
  decide +kernel

/-- Every block the table names lies inside the array. -/
theorem ok (m : (ℓ : Loc nD τ sig) → Buf (Elt Bits) ℓ) : Ok m := by
  unfold Ok ok0
  simp only [tr]
  exact ok_blocks

end Cert.KernelGOutO.Prod

namespace Cert.KernelGOutOIdeal.Prod

open Cert.KernelGOutOIdeal Cert.KernelGOutOIdeal.Gen

/-- The table holds the constant word it is made of. -/
theorem tbl_eq (m : (ℓ : Loc nD τ sig) → Buf (Elt Ideal) ℓ) : tbl m 0 = fun _ => 0#32 := by
  unfold tbl V
  simp only [hostOps0, List.flatten_cons, List.flatten_nil, List.append_nil, List.cons_append, List.nil_append]
  rfl

/-- The block index of the window that reads the table. -/
theorem tr (m : (ℓ : Loc nD τ sig) → Buf (Elt Ideal) ℓ) (i : grid0.Coords) : cc0_transform_1 Gen.facts₀.inb_S1_S1_0 Gen.facts₀.numel1_S1 (tbl m) i = ![0, (Scalar.addi (Scalar.muli 0#32 4#32) (BitVec.ofNat 32 (i 0).val)).toNat] := by
  unfold cc0_transform_1 Pipeline.Prefetch.Contents.at
  simp only [tbl_eq]
  rfl

theorem ok_blocks : ∀ i : grid0.Coords, ∃ h : (∀ a, ((![0, (Scalar.addi (Scalar.muli 0#32 4#32) (BitVec.ofNat 32 (i 0).val)).toNat] : Fin 2 → ℕ) a + 1) * S4096x512.size a ≤ S4096x4096.size a),
    EltTy.bits .bf16 = 32 ∨ (Rect.block (s := S4096x4096) S4096x512.size ![0, (Scalar.addi (Scalar.muli 0#32 4#32) (BitVec.ofNat 32 (i 0).val)).toNat] h).WholeWords (EltTy.packing .bf16) := by
  decide +kernel

/-- Every block the table names lies inside the array. -/
theorem ok (m : (ℓ : Loc nD τ sig) → Buf (Elt Ideal) ℓ) : Ok m := by
  unfold Ok ok0
  simp only [tr]
  exact ok_blocks

end Cert.KernelGOutOIdeal.Prod

namespace Cert.KernelGOutOIdeal.Prod

open Cert.KernelGOutOIdeal Cert.KernelGOutOIdeal.Gen

variable (m : (ℓ : Loc nD τ sig) → Buf (Elt Ideal) ℓ) (hO : Ok m)

theorem idx_grid : ∀ t : Fin grid0.N, cc0_transform_0 (grid0.coords t) = ![0, t.val % 4] ∧ ![0, (Scalar.addi (Scalar.muli 0#32 4#32) (BitVec.ofNat 32 (grid0.coords t 0).val)).toNat] = ![0, t.val / 4] ∧ cc0_transform_2 (grid0.coords t) = ![t.val % 4, t.val / 4]
    ∧ cc0_transform_3 (grid0.coords t) = ![t.val % 4, t.val / 4] ∧ t.val % 4 < 4 ∧ t.val / 4 < 4 := by
  decide +kernel

theorem idx (t : Fin (cfgM m hO).N) : ((cfgM m hO).win 0).index t = ![0, t.val % 4] ∧ ((cfgM m hO).win 1).index t = ![0, t.val / 4] ∧ ((cfgM m hO).win 2).index t = ![t.val % 4, t.val / 4]
    ∧ ((cfgM m hO).win 3).index t = ![t.val % 4, t.val / 4] ∧ t.val % 4 < 4 ∧ t.val / 4 < 4 := by
  have h := idx_grid t
  rw [← tr m (grid0.coords t)] at h
  exact h

/-- The block of the array added, at a point. -/
def blk2 (c : Dev nD) (t : Fin (cfgM m hO).N) : Vec Ideal S1024x512 .bf16 := iblk m hO c 2 t

theorem surj : ∀ (x : Fin 4) (y : Fin 4), ∃ t : Fin grid0.N, cc0_transform_3 (grid0.coords t) = ![x.val, y.val] := by
  decide +kernel

theorem covers : ((cfgM m hO).win 3).Covers :=
  Pipeline.Window.covers_of_index_surj _ rfl (show ∀ a : Fin 2, 0 < S1024x512.size a by decide) fun β => by
    obtain ⟨t, ht⟩ := surj ⟨(β (0 : Fin 2)).val, lt_of_lt_of_eq (β (0 : Fin 2)).isLt (show (4096 + 1024 - 1) / 1024 = 4 by decide)⟩ ⟨(β (1 : Fin 2)).val, lt_of_lt_of_eq (β (1 : Fin 2)).isLt (show (2048 + 512 - 1) / 512 = 4 by decide)⟩
    exact ⟨t, fun (a : Fin 2) => match a with
      | 0 => congrFun ht 0
      | 1 => congrFun ht 1⟩

/-- What one point leaves at a block's entry. -/
def part (a : Vec Ideal S4096x1024 .bf16) (b : Vec Ideal S4096x512 .bf16) (y : S1024x512.Idx) : EReal := ∑ k : Fin 4096, a (ix2 k (y 0)) * b (ix2 k (y 1))

theorem out_at (a : Vec Ideal S4096x1024 .bf16) (b : Vec Ideal S4096x512 .bf16) (d : Vec Ideal S1024x512 .bf16) (y : S1024x512.Idx) :
    k0_pay1 (F := Ideal) a b d y = part a b y + d y := by
  unfold part
  pointwise [k0_pay1]

theorem last_at (c : Dev nD) (t : Fin (cfgM m hO).N) (y : S1024x512.Idx) :
    (dats m hO 0 c).after 3 t y = part (iblk m hO c 0 t) (iblk m hO c 1 t) y + blk2 m hO c t y := by
  rw [after0_3]
  unfold outsAt0
  frame_out
  rw [out_at]
  exact congrArg₂ (· + ·) (congrArg₂ (fun a b => part a b y) ((hs0_0 m hO t).read_unread _) ((hs0_1 m hO t).read_unread _)) (congrFun ((hs0_2 m hO t).read_unread _) y)

/-- Column of the whole gradient at column `x` of the half. -/
def sh1 (x : Fin 2048) : Fin 4096 := ⟨0 + x.val, by omega⟩

/-- Where entry `y` of the block at a point lies in the result. -/
def pos (t : Fin (cfgM m hO).N) (y : S1024x512.Idx) : S4096x2048.Idx := (((cfgM m hO).win 3).blk t).view.emb y

/-- The result: column of the first operand with column of the second, contracted over the rows. -/
def OUT (A : FVec Ideal S4096x4096 .bf16) (B : FVec Ideal S4096x4096 .bf16) (D : FVec Ideal S4096x2048 .bf16) : FVec Ideal S4096x2048 .bf16 :=
  fun i => (∑ k : Fin 4096, A (ix2 k (i 0)) * B (ix2 k (sh1 (i 1)))) + D i

theorem final (c : Dev nD) : (dats m hO 0 c).arrAt 3 (cfgM m hO).N = OUT (m ((c : Thread nD τ).loc main_arg0)) (m ((c : Thread nD τ).loc main_arg1)) (m ((c : Thread nD τ).loc main_arg2)) := by
  refine (dats m hO 0 c).arrAt_eq_of_covers 3 _ (covers m hO) fun t hf (y : S1024x512.Idx) => ?_
  blk_simp
  refine (last_at m hO c t y).trans ?_
  obtain ⟨h0, h1, h2, hw, hi, hj⟩ := idx m hO t
  have e2 : blk2 m hO c t y = (m ((c : Thread nD τ).loc main_arg2)) (pos m hO t y) := by
    rw [← V_main_arg2 m c]
    blk_ext [blk2, pos, iblk, h2, hw]
  refine congrArg₂ (· + ·) ?_ e2
  unfold part
  change (_ : EReal) = _
  refine Finset.sum_congr rfl fun k _ => ?_
  have e0 : iblk m hO c 0 t (ix2 k (y 0)) = (m ((c : Thread nD τ).loc main_arg0)) (ix2 k ((pos m hO t y) 0)) := by
    rw [← V_main_arg0 m c]
    blk_ext [pos, iblk, h0, hw]
  have e1 : iblk m hO c 1 t (ix2 k (y 1)) = (m ((c : Thread nD τ).loc main_arg1)) (ix2 k (sh1 ((pos m hO t y) 1))) := by
    rw [← V_main_arg1 m c]
    blk_ext [pos, iblk, h1, hw, sh1]
  exact congrArg₂ (· * ·) e0 e1

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v1) = OUT (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final m (ok m) c), h.2 c⟩) (θ_run_and (run_main m ρ (ok m)) (unchanged m ρ (ok m)))

end Cert.KernelGOutOIdeal.Prod

namespace Cert.ReferenceGOutOIdeal.Prod

open Cert.ReferenceGOutOIdeal Cert.ReferenceGOutOIdeal.Gen

theorem ref_eq (A : FVec Ideal S4096x4096 .bf16) (B : FVec Ideal S4096x4096 .bf16) (D : FVec Ideal S4096x2048 .bf16) :
    (truncf .bf16 (addf (extractStridedSlice S4096x2048 ![0, 0] (transpose S4096x4096 [1, 0] (Host.dotGeneral dot_S2x2048x4096_S2x2048x4096_S4096x4096_01_01_2_2_n_n none (shapeCast _ (extf .f32 B bitsLt_bf16_f32) shapeCasts_S4096x4096_S2x2048x4096) (shapeCast _ (extf .f32 A bitsLt_bf16_f32) shapeCasts_S4096x4096_S2x2048x4096)) transposes_S4096x4096_S4096x4096_1_0) slices_S4096x4096_S4096x2048_0_0) (extf .f32 D bitsLt_bf16_f32)) bitsLt_bf16_f32 : FVec Ideal S4096x2048 .bf16)
      = Cert.KernelGOutOIdeal.Prod.OUT A B D := funext fun i => by
  obtain ⟨r, l, rfl⟩ : ∃ (r : Fin 4096) (l : Fin 2048), i = ix2 r l := ⟨i 0, i 1, eq_ix2 i⟩
  unfold Cert.KernelGOutOIdeal.Prod.OUT
  pointwise
  refine congrArg (· + _) ?_
  rw [Cert.Rows.sum_rows]
  exact Finset.sum_congr rfl fun x _ => Finset.sum_congr rfl fun y _ => by
    rw [mul_comm]
    congr 3
    all_goals exact Fin.ext (by simp [Cert.KernelGOutOIdeal.Prod.sh1])
end Cert.ReferenceGOutOIdeal.Prod

namespace Cert.GOutO

theorem ok (m : (ℓ : Loc Cert.KernelGOutO.nD Cert.KernelGOutO.τ Cert.KernelGOutO.sig) → Buf (Elt Bits) ℓ) : Cert.KernelGOutO.Gen.Ok m := Cert.KernelGOutO.Prod.ok m

theorem frame_r (m : (ℓ : Loc Cert.ReferenceGOutOIdeal.nD Cert.ReferenceGOutOIdeal.τ Cert.ReferenceGOutOIdeal.sig) → Buf (Elt Ideal) ℓ) (g : Dev Cert.ReferenceGOutOIdeal.nD → PrngReg) :
    θ_run (Cert.ReferenceGOutOIdeal.defs (F := Ideal)) (onTc (τ := Cert.ReferenceGOutOIdeal.τ) (Cert.ReferenceGOutOIdeal.main (F := Ideal))) ⟨m, fun _ => 0, g⟩ (fun r => (∀ c : Dev Cert.ReferenceGOutOIdeal.nD,
      r.2.mem ((c.tc : Thread Cert.ReferenceGOutOIdeal.nD Cert.ReferenceGOutOIdeal.τ).loc Cert.ReferenceGOutOIdeal.main_arg0) = m ((c.tc : Thread Cert.ReferenceGOutOIdeal.nD Cert.ReferenceGOutOIdeal.τ).loc Cert.ReferenceGOutOIdeal.main_arg0)
      ∧ r.2.mem ((c.tc : Thread Cert.ReferenceGOutOIdeal.nD Cert.ReferenceGOutOIdeal.τ).loc Cert.ReferenceGOutOIdeal.main_arg1) = m ((c.tc : Thread Cert.ReferenceGOutOIdeal.nD Cert.ReferenceGOutOIdeal.τ).loc Cert.ReferenceGOutOIdeal.main_arg1)
      ∧ r.2.mem ((c.tc : Thread Cert.ReferenceGOutOIdeal.nD Cert.ReferenceGOutOIdeal.τ).loc Cert.ReferenceGOutOIdeal.main_arg2) = m ((c.tc : Thread Cert.ReferenceGOutOIdeal.nD Cert.ReferenceGOutOIdeal.τ).loc Cert.ReferenceGOutOIdeal.main_arg2))
      ∧ r.2.sem = fun _ => 0) :=
  (θ_run _ _ _).mono (fun r h => ⟨fun c => (h c).2, Idealize.ShloMosaic.sem_eq_zero_of_no_sems (by decide) r.2⟩) (Cert.ReferenceGOutOIdeal.Value.run m g)

theorem value : Cert.algebraic_KernelGOutOIdeal_ReferenceGOutOIdeal := by
  intro m g m' g' _ hag
  refine ⟨_, Cert.KernelGOutOIdeal.Prod.run m g, (θ_run _ _ _).mono (fun r h c => ?_) (Cert.ReferenceGOutOIdeal.Value.run m' g')⟩
  obtain ⟨e0, ea⟩ := h c
  rw [(hag c).1, (hag c).2.1, (hag c).2.2] at e0
  exact ⟨e0.trans (Cert.ReferenceGOutOIdeal.Prod.ref_eq _ _ _), ea⟩

end Cert.GOutO

end
-- ==== Proof.ProjOwn.lean ====
/- The input projection's first quarter of columns: the array the kernel leaves, block by block, is one sum over the contracted axis, and so is the reference's. -/
module

public import proofs.«01_k».proof.Defs
public import proofs.«01_k».proof.Proof.Gen.KernelProjOwn.Frame
public import proofs.«01_k».proof.Proof.Gen.KernelProjOwnIdeal.Frame
public import proofs.«01_k».proof.Proof.Gen.ReferenceProjOwnIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.KernelProjOwn.Prod

open Cert.KernelProjOwn Cert.KernelProjOwn.Gen

/-- The table holds the constant word it is made of. -/
theorem tbl_eq (m : (ℓ : Loc nD τ sig) → Buf (Elt Bits) ℓ) : tbl m 0 = fun _ => 0#32 := by
  unfold tbl V V0
  simp only [hostOps0, List.flatten_cons, List.flatten_nil, List.append_nil, List.cons_append, List.nil_append]
  rfl

/-- The block index of the result, which reads the table. -/
theorem tr3 (m : (ℓ : Loc nD τ sig) → Buf (Elt Bits) ℓ) (i : grid0.Coords) : cc0_transform_3 Gen.facts₀.inb_S1_S1_0 Gen.facts₀.numel1_S1 (tbl m) i = ![(BitVec.ofNat 32 (i 0).val).toNat, (Scalar.addi (Scalar.muli 0#32 6#32) (BitVec.ofNat 32 (i 1).val)).toNat] := by
  unfold cc0_transform_3 Pipeline.Prefetch.Contents.at
  simp only [tbl_eq]
  done

theorem ok_blocks3 : ∀ i : grid0.Coords, ∃ h : (∀ a, ((![(BitVec.ofNat 32 (i 0).val).toNat, (Scalar.addi (Scalar.muli 0#32 6#32) (BitVec.ofNat 32 (i 1).val)).toNat] : Fin 2 → ℕ) a + 1) * S1024x512.size a ≤ S4096x12288.size a),
    EltTy.bits .f32 = 32 ∨ (Rect.block (s := S4096x12288) S1024x512.size ![(BitVec.ofNat 32 (i 0).val).toNat, (Scalar.addi (Scalar.muli 0#32 6#32) (BitVec.ofNat 32 (i 1).val)).toNat] h).WholeWords (EltTy.packing .f32) := by
  decide +kernel

/-- Every block the table names lies inside the array. -/
theorem ok (m : (ℓ : Loc nD τ sig) → Buf (Elt Bits) ℓ) : Ok m := by
  unfold Ok ok0
  simp only [tr3]
  exact ok_blocks3

end Cert.KernelProjOwn.Prod

namespace Cert.KernelProjOwnIdeal.Prod

open Cert.KernelProjOwnIdeal Cert.KernelProjOwnIdeal.Gen

/-- The table holds the constant word it is made of. -/
theorem tbl_eq (m : (ℓ : Loc nD τ sig) → Buf (Elt Ideal) ℓ) : tbl m 0 = fun _ => 0#32 := by
  unfold tbl V V0
  simp only [hostOps0, List.flatten_cons, List.flatten_nil, List.append_nil, List.cons_append, List.nil_append]
  rfl

/-- The block index of the result, which reads the table. -/
theorem tr3 (m : (ℓ : Loc nD τ sig) → Buf (Elt Ideal) ℓ) (i : grid0.Coords) : cc0_transform_3 Gen.facts₀.inb_S1_S1_0 Gen.facts₀.numel1_S1 (tbl m) i = ![(BitVec.ofNat 32 (i 0).val).toNat, (Scalar.addi (Scalar.muli 0#32 6#32) (BitVec.ofNat 32 (i 1).val)).toNat] := by
  unfold cc0_transform_3 Pipeline.Prefetch.Contents.at
  simp only [tbl_eq]
  done

theorem ok_blocks3 : ∀ i : grid0.Coords, ∃ h : (∀ a, ((![(BitVec.ofNat 32 (i 0).val).toNat, (Scalar.addi (Scalar.muli 0#32 6#32) (BitVec.ofNat 32 (i 1).val)).toNat] : Fin 2 → ℕ) a + 1) * S1024x512.size a ≤ S4096x12288.size a),
    EltTy.bits .f32 = 32 ∨ (Rect.block (s := S4096x12288) S1024x512.size ![(BitVec.ofNat 32 (i 0).val).toNat, (Scalar.addi (Scalar.muli 0#32 6#32) (BitVec.ofNat 32 (i 1).val)).toNat] h).WholeWords (EltTy.packing .f32) := by
  decide +kernel

/-- Every block the table names lies inside the array. -/
theorem ok (m : (ℓ : Loc nD τ sig) → Buf (Elt Ideal) ℓ) : Ok m := by
  unfold Ok ok0
  simp only [tr3]
  exact ok_blocks3

end Cert.KernelProjOwnIdeal.Prod

namespace Cert.KernelProjOwnIdeal.Prod

open Cert.KernelProjOwnIdeal Cert.KernelProjOwnIdeal.Gen

variable (m : (ℓ : Loc nD τ sig) → Buf (Elt Ideal) ℓ) (hO : Ok m)

theorem idx_grid : ∀ t : Fin grid0.N, cc0_transform_0 (grid0.coords t) = ![t.val / 6, 0] ∧ cc0_transform_1 (grid0.coords t) = ![0, t.val % 6]
    ∧ ![(BitVec.ofNat 32 (grid0.coords t 0).val).toNat, (Scalar.addi (Scalar.muli 0#32 6#32) (BitVec.ofNat 32 (grid0.coords t 1).val)).toNat] = ![t.val / 6, t.val % 6] ∧ t.val / 6 < 4 ∧ t.val % 6 < 6 := by
  decide +kernel

theorem idx (t : Fin (cfgM m hO).N) : ((cfgM m hO).win 0).index t = ![t.val / 6, 0] ∧ ((cfgM m hO).win 1).index t = ![0, t.val % 6]
    ∧ ((cfgM m hO).win 2).index t = ![t.val / 6, t.val % 6] ∧ t.val / 6 < 4 ∧ t.val % 6 < 6 := by
  have h := idx_grid t
  rw [← tr3 m (grid0.coords t)] at h
  exact h

theorem surj : ∀ (x : Fin 4) (y : Fin 6), ∃ t : Fin grid0.N, t.val / 6 = x.val ∧ t.val % 6 = y.val := by
  decide +kernel

/-- The blocks written are those of the quarter of the columns. -/
theorem covers : ((cfgM m hO).win 2).CoversWhere (fun β => 0 ≤ β (1 : Fin 2) ∧ β (1 : Fin 2) < 6) :=
  ⟨show ∀ a : Fin 2, 0 < S1024x512.size a by decide,
   fun t _ => ⟨by
      obtain ⟨h0, h1, hw, hi, hj⟩ := idx m hO t
      rw [hw]
      change 0 ≤ t.val % 6 ∧ t.val % 6 < 6
      omega, fun a => ((cfgM m hO).win 2).xsize_eq_or_end rfl _ a⟩,
   fun β hβ => by
      obtain ⟨t, ht0, ht1⟩ := surj ⟨(β (0 : Fin 2)).val, lt_of_lt_of_eq (β (0 : Fin 2)).isLt (show (4096 + 1024 - 1) / 1024 = 4 by decide)⟩ ⟨(β (1 : Fin 2)).val - 0, by
        have ha : 0 ≤ (β (1 : Fin 2)).val := hβ.1
        have hb : (β (1 : Fin 2)).val < 6 := hβ.2
        omega⟩
      obtain ⟨h0, h1, hw, hi, hj⟩ := idx m hO t
      obtain ⟨s, -, hf, hs⟩ := ((cfgM m hO).win 2).exists_flush_same_index rfl t
      refine ⟨s, fun (a : Fin 2) => ?_, hf⟩
      rw [hs, hw]
      have hb := hβ.1
      match a with
      | 0 => exact ht0
      | 1 =>
        change t.val % 6 = (β (1 : Fin 2)).val
        have h1' : t.val % 6 = (β (1 : Fin 2)).val - 0 := ht1
        change 0 ≤ (β (1 : Fin 2)).val at hb
        omega⟩

/-- What one point leaves at a block's entry. -/
def part (a : Vec Ideal S1024x4096 .bf16) (b : Vec Ideal S4096x512 .bf16) (y : S1024x512.Idx) : EReal := ∑ k : Fin 4096, a (ix2 (y 0) k) * b (ix2 k (y 1))

theorem out_at (a : Vec Ideal S1024x4096 .bf16) (b : Vec Ideal S4096x512 .bf16) (y : S1024x512.Idx) :
    k0_pay1 (F := Ideal) a b y = part a b y := by
  unfold part
  pointwise [k0_pay1]

theorem last_at (c : Dev nD) (t : Fin (cfgM m hO).N) (y : S1024x512.Idx) :
    (dats m hO 0 c).after 2 t y = part (iblk m hO c 0 t) (iblk m hO c 1 t) y := by
  rw [after0_2]
  unfold outsAt0
  frame_out
  rw [out_at]
  exact congrArg₂ (fun a b => part a b y) ((hs0_0 m hO t).read_unread _) ((hs0_1 m hO t).read_unread _)

/-- Where entry `y` of the block at a point lies in the result. -/
def pos (t : Fin (cfgM m hO).N) (y : S1024x512.Idx) : S4096x12288.Idx := (((cfgM m hO).win 2).blk t).view.emb y

/-- Column of the quarter under column `x` of the whole. -/
def sh1 (x : Fin 12288) : Fin 3072 := ⟨x.val % 3072, Nat.mod_lt _ (by decide)⟩

/-- The product: row of the first operand with column of the second, contracted. -/
def PROD (A : FVec Ideal S4096x4096 .bf16) (B : FVec Ideal S4096x3072 .bf16) : FVec Ideal S4096x12288 .f32 :=
  fun i => ∑ k : Fin 4096, A (ix2 (i 0) k) * B (ix2 k (sh1 (i 1)))

/-- The result: the product on the quarter of the columns, what was there elsewhere. -/
def NEW (A : FVec Ideal S4096x4096 .bf16) (B : FVec Ideal S4096x3072 .bf16) (D : FVec Ideal S4096x12288 .f32) : FVec Ideal S4096x12288 .f32 :=
  fun i => if 0 ≤ (i 1 : ℕ) / 512 ∧ (i 1 : ℕ) / 512 < 6 then PROD A B i else D i

theorem final (c : Dev nD) : (dats m hO 0 c).arrAt 2 (cfgM m hO).N = NEW (m ((c : Thread nD τ).loc main_arg0)) (m ((c : Thread nD τ).loc main_arg1)) ((dats m hO 0 c).A 2) := by
  refine (dats m hO 0 c).arrAt_eq_of_coversWhere 2 (PROD (m ((c : Thread nD τ).loc main_arg0)) (m ((c : Thread nD τ).loc main_arg1))) _ (covers m hO) (fun t hf (y : S1024x512.Idx) => ?_) (fun j => Iff.rfl)
  blk_simp
  refine (last_at m hO c t y).trans ?_
  obtain ⟨h0, h1, hw, hi, hj⟩ := idx m hO t
  unfold part
  change (_ : EReal) = _
  refine Finset.sum_congr rfl fun k _ => ?_
  have e0 : iblk m hO c 0 t (ix2 (y 0) k) = (m ((c : Thread nD τ).loc main_arg0)) (ix2 ((pos m hO t y) 0) k) := by
    rw [← V_main_arg0 m c]
    blk_ext [pos, iblk, h0, hw]
  have e1 : iblk m hO c 1 t (ix2 k (y 1)) = (m ((c : Thread nD τ).loc main_arg1)) (ix2 k (sh1 ((pos m hO t y) 1))) := by
    rw [← V_main_arg1 m c]
    blk_ext [pos, iblk, h1, hw, sh1]
  exact congrArg₂ (· * ·) e0 e1

variable (ρ : Dev nD → PrngReg)

/-- The columns kept. -/
def OUT (A : FVec Ideal S4096x4096 .bf16) (B : FVec Ideal S4096x3072 .bf16) : FVec Ideal S4096x3072 .f32 :=
  fun i => ∑ k : Fin 4096, A (ix2 (i 0) k) * B (ix2 k (i 1))

theorem cut (A : FVec Ideal S4096x4096 .bf16) (B : FVec Ideal S4096x3072 .bf16) (D : FVec Ideal S4096x12288 .f32) :
    (extractStridedSlice S4096x3072 ![0, 0] (NEW A B D) Gen.facts₀.slices_S4096x12288_S4096x3072_0_0 : FVec Ideal S4096x3072 .f32) = OUT A B := funext fun i => by
  obtain ⟨r, l, rfl⟩ : ∃ (r : Fin 4096) (l : Fin 3072), i = ix2 r l := ⟨i 0, i 1, eq_ix2 i⟩
  unfold OUT
  pointwise
  unfold NEW
  rw [if_pos (by have := l.isLt; constructor <;> simp <;> omega)]
  unfold PROD
  change (_ : EReal) = _
  refine Finset.sum_congr rfl fun k _ => ?_
  congr 3
  all_goals exact Fin.ext (by simp [sh1])

theorem tail_eq (c : Dev nD) : Pipeline.afterTail pcfgs (fun _ => adm m hO) (dats m hO) 0 (V0 m) [hostOps1] c main_v2 = OUT (m ((c : Thread nD τ).loc main_arg0)) (m ((c : Thread nD τ).loc main_arg1)) := by
  refine Eq.trans ?_ (cut (m ((c : Thread nD τ).loc main_arg0)) (m ((c : Thread nD τ).loc main_arg1)) ((dats m hO 0 c).A 2))
  rw [← final m hO c]
  unfold Pipeline.afterTail
  simp only [hostOps1, List.flatten_cons, List.flatten_nil, List.append_nil, List.cons_append, List.nil_append]
  after_results
  refine congrArg (fun x : FVec Ideal S4096x12288 .f32 => (extractStridedSlice S4096x3072 ![0, 0] x Gen.facts₀.slices_S4096x12288_S4096x3072_0_0 : FVec Ideal S4096x3072 .f32)) ?_
  exact Pipeline.withArrays_arr spec0 winFacts0.arr_inj c (V0 m c) (fun w => (dats m hO 0 c).arrAt w (cfgM m hO).N) 2

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v2) = OUT (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).2 main_v2 (by exact (by decide : main_v2 ∈ Pipeline.restRefs sig spec0))).trans (tail_eq m (ok m) c), h.2 c⟩) (θ_run_and (run_main m ρ (ok m)) (unchanged m ρ (ok m)))

end Cert.KernelProjOwnIdeal.Prod

namespace Cert.ReferenceProjOwnIdeal.Prod

open Cert.ReferenceProjOwnIdeal Cert.ReferenceProjOwnIdeal.Gen

theorem ref_eq (A : FVec Ideal S4096x4096 .bf16) (B : FVec Ideal S4096x3072 .bf16) :
    (shapeCast _ (Host.dotGeneral dot_S2x2048x4096_S4096x3072_S2x2048x3072_2_0_01_1_n_n none (shapeCast _ (extf .f32 A bitsLt_bf16_f32) shapeCasts_S4096x4096_S2x2048x4096) (extf .f32 B bitsLt_bf16_f32)) shapeCasts_S2x2048x3072_S4096x3072 : FVec Ideal S4096x3072 .f32)
      = Cert.KernelProjOwnIdeal.Prod.OUT A B := funext fun i => by
  obtain ⟨r, l, rfl⟩ : ∃ (r : Fin 4096) (l : Fin 3072), i = ix2 r l := ⟨i 0, i 1, eq_ix2 i⟩
  unfold Cert.KernelProjOwnIdeal.Prod.OUT
  pointwise

end Cert.ReferenceProjOwnIdeal.Prod

namespace Cert.ProjOwn

theorem ok (m : (ℓ : Loc Cert.KernelProjOwn.nD Cert.KernelProjOwn.τ Cert.KernelProjOwn.sig) → Buf (Elt Bits) ℓ) : Cert.KernelProjOwn.Gen.Ok m := Cert.KernelProjOwn.Prod.ok m

theorem frame_r (m : (ℓ : Loc Cert.ReferenceProjOwnIdeal.nD Cert.ReferenceProjOwnIdeal.τ Cert.ReferenceProjOwnIdeal.sig) → Buf (Elt Ideal) ℓ) (g : Dev Cert.ReferenceProjOwnIdeal.nD → PrngReg) :
    θ_run (Cert.ReferenceProjOwnIdeal.defs (F := Ideal)) (onTc (τ := Cert.ReferenceProjOwnIdeal.τ) (Cert.ReferenceProjOwnIdeal.main (F := Ideal))) ⟨m, fun _ => 0, g⟩ (fun r => (∀ c : Dev Cert.ReferenceProjOwnIdeal.nD,
      r.2.mem ((c.tc : Thread Cert.ReferenceProjOwnIdeal.nD Cert.ReferenceProjOwnIdeal.τ).loc Cert.ReferenceProjOwnIdeal.main_arg0) = m ((c.tc : Thread Cert.ReferenceProjOwnIdeal.nD Cert.ReferenceProjOwnIdeal.τ).loc Cert.ReferenceProjOwnIdeal.main_arg0)
      ∧ r.2.mem ((c.tc : Thread Cert.ReferenceProjOwnIdeal.nD Cert.ReferenceProjOwnIdeal.τ).loc Cert.ReferenceProjOwnIdeal.main_arg1) = m ((c.tc : Thread Cert.ReferenceProjOwnIdeal.nD Cert.ReferenceProjOwnIdeal.τ).loc Cert.ReferenceProjOwnIdeal.main_arg1)
      ∧ r.2.mem ((c.tc : Thread Cert.ReferenceProjOwnIdeal.nD Cert.ReferenceProjOwnIdeal.τ).loc Cert.ReferenceProjOwnIdeal.main_arg2) = m ((c.tc : Thread Cert.ReferenceProjOwnIdeal.nD Cert.ReferenceProjOwnIdeal.τ).loc Cert.ReferenceProjOwnIdeal.main_arg2))
      ∧ r.2.sem = fun _ => 0) :=
  (θ_run _ _ _).mono (fun r h => ⟨fun c => (h c).2, Idealize.ShloMosaic.sem_eq_zero_of_no_sems (by decide) r.2⟩) (Cert.ReferenceProjOwnIdeal.Value.run m g)

theorem value : Cert.algebraic_KernelProjOwnIdeal_ReferenceProjOwnIdeal := by
  intro m g m' g' _ hag
  refine ⟨_, Cert.KernelProjOwnIdeal.Prod.run m g, (θ_run _ _ _).mono (fun r h c => ?_) (Cert.ReferenceProjOwnIdeal.Value.run m' g')⟩
  obtain ⟨e0, ea⟩ := h c
  rw [(hag c).1, (hag c).2.1] at e0
  exact ⟨e0.trans (Cert.ReferenceProjOwnIdeal.Prod.ref_eq _ _), ea⟩

end Cert.ProjOwn

end
-- ==== Proof.ProjX.lean ====
/- The input projection's third quarter of columns, written in place: the array the kernel leaves, block by block, is one sum over the contracted axis, and so is the reference's. -/
module

public import proofs.«01_k».proof.Defs
public import proofs.«01_k».proof.Proof.Gen.KernelProjX.Frame
public import proofs.«01_k».proof.Proof.Gen.KernelProjXIdeal.Frame
public import proofs.«01_k».proof.Proof.Gen.ReferenceProjXIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.KernelProjX.Prod

open Cert.KernelProjX Cert.KernelProjX.Gen

/-- The table holds the constant word it is made of. -/
theorem tbl_eq (m : (ℓ : Loc nD τ sig) → Buf (Elt Bits) ℓ) : tbl m 0 = fun _ => 2#32 := by
  unfold tbl V
  simp only [hostOps0, List.flatten_cons, List.flatten_nil, List.append_nil, List.cons_append, List.nil_append]
  rfl

/-- The block index of the second operand, which reads the table. -/
theorem tr1 (m : (ℓ : Loc nD τ sig) → Buf (Elt Bits) ℓ) (i : grid0.Coords) : cc0_transform_1 Gen.facts₀.inb_S1_S1_0 Gen.facts₀.numel1_S1 (tbl m) i = ![0, (Scalar.addi (Scalar.muli 2#32 6#32) (BitVec.ofNat 32 (i 1).val)).toNat] := by
  unfold cc0_transform_1 Pipeline.Prefetch.Contents.at
  simp only [tbl_eq]
  rfl

theorem ok_blocks1 : ∀ i : grid0.Coords, ∃ h : (∀ a, ((![0, (Scalar.addi (Scalar.muli 2#32 6#32) (BitVec.ofNat 32 (i 1).val)).toNat] : Fin 2 → ℕ) a + 1) * S4096x512.size a ≤ S4096x12288.size a),
    EltTy.bits .bf16 = 32 ∨ (Rect.block (s := S4096x12288) S4096x512.size ![0, (Scalar.addi (Scalar.muli 2#32 6#32) (BitVec.ofNat 32 (i 1).val)).toNat] h).WholeWords (EltTy.packing .bf16) := by
  decide +kernel

/-- The block index of the result, which reads the table. -/
theorem tr3 (m : (ℓ : Loc nD τ sig) → Buf (Elt Bits) ℓ) (i : grid0.Coords) : cc0_transform_3 Gen.facts₀.inb_S1_S1_0 Gen.facts₀.numel1_S1 (tbl m) i = ![(BitVec.ofNat 32 (i 0).val).toNat, (Scalar.addi (Scalar.muli 2#32 6#32) (BitVec.ofNat 32 (i 1).val)).toNat] := by
  unfold cc0_transform_3 Pipeline.Prefetch.Contents.at
  simp only [tbl_eq]
  done

theorem ok_blocks3 : ∀ i : grid0.Coords, ∃ h : (∀ a, ((![(BitVec.ofNat 32 (i 0).val).toNat, (Scalar.addi (Scalar.muli 2#32 6#32) (BitVec.ofNat 32 (i 1).val)).toNat] : Fin 2 → ℕ) a + 1) * S1024x512.size a ≤ S4096x12288.size a),
    EltTy.bits .f32 = 32 ∨ (Rect.block (s := S4096x12288) S1024x512.size ![(BitVec.ofNat 32 (i 0).val).toNat, (Scalar.addi (Scalar.muli 2#32 6#32) (BitVec.ofNat 32 (i 1).val)).toNat] h).WholeWords (EltTy.packing .f32) := by
  decide +kernel

/-- Every block the table names lies inside the array. -/
theorem ok (m : (ℓ : Loc nD τ sig) → Buf (Elt Bits) ℓ) : Ok m := by
  unfold Ok ok0
  simp only [tr1, tr3]
  exact ⟨ok_blocks1, ok_blocks3⟩

end Cert.KernelProjX.Prod

namespace Cert.KernelProjXIdeal.Prod

open Cert.KernelProjXIdeal Cert.KernelProjXIdeal.Gen

/-- The table holds the constant word it is made of. -/
theorem tbl_eq (m : (ℓ : Loc nD τ sig) → Buf (Elt Ideal) ℓ) : tbl m 0 = fun _ => 2#32 := by
  unfold tbl V
  simp only [hostOps0, List.flatten_cons, List.flatten_nil, List.append_nil, List.cons_append, List.nil_append]
  rfl

/-- The block index of the second operand, which reads the table. -/
theorem tr1 (m : (ℓ : Loc nD τ sig) → Buf (Elt Ideal) ℓ) (i : grid0.Coords) : cc0_transform_1 Gen.facts₀.inb_S1_S1_0 Gen.facts₀.numel1_S1 (tbl m) i = ![0, (Scalar.addi (Scalar.muli 2#32 6#32) (BitVec.ofNat 32 (i 1).val)).toNat] := by
  unfold cc0_transform_1 Pipeline.Prefetch.Contents.at
  simp only [tbl_eq]
  rfl

theorem ok_blocks1 : ∀ i : grid0.Coords, ∃ h : (∀ a, ((![0, (Scalar.addi (Scalar.muli 2#32 6#32) (BitVec.ofNat 32 (i 1).val)).toNat] : Fin 2 → ℕ) a + 1) * S4096x512.size a ≤ S4096x12288.size a),
    EltTy.bits .bf16 = 32 ∨ (Rect.block (s := S4096x12288) S4096x512.size ![0, (Scalar.addi (Scalar.muli 2#32 6#32) (BitVec.ofNat 32 (i 1).val)).toNat] h).WholeWords (EltTy.packing .bf16) := by
  decide +kernel

/-- The block index of the result, which reads the table. -/
theorem tr3 (m : (ℓ : Loc nD τ sig) → Buf (Elt Ideal) ℓ) (i : grid0.Coords) : cc0_transform_3 Gen.facts₀.inb_S1_S1_0 Gen.facts₀.numel1_S1 (tbl m) i = ![(BitVec.ofNat 32 (i 0).val).toNat, (Scalar.addi (Scalar.muli 2#32 6#32) (BitVec.ofNat 32 (i 1).val)).toNat] := by
  unfold cc0_transform_3 Pipeline.Prefetch.Contents.at
  simp only [tbl_eq]
  done

theorem ok_blocks3 : ∀ i : grid0.Coords, ∃ h : (∀ a, ((![(BitVec.ofNat 32 (i 0).val).toNat, (Scalar.addi (Scalar.muli 2#32 6#32) (BitVec.ofNat 32 (i 1).val)).toNat] : Fin 2 → ℕ) a + 1) * S1024x512.size a ≤ S4096x12288.size a),
    EltTy.bits .f32 = 32 ∨ (Rect.block (s := S4096x12288) S1024x512.size ![(BitVec.ofNat 32 (i 0).val).toNat, (Scalar.addi (Scalar.muli 2#32 6#32) (BitVec.ofNat 32 (i 1).val)).toNat] h).WholeWords (EltTy.packing .f32) := by
  decide +kernel

/-- Every block the table names lies inside the array. -/
theorem ok (m : (ℓ : Loc nD τ sig) → Buf (Elt Ideal) ℓ) : Ok m := by
  unfold Ok ok0
  simp only [tr1, tr3]
  exact ⟨ok_blocks1, ok_blocks3⟩

end Cert.KernelProjXIdeal.Prod

namespace Cert.KernelProjXIdeal.Prod

open Cert.KernelProjXIdeal Cert.KernelProjXIdeal.Gen

variable (m : (ℓ : Loc nD τ sig) → Buf (Elt Ideal) ℓ) (hO : Ok m)

theorem idx_grid : ∀ t : Fin grid0.N, cc0_transform_0 (grid0.coords t) = ![t.val / 6, 0] ∧ ![0, (Scalar.addi (Scalar.muli 2#32 6#32) (BitVec.ofNat 32 (grid0.coords t 1).val)).toNat] = ![0, 12 + t.val % 6]
    ∧ ![(BitVec.ofNat 32 (grid0.coords t 0).val).toNat, (Scalar.addi (Scalar.muli 2#32 6#32) (BitVec.ofNat 32 (grid0.coords t 1).val)).toNat] = ![t.val / 6, 12 + t.val % 6] ∧ t.val / 6 < 4 ∧ t.val % 6 < 6 := by
  decide +kernel

theorem idx (t : Fin (cfgM m hO).N) : ((cfgM m hO).win 0).index t = ![t.val / 6, 0] ∧ ((cfgM m hO).win 1).index t = ![0, 12 + t.val % 6]
    ∧ ((cfgM m hO).win 2).index t = ![t.val / 6, 12 + t.val % 6] ∧ t.val / 6 < 4 ∧ t.val % 6 < 6 := by
  have h := idx_grid t
  rw [← tr3 m (grid0.coords t), ← tr1 m (grid0.coords t)] at h
  exact h

theorem surj : ∀ (x : Fin 4) (y : Fin 6), ∃ t : Fin grid0.N, t.val / 6 = x.val ∧ t.val % 6 = y.val := by
  decide +kernel

/-- The blocks written are those of the quarter of the columns. -/
theorem covers : ((cfgM m hO).win 2).CoversWhere (fun β => 12 ≤ β (1 : Fin 2) ∧ β (1 : Fin 2) < 18) :=
  ⟨show ∀ a : Fin 2, 0 < S1024x512.size a by decide,
   fun t _ => ⟨by
      obtain ⟨h0, h1, hw, hi, hj⟩ := idx m hO t
      rw [hw]
      change 12 ≤ 12 + t.val % 6 ∧ 12 + t.val % 6 < 18
      omega, fun a => ((cfgM m hO).win 2).xsize_eq_or_end rfl _ a⟩,
   fun β hβ => by
      obtain ⟨t, ht0, ht1⟩ := surj ⟨(β (0 : Fin 2)).val, lt_of_lt_of_eq (β (0 : Fin 2)).isLt (show (4096 + 1024 - 1) / 1024 = 4 by decide)⟩ ⟨(β (1 : Fin 2)).val - 12, by
        have ha : 12 ≤ (β (1 : Fin 2)).val := hβ.1
        have hb : (β (1 : Fin 2)).val < 18 := hβ.2
        omega⟩
      obtain ⟨h0, h1, hw, hi, hj⟩ := idx m hO t
      obtain ⟨s, -, hf, hs⟩ := ((cfgM m hO).win 2).exists_flush_same_index rfl t
      refine ⟨s, fun (a : Fin 2) => ?_, hf⟩
      rw [hs, hw]
      have hb := hβ.1
      match a with
      | 0 => exact ht0
      | 1 =>
        change 12 + t.val % 6 = (β (1 : Fin 2)).val
        have h1' : t.val % 6 = (β (1 : Fin 2)).val - 12 := ht1
        change 12 ≤ (β (1 : Fin 2)).val at hb
        omega⟩

/-- What one point leaves at a block's entry. -/
def part (a : Vec Ideal S1024x4096 .bf16) (b : Vec Ideal S4096x512 .bf16) (y : S1024x512.Idx) : EReal := ∑ k : Fin 4096, a (ix2 (y 0) k) * b (ix2 k (y 1))

theorem out_at (a : Vec Ideal S1024x4096 .bf16) (b : Vec Ideal S4096x512 .bf16) (y : S1024x512.Idx) :
    k0_pay1 (F := Ideal) a b y = part a b y := by
  unfold part
  pointwise [k0_pay1]

theorem last_at (c : Dev nD) (t : Fin (cfgM m hO).N) (y : S1024x512.Idx) :
    (dats m hO 0 c).after 2 t y = part (iblk m hO c 0 t) (iblk m hO c 1 t) y := by
  rw [after0_2]
  unfold outsAt0
  frame_out
  rw [out_at]
  exact congrArg₂ (fun a b => part a b y) ((hs0_0 m hO t).read_unread _) ((hs0_1 m hO t).read_unread _)

/-- Where entry `y` of the block at a point lies in the result. -/
def pos (t : Fin (cfgM m hO).N) (y : S1024x512.Idx) : S4096x12288.Idx := (((cfgM m hO).win 2).blk t).view.emb y

/-- The product: row of the first operand with column of the second, contracted. -/
def PROD (A : FVec Ideal S4096x4096 .bf16) (B : FVec Ideal S4096x12288 .bf16) : FVec Ideal S4096x12288 .f32 :=
  fun i => ∑ k : Fin 4096, A (ix2 (i 0) k) * B (ix2 k (i 1))

/-- The result: the product on the quarter of the columns, what was there elsewhere. -/
def NEW (A : FVec Ideal S4096x4096 .bf16) (B : FVec Ideal S4096x12288 .bf16) (D : FVec Ideal S4096x12288 .f32) : FVec Ideal S4096x12288 .f32 :=
  fun i => if 12 ≤ (i 1 : ℕ) / 512 ∧ (i 1 : ℕ) / 512 < 18 then PROD A B i else D i

theorem final (c : Dev nD) : (dats m hO 0 c).arrAt 2 (cfgM m hO).N = NEW (m ((c : Thread nD τ).loc main_arg0)) (m ((c : Thread nD τ).loc main_arg1)) ((dats m hO 0 c).A 2) := by
  refine (dats m hO 0 c).arrAt_eq_of_coversWhere 2 (PROD (m ((c : Thread nD τ).loc main_arg0)) (m ((c : Thread nD τ).loc main_arg1))) _ (covers m hO) (fun t hf (y : S1024x512.Idx) => ?_) (fun j => Iff.rfl)
  blk_simp
  refine (last_at m hO c t y).trans ?_
  obtain ⟨h0, h1, hw, hi, hj⟩ := idx m hO t
  unfold part
  change (_ : EReal) = _
  refine Finset.sum_congr rfl fun k _ => ?_
  have e0 : iblk m hO c 0 t (ix2 (y 0) k) = (m ((c : Thread nD τ).loc main_arg0)) (ix2 ((pos m hO t y) 0) k) := by
    rw [← V_main_arg0 m c]
    blk_ext [pos, iblk, h0, hw]
  have e1 : iblk m hO c 1 t (ix2 k (y 1)) = (m ((c : Thread nD τ).loc main_arg1)) (ix2 k ((pos m hO t y) 1)) := by
    rw [← V_main_arg1 m c]
    blk_ext [pos, iblk, h1, hw]
  exact congrArg₂ (· * ·) e0 e1

variable (ρ : Dev nD → PrngReg)

theorem entry (c : Dev nD) : ((dats m hO 0 c).A 2) = (m ((c : Thread nD τ).loc main_arg2)) := by
  rw [A_eq m hO c 2]
  change V m c main_v1 = _
  unfold V
  simp only [hostOps0, List.flatten_cons, List.flatten_nil, List.append_nil, List.cons_append, List.nil_append]
  after_results
  rfl

theorem new_in (A : FVec Ideal S4096x4096 .bf16) (B : FVec Ideal S4096x12288 .bf16) (D : FVec Ideal S4096x12288 .f32) (r : Fin 4096) (l : Fin 12288) (h : 6144 ≤ l.val ∧ l.val < 9216) :
    NEW A B D (ix2 r l) = ∑ k : Fin 4096, A (ix2 r k) * B (ix2 k l) :=
  if_pos (by change 12 ≤ l.val / 512 ∧ l.val / 512 < 18; omega)

theorem new_out (A : FVec Ideal S4096x4096 .bf16) (B : FVec Ideal S4096x12288 .bf16) (D : FVec Ideal S4096x12288 .f32) (r : Fin 4096) (l : Fin 12288) (h : ¬ (6144 ≤ l.val ∧ l.val < 9216)) :
    NEW A B D (ix2 r l) = D (ix2 r l) :=
  if_neg (by change ¬ (12 ≤ l.val / 512 ∧ l.val / 512 < 18); omega)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v1) = NEW (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans ((final m (ok m) c).trans (by rw [entry m (ok m) c])), h.2 c⟩) (θ_run_and (run_main m ρ (ok m)) (unchanged m ρ (ok m)))

end Cert.KernelProjXIdeal.Prod

namespace Cert.ReferenceProjXIdeal.Prod

open Cert.ReferenceProjXIdeal Cert.ReferenceProjXIdeal.Gen

theorem ref_eq (A : FVec Ideal S4096x4096 .bf16) (B : FVec Ideal S4096x12288 .bf16) (D : FVec Ideal S4096x12288 .f32) :
    ((concatenate S4096x12288 1 [⟨S4096x6144, ((extractStridedSlice S4096x6144 ![0, 0] D slices_S4096x12288_S4096x6144_0_0) : (⟨S4096x6144, .f32⟩ : BufTy).Contents (Elt Ideal))⟩, ⟨S4096x3072, ((shapeCast _ (Host.dotGeneral dot_S2x2048x4096_S4096x3072_S2x2048x3072_2_0_01_1_n_n none (shapeCast _ (extf .f32 A bitsLt_bf16_f32) shapeCasts_S4096x4096_S2x2048x4096) (extf .f32 (extractStridedSlice S4096x3072 ![0, 6144] B slices_S4096x12288_S4096x3072_0_6144) bitsLt_bf16_f32)) shapeCasts_S2x2048x3072_S4096x3072) : (⟨S4096x3072, .f32⟩ : BufTy).Contents (Elt Ideal))⟩, ⟨S4096x3072, ((extractStridedSlice S4096x3072 ![0, 9216] D slices_S4096x12288_S4096x3072_0_9216) : (⟨S4096x3072, .f32⟩ : BufTy).Contents (Elt Ideal))⟩] concatenates_S4096x6144_S4096x3072_S4096x3072_S4096x12288_d1 : (⟨S4096x12288, .f32⟩ : BufTy).Contents (Elt Ideal)) : FVec Ideal S4096x12288 .f32)
      = Cert.KernelProjXIdeal.Prod.NEW A B D := funext fun i => by
  obtain ⟨r, l, rfl⟩ : ∃ (r : Fin 4096) (l : Fin 12288), i = ix2 r l := ⟨i 0, i 1, eq_ix2 i⟩
  have hl := l.isLt
  by_cases hq : 6144 ≤ l.val ∧ l.val < 9216
  · rw [Cert.KernelProjXIdeal.Prod.new_in A B D r l hq]
    have e : ∀ h : 6144 + (l.val - 6144) < 12288, (⟨6144 + (l.val - 6144), h⟩ : Fin 12288) = l := fun h => Fin.ext (Nat.add_sub_of_le hq.1)
    pointwise
    split_ifs
    all_goals first
      | (exfalso; omega)
      | simp only [e]
  · rw [Cert.KernelProjXIdeal.Prod.new_out A B D r l hq]
    have e : ∀ h : 9216 + (l.val - 6144 - 3072) < 12288, 9216 ≤ l.val → (⟨9216 + (l.val - 6144 - 3072), h⟩ : Fin 12288) = l := fun h hh => Fin.ext (by dsimp only; omega)
    pointwise
    split_ifs
    all_goals first
      | (exfalso; omega)
      | rw [e _ (by omega)]
      | rfl

end Cert.ReferenceProjXIdeal.Prod

namespace Cert.ProjX

theorem ok (m : (ℓ : Loc Cert.KernelProjX.nD Cert.KernelProjX.τ Cert.KernelProjX.sig) → Buf (Elt Bits) ℓ) : Cert.KernelProjX.Gen.Ok m := Cert.KernelProjX.Prod.ok m

theorem frame_r (m : (ℓ : Loc Cert.ReferenceProjXIdeal.nD Cert.ReferenceProjXIdeal.τ Cert.ReferenceProjXIdeal.sig) → Buf (Elt Ideal) ℓ) (g : Dev Cert.ReferenceProjXIdeal.nD → PrngReg) :
    θ_run (Cert.ReferenceProjXIdeal.defs (F := Ideal)) (onTc (τ := Cert.ReferenceProjXIdeal.τ) (Cert.ReferenceProjXIdeal.main (F := Ideal))) ⟨m, fun _ => 0, g⟩ (fun r => (∀ c : Dev Cert.ReferenceProjXIdeal.nD,
      r.2.mem ((c.tc : Thread Cert.ReferenceProjXIdeal.nD Cert.ReferenceProjXIdeal.τ).loc Cert.ReferenceProjXIdeal.main_arg0) = m ((c.tc : Thread Cert.ReferenceProjXIdeal.nD Cert.ReferenceProjXIdeal.τ).loc Cert.ReferenceProjXIdeal.main_arg0)
      ∧ r.2.mem ((c.tc : Thread Cert.ReferenceProjXIdeal.nD Cert.ReferenceProjXIdeal.τ).loc Cert.ReferenceProjXIdeal.main_arg1) = m ((c.tc : Thread Cert.ReferenceProjXIdeal.nD Cert.ReferenceProjXIdeal.τ).loc Cert.ReferenceProjXIdeal.main_arg1)
      ∧ r.2.mem ((c.tc : Thread Cert.ReferenceProjXIdeal.nD Cert.ReferenceProjXIdeal.τ).loc Cert.ReferenceProjXIdeal.main_arg2) = m ((c.tc : Thread Cert.ReferenceProjXIdeal.nD Cert.ReferenceProjXIdeal.τ).loc Cert.ReferenceProjXIdeal.main_arg2))
      ∧ r.2.sem = fun _ => 0) :=
  (θ_run _ _ _).mono (fun r h => ⟨fun c => (h c).2, Idealize.ShloMosaic.sem_eq_zero_of_no_sems (by decide) r.2⟩) (Cert.ReferenceProjXIdeal.Value.run m g)

theorem value : Cert.algebraic_KernelProjXIdeal_ReferenceProjXIdeal := by
  intro m g m' g' _ hag
  refine ⟨_, Cert.KernelProjXIdeal.Prod.run m g, (θ_run _ _ _).mono (fun r h c => ?_) (Cert.ReferenceProjXIdeal.Value.run m' g')⟩
  obtain ⟨e0, ea⟩ := h c
  rw [(hag c).1, (hag c).2.1, (hag c).2.2] at e0
  exact ⟨e0.trans (Cert.ReferenceProjXIdeal.Prod.ref_eq _ _ _), ea⟩

end Cert.ProjX

end
-- ==== Proof.ProjY.lean ====
/- The input projection's second quarter of columns, written in place: the array the kernel leaves, block by block, is one sum over the contracted axis, and so is the reference's. -/
module

public import proofs.«01_k».proof.Defs
public import proofs.«01_k».proof.Proof.Gen.KernelProjY.Frame
public import proofs.«01_k».proof.Proof.Gen.KernelProjYIdeal.Frame
public import proofs.«01_k».proof.Proof.Gen.ReferenceProjYIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.KernelProjY.Prod

open Cert.KernelProjY Cert.KernelProjY.Gen

/-- The table holds the constant word it is made of. -/
theorem tbl_eq (m : (ℓ : Loc nD τ sig) → Buf (Elt Bits) ℓ) : tbl m 0 = fun _ => 1#32 := by
  unfold tbl V
  simp only [hostOps0, List.flatten_cons, List.flatten_nil, List.append_nil, List.cons_append, List.nil_append]
  rfl

/-- The block index of the second operand, which reads the table. -/
theorem tr1 (m : (ℓ : Loc nD τ sig) → Buf (Elt Bits) ℓ) (i : grid0.Coords) : cc0_transform_1 Gen.facts₀.inb_S1_S1_0 Gen.facts₀.numel1_S1 (tbl m) i = ![0, (Scalar.addi (Scalar.muli 1#32 6#32) (BitVec.ofNat 32 (i 1).val)).toNat] := by
  unfold cc0_transform_1 Pipeline.Prefetch.Contents.at
  simp only [tbl_eq]
  rfl

theorem ok_blocks1 : ∀ i : grid0.Coords, ∃ h : (∀ a, ((![0, (Scalar.addi (Scalar.muli 1#32 6#32) (BitVec.ofNat 32 (i 1).val)).toNat] : Fin 2 → ℕ) a + 1) * S4096x512.size a ≤ S4096x12288.size a),
    EltTy.bits .bf16 = 32 ∨ (Rect.block (s := S4096x12288) S4096x512.size ![0, (Scalar.addi (Scalar.muli 1#32 6#32) (BitVec.ofNat 32 (i 1).val)).toNat] h).WholeWords (EltTy.packing .bf16) := by
  decide +kernel

/-- The block index of the result, which reads the table. -/
theorem tr3 (m : (ℓ : Loc nD τ sig) → Buf (Elt Bits) ℓ) (i : grid0.Coords) : cc0_transform_3 Gen.facts₀.inb_S1_S1_0 Gen.facts₀.numel1_S1 (tbl m) i = ![(BitVec.ofNat 32 (i 0).val).toNat, (Scalar.addi (Scalar.muli 1#32 6#32) (BitVec.ofNat 32 (i 1).val)).toNat] := by
  unfold cc0_transform_3 Pipeline.Prefetch.Contents.at
  simp only [tbl_eq]
  done

theorem ok_blocks3 : ∀ i : grid0.Coords, ∃ h : (∀ a, ((![(BitVec.ofNat 32 (i 0).val).toNat, (Scalar.addi (Scalar.muli 1#32 6#32) (BitVec.ofNat 32 (i 1).val)).toNat] : Fin 2 → ℕ) a + 1) * S1024x512.size a ≤ S4096x12288.size a),
    EltTy.bits .f32 = 32 ∨ (Rect.block (s := S4096x12288) S1024x512.size ![(BitVec.ofNat 32 (i 0).val).toNat, (Scalar.addi (Scalar.muli 1#32 6#32) (BitVec.ofNat 32 (i 1).val)).toNat] h).WholeWords (EltTy.packing .f32) := by
  decide +kernel

/-- Every block the table names lies inside the array. -/
theorem ok (m : (ℓ : Loc nD τ sig) → Buf (Elt Bits) ℓ) : Ok m := by
  unfold Ok ok0
  simp only [tr1, tr3]
  exact ⟨ok_blocks1, ok_blocks3⟩

end Cert.KernelProjY.Prod

namespace Cert.KernelProjYIdeal.Prod

open Cert.KernelProjYIdeal Cert.KernelProjYIdeal.Gen

/-- The table holds the constant word it is made of. -/
theorem tbl_eq (m : (ℓ : Loc nD τ sig) → Buf (Elt Ideal) ℓ) : tbl m 0 = fun _ => 1#32 := by
  unfold tbl V
  simp only [hostOps0, List.flatten_cons, List.flatten_nil, List.append_nil, List.cons_append, List.nil_append]
  rfl

/-- The block index of the second operand, which reads the table. -/
theorem tr1 (m : (ℓ : Loc nD τ sig) → Buf (Elt Ideal) ℓ) (i : grid0.Coords) : cc0_transform_1 Gen.facts₀.inb_S1_S1_0 Gen.facts₀.numel1_S1 (tbl m) i = ![0, (Scalar.addi (Scalar.muli 1#32 6#32) (BitVec.ofNat 32 (i 1).val)).toNat] := by
  unfold cc0_transform_1 Pipeline.Prefetch.Contents.at
  simp only [tbl_eq]
  rfl

theorem ok_blocks1 : ∀ i : grid0.Coords, ∃ h : (∀ a, ((![0, (Scalar.addi (Scalar.muli 1#32 6#32) (BitVec.ofNat 32 (i 1).val)).toNat] : Fin 2 → ℕ) a + 1) * S4096x512.size a ≤ S4096x12288.size a),
    EltTy.bits .bf16 = 32 ∨ (Rect.block (s := S4096x12288) S4096x512.size ![0, (Scalar.addi (Scalar.muli 1#32 6#32) (BitVec.ofNat 32 (i 1).val)).toNat] h).WholeWords (EltTy.packing .bf16) := by
  decide +kernel

/-- The block index of the result, which reads the table. -/
theorem tr3 (m : (ℓ : Loc nD τ sig) → Buf (Elt Ideal) ℓ) (i : grid0.Coords) : cc0_transform_3 Gen.facts₀.inb_S1_S1_0 Gen.facts₀.numel1_S1 (tbl m) i = ![(BitVec.ofNat 32 (i 0).val).toNat, (Scalar.addi (Scalar.muli 1#32 6#32) (BitVec.ofNat 32 (i 1).val)).toNat] := by
  unfold cc0_transform_3 Pipeline.Prefetch.Contents.at
  simp only [tbl_eq]
  done

theorem ok_blocks3 : ∀ i : grid0.Coords, ∃ h : (∀ a, ((![(BitVec.ofNat 32 (i 0).val).toNat, (Scalar.addi (Scalar.muli 1#32 6#32) (BitVec.ofNat 32 (i 1).val)).toNat] : Fin 2 → ℕ) a + 1) * S1024x512.size a ≤ S4096x12288.size a),
    EltTy.bits .f32 = 32 ∨ (Rect.block (s := S4096x12288) S1024x512.size ![(BitVec.ofNat 32 (i 0).val).toNat, (Scalar.addi (Scalar.muli 1#32 6#32) (BitVec.ofNat 32 (i 1).val)).toNat] h).WholeWords (EltTy.packing .f32) := by
  decide +kernel

/-- Every block the table names lies inside the array. -/
theorem ok (m : (ℓ : Loc nD τ sig) → Buf (Elt Ideal) ℓ) : Ok m := by
  unfold Ok ok0
  simp only [tr1, tr3]
  exact ⟨ok_blocks1, ok_blocks3⟩

end Cert.KernelProjYIdeal.Prod

namespace Cert.KernelProjYIdeal.Prod

open Cert.KernelProjYIdeal Cert.KernelProjYIdeal.Gen

variable (m : (ℓ : Loc nD τ sig) → Buf (Elt Ideal) ℓ) (hO : Ok m)

theorem idx_grid : ∀ t : Fin grid0.N, cc0_transform_0 (grid0.coords t) = ![t.val / 6, 0] ∧ ![0, (Scalar.addi (Scalar.muli 1#32 6#32) (BitVec.ofNat 32 (grid0.coords t 1).val)).toNat] = ![0, 6 + t.val % 6]
    ∧ ![(BitVec.ofNat 32 (grid0.coords t 0).val).toNat, (Scalar.addi (Scalar.muli 1#32 6#32) (BitVec.ofNat 32 (grid0.coords t 1).val)).toNat] = ![t.val / 6, 6 + t.val % 6] ∧ t.val / 6 < 4 ∧ t.val % 6 < 6 := by
  decide +kernel

theorem idx (t : Fin (cfgM m hO).N) : ((cfgM m hO).win 0).index t = ![t.val / 6, 0] ∧ ((cfgM m hO).win 1).index t = ![0, 6 + t.val % 6]
    ∧ ((cfgM m hO).win 2).index t = ![t.val / 6, 6 + t.val % 6] ∧ t.val / 6 < 4 ∧ t.val % 6 < 6 := by
  have h := idx_grid t
  rw [← tr3 m (grid0.coords t), ← tr1 m (grid0.coords t)] at h
  exact h

theorem surj : ∀ (x : Fin 4) (y : Fin 6), ∃ t : Fin grid0.N, t.val / 6 = x.val ∧ t.val % 6 = y.val := by
  decide +kernel

/-- The blocks written are those of the quarter of the columns. -/
theorem covers : ((cfgM m hO).win 2).CoversWhere (fun β => 6 ≤ β (1 : Fin 2) ∧ β (1 : Fin 2) < 12) :=
  ⟨show ∀ a : Fin 2, 0 < S1024x512.size a by decide,
   fun t _ => ⟨by
      obtain ⟨h0, h1, hw, hi, hj⟩ := idx m hO t
      rw [hw]
      change 6 ≤ 6 + t.val % 6 ∧ 6 + t.val % 6 < 12
      omega, fun a => ((cfgM m hO).win 2).xsize_eq_or_end rfl _ a⟩,
   fun β hβ => by
      obtain ⟨t, ht0, ht1⟩ := surj ⟨(β (0 : Fin 2)).val, lt_of_lt_of_eq (β (0 : Fin 2)).isLt (show (4096 + 1024 - 1) / 1024 = 4 by decide)⟩ ⟨(β (1 : Fin 2)).val - 6, by
        have ha : 6 ≤ (β (1 : Fin 2)).val := hβ.1
        have hb : (β (1 : Fin 2)).val < 12 := hβ.2
        omega⟩
      obtain ⟨h0, h1, hw, hi, hj⟩ := idx m hO t
      obtain ⟨s, -, hf, hs⟩ := ((cfgM m hO).win 2).exists_flush_same_index rfl t
      refine ⟨s, fun (a : Fin 2) => ?_, hf⟩
      rw [hs, hw]
      have hb := hβ.1
      match a with
      | 0 => exact ht0
      | 1 =>
        change 6 + t.val % 6 = (β (1 : Fin 2)).val
        have h1' : t.val % 6 = (β (1 : Fin 2)).val - 6 := ht1
        change 6 ≤ (β (1 : Fin 2)).val at hb
        omega⟩

/-- What one point leaves at a block's entry. -/
def part (a : Vec Ideal S1024x4096 .bf16) (b : Vec Ideal S4096x512 .bf16) (y : S1024x512.Idx) : EReal := ∑ k : Fin 4096, a (ix2 (y 0) k) * b (ix2 k (y 1))

theorem out_at (a : Vec Ideal S1024x4096 .bf16) (b : Vec Ideal S4096x512 .bf16) (y : S1024x512.Idx) :
    k0_pay1 (F := Ideal) a b y = part a b y := by
  unfold part
  pointwise [k0_pay1]

theorem last_at (c : Dev nD) (t : Fin (cfgM m hO).N) (y : S1024x512.Idx) :
    (dats m hO 0 c).after 2 t y = part (iblk m hO c 0 t) (iblk m hO c 1 t) y := by
  rw [after0_2]
  unfold outsAt0
  frame_out
  rw [out_at]
  exact congrArg₂ (fun a b => part a b y) ((hs0_0 m hO t).read_unread _) ((hs0_1 m hO t).read_unread _)

/-- Where entry `y` of the block at a point lies in the result. -/
def pos (t : Fin (cfgM m hO).N) (y : S1024x512.Idx) : S4096x12288.Idx := (((cfgM m hO).win 2).blk t).view.emb y

/-- The product: row of the first operand with column of the second, contracted. -/
def PROD (A : FVec Ideal S4096x4096 .bf16) (B : FVec Ideal S4096x12288 .bf16) : FVec Ideal S4096x12288 .f32 :=
  fun i => ∑ k : Fin 4096, A (ix2 (i 0) k) * B (ix2 k (i 1))

/-- The result: the product on the quarter of the columns, what was there elsewhere. -/
def NEW (A : FVec Ideal S4096x4096 .bf16) (B : FVec Ideal S4096x12288 .bf16) (D : FVec Ideal S4096x12288 .f32) : FVec Ideal S4096x12288 .f32 :=
  fun i => if 6 ≤ (i 1 : ℕ) / 512 ∧ (i 1 : ℕ) / 512 < 12 then PROD A B i else D i

theorem final (c : Dev nD) : (dats m hO 0 c).arrAt 2 (cfgM m hO).N = NEW (m ((c : Thread nD τ).loc main_arg0)) (m ((c : Thread nD τ).loc main_arg1)) ((dats m hO 0 c).A 2) := by
  refine (dats m hO 0 c).arrAt_eq_of_coversWhere 2 (PROD (m ((c : Thread nD τ).loc main_arg0)) (m ((c : Thread nD τ).loc main_arg1))) _ (covers m hO) (fun t hf (y : S1024x512.Idx) => ?_) (fun j => Iff.rfl)
  blk_simp
  refine (last_at m hO c t y).trans ?_
  obtain ⟨h0, h1, hw, hi, hj⟩ := idx m hO t
  unfold part
  change (_ : EReal) = _
  refine Finset.sum_congr rfl fun k _ => ?_
  have e0 : iblk m hO c 0 t (ix2 (y 0) k) = (m ((c : Thread nD τ).loc main_arg0)) (ix2 ((pos m hO t y) 0) k) := by
    rw [← V_main_arg0 m c]
    blk_ext [pos, iblk, h0, hw]
  have e1 : iblk m hO c 1 t (ix2 k (y 1)) = (m ((c : Thread nD τ).loc main_arg1)) (ix2 k ((pos m hO t y) 1)) := by
    rw [← V_main_arg1 m c]
    blk_ext [pos, iblk, h1, hw]
  exact congrArg₂ (· * ·) e0 e1

variable (ρ : Dev nD → PrngReg)

theorem entry (c : Dev nD) : ((dats m hO 0 c).A 2) = (m ((c : Thread nD τ).loc main_arg2)) := by
  rw [A_eq m hO c 2]
  change V m c main_v1 = _
  unfold V
  simp only [hostOps0, List.flatten_cons, List.flatten_nil, List.append_nil, List.cons_append, List.nil_append]
  after_results
  rfl

theorem new_in (A : FVec Ideal S4096x4096 .bf16) (B : FVec Ideal S4096x12288 .bf16) (D : FVec Ideal S4096x12288 .f32) (r : Fin 4096) (l : Fin 12288) (h : 3072 ≤ l.val ∧ l.val < 6144) :
    NEW A B D (ix2 r l) = ∑ k : Fin 4096, A (ix2 r k) * B (ix2 k l) :=
  if_pos (by change 6 ≤ l.val / 512 ∧ l.val / 512 < 12; omega)

theorem new_out (A : FVec Ideal S4096x4096 .bf16) (B : FVec Ideal S4096x12288 .bf16) (D : FVec Ideal S4096x12288 .f32) (r : Fin 4096) (l : Fin 12288) (h : ¬ (3072 ≤ l.val ∧ l.val < 6144)) :
    NEW A B D (ix2 r l) = D (ix2 r l) :=
  if_neg (by change ¬ (6 ≤ l.val / 512 ∧ l.val / 512 < 12); omega)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v1) = NEW (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans ((final m (ok m) c).trans (by rw [entry m (ok m) c])), h.2 c⟩) (θ_run_and (run_main m ρ (ok m)) (unchanged m ρ (ok m)))

end Cert.KernelProjYIdeal.Prod

namespace Cert.ReferenceProjYIdeal.Prod

open Cert.ReferenceProjYIdeal Cert.ReferenceProjYIdeal.Gen

theorem ref_eq (A : FVec Ideal S4096x4096 .bf16) (B : FVec Ideal S4096x12288 .bf16) (D : FVec Ideal S4096x12288 .f32) :
    ((concatenate S4096x12288 1 [⟨S4096x3072, ((extractStridedSlice S4096x3072 ![0, 0] D slices_S4096x12288_S4096x3072_0_0) : (⟨S4096x3072, .f32⟩ : BufTy).Contents (Elt Ideal))⟩, ⟨S4096x3072, ((shapeCast _ (Host.dotGeneral dot_S2x2048x4096_S4096x3072_S2x2048x3072_2_0_01_1_n_n none (shapeCast _ (extf .f32 A bitsLt_bf16_f32) shapeCasts_S4096x4096_S2x2048x4096) (extf .f32 (extractStridedSlice S4096x3072 ![0, 3072] B slices_S4096x12288_S4096x3072_0_3072) bitsLt_bf16_f32)) shapeCasts_S2x2048x3072_S4096x3072) : (⟨S4096x3072, .f32⟩ : BufTy).Contents (Elt Ideal))⟩, ⟨S4096x6144, ((extractStridedSlice S4096x6144 ![0, 6144] D slices_S4096x12288_S4096x6144_0_6144) : (⟨S4096x6144, .f32⟩ : BufTy).Contents (Elt Ideal))⟩] concatenates_S4096x3072_S4096x3072_S4096x6144_S4096x12288_d1 : (⟨S4096x12288, .f32⟩ : BufTy).Contents (Elt Ideal)) : FVec Ideal S4096x12288 .f32)
      = Cert.KernelProjYIdeal.Prod.NEW A B D := funext fun i => by
  obtain ⟨r, l, rfl⟩ : ∃ (r : Fin 4096) (l : Fin 12288), i = ix2 r l := ⟨i 0, i 1, eq_ix2 i⟩
  have hl := l.isLt
  by_cases hq : 3072 ≤ l.val ∧ l.val < 6144
  · rw [Cert.KernelProjYIdeal.Prod.new_in A B D r l hq]
    have e : ∀ h : 3072 + (l.val - 3072) < 12288, (⟨3072 + (l.val - 3072), h⟩ : Fin 12288) = l := fun h => Fin.ext (Nat.add_sub_of_le hq.1)
    pointwise
    split_ifs
    all_goals first
      | (exfalso; omega)
      | simp only [e]
  · rw [Cert.KernelProjYIdeal.Prod.new_out A B D r l hq]
    have e : ∀ h : 6144 + (l.val - 3072 - 3072) < 12288, 6144 ≤ l.val → (⟨6144 + (l.val - 3072 - 3072), h⟩ : Fin 12288) = l := fun h hh => Fin.ext (by dsimp only; omega)
    pointwise
    split_ifs
    all_goals first
      | (exfalso; omega)
      | rw [e _ (by omega)]
      | rfl

end Cert.ReferenceProjYIdeal.Prod

namespace Cert.ProjY

theorem ok (m : (ℓ : Loc Cert.KernelProjY.nD Cert.KernelProjY.τ Cert.KernelProjY.sig) → Buf (Elt Bits) ℓ) : Cert.KernelProjY.Gen.Ok m := Cert.KernelProjY.Prod.ok m

theorem frame_r (m : (ℓ : Loc Cert.ReferenceProjYIdeal.nD Cert.ReferenceProjYIdeal.τ Cert.ReferenceProjYIdeal.sig) → Buf (Elt Ideal) ℓ) (g : Dev Cert.ReferenceProjYIdeal.nD → PrngReg) :
    θ_run (Cert.ReferenceProjYIdeal.defs (F := Ideal)) (onTc (τ := Cert.ReferenceProjYIdeal.τ) (Cert.ReferenceProjYIdeal.main (F := Ideal))) ⟨m, fun _ => 0, g⟩ (fun r => (∀ c : Dev Cert.ReferenceProjYIdeal.nD,
      r.2.mem ((c.tc : Thread Cert.ReferenceProjYIdeal.nD Cert.ReferenceProjYIdeal.τ).loc Cert.ReferenceProjYIdeal.main_arg0) = m ((c.tc : Thread Cert.ReferenceProjYIdeal.nD Cert.ReferenceProjYIdeal.τ).loc Cert.ReferenceProjYIdeal.main_arg0)
      ∧ r.2.mem ((c.tc : Thread Cert.ReferenceProjYIdeal.nD Cert.ReferenceProjYIdeal.τ).loc Cert.ReferenceProjYIdeal.main_arg1) = m ((c.tc : Thread Cert.ReferenceProjYIdeal.nD Cert.ReferenceProjYIdeal.τ).loc Cert.ReferenceProjYIdeal.main_arg1)
      ∧ r.2.mem ((c.tc : Thread Cert.ReferenceProjYIdeal.nD Cert.ReferenceProjYIdeal.τ).loc Cert.ReferenceProjYIdeal.main_arg2) = m ((c.tc : Thread Cert.ReferenceProjYIdeal.nD Cert.ReferenceProjYIdeal.τ).loc Cert.ReferenceProjYIdeal.main_arg2))
      ∧ r.2.sem = fun _ => 0) :=
  (θ_run _ _ _).mono (fun r h => ⟨fun c => (h c).2, Idealize.ShloMosaic.sem_eq_zero_of_no_sems (by decide) r.2⟩) (Cert.ReferenceProjYIdeal.Value.run m g)

theorem value : Cert.algebraic_KernelProjYIdeal_ReferenceProjYIdeal := by
  intro m g m' g' _ hag
  refine ⟨_, Cert.KernelProjYIdeal.Prod.run m g, (θ_run _ _ _).mono (fun r h c => ?_) (Cert.ReferenceProjYIdeal.Value.run m' g')⟩
  obtain ⟨e0, ea⟩ := h c
  rw [(hag c).1, (hag c).2.1, (hag c).2.2] at e0
  exact ⟨e0.trans (Cert.ReferenceProjYIdeal.Prod.ref_eq _ _ _), ea⟩

end Cert.ProjY

end
-- ==== Proof.ProjXY.lean ====
/- The input projection's last quarter of columns, written in place: the array the kernel leaves, block by block, is one sum over the contracted axis, and so is the reference's. -/
module

public import proofs.«01_k».proof.Defs
public import proofs.«01_k».proof.Proof.Gen.KernelProjXY.Frame
public import proofs.«01_k».proof.Proof.Gen.KernelProjXYIdeal.Frame
public import proofs.«01_k».proof.Proof.Gen.ReferenceProjXYIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.KernelProjXY.Prod

open Cert.KernelProjXY Cert.KernelProjXY.Gen

/-- The table holds the constant word it is made of. -/
theorem tbl_eq (m : (ℓ : Loc nD τ sig) → Buf (Elt Bits) ℓ) : tbl m 0 = fun _ => 3#32 := by
  unfold tbl V
  simp only [hostOps0, List.flatten_cons, List.flatten_nil, List.append_nil, List.cons_append, List.nil_append]
  rfl

/-- The block index of the second operand, which reads the table. -/
theorem tr1 (m : (ℓ : Loc nD τ sig) → Buf (Elt Bits) ℓ) (i : grid0.Coords) : cc0_transform_1 Gen.facts₀.inb_S1_S1_0 Gen.facts₀.numel1_S1 (tbl m) i = ![0, (Scalar.addi (Scalar.muli 3#32 6#32) (BitVec.ofNat 32 (i 1).val)).toNat] := by
  unfold cc0_transform_1 Pipeline.Prefetch.Contents.at
  simp only [tbl_eq]
  rfl

theorem ok_blocks1 : ∀ i : grid0.Coords, ∃ h : (∀ a, ((![0, (Scalar.addi (Scalar.muli 3#32 6#32) (BitVec.ofNat 32 (i 1).val)).toNat] : Fin 2 → ℕ) a + 1) * S4096x512.size a ≤ S4096x12288.size a),
    EltTy.bits .bf16 = 32 ∨ (Rect.block (s := S4096x12288) S4096x512.size ![0, (Scalar.addi (Scalar.muli 3#32 6#32) (BitVec.ofNat 32 (i 1).val)).toNat] h).WholeWords (EltTy.packing .bf16) := by
  decide +kernel

/-- The block index of the result, which reads the table. -/
theorem tr3 (m : (ℓ : Loc nD τ sig) → Buf (Elt Bits) ℓ) (i : grid0.Coords) : cc0_transform_3 Gen.facts₀.inb_S1_S1_0 Gen.facts₀.numel1_S1 (tbl m) i = ![(BitVec.ofNat 32 (i 0).val).toNat, (Scalar.addi (Scalar.muli 3#32 6#32) (BitVec.ofNat 32 (i 1).val)).toNat] := by
  unfold cc0_transform_3 Pipeline.Prefetch.Contents.at
  simp only [tbl_eq]
  done

theorem ok_blocks3 : ∀ i : grid0.Coords, ∃ h : (∀ a, ((![(BitVec.ofNat 32 (i 0).val).toNat, (Scalar.addi (Scalar.muli 3#32 6#32) (BitVec.ofNat 32 (i 1).val)).toNat] : Fin 2 → ℕ) a + 1) * S1024x512.size a ≤ S4096x12288.size a),
    EltTy.bits .f32 = 32 ∨ (Rect.block (s := S4096x12288) S1024x512.size ![(BitVec.ofNat 32 (i 0).val).toNat, (Scalar.addi (Scalar.muli 3#32 6#32) (BitVec.ofNat 32 (i 1).val)).toNat] h).WholeWords (EltTy.packing .f32) := by
  decide +kernel

/-- Every block the table names lies inside the array. -/
theorem ok (m : (ℓ : Loc nD τ sig) → Buf (Elt Bits) ℓ) : Ok m := by
  unfold Ok ok0
  simp only [tr1, tr3]
  exact ⟨ok_blocks1, ok_blocks3⟩

end Cert.KernelProjXY.Prod

namespace Cert.KernelProjXYIdeal.Prod

open Cert.KernelProjXYIdeal Cert.KernelProjXYIdeal.Gen

/-- The table holds the constant word it is made of. -/
theorem tbl_eq (m : (ℓ : Loc nD τ sig) → Buf (Elt Ideal) ℓ) : tbl m 0 = fun _ => 3#32 := by
  unfold tbl V
  simp only [hostOps0, List.flatten_cons, List.flatten_nil, List.append_nil, List.cons_append, List.nil_append]
  rfl

/-- The block index of the second operand, which reads the table. -/
theorem tr1 (m : (ℓ : Loc nD τ sig) → Buf (Elt Ideal) ℓ) (i : grid0.Coords) : cc0_transform_1 Gen.facts₀.inb_S1_S1_0 Gen.facts₀.numel1_S1 (tbl m) i = ![0, (Scalar.addi (Scalar.muli 3#32 6#32) (BitVec.ofNat 32 (i 1).val)).toNat] := by
  unfold cc0_transform_1 Pipeline.Prefetch.Contents.at
  simp only [tbl_eq]
  rfl

theorem ok_blocks1 : ∀ i : grid0.Coords, ∃ h : (∀ a, ((![0, (Scalar.addi (Scalar.muli 3#32 6#32) (BitVec.ofNat 32 (i 1).val)).toNat] : Fin 2 → ℕ) a + 1) * S4096x512.size a ≤ S4096x12288.size a),
    EltTy.bits .bf16 = 32 ∨ (Rect.block (s := S4096x12288) S4096x512.size ![0, (Scalar.addi (Scalar.muli 3#32 6#32) (BitVec.ofNat 32 (i 1).val)).toNat] h).WholeWords (EltTy.packing .bf16) := by
  decide +kernel

/-- The block index of the result, which reads the table. -/
theorem tr3 (m : (ℓ : Loc nD τ sig) → Buf (Elt Ideal) ℓ) (i : grid0.Coords) : cc0_transform_3 Gen.facts₀.inb_S1_S1_0 Gen.facts₀.numel1_S1 (tbl m) i = ![(BitVec.ofNat 32 (i 0).val).toNat, (Scalar.addi (Scalar.muli 3#32 6#32) (BitVec.ofNat 32 (i 1).val)).toNat] := by
  unfold cc0_transform_3 Pipeline.Prefetch.Contents.at
  simp only [tbl_eq]
  done

theorem ok_blocks3 : ∀ i : grid0.Coords, ∃ h : (∀ a, ((![(BitVec.ofNat 32 (i 0).val).toNat, (Scalar.addi (Scalar.muli 3#32 6#32) (BitVec.ofNat 32 (i 1).val)).toNat] : Fin 2 → ℕ) a + 1) * S1024x512.size a ≤ S4096x12288.size a),
    EltTy.bits .f32 = 32 ∨ (Rect.block (s := S4096x12288) S1024x512.size ![(BitVec.ofNat 32 (i 0).val).toNat, (Scalar.addi (Scalar.muli 3#32 6#32) (BitVec.ofNat 32 (i 1).val)).toNat] h).WholeWords (EltTy.packing .f32) := by
  decide +kernel

/-- Every block the table names lies inside the array. -/
theorem ok (m : (ℓ : Loc nD τ sig) → Buf (Elt Ideal) ℓ) : Ok m := by
  unfold Ok ok0
  simp only [tr1, tr3]
  exact ⟨ok_blocks1, ok_blocks3⟩

end Cert.KernelProjXYIdeal.Prod

namespace Cert.KernelProjXYIdeal.Prod

open Cert.KernelProjXYIdeal Cert.KernelProjXYIdeal.Gen

variable (m : (ℓ : Loc nD τ sig) → Buf (Elt Ideal) ℓ) (hO : Ok m)

theorem idx_grid : ∀ t : Fin grid0.N, cc0_transform_0 (grid0.coords t) = ![t.val / 6, 0] ∧ ![0, (Scalar.addi (Scalar.muli 3#32 6#32) (BitVec.ofNat 32 (grid0.coords t 1).val)).toNat] = ![0, 18 + t.val % 6]
    ∧ ![(BitVec.ofNat 32 (grid0.coords t 0).val).toNat, (Scalar.addi (Scalar.muli 3#32 6#32) (BitVec.ofNat 32 (grid0.coords t 1).val)).toNat] = ![t.val / 6, 18 + t.val % 6] ∧ t.val / 6 < 4 ∧ t.val % 6 < 6 := by
  decide +kernel

theorem idx (t : Fin (cfgM m hO).N) : ((cfgM m hO).win 0).index t = ![t.val / 6, 0] ∧ ((cfgM m hO).win 1).index t = ![0, 18 + t.val % 6]
    ∧ ((cfgM m hO).win 2).index t = ![t.val / 6, 18 + t.val % 6] ∧ t.val / 6 < 4 ∧ t.val % 6 < 6 := by
  have h := idx_grid t
  rw [← tr3 m (grid0.coords t), ← tr1 m (grid0.coords t)] at h
  exact h

theorem surj : ∀ (x : Fin 4) (y : Fin 6), ∃ t : Fin grid0.N, t.val / 6 = x.val ∧ t.val % 6 = y.val := by
  decide +kernel

/-- The blocks written are those of the quarter of the columns. -/
theorem covers : ((cfgM m hO).win 2).CoversWhere (fun β => 18 ≤ β (1 : Fin 2) ∧ β (1 : Fin 2) < 24) :=
  ⟨show ∀ a : Fin 2, 0 < S1024x512.size a by decide,
   fun t _ => ⟨by
      obtain ⟨h0, h1, hw, hi, hj⟩ := idx m hO t
      rw [hw]
      change 18 ≤ 18 + t.val % 6 ∧ 18 + t.val % 6 < 24
      omega, fun a => ((cfgM m hO).win 2).xsize_eq_or_end rfl _ a⟩,
   fun β hβ => by
      obtain ⟨t, ht0, ht1⟩ := surj ⟨(β (0 : Fin 2)).val, lt_of_lt_of_eq (β (0 : Fin 2)).isLt (show (4096 + 1024 - 1) / 1024 = 4 by decide)⟩ ⟨(β (1 : Fin 2)).val - 18, by
        have ha : 18 ≤ (β (1 : Fin 2)).val := hβ.1
        have hb : (β (1 : Fin 2)).val < 24 := hβ.2
        omega⟩
      obtain ⟨h0, h1, hw, hi, hj⟩ := idx m hO t
      obtain ⟨s, -, hf, hs⟩ := ((cfgM m hO).win 2).exists_flush_same_index rfl t
      refine ⟨s, fun (a : Fin 2) => ?_, hf⟩
      rw [hs, hw]
      have hb := hβ.1
      match a with
      | 0 => exact ht0
      | 1 =>
        change 18 + t.val % 6 = (β (1 : Fin 2)).val
        have h1' : t.val % 6 = (β (1 : Fin 2)).val - 18 := ht1
        change 18 ≤ (β (1 : Fin 2)).val at hb
        omega⟩

/-- What one point leaves at a block's entry. -/
def part (a : Vec Ideal S1024x4096 .bf16) (b : Vec Ideal S4096x512 .bf16) (y : S1024x512.Idx) : EReal := ∑ k : Fin 4096, a (ix2 (y 0) k) * b (ix2 k (y 1))

theorem out_at (a : Vec Ideal S1024x4096 .bf16) (b : Vec Ideal S4096x512 .bf16) (y : S1024x512.Idx) :
    k0_pay1 (F := Ideal) a b y = part a b y := by
  unfold part
  pointwise [k0_pay1]

theorem last_at (c : Dev nD) (t : Fin (cfgM m hO).N) (y : S1024x512.Idx) :
    (dats m hO 0 c).after 2 t y = part (iblk m hO c 0 t) (iblk m hO c 1 t) y := by
  rw [after0_2]
  unfold outsAt0
  frame_out
  rw [out_at]
  exact congrArg₂ (fun a b => part a b y) ((hs0_0 m hO t).read_unread _) ((hs0_1 m hO t).read_unread _)

/-- Where entry `y` of the block at a point lies in the result. -/
def pos (t : Fin (cfgM m hO).N) (y : S1024x512.Idx) : S4096x12288.Idx := (((cfgM m hO).win 2).blk t).view.emb y

/-- The product: row of the first operand with column of the second, contracted. -/
def PROD (A : FVec Ideal S4096x4096 .bf16) (B : FVec Ideal S4096x12288 .bf16) : FVec Ideal S4096x12288 .f32 :=
  fun i => ∑ k : Fin 4096, A (ix2 (i 0) k) * B (ix2 k (i 1))

/-- The result: the product on the quarter of the columns, what was there elsewhere. -/
def NEW (A : FVec Ideal S4096x4096 .bf16) (B : FVec Ideal S4096x12288 .bf16) (D : FVec Ideal S4096x12288 .f32) : FVec Ideal S4096x12288 .f32 :=
  fun i => if 18 ≤ (i 1 : ℕ) / 512 ∧ (i 1 : ℕ) / 512 < 24 then PROD A B i else D i

theorem final (c : Dev nD) : (dats m hO 0 c).arrAt 2 (cfgM m hO).N = NEW (m ((c : Thread nD τ).loc main_arg0)) (m ((c : Thread nD τ).loc main_arg1)) ((dats m hO 0 c).A 2) := by
  refine (dats m hO 0 c).arrAt_eq_of_coversWhere 2 (PROD (m ((c : Thread nD τ).loc main_arg0)) (m ((c : Thread nD τ).loc main_arg1))) _ (covers m hO) (fun t hf (y : S1024x512.Idx) => ?_) (fun j => Iff.rfl)
  blk_simp
  refine (last_at m hO c t y).trans ?_
  obtain ⟨h0, h1, hw, hi, hj⟩ := idx m hO t
  unfold part
  change (_ : EReal) = _
  refine Finset.sum_congr rfl fun k _ => ?_
  have e0 : iblk m hO c 0 t (ix2 (y 0) k) = (m ((c : Thread nD τ).loc main_arg0)) (ix2 ((pos m hO t y) 0) k) := by
    rw [← V_main_arg0 m c]
    blk_ext [pos, iblk, h0, hw]
  have e1 : iblk m hO c 1 t (ix2 k (y 1)) = (m ((c : Thread nD τ).loc main_arg1)) (ix2 k ((pos m hO t y) 1)) := by
    rw [← V_main_arg1 m c]
    blk_ext [pos, iblk, h1, hw]
  exact congrArg₂ (· * ·) e0 e1

variable (ρ : Dev nD → PrngReg)

theorem entry (c : Dev nD) : ((dats m hO 0 c).A 2) = (m ((c : Thread nD τ).loc main_arg2)) := by
  rw [A_eq m hO c 2]
  change V m c main_v1 = _
  unfold V
  simp only [hostOps0, List.flatten_cons, List.flatten_nil, List.append_nil, List.cons_append, List.nil_append]
  after_results
  rfl

theorem new_in (A : FVec Ideal S4096x4096 .bf16) (B : FVec Ideal S4096x12288 .bf16) (D : FVec Ideal S4096x12288 .f32) (r : Fin 4096) (l : Fin 12288) (h : 9216 ≤ l.val ∧ l.val < 12288) :
    NEW A B D (ix2 r l) = ∑ k : Fin 4096, A (ix2 r k) * B (ix2 k l) :=
  if_pos (by change 18 ≤ l.val / 512 ∧ l.val / 512 < 24; omega)

theorem new_out (A : FVec Ideal S4096x4096 .bf16) (B : FVec Ideal S4096x12288 .bf16) (D : FVec Ideal S4096x12288 .f32) (r : Fin 4096) (l : Fin 12288) (h : ¬ (9216 ≤ l.val ∧ l.val < 12288)) :
    NEW A B D (ix2 r l) = D (ix2 r l) :=
  if_neg (by change ¬ (18 ≤ l.val / 512 ∧ l.val / 512 < 24); omega)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v1) = NEW (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 2).trans ((final m (ok m) c).trans (by rw [entry m (ok m) c])), h.2 c⟩) (θ_run_and (run_main m ρ (ok m)) (unchanged m ρ (ok m)))

end Cert.KernelProjXYIdeal.Prod

namespace Cert.ReferenceProjXYIdeal.Prod

open Cert.ReferenceProjXYIdeal Cert.ReferenceProjXYIdeal.Gen

theorem ref_eq (A : FVec Ideal S4096x4096 .bf16) (B : FVec Ideal S4096x12288 .bf16) (D : FVec Ideal S4096x12288 .f32) :
    (concatenate S4096x12288 1 [⟨S4096x9216, (extractStridedSlice S4096x9216 ![0, 0] D slices_S4096x12288_S4096x9216_0_0)⟩, ⟨S4096x3072, (shapeCast _ (Host.dotGeneral dot_S2x2048x4096_S4096x3072_S2x2048x3072_2_0_01_1_n_n none (shapeCast _ (extf .f32 A bitsLt_bf16_f32) shapeCasts_S4096x4096_S2x2048x4096) (extf .f32 (extractStridedSlice S4096x3072 ![0, 9216] B slices_S4096x12288_S4096x3072_0_9216) bitsLt_bf16_f32)) shapeCasts_S2x2048x3072_S4096x3072)⟩] concatenates_S4096x9216_S4096x3072_S4096x12288_d1 : FVec Ideal S4096x12288 .f32)
      = Cert.KernelProjXYIdeal.Prod.NEW A B D := funext fun i => by
  obtain ⟨r, l, rfl⟩ : ∃ (r : Fin 4096) (l : Fin 12288), i = ix2 r l := ⟨i 0, i 1, eq_ix2 i⟩
  have hl := l.isLt
  by_cases hq : 9216 ≤ l.val ∧ l.val < 12288
  · rw [Cert.KernelProjXYIdeal.Prod.new_in A B D r l hq]
    have e : ∀ h : 9216 + (l.val - 9216) < 12288, (⟨9216 + (l.val - 9216), h⟩ : Fin 12288) = l := fun h => Fin.ext (Nat.add_sub_of_le hq.1)
    pointwise
    split_ifs
    all_goals first
      | (exfalso; omega)
      | simp only [e]
  · rw [Cert.KernelProjXYIdeal.Prod.new_out A B D r l hq]
    have e : ∀ h : 12288 + (l.val - 9216 - 3072) < 12288, 12288 ≤ l.val → (⟨12288 + (l.val - 9216 - 3072), h⟩ : Fin 12288) = l := fun h hh => Fin.ext (by dsimp only; omega)
    pointwise
    split_ifs
    all_goals first
      | (exfalso; omega)
      | rw [e _ (by omega)]
      | rfl

end Cert.ReferenceProjXYIdeal.Prod

namespace Cert.ProjXY

theorem ok (m : (ℓ : Loc Cert.KernelProjXY.nD Cert.KernelProjXY.τ Cert.KernelProjXY.sig) → Buf (Elt Bits) ℓ) : Cert.KernelProjXY.Gen.Ok m := Cert.KernelProjXY.Prod.ok m

theorem frame_r (m : (ℓ : Loc Cert.ReferenceProjXYIdeal.nD Cert.ReferenceProjXYIdeal.τ Cert.ReferenceProjXYIdeal.sig) → Buf (Elt Ideal) ℓ) (g : Dev Cert.ReferenceProjXYIdeal.nD → PrngReg) :
    θ_run (Cert.ReferenceProjXYIdeal.defs (F := Ideal)) (onTc (τ := Cert.ReferenceProjXYIdeal.τ) (Cert.ReferenceProjXYIdeal.main (F := Ideal))) ⟨m, fun _ => 0, g⟩ (fun r => (∀ c : Dev Cert.ReferenceProjXYIdeal.nD,
      r.2.mem ((c.tc : Thread Cert.ReferenceProjXYIdeal.nD Cert.ReferenceProjXYIdeal.τ).loc Cert.ReferenceProjXYIdeal.main_arg0) = m ((c.tc : Thread Cert.ReferenceProjXYIdeal.nD Cert.ReferenceProjXYIdeal.τ).loc Cert.ReferenceProjXYIdeal.main_arg0)
      ∧ r.2.mem ((c.tc : Thread Cert.ReferenceProjXYIdeal.nD Cert.ReferenceProjXYIdeal.τ).loc Cert.ReferenceProjXYIdeal.main_arg1) = m ((c.tc : Thread Cert.ReferenceProjXYIdeal.nD Cert.ReferenceProjXYIdeal.τ).loc Cert.ReferenceProjXYIdeal.main_arg1)
      ∧ r.2.mem ((c.tc : Thread Cert.ReferenceProjXYIdeal.nD Cert.ReferenceProjXYIdeal.τ).loc Cert.ReferenceProjXYIdeal.main_arg2) = m ((c.tc : Thread Cert.ReferenceProjXYIdeal.nD Cert.ReferenceProjXYIdeal.τ).loc Cert.ReferenceProjXYIdeal.main_arg2))
      ∧ r.2.sem = fun _ => 0) :=
  (θ_run _ _ _).mono (fun r h => ⟨fun c => (h c).2, Idealize.ShloMosaic.sem_eq_zero_of_no_sems (by decide) r.2⟩) (Cert.ReferenceProjXYIdeal.Value.run m g)

theorem value : Cert.algebraic_KernelProjXYIdeal_ReferenceProjXYIdeal := by
  intro m g m' g' _ hag
  refine ⟨_, Cert.KernelProjXYIdeal.Prod.run m g, (θ_run _ _ _).mono (fun r h c => ?_) (Cert.ReferenceProjXYIdeal.Value.run m' g')⟩
  obtain ⟨e0, ea⟩ := h c
  rw [(hag c).1, (hag c).2.1, (hag c).2.2] at e0
  exact ⟨e0.trans (Cert.ReferenceProjXYIdeal.Prod.ref_eq _ _ _), ea⟩

end Cert.ProjXY

end
-- ==== Proof.Up.lean ====
/- The up-projection: the array the kernel leaves, block by block, is one sum over the contracted axis, and so is the reference's. -/
module

public import proofs.«01_k».proof.Defs
public import proofs.«01_k».proof.Proof.Gen.KernelUpIdeal.Frame
public import proofs.«01_k».proof.Proof.Gen.ReferenceUpIdeal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelUpIdeal.Prod

open Cert.KernelUpIdeal Cert.KernelUpIdeal.Gen

variable (m : (ℓ : Loc nD τ sig) → Buf (Elt Ideal) ℓ)

theorem idx : ∀ t : Fin cfg0.N, win0_0.index t = ![t.val / 43, 0] ∧ win0_1.index t = ![0, t.val % 43]
    ∧ win0_2.index t = ![t.val / 43, t.val % 43] ∧ t.val / 43 < 4 :=
  (by decide +kernel : ∀ t : Fin grid0.N, _)

/-- What one point adds to a block's entry. -/
def part (a : Vec Ideal S1024x4096 .bf16) (b : Vec Ideal S4096x512 .bf16) (y : S1024x512.Idx) : EReal := ∑ k : Fin 4096, a (ix2 (y 0) k) * b (ix2 k (y 1))

theorem out_at (a : Vec Ideal S1024x4096 .bf16) (b : Vec Ideal S4096x512 .bf16) (y : S1024x512.Idx) :
    k0_pay1 (F := Ideal) a b y = part a b y := by
  unfold part
  pointwise [k0_pay1]

theorem last_at (c : Dev nD) (t : Fin cfg0.N) (y : S1024x512.Idx) :
    (dats m 0 c).after 2 t y = part (iblk m c 0 t) (iblk m c 1 t) y := by
  rw [after0_2]
  unfold out0_2
  frame_out
  rw [out_at]

/-- The result: row `i 0` of the first operand with column `i 1` of the second, contracted. -/
def OUT (A : FVec Ideal S4096x4096 .bf16) (B : FVec Ideal S4096x22016 .bf16) : FVec Ideal S4096x22016 .f32 :=
  fun i => (∑ k : Fin 4096, A (ix2 (i 0) k) * B (ix2 k (i 1)))

theorem final (c : Dev nD) : (dats m 0 c).arrAt 2 cfg0.N = OUT (m ((c : Thread nD τ).loc main_arg0)) (m ((c : Thread nD τ).loc main_arg1)) := by
  refine (dats m 0 c).arrAt_eq_of_covers 2 _ (by decide +kernel) fun t hf y => ?_
  blk_simp
  rw [last_at m c t]
  have h2 := (idx t).2.2.2
  unfold OUT part
  change (_ : EReal) = _
  refine Finset.sum_congr rfl fun k _ => ?_
  have e0 : iblk m c 0 t (ix2 (y 0) k) = (m ((c : Thread nD τ).loc main_arg0)) (ix2 ((((cfg0.win 2).blk t).view.emb y) 0) k) := by
    blk_ext [iblk, idx t]
  have e1 : iblk m c 1 t (ix2 k (y 1)) = (m ((c : Thread nD τ).loc main_arg1)) (ix2 k ((((cfg0.win 2).blk t).view.emb y) 1)) := by
    blk_ext [iblk, idx t]
  rw [e0, e1]

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v0) = OUT (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m c), h.2 c⟩) (θ_run_and (run_main m ρ) (unchanged m ρ))

end Cert.KernelUpIdeal.Prod

namespace Cert.ReferenceUpIdeal.Prod

open Cert.ReferenceUpIdeal Cert.ReferenceUpIdeal.Gen

theorem ref_eq (A : FVec Ideal S4096x4096 .bf16) (B : FVec Ideal S4096x22016 .bf16) :
    (shapeCast _ (Host.dotGeneral dot_S2x2048x4096_S4096x22016_S2x2048x22016_2_0_01_1_n_n none (shapeCast _ (extf .f32 A bitsLt_bf16_f32) shapeCasts_S4096x4096_S2x2048x4096) (extf .f32 B bitsLt_bf16_f32)) shapeCasts_S2x2048x22016_S4096x22016 : FVec Ideal S4096x22016 .f32)
      = Cert.KernelUpIdeal.Prod.OUT A B := funext fun i => by
  obtain ⟨r, l, rfl⟩ : ∃ (r : Fin 4096) (l : Fin 22016), i = ix2 r l := ⟨i 0, i 1, eq_ix2 i⟩
  unfold Cert.KernelUpIdeal.Prod.OUT
  pointwise

end Cert.ReferenceUpIdeal.Prod

namespace Cert.Up

theorem frame_r (m : (ℓ : Loc Cert.ReferenceUpIdeal.nD Cert.ReferenceUpIdeal.τ Cert.ReferenceUpIdeal.sig) → Buf (Elt Ideal) ℓ) (g : Dev Cert.ReferenceUpIdeal.nD → PrngReg) :
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0) :=
  (θ_run _ _ _).mono (fun r h => ⟨fun c => (h c).2, Idealize.ShloMosaic.sem_eq_zero_of_no_sems (by decide) r.2⟩) (Cert.ReferenceUpIdeal.Value.run m g)

theorem value : Cert.algebraic_KernelUpIdeal_ReferenceUpIdeal := by
  intro m g m' g' _ hag
  refine ⟨_, Cert.KernelUpIdeal.Prod.run m g, (θ_run _ _ _).mono (fun r h c => ?_) (Cert.ReferenceUpIdeal.Value.run m' g')⟩
  obtain ⟨e0, ea⟩ := h c
  rw [(hag c).1, (hag c).2] at e0
  exact ⟨e0.trans (Cert.ReferenceUpIdeal.Prod.ref_eq _ _), ea⟩

end Cert.Up

end
-- ==== Proof.Down.lean ====
/- The down-projection and its residual: the array the kernel leaves, block by block, is one sum over the contracted axis, and so is the reference's. -/
module

public import proofs.«01_k».proof.Defs
public import proofs.«01_k».proof.Proof.Gen.KernelDownIdeal.Frame
public import proofs.«01_k».proof.Proof.Gen.ReferenceDownIdeal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelDownIdeal.Prod

open Cert.KernelDownIdeal Cert.KernelDownIdeal.Gen

variable (m : (ℓ : Loc nD τ sig) → Buf (Elt Ideal) ℓ)

theorem idx : ∀ t : Fin cfg0.N, win0_0.index t = ![t.val / 16, t.val % 2] ∧ win0_1.index t = ![t.val % 2, t.val / 2 % 8] ∧ win0_2.index t = ![t.val / 16, t.val / 2 % 8]
    ∧ win0_3.index t = ![t.val / 16, t.val / 2 % 8] ∧ t.val / 16 < 4 :=
  (by decide +kernel : ∀ t : Fin grid0.N, _)

/-- What one point adds to a block's entry. -/
def part (a : Vec Ideal S1024x5504 .bf16) (b : Vec Ideal S5504x512 .bf16) (y : S1024x512.Idx) : EReal := ∑ k : Fin 5504, a (ix2 (y 0) k) * b (ix2 k (y 1))

theorem zero_at (y : S1024x512.Idx) : k0_pay1 (F := Ideal) y = 0 := by
  pointwise [k0_pay1]

theorem step_at (v : Vec Ideal S1024x512 .f32) (a : Vec Ideal S1024x5504 .bf16) (b : Vec Ideal S5504x512 .bf16) (y : S1024x512.Idx) :
    k0_pay2 (F := Ideal) v a b y = v y + part a b y := by
  unfold part
  pointwise [k0_pay2]

theorem sum_at (c : Dev nD) (t : Fin cfg0.N) (h : t.val % 2 = 1) (y : S1024x512.Idx) :
    (outsAt0 m c t.val t.isLt).2 y = ∑ s : Fin 2, part (iblk m c 0 ⟨2 * (t.val / 2) + s.val, by have := t.isLt; have := s.isLt; have : cfg0.N = 64 := N_0; omega⟩) (iblk m c 1 ⟨2 * (t.val / 2) + s.val, by have := t.isLt; have := s.isLt; have : cfg0.N = 64 := N_0; omega⟩) y := by
  have e := Pipeline.eq_sum_fin_of_reset_step_apply_of_flush (fun n h => (outsAt0 m c n h).2) 2 (fun _ => (0 : EReal)) (fun t => part (iblk m c 0 t) (iblk m c 1 t))
    (fun t h j => by
      rw [outsAt0_A m c t h (by omega)]; frame_out
      rw [step_at, zero_at])
    (fun t h j => by
      rw [outsAt0_B m c t h (by omega)]; frame_out
      rw [step_at]
      exact congrArg (· + _) (congrFun (Memref.IsWhole.read_unread _ _) j)) t h y
  rw [e, zero_add]

theorem last_at (c : Dev nD) (t : Fin cfg0.N) (h : t.val % 2 = 1) (y : S1024x512.Idx) :
    (outsAt0 m c t.val t.isLt).1 y = (outsAt0 m c t.val t.isLt).2 y + iblk m c 2 t y := by
  rw [outsAt0_B m c t (by omega) h]; frame_out
  pointwise [k0_pay3]

/-- The result: row `i 0` of the first operand with column `i 1` of the second, contracted, and the residual. -/
def OUT (A : FVec Ideal S4096x11008 .bf16) (B : FVec Ideal S11008x4096 .bf16) (D : FVec Ideal S4096x4096 .f32) : FVec Ideal S4096x4096 .f32 :=
  fun i => (∑ k : Fin 11008, A (ix2 (i 0) k) * B (ix2 k (i 1))) + D i

theorem final (c : Dev nD) : (dats m 0 c).arrAt 3 cfg0.N = OUT (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : t.val % 2 = 1 := (flush0_3 t).mp hf
  blk_simp
  rw [after0_3, last_at m c t h, sum_at m c t h]
  have h2 := (idx t).2.2.2.2
  have e2 : iblk m c 2 t y = (m ((c : Thread nD τ).loc main_arg2)) (((cfg0.win 3).blk t).view.emb y) := by
    blk_ext [iblk, idx t]
  rw [e2]
  refine congrArg (· + _) ?_
  unfold part
  refine Fin.sum_mul_add_congr fun s k hl => ?_
  have e0 : iblk m c 0 ⟨2 * (t.val / 2) + s.val, by have := t.isLt; have := s.isLt; have : cfg0.N = 64 := N_0; omega⟩ (ix2 (y 0) k) = (m ((c : Thread nD τ).loc main_arg0)) (ix2 ((((cfg0.win 3).blk t).view.emb y) 0) ⟨s.val * 5504 + k.val, hl⟩) := by
    blk_ext [iblk, idx t, idx ⟨2 * (t.val / 2) + s.val, by have := t.isLt; have := s.isLt; have : cfg0.N = 64 := N_0; omega⟩]
  have e1 : iblk m c 1 ⟨2 * (t.val / 2) + s.val, by have := t.isLt; have := s.isLt; have : cfg0.N = 64 := N_0; omega⟩ (ix2 k (y 1)) = (m ((c : Thread nD τ).loc main_arg1)) (ix2 ⟨s.val * 5504 + k.val, hl⟩ ((((cfg0.win 3).blk t).view.emb y) 1)) := by
    blk_ext [iblk, idx t, idx ⟨2 * (t.val / 2) + s.val, by have := t.isLt; have := s.isLt; have : cfg0.N = 64 := N_0; omega⟩]
  rw [e0, e1]

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v0) = OUT (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final m c), h.2 c⟩) (θ_run_and (run_main m ρ) (unchanged m ρ))

end Cert.KernelDownIdeal.Prod

namespace Cert.ReferenceDownIdeal.Prod

open Cert.ReferenceDownIdeal Cert.ReferenceDownIdeal.Gen

theorem ref_eq (A : FVec Ideal S4096x11008 .bf16) (B : FVec Ideal S11008x4096 .bf16) (D : FVec Ideal S4096x4096 .f32) :
    (shapeCast _ (addf (shapeCast _ D shapeCasts_S4096x4096_S2x2048x4096) (Host.dotGeneral dot_S2x2048x11008_S11008x4096_S2x2048x4096_2_0_01_1_n_n none (shapeCast _ (extf .f32 A bitsLt_bf16_f32) shapeCasts_S4096x11008_S2x2048x11008) (extf .f32 B bitsLt_bf16_f32))) shapeCasts_S2x2048x4096_S4096x4096 : FVec Ideal S4096x4096 .f32)
      = Cert.KernelDownIdeal.Prod.OUT A B D := funext fun i => by
  obtain ⟨r, l, rfl⟩ : ∃ (r : Fin 4096) (l : Fin 4096), i = ix2 r l := ⟨i 0, i 1, eq_ix2 i⟩
  unfold Cert.KernelDownIdeal.Prod.OUT
  pointwise
  rw [add_comm]
end Cert.ReferenceDownIdeal.Prod

namespace Cert.Down

theorem frame_r (m : (ℓ : Loc Cert.ReferenceDownIdeal.nD Cert.ReferenceDownIdeal.τ Cert.ReferenceDownIdeal.sig) → Buf (Elt Ideal) ℓ) (g : Dev Cert.ReferenceDownIdeal.nD → PrngReg) :
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0) :=
  (θ_run _ _ _).mono (fun r h => ⟨fun c => (h c).2, Idealize.ShloMosaic.sem_eq_zero_of_no_sems (by decide) r.2⟩) (Cert.ReferenceDownIdeal.Value.run m g)

theorem value : Cert.algebraic_KernelDownIdeal_ReferenceDownIdeal := by
  intro m g m' g' _ hag
  refine ⟨_, Cert.KernelDownIdeal.Prod.run m g, (θ_run _ _ _).mono (fun r h c => ?_) (Cert.ReferenceDownIdeal.Value.run m' g')⟩
  obtain ⟨e0, ea⟩ := h c
  rw [(hag c).1, (hag c).2.1, (hag c).2.2] at e0
  exact ⟨e0.trans (Cert.ReferenceDownIdeal.Prod.ref_eq _ _ _), ea⟩

end Cert.Down

end
-- ==== Proof.Out.lean ====
/- The output projection and its residual: the array the kernel leaves, block by block, is one sum over the contracted axis, and so is the reference's. -/
module

public import proofs.«01_k».proof.Defs
public import proofs.«01_k».proof.Proof.Gen.KernelOutIdeal.Frame
public import proofs.«01_k».proof.Proof.Gen.ReferenceOutIdeal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelOutIdeal.Prod

open Cert.KernelOutIdeal Cert.KernelOutIdeal.Gen

variable (m : (ℓ : Loc nD τ sig) → Buf (Elt Ideal) ℓ)

theorem idx : ∀ t : Fin cfg0.N, win0_0.index t = ![t.val / 8, 0] ∧ win0_1.index t = ![0, t.val % 8] ∧ win0_2.index t = ![t.val / 8, t.val % 8]
    ∧ win0_3.index t = ![t.val / 8, t.val % 8] ∧ t.val / 8 < 4 :=
  (by decide +kernel : ∀ t : Fin grid0.N, _)

/-- What one point adds to a block's entry. -/
def part (a : Vec Ideal S1024x4096 .bf16) (b : Vec Ideal S4096x512 .bf16) (y : S1024x512.Idx) : EReal := ∑ k : Fin 4096, a (ix2 (y 0) k) * b (ix2 k (y 1))

theorem out_at (a : Vec Ideal S1024x4096 .bf16) (b : Vec Ideal S4096x512 .bf16) (d : Vec Ideal S1024x512 .f32) (y : S1024x512.Idx) :
    k0_pay1 (F := Ideal) a b d y = part a b y + d y := by
  unfold part
  pointwise [k0_pay1]

theorem last_at (c : Dev nD) (t : Fin cfg0.N) (y : S1024x512.Idx) :
    (dats m 0 c).after 3 t y = part (iblk m c 0 t) (iblk m c 1 t) y + iblk m c 2 t y := by
  rw [after0_3]
  unfold out0_3
  frame_out
  rw [out_at]

/-- The result: row `i 0` of the first operand with column `i 1` of the second, contracted, and the residual. -/
def OUT (A : FVec Ideal S4096x4096 .bf16) (B : FVec Ideal S4096x4096 .bf16) (D : FVec Ideal S4096x4096 .f32) : FVec Ideal S4096x4096 .f32 :=
  fun i => (∑ k : Fin 4096, A (ix2 (i 0) k) * B (ix2 k (i 1))) + D i

theorem final (c : Dev nD) : (dats m 0 c).arrAt 3 cfg0.N = OUT (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [last_at m c t]
  have h2 := (idx t).2.2.2.2
  have e2 : iblk m c 2 t y = (m ((c : Thread nD τ).loc main_arg2)) (((cfg0.win 3).blk t).view.emb y) := by
    blk_ext [iblk, idx t]
  rw [e2]
  refine congrArg (· + _) ?_
  unfold part
  change (_ : EReal) = _
  refine Finset.sum_congr rfl fun k _ => ?_
  have e0 : iblk m c 0 t (ix2 (y 0) k) = (m ((c : Thread nD τ).loc main_arg0)) (ix2 ((((cfg0.win 3).blk t).view.emb y) 0) k) := by
    blk_ext [iblk, idx t]
  have e1 : iblk m c 1 t (ix2 k (y 1)) = (m ((c : Thread nD τ).loc main_arg1)) (ix2 k ((((cfg0.win 3).blk t).view.emb y) 1)) := by
    blk_ext [iblk, idx t]
  rw [e0, e1]

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v0) = OUT (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final m c), h.2 c⟩) (θ_run_and (run_main m ρ) (unchanged m ρ))

end Cert.KernelOutIdeal.Prod

namespace Cert.ReferenceOutIdeal.Prod

open Cert.ReferenceOutIdeal Cert.ReferenceOutIdeal.Gen

theorem ref_eq (A : FVec Ideal S4096x4096 .bf16) (B : FVec Ideal S4096x4096 .bf16) (D : FVec Ideal S4096x4096 .f32) :
    (shapeCast _ (addf (shapeCast _ D shapeCasts_S4096x4096_S2x2048x4096) (Host.dotGeneral dot_S2x2048x4096_S4096x4096_S2x2048x4096_2_0_01_1_n_n none (shapeCast _ (extf .f32 A bitsLt_bf16_f32) shapeCasts_S4096x4096_S2x2048x4096) (extf .f32 B bitsLt_bf16_f32))) shapeCasts_S2x2048x4096_S4096x4096 : FVec Ideal S4096x4096 .f32)
      = Cert.KernelOutIdeal.Prod.OUT A B D := funext fun i => by
  obtain ⟨r, l, rfl⟩ : ∃ (r : Fin 4096) (l : Fin 4096), i = ix2 r l := ⟨i 0, i 1, eq_ix2 i⟩
  unfold Cert.KernelOutIdeal.Prod.OUT
  pointwise
  rw [add_comm]
end Cert.ReferenceOutIdeal.Prod

namespace Cert.Out

theorem frame_r (m : (ℓ : Loc Cert.ReferenceOutIdeal.nD Cert.ReferenceOutIdeal.τ Cert.ReferenceOutIdeal.sig) → Buf (Elt Ideal) ℓ) (g : Dev Cert.ReferenceOutIdeal.nD → PrngReg) :
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0) :=
  (θ_run _ _ _).mono (fun r h => ⟨fun c => (h c).2, Idealize.ShloMosaic.sem_eq_zero_of_no_sems (by decide) r.2⟩) (Cert.ReferenceOutIdeal.Value.run m g)

theorem value : Cert.algebraic_KernelOutIdeal_ReferenceOutIdeal := by
  intro m g m' g' _ hag
  refine ⟨_, Cert.KernelOutIdeal.Prod.run m g, (θ_run _ _ _).mono (fun r h c => ?_) (Cert.ReferenceOutIdeal.Value.run m' g')⟩
  obtain ⟨e0, ea⟩ := h c
  rw [(hag c).1, (hag c).2.1, (hag c).2.2] at e0
  exact ⟨e0.trans (Cert.ReferenceOutIdeal.Prod.ref_eq _ _ _), ea⟩

end Cert.Out

end
-- ==== Proof.Nrm.lean ====
/- The norm of a row and its gradient, over the extended reals: the two ways of writing the gradient agree, also where
   entries are infinite, because the factors that differ are real numbers or the whole row's factor is zero. -/
module

public import Idealize.ShloMosaic.Lib.Pointwise

@[expose] public section

noncomputable section

open Idealize.ShloMosaic

namespace Cert.Nrm

theorem c4096 : Ideal.ofBits .f32 0x45800000#32 = ((4096 : ℝ) : EReal) := by
  simp [Ideal.ofBits, Ideal.ieee, -EReal.coe_mul]; norm_num
theorem c2048 : Ideal.ofBits .f32 0x45000000#32 = ((2048 : ℝ) : EReal) := by
  simp [Ideal.ofBits, Ideal.ieee, -EReal.coe_mul]; norm_num
theorem cmhalf : Ideal.ofBits .f32 0xBF000000#32 = ((-(1 / 2) : ℝ) : EReal) := by
  simp [Ideal.ofBits, Ideal.ieee, -EReal.coe_mul, -EReal.coe_neg]; norm_num
theorem chalf : Ideal.ofBits .f32 0x3F000000#32 = ((1 / 2 : ℝ) : EReal) := by
  simp [Ideal.ofBits, Ideal.ieee, -EReal.coe_mul]; norm_num
theorem ctwo : Ideal.ofBits .f32 0x40000000#32 = ((2 : ℝ) : EReal) := by
  simp [Ideal.ofBits, Ideal.ieee, -EReal.coe_mul]; norm_num
theorem cinv : Ideal.ofBits .f32 0x39800000#32 = ((1 / 4096 : ℝ) : EReal) := by
  simp [Ideal.ofBits, Ideal.ieee, -EReal.coe_mul]; norm_num
theorem ceps : ∃ e : ℝ, 0 < e ∧ Ideal.ofBits .f32 0x358637BD#32 = (e : EReal) := by
  refine ⟨_, ?_, by simp [Ideal.ofBits, Ideal.ieee, -EReal.coe_mul]; rfl⟩
  positivity

/-- The mean square of a row plus the constant, as it is written on both sides. -/
def ms {n : ℕ} (c : EReal) (x : Fin n → EReal) : EReal := Ideal.div (∑ k, x k * x k) c + Ideal.ofBits .f32 0x358637BD#32
/-- The row's factor. -/
def rr {n : ℕ} (c : EReal) (x : Fin n → EReal) : EReal := Ideal.rsqrt (ms c x)
/-- The gradient of one entry, as the kernel writes it. -/
def dk {n : ℕ} (c : EReal) (x g w : Fin n → EReal) (j : Fin n) : EReal :=
  rr c x * (g j * w j) - x j * (rr c x * rr c x * rr c x) * Ideal.div (∑ k, g k * w k * x k) c
/-- The share of the mean square in the gradient, as the product rule gives it. -/
def sh {n : ℕ} (c : EReal) (x g w : Fin n → EReal) : EReal :=
  Ideal.div ((∑ k, x k * (g k * w k)) * (Ideal.ofBits .f32 0xBF000000#32 * Ideal.div (rr c x) (ms c x))) c

theorem sq_nonneg (a : EReal) : 0 ≤ a * a := by
  induction a using EReal.rec with
  | bot => simp
  | top => simp
  | coe r => rw [← EReal.coe_mul]; exact_mod_cast mul_self_nonneg r

/-- The mean square is a positive real number, or infinite. -/
theorem ms_cases {n : ℕ} {c : ℝ} (hc : 0 < c) (x : Fin n → EReal) :
    (∃ z : ℝ, 0 < z ∧ ms (c : EReal) x = (z : EReal)) ∨ ms (c : EReal) x = ⊤ := by
  obtain ⟨e, he, h⟩ := ceps
  unfold ms
  rw [h, Ideal.div_coe hc.ne']
  have hs : 0 ≤ ∑ k, x k * x k := Finset.sum_nonneg fun k _ => sq_nonneg _
  generalize ∑ k, x k * x k = S at hs
  have hp : 0 < 1 / c := one_div_pos.mpr hc
  induction S using EReal.rec with
  | bot => simp at hs
  | top => right; rw [EReal.top_mul_coe_of_pos hp, EReal.top_add_coe]
  | coe s =>
    left
    have hs' : 0 ≤ s := by exact_mod_cast hs
    refine ⟨s * (1 / c) + e, by positivity, ?_⟩
    rw [EReal.coe_add, EReal.coe_mul]

/-- Twice a real multiple. -/
theorem twice (a : EReal) (k : ℝ) : a * (k : EReal) + a * (k : EReal) = a * ((2 * k : ℝ) : EReal) := by
  induction a using EReal.rec with
  | coe r => rw [← EReal.coe_mul, ← EReal.coe_mul, ← EReal.coe_add]; congr 1; ring
  | top =>
    rcases lt_trichotomy k 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy k 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The gradient the product rule gives is the one the kernel forms. -/
theorem back_eq {n : ℕ} {c : ℝ} (hc : 0 < c) (x g w : Fin n → EReal) (j : Fin n) :
    g j * w j * rr (c : EReal) x + x j * sh (c : EReal) x g w + x j * sh (c : EReal) x g w = dk (c : EReal) x g w j := by
  have hG : ∑ k, x k * (g k * w k) = ∑ k, g k * w k * x k := Finset.sum_congr rfl fun k _ => mul_comm _ _
  unfold dk sh
  rw [hG, cmhalf, Ideal.div_coe hc.ne', Ideal.div_coe hc.ne']
  generalize (∑ k, g k * w k * x k) = G
  rcases ms_cases hc x with ⟨z, hz, h⟩ | h
  · have hr : rr (c : EReal) x = (((Real.sqrt z)⁻¹ : ℝ) : EReal) := by
      unfold rr; rw [h, Ideal.rsqrt_coe, if_neg (by linarith), if_neg hz.ne']
    rw [hr, h, Ideal.div_coe hz.ne']
    set s := Real.sqrt z with hs
    have hss : s * s = z := Real.mul_self_sqrt hz.le
    have hs0 : 0 < s := Real.sqrt_pos.mpr hz
    have e1 : x j * (G * (((-(1 / 2) : ℝ) : EReal) * (((s⁻¹ : ℝ) : EReal) * ((1 / z : ℝ) : EReal))) * ((1 / c : ℝ) : EReal))
        = x j * G * ((-(1 / 2) * (s⁻¹ * (1 / z)) * (1 / c) : ℝ) : EReal) := by
      simp only [EReal.coe_mul]; ac_rfl
    have e2 : x j * (((s⁻¹ : ℝ) : EReal) * ((s⁻¹ : ℝ) : EReal) * ((s⁻¹ : ℝ) : EReal)) * (G * ((1 / c : ℝ) : EReal))
        = x j * G * ((s⁻¹ * s⁻¹ * s⁻¹ * (1 / c) : ℝ) : EReal) := by
      simp only [EReal.coe_mul]; ac_rfl
    rw [e1, e2, add_assoc, twice, sub_eq_add_neg, ← mul_neg, ← EReal.coe_neg, mul_comm (g j * w j)]
    congr 3
    rw [← hss]
    field_simp
  · have hr : rr (c : EReal) x = 0 := by unfold rr; rw [h]; rfl
    have hd : Ideal.div 0 (⊤ : EReal) = 0 := by unfold Ideal.div; simp
    rw [hr, h, hd]
    simp

/-- Row `r` of an array. -/
def row {m n : ℕ} (X : FVec Ideal (⟨2, ![m, n]⟩ : Shape) .f32) (r : Fin m) : Fin n → EReal := fun k => X (ix2 r k)

theorem sum_blocks (f : Fin 4096 → EReal) : ∑ x : Fin 16, ∑ y : Fin 256, f ⟨x.val * 256 + y.val, by omega⟩ = ∑ k, f k := by
  rw [← Equiv.sum_comp (finProdFinEquiv (m := 16) (n := 256)) f, Fintype.sum_prod_type]
  refine Finset.sum_congr rfl fun x _ => Finset.sum_congr rfl fun y _ => congrArg f (Fin.ext ?_)
  change x.val * 256 + y.val = y.val + 256 * x.val
  ring

end Cert.Nrm

end
-- ==== Proof.Norm.lean ====
/- The norm before a layer's first product: the kernel's result is the reference's. -/
module

public import proofs.«01_k».proof.Defs
public import proofs.«01_k».proof.Proof.Nrm
public import proofs.«01_k».proof.Proof.Gen.KernelNormIdeal.Frame
public import proofs.«01_k».proof.Proof.Gen.ReferenceNormIdeal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelNormIdeal.Prod

open Cert.KernelNormIdeal Cert.KernelNormIdeal.Gen Cert.Nrm

variable (m : (ℓ : Loc nD τ sig) → Buf (Elt Ideal) ℓ)

/-- The row's length as a number. -/
abbrev len : EReal := Ideal.ofBits .f32 0x45800000#32

abbrev aX (c : Dev nD) : FVec Ideal S4096x4096 .f32 := m ((c : Thread nD τ).loc main_arg0)
abbrev aW (c : Dev nD) : FVec Ideal S1x4096 .f32 := m ((c : Thread nD τ).loc main_arg1)
abbrev bX (c : Dev nD) (t : Fin cfg0.N) : FVec Ideal S256x4096 .f32 := iblk m c 0 t
abbrev bW (c : Dev nD) (t : Fin cfg0.N) : FVec Ideal S1x4096 .f32 := iblk m c 1 t

theorem idx : ∀ t : Fin cfg0.N, win0_0.index t = ![t.val, 0] ∧ win0_1.index t = ![0, 0] ∧ win0_2.index t = ![t.val, 0] ∧ t.val < 16 :=
  (by decide +kernel : ∀ t : Fin grid0.N, _)

theorem pay_at (x : Vec Ideal S256x4096 .f32) (w : Vec Ideal S1x4096 .f32) (r : Fin 256) (l : Fin 4096) :
    k0_pay1 (F := Ideal) x w (ix2 r l) = row x r l * rr len (row x r) * row w 0 l := by
  unfold rr ms row
  pointwise [k0_pay1]

/-- The scaled rows. -/
def OUT (X : FVec Ideal S4096x4096 .f32) (W : FVec Ideal S1x4096 .f32) : FVec Ideal S4096x4096 .bf16 :=
  fun i => row X (i 0) (i 1) * rr len (row X (i 0)) * row W 0 (i 1)

theorem xrow (c : Dev nD) (t : Fin cfg0.N) (r : Fin 256) (R : Fin 4096) (hR : R.val = t.val * 256 + r.val) :
    row (bX m c t) r = row (aX m c) R := funext fun k => by
  unfold row; blk_ext [aX, bX, iblk, idx t]
theorem wrow (c : Dev nD) (t : Fin cfg0.N) : row (bW m c t) 0 = row (aW m c) 0 := funext fun k => by
  unfold row; blk_ext [aW, bW, iblk, idx t]

theorem final (c : Dev nD) : (dats m 0 c).arrAt 2 cfg0.N = OUT (aX m c) (aW m c) := by
  refine (dats m 0 c).arrAt_eq_of_covers 2 _ (by decide +kernel) fun t _ y => ?_
  blk_simp
  rw [after0_2]
  unfold out0_2
  frame_out
  have ht : t.val < 16 := (idx t).2.2.2
  have he : ((cfg0.win 2).blk t).view.emb y = ix2 ⟨t.val * 256 + (y 0).val, by have := (y 0).isLt; change (y 0).val < 256 at this; omega⟩ ⟨(y 1).val, (y 1).isLt⟩ := by
    blk_ext [idx t]
  rw [he]
  obtain ⟨r, l, rfl⟩ : ∃ (r : Fin 256) (l : Fin 4096), y = ix2 r l := ⟨y 0, y 1, eq_ix2 y⟩
  refine (pay_at _ _ r l).trans ?_
  rw [xrow m c t r ⟨t.val * 256 + r.val, by omega⟩ rfl, wrow]
  rfl

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v0) = OUT (aX m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m c), h.2 c⟩) (θ_run_and (run_main m ρ) (unchanged m ρ))

end Cert.KernelNormIdeal.Prod

namespace Cert.ReferenceNormIdeal.Prod

open Cert.ReferenceNormIdeal Cert.ReferenceNormIdeal.Gen Cert.Nrm
open Cert.KernelNormIdeal.Prod (len OUT)

theorem ref_eq (X : FVec Ideal S4096x4096 .f32) (W : FVec Ideal S1x4096 .f32) :
    (truncf .bf16 (shapeCast _ (mulf (mulf (shapeCast _ X shapeCasts_S4096x4096_S2x2048x4096) (broadcastInDim S2x2048x4096 ![0, 1, 2] bcast_S2x2048x1_S2x2048x4096_0_1_2 (Host.rsqrt (addf (Host.divf (broadcastInDim S2x2048x1 ![0, 1] bcast_S2x2048_S2x2048x1_0_1 (Host.reduceAdd (mulf (shapeCast _ X shapeCasts_S4096x4096_S2x2048x4096) (shapeCast _ X shapeCasts_S4096x4096_S2x2048x4096)) (constant S_ .f32 0x00000000#32) reducesTo_S2x2048x4096_S2x2048_d2 h_S_)) (broadcastInDim S2x2048x1 ![] bcast_S_S2x2048x1 (constant S_ .f32 0x45800000#32))) (broadcastInDim S2x2048x1 ![] bcast_S_S2x2048x1 (constant S_ .f32 0x358637BD#32)))))) (broadcastInDim S2x2048x4096 ![0, 1, 2] bcast_S1x1x4096_S2x2048x4096_0_1_2 (broadcastInDim S1x1x4096 ![2] bcast_S4096_S1x1x4096_2 (shapeCast _ W shapeCasts_S1x4096_S4096)))) shapeCasts_S2x2048x4096_S4096x4096) bitsLt_bf16_f32 : FVec Ideal S4096x4096 .bf16) = OUT X W := funext fun i => by
  obtain ⟨r, l, rfl⟩ : ∃ (r : Fin 4096) (l : Fin 4096), i = ix2 r l := ⟨i 0, i 1, eq_ix2 i⟩
  unfold OUT rr ms row
  pointwise

end Cert.ReferenceNormIdeal.Prod

namespace Cert.Norm

theorem frame_r (m : (ℓ : Loc Cert.ReferenceNormIdeal.nD Cert.ReferenceNormIdeal.τ Cert.ReferenceNormIdeal.sig) → Buf (Elt Ideal) ℓ) (g : Dev Cert.ReferenceNormIdeal.nD → PrngReg) :
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1))
      ∧ r.2.sem = fun _ => 0) :=
  (θ_run _ _ _).mono (fun r h => ⟨fun c => (h c).2, Idealize.ShloMosaic.sem_eq_zero_of_no_sems (by decide) r.2⟩) (Cert.ReferenceNormIdeal.Value.run m g)

theorem value : Cert.algebraic_KernelNormIdeal_ReferenceNormIdeal := by
  intro m g m' g' _ hag
  refine ⟨_, Cert.KernelNormIdeal.Prod.run m g, (θ_run _ _ _).mono (fun r h c => ?_) (Cert.ReferenceNormIdeal.Value.run m' g')⟩
  obtain ⟨e0, ea⟩ := h c
  rw [(hag c).1, (hag c).2] at e0
  exact ⟨e0.trans (Cert.ReferenceNormIdeal.Prod.ref_eq _ _), ea⟩

end Cert.Norm

end
-- ==== Proof.NormZ.lean ====
/- The norm of the recurrent branch: the kernel's result is the reference's. -/
module

public import proofs.«01_k».proof.Defs
public import proofs.«01_k».proof.Proof.Nrm
public import proofs.«01_k».proof.Proof.Gen.KernelNormZIdeal.Frame
public import proofs.«01_k».proof.Proof.Gen.ReferenceNormZIdeal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelNormZIdeal.Prod

open Cert.KernelNormZIdeal Cert.KernelNormZIdeal.Gen Cert.Nrm

variable (m : (ℓ : Loc nD τ sig) → Buf (Elt Ideal) ℓ)

/-- The row's length as a number. -/
abbrev len : EReal := Ideal.ofBits .f32 0x45000000#32

abbrev aX (c : Dev nD) : FVec Ideal S4096x2048 .f32 := m ((c : Thread nD τ).loc main_arg0)
abbrev aW (c : Dev nD) : FVec Ideal S1x2048 .f32 := m ((c : Thread nD τ).loc main_arg1)
abbrev bX (c : Dev nD) (t : Fin cfg0.N) : FVec Ideal S256x2048 .f32 := iblk m c 0 t
abbrev bW (c : Dev nD) (t : Fin cfg0.N) : FVec Ideal S1x2048 .f32 := iblk m c 1 t

theorem idx : ∀ t : Fin cfg0.N, win0_0.index t = ![t.val, 0] ∧ win0_1.index t = ![0, 0] ∧ win0_2.index t = ![t.val, 0] ∧ t.val < 16 :=
  (by decide +kernel : ∀ t : Fin grid0.N, _)

theorem pay_at (x : Vec Ideal S256x2048 .f32) (w : Vec Ideal S1x2048 .f32) (r : Fin 256) (l : Fin 2048) :
    k0_pay1 (F := Ideal) x w (ix2 r l) = row x r l * rr len (row x r) * row w 0 l := by
  unfold rr ms row
  pointwise [k0_pay1]

/-- The scaled rows. -/
def OUT (X : FVec Ideal S4096x2048 .f32) (W : FVec Ideal S1x2048 .f32) : FVec Ideal S4096x2048 .bf16 :=
  fun i => row X (i 0) (i 1) * rr len (row X (i 0)) * row W 0 (i 1)

theorem xrow (c : Dev nD) (t : Fin cfg0.N) (r : Fin 256) (R : Fin 4096) (hR : R.val = t.val * 256 + r.val) :
    row (bX m c t) r = row (aX m c) R := funext fun k => by
  unfold row; blk_ext [aX, bX, iblk, idx t]
theorem wrow (c : Dev nD) (t : Fin cfg0.N) : row (bW m c t) 0 = row (aW m c) 0 := funext fun k => by
  unfold row; blk_ext [aW, bW, iblk, idx t]

theorem final (c : Dev nD) : (dats m 0 c).arrAt 2 cfg0.N = OUT (aX m c) (aW m c) := by
  refine (dats m 0 c).arrAt_eq_of_covers 2 _ (by decide +kernel) fun t _ y => ?_
  blk_simp
  rw [after0_2]
  unfold out0_2
  frame_out
  have ht : t.val < 16 := (idx t).2.2.2
  have he : ((cfg0.win 2).blk t).view.emb y = ix2 ⟨t.val * 256 + (y 0).val, by have := (y 0).isLt; change (y 0).val < 256 at this; omega⟩ ⟨(y 1).val, (y 1).isLt⟩ := by
    blk_ext [idx t]
  rw [he]
  obtain ⟨r, l, rfl⟩ : ∃ (r : Fin 256) (l : Fin 2048), y = ix2 r l := ⟨y 0, y 1, eq_ix2 y⟩
  refine (pay_at _ _ r l).trans ?_
  rw [xrow m c t r ⟨t.val * 256 + r.val, by omega⟩ rfl, wrow]
  rfl

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v0) = OUT (aX m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m c), h.2 c⟩) (θ_run_and (run_main m ρ) (unchanged m ρ))

end Cert.KernelNormZIdeal.Prod

namespace Cert.ReferenceNormZIdeal.Prod

open Cert.ReferenceNormZIdeal Cert.ReferenceNormZIdeal.Gen Cert.Nrm
open Cert.KernelNormZIdeal.Prod (len OUT)

theorem ref_eq (X : FVec Ideal S4096x2048 .f32) (W : FVec Ideal S1x2048 .f32) :
    (truncf .bf16 (shapeCast _ (mulf (mulf (shapeCast _ X shapeCasts_S4096x2048_S2x2048x2048) (broadcastInDim S2x2048x2048 ![0, 1, 2] bcast_S2x2048x1_S2x2048x2048_0_1_2 (Host.rsqrt (addf (Host.divf (broadcastInDim S2x2048x1 ![0, 1] bcast_S2x2048_S2x2048x1_0_1 (Host.reduceAdd (mulf (shapeCast _ X shapeCasts_S4096x2048_S2x2048x2048) (shapeCast _ X shapeCasts_S4096x2048_S2x2048x2048)) (constant S_ .f32 0x00000000#32) reducesTo_S2x2048x2048_S2x2048_d2 h_S_)) (broadcastInDim S2x2048x1 ![] bcast_S_S2x2048x1 (constant S_ .f32 0x45000000#32))) (broadcastInDim S2x2048x1 ![] bcast_S_S2x2048x1 (constant S_ .f32 0x358637BD#32)))))) (broadcastInDim S2x2048x2048 ![0, 1, 2] bcast_S1x1x2048_S2x2048x2048_0_1_2 (broadcastInDim S1x1x2048 ![2] bcast_S2048_S1x1x2048_2 (shapeCast _ W shapeCasts_S1x2048_S2048)))) shapeCasts_S2x2048x2048_S4096x2048) bitsLt_bf16_f32 : FVec Ideal S4096x2048 .bf16) = OUT X W := funext fun i => by
  obtain ⟨r, l, rfl⟩ : ∃ (r : Fin 4096) (l : Fin 2048), i = ix2 r l := ⟨i 0, i 1, eq_ix2 i⟩
  unfold OUT rr ms row
  pointwise

end Cert.ReferenceNormZIdeal.Prod

namespace Cert.NormZ

theorem frame_r (m : (ℓ : Loc Cert.ReferenceNormZIdeal.nD Cert.ReferenceNormZIdeal.τ Cert.ReferenceNormZIdeal.sig) → Buf (Elt Ideal) ℓ) (g : Dev Cert.ReferenceNormZIdeal.nD → PrngReg) :
    θ_run (Cert.ReferenceNormZIdeal.defs (F := Ideal)) (onTc (τ := Cert.ReferenceNormZIdeal.τ) (Cert.ReferenceNormZIdeal.main (F := Ideal))) ⟨m, fun _ => 0, g⟩ (fun r => (∀ c : Dev Cert.ReferenceNormZIdeal.nD,
      r.2.mem ((c.tc : Thread Cert.ReferenceNormZIdeal.nD Cert.ReferenceNormZIdeal.τ).loc Cert.ReferenceNormZIdeal.main_arg0) = m ((c.tc : Thread Cert.ReferenceNormZIdeal.nD Cert.ReferenceNormZIdeal.τ).loc Cert.ReferenceNormZIdeal.main_arg0)
      ∧ r.2.mem ((c.tc : Thread Cert.ReferenceNormZIdeal.nD Cert.ReferenceNormZIdeal.τ).loc Cert.ReferenceNormZIdeal.main_arg1) = m ((c.tc : Thread Cert.ReferenceNormZIdeal.nD Cert.ReferenceNormZIdeal.τ).loc Cert.ReferenceNormZIdeal.main_arg1))
      ∧ r.2.sem = fun _ => 0) :=
  (θ_run _ _ _).mono (fun r h => ⟨fun c => (h c).2, Idealize.ShloMosaic.sem_eq_zero_of_no_sems (by decide) r.2⟩) (Cert.ReferenceNormZIdeal.Value.run m g)

theorem value : Cert.algebraic_KernelNormZIdeal_ReferenceNormZIdeal := by
  intro m g m' g' _ hag
  refine ⟨_, Cert.KernelNormZIdeal.Prod.run m g, (θ_run _ _ _).mono (fun r h c => ?_) (Cert.ReferenceNormZIdeal.Value.run m' g')⟩
  obtain ⟨e0, ea⟩ := h c
  rw [(hag c).1, (hag c).2] at e0
  exact ⟨e0.trans (Cert.ReferenceNormZIdeal.Prod.ref_eq _ _), ea⟩

end Cert.NormZ

end
-- ==== Proof.NormBwd.lean ====
/- The gradient of the first norm: the kernel's two results, the input's gradient with the residual's added and the weight's, are the reference's. -/
module

public import proofs.«01_k».proof.Defs
public import proofs.«01_k».proof.Proof.Nrm
public import proofs.«01_k».proof.Proof.Rows
public import proofs.«01_k».proof.Proof.Gen.KernelNormBwdIdeal.Frame
public import proofs.«01_k».proof.Proof.Gen.ReferenceNormBwdIdeal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelNormBwdIdeal.Prod

open Cert.KernelNormBwdIdeal Cert.KernelNormBwdIdeal.Gen Cert.Nrm

variable (m : (ℓ : Loc nD τ sig) → Buf (Elt Ideal) ℓ)

/-- The row's length as a number. -/
abbrev len : EReal := Ideal.ofBits .f32 0x45800000#32

abbrev aX (c : Dev nD) : FVec Ideal S4096x4096 .f32 := m ((c : Thread nD τ).loc main_arg0)
abbrev aW (c : Dev nD) : FVec Ideal S1x4096 .f32 := m ((c : Thread nD τ).loc main_arg1)
abbrev aG (c : Dev nD) : FVec Ideal S4096x4096 .f32 := m ((c : Thread nD τ).loc main_arg2)
abbrev aR (c : Dev nD) : FVec Ideal S4096x4096 .f32 := m ((c : Thread nD τ).loc main_arg3)
abbrev bX (c : Dev nD) (t : Fin cfg0.N) : FVec Ideal S256x4096 .f32 := iblk m c 0 t
abbrev bW (c : Dev nD) (t : Fin cfg0.N) : FVec Ideal S1x4096 .f32 := iblk m c 1 t
abbrev bG (c : Dev nD) (t : Fin cfg0.N) : FVec Ideal S256x4096 .f32 := iblk m c 2 t
abbrev bR (c : Dev nD) (t : Fin cfg0.N) : FVec Ideal S256x4096 .f32 := iblk m c 3 t

theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![0, 0]
    ∧ t.val < 16 :=
  (by decide +kernel : ∀ t : Fin grid0.N, _)

theorem fac_at (x : Vec Ideal S256x4096 .f32) (r : Fin 256) : k0_pay2 (F := Ideal) x (ix2 r 0) = rr len (row x r) := by
  unfold rr ms row
  pointwise [k0_pay2]

theorem dx_at (x g : Vec Ideal S256x4096 .f32) (w : Vec Ideal S1x4096 .f32) (v : Vec Ideal S256x4096 .f32) (r : Fin 256) (l : Fin 4096) :
    k0_pay3 (F := Ideal) x g w v (ix2 r l) = dk len (row x r) (row g r) (row w 0) l + v (ix2 r l) := by
  unfold dk
  rw [← fac_at]
  unfold row
  pointwise [k0_pay3]

theorem pay6_at (x g : Vec Ideal S256x4096 .f32) (r : Fin 256) (l : Fin 4096) :
    k0_pay6 (F := Ideal) x g (ix2 r l) = g (ix2 r l) * x (ix2 r l) * rr len (row x r) := by
  rw [← fac_at]
  pointwise [k0_pay6]

theorem pay1_at (p : FVec Ideal S1x4096 .f32) (d : FVec Ideal S256x4096 .f32) (l : Fin 4096) :
    k0_pay1 (F := Ideal) p d (ix2 0 l) = p (ix2 0 l) + ∑ q : Fin 256, d (ix2 q l) := by
  pointwise [k0_pay1]

theorem out_at (c : Dev nD) (t : Fin cfg0.N) (r : Fin 256) (l : Fin 4096) :
    (outsAt0 m c t.val t.isLt).1 (ix2 r l) = dk len (row (bX m c t) r) (row (bG m c t) r) (row (bW m c t) 0) l + bR m c t (ix2 r l) := by
  by_cases h : t.val % 16 = 0
  · rw [outsAt0_A m c t h]; frame_out
    rw [dx_at]
  · rw [outsAt0_B m c t h]; frame_out
    rw [dx_at]

/-- The input's gradient. -/
def DX (X : FVec Ideal S4096x4096 .f32) (W : FVec Ideal S1x4096 .f32) (G R : FVec Ideal S4096x4096 .f32) : FVec Ideal S4096x4096 .f32 :=
  fun i => dk len (row X (i 0)) (row G (i 0)) (row W 0) (i 1) + R i
/-- The weight's gradient. -/
def DW (X : FVec Ideal S4096x4096 .f32) (G : FVec Ideal S4096x4096 .f32) : FVec Ideal S1x4096 .f32 :=
  fun i => ∑ k : Fin 4096, row G k (i 1) * X (ix2 k (i 1)) * rr len (row X k)

theorem xrow (c : Dev nD) (t : Fin cfg0.N) (r : Fin 256) (R : Fin 4096) (hR : R.val = t.val * 256 + r.val) :
    row (bX m c t) r = row (aX m c) R := funext fun k => by
  unfold row; blk_ext [aX, aW, aG, aR, bX, bW, bG, bR, iblk, idx t]
theorem wrow (c : Dev nD) (t : Fin cfg0.N) : row (bW m c t) 0 = row (aW m c) 0 := funext fun k => by
  unfold row; blk_ext [aX, aW, aG, aR, bX, bW, bG, bR, iblk, idx t]
theorem grow (c : Dev nD) (t : Fin cfg0.N) (r : Fin 256) (R : Fin 4096) (hR : R.val = t.val * 256 + r.val) :
    row (bG m c t) r = row (aG m c) R := funext fun k => by
  unfold row; blk_ext [aX, aW, aG, aR, bX, bW, bG, bR, iblk, idx t]

theorem in_block (c : Dev nD) (t : Fin cfg0.N) (y : S256x4096.Idx) : (outsAt0 m c t.val t.isLt).1 y = DX (aX m c) (aW m c) (aG m c) (aR m c) (((cfg0.win 4).blk t).view.emb y) := by
  have ht : t.val < 16 := (idx t).2.2.2.2.2.2
  have he : ((cfg0.win 4).blk t).view.emb y = ix2 ⟨t.val * 256 + (y 0).val, by have := (y 0).isLt; change (y 0).val < 256 at this; omega⟩ ⟨(y 1).val, (y 1).isLt⟩ := by
    blk_ext [idx t]
  rw [he]
  obtain ⟨r, l, rfl⟩ : ∃ (r : Fin 256) (l : Fin 4096), y = ix2 r l := ⟨y 0, y 1, eq_ix2 y⟩
  rw [out_at, xrow m c t r ⟨t.val * 256 + r.val, by omega⟩ rfl, grow m c t r ⟨t.val * 256 + r.val, by omega⟩ rfl, wrow]
  have e3 : bR m c t (ix2 r l) = aR m c (ix2 ⟨t.val * 256 + r.val, by omega⟩ l) := by
    blk_ext [aX, aW, aG, aR, bX, bW, bG, bR, iblk, idx t]
  rw [e3]
  rfl

theorem final (c : Dev nD) : (dats m 0 c).arrAt 4 cfg0.N = DX (aX m c) (aW m c) (aG m c) (aR m c) := by
  refine (dats m 0 c).arrAt_eq_of_covers 4 _ (by decide +kernel) fun t _ y => ?_
  blk_simp
  rw [after0_4]
  exact in_block m c t y

/-- What one point adds to the weight's gradient. -/
def part (c : Dev nD) (t : Fin cfg0.N) (y : S1x4096.Idx) : EReal := ∑ q : Fin 256, bG m c t (ix2 q (y 1)) * bX m c t (ix2 q (y 1)) * rr len (row (bX m c t) q)

theorem idx1 (x : S1x4096.Idx) : ∃ u : Fin 4096, x = ix2 0 u :=
  ⟨x 1, (eq_ix2 x).trans (congrArg (fun a => ix2 a (x 1)) (Subsingleton.elim (α := Fin 1) _ _))⟩

theorem resetW (c : Dev nD) (t : Fin cfg0.N) (h : t.val % 16 = 0) (l : Fin 4096) :
    (outsAt0 m c t.val t.isLt).2 (ix2 0 l) = 0 + part m c t (ix2 0 l) := by
  rw [outsAt0_A m c t h]; frame_out
  rw [pay1_at]
  refine congrArg₂ (· + ·) ?_ (Finset.sum_congr rfl fun q _ => pay6_at _ _ q l)
  pointwise [k0_pay5, k0_pay4]

theorem stepW (c : Dev nD) (t : Fin cfg0.N) (h : ¬ t.val % 16 = 0) (l : Fin 4096) :
    (outsAt0 m c t.val t.isLt).2 (ix2 0 l) = (outsAt0 m c (t.val - 1) (Nat.lt_of_le_of_lt (Nat.sub_le _ _) t.isLt)).2 (ix2 0 l) + part m c t (ix2 0 l) := by
  rw [outsAt0_B m c t h]; frame_out
  rw [pay1_at]
  refine congrArg₂ (· + ·) ?_ (Finset.sum_congr rfl fun q _ => pay6_at _ _ q l)
  pointwise [k0_pay5]

theorem finalW (c : Dev nD) : (dats m 0 c).arrAt 5 cfg0.N = DW (aX m c) (aG m c) := by
  refine (dats m 0 c).arrAt_eq_of_covers 5 _ (by decide +kernel) fun t hf y => ?_
  blk_simp
  rw [after0_5]
  have ht : t.val < 16 := (idx t).2.2.2.2.2.2
  have hm : t.val % 16 = 15 := (flush0_5 t).mp hf
  have he : ((cfg0.win 5).blk t).view.emb y = ix2 0 ⟨(y 1).val, (y 1).isLt⟩ := by
    blk_ext [idx t]
  rw [he]
  obtain ⟨l, rfl⟩ : ∃ l : Fin 4096, y = ix2 0 l := idx1 y
  refine (Pipeline.eq_sum_fin_of_reset_step_apply_of_flush (fun n h => (outsAt0 m c n h).2) 16 (fun _ => 0) (fun t y => part m c t y)
    (fun t h j => by obtain ⟨u, rfl⟩ := idx1 j; exact resetW m c t h u) (fun t h j => by obtain ⟨u, rfl⟩ := idx1 j; exact stepW m c t h u) t hm (ix2 0 l)).trans ?_
  rw [zero_add]
  unfold DW
  refine Eq.trans ?_ (sum_blocks _)
  refine Fin.sum_fin_congr fun s => Finset.sum_congr rfl fun q _ => ?_
  have hp : 16 * (t.val / 16) + s.val = s.val := by omega
  have ex := xrow m c ⟨16 * (t.val / 16) + s.val, Pipeline.run_point_lt_of_flush t hm s⟩ q ⟨s.val * 256 + q.val, by omega⟩ (by dsimp only; omega)
  have eg := grow m c ⟨16 * (t.val / 16) + s.val, Pipeline.run_point_lt_of_flush t hm s⟩ q ⟨s.val * 256 + q.val, by omega⟩ (by dsimp only; omega)
  exact congrArg₂ (· * ·) (congrArg₂ (· * ·) (congrFun eg l) (congrFun ex l)) (congrArg (rr len) ex)

variable (ρ : Dev nD → PrngReg)

/-- Every execution ends with the results as named, the arguments as launched. -/
theorem run : θ_run defs (onTc (τ := τ) (main (F := Ideal))) ⟨m, fun _ => 0, ρ⟩ (fun r => ∀ c : Dev nD,
      r.2.mem ((c.tc : Thread nD τ).loc main_v0_0) = DX (aX m c) (aW m c) (aG m c) (aR m c)
      ∧ r.2.mem ((c.tc : Thread nD τ).loc main_v0_1) = DW (aX m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final m c), ((h.1 c).1 5).trans (finalW m c), h.2 c⟩) (θ_run_and (run_main m ρ) (unchanged m ρ))

end Cert.KernelNormBwdIdeal.Prod

namespace Cert.ReferenceNormBwdIdeal.Prod

open Cert.ReferenceNormBwdIdeal Cert.ReferenceNormBwdIdeal.Gen Cert.ReferenceNormBwdIdeal.Value Cert.Nrm
open Cert.KernelNormBwdIdeal.Prod (len DX DW)

def xr (X : FVec Ideal S4096x4096 .f32) : FVec Ideal S2x2048x4096 .f32 := shapeCast _ X shapeCasts_S4096x4096_S2x2048x4096
def zR (X : FVec Ideal S4096x4096 .f32) : FVec Ideal S2x2048x1 .f32 :=
  addf (Host.divf (broadcastInDim S2x2048x1 ![0, 1] bcast_S2x2048_S2x2048x1_0_1 (Host.reduceAdd (mulf (xr X) (xr X)) (constant S_ .f32 0x00000000#32) reducesTo_S2x2048x4096_S2x2048_d2 h_S_)) (broadcastInDim S2x2048x1 ![] bcast_S_S2x2048x1 (constant S_ .f32 0x45800000#32))) (broadcastInDim S2x2048x1 ![] bcast_S_S2x2048x1 (constant S_ .f32 0x358637BD#32))
def wR (W : FVec Ideal S1x4096 .f32) : FVec Ideal S2x2048x4096 .f32 :=
  broadcastInDim S2x2048x4096 ![0, 1, 2] bcast_S1x1x4096_S2x2048x4096_0_1_2 (broadcastInDim S1x1x4096 ![2] bcast_S4096_S1x1x4096_2 (shapeCast _ W shapeCasts_S1x4096_S4096))
def gR (G : FVec Ideal S4096x4096 .f32) : FVec Ideal S2x2048x4096 .f32 := shapeCast _ G shapeCasts_S4096x4096_S2x2048x4096
def rR (X : FVec Ideal S4096x4096 .f32) : FVec Ideal S2x2048x4096 .f32 :=
  broadcastInDim S2x2048x4096 ![0, 1, 2] bcast_S2x2048x1_S2x2048x4096_0_1_2 (Host.rsqrt (zR X))
def sR (X : FVec Ideal S4096x4096 .f32) (W : FVec Ideal S1x4096 .f32) (G : FVec Ideal S4096x4096 .f32) : FVec Ideal S2x2048 .f32 :=
  Host.reduceAdd (Host.divf (mulf (shapeCast _ (Host.reduceAdd (mulf (xr X) (mulf (gR G) (wR W))) (constant S_ .f32 0x00000000#32) reducesTo_S2x2048x4096_S2x2048_d2 h_S_) shapeCasts_S2x2048_S2x2048x1) (mulf (broadcastInDim S2x2048x1 ![] bcast_S_S2x2048x1 (constant S_ .f32 0xBF000000#32)) (Host.divf (Host.rsqrt (zR X)) (zR X)))) (broadcastInDim S2x2048x1 ![] bcast_S_S2x2048x1 (constant S_ .f32 0x45800000#32))) (constant S_ .f32 0x00000000#32) reducesTo_S2x2048x1_S2x2048_d2 h_S_
def tR (X : FVec Ideal S4096x4096 .f32) (W : FVec Ideal S1x4096 .f32) (G : FVec Ideal S4096x4096 .f32) : FVec Ideal S2x2048x4096 .f32 :=
  addf (addf (mulf (mulf (gR G) (wR W)) (rR X)) (mulf (xr X) (broadcastInDim S2x2048x4096 ![0, 1] bcast_S2x2048_S2x2048x4096_0_1 (sR X W G)))) (mulf (broadcastInDim S2x2048x4096 ![0, 1] bcast_S2x2048_S2x2048x4096_0_1 (sR X W G)) (xr X))
def outX (X : FVec Ideal S4096x4096 .f32) (W : FVec Ideal S1x4096 .f32) (G R : FVec Ideal S4096x4096 .f32) : FVec Ideal S4096x4096 .f32 :=
  shapeCast _ (addf (shapeCast _ R shapeCasts_S4096x4096_S2x2048x4096) (tR X W G)) shapeCasts_S2x2048x4096_S4096x4096
def outW (X : FVec Ideal S4096x4096 .f32) (G : FVec Ideal S4096x4096 .f32) : FVec Ideal S1x4096 .f32 :=
  shapeCast _ (Host.reduceAdd (shapeCast _ (Host.reduceAdd (mulf (mulf (xr X) (rR X)) (gR G)) (constant S_ .f32 0x00000000#32) reducesTo_S2x2048x4096_S4096_d0_1 h_S_) shapeCasts_S4096_S1x1x4096) (constant S_ .f32 0x00000000#32) reducesTo_S1x1x4096_S4096_d0_1 h_S_) shapeCasts_S4096_S1x4096

variable (X : FVec Ideal S4096x4096 .f32) (W : FVec Ideal S1x4096 .f32) (G R : FVec Ideal S4096x4096 .f32)

theorem zR_at (b : Fin 2) (s : Fin 2048) : zR X (ix3 b s 0) = ms len (row X ⟨b.val * 2048 + s.val, by omega⟩) := by
  unfold ms row
  pointwise [zR, xr]
theorem rR_at (b : Fin 2) (s : Fin 2048) (l : Fin 4096) : rR X (ix3 b s l) = rr len (row X ⟨b.val * 2048 + s.val, by omega⟩) := by
  unfold rr
  rw [← zR_at]
  pointwise [rR]
theorem sR_at (b : Fin 2) (s : Fin 2048) : sR X W G (ix2 b s) = sh len (row X ⟨b.val * 2048 + s.val, by omega⟩) (row G ⟨b.val * 2048 + s.val, by omega⟩) (row W 0) := by
  unfold sh rr
  rw [← zR_at]
  unfold row
  pointwise [sR, xr, gR, wR]
  exact Fin.sum_univ_one _

theorem tR_at (b : Fin 2) (s : Fin 2048) (l : Fin 4096) :
    tR X W G (ix3 b s l) = dk len (row X ⟨b.val * 2048 + s.val, by omega⟩) (row G ⟨b.val * 2048 + s.val, by omega⟩) (row W 0) l := by
  have e := back_eq (c := 4096) (by norm_num) (row X ⟨b.val * 2048 + s.val, by omega⟩) (row G ⟨b.val * 2048 + s.val, by omega⟩) (row W 0) l
  rw [← c4096] at e
  rw [← e, ← rR_at X b s l, ← sR_at]
  unfold row
  pointwise [tR, xr, gR, wR]
  exact congrArg _ (mul_comm _ _)

theorem outX_eq : outX X W G R = DX X W G R := funext fun i => by
  obtain ⟨r, l, rfl⟩ : ∃ (r : Fin 4096) (l : Fin 4096), i = ix2 r l := ⟨i 0, i 1, eq_ix2 i⟩
  have e := tR_at X W G ⟨r.val / 2048, by omega⟩ ⟨r.val % 2048, by omega⟩ l
  have hr : (⟨r.val / 2048 * 2048 + r.val % 2048, by omega⟩ : Fin 4096) = r := Fin.ext (by dsimp only; omega)
  dsimp only at e
  rw [hr] at e
  unfold DX
  change _ = dk len (row X r) (row G r) (row W 0) l + R (ix2 r l)
  rw [← e]
  pointwise [outX]
  exact add_comm _ _

theorem red_at (v : FVec Ideal S2x2048x4096 .f32) (j : Fin 4096) :
    (Host.reduceAdd v (constant S_ .f32 0x00000000#32 : FVec Ideal S_ .f32) reducesTo_S2x2048x4096_S4096_d0_1 h_S_ : FVec Ideal S4096 .f32) (ix1 j)
      = ∑ b : Fin 2, ∑ s : Fin 2048, v (ix3 b s j) := by
  have e : ∀ z : EReal, z = 0 → (z + ∑ i ∈ Finset.univ.filter (fun i => reducesTo_S2x2048x4096_S4096_d0_1.drop i = ix1 j), v i : EReal) = ∑ b : Fin 2, ∑ s : Fin 2048, v (ix3 b s j) := by
    intro z hz
    rw [hz, zero_add]
    exact Cert.Rows.sum01 reducesTo_S2x2048x4096_S4096_d0_1 rfl (ix1 j) j rfl v
  refine e _ ?_
  pointwise

theorem tot_at (v : FVec Ideal S2x2048x4096 .f32) (j : Fin 4096) :
    Ideal.hostReduceAdd reducesTo_S1x1x4096_S4096_d0_1
      (shapeCast S1x1x4096 (Host.reduceAdd v (constant S_ .f32 0x00000000#32 : FVec Ideal S_ .f32) reducesTo_S2x2048x4096_S4096_d0_1 h_S_ : FVec Ideal S4096 .f32) shapeCasts_S4096_S1x1x4096)
      0 (ix1 j) = ∑ b : Fin 2, ∑ s : Fin 2048, v (ix3 b s j) := by
  rw [← red_at]
  have e : ∀ u : FVec Ideal S4096 .f32, (0 + ∑ i ∈ Finset.univ.filter (fun i => reducesTo_S1x1x4096_S4096_d0_1.drop i = ix1 j), (shapeCast S1x1x4096 u shapeCasts_S4096_S1x1x4096) i : EReal) = u (ix1 j) := by
    intro u
    rw [zero_add, Cert.Rows.sum01 reducesTo_S1x1x4096_S4096_d0_1 rfl (ix1 j) j rfl (shapeCast S1x1x4096 u shapeCasts_S4096_S1x1x4096), Fin.sum_univ_one, Fin.sum_univ_one]
    pointwise
  exact e _

theorem outW_eq : outW X G = DW X G := funext fun i => by
  obtain ⟨l, rfl⟩ : ∃ l : Fin 4096, i = ix2 0 l := Cert.KernelNormBwdIdeal.Prod.idx1 i
  unfold DW
  rw [Cert.Rows.sum_rows]
  pointwise [outW]
  refine (tot_at _ _).trans (Finset.sum_congr rfl fun b _ => Finset.sum_congr rfl fun s _ => ?_)
  rw [← rR_at X b s l]
  unfold row
  pointwise [xr, gR]
  ac_rfl

end Cert.ReferenceNormBwdIdeal.Prod

namespace Cert.NormBwd

theorem frame_r (m : (ℓ : Loc Cert.ReferenceNormBwdIdeal.nD Cert.ReferenceNormBwdIdeal.τ Cert.ReferenceNormBwdIdeal.sig) → Buf (Elt Ideal) ℓ) (g : Dev Cert.ReferenceNormBwdIdeal.nD → PrngReg) :
    θ_run (Cert.ReferenceNormBwdIdeal.defs (F := Ideal)) (onTc (τ := Cert.ReferenceNormBwdIdeal.τ) (Cert.ReferenceNormBwdIdeal.main (F := Ideal))) ⟨m, fun _ => 0, g⟩ (fun r => (∀ c : Dev Cert.ReferenceNormBwdIdeal.nD,
      r.2.mem ((c.tc : Thread Cert.ReferenceNormBwdIdeal.nD Cert.ReferenceNormBwdIdeal.τ).loc Cert.ReferenceNormBwdIdeal.main_arg0) = m ((c.tc : Thread Cert.ReferenceNormBwdIdeal.nD Cert.ReferenceNormBwdIdeal.τ).loc Cert.ReferenceNormBwdIdeal.main_arg0)
      ∧ r.2.mem ((c.tc : Thread Cert.ReferenceNormBwdIdeal.nD Cert.ReferenceNormBwdIdeal.τ).loc Cert.ReferenceNormBwdIdeal.main_arg1) = m ((c.tc : Thread Cert.ReferenceNormBwdIdeal.nD Cert.ReferenceNormBwdIdeal.τ).loc Cert.ReferenceNormBwdIdeal.main_arg1)
      ∧ r.2.mem ((c.tc : Thread Cert.ReferenceNormBwdIdeal.nD Cert.ReferenceNormBwdIdeal.τ).loc Cert.ReferenceNormBwdIdeal.main_arg2) = m ((c.tc : Thread Cert.ReferenceNormBwdIdeal.nD Cert.ReferenceNormBwdIdeal.τ).loc Cert.ReferenceNormBwdIdeal.main_arg2)
      ∧ r.2.mem ((c.tc : Thread Cert.ReferenceNormBwdIdeal.nD Cert.ReferenceNormBwdIdeal.τ).loc Cert.ReferenceNormBwdIdeal.main_arg3) = m ((c.tc : Thread Cert.ReferenceNormBwdIdeal.nD Cert.ReferenceNormBwdIdeal.τ).loc Cert.ReferenceNormBwdIdeal.main_arg3))
      ∧ r.2.sem = fun _ => 0) :=
  (θ_run _ _ _).mono (fun r h => ⟨fun c => (h c).2.2, Idealize.ShloMosaic.sem_eq_zero_of_no_sems (by decide) r.2⟩) (Cert.ReferenceNormBwdIdeal.Value.run m g)

theorem value : Cert.algebraic_KernelNormBwdIdeal_ReferenceNormBwdIdeal := by
  intro m g m' g' _ hag
  refine ⟨_, _, Cert.KernelNormBwdIdeal.Prod.run m g, (θ_run _ _ _).mono (fun r h c => ?_) (Cert.ReferenceNormBwdIdeal.Value.run m' g')⟩
  obtain ⟨e0, e1, ea⟩ := h c
  have hx : Cert.ReferenceNormBwdIdeal.Value.res_main_v41 m' c = Cert.ReferenceNormBwdIdeal.Prod.outX (m' ((c.tc : Thread Cert.ReferenceNormBwdIdeal.nD Cert.ReferenceNormBwdIdeal.τ).loc Cert.ReferenceNormBwdIdeal.main_arg0)) (m' ((c.tc : Thread Cert.ReferenceNormBwdIdeal.nD Cert.ReferenceNormBwdIdeal.τ).loc Cert.ReferenceNormBwdIdeal.main_arg1)) (m' ((c.tc : Thread Cert.ReferenceNormBwdIdeal.nD Cert.ReferenceNormBwdIdeal.τ).loc Cert.ReferenceNormBwdIdeal.main_arg2)) (m' ((c.tc : Thread Cert.ReferenceNormBwdIdeal.nD Cert.ReferenceNormBwdIdeal.τ).loc Cert.ReferenceNormBwdIdeal.main_arg3)) := by
    unfold Cert.ReferenceNormBwdIdeal.Value.res_main_v41; rfl
  rw [hx, Cert.ReferenceNormBwdIdeal.Prod.outX_eq, (hag c).1, (hag c).2.1, (hag c).2.2.1, (hag c).2.2.2] at e0
  replace e1 := e1.trans (Cert.ReferenceNormBwdIdeal.Prod.outW_eq (m' ((c.tc : Thread Cert.ReferenceNormBwdIdeal.nD Cert.ReferenceNormBwdIdeal.τ).loc Cert.ReferenceNormBwdIdeal.main_arg0)) (m' ((c.tc : Thread Cert.ReferenceNormBwdIdeal.nD Cert.ReferenceNormBwdIdeal.τ).loc Cert.ReferenceNormBwdIdeal.main_arg2)))
  rw [(hag c).1, (hag c).2.2.1] at e1
  exact ⟨e0, e1, ea⟩

end Cert.NormBwd

end
-- ==== Proof.NormBwdA.lean ====
/- The gradient of the second norm: the kernel's three results, the input's gradient with the residual's added, its narrowed copy and the weight's gradient, are the reference's. -/
module

public import proofs.«01_k».proof.Defs
public import proofs.«01_k».proof.Proof.Nrm
public import proofs.«01_k».proof.Proof.Rows
public import proofs.«01_k».proof.Proof.Gen.KernelNormBwdAIdeal.Frame
public import proofs.«01_k».proof.Proof.Gen.ReferenceNormBwdAIdeal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelNormBwdAIdeal.Prod

open Cert.KernelNormBwdAIdeal Cert.KernelNormBwdAIdeal.Gen Cert.Nrm

variable (m : (ℓ : Loc nD τ sig) → Buf (Elt Ideal) ℓ)

/-- The row's length as a number. -/
abbrev len : EReal := Ideal.ofBits .f32 0x45800000#32

abbrev aX (c : Dev nD) : FVec Ideal S4096x4096 .f32 := m ((c : Thread nD τ).loc main_arg0)
abbrev aW (c : Dev nD) : FVec Ideal S1x4096 .f32 := m ((c : Thread nD τ).loc main_arg1)
abbrev aG (c : Dev nD) : FVec Ideal S4096x4096 .f32 := m ((c : Thread nD τ).loc main_arg2)
abbrev aR (c : Dev nD) : FVec Ideal S4096x4096 .f32 := m ((c : Thread nD τ).loc main_arg3)
abbrev bX (c : Dev nD) (t : Fin cfg0.N) : FVec Ideal S256x4096 .f32 := iblk m c 0 t
abbrev bW (c : Dev nD) (t : Fin cfg0.N) : FVec Ideal S1x4096 .f32 := iblk m c 1 t
abbrev bG (c : Dev nD) (t : Fin cfg0.N) : FVec Ideal S256x4096 .f32 := iblk m c 2 t
abbrev bR (c : Dev nD) (t : Fin cfg0.N) : FVec Ideal S256x4096 .f32 := iblk m c 3 t

theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0]
    ∧ win0_6.index t = ![0, 0]
    ∧ t.val < 16 :=
  (by decide +kernel : ∀ t : Fin grid0.N, _)

theorem fac_at (x : Vec Ideal S256x4096 .f32) (r : Fin 256) : k0_pay2 (F := Ideal) x (ix2 r 0) = rr len (row x r) := by
  unfold rr ms row
  pointwise [k0_pay2]

theorem dx_at (x g : Vec Ideal S256x4096 .f32) (w : Vec Ideal S1x4096 .f32) (v : Vec Ideal S256x4096 .f32) (r : Fin 256) (l : Fin 4096) :
    k0_pay3 (F := Ideal) x g w v (ix2 r l) = dk len (row x r) (row g r) (row w 0) l + v (ix2 r l) := by
  unfold dk
  rw [← fac_at]
  unfold row
  pointwise [k0_pay3]

theorem pay1_at (x g : Vec Ideal S256x4096 .f32) (p : Vec Ideal S1x4096 .f32) (l : Fin 4096) :
    k0_pay1 (F := Ideal) x g (k0_pay2 (F := Ideal) x) p (ix2 0 l) = p (ix2 0 l) + ∑ q : Fin 256, g (ix2 q l) * x (ix2 q l) * rr len (row x q) := by
  have e : ∀ q : Fin 256, rr len (row x q) = k0_pay2 (F := Ideal) x (ix2 q 0) := fun q => (fac_at x q).symm
  simp only [e]
  pointwise [k0_pay1]

theorem pay4_at (x g : Vec Ideal S256x4096 .f32) (w : Vec Ideal S1x4096 .f32) (v : Vec Ideal S256x4096 .f32) (r : Fin 256) (l : Fin 4096) :
    k0_pay4 (F := Ideal) x g w v (ix2 r l) = dk len (row x r) (row g r) (row w 0) l + v (ix2 r l) := by
  rw [← dx_at]
  pointwise [k0_pay4]

theorem out_at (c : Dev nD) (t : Fin cfg0.N) (r : Fin 256) (l : Fin 4096) :
    (outsAt0 m c t.val t.isLt).1 (ix2 r l) = dk len (row (bX m c t) r) (row (bG m c t) r) (row (bW m c t) 0) l + bR m c t (ix2 r l) := by
  by_cases h : t.val % 16 = 0
  · rw [outsAt0_A m c t h]; frame_out
    rw [dx_at]
  · rw [outsAt0_B m c t h]; frame_out
    rw [dx_at]

theorem out5_at (c : Dev nD) (t : Fin cfg0.N) (y : S256x4096.Idx) : (outsAt0 m c t.val t.isLt).2.1 y = (outsAt0 m c t.val t.isLt).1 y := by
  obtain ⟨r, l, rfl⟩ : ∃ (r : Fin 256) (l : Fin 4096), y = ix2 r l := ⟨y 0, y 1, eq_ix2 y⟩
  rw [out_at]
  by_cases h : t.val % 16 = 0
  · rw [outsAt0_A m c t h]; frame_out
    rw [pay4_at]
  · rw [outsAt0_B m c t h]; frame_out
    rw [pay4_at]

/-- The input's gradient. -/
def DX (X : FVec Ideal S4096x4096 .f32) (W : FVec Ideal S1x4096 .f32) (G R : FVec Ideal S4096x4096 .f32) : FVec Ideal S4096x4096 .f32 :=
  fun i => dk len (row X (i 0)) (row G (i 0)) (row W 0) (i 1) + R i
/-- The weight's gradient. -/
def DW (X : FVec Ideal S4096x4096 .f32) (G : FVec Ideal S4096x4096 .f32) : FVec Ideal S1x4096 .f32 :=
  fun i => ∑ k : Fin 4096, row G k (i 1) * X (ix2 k (i 1)) * rr len (row X k)

theorem xrow (c : Dev nD) (t : Fin cfg0.N) (r : Fin 256) (R : Fin 4096) (hR : R.val = t.val * 256 + r.val) :
    row (bX m c t) r = row (aX m c) R := funext fun k => by
  unfold row; blk_ext [aX, aW, aG, aR, bX, bW, bG, bR, iblk, idx t]
theorem wrow (c : Dev nD) (t : Fin cfg0.N) : row (bW m c t) 0 = row (aW m c) 0 := funext fun k => by
  unfold row; blk_ext [aX, aW, aG, aR, bX, bW, bG, bR, iblk, idx t]
theorem grow (c : Dev nD) (t : Fin cfg0.N) (r : Fin 256) (R : Fin 4096) (hR : R.val = t.val * 256 + r.val) :
    row (bG m c t) r = row (aG m c) R := funext fun k => by
  unfold row; blk_ext [aX, aW, aG, aR, bX, bW, bG, bR, iblk, idx t]

theorem in_block (c : Dev nD) (t : Fin cfg0.N) (y : S256x4096.Idx) : (outsAt0 m c t.val t.isLt).1 y = DX (aX m c) (aW m c) (aG m c) (aR m c) (((cfg0.win 4).blk t).view.emb y) := by
  have ht : t.val < 16 := (idx t).2.2.2.2.2.2.2
  have he : ((cfg0.win 4).blk t).view.emb y = ix2 ⟨t.val * 256 + (y 0).val, by have := (y 0).isLt; change (y 0).val < 256 at this; omega⟩ ⟨(y 1).val, (y 1).isLt⟩ := by
    blk_ext [idx t]
  rw [he]
  obtain ⟨r, l, rfl⟩ : ∃ (r : Fin 256) (l : Fin 4096), y = ix2 r l := ⟨y 0, y 1, eq_ix2 y⟩
  rw [out_at, xrow m c t r ⟨t.val * 256 + r.val, by omega⟩ rfl, grow m c t r ⟨t.val * 256 + r.val, by omega⟩ rfl, wrow]
  have e3 : bR m c t (ix2 r l) = aR m c (ix2 ⟨t.val * 256 + r.val, by omega⟩ l) := by
    blk_ext [aX, aW, aG, aR, bX, bW, bG, bR, iblk, idx t]
  rw [e3]
  rfl

theorem final (c : Dev nD) : (dats m 0 c).arrAt 4 cfg0.N = DX (aX m c) (aW m c) (aG m c) (aR m c) := by
  refine (dats m 0 c).arrAt_eq_of_covers 4 _ (by decide +kernel) fun t _ y => ?_
  blk_simp
  rw [after0_4]
  exact in_block m c t y

theorem final5 (c : Dev nD) : (dats m 0 c).arrAt 5 cfg0.N = (DX (aX m c) (aW m c) (aG m c) (aR m c) : FVec Ideal S4096x4096 .f32) := by
  refine (dats m 0 c).arrAt_eq_of_covers 5 _ (by decide +kernel) fun t _ y => ?_
  blk_simp
  rw [after0_5]
  have he : ((cfg0.win 5).blk t).view.emb y = ((cfg0.win 4).blk t).view.emb y := by
    blk_ext [idx t]
  rw [he]
  exact (out5_at m c t y).trans (in_block m c t y)

/-- What one point adds to the weight's gradient. -/
def part (c : Dev nD) (t : Fin cfg0.N) (y : S1x4096.Idx) : EReal := ∑ q : Fin 256, bG m c t (ix2 q (y 1)) * bX m c t (ix2 q (y 1)) * rr len (row (bX m c t) q)

theorem idx1 (x : S1x4096.Idx) : ∃ u : Fin 4096, x = ix2 0 u :=
  ⟨x 1, (eq_ix2 x).trans (congrArg (fun a => ix2 a (x 1)) (Subsingleton.elim (α := Fin 1) _ _))⟩

theorem resetW (c : Dev nD) (t : Fin cfg0.N) (h : t.val % 16 = 0) (l : Fin 4096) :
    (outsAt0 m c t.val t.isLt).2.2 (ix2 0 l) = 0 + part m c t (ix2 0 l) := by
  rw [outsAt0_A m c t h]; frame_out
  rw [pay1_at]
  refine congrArg (· + part m c t (ix2 0 l)) ?_
  pointwise [k0_pay5]

theorem stepW (c : Dev nD) (t : Fin cfg0.N) (h : ¬ t.val % 16 = 0) (l : Fin 4096) :
    (outsAt0 m c t.val t.isLt).2.2 (ix2 0 l) = (outsAt0 m c (t.val - 1) (Nat.lt_of_le_of_lt (Nat.sub_le _ _) t.isLt)).2.2 (ix2 0 l) + part m c t (ix2 0 l) := by
  rw [outsAt0_B m c t h]; frame_out
  rw [pay1_at]
  rfl

theorem finalW (c : Dev nD) : (dats m 0 c).arrAt 6 cfg0.N = DW (aX m c) (aG m c) := by
  refine (dats m 0 c).arrAt_eq_of_covers 6 _ (by decide +kernel) fun t hf y => ?_
  blk_simp
  rw [after0_6]
  have ht : t.val < 16 := (idx t).2.2.2.2.2.2.2
  have hm : t.val % 16 = 15 := (flush0_6 t).mp hf
  have he : ((cfg0.win 6).blk t).view.emb y = ix2 0 ⟨(y 1).val, (y 1).isLt⟩ := by
    blk_ext [idx t]
  rw [he]
  obtain ⟨l, rfl⟩ : ∃ l : Fin 4096, y = ix2 0 l := idx1 y
  refine (Pipeline.eq_sum_fin_of_reset_step_apply_of_flush (fun n h => (outsAt0 m c n h).2.2) 16 (fun _ => 0) (fun t y => part m c t y)
    (fun t h j => by obtain ⟨u, rfl⟩ := idx1 j; exact resetW m c t h u) (fun t h j => by obtain ⟨u, rfl⟩ := idx1 j; exact stepW m c t h u) t hm (ix2 0 l)).trans ?_
  rw [zero_add]
  unfold DW
  refine Eq.trans ?_ (sum_blocks _)
  refine Fin.sum_fin_congr fun s => Finset.sum_congr rfl fun q _ => ?_
  have hp : 16 * (t.val / 16) + s.val = s.val := by omega
  have ex := xrow m c ⟨16 * (t.val / 16) + s.val, Pipeline.run_point_lt_of_flush t hm s⟩ q ⟨s.val * 256 + q.val, by omega⟩ (by dsimp only; omega)
  have eg := grow m c ⟨16 * (t.val / 16) + s.val, Pipeline.run_point_lt_of_flush t hm s⟩ q ⟨s.val * 256 + q.val, by omega⟩ (by dsimp only; omega)
  exact congrArg₂ (· * ·) (congrArg₂ (· * ·) (congrFun eg l) (congrFun ex l)) (congrArg (rr len) ex)

variable (ρ : Dev nD → PrngReg)

/-- Every execution ends with the results as named, the arguments as launched. -/
theorem run : θ_run defs (onTc (τ := τ) (main (F := Ideal))) ⟨m, fun _ => 0, ρ⟩ (fun r => ∀ c : Dev nD,
      r.2.mem ((c.tc : Thread nD τ).loc main_v0_0) = DX (aX m c) (aW m c) (aG m c) (aR m c)
      ∧ r.2.mem ((c.tc : Thread nD τ).loc main_v0_1) = (DX (aX m c) (aW m c) (aG m c) (aR m c) : FVec Ideal S4096x4096 .f32)
      ∧ r.2.mem ((c.tc : Thread nD τ).loc main_v0_2) = DW (aX m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 4).trans (final m c), ((h.1 c).1 5).trans (final5 m c), ((h.1 c).1 6).trans (finalW m c), h.2 c⟩) (θ_run_and (run_main m ρ) (unchanged m ρ))

end Cert.KernelNormBwdAIdeal.Prod

namespace Cert.ReferenceNormBwdAIdeal.Prod

open Cert.ReferenceNormBwdAIdeal Cert.ReferenceNormBwdAIdeal.Gen Cert.ReferenceNormBwdAIdeal.Value Cert.Nrm
open Cert.KernelNormBwdAIdeal.Prod (len DX DW)

def xr (X : FVec Ideal S4096x4096 .f32) : FVec Ideal S2x2048x4096 .f32 := shapeCast _ X shapeCasts_S4096x4096_S2x2048x4096
def zR (X : FVec Ideal S4096x4096 .f32) : FVec Ideal S2x2048x1 .f32 :=
  addf (Host.divf (broadcastInDim S2x2048x1 ![0, 1] bcast_S2x2048_S2x2048x1_0_1 (Host.reduceAdd (mulf (xr X) (xr X)) (constant S_ .f32 0x00000000#32) reducesTo_S2x2048x4096_S2x2048_d2 h_S_)) (broadcastInDim S2x2048x1 ![] bcast_S_S2x2048x1 (constant S_ .f32 0x45800000#32))) (broadcastInDim S2x2048x1 ![] bcast_S_S2x2048x1 (constant S_ .f32 0x358637BD#32))
def wR (W : FVec Ideal S1x4096 .f32) : FVec Ideal S2x2048x4096 .f32 :=
  broadcastInDim S2x2048x4096 ![0, 1, 2] bcast_S1x1x4096_S2x2048x4096_0_1_2 (broadcastInDim S1x1x4096 ![2] bcast_S4096_S1x1x4096_2 (shapeCast _ W shapeCasts_S1x4096_S4096))
def gR (G : FVec Ideal S4096x4096 .f32) : FVec Ideal S2x2048x4096 .f32 := shapeCast _ G shapeCasts_S4096x4096_S2x2048x4096
def rR (X : FVec Ideal S4096x4096 .f32) : FVec Ideal S2x2048x4096 .f32 :=
  broadcastInDim S2x2048x4096 ![0, 1, 2] bcast_S2x2048x1_S2x2048x4096_0_1_2 (Host.rsqrt (zR X))
def sR (X : FVec Ideal S4096x4096 .f32) (W : FVec Ideal S1x4096 .f32) (G : FVec Ideal S4096x4096 .f32) : FVec Ideal S2x2048 .f32 :=
  Host.reduceAdd (Host.divf (mulf (shapeCast _ (Host.reduceAdd (mulf (xr X) (mulf (gR G) (wR W))) (constant S_ .f32 0x00000000#32) reducesTo_S2x2048x4096_S2x2048_d2 h_S_) shapeCasts_S2x2048_S2x2048x1) (mulf (broadcastInDim S2x2048x1 ![] bcast_S_S2x2048x1 (constant S_ .f32 0xBF000000#32)) (Host.divf (Host.rsqrt (zR X)) (zR X)))) (broadcastInDim S2x2048x1 ![] bcast_S_S2x2048x1 (constant S_ .f32 0x45800000#32))) (constant S_ .f32 0x00000000#32) reducesTo_S2x2048x1_S2x2048_d2 h_S_
def tR (X : FVec Ideal S4096x4096 .f32) (W : FVec Ideal S1x4096 .f32) (G : FVec Ideal S4096x4096 .f32) : FVec Ideal S2x2048x4096 .f32 :=
  addf (addf (mulf (mulf (gR G) (wR W)) (rR X)) (mulf (xr X) (broadcastInDim S2x2048x4096 ![0, 1] bcast_S2x2048_S2x2048x4096_0_1 (sR X W G)))) (mulf (broadcastInDim S2x2048x4096 ![0, 1] bcast_S2x2048_S2x2048x4096_0_1 (sR X W G)) (xr X))
def outX (X : FVec Ideal S4096x4096 .f32) (W : FVec Ideal S1x4096 .f32) (G R : FVec Ideal S4096x4096 .f32) : FVec Ideal S4096x4096 .f32 :=
  shapeCast _ (addf (shapeCast _ R shapeCasts_S4096x4096_S2x2048x4096) (tR X W G)) shapeCasts_S2x2048x4096_S4096x4096
def outW (X : FVec Ideal S4096x4096 .f32) (G : FVec Ideal S4096x4096 .f32) : FVec Ideal S1x4096 .f32 :=
  shapeCast _ (Host.reduceAdd (shapeCast _ (Host.reduceAdd (mulf (mulf (xr X) (rR X)) (gR G)) (constant S_ .f32 0x00000000#32) reducesTo_S2x2048x4096_S4096_d0_1 h_S_) shapeCasts_S4096_S1x1x4096) (constant S_ .f32 0x00000000#32) reducesTo_S1x1x4096_S4096_d0_1 h_S_) shapeCasts_S4096_S1x4096

variable (X : FVec Ideal S4096x4096 .f32) (W : FVec Ideal S1x4096 .f32) (G R : FVec Ideal S4096x4096 .f32)

theorem zR_at (b : Fin 2) (s : Fin 2048) : zR X (ix3 b s 0) = ms len (row X ⟨b.val * 2048 + s.val, by omega⟩) := by
  unfold ms row
  pointwise [zR, xr]
theorem rR_at (b : Fin 2) (s : Fin 2048) (l : Fin 4096) : rR X (ix3 b s l) = rr len (row X ⟨b.val * 2048 + s.val, by omega⟩) := by
  unfold rr
  rw [← zR_at]
  pointwise [rR]
theorem sR_at (b : Fin 2) (s : Fin 2048) : sR X W G (ix2 b s) = sh len (row X ⟨b.val * 2048 + s.val, by omega⟩) (row G ⟨b.val * 2048 + s.val, by omega⟩) (row W 0) := by
  unfold sh rr
  rw [← zR_at]
  unfold row
  pointwise [sR, xr, gR, wR]
  exact Fin.sum_univ_one _

theorem tR_at (b : Fin 2) (s : Fin 2048) (l : Fin 4096) :
    tR X W G (ix3 b s l) = dk len (row X ⟨b.val * 2048 + s.val, by omega⟩) (row G ⟨b.val * 2048 + s.val, by omega⟩) (row W 0) l := by
  have e := back_eq (c := 4096) (by norm_num) (row X ⟨b.val * 2048 + s.val, by omega⟩) (row G ⟨b.val * 2048 + s.val, by omega⟩) (row W 0) l
  rw [← c4096] at e
  rw [← e, ← rR_at X b s l, ← sR_at]
  unfold row
  pointwise [tR, xr, gR, wR]
  exact congrArg _ (mul_comm _ _)

theorem outX_eq : outX X W G R = DX X W G R := funext fun i => by
  obtain ⟨r, l, rfl⟩ : ∃ (r : Fin 4096) (l : Fin 4096), i = ix2 r l := ⟨i 0, i 1, eq_ix2 i⟩
  have e := tR_at X W G ⟨r.val / 2048, by omega⟩ ⟨r.val % 2048, by omega⟩ l
  have hr : (⟨r.val / 2048 * 2048 + r.val % 2048, by omega⟩ : Fin 4096) = r := Fin.ext (by dsimp only; omega)
  dsimp only at e
  rw [hr] at e
  unfold DX
  change _ = dk len (row X r) (row G r) (row W 0) l + R (ix2 r l)
  rw [← e]
  pointwise [outX]
  exact add_comm _ _

theorem red_at (v : FVec Ideal S2x2048x4096 .f32) (j : Fin 4096) :
    (Host.reduceAdd v (constant S_ .f32 0x00000000#32 : FVec Ideal S_ .f32) reducesTo_S2x2048x4096_S4096_d0_1 h_S_ : FVec Ideal S4096 .f32) (ix1 j)
      = ∑ b : Fin 2, ∑ s : Fin 2048, v (ix3 b s j) := by
  have e : ∀ z : EReal, z = 0 → (z + ∑ i ∈ Finset.univ.filter (fun i => reducesTo_S2x2048x4096_S4096_d0_1.drop i = ix1 j), v i : EReal) = ∑ b : Fin 2, ∑ s : Fin 2048, v (ix3 b s j) := by
    intro z hz
    rw [hz, zero_add]
    exact Cert.Rows.sum01 reducesTo_S2x2048x4096_S4096_d0_1 rfl (ix1 j) j rfl v
  refine e _ ?_
  pointwise

theorem tot_at (v : FVec Ideal S2x2048x4096 .f32) (j : Fin 4096) :
    Ideal.hostReduceAdd reducesTo_S1x1x4096_S4096_d0_1
      (shapeCast S1x1x4096 (Host.reduceAdd v (constant S_ .f32 0x00000000#32 : FVec Ideal S_ .f32) reducesTo_S2x2048x4096_S4096_d0_1 h_S_ : FVec Ideal S4096 .f32) shapeCasts_S4096_S1x1x4096)
      0 (ix1 j) = ∑ b : Fin 2, ∑ s : Fin 2048, v (ix3 b s j) := by
  rw [← red_at]
  have e : ∀ u : FVec Ideal S4096 .f32, (0 + ∑ i ∈ Finset.univ.filter (fun i => reducesTo_S1x1x4096_S4096_d0_1.drop i = ix1 j), (shapeCast S1x1x4096 u shapeCasts_S4096_S1x1x4096) i : EReal) = u (ix1 j) := by
    intro u
    rw [zero_add, Cert.Rows.sum01 reducesTo_S1x1x4096_S4096_d0_1 rfl (ix1 j) j rfl (shapeCast S1x1x4096 u shapeCasts_S4096_S1x1x4096), Fin.sum_univ_one, Fin.sum_univ_one]
    pointwise
  exact e _

theorem outW_eq : outW X G = DW X G := funext fun i => by
  obtain ⟨l, rfl⟩ : ∃ l : Fin 4096, i = ix2 0 l := Cert.KernelNormBwdAIdeal.Prod.idx1 i
  unfold DW
  rw [Cert.Rows.sum_rows]
  pointwise [outW]
  refine (tot_at _ _).trans (Finset.sum_congr rfl fun b _ => Finset.sum_congr rfl fun s _ => ?_)
  rw [← rR_at X b s l]
  unfold row
  pointwise [xr, gR]
  ac_rfl

end Cert.ReferenceNormBwdAIdeal.Prod

namespace Cert.NormBwdA

theorem frame_r (m : (ℓ : Loc Cert.ReferenceNormBwdAIdeal.nD Cert.ReferenceNormBwdAIdeal.τ Cert.ReferenceNormBwdAIdeal.sig) → Buf (Elt Ideal) ℓ) (g : Dev Cert.ReferenceNormBwdAIdeal.nD → PrngReg) :
    θ_run (Cert.ReferenceNormBwdAIdeal.defs (F := Ideal)) (onTc (τ := Cert.ReferenceNormBwdAIdeal.τ) (Cert.ReferenceNormBwdAIdeal.main (F := Ideal))) ⟨m, fun _ => 0, g⟩ (fun r => (∀ c : Dev Cert.ReferenceNormBwdAIdeal.nD,
      r.2.mem ((c.tc : Thread Cert.ReferenceNormBwdAIdeal.nD Cert.ReferenceNormBwdAIdeal.τ).loc Cert.ReferenceNormBwdAIdeal.main_arg0) = m ((c.tc : Thread Cert.ReferenceNormBwdAIdeal.nD Cert.ReferenceNormBwdAIdeal.τ).loc Cert.ReferenceNormBwdAIdeal.main_arg0)
      ∧ r.2.mem ((c.tc : Thread Cert.ReferenceNormBwdAIdeal.nD Cert.ReferenceNormBwdAIdeal.τ).loc Cert.ReferenceNormBwdAIdeal.main_arg1) = m ((c.tc : Thread Cert.ReferenceNormBwdAIdeal.nD Cert.ReferenceNormBwdAIdeal.τ).loc Cert.ReferenceNormBwdAIdeal.main_arg1)
      ∧ r.2.mem ((c.tc : Thread Cert.ReferenceNormBwdAIdeal.nD Cert.ReferenceNormBwdAIdeal.τ).loc Cert.ReferenceNormBwdAIdeal.main_arg2) = m ((c.tc : Thread Cert.ReferenceNormBwdAIdeal.nD Cert.ReferenceNormBwdAIdeal.τ).loc Cert.ReferenceNormBwdAIdeal.main_arg2)
      ∧ r.2.mem ((c.tc : Thread Cert.ReferenceNormBwdAIdeal.nD Cert.ReferenceNormBwdAIdeal.τ).loc Cert.ReferenceNormBwdAIdeal.main_arg3) = m ((c.tc : Thread Cert.ReferenceNormBwdAIdeal.nD Cert.ReferenceNormBwdAIdeal.τ).loc Cert.ReferenceNormBwdAIdeal.main_arg3)
      ∧ r.2.mem ((c.tc : Thread Cert.ReferenceNormBwdAIdeal.nD Cert.ReferenceNormBwdAIdeal.τ).loc Cert.ReferenceNormBwdAIdeal.main_arg4) = m ((c.tc : Thread Cert.ReferenceNormBwdAIdeal.nD Cert.ReferenceNormBwdAIdeal.τ).loc Cert.ReferenceNormBwdAIdeal.main_arg4))
      ∧ r.2.sem = fun _ => 0) :=
  (θ_run _ _ _).mono (fun r h => ⟨fun c => (h c).2.2.2, Idealize.ShloMosaic.sem_eq_zero_of_no_sems (by decide) r.2⟩) (Cert.ReferenceNormBwdAIdeal.Value.run m g)

theorem value : Cert.algebraic_KernelNormBwdAIdeal_ReferenceNormBwdAIdeal := by
  intro m g m' g' _ hag
  refine ⟨_, _, _, Cert.KernelNormBwdAIdeal.Prod.run m g, (θ_run _ _ _).mono (fun r h c => ?_) (Cert.ReferenceNormBwdAIdeal.Value.run m' g')⟩
  obtain ⟨e0, eb, e1, ea⟩ := h c
  have hx : Cert.ReferenceNormBwdAIdeal.Value.res_main_v41 m' c = Cert.ReferenceNormBwdAIdeal.Prod.outX (m' ((c.tc : Thread Cert.ReferenceNormBwdAIdeal.nD Cert.ReferenceNormBwdAIdeal.τ).loc Cert.ReferenceNormBwdAIdeal.main_arg0)) (m' ((c.tc : Thread Cert.ReferenceNormBwdAIdeal.nD Cert.ReferenceNormBwdAIdeal.τ).loc Cert.ReferenceNormBwdAIdeal.main_arg1)) (m' ((c.tc : Thread Cert.ReferenceNormBwdAIdeal.nD Cert.ReferenceNormBwdAIdeal.τ).loc Cert.ReferenceNormBwdAIdeal.main_arg2)) (m' ((c.tc : Thread Cert.ReferenceNormBwdAIdeal.nD Cert.ReferenceNormBwdAIdeal.τ).loc Cert.ReferenceNormBwdAIdeal.main_arg3)) := by
    unfold Cert.ReferenceNormBwdAIdeal.Value.res_main_v41; rfl
  have hb : Cert.ReferenceNormBwdAIdeal.Value.res_main_v42 m' c = truncf .bf16 (Cert.ReferenceNormBwdAIdeal.Prod.outX (m' ((c.tc : Thread Cert.ReferenceNormBwdAIdeal.nD Cert.ReferenceNormBwdAIdeal.τ).loc Cert.ReferenceNormBwdAIdeal.main_arg0)) (m' ((c.tc : Thread Cert.ReferenceNormBwdAIdeal.nD Cert.ReferenceNormBwdAIdeal.τ).loc Cert.ReferenceNormBwdAIdeal.main_arg1)) (m' ((c.tc : Thread Cert.ReferenceNormBwdAIdeal.nD Cert.ReferenceNormBwdAIdeal.τ).loc Cert.ReferenceNormBwdAIdeal.main_arg2)) (m' ((c.tc : Thread Cert.ReferenceNormBwdAIdeal.nD Cert.ReferenceNormBwdAIdeal.τ).loc Cert.ReferenceNormBwdAIdeal.main_arg3))) Cert.ReferenceNormBwdAIdeal.Gen.bitsLt_bf16_f32 := by
    unfold Cert.ReferenceNormBwdAIdeal.Value.res_main_v42; rfl
  rw [hx, Cert.ReferenceNormBwdAIdeal.Prod.outX_eq, (hag c).1, (hag c).2.1, (hag c).2.2.1, (hag c).2.2.2.1] at e0
  rw [hb, Cert.ReferenceNormBwdAIdeal.Prod.outX_eq, (hag c).1, (hag c).2.1, (hag c).2.2.1, (hag c).2.2.2.1] at eb
  replace e1 := e1.trans (Cert.ReferenceNormBwdAIdeal.Prod.outW_eq (m' ((c.tc : Thread Cert.ReferenceNormBwdAIdeal.nD Cert.ReferenceNormBwdAIdeal.τ).loc Cert.ReferenceNormBwdAIdeal.main_arg0)) (m' ((c.tc : Thread Cert.ReferenceNormBwdAIdeal.nD Cert.ReferenceNormBwdAIdeal.τ).loc Cert.ReferenceNormBwdAIdeal.main_arg2)))
  rw [(hag c).1, (hag c).2.2.1] at e1
  exact ⟨e0, eb, e1, ea⟩

end Cert.NormBwdA

end
-- ==== Proof.NormZBwd.lean ====
/- The gradient of the recurrent branch's norm: the kernel's two results, from the second half of the columns of the incoming gradient, are the reference's. -/
module

public import proofs.«01_k».proof.Defs
public import proofs.«01_k».proof.Proof.Nrm
public import proofs.«01_k».proof.Proof.Rows
public import proofs.«01_k».proof.Proof.Gen.KernelNormZBwdIdeal.Frame
public import proofs.«01_k».proof.Proof.Gen.ReferenceNormZBwdIdeal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelNormZBwdIdeal.Prod

open Cert.KernelNormZBwdIdeal Cert.KernelNormZBwdIdeal.Gen Cert.Nrm

variable (m : (ℓ : Loc nD τ sig) → Buf (Elt Ideal) ℓ)

/-- The row's length as a number. -/
abbrev len : EReal := Ideal.ofBits .f32 0x45000000#32

abbrev aX (c : Dev nD) : FVec Ideal S4096x2048 .f32 := m ((c : Thread nD τ).loc main_arg0)
abbrev aW (c : Dev nD) : FVec Ideal S1x2048 .f32 := m ((c : Thread nD τ).loc main_arg1)
abbrev aG (c : Dev nD) : FVec Ideal S4096x4096 .f32 := m ((c : Thread nD τ).loc main_arg2)
abbrev bX (c : Dev nD) (t : Fin cfg0.N) : FVec Ideal S256x2048 .f32 := iblk m c 0 t
abbrev bW (c : Dev nD) (t : Fin cfg0.N) : FVec Ideal S1x2048 .f32 := iblk m c 1 t
abbrev bG (c : Dev nD) (t : Fin cfg0.N) : FVec Ideal S256x2048 .f32 := iblk m c 2 t

/-- The second half of a row. -/
def rowU (G : FVec Ideal S4096x4096 .f32) (r : Fin 4096) : Fin 2048 → EReal := fun k => G (ix2 r ⟨2048 + k.val, by omega⟩)

theorem idx : ∀ t : Fin cfg0.N, win0_0.index t = ![t.val, 0]
    ∧ win0_1.index t = ![0, 0]
    ∧ win0_2.index t = ![t.val, 1]
    ∧ win0_3.index t = ![t.val, 0]
    ∧ win0_4.index t = ![0, 0]
    ∧ t.val < 16 :=
  (by decide +kernel : ∀ t : Fin grid0.N, _)

theorem fac_at (x : Vec Ideal S256x2048 .f32) (r : Fin 256) : k0_pay1 (F := Ideal) x (ix2 r 0) = rr len (row x r) := by
  unfold rr ms row
  pointwise [k0_pay1]

theorem dx_at (x g : Vec Ideal S256x2048 .f32) (w : Vec Ideal S1x2048 .f32) (r : Fin 256) (l : Fin 2048) :
    k0_pay2 (F := Ideal) x g w (ix2 r l) = dk len (row x r) (row g r) (row w 0) l := by
  unfold dk
  rw [← fac_at]
  unfold row
  pointwise [k0_pay2]

theorem pay1_at (x g : Vec Ideal S256x2048 .f32) (p : Vec Ideal S1x2048 .f32) (l : Fin 2048) :
    k0_pay4 (F := Ideal) x g p (ix2 0 l) = p (ix2 0 l) + ∑ q : Fin 256, g (ix2 q l) * x (ix2 q l) * rr len (row x q) := by
  have e : ∀ q : Fin 256, rr len (row x q) = k0_pay1 (F := Ideal) x (ix2 q 0) := fun q => (fac_at x q).symm
  simp only [e]
  pointwise [k0_pay4]

theorem out_at (c : Dev nD) (t : Fin cfg0.N) (r : Fin 256) (l : Fin 2048) :
    (outsAt0 m c t.val t.isLt).1 (ix2 r l) = dk len (row (bX m c t) r) (row (bG m c t) r) (row (bW m c t) 0) l := by
  by_cases h : t.val % 16 = 0
  · rw [outsAt0_A m c t h]; frame_out
    rw [dx_at]
  · rw [outsAt0_B m c t h]; frame_out
    rw [dx_at]

/-- The input's gradient. -/
def DX (X : FVec Ideal S4096x2048 .f32) (W : FVec Ideal S1x2048 .f32) (G : FVec Ideal S4096x4096 .f32) : FVec Ideal S4096x2048 .f32 :=
  fun i => dk len (row X (i 0)) (rowU G (i 0)) (row W 0) (i 1)
/-- The weight's gradient. -/
def DW (X : FVec Ideal S4096x2048 .f32) (G : FVec Ideal S4096x4096 .f32) : FVec Ideal S1x2048 .f32 :=
  fun i => ∑ k : Fin 4096, rowU G k (i 1) * X (ix2 k (i 1)) * rr len (row X k)

theorem xrow (c : Dev nD) (t : Fin cfg0.N) (r : Fin 256) (R : Fin 4096) (hR : R.val = t.val * 256 + r.val) :
    row (bX m c t) r = row (aX m c) R := funext fun k => by
  unfold row; blk_ext [aX, aW, aG, bX, bW, bG, iblk, idx t]
theorem wrow (c : Dev nD) (t : Fin cfg0.N) : row (bW m c t) 0 = row (aW m c) 0 := funext fun k => by
  unfold row; blk_ext [aX, aW, aG, bX, bW, bG, iblk, idx t]
theorem grow (c : Dev nD) (t : Fin cfg0.N) (r : Fin 256) (R : Fin 4096) (hR : R.val = t.val * 256 + r.val) :
    row (bG m c t) r = rowU (aG m c) R := funext fun k => by
  unfold row rowU; blk_ext [aX, aW, aG, bX, bW, bG, iblk, idx t]

theorem in_block (c : Dev nD) (t : Fin cfg0.N) (y : S256x2048.Idx) : (outsAt0 m c t.val t.isLt).1 y = DX (aX m c) (aW m c) (aG m c) (((cfg0.win 3).blk t).view.emb y) := by
  have ht : t.val < 16 := (idx t).2.2.2.2.2
  have he : ((cfg0.win 3).blk t).view.emb y = ix2 ⟨t.val * 256 + (y 0).val, by have := (y 0).isLt; change (y 0).val < 256 at this; omega⟩ ⟨(y 1).val, (y 1).isLt⟩ := by
    blk_ext [idx t]
  rw [he]
  obtain ⟨r, l, rfl⟩ : ∃ (r : Fin 256) (l : Fin 2048), y = ix2 r l := ⟨y 0, y 1, eq_ix2 y⟩
  rw [out_at, xrow m c t r ⟨t.val * 256 + r.val, by omega⟩ rfl, grow m c t r ⟨t.val * 256 + r.val, by omega⟩ rfl, wrow]
  rfl

theorem final (c : Dev nD) : (dats m 0 c).arrAt 3 cfg0.N = DX (aX m c) (aW m c) (aG m c) := by
  refine (dats m 0 c).arrAt_eq_of_covers 3 _ (by decide +kernel) fun t _ y => ?_
  blk_simp
  rw [after0_3]
  exact in_block m c t y

/-- What one point adds to the weight's gradient. -/
def part (c : Dev nD) (t : Fin cfg0.N) (y : S1x2048.Idx) : EReal := ∑ q : Fin 256, bG m c t (ix2 q (y 1)) * bX m c t (ix2 q (y 1)) * rr len (row (bX m c t) q)

theorem idx1 (x : S1x2048.Idx) : ∃ u : Fin 2048, x = ix2 0 u :=
  ⟨x 1, (eq_ix2 x).trans (congrArg (fun a => ix2 a (x 1)) (Subsingleton.elim (α := Fin 1) _ _))⟩

theorem resetW (c : Dev nD) (t : Fin cfg0.N) (h : t.val % 16 = 0) (l : Fin 2048) :
    (outsAt0 m c t.val t.isLt).2 (ix2 0 l) = 0 + part m c t (ix2 0 l) := by
  rw [outsAt0_A m c t h]; frame_out
  rw [pay1_at]
  refine congrArg (· + part m c t (ix2 0 l)) ?_
  pointwise [k0_pay3]

theorem stepW (c : Dev nD) (t : Fin cfg0.N) (h : ¬ t.val % 16 = 0) (l : Fin 2048) :
    (outsAt0 m c t.val t.isLt).2 (ix2 0 l) = (outsAt0 m c (t.val - 1) (Nat.lt_of_le_of_lt (Nat.sub_le _ _) t.isLt)).2 (ix2 0 l) + part m c t (ix2 0 l) := by
  rw [outsAt0_B m c t h]; frame_out
  rw [pay1_at]
  rfl

theorem finalW (c : Dev nD) : (dats m 0 c).arrAt 4 cfg0.N = DW (aX m c) (aG m c) := by
  refine (dats m 0 c).arrAt_eq_of_covers 4 _ (by decide +kernel) fun t hf y => ?_
  blk_simp
  rw [after0_4]
  have ht : t.val < 16 := (idx t).2.2.2.2.2
  have hm : t.val % 16 = 15 := (flush0_4 t).mp hf
  have he : ((cfg0.win 4).blk t).view.emb y = ix2 0 ⟨(y 1).val, (y 1).isLt⟩ := by
    blk_ext [idx t]
  rw [he]
  obtain ⟨l, rfl⟩ : ∃ l : Fin 2048, y = ix2 0 l := idx1 y
  refine (Pipeline.eq_sum_fin_of_reset_step_apply_of_flush (fun n h => (outsAt0 m c n h).2) 16 (fun _ => 0) (fun t y => part m c t y)
    (fun t h j => by obtain ⟨u, rfl⟩ := idx1 j; exact resetW m c t h u) (fun t h j => by obtain ⟨u, rfl⟩ := idx1 j; exact stepW m c t h u) t hm (ix2 0 l)).trans ?_
  rw [zero_add]
  unfold DW
  refine Eq.trans ?_ (sum_blocks _)
  refine Fin.sum_fin_congr fun s => Finset.sum_congr rfl fun q _ => ?_
  have hp : 16 * (t.val / 16) + s.val = s.val := by omega
  have ex := xrow m c ⟨16 * (t.val / 16) + s.val, Pipeline.run_point_lt_of_flush t hm s⟩ q ⟨s.val * 256 + q.val, by omega⟩ (by dsimp only; omega)
  have eg := grow m c ⟨16 * (t.val / 16) + s.val, Pipeline.run_point_lt_of_flush t hm s⟩ q ⟨s.val * 256 + q.val, by omega⟩ (by dsimp only; omega)
  exact congrArg₂ (· * ·) (congrArg₂ (· * ·) (congrFun eg l) (congrFun ex l)) (congrArg (rr len) ex)

variable (ρ : Dev nD → PrngReg)

/-- Every execution ends with the results as named, the arguments as launched. -/
theorem run : θ_run defs (onTc (τ := τ) (main (F := Ideal))) ⟨m, fun _ => 0, ρ⟩ (fun r => ∀ c : Dev nD,
      r.2.mem ((c.tc : Thread nD τ).loc main_v0_0) = DX (aX m c) (aW m c) (aG m c)
      ∧ r.2.mem ((c.tc : Thread nD τ).loc main_v0_1) = DW (aX m c) (aG m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final m c), ((h.1 c).1 4).trans (finalW m c), h.2 c⟩) (θ_run_and (run_main m ρ) (unchanged m ρ))

end Cert.KernelNormZBwdIdeal.Prod

namespace Cert.ReferenceNormZBwdIdeal.Prod

open Cert.ReferenceNormZBwdIdeal Cert.ReferenceNormZBwdIdeal.Gen Cert.ReferenceNormZBwdIdeal.Value Cert.Nrm
open Cert.KernelNormZBwdIdeal.Prod (len rowU DX DW)

def xr (X : FVec Ideal S4096x2048 .f32) : FVec Ideal S2x2048x2048 .f32 := shapeCast _ X shapeCasts_S4096x2048_S2x2048x2048
def zR (X : FVec Ideal S4096x2048 .f32) : FVec Ideal S2x2048x1 .f32 :=
  addf (Host.divf (broadcastInDim S2x2048x1 ![0, 1] bcast_S2x2048_S2x2048x1_0_1 (Host.reduceAdd (mulf (xr X) (xr X)) (constant S_ .f32 0x00000000#32) reducesTo_S2x2048x2048_S2x2048_d2 h_S_)) (broadcastInDim S2x2048x1 ![] bcast_S_S2x2048x1 (constant S_ .f32 0x45000000#32))) (broadcastInDim S2x2048x1 ![] bcast_S_S2x2048x1 (constant S_ .f32 0x358637BD#32))
def wR (W : FVec Ideal S1x2048 .f32) : FVec Ideal S2x2048x2048 .f32 :=
  broadcastInDim S2x2048x2048 ![0, 1, 2] bcast_S1x1x2048_S2x2048x2048_0_1_2 (broadcastInDim S1x1x2048 ![2] bcast_S2048_S1x1x2048_2 (shapeCast _ W shapeCasts_S1x2048_S2048))
def gR (G : FVec Ideal S4096x4096 .f32) : FVec Ideal S2x2048x2048 .f32 := extractStridedSlice S2x2048x2048 ![0, 0, 2048] (shapeCast _ G shapeCasts_S4096x4096_S2x2048x4096) slices_S2x2048x4096_S2x2048x2048_0_0_2048
def rR (X : FVec Ideal S4096x2048 .f32) : FVec Ideal S2x2048x2048 .f32 :=
  broadcastInDim S2x2048x2048 ![0, 1, 2] bcast_S2x2048x1_S2x2048x2048_0_1_2 (Host.rsqrt (zR X))
def sR (X : FVec Ideal S4096x2048 .f32) (W : FVec Ideal S1x2048 .f32) (G : FVec Ideal S4096x4096 .f32) : FVec Ideal S2x2048 .f32 :=
  Host.reduceAdd (Host.divf (mulf (shapeCast _ (Host.reduceAdd (mulf (xr X) (mulf (gR G) (wR W))) (constant S_ .f32 0x00000000#32) reducesTo_S2x2048x2048_S2x2048_d2 h_S_) shapeCasts_S2x2048_S2x2048x1) (mulf (broadcastInDim S2x2048x1 ![] bcast_S_S2x2048x1 (constant S_ .f32 0xBF000000#32)) (Host.divf (Host.rsqrt (zR X)) (zR X)))) (broadcastInDim S2x2048x1 ![] bcast_S_S2x2048x1 (constant S_ .f32 0x45000000#32))) (constant S_ .f32 0x00000000#32) reducesTo_S2x2048x1_S2x2048_d2 h_S_
def tR (X : FVec Ideal S4096x2048 .f32) (W : FVec Ideal S1x2048 .f32) (G : FVec Ideal S4096x4096 .f32) : FVec Ideal S2x2048x2048 .f32 :=
  addf (addf (mulf (mulf (gR G) (wR W)) (rR X)) (mulf (xr X) (broadcastInDim S2x2048x2048 ![0, 1] bcast_S2x2048_S2x2048x2048_0_1 (sR X W G)))) (mulf (broadcastInDim S2x2048x2048 ![0, 1] bcast_S2x2048_S2x2048x2048_0_1 (sR X W G)) (xr X))
def outX (X : FVec Ideal S4096x2048 .f32) (W : FVec Ideal S1x2048 .f32) (G : FVec Ideal S4096x4096 .f32) : FVec Ideal S4096x2048 .f32 :=
  shapeCast _ ((tR X W G)) shapeCasts_S2x2048x2048_S4096x2048
def outW (X : FVec Ideal S4096x2048 .f32) (G : FVec Ideal S4096x4096 .f32) : FVec Ideal S1x2048 .f32 :=
  shapeCast _ (Host.reduceAdd (shapeCast _ (Host.reduceAdd (mulf (mulf (xr X) (rR X)) (gR G)) (constant S_ .f32 0x00000000#32) reducesTo_S2x2048x2048_S2048_d0_1 h_S_) shapeCasts_S2048_S1x1x2048) (constant S_ .f32 0x00000000#32) reducesTo_S1x1x2048_S2048_d0_1 h_S_) shapeCasts_S2048_S1x2048

variable (X : FVec Ideal S4096x2048 .f32) (W : FVec Ideal S1x2048 .f32) (G : FVec Ideal S4096x4096 .f32)

theorem zR_at (b : Fin 2) (s : Fin 2048) : zR X (ix3 b s 0) = ms len (row X ⟨b.val * 2048 + s.val, by omega⟩) := by
  unfold ms row
  pointwise [zR, xr]
theorem rR_at (b : Fin 2) (s : Fin 2048) (l : Fin 2048) : rR X (ix3 b s l) = rr len (row X ⟨b.val * 2048 + s.val, by omega⟩) := by
  unfold rr
  rw [← zR_at]
  pointwise [rR]
theorem sR_at (b : Fin 2) (s : Fin 2048) : sR X W G (ix2 b s) = sh len (row X ⟨b.val * 2048 + s.val, by omega⟩) (rowU G ⟨b.val * 2048 + s.val, by omega⟩) (row W 0) := by
  unfold sh rr
  rw [← zR_at]
  unfold row rowU
  pointwise [sR, xr, gR, wR]
  exact Fin.sum_univ_one _

theorem tR_at (b : Fin 2) (s : Fin 2048) (l : Fin 2048) :
    tR X W G (ix3 b s l) = dk len (row X ⟨b.val * 2048 + s.val, by omega⟩) (rowU G ⟨b.val * 2048 + s.val, by omega⟩) (row W 0) l := by
  have e := back_eq (c := 2048) (by norm_num) (row X ⟨b.val * 2048 + s.val, by omega⟩) (rowU G ⟨b.val * 2048 + s.val, by omega⟩) (row W 0) l
  rw [← c2048] at e
  rw [← e, ← rR_at X b s l, ← sR_at]
  unfold row rowU
  pointwise [tR, xr, gR, wR]
  exact congrArg _ (mul_comm _ _)

theorem outX_eq : outX X W G = DX X W G := funext fun i => by
  obtain ⟨r, l, rfl⟩ : ∃ (r : Fin 4096) (l : Fin 2048), i = ix2 r l := ⟨i 0, i 1, eq_ix2 i⟩
  have e := tR_at X W G ⟨r.val / 2048, by omega⟩ ⟨r.val % 2048, by omega⟩ l
  have hr : (⟨r.val / 2048 * 2048 + r.val % 2048, by omega⟩ : Fin 4096) = r := Fin.ext (by dsimp only; omega)
  dsimp only at e
  rw [hr] at e
  unfold DX
  change _ = dk len (row X r) (rowU G r) (row W 0) l
  rw [← e]
  pointwise [outX]

theorem red_at (v : FVec Ideal S2x2048x2048 .f32) (j : Fin 2048) :
    (Host.reduceAdd v (constant S_ .f32 0x00000000#32 : FVec Ideal S_ .f32) reducesTo_S2x2048x2048_S2048_d0_1 h_S_ : FVec Ideal S2048 .f32) (ix1 j)
      = ∑ b : Fin 2, ∑ s : Fin 2048, v (ix3 b s j) := by
  have e : ∀ z : EReal, z = 0 → (z + ∑ i ∈ Finset.univ.filter (fun i => reducesTo_S2x2048x2048_S2048_d0_1.drop i = ix1 j), v i : EReal) = ∑ b : Fin 2, ∑ s : Fin 2048, v (ix3 b s j) := by
    intro z hz
    rw [hz, zero_add]
    exact Cert.Rows.sum01 reducesTo_S2x2048x2048_S2048_d0_1 rfl (ix1 j) j rfl v
  refine e _ ?_
  pointwise

theorem tot_at (v : FVec Ideal S2x2048x2048 .f32) (j : Fin 2048) :
    Ideal.hostReduceAdd reducesTo_S1x1x2048_S2048_d0_1
      (shapeCast S1x1x2048 (Host.reduceAdd v (constant S_ .f32 0x00000000#32 : FVec Ideal S_ .f32) reducesTo_S2x2048x2048_S2048_d0_1 h_S_ : FVec Ideal S2048 .f32) shapeCasts_S2048_S1x1x2048)
      0 (ix1 j) = ∑ b : Fin 2, ∑ s : Fin 2048, v (ix3 b s j) := by
  rw [← red_at]
  have e : ∀ u : FVec Ideal S2048 .f32, (0 + ∑ i ∈ Finset.univ.filter (fun i => reducesTo_S1x1x2048_S2048_d0_1.drop i = ix1 j), (shapeCast S1x1x2048 u shapeCasts_S2048_S1x1x2048) i : EReal) = u (ix1 j) := by
    intro u
    rw [zero_add, Cert.Rows.sum01 reducesTo_S1x1x2048_S2048_d0_1 rfl (ix1 j) j rfl (shapeCast S1x1x2048 u shapeCasts_S2048_S1x1x2048), Fin.sum_univ_one, Fin.sum_univ_one]
    pointwise
  exact e _

theorem outW_eq : outW X G = DW X G := funext fun i => by
  obtain ⟨l, rfl⟩ : ∃ l : Fin 2048, i = ix2 0 l := Cert.KernelNormZBwdIdeal.Prod.idx1 i
  unfold DW
  rw [Cert.Rows.sum_rows]
  pointwise [outW]
  refine (tot_at _ _).trans (Finset.sum_congr rfl fun b _ => Finset.sum_congr rfl fun s _ => ?_)
  rw [← rR_at X b s l]
  unfold rowU
  pointwise [xr, gR]
  ac_rfl

end Cert.ReferenceNormZBwdIdeal.Prod

namespace Cert.NormZBwd

theorem frame_r (m : (ℓ : Loc Cert.ReferenceNormZBwdIdeal.nD Cert.ReferenceNormZBwdIdeal.τ Cert.ReferenceNormZBwdIdeal.sig) → Buf (Elt Ideal) ℓ) (g : Dev Cert.ReferenceNormZBwdIdeal.nD → PrngReg) :
    θ_run (Cert.ReferenceNormZBwdIdeal.defs (F := Ideal)) (onTc (τ := Cert.ReferenceNormZBwdIdeal.τ) (Cert.ReferenceNormZBwdIdeal.main (F := Ideal))) ⟨m, fun _ => 0, g⟩ (fun r => (∀ c : Dev Cert.ReferenceNormZBwdIdeal.nD,
      r.2.mem ((c.tc : Thread Cert.ReferenceNormZBwdIdeal.nD Cert.ReferenceNormZBwdIdeal.τ).loc Cert.ReferenceNormZBwdIdeal.main_arg0) = m ((c.tc : Thread Cert.ReferenceNormZBwdIdeal.nD Cert.ReferenceNormZBwdIdeal.τ).loc Cert.ReferenceNormZBwdIdeal.main_arg0)
      ∧ r.2.mem ((c.tc : Thread Cert.ReferenceNormZBwdIdeal.nD Cert.ReferenceNormZBwdIdeal.τ).loc Cert.ReferenceNormZBwdIdeal.main_arg1) = m ((c.tc : Thread Cert.ReferenceNormZBwdIdeal.nD Cert.ReferenceNormZBwdIdeal.τ).loc Cert.ReferenceNormZBwdIdeal.main_arg1)
      ∧ r.2.mem ((c.tc : Thread Cert.ReferenceNormZBwdIdeal.nD Cert.ReferenceNormZBwdIdeal.τ).loc Cert.ReferenceNormZBwdIdeal.main_arg2) = m ((c.tc : Thread Cert.ReferenceNormZBwdIdeal.nD Cert.ReferenceNormZBwdIdeal.τ).loc Cert.ReferenceNormZBwdIdeal.main_arg2))
      ∧ r.2.sem = fun _ => 0) :=
  (θ_run _ _ _).mono (fun r h => ⟨fun c => (h c).2.2, Idealize.ShloMosaic.sem_eq_zero_of_no_sems (by decide) r.2⟩) (Cert.ReferenceNormZBwdIdeal.Value.run m g)

theorem value : Cert.algebraic_KernelNormZBwdIdeal_ReferenceNormZBwdIdeal := by
  intro m g m' g' _ hag
  refine ⟨_, _, Cert.KernelNormZBwdIdeal.Prod.run m g, (θ_run _ _ _).mono (fun r h c => ?_) (Cert.ReferenceNormZBwdIdeal.Value.run m' g')⟩
  obtain ⟨e0, e1, ea⟩ := h c
  have hx : Cert.ReferenceNormZBwdIdeal.Value.res_main_v40 m' c = Cert.ReferenceNormZBwdIdeal.Prod.outX (m' ((c.tc : Thread Cert.ReferenceNormZBwdIdeal.nD Cert.ReferenceNormZBwdIdeal.τ).loc Cert.ReferenceNormZBwdIdeal.main_arg0)) (m' ((c.tc : Thread Cert.ReferenceNormZBwdIdeal.nD Cert.ReferenceNormZBwdIdeal.τ).loc Cert.ReferenceNormZBwdIdeal.main_arg1)) (m' ((c.tc : Thread Cert.ReferenceNormZBwdIdeal.nD Cert.ReferenceNormZBwdIdeal.τ).loc Cert.ReferenceNormZBwdIdeal.main_arg2)) := by
    unfold Cert.ReferenceNormZBwdIdeal.Value.res_main_v40; rfl
  rw [hx, Cert.ReferenceNormZBwdIdeal.Prod.outX_eq, (hag c).1, (hag c).2.1, (hag c).2.2] at e0
  replace e1 := e1.trans (Cert.ReferenceNormZBwdIdeal.Prod.outW_eq (m' ((c.tc : Thread Cert.ReferenceNormZBwdIdeal.nD Cert.ReferenceNormZBwdIdeal.τ).loc Cert.ReferenceNormZBwdIdeal.main_arg0)) (m' ((c.tc : Thread Cert.ReferenceNormZBwdIdeal.nD Cert.ReferenceNormZBwdIdeal.τ).loc Cert.ReferenceNormZBwdIdeal.main_arg2)))
  rw [(hag c).1, (hag c).2.2] at e1
  exact ⟨e0, e1, ea⟩

end Cert.NormZBwd

end
-- ==== Proof.Loss.lean ====
/- The loss and the gradients through it and the last norm: the kernel's four results are the reference's. -/
module

public import proofs.«01_k».proof.Defs
public import proofs.«01_k».proof.Proof.Nrm
public import proofs.«01_k».proof.Proof.Rows
public import proofs.«01_k».proof.Proof.Gen.KernelLossIdeal.Frame
public import proofs.«01_k».proof.Proof.Gen.ReferenceLossIdeal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.Loss

open Cert.Nrm

/-- The row's length as a number, the weight of the loss and the factor of its gradient. -/
abbrev len : EReal := Ideal.ofBits .f32 0x45800000#32
abbrev half : EReal := Ideal.ofBits .f32 0x3F000000#32
abbrev inv : EReal := Ideal.ofBits .f32 0x39800000#32

/-- A row's error. -/
def er {n : ℕ} (x w t : Fin n → EReal) : Fin n → EReal := fun k => x k * rr len x * w k - t k
/-- The gradient of the loss at a row. -/
def dyr {n : ℕ} (x w t : Fin n → EReal) : Fin n → EReal := fun k => er x w t k * inv
/-- A row's mean square error. -/
def mse {n : ℕ} (x w t : Fin n → EReal) : EReal := Ideal.div (∑ k, er x w t k * er x w t k) len

theorem mse_nonneg {n : ℕ} (x w t : Fin n → EReal) : 0 ≤ mse x w t := by
  unfold mse
  rw [len, c4096, Ideal.div_coe (by norm_num)]
  exact mul_nonneg (Finset.sum_nonneg fun k _ => sq_nonneg _) (by exact_mod_cast (by norm_num : (0 : ℝ) ≤ 1 / 4096))

theorem half_sum {ι : Type*} (s : Finset ι) (f : ι → EReal) (h : ∀ i, 0 ≤ f i) : ∑ i ∈ s, half * f i = half * ∑ i ∈ s, f i := by
  classical
  induction s using Finset.induction_on with
  | empty => simp
  | insert a s ha ih =>
    rw [Finset.sum_insert ha, Finset.sum_insert ha, ih, EReal.left_distrib_of_nonneg (h a) (Finset.sum_nonneg fun i _ => h i)]

theorem c1 : Ideal.ofBits .f32 0x3F800000#32 = ((1 : ℝ) : EReal) := by
  simp [Ideal.ofBits, Ideal.ieee, -EReal.coe_mul]
  exact_mod_cast (by norm_num : (8388608 : ℝ) * (2 ^ 23)⁻¹ = 1)

theorem coef (a : EReal) : Ideal.div (half * Ideal.ofBits .f32 0x3F800000#32) len * (Ideal.ofBits .f32 0x40000000#32 * a) = a * inv := by
  rw [half, len, inv, c1, chalf, c4096, ctwo, cinv, Ideal.div_coe (by norm_num), ← EReal.coe_mul, ← EReal.coe_mul, ← mul_assoc, ← EReal.coe_mul, mul_comm]
  congr 2
  norm_num

end Cert.Loss

namespace Cert.KernelLossIdeal.Prod

open Cert.KernelLossIdeal Cert.KernelLossIdeal.Gen Cert.Nrm Cert.Loss

variable (m : (ℓ : Loc nD τ sig) → Buf (Elt Ideal) ℓ)

abbrev aX (c : Dev nD) : FVec Ideal S4096x4096 .f32 := m ((c : Thread nD τ).loc main_arg0)
abbrev aT (c : Dev nD) : FVec Ideal S4096x4096 .f32 := m ((c : Thread nD τ).loc main_arg1)
abbrev aW (c : Dev nD) : FVec Ideal S1x4096 .f32 := m ((c : Thread nD τ).loc main_arg2)
abbrev bX (c : Dev nD) (t : Fin cfg0.N) : FVec Ideal S256x4096 .f32 := iblk m c 0 t
abbrev bT (c : Dev nD) (t : Fin cfg0.N) : FVec Ideal S256x4096 .f32 := iblk m c 1 t
abbrev bW (c : Dev nD) (t : Fin cfg0.N) : FVec Ideal S1x4096 .f32 := iblk m c 2 t

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0] ∧ t.val < 16 :=
  (by decide +kernel : ∀ t : Fin grid0.N, _)

theorem fac_at (x : Vec Ideal S256x4096 .f32) (r : Fin 256) : k0_pay5 (F := Ideal) x (ix2 r 0) = rr len (row x r) := by
  unfold rr ms row
  pointwise [k0_pay5]

theorem er_at (x t : Vec Ideal S256x4096 .f32) (w : Vec Ideal S1x4096 .f32) (r : Fin 256) (l : Fin 4096) :
    k0_pay6 (F := Ideal) x w t (ix2 r l) = er (row x r) (row w 0) (row t r) l := by
  unfold er
  rw [← fac_at]
  unfold row
  pointwise [k0_pay6]

theorem dy_at (x t : Vec Ideal S256x4096 .f32) (w : Vec Ideal S1x4096 .f32) (r : Fin 256) (l : Fin 4096) :
    k0_pay7 (F := Ideal) x w t (ix2 r l) = dyr (row x r) (row w 0) (row t r) l := by
  unfold dyr
  rw [← er_at]
  pointwise [k0_pay7]

theorem dx_at (x t : Vec Ideal S256x4096 .f32) (w : Vec Ideal S1x4096 .f32) (r : Fin 256) (l : Fin 4096) :
    k0_pay8 (F := Ideal) x w t w (ix2 r l) = dk len (row x r) (dyr (row x r) (row w 0) (row t r)) (row w 0) l := by
  have e : ∀ k, dyr (row x r) (row w 0) (row t r) k = k0_pay7 (F := Ideal) x w t (ix2 r k) := fun k => (dy_at x t w r k).symm
  unfold dk
  simp only [e]
  rw [← fac_at]
  unfold row
  pointwise [k0_pay8]

theorem dxb_at (x t : Vec Ideal S256x4096 .f32) (w : Vec Ideal S1x4096 .f32) (r : Fin 256) (l : Fin 4096) :
    k0_pay9 (F := Ideal) x w t w (ix2 r l) = dk len (row x r) (dyr (row x r) (row w 0) (row t r)) (row w 0) l := by
  rw [← dx_at]
  pointwise [k0_pay9]

theorem dw_at (x t : Vec Ideal S256x4096 .f32) (w p : Vec Ideal S1x4096 .f32) (l : Fin 4096) :
    k0_pay3 (F := Ideal) x (k0_pay5 (F := Ideal) x) (k0_pay7 (F := Ideal) x w t) p (ix2 0 l)
      = p (ix2 0 l) + ∑ q : Fin 256, dyr (row x q) (row w 0) (row t q) l * x (ix2 q l) * rr len (row x q) := by
  have e : ∀ q : Fin 256, rr len (row x q) = k0_pay5 (F := Ideal) x (ix2 q 0) := fun q => (fac_at x q).symm
  have f : ∀ q : Fin 256, dyr (row x q) (row w 0) (row t q) l = k0_pay7 (F := Ideal) x w t (ix2 q l) := fun q => (dy_at x t w q l).symm
  simp only [e, f]
  pointwise [k0_pay3]

theorem ls_at (x t : Vec Ideal S256x4096 .f32) (w : Vec Ideal S1x4096 .f32) (p : Vec Ideal S8x128 .f32) (a : Fin 8) (b : Fin 128) :
    k0_pay4 (F := Ideal) (k0_pay6 (F := Ideal) x w t) p (ix2 a b)
      = p (ix2 a b) + half * ∑ q : Fin 256, mse (row x q) (row w 0) (row t q) := by
  have e : ∀ (q : Fin 256) (k : Fin 4096), er (row x q) (row w 0) (row t q) k = k0_pay6 (F := Ideal) x w t (ix2 q k) := fun q k => (er_at x t w q k).symm
  unfold mse
  simp only [e]
  pointwise [k0_pay4]

/-- The gradient of the rows, of the weight, and the loss. -/
def DX (X T : FVec Ideal S4096x4096 .f32) (W : FVec Ideal S1x4096 .f32) : FVec Ideal S4096x4096 .f32 :=
  fun i => dk len (row X (i 0)) (dyr (row X (i 0)) (row W 0) (row T (i 0))) (row W 0) (i 1)
def DW (X T : FVec Ideal S4096x4096 .f32) (W : FVec Ideal S1x4096 .f32) : FVec Ideal S1x4096 .f32 :=
  fun i => ∑ k : Fin 4096, dyr (row X k) (row W 0) (row T k) (i 1) * X (ix2 k (i 1)) * rr len (row X k)
def LS (X T : FVec Ideal S4096x4096 .f32) (W : FVec Ideal S1x4096 .f32) : FVec Ideal S8x128 .f32 :=
  fun _ => half * ∑ k : Fin 4096, mse (row X k) (row W 0) (row T k)

theorem xrow (c : Dev nD) (t : Fin cfg0.N) (r : Fin 256) (R : Fin 4096) (hR : R.val = t.val * 256 + r.val) :
    row (bX m c t) r = row (aX m c) R := funext fun k => by
  unfold row; blk_ext [aX, bX, iblk, idx t]
theorem trow (c : Dev nD) (t : Fin cfg0.N) (r : Fin 256) (R : Fin 4096) (hR : R.val = t.val * 256 + r.val) :
    row (bT m c t) r = row (aT m c) R := funext fun k => by
  unfold row; blk_ext [aT, bT, iblk, idx t]
theorem wrow (c : Dev nD) (t : Fin cfg0.N) : row (bW m c t) 0 = row (aW m c) 0 := funext fun k => by
  unfold row; blk_ext [aW, bW, iblk, idx t]

theorem out_at (c : Dev nD) (t : Fin cfg0.N) (r : Fin 256) (l : Fin 4096) :
    (outsAt0 m c t.val t.isLt).1 (ix2 r l) = dk len (row (bX m c t) r) (dyr (row (bX m c t) r) (row (bW m c t) 0) (row (bT m c t) r)) (row (bW m c t) 0) l := by
  by_cases h : t.val % 16 = 0
  · rw [outsAt0_A m c t h]; frame_out
    exact dx_at (bX m c t) (bT m c t) (bW m c t) r l
  · rw [outsAt0_B m c t h]; frame_out
    exact dx_at (bX m c t) (bT m c t) (bW m c t) r l

theorem out4_at (c : Dev nD) (t : Fin cfg0.N) (y : S256x4096.Idx) : (outsAt0 m c t.val t.isLt).2.1 y = (outsAt0 m c t.val t.isLt).1 y := by
  obtain ⟨r, l, rfl⟩ : ∃ (r : Fin 256) (l : Fin 4096), y = ix2 r l := ⟨y 0, y 1, eq_ix2 y⟩
  rw [out_at]
  by_cases h : t.val % 16 = 0
  · rw [outsAt0_A m c t h]; frame_out
    exact dxb_at (bX m c t) (bT m c t) (bW m c t) r l
  · rw [outsAt0_B m c t h]; frame_out
    exact dxb_at (bX m c t) (bT m c t) (bW m c t) r l

theorem in_block (c : Dev nD) (t : Fin cfg0.N) (y : S256x4096.Idx) : (outsAt0 m c t.val t.isLt).1 y = DX (aX m c) (aT m c) (aW m c) (((cfg0.win 3).blk t).view.emb y) := by
  have ht : t.val < 16 := (idx t).2.2.2.2.2.2.2
  have he : ((cfg0.win 3).blk t).view.emb y = ix2 ⟨t.val * 256 + (y 0).val, by have := (y 0).isLt; change (y 0).val < 256 at this; omega⟩ ⟨(y 1).val, (y 1).isLt⟩ := by
    blk_ext [idx t]
  rw [he]
  obtain ⟨r, l, rfl⟩ : ∃ (r : Fin 256) (l : Fin 4096), y = ix2 r l := ⟨y 0, y 1, eq_ix2 y⟩
  rw [out_at, xrow m c t r ⟨t.val * 256 + r.val, by omega⟩ rfl, trow m c t r ⟨t.val * 256 + r.val, by omega⟩ rfl, wrow]
  rfl

theorem final3 (c : Dev nD) : (dats m 0 c).arrAt 3 cfg0.N = DX (aX m c) (aT m c) (aW m c) := by
  refine (dats m 0 c).arrAt_eq_of_covers 3 _ (by decide +kernel) fun t _ y => ?_
  blk_simp
  rw [after0_3]
  exact in_block m c t y

theorem final4 (c : Dev nD) : (dats m 0 c).arrAt 4 cfg0.N = (DX (aX m c) (aT m c) (aW m c) : FVec Ideal S4096x4096 .f32) := by
  refine (dats m 0 c).arrAt_eq_of_covers 4 _ (by decide +kernel) fun t _ y => ?_
  blk_simp
  rw [after0_4]
  have he : ((cfg0.win 4).blk t).view.emb y = ((cfg0.win 3).blk t).view.emb y := by
    blk_ext [idx t]
  rw [he]
  exact (out4_at m c t y).trans (in_block m c t y)

/-- What one point adds to the weight's gradient, and to the loss. -/
def part (c : Dev nD) (t : Fin cfg0.N) (y : S1x4096.Idx) : EReal :=
  ∑ q : Fin 256, dyr (row (bX m c t) q) (row (bW m c t) 0) (row (bT m c t) q) (y 1) * bX m c t (ix2 q (y 1)) * rr len (row (bX m c t) q)
def partL (c : Dev nD) (t : Fin cfg0.N) : EReal := half * ∑ q : Fin 256, mse (row (bX m c t) q) (row (bW m c t) 0) (row (bT m c t) q)

theorem idx1 (x : S1x4096.Idx) : ∃ u : Fin 4096, x = ix2 0 u :=
  ⟨x 1, (eq_ix2 x).trans (congrArg (fun a => ix2 a (x 1)) (Subsingleton.elim (α := Fin 1) _ _))⟩

theorem resetW (c : Dev nD) (t : Fin cfg0.N) (h : t.val % 16 = 0) (l : Fin 4096) :
    (outsAt0 m c t.val t.isLt).2.2.1 (ix2 0 l) = 0 + part m c t (ix2 0 l) := by
  rw [outsAt0_A m c t h]; frame_out
  refine (dw_at (bX m c t) (bT m c t) (bW m c t) _ l).trans ?_
  refine congrArg (· + part m c t (ix2 0 l)) ?_
  pointwise [k0_pay1]

theorem stepW (c : Dev nD) (t : Fin cfg0.N) (h : ¬ t.val % 16 = 0) (l : Fin 4096) :
    (outsAt0 m c t.val t.isLt).2.2.1 (ix2 0 l) = (outsAt0 m c (t.val - 1) (Nat.lt_of_le_of_lt (Nat.sub_le _ _) t.isLt)).2.2.1 (ix2 0 l) + part m c t (ix2 0 l) := by
  rw [outsAt0_B m c t h]; frame_out
  exact dw_at (bX m c t) (bT m c t) (bW m c t) _ l

theorem finalW (c : Dev nD) : (dats m 0 c).arrAt 5 cfg0.N = DW (aX m c) (aT m c) (aW m c) := by
  refine (dats m 0 c).arrAt_eq_of_covers 5 _ (by decide +kernel) fun t hf y => ?_
  blk_simp
  rw [after0_5]
  have ht : t.val < 16 := (idx t).2.2.2.2.2.2.2
  have hm : t.val % 16 = 15 := (flush0_5 t).mp hf
  have he : ((cfg0.win 5).blk t).view.emb y = ix2 0 ⟨(y 1).val, (y 1).isLt⟩ := by
    blk_ext [idx t]
  rw [he]
  obtain ⟨l, rfl⟩ : ∃ l : Fin 4096, y = ix2 0 l := idx1 y
  refine (Pipeline.eq_sum_fin_of_reset_step_apply_of_flush (fun n h => (outsAt0 m c n h).2.2.1) 16 (fun _ => 0) (fun t y => part m c t y)
    (fun t h j => by obtain ⟨u, rfl⟩ := idx1 j; exact resetW m c t h u) (fun t h j => by obtain ⟨u, rfl⟩ := idx1 j; exact stepW m c t h u) t hm (ix2 0 l)).trans ?_
  rw [zero_add]
  unfold DW
  refine Eq.trans ?_ (sum_blocks _)
  refine Fin.sum_fin_congr fun s => Finset.sum_congr rfl fun q _ => ?_
  have hp : 16 * (t.val / 16) + s.val = s.val := by omega
  have ex := xrow m c ⟨16 * (t.val / 16) + s.val, Pipeline.run_point_lt_of_flush t hm s⟩ q ⟨s.val * 256 + q.val, by omega⟩ (by dsimp only; omega)
  have et := trow m c ⟨16 * (t.val / 16) + s.val, Pipeline.run_point_lt_of_flush t hm s⟩ q ⟨s.val * 256 + q.val, by omega⟩ (by dsimp only; omega)
  rw [ex, et, wrow]
  exact congrArg (fun u => _ * u * _) (congrFun ex l)

theorem resetL (c : Dev nD) (t : Fin cfg0.N) (h : t.val % 16 = 0) (y : S8x128.Idx) :
    (outsAt0 m c t.val t.isLt).2.2.2 y = 0 + partL m c t := by
  obtain ⟨a, b, rfl⟩ : ∃ (a : Fin 8) (b : Fin 128), y = ix2 a b := ⟨y 0, y 1, eq_ix2 y⟩
  rw [outsAt0_A m c t h]; frame_out
  refine (ls_at (bX m c t) (bT m c t) (bW m c t) _ a b).trans ?_
  refine congrArg (· + partL m c t) ?_
  pointwise [k0_pay2]

theorem stepL (c : Dev nD) (t : Fin cfg0.N) (h : ¬ t.val % 16 = 0) (y : S8x128.Idx) :
    (outsAt0 m c t.val t.isLt).2.2.2 y = (outsAt0 m c (t.val - 1) (Nat.lt_of_le_of_lt (Nat.sub_le _ _) t.isLt)).2.2.2 y + partL m c t := by
  obtain ⟨a, b, rfl⟩ : ∃ (a : Fin 8) (b : Fin 128), y = ix2 a b := ⟨y 0, y 1, eq_ix2 y⟩
  rw [outsAt0_B m c t h]; frame_out
  exact ls_at (bX m c t) (bT m c t) (bW m c t) _ a b

theorem finalL (c : Dev nD) : (dats m 0 c).arrAt 6 cfg0.N = LS (aX m c) (aT m c) (aW m c) := by
  refine (dats m 0 c).arrAt_eq_of_covers 6 _ (by decide +kernel) fun t hf y => ?_
  blk_simp
  rw [after0_6]
  have ht : t.val < 16 := (idx t).2.2.2.2.2.2.2
  have hm : t.val % 16 = 15 := (flush0_6 t).mp hf
  refine (Pipeline.eq_sum_fin_of_reset_step_apply_of_flush (fun n h => (outsAt0 m c n h).2.2.2) 16 (fun _ => 0) (fun t _ => partL m c t)
    (fun t h j => resetL m c t h j) (fun t h j => stepL m c t h j) t hm y).trans ?_
  rw [zero_add]
  unfold LS
  rw [← sum_blocks, ← half_sum Finset.univ _ fun x => Finset.sum_nonneg fun q _ => mse_nonneg _ _ _]
  refine Fin.sum_fin_congr fun s => congrArg (half * ·) (Finset.sum_congr rfl fun q _ => ?_)
  have hp : 16 * (t.val / 16) + s.val = s.val := by omega
  have ex := xrow m c ⟨16 * (t.val / 16) + s.val, Pipeline.run_point_lt_of_flush t hm s⟩ q ⟨s.val * 256 + q.val, by omega⟩ (by dsimp only; omega)
  have et := trow m c ⟨16 * (t.val / 16) + s.val, Pipeline.run_point_lt_of_flush t hm s⟩ q ⟨s.val * 256 + q.val, by omega⟩ (by dsimp only; omega)
  rw [ex, et, wrow]

variable (ρ : Dev nD → PrngReg)

/-- Every execution ends with the results as named, the arguments as launched. -/
theorem run : θ_run defs (onTc (τ := τ) (main (F := Ideal))) ⟨m, fun _ => 0, ρ⟩ (fun r => ∀ c : Dev nD,
      r.2.mem ((c.tc : Thread nD τ).loc main_v0_0) = DX (aX m c) (aT m c) (aW m c)
      ∧ r.2.mem ((c.tc : Thread nD τ).loc main_v0_1) = (DX (aX m c) (aT m c) (aW m c) : FVec Ideal S4096x4096 .f32)
      ∧ r.2.mem ((c.tc : Thread nD τ).loc main_v0_2) = DW (aX m c) (aT m c) (aW m c)
      ∧ r.2.mem ((c.tc : Thread nD τ).loc main_v0_3) = LS (aX m c) (aT m c) (aW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1 c).1 3).trans (final3 m c), ((h.1 c).1 4).trans (final4 m c), ((h.1 c).1 5).trans (finalW m c), ((h.1 c).1 6).trans (finalL m c), h.2 c⟩) (θ_run_and (run_main m ρ) (unchanged m ρ))

end Cert.KernelLossIdeal.Prod

namespace Cert.ReferenceLossIdeal.Prod

open Cert.ReferenceLossIdeal Cert.ReferenceLossIdeal.Gen Cert.ReferenceLossIdeal.Value Cert.Nrm Cert.Loss
open Cert.KernelLossIdeal.Prod (DX DW LS)

def xr (X : FVec Ideal S4096x4096 .f32) : FVec Ideal S2x2048x4096 .f32 := shapeCast _ X shapeCasts_S4096x4096_S2x2048x4096
def zR (X : FVec Ideal S4096x4096 .f32) : FVec Ideal S2x2048x1 .f32 :=
  addf (Host.divf (broadcastInDim S2x2048x1 ![0, 1] bcast_S2x2048_S2x2048x1_0_1 (Host.reduceAdd (mulf (xr X) (xr X)) (constant S_ .f32 0x00000000#32) reducesTo_S2x2048x4096_S2x2048_d2 h_S_)) (broadcastInDim S2x2048x1 ![] bcast_S_S2x2048x1 (constant S_ .f32 0x45800000#32))) (broadcastInDim S2x2048x1 ![] bcast_S_S2x2048x1 (constant S_ .f32 0x358637BD#32))
def wR (W : FVec Ideal S1x4096 .f32) : FVec Ideal S2x2048x4096 .f32 :=
  broadcastInDim S2x2048x4096 ![0, 1, 2] bcast_S1x1x4096_S2x2048x4096_0_1_2 (broadcastInDim S1x1x4096 ![2] bcast_S4096_S1x1x4096_2 (shapeCast _ W shapeCasts_S1x4096_S4096))
def rR (X : FVec Ideal S4096x4096 .f32) : FVec Ideal S2x2048x4096 .f32 :=
  broadcastInDim S2x2048x4096 ![0, 1, 2] bcast_S2x2048x1_S2x2048x4096_0_1_2 (Host.rsqrt (zR X))
def eR (X T : FVec Ideal S4096x4096 .f32) (W : FVec Ideal S1x4096 .f32) : FVec Ideal S2x2048x4096 .f32 := subf (mulf (mulf (xr X) (rR X)) (wR W)) (xr T)
def gR (X T : FVec Ideal S4096x4096 .f32) (W : FVec Ideal S1x4096 .f32) : FVec Ideal S2x2048x4096 .f32 :=
  mulf (broadcastInDim S2x2048x4096 ![0, 1] bcast_S2x2048_S2x2048x4096_0_1 (Host.divf (broadcastInDim S2x2048 ![] bcast_S_S2x2048 (mulf (constant S_ .f32 0x3F000000#32) (constant S_ .f32 0x3F800000#32))) (broadcastInDim S2x2048 ![] bcast_S_S2x2048 (constant S_ .f32 0x45800000#32)))) (mulf (broadcastInDim S2x2048x4096 ![] bcast_S_S2x2048x4096 (constant S_ .f32 0x40000000#32)) (eR X T W))
def sR (X T : FVec Ideal S4096x4096 .f32) (W : FVec Ideal S1x4096 .f32) : FVec Ideal S2x2048 .f32 :=
  Host.reduceAdd (Host.divf (mulf (shapeCast _ (Host.reduceAdd (mulf (xr X) (mulf (gR X T W) (wR W))) (constant S_ .f32 0x00000000#32) reducesTo_S2x2048x4096_S2x2048_d2 h_S_) shapeCasts_S2x2048_S2x2048x1) (mulf (broadcastInDim S2x2048x1 ![] bcast_S_S2x2048x1 (constant S_ .f32 0xBF000000#32)) (Host.divf (Host.rsqrt (zR X)) (zR X)))) (broadcastInDim S2x2048x1 ![] bcast_S_S2x2048x1 (constant S_ .f32 0x45800000#32))) (constant S_ .f32 0x00000000#32) reducesTo_S2x2048x1_S2x2048_d2 h_S_
def tR (X T : FVec Ideal S4096x4096 .f32) (W : FVec Ideal S1x4096 .f32) : FVec Ideal S2x2048x4096 .f32 :=
  addf (addf (mulf (mulf (gR X T W) (wR W)) (rR X)) (mulf (xr X) (broadcastInDim S2x2048x4096 ![0, 1] bcast_S2x2048_S2x2048x4096_0_1 (sR X T W)))) (mulf (broadcastInDim S2x2048x4096 ![0, 1] bcast_S2x2048_S2x2048x4096_0_1 (sR X T W)) (xr X))
def outX (X T : FVec Ideal S4096x4096 .f32) (W : FVec Ideal S1x4096 .f32) : FVec Ideal S4096x4096 .f32 := shapeCast _ (tR X T W) shapeCasts_S2x2048x4096_S4096x4096
def outW (X T : FVec Ideal S4096x4096 .f32) (W : FVec Ideal S1x4096 .f32) : FVec Ideal S1x4096 .f32 :=
  shapeCast _ (Host.reduceAdd (shapeCast _ (Host.reduceAdd (mulf (mulf (xr X) (rR X)) (gR X T W)) (constant S_ .f32 0x00000000#32) reducesTo_S2x2048x4096_S4096_d0_1 h_S_) shapeCasts_S4096_S1x1x4096) (constant S_ .f32 0x00000000#32) reducesTo_S1x1x4096_S4096_d0_1 h_S_) shapeCasts_S4096_S1x4096
def mR (X T : FVec Ideal S4096x4096 .f32) (W : FVec Ideal S1x4096 .f32) : FVec Ideal S2x2048 .f32 :=
  Host.divf (Host.reduceAdd (mulf (eR X T W) (eR X T W)) (constant S_ .f32 0x00000000#32) reducesTo_S2x2048x4096_S2x2048_d2 h_S_) (broadcastInDim S2x2048 ![] bcast_S_S2x2048 (constant S_ .f32 0x45800000#32))
def lR (X T : FVec Ideal S4096x4096 .f32) (W : FVec Ideal S1x4096 .f32) : FVec Ideal S_ .f32 :=
  mulf (constant S_ .f32 0x3F000000#32) (Host.reduceAdd (mR X T W) (constant S_ .f32 0x00000000#32) reducesTo_S2x2048_S_d0_1 h_S_)
def outL (X T : FVec Ideal S4096x4096 .f32) (W : FVec Ideal S1x4096 .f32) : FVec Ideal S8x128 .f32 := broadcastInDim S8x128 ![] bcast_S_S8x128 (lR X T W)

variable (X T : FVec Ideal S4096x4096 .f32) (W : FVec Ideal S1x4096 .f32)

/-- A row of a sequence, among all rows. -/
abbrev at2 (b : Fin 2) (s : Fin 2048) : Fin 4096 := ⟨b.val * 2048 + s.val, by omega⟩

theorem zR_at (b : Fin 2) (s : Fin 2048) : zR X (ix3 b s 0) = ms len (row X (at2 b s)) := by
  unfold ms row
  pointwise [zR, xr]
theorem rR_at (b : Fin 2) (s : Fin 2048) (l : Fin 4096) : rR X (ix3 b s l) = rr len (row X (at2 b s)) := by
  unfold rr
  rw [← zR_at]
  pointwise [rR]
theorem eR_at (b : Fin 2) (s : Fin 2048) (l : Fin 4096) : eR X T W (ix3 b s l) = er (row X (at2 b s)) (row W 0) (row T (at2 b s)) l := by
  unfold er
  rw [← rR_at X b s l]
  unfold row
  pointwise [eR, xr, wR]
theorem gR_at (b : Fin 2) (s : Fin 2048) (l : Fin 4096) : gR X T W (ix3 b s l) = dyr (row X (at2 b s)) (row W 0) (row T (at2 b s)) l := by
  unfold dyr
  rw [← eR_at X T W b s l, ← coef]
  pointwise [gR]
theorem sR_at (b : Fin 2) (s : Fin 2048) : sR X T W (ix2 b s) = sh len (row X (at2 b s)) (dyr (row X (at2 b s)) (row W 0) (row T (at2 b s))) (row W 0) := by
  have e : ∀ l, dyr (row X (at2 b s)) (row W 0) (row T (at2 b s)) l = gR X T W (ix3 b s l) := fun l => (gR_at X T W b s l).symm
  unfold sh rr
  simp only [e]
  rw [← zR_at]
  unfold row
  pointwise [sR, xr, wR]
  exact Fin.sum_univ_one _

theorem tR_at (b : Fin 2) (s : Fin 2048) (l : Fin 4096) :
    tR X T W (ix3 b s l) = dk len (row X (at2 b s)) (dyr (row X (at2 b s)) (row W 0) (row T (at2 b s))) (row W 0) l := by
  have e := back_eq (c := 4096) (by norm_num) (row X (at2 b s)) (dyr (row X (at2 b s)) (row W 0) (row T (at2 b s))) (row W 0) l
  rw [← c4096] at e
  rw [← e, ← rR_at X b s l, ← sR_at, ← gR_at]
  unfold row
  pointwise [tR, xr, wR]
  exact congrArg _ (mul_comm _ _)

theorem outX_eq : outX X T W = DX X T W := funext fun i => by
  obtain ⟨r, l, rfl⟩ : ∃ (r : Fin 4096) (l : Fin 4096), i = ix2 r l := ⟨i 0, i 1, eq_ix2 i⟩
  have e := tR_at X T W ⟨r.val / 2048, by omega⟩ ⟨r.val % 2048, by omega⟩ l
  have hr : at2 ⟨r.val / 2048, by omega⟩ ⟨r.val % 2048, by omega⟩ = r := Fin.ext (by dsimp only [at2]; omega)
  rw [hr] at e
  unfold DX
  change _ = dk len (row X r) (dyr (row X r) (row W 0) (row T r)) (row W 0) l
  rw [← e]
  pointwise [outX]

theorem red_at (v : FVec Ideal S2x2048x4096 .f32) (j : Fin 4096) :
    (Host.reduceAdd v (constant S_ .f32 0x00000000#32 : FVec Ideal S_ .f32) reducesTo_S2x2048x4096_S4096_d0_1 h_S_ : FVec Ideal S4096 .f32) (ix1 j)
      = ∑ b : Fin 2, ∑ s : Fin 2048, v (ix3 b s j) := by
  have e : ∀ z : EReal, z = 0 → (z + ∑ i ∈ Finset.univ.filter (fun i => reducesTo_S2x2048x4096_S4096_d0_1.drop i = ix1 j), v i : EReal) = ∑ b : Fin 2, ∑ s : Fin 2048, v (ix3 b s j) := by
    intro z hz
    rw [hz, zero_add]
    exact Cert.Rows.sum01 reducesTo_S2x2048x4096_S4096_d0_1 rfl (ix1 j) j rfl v
  refine e _ ?_
  pointwise

theorem tot_at (v : FVec Ideal S2x2048x4096 .f32) (j : Fin 4096) :
    Ideal.hostReduceAdd reducesTo_S1x1x4096_S4096_d0_1
      (shapeCast S1x1x4096 (Host.reduceAdd v (constant S_ .f32 0x00000000#32 : FVec Ideal S_ .f32) reducesTo_S2x2048x4096_S4096_d0_1 h_S_ : FVec Ideal S4096 .f32) shapeCasts_S4096_S1x1x4096)
      0 (ix1 j) = ∑ b : Fin 2, ∑ s : Fin 2048, v (ix3 b s j) := by
  rw [← red_at]
  have e : ∀ u : FVec Ideal S4096 .f32, (0 + ∑ i ∈ Finset.univ.filter (fun i => reducesTo_S1x1x4096_S4096_d0_1.drop i = ix1 j), (shapeCast S1x1x4096 u shapeCasts_S4096_S1x1x4096) i : EReal) = u (ix1 j) := by
    intro u
    rw [zero_add, Cert.Rows.sum01 reducesTo_S1x1x4096_S4096_d0_1 rfl (ix1 j) j rfl (shapeCast S1x1x4096 u shapeCasts_S4096_S1x1x4096), Fin.sum_univ_one, Fin.sum_univ_one]
    pointwise
  exact e _

theorem outW_eq : outW X T W = DW X T W := funext fun i => by
  obtain ⟨l, rfl⟩ : ∃ l : Fin 4096, i = ix2 0 l := Cert.KernelLossIdeal.Prod.idx1 i
  unfold DW
  rw [Cert.Rows.sum_rows]
  pointwise [outW]
  refine (tot_at _ _).trans (Finset.sum_congr rfl fun b _ => Finset.sum_congr rfl fun s _ => ?_)
  have e := gR_at X T W b s l
  have f := rR_at X b s l
  dsimp only [at2] at e f
  rw [← f, ← e]
  pointwise [xr]
  ac_rfl

theorem mR_at (b : Fin 2) (s : Fin 2048) : mR X T W (ix2 b s) = mse (row X (at2 b s)) (row W 0) (row T (at2 b s)) := by
  have e : ∀ l, er (row X (at2 b s)) (row W 0) (row T (at2 b s)) l = eR X T W (ix3 b s l) := fun l => (eR_at X T W b s l).symm
  unfold mse
  simp only [e]
  pointwise [mR]

theorem all_at (v : FVec Ideal S2x2048 .f32) (j : S_.Idx) :
    (Host.reduceAdd v (constant S_ .f32 0x00000000#32 : FVec Ideal S_ .f32) reducesTo_S2x2048_S_d0_1 h_S_ : FVec Ideal S_ .f32) j
      = ∑ b : Fin 2, ∑ s : Fin 2048, v (ix2 b s) := by
  have e : ∀ z : EReal, z = 0 → (z + ∑ i ∈ Finset.univ.filter (fun i => reducesTo_S2x2048_S_d0_1.drop i = j), v i : EReal) = ∑ b : Fin 2, ∑ s : Fin 2048, v (ix2 b s) := by
    intro z hz
    rw [hz, zero_add]
    refine (Finset.sum_filter_eq_sum_of_fiber _ (fun k : Fin 2 × Fin 2048 => ix2 k.1 k.2)
      (fun _ _ e => Prod.ext (congrFun e 0) (congrFun e 1)) (fun i => ⟨fun _ => ⟨(i 0, i 1), (eq_ix2 i).symm⟩, fun _ => funext fun a => Fin.elim0 a⟩) v).trans ?_
    simp only [Fintype.sum_prod_type]
  refine e _ ?_
  pointwise

theorem outL_eq : outL X T W = LS X T W := funext fun i => by
  have e : ∀ j : S_.Idx, lR X T W j = half * ∑ k : Fin 4096, mse (row X k) (row W 0) (row T k) := fun j => by
    rw [Cert.Rows.sum_rows]
    refine congrArg (half * ·) ((all_at _ j).trans (Finset.sum_congr rfl fun b _ => Finset.sum_congr rfl fun s _ => mR_at X T W b s))
  exact e _

end Cert.ReferenceLossIdeal.Prod

namespace Cert.Loss

theorem frame_r (m : (ℓ : Loc Cert.ReferenceLossIdeal.nD Cert.ReferenceLossIdeal.τ Cert.ReferenceLossIdeal.sig) → Buf (Elt Ideal) ℓ) (g : Dev Cert.ReferenceLossIdeal.nD → PrngReg) :
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0) :=
  (θ_run _ _ _).mono (fun r h => ⟨fun c => (h c).2.2.2.2, Idealize.ShloMosaic.sem_eq_zero_of_no_sems (by decide) r.2⟩) (Cert.ReferenceLossIdeal.Value.run m g)

theorem value : Cert.algebraic_KernelLossIdeal_ReferenceLossIdeal := by
  intro m g m' g' _ hag
  refine ⟨_, _, _, _, Cert.KernelLossIdeal.Prod.run m g, (θ_run _ _ _).mono (fun r h c => ?_) (Cert.ReferenceLossIdeal.Value.run m' g')⟩
  obtain ⟨e0, eb, e1, e2, ea⟩ := h c
  have hx : Cert.ReferenceLossIdeal.Value.res_main_v54 m' c = Cert.ReferenceLossIdeal.Prod.outX (m' ((c.tc : Thread Cert.ReferenceLossIdeal.nD Cert.ReferenceLossIdeal.τ).loc Cert.ReferenceLossIdeal.main_arg0)) (m' ((c.tc : Thread Cert.ReferenceLossIdeal.nD Cert.ReferenceLossIdeal.τ).loc Cert.ReferenceLossIdeal.main_arg1)) (m' ((c.tc : Thread Cert.ReferenceLossIdeal.nD Cert.ReferenceLossIdeal.τ).loc Cert.ReferenceLossIdeal.main_arg2)) := by
    unfold Cert.ReferenceLossIdeal.Value.res_main_v54; rfl
  have hb : Cert.ReferenceLossIdeal.Value.res_main_v55 m' c = truncf .bf16 (Cert.ReferenceLossIdeal.Prod.outX (m' ((c.tc : Thread Cert.ReferenceLossIdeal.nD Cert.ReferenceLossIdeal.τ).loc Cert.ReferenceLossIdeal.main_arg0)) (m' ((c.tc : Thread Cert.ReferenceLossIdeal.nD Cert.ReferenceLossIdeal.τ).loc Cert.ReferenceLossIdeal.main_arg1)) (m' ((c.tc : Thread Cert.ReferenceLossIdeal.nD Cert.ReferenceLossIdeal.τ).loc Cert.ReferenceLossIdeal.main_arg2))) Cert.ReferenceLossIdeal.Gen.bitsLt_bf16_f32 := by
    unfold Cert.ReferenceLossIdeal.Value.res_main_v55; rfl
  rw [hx, Cert.ReferenceLossIdeal.Prod.outX_eq, (hag c).1, (hag c).2.1, (hag c).2.2] at e0
  rw [hb, Cert.ReferenceLossIdeal.Prod.outX_eq, (hag c).1, (hag c).2.1, (hag c).2.2] at eb
  replace e1 := e1.trans (Cert.ReferenceLossIdeal.Prod.outW_eq (m' ((c.tc : Thread Cert.ReferenceLossIdeal.nD Cert.ReferenceLossIdeal.τ).loc Cert.ReferenceLossIdeal.main_arg0)) (m' ((c.tc : Thread Cert.ReferenceLossIdeal.nD Cert.ReferenceLossIdeal.τ).loc Cert.ReferenceLossIdeal.main_arg1)) (m' ((c.tc : Thread Cert.ReferenceLossIdeal.nD Cert.ReferenceLossIdeal.τ).loc Cert.ReferenceLossIdeal.main_arg2)))
  rw [(hag c).1, (hag c).2.1, (hag c).2.2] at e1
  replace e2 := e2.trans (Cert.ReferenceLossIdeal.Prod.outL_eq (m' ((c.tc : Thread Cert.ReferenceLossIdeal.nD Cert.ReferenceLossIdeal.τ).loc Cert.ReferenceLossIdeal.main_arg0)) (m' ((c.tc : Thread Cert.ReferenceLossIdeal.nD Cert.ReferenceLossIdeal.τ).loc Cert.ReferenceLossIdeal.main_arg1)) (m' ((c.tc : Thread Cert.ReferenceLossIdeal.nD Cert.ReferenceLossIdeal.τ).loc Cert.ReferenceLossIdeal.main_arg2)))
  rw [(hag c).1, (hag c).2.1, (hag c).2.2] at e2
  exact ⟨e0, eb, e1, e2, ea⟩

end Cert.Loss

end
-- ==== Proof.Adw.lean ====
/- One entry of the optimiser's update, over the extended reals. -/
module

public import Idealize.ShloMosaic.Lib.Pointwise

@[expose] public section

noncomputable section

open Idealize.ShloMosaic

namespace Cert.Adw

/-- The first moment, from its last value and the gradient. -/
def mn (a g : EReal) : EReal := Ideal.ofBits .f32 0x3F666666#32 * a + Ideal.ofBits .f32 0x3DCCCCCD#32 * g
/-- The second moment. -/
def vn (b g : EReal) : EReal := Ideal.ofBits .f32 0x3F7FBE77#32 * b + Ideal.ofBits .f32 0x3A83126F#32 * (g * g)
/-- The change of the weight. -/
def dl (w a b g : EReal) : EReal :=
  Ideal.ofBits .f32 0xBA83126F#32 * (Ideal.div (Ideal.div (mn a g) (Ideal.ofBits .f32 0x3F26BD02#32)) (Ideal.sqrt (Ideal.div (vn b g) (Ideal.ofBits .f32 0x3C231ACC#32)) + Ideal.ofBits .f32 0x322BCC77#32) + Ideal.ofBits .f32 0x3C23D70A#32 * w)

/-- The sum of the four slots of one entry. -/
def s4 {h r q : ℕ} (S : FVec Ideal (⟨4, ![4, h, r, q]⟩ : Shape) .bf16) (i : Fin h) (j : Fin r) (k : Fin q) : EReal :=
  S (ix4 0 i j k) + S (ix4 1 i j k) + S (ix4 2 i j k) + S (ix4 3 i j k)

end Cert.Adw

end
-- ==== Proof.AdamIn.lean ====
/- The optimiser's update of the input projection: the kernel's results are the reference's. -/
module

public import proofs.«01_k».proof.Defs
public import proofs.«01_k».proof.Proof.Adw
public import proofs.«01_k».proof.Proof.Gen.KernelAdamInIdeal.Frame
public import proofs.«01_k».proof.Proof.Gen.ReferenceAdamInIdeal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelAdamInIdeal.Prod

open Cert.KernelAdamInIdeal Cert.KernelAdamInIdeal.Gen Cert.Adw

variable (m : (ℓ : Loc nD τ sig) → Buf (Elt Ideal) ℓ)

abbrev aW (c : Dev nD) : FVec Ideal S4096x3072 .f32 := m ((c : Thread nD τ).loc main_arg0)
abbrev aM (c : Dev nD) : FVec Ideal S4096x3072 .f32 := m ((c : Thread nD τ).loc main_arg1)
abbrev aV (c : Dev nD) : FVec Ideal S4096x3072 .f32 := m ((c : Thread nD τ).loc main_arg2)
abbrev aS (c : Dev nD) : FVec Ideal S4x2x2048x3072 .bf16 := m ((c : Thread nD τ).loc main_arg3)
abbrev bW (c : Dev nD) (t : Fin cfg0.N) : FVec Ideal S64x3072 .f32 := iblk m c 0 t
abbrev bM (c : Dev nD) (t : Fin cfg0.N) : FVec Ideal S64x3072 .f32 := iblk m c 1 t
abbrev bV (c : Dev nD) (t : Fin cfg0.N) : FVec Ideal S64x3072 .f32 := iblk m c 2 t
abbrev bS (c : Dev nD) (t : Fin cfg0.N) : FVec Ideal S4x1x64x3072 .bf16 := iblk m c 3 t

theorem idx : ∀ t : Fin cfg0.N, win0_0.index t = ![t.val, 0] ∧ win0_1.index t = ![t.val, 0] ∧ win0_2.index t = ![t.val, 0]
    ∧ win0_3.index t = ![0, t.val / 32, t.val % 32, 0] ∧ win0_4.index t = ![t.val, 0] ∧ win0_5.index t = ![t.val, 0] ∧ win0_6.index t = ![t.val, 0] ∧ win0_7.index t = ![t.val, 0] ∧ t.val < 64 :=
  (by decide +kernel : ∀ t : Fin grid0.N, _)

/-- The gradient: the sum of the slots, one half of the rows after the other. -/
def G (S : FVec Ideal S4x2x2048x3072 .bf16) : FVec Ideal S4096x3072 .f32 := fun i =>
  s4 S ⟨(i 0).val / 2048, by have := (i 0).isLt; change (i 0).val < 4096 at this; omega⟩ ⟨(i 0).val % 2048, Nat.mod_lt _ (by decide)⟩ (i 1)

/-- The first moment, the second moment and the change of the weight. -/
def MN (M : FVec Ideal S4096x3072 .f32) (S : FVec Ideal S4x2x2048x3072 .bf16) : FVec Ideal S4096x3072 .f32 := fun i => mn (M i) (G S i)
def VN (V : FVec Ideal S4096x3072 .f32) (S : FVec Ideal S4x2x2048x3072 .bf16) : FVec Ideal S4096x3072 .f32 := fun i => vn (V i) (G S i)
def DL (W M V : FVec Ideal S4096x3072 .f32) (S : FVec Ideal S4x2x2048x3072 .bf16) : FVec Ideal S4096x3072 .f32 := fun i => dl (W i) (M i) (V i) (G S i)

/-- The place of a block's entry in the array. -/
abbrev up (t : Fin cfg0.N) (y : S64x3072.Idx) : S4096x3072.Idx :=
  ix2 ⟨t.val * 64 + (y 0).val, by have := (y 0).isLt; change (y 0).val < 64 at this; have := (idx t).2.2.2.2.2.2.2.2; omega⟩ ⟨(y 1).val, (y 1).isLt⟩

theorem atW (c : Dev nD) (t : Fin cfg0.N) (y : S64x3072.Idx) : bW m c t y = aW m c (up t y) := by blk_ext [up, aW, bW, iblk, idx t]
theorem atM (c : Dev nD) (t : Fin cfg0.N) (y : S64x3072.Idx) : bM m c t y = aM m c (up t y) := by blk_ext [up, aM, bM, iblk, idx t]
theorem atV (c : Dev nD) (t : Fin cfg0.N) (y : S64x3072.Idx) : bV m c t y = aV m c (up t y) := by blk_ext [up, aV, bV, iblk, idx t]

/-- The gradient of a block. -/
abbrev gb (s : FVec Ideal S4x1x64x3072 .bf16) : FVec Ideal S64x3072 .f32 :=
  k0_pay2 (F := Ideal) (View.ld s r0_0) (View.ld s r0_1) (View.ld s r0_2) (View.ld s r0_3)

theorem gb_at (s : FVec Ideal S4x1x64x3072 .bf16) (r : Fin 64) (l : Fin 3072) : gb s (ix2 r l) = s4 s 0 r l := by
  unfold s4
  pointwise [k0_pay2]

theorem gat (c : Dev nD) (t : Fin cfg0.N) (y : S64x3072.Idx) : gb (bS m c t) y = G (aS m c) (up t y) := by
  obtain ⟨r, l, rfl⟩ : ∃ (r : Fin 64) (l : Fin 3072), y = ix2 r l := ⟨y 0, y 1, eq_ix2 y⟩
  have ht : t.val < 64 := (idx t).2.2.2.2.2.2.2.2
  have e : ∀ k : Fin 4, bS m c t (ix4 k 0 r l) = aS m c (ix4 k ⟨(t.val * 64 + r.val) / 2048, by omega⟩ ⟨(t.val * 64 + r.val) % 2048, by omega⟩ l) := fun k => by
    blk_ext [aS, bS, iblk, idx t]
  rw [gb_at]
  unfold s4
  rw [e, e, e, e]
  rfl

theorem pay_dl (s : FVec Ideal S4x1x64x3072 .bf16) (w a b : FVec Ideal S64x3072 .f32) (y : S64x3072.Idx) :
    k0_pay1 (F := Ideal) w (k0_pay4 (F := Ideal) (View.ld s r0_0) (View.ld s r0_1) (View.ld s r0_2) (View.ld s r0_3) b) (k0_pay5 (F := Ideal) (View.ld s r0_0) (View.ld s r0_1) (View.ld s r0_2) (View.ld s r0_3) a) (Scalar.ofBits .f32 0x3C231ACC#32) y = dl (w y) (a y) (b y) (gb s y) := rfl
theorem pay_mn (s : FVec Ideal S4x1x64x3072 .bf16) (a : FVec Ideal S64x3072 .f32) (y : S64x3072.Idx) :
    k0_pay3 (F := Ideal) (View.ld s r0_0) (View.ld s r0_1) (View.ld s r0_2) (View.ld s r0_3) a y = mn (a y) (gb s y) := rfl
theorem pay_vn (s : FVec Ideal S4x1x64x3072 .bf16) (b : FVec Ideal S64x3072 .f32) (y : S64x3072.Idx) :
    k0_pay4 (F := Ideal) (View.ld s r0_0) (View.ld s r0_1) (View.ld s r0_2) (View.ld s r0_3) b y = vn (b y) (gb s y) := rfl

theorem final4 (c : Dev nD) : (dats m 0 c).arrAt 4 cfg0.N = G (aS m c) := by
  refine (dats m 0 c).arrAt_eq_of_covers 4 _ (by decide +kernel) fun t _ y => ?_
  blk_simp
  rw [after0_4]
  unfold_out out0_4
  frame_out
  have he : ((cfg0.win 4).blk t).view.emb y = up t y := by blk_ext [up, idx t]
  rw [he]
  exact gat m c t y

theorem final5 (c : Dev nD) : (dats m 0 c).arrAt 5 cfg0.N = DL (aW m c) (aM m c) (aV m c) (aS m c) := by
  refine (dats m 0 c).arrAt_eq_of_covers 5 _ (by decide +kernel) fun t _ y => ?_
  blk_simp
  rw [after0_5]
  unfold_out out0_5
  frame_out
  have he : ((cfg0.win 5).blk t).view.emb y = up t y := by blk_ext [up, idx t]
  rw [he]
  refine (pay_dl (bS m c t) (bW m c t) (bM m c t) (bV m c t) y).trans ?_
  rw [atW, atM, atV, gat m c t y]
  rfl

theorem final6 (c : Dev nD) : (dats m 0 c).arrAt 6 cfg0.N = MN (aM m c) (aS m c) := by
  refine (dats m 0 c).arrAt_eq_of_covers 6 _ (by decide +kernel) fun t _ y => ?_
  blk_simp
  rw [after0_6]
  unfold_out out0_6
  frame_out
  have he : ((cfg0.win 6).blk t).view.emb y = up t y := by blk_ext [up, idx t]
  rw [he]
  refine (pay_mn (bS m c t) (bM m c t) y).trans ?_
  rw [atM, gat m c t y]
  rfl

theorem final7 (c : Dev nD) : (dats m 0 c).arrAt 7 cfg0.N = VN (aV m c) (aS m c) := by
  refine (dats m 0 c).arrAt_eq_of_covers 7 _ (by decide +kernel) fun t _ y => ?_
  blk_simp
  rw [after0_7]
  unfold_out out0_7
  frame_out
  have he : ((cfg0.win 7).blk t).view.emb y = up t y := by blk_ext [up, idx t]
  rw [he]
  refine (pay_vn (bS m c t) (bV m c t) y).trans ?_
  rw [atV, gat m c t y]
  rfl

variable (ρ : Dev nD → PrngReg)

/-- Every execution ends with the results as named, the arguments as launched. -/
theorem run : θ_run defs (onTc (τ := τ) (main (F := Ideal))) ⟨m, fun _ => 0, ρ⟩ (fun r => ∀ c : Dev nD,
      r.2.mem ((c.tc : Thread nD τ).loc main_v0_0) = G (aS m c)
      ∧ r.2.mem ((c.tc : Thread nD τ).loc main_v0_1) = DL (aW m c) (aM m c) (aV m c) (aS m c)
      ∧ r.2.mem ((c.tc : Thread nD τ).loc main_v0_2) = MN (aM m c) (aS m c)
      ∧ r.2.mem ((c.tc : Thread nD τ).loc main_v0_3) = VN (aV m c) (aS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final4 m c), ((h.1 c).1 5).trans (final5 m c), ((h.1 c).1 6).trans (final6 m c), ((h.1 c).1 7).trans (final7 m c), h.2 c⟩) (θ_run_and (run_main m ρ) (unchanged m ρ))

end Cert.KernelAdamInIdeal.Prod

namespace Cert.ReferenceAdamInIdeal.Prod

open Cert.ReferenceAdamInIdeal Cert.ReferenceAdamInIdeal.Gen Cert.Adw
open Cert.KernelAdamInIdeal.Prod (G MN VN DL)

theorem g_eq (S : FVec Ideal S4x2x2048x3072 .bf16) :
    (shapeCast _ (Host.reduceAdd (extf .f32 S bitsLt_bf16_f32) (constant S_ .f32 0x00000000#32) reducesTo_S4x2x2048x3072_S2x2048x3072_d0 h_S_) shapeCasts_S2x2048x3072_S4096x3072 : FVec Ideal S4096x3072 .f32) = G S := funext fun i => by
  obtain ⟨r, l, rfl⟩ : ∃ (r : Fin 4096) (l : Fin 3072), i = ix2 r l := ⟨i 0, i 1, eq_ix2 i⟩
  unfold G s4
  pointwise [Fin.sum_univ_four]

theorem dl_eq (W M V : FVec Ideal S4096x3072 .f32) (S : FVec Ideal S4x2x2048x3072 .bf16) :
    (mulf (broadcastInDim S4096x3072 ![] bcast_S_S4096x3072 (constant S_ .f32 0xBA83126F#32)) (addf (Host.divf (Host.divf (addf (mulf (broadcastInDim S4096x3072 ![] bcast_S_S4096x3072 (constant S_ .f32 0x3F666666#32)) M) (mulf (broadcastInDim S4096x3072 ![] bcast_S_S4096x3072 (constant S_ .f32 0x3DCCCCCD#32)) (shapeCast _ (Host.reduceAdd (extf .f32 S bitsLt_bf16_f32) (constant S_ .f32 0x00000000#32) reducesTo_S4x2x2048x3072_S2x2048x3072_d0 h_S_) shapeCasts_S2x2048x3072_S4096x3072))) (broadcastInDim S4096x3072 ![] bcast_S_S4096x3072 (constant S_ .f32 0x3F26BD02#32))) (addf (Host.sqrt (Host.divf (addf (mulf (broadcastInDim S4096x3072 ![] bcast_S_S4096x3072 (constant S_ .f32 0x3F7FBE77#32)) V) (mulf (broadcastInDim S4096x3072 ![] bcast_S_S4096x3072 (constant S_ .f32 0x3A83126F#32)) (mulf (shapeCast _ (Host.reduceAdd (extf .f32 S bitsLt_bf16_f32) (constant S_ .f32 0x00000000#32) reducesTo_S4x2x2048x3072_S2x2048x3072_d0 h_S_) shapeCasts_S2x2048x3072_S4096x3072) (shapeCast _ (Host.reduceAdd (extf .f32 S bitsLt_bf16_f32) (constant S_ .f32 0x00000000#32) reducesTo_S4x2x2048x3072_S2x2048x3072_d0 h_S_) shapeCasts_S2x2048x3072_S4096x3072)))) (broadcastInDim S4096x3072 ![] bcast_S_S4096x3072 (constant S_ .f32 0x3C231ACC#32)))) (broadcastInDim S4096x3072 ![] bcast_S_S4096x3072 (constant S_ .f32 0x322BCC77#32)))) (mulf (broadcastInDim S4096x3072 ![] bcast_S_S4096x3072 (constant S_ .f32 0x3C23D70A#32)) W)) : FVec Ideal S4096x3072 .f32) = DL W M V S := by
  rw [g_eq]
  rfl

theorem mn_eq (M : FVec Ideal S4096x3072 .f32) (S : FVec Ideal S4x2x2048x3072 .bf16) :
    (addf (mulf (broadcastInDim S4096x3072 ![] bcast_S_S4096x3072 (constant S_ .f32 0x3F666666#32)) M) (mulf (broadcastInDim S4096x3072 ![] bcast_S_S4096x3072 (constant S_ .f32 0x3DCCCCCD#32)) (shapeCast _ (Host.reduceAdd (extf .f32 S bitsLt_bf16_f32) (constant S_ .f32 0x00000000#32) reducesTo_S4x2x2048x3072_S2x2048x3072_d0 h_S_) shapeCasts_S2x2048x3072_S4096x3072)) : FVec Ideal S4096x3072 .f32) = MN M S := by
  rw [g_eq]
  rfl

theorem vn_eq (V : FVec Ideal S4096x3072 .f32) (S : FVec Ideal S4x2x2048x3072 .bf16) :
    (addf (mulf (broadcastInDim S4096x3072 ![] bcast_S_S4096x3072 (constant S_ .f32 0x3F7FBE77#32)) V) (mulf (broadcastInDim S4096x3072 ![] bcast_S_S4096x3072 (constant S_ .f32 0x3A83126F#32)) (mulf (shapeCast _ (Host.reduceAdd (extf .f32 S bitsLt_bf16_f32) (constant S_ .f32 0x00000000#32) reducesTo_S4x2x2048x3072_S2x2048x3072_d0 h_S_) shapeCasts_S2x2048x3072_S4096x3072) (shapeCast _ (Host.reduceAdd (extf .f32 S bitsLt_bf16_f32) (constant S_ .f32 0x00000000#32) reducesTo_S4x2x2048x3072_S2x2048x3072_d0 h_S_) shapeCasts_S2x2048x3072_S4096x3072))) : FVec Ideal S4096x3072 .f32) = VN V S := by
  rw [g_eq]
  rfl

end Cert.ReferenceAdamInIdeal.Prod

namespace Cert.AdamIn

theorem frame_r (m : (ℓ : Loc Cert.ReferenceAdamInIdeal.nD Cert.ReferenceAdamInIdeal.τ Cert.ReferenceAdamInIdeal.sig) → Buf (Elt Ideal) ℓ) (g : Dev Cert.ReferenceAdamInIdeal.nD → PrngReg) :
    θ_run (Cert.ReferenceAdamInIdeal.defs (F := Ideal)) (onTc (τ := Cert.ReferenceAdamInIdeal.τ) (Cert.ReferenceAdamInIdeal.main (F := Ideal))) ⟨m, fun _ => 0, g⟩ (fun r => (∀ c : Dev Cert.ReferenceAdamInIdeal.nD,
      r.2.mem ((c.tc : Thread Cert.ReferenceAdamInIdeal.nD Cert.ReferenceAdamInIdeal.τ).loc Cert.ReferenceAdamInIdeal.main_arg0) = m ((c.tc : Thread Cert.ReferenceAdamInIdeal.nD Cert.ReferenceAdamInIdeal.τ).loc Cert.ReferenceAdamInIdeal.main_arg0)
      ∧ r.2.mem ((c.tc : Thread Cert.ReferenceAdamInIdeal.nD Cert.ReferenceAdamInIdeal.τ).loc Cert.ReferenceAdamInIdeal.main_arg1) = m ((c.tc : Thread Cert.ReferenceAdamInIdeal.nD Cert.ReferenceAdamInIdeal.τ).loc Cert.ReferenceAdamInIdeal.main_arg1)
      ∧ r.2.mem ((c.tc : Thread Cert.ReferenceAdamInIdeal.nD Cert.ReferenceAdamInIdeal.τ).loc Cert.ReferenceAdamInIdeal.main_arg2) = m ((c.tc : Thread Cert.ReferenceAdamInIdeal.nD Cert.ReferenceAdamInIdeal.τ).loc Cert.ReferenceAdamInIdeal.main_arg2)
      ∧ r.2.mem ((c.tc : Thread Cert.ReferenceAdamInIdeal.nD Cert.ReferenceAdamInIdeal.τ).loc Cert.ReferenceAdamInIdeal.main_arg3) = m ((c.tc : Thread Cert.ReferenceAdamInIdeal.nD Cert.ReferenceAdamInIdeal.τ).loc Cert.ReferenceAdamInIdeal.main_arg3))
      ∧ r.2.sem = fun _ => 0) :=
  (θ_run _ _ _).mono (fun r h => ⟨fun c => (h c).2.2.2.2, Idealize.ShloMosaic.sem_eq_zero_of_no_sems (by decide) r.2⟩) (Cert.ReferenceAdamInIdeal.Value.run m g)

theorem value : Cert.algebraic_KernelAdamInIdeal_ReferenceAdamInIdeal := by
  intro m g m' g' _ hag
  refine ⟨_, _, _, _, Cert.KernelAdamInIdeal.Prod.run m g, (θ_run _ _ _).mono (fun r h c => ?_) (Cert.ReferenceAdamInIdeal.Value.run m' g')⟩
  obtain ⟨e0, e1, e2, e3, ea⟩ := h c
  rw [(hag c).1, (hag c).2.1, (hag c).2.2.1, (hag c).2.2.2] at e1
  rw [(hag c).2.2.2] at e0
  rw [(hag c).2.1, (hag c).2.2.2] at e2
  rw [(hag c).2.2.1, (hag c).2.2.2] at e3
  exact ⟨e0.trans (Cert.ReferenceAdamInIdeal.Prod.g_eq _), e1.trans (Cert.ReferenceAdamInIdeal.Prod.dl_eq _ _ _ _), e2.trans (Cert.ReferenceAdamInIdeal.Prod.mn_eq _ _), e3.trans (Cert.ReferenceAdamInIdeal.Prod.vn_eq _ _), ea⟩

end Cert.AdamIn

end
-- ==== Proof.AdamUp.lean ====
/- The optimiser's update of the up-projection: the kernel's results are the reference's. -/
module

public import proofs.«01_k».proof.Defs
public import proofs.«01_k».proof.Proof.Adw
public import proofs.«01_k».proof.Proof.Gen.KernelAdamUpIdeal.Frame
public import proofs.«01_k».proof.Proof.Gen.ReferenceAdamUpIdeal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelAdamUpIdeal.Prod

open Cert.KernelAdamUpIdeal Cert.KernelAdamUpIdeal.Gen Cert.Adw

variable (m : (ℓ : Loc nD τ sig) → Buf (Elt Ideal) ℓ)

abbrev aW (c : Dev nD) : FVec Ideal S4096x5504 .f32 := m ((c : Thread nD τ).loc main_arg0)
abbrev aM (c : Dev nD) : FVec Ideal S4096x5504 .f32 := m ((c : Thread nD τ).loc main_arg1)
abbrev aV (c : Dev nD) : FVec Ideal S4096x5504 .f32 := m ((c : Thread nD τ).loc main_arg2)
abbrev aS (c : Dev nD) : FVec Ideal S4x2x2048x5504 .bf16 := m ((c : Thread nD τ).loc main_arg3)
abbrev bW (c : Dev nD) (t : Fin cfg0.N) : FVec Ideal S64x5504 .f32 := iblk m c 0 t
abbrev bM (c : Dev nD) (t : Fin cfg0.N) : FVec Ideal S64x5504 .f32 := iblk m c 1 t
abbrev bV (c : Dev nD) (t : Fin cfg0.N) : FVec Ideal S64x5504 .f32 := iblk m c 2 t
abbrev bS (c : Dev nD) (t : Fin cfg0.N) : FVec Ideal S4x1x64x5504 .bf16 := iblk m c 3 t

theorem idx : ∀ t : Fin cfg0.N, win0_0.index t = ![t.val, 0] ∧ win0_1.index t = ![t.val, 0] ∧ win0_2.index t = ![t.val, 0]
    ∧ win0_3.index t = ![0, t.val / 32, t.val % 32, 0] ∧ win0_4.index t = ![t.val, 0] ∧ win0_5.index t = ![t.val, 0] ∧ win0_6.index t = ![t.val, 0] ∧ win0_7.index t = ![t.val, 0] ∧ t.val < 64 :=
  (by decide +kernel : ∀ t : Fin grid0.N, _)

/-- The gradient: the sum of the slots, one half of the rows after the other. -/
def G (S : FVec Ideal S4x2x2048x5504 .bf16) : FVec Ideal S4096x5504 .f32 := fun i =>
  s4 S ⟨(i 0).val / 2048, by have := (i 0).isLt; change (i 0).val < 4096 at this; omega⟩ ⟨(i 0).val % 2048, Nat.mod_lt _ (by decide)⟩ (i 1)

/-- The first moment, the second moment and the change of the weight. -/
def MN (M : FVec Ideal S4096x5504 .f32) (S : FVec Ideal S4x2x2048x5504 .bf16) : FVec Ideal S4096x5504 .f32 := fun i => mn (M i) (G S i)
def VN (V : FVec Ideal S4096x5504 .f32) (S : FVec Ideal S4x2x2048x5504 .bf16) : FVec Ideal S4096x5504 .f32 := fun i => vn (V i) (G S i)
def DL (W M V : FVec Ideal S4096x5504 .f32) (S : FVec Ideal S4x2x2048x5504 .bf16) : FVec Ideal S4096x5504 .f32 := fun i => dl (W i) (M i) (V i) (G S i)

/-- The place of a block's entry in the array. -/
abbrev up (t : Fin cfg0.N) (y : S64x5504.Idx) : S4096x5504.Idx :=
  ix2 ⟨t.val * 64 + (y 0).val, by have := (y 0).isLt; change (y 0).val < 64 at this; have := (idx t).2.2.2.2.2.2.2.2; omega⟩ ⟨(y 1).val, (y 1).isLt⟩

theorem atW (c : Dev nD) (t : Fin cfg0.N) (y : S64x5504.Idx) : bW m c t y = aW m c (up t y) := by blk_ext [up, aW, bW, iblk, idx t]
theorem atM (c : Dev nD) (t : Fin cfg0.N) (y : S64x5504.Idx) : bM m c t y = aM m c (up t y) := by blk_ext [up, aM, bM, iblk, idx t]
theorem atV (c : Dev nD) (t : Fin cfg0.N) (y : S64x5504.Idx) : bV m c t y = aV m c (up t y) := by blk_ext [up, aV, bV, iblk, idx t]

/-- The gradient of a block. -/
abbrev gb (s : FVec Ideal S4x1x64x5504 .bf16) : FVec Ideal S64x5504 .f32 :=
  k0_pay2 (F := Ideal) (View.ld s r0_0) (View.ld s r0_1) (View.ld s r0_2) (View.ld s r0_3)

theorem gb_at (s : FVec Ideal S4x1x64x5504 .bf16) (r : Fin 64) (l : Fin 5504) : gb s (ix2 r l) = s4 s 0 r l := by
  unfold s4
  pointwise [k0_pay2]

theorem gat (c : Dev nD) (t : Fin cfg0.N) (y : S64x5504.Idx) : gb (bS m c t) y = G (aS m c) (up t y) := by
  obtain ⟨r, l, rfl⟩ : ∃ (r : Fin 64) (l : Fin 5504), y = ix2 r l := ⟨y 0, y 1, eq_ix2 y⟩
  have ht : t.val < 64 := (idx t).2.2.2.2.2.2.2.2
  have e : ∀ k : Fin 4, bS m c t (ix4 k 0 r l) = aS m c (ix4 k ⟨(t.val * 64 + r.val) / 2048, by omega⟩ ⟨(t.val * 64 + r.val) % 2048, by omega⟩ l) := fun k => by
    blk_ext [aS, bS, iblk, idx t]
  rw [gb_at]
  unfold s4
  rw [e, e, e, e]
  rfl

theorem pay_dl (s : FVec Ideal S4x1x64x5504 .bf16) (w a b : FVec Ideal S64x5504 .f32) (y : S64x5504.Idx) :
    k0_pay1 (F := Ideal) w (k0_pay4 (F := Ideal) (View.ld s r0_0) (View.ld s r0_1) (View.ld s r0_2) (View.ld s r0_3) b) (k0_pay5 (F := Ideal) (View.ld s r0_0) (View.ld s r0_1) (View.ld s r0_2) (View.ld s r0_3) a) (Scalar.ofBits .f32 0x3C231ACC#32) y = dl (w y) (a y) (b y) (gb s y) := rfl
theorem pay_mn (s : FVec Ideal S4x1x64x5504 .bf16) (a : FVec Ideal S64x5504 .f32) (y : S64x5504.Idx) :
    k0_pay3 (F := Ideal) (View.ld s r0_0) (View.ld s r0_1) (View.ld s r0_2) (View.ld s r0_3) a y = mn (a y) (gb s y) := rfl
theorem pay_vn (s : FVec Ideal S4x1x64x5504 .bf16) (b : FVec Ideal S64x5504 .f32) (y : S64x5504.Idx) :
    k0_pay4 (F := Ideal) (View.ld s r0_0) (View.ld s r0_1) (View.ld s r0_2) (View.ld s r0_3) b y = vn (b y) (gb s y) := rfl

theorem final4 (c : Dev nD) : (dats m 0 c).arrAt 4 cfg0.N = G (aS m c) := by
  refine (dats m 0 c).arrAt_eq_of_covers 4 _ (by decide +kernel) fun t _ y => ?_
  blk_simp
  rw [after0_4]
  unfold_out out0_4
  frame_out
  have he : ((cfg0.win 4).blk t).view.emb y = up t y := by blk_ext [up, idx t]
  rw [he]
  exact gat m c t y

theorem final5 (c : Dev nD) : (dats m 0 c).arrAt 5 cfg0.N = DL (aW m c) (aM m c) (aV m c) (aS m c) := by
  refine (dats m 0 c).arrAt_eq_of_covers 5 _ (by decide +kernel) fun t _ y => ?_
  blk_simp
  rw [after0_5]
  unfold_out out0_5
  frame_out
  have he : ((cfg0.win 5).blk t).view.emb y = up t y := by blk_ext [up, idx t]
  rw [he]
  refine (pay_dl (bS m c t) (bW m c t) (bM m c t) (bV m c t) y).trans ?_
  rw [atW, atM, atV, gat m c t y]
  rfl

theorem final6 (c : Dev nD) : (dats m 0 c).arrAt 6 cfg0.N = MN (aM m c) (aS m c) := by
  refine (dats m 0 c).arrAt_eq_of_covers 6 _ (by decide +kernel) fun t _ y => ?_
  blk_simp
  rw [after0_6]
  unfold_out out0_6
  frame_out
  have he : ((cfg0.win 6).blk t).view.emb y = up t y := by blk_ext [up, idx t]
  rw [he]
  refine (pay_mn (bS m c t) (bM m c t) y).trans ?_
  rw [atM, gat m c t y]
  rfl

theorem final7 (c : Dev nD) : (dats m 0 c).arrAt 7 cfg0.N = VN (aV m c) (aS m c) := by
  refine (dats m 0 c).arrAt_eq_of_covers 7 _ (by decide +kernel) fun t _ y => ?_
  blk_simp
  rw [after0_7]
  unfold_out out0_7
  frame_out
  have he : ((cfg0.win 7).blk t).view.emb y = up t y := by blk_ext [up, idx t]
  rw [he]
  refine (pay_vn (bS m c t) (bV m c t) y).trans ?_
  rw [atV, gat m c t y]
  rfl

variable (ρ : Dev nD → PrngReg)

/-- Every execution ends with the results as named, the arguments as launched. -/
theorem run : θ_run defs (onTc (τ := τ) (main (F := Ideal))) ⟨m, fun _ => 0, ρ⟩ (fun r => ∀ c : Dev nD,
      r.2.mem ((c.tc : Thread nD τ).loc main_v0_0) = G (aS m c)
      ∧ r.2.mem ((c.tc : Thread nD τ).loc main_v0_1) = DL (aW m c) (aM m c) (aV m c) (aS m c)
      ∧ r.2.mem ((c.tc : Thread nD τ).loc main_v0_2) = MN (aM m c) (aS m c)
      ∧ r.2.mem ((c.tc : Thread nD τ).loc main_v0_3) = VN (aV m c) (aS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final4 m c), ((h.1 c).1 5).trans (final5 m c), ((h.1 c).1 6).trans (final6 m c), ((h.1 c).1 7).trans (final7 m c), h.2 c⟩) (θ_run_and (run_main m ρ) (unchanged m ρ))

end Cert.KernelAdamUpIdeal.Prod

namespace Cert.ReferenceAdamUpIdeal.Prod

open Cert.ReferenceAdamUpIdeal Cert.ReferenceAdamUpIdeal.Gen Cert.Adw
open Cert.KernelAdamUpIdeal.Prod (G MN VN DL)

theorem g_eq (S : FVec Ideal S4x2x2048x5504 .bf16) :
    (shapeCast _ (Host.reduceAdd (extf .f32 S bitsLt_bf16_f32) (constant S_ .f32 0x00000000#32) reducesTo_S4x2x2048x5504_S2x2048x5504_d0 h_S_) shapeCasts_S2x2048x5504_S4096x5504 : FVec Ideal S4096x5504 .f32) = G S := funext fun i => by
  obtain ⟨r, l, rfl⟩ : ∃ (r : Fin 4096) (l : Fin 5504), i = ix2 r l := ⟨i 0, i 1, eq_ix2 i⟩
  unfold G s4
  pointwise [Fin.sum_univ_four]

theorem dl_eq (W M V : FVec Ideal S4096x5504 .f32) (S : FVec Ideal S4x2x2048x5504 .bf16) :
    (mulf (broadcastInDim S4096x5504 ![] bcast_S_S4096x5504 (constant S_ .f32 0xBA83126F#32)) (addf (Host.divf (Host.divf (addf (mulf (broadcastInDim S4096x5504 ![] bcast_S_S4096x5504 (constant S_ .f32 0x3F666666#32)) M) (mulf (broadcastInDim S4096x5504 ![] bcast_S_S4096x5504 (constant S_ .f32 0x3DCCCCCD#32)) (shapeCast _ (Host.reduceAdd (extf .f32 S bitsLt_bf16_f32) (constant S_ .f32 0x00000000#32) reducesTo_S4x2x2048x5504_S2x2048x5504_d0 h_S_) shapeCasts_S2x2048x5504_S4096x5504))) (broadcastInDim S4096x5504 ![] bcast_S_S4096x5504 (constant S_ .f32 0x3F26BD02#32))) (addf (Host.sqrt (Host.divf (addf (mulf (broadcastInDim S4096x5504 ![] bcast_S_S4096x5504 (constant S_ .f32 0x3F7FBE77#32)) V) (mulf (broadcastInDim S4096x5504 ![] bcast_S_S4096x5504 (constant S_ .f32 0x3A83126F#32)) (mulf (shapeCast _ (Host.reduceAdd (extf .f32 S bitsLt_bf16_f32) (constant S_ .f32 0x00000000#32) reducesTo_S4x2x2048x5504_S2x2048x5504_d0 h_S_) shapeCasts_S2x2048x5504_S4096x5504) (shapeCast _ (Host.reduceAdd (extf .f32 S bitsLt_bf16_f32) (constant S_ .f32 0x00000000#32) reducesTo_S4x2x2048x5504_S2x2048x5504_d0 h_S_) shapeCasts_S2x2048x5504_S4096x5504)))) (broadcastInDim S4096x5504 ![] bcast_S_S4096x5504 (constant S_ .f32 0x3C231ACC#32)))) (broadcastInDim S4096x5504 ![] bcast_S_S4096x5504 (constant S_ .f32 0x322BCC77#32)))) (mulf (broadcastInDim S4096x5504 ![] bcast_S_S4096x5504 (constant S_ .f32 0x3C23D70A#32)) W)) : FVec Ideal S4096x5504 .f32) = DL W M V S := by
  rw [g_eq]
  rfl

theorem mn_eq (M : FVec Ideal S4096x5504 .f32) (S : FVec Ideal S4x2x2048x5504 .bf16) :
    (addf (mulf (broadcastInDim S4096x5504 ![] bcast_S_S4096x5504 (constant S_ .f32 0x3F666666#32)) M) (mulf (broadcastInDim S4096x5504 ![] bcast_S_S4096x5504 (constant S_ .f32 0x3DCCCCCD#32)) (shapeCast _ (Host.reduceAdd (extf .f32 S bitsLt_bf16_f32) (constant S_ .f32 0x00000000#32) reducesTo_S4x2x2048x5504_S2x2048x5504_d0 h_S_) shapeCasts_S2x2048x5504_S4096x5504)) : FVec Ideal S4096x5504 .f32) = MN M S := by
  rw [g_eq]
  rfl

theorem vn_eq (V : FVec Ideal S4096x5504 .f32) (S : FVec Ideal S4x2x2048x5504 .bf16) :
    (addf (mulf (broadcastInDim S4096x5504 ![] bcast_S_S4096x5504 (constant S_ .f32 0x3F7FBE77#32)) V) (mulf (broadcastInDim S4096x5504 ![] bcast_S_S4096x5504 (constant S_ .f32 0x3A83126F#32)) (mulf (shapeCast _ (Host.reduceAdd (extf .f32 S bitsLt_bf16_f32) (constant S_ .f32 0x00000000#32) reducesTo_S4x2x2048x5504_S2x2048x5504_d0 h_S_) shapeCasts_S2x2048x5504_S4096x5504) (shapeCast _ (Host.reduceAdd (extf .f32 S bitsLt_bf16_f32) (constant S_ .f32 0x00000000#32) reducesTo_S4x2x2048x5504_S2x2048x5504_d0 h_S_) shapeCasts_S2x2048x5504_S4096x5504))) : FVec Ideal S4096x5504 .f32) = VN V S := by
  rw [g_eq]
  rfl

end Cert.ReferenceAdamUpIdeal.Prod

namespace Cert.AdamUp

theorem frame_r (m : (ℓ : Loc Cert.ReferenceAdamUpIdeal.nD Cert.ReferenceAdamUpIdeal.τ Cert.ReferenceAdamUpIdeal.sig) → Buf (Elt Ideal) ℓ) (g : Dev Cert.ReferenceAdamUpIdeal.nD → PrngReg) :
    θ_run (Cert.ReferenceAdamUpIdeal.defs (F := Ideal)) (onTc (τ := Cert.ReferenceAdamUpIdeal.τ) (Cert.ReferenceAdamUpIdeal.main (F := Ideal))) ⟨m, fun _ => 0, g⟩ (fun r => (∀ c : Dev Cert.ReferenceAdamUpIdeal.nD,
      r.2.mem ((c.tc : Thread Cert.ReferenceAdamUpIdeal.nD Cert.ReferenceAdamUpIdeal.τ).loc Cert.ReferenceAdamUpIdeal.main_arg0) = m ((c.tc : Thread Cert.ReferenceAdamUpIdeal.nD Cert.ReferenceAdamUpIdeal.τ).loc Cert.ReferenceAdamUpIdeal.main_arg0)
      ∧ r.2.mem ((c.tc : Thread Cert.ReferenceAdamUpIdeal.nD Cert.ReferenceAdamUpIdeal.τ).loc Cert.ReferenceAdamUpIdeal.main_arg1) = m ((c.tc : Thread Cert.ReferenceAdamUpIdeal.nD Cert.ReferenceAdamUpIdeal.τ).loc Cert.ReferenceAdamUpIdeal.main_arg1)
      ∧ r.2.mem ((c.tc : Thread Cert.ReferenceAdamUpIdeal.nD Cert.ReferenceAdamUpIdeal.τ).loc Cert.ReferenceAdamUpIdeal.main_arg2) = m ((c.tc : Thread Cert.ReferenceAdamUpIdeal.nD Cert.ReferenceAdamUpIdeal.τ).loc Cert.ReferenceAdamUpIdeal.main_arg2)
      ∧ r.2.mem ((c.tc : Thread Cert.ReferenceAdamUpIdeal.nD Cert.ReferenceAdamUpIdeal.τ).loc Cert.ReferenceAdamUpIdeal.main_arg3) = m ((c.tc : Thread Cert.ReferenceAdamUpIdeal.nD Cert.ReferenceAdamUpIdeal.τ).loc Cert.ReferenceAdamUpIdeal.main_arg3))
      ∧ r.2.sem = fun _ => 0) :=
  (θ_run _ _ _).mono (fun r h => ⟨fun c => (h c).2.2.2.2, Idealize.ShloMosaic.sem_eq_zero_of_no_sems (by decide) r.2⟩) (Cert.ReferenceAdamUpIdeal.Value.run m g)

theorem value : Cert.algebraic_KernelAdamUpIdeal_ReferenceAdamUpIdeal := by
  intro m g m' g' _ hag
  refine ⟨_, _, _, _, Cert.KernelAdamUpIdeal.Prod.run m g, (θ_run _ _ _).mono (fun r h c => ?_) (Cert.ReferenceAdamUpIdeal.Value.run m' g')⟩
  obtain ⟨e0, e1, e2, e3, ea⟩ := h c
  rw [(hag c).1, (hag c).2.1, (hag c).2.2.1, (hag c).2.2.2] at e1
  rw [(hag c).2.2.2] at e0
  rw [(hag c).2.1, (hag c).2.2.2] at e2
  rw [(hag c).2.2.1, (hag c).2.2.2] at e3
  exact ⟨e0.trans (Cert.ReferenceAdamUpIdeal.Prod.g_eq _), e1.trans (Cert.ReferenceAdamUpIdeal.Prod.dl_eq _ _ _ _), e2.trans (Cert.ReferenceAdamUpIdeal.Prod.mn_eq _ _), e3.trans (Cert.ReferenceAdamUpIdeal.Prod.vn_eq _ _), ea⟩

end Cert.AdamUp

end
-- ==== Proof.AdamOut.lean ====
/- The optimiser's update of the output projection: the kernel's results are the reference's. -/
module

public import proofs.«01_k».proof.Defs
public import proofs.«01_k».proof.Proof.Adw
public import proofs.«01_k».proof.Proof.Gen.KernelAdamOutIdeal.Frame
public import proofs.«01_k».proof.Proof.Gen.ReferenceAdamOutIdeal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelAdamOutIdeal.Prod

open Cert.KernelAdamOutIdeal Cert.KernelAdamOutIdeal.Gen Cert.Adw

variable (m : (ℓ : Loc nD τ sig) → Buf (Elt Ideal) ℓ)

abbrev aW (c : Dev nD) : FVec Ideal S1024x4096 .f32 := m ((c : Thread nD τ).loc main_arg0)
abbrev aM (c : Dev nD) : FVec Ideal S1024x4096 .f32 := m ((c : Thread nD τ).loc main_arg1)
abbrev aV (c : Dev nD) : FVec Ideal S1024x4096 .f32 := m ((c : Thread nD τ).loc main_arg2)
abbrev aS (c : Dev nD) : FVec Ideal S4x2x1024x2048 .bf16 := m ((c : Thread nD τ).loc main_arg3)
abbrev bW (c : Dev nD) (t : Fin cfg0.N) : FVec Ideal S64x4096 .f32 := iblk m c 0 t
abbrev bM (c : Dev nD) (t : Fin cfg0.N) : FVec Ideal S64x4096 .f32 := iblk m c 1 t
abbrev bV (c : Dev nD) (t : Fin cfg0.N) : FVec Ideal S64x4096 .f32 := iblk m c 2 t
abbrev bS (c : Dev nD) (t : Fin cfg0.N) : FVec Ideal S4x2x64x2048 .bf16 := iblk m c 3 t

theorem idx : ∀ t : Fin cfg0.N, win0_0.index t = ![t.val, 0] ∧ win0_1.index t = ![t.val, 0] ∧ win0_2.index t = ![t.val, 0]
    ∧ win0_3.index t = ![0, 0, t.val, 0] ∧ win0_4.index t = ![t.val, 0] ∧ win0_5.index t = ![t.val, 0] ∧ win0_6.index t = ![t.val, 0] ∧ win0_7.index t = ![t.val, 0] ∧ t.val < 16 :=
  (by decide +kernel : ∀ t : Fin grid0.N, _)

/-- The gradient: the sum of the slots, the two halves of the columns side by side. -/
def G (S : FVec Ideal S4x2x1024x2048 .bf16) : FVec Ideal S1024x4096 .f32 := fun i =>
  if h : (i 1).val < 2048 then s4 S 0 (i 0) ⟨(i 1).val, h⟩ else s4 S 1 (i 0) ⟨(i 1).val - 2048, by have := (i 1).isLt; change (i 1).val < 4096 at this; omega⟩

/-- The first moment, the second moment and the change of the weight. -/
def MN (M : FVec Ideal S1024x4096 .f32) (S : FVec Ideal S4x2x1024x2048 .bf16) : FVec Ideal S1024x4096 .f32 := fun i => mn (M i) (G S i)
def VN (V : FVec Ideal S1024x4096 .f32) (S : FVec Ideal S4x2x1024x2048 .bf16) : FVec Ideal S1024x4096 .f32 := fun i => vn (V i) (G S i)
def DL (W M V : FVec Ideal S1024x4096 .f32) (S : FVec Ideal S4x2x1024x2048 .bf16) : FVec Ideal S1024x4096 .f32 := fun i => dl (W i) (M i) (V i) (G S i)

/-- The place of a block's entry in the array. -/
abbrev up (t : Fin cfg0.N) (y : S64x4096.Idx) : S1024x4096.Idx :=
  ix2 ⟨t.val * 64 + (y 0).val, by have := (y 0).isLt; change (y 0).val < 64 at this; have := (idx t).2.2.2.2.2.2.2.2; omega⟩ ⟨(y 1).val, (y 1).isLt⟩

theorem atW (c : Dev nD) (t : Fin cfg0.N) (y : S64x4096.Idx) : bW m c t y = aW m c (up t y) := by blk_ext [up, aW, bW, iblk, idx t]
theorem atM (c : Dev nD) (t : Fin cfg0.N) (y : S64x4096.Idx) : bM m c t y = aM m c (up t y) := by blk_ext [up, aM, bM, iblk, idx t]
theorem atV (c : Dev nD) (t : Fin cfg0.N) (y : S64x4096.Idx) : bV m c t y = aV m c (up t y) := by blk_ext [up, aV, bV, iblk, idx t]

/-- The gradient of a block. -/
abbrev gb (s : FVec Ideal S4x2x64x2048 .bf16) : FVec Ideal S64x4096 .f32 :=
  k0_pay3 (F := Ideal) (k0_pay1 (F := Ideal) (View.ld s r0_0) (View.ld s r0_1) (View.ld s r0_2) (View.ld s r0_3)) (k0_pay2 (F := Ideal) (View.ld s r0_4) (View.ld s r0_5) (View.ld s r0_6)) (View.ld s r0_7)

theorem gb_at (s : FVec Ideal S4x2x64x2048 .bf16) (r : Fin 64) (l : Fin 4096) :
    gb s (ix2 r l) = if h : l.val < 2048 then s4 s 0 r ⟨l.val, h⟩ else s4 s 1 r ⟨l.val - 2048, by omega⟩ := by
  unfold s4
  pointwise [k0_pay3, k0_pay1, k0_pay2]

theorem sat (c : Dev nD) (t : Fin cfg0.N) (h : Fin 2) (r : Fin 64) (q : Fin 2048) (R : Fin 1024) (hR : R.val = t.val * 64 + r.val) :
    s4 (bS m c t) h r q = s4 (aS m c) h R q := by
  have e : ∀ k : Fin 4, bS m c t (ix4 k h r q) = aS m c (ix4 k h R q) := fun k => by blk_ext [aS, bS, iblk, idx t]
  unfold s4
  rw [e, e, e, e]

theorem gat (c : Dev nD) (t : Fin cfg0.N) (y : S64x4096.Idx) : gb (bS m c t) y = G (aS m c) (up t y) := by
  obtain ⟨r, l, rfl⟩ : ∃ (r : Fin 64) (l : Fin 4096), y = ix2 r l := ⟨y 0, y 1, eq_ix2 y⟩
  rw [gb_at]
  by_cases h : l.val < 2048
  · rw [dif_pos h]
    refine (sat m c t 0 r ⟨l.val, h⟩ (up t (ix2 r l) 0) rfl).trans ?_
    unfold G
    rw [dif_pos (show ((up t (ix2 r l)) 1).val < 2048 from h)] <;> rfl
  · rw [dif_neg h]
    refine (sat m c t 1 r ⟨l.val - 2048, by omega⟩ (up t (ix2 r l) 0) rfl).trans ?_
    unfold G
    rw [dif_neg (show ¬ ((up t (ix2 r l)) 1).val < 2048 from h)] <;> rfl

theorem pay_dl (s : FVec Ideal S4x2x64x2048 .bf16) (w a b : FVec Ideal S64x4096 .f32) (y : S64x4096.Idx) :
    k0_pay6 (F := Ideal) (k0_pay1 (F := Ideal) (View.ld s r0_0) (View.ld s r0_1) (View.ld s r0_2) (View.ld s r0_3)) (k0_pay2 (F := Ideal) (View.ld s r0_4) (View.ld s r0_5) (View.ld s r0_6)) (View.ld s r0_7) w a b y = dl (w y) (a y) (b y) (gb s y) := rfl
theorem pay_mn (s : FVec Ideal S4x2x64x2048 .bf16) (a : FVec Ideal S64x4096 .f32) (y : S64x4096.Idx) :
    k0_pay4 (F := Ideal) (k0_pay1 (F := Ideal) (View.ld s r0_0) (View.ld s r0_1) (View.ld s r0_2) (View.ld s r0_3)) (k0_pay2 (F := Ideal) (View.ld s r0_4) (View.ld s r0_5) (View.ld s r0_6)) (View.ld s r0_7) a y = mn (a y) (gb s y) := rfl
theorem pay_vn (s : FVec Ideal S4x2x64x2048 .bf16) (b : FVec Ideal S64x4096 .f32) (y : S64x4096.Idx) :
    k0_pay5 (F := Ideal) (k0_pay1 (F := Ideal) (View.ld s r0_0) (View.ld s r0_1) (View.ld s r0_2) (View.ld s r0_3)) (k0_pay2 (F := Ideal) (View.ld s r0_4) (View.ld s r0_5) (View.ld s r0_6)) (View.ld s r0_7) b y = vn (b y) (gb s y) := rfl

theorem final4 (c : Dev nD) : (dats m 0 c).arrAt 4 cfg0.N = G (aS m c) := by
  refine (dats m 0 c).arrAt_eq_of_covers 4 _ (by decide +kernel) fun t _ y => ?_
  blk_simp
  rw [after0_4]
  unfold_out out0_4
  frame_out
  have he : ((cfg0.win 4).blk t).view.emb y = up t y := by blk_ext [up, idx t]
  rw [he]
  exact gat m c t y

theorem final5 (c : Dev nD) : (dats m 0 c).arrAt 5 cfg0.N = DL (aW m c) (aM m c) (aV m c) (aS m c) := by
  refine (dats m 0 c).arrAt_eq_of_covers 5 _ (by decide +kernel) fun t _ y => ?_
  blk_simp
  rw [after0_5]
  unfold_out out0_5
  frame_out
  have he : ((cfg0.win 5).blk t).view.emb y = up t y := by blk_ext [up, idx t]
  rw [he]
  refine (pay_dl (bS m c t) (bW m c t) (bM m c t) (bV m c t) y).trans ?_
  rw [atW, atM, atV, gat m c t y]
  rfl

theorem final6 (c : Dev nD) : (dats m 0 c).arrAt 6 cfg0.N = MN (aM m c) (aS m c) := by
  refine (dats m 0 c).arrAt_eq_of_covers 6 _ (by decide +kernel) fun t _ y => ?_
  blk_simp
  rw [after0_6]
  unfold_out out0_6
  frame_out
  have he : ((cfg0.win 6).blk t).view.emb y = up t y := by blk_ext [up, idx t]
  rw [he]
  refine (pay_mn (bS m c t) (bM m c t) y).trans ?_
  rw [atM, gat m c t y]
  rfl

theorem final7 (c : Dev nD) : (dats m 0 c).arrAt 7 cfg0.N = VN (aV m c) (aS m c) := by
  refine (dats m 0 c).arrAt_eq_of_covers 7 _ (by decide +kernel) fun t _ y => ?_
  blk_simp
  rw [after0_7]
  unfold_out out0_7
  frame_out
  have he : ((cfg0.win 7).blk t).view.emb y = up t y := by blk_ext [up, idx t]
  rw [he]
  refine (pay_vn (bS m c t) (bV m c t) y).trans ?_
  rw [atV, gat m c t y]
  rfl

variable (ρ : Dev nD → PrngReg)

/-- Every execution ends with the results as named, the arguments as launched. -/
theorem run : θ_run defs (onTc (τ := τ) (main (F := Ideal))) ⟨m, fun _ => 0, ρ⟩ (fun r => ∀ c : Dev nD,
      r.2.mem ((c.tc : Thread nD τ).loc main_v0_0) = G (aS m c)
      ∧ r.2.mem ((c.tc : Thread nD τ).loc main_v0_1) = DL (aW m c) (aM m c) (aV m c) (aS m c)
      ∧ r.2.mem ((c.tc : Thread nD τ).loc main_v0_2) = MN (aM m c) (aS m c)
      ∧ r.2.mem ((c.tc : Thread nD τ).loc main_v0_3) = VN (aV m c) (aS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final4 m c), ((h.1 c).1 5).trans (final5 m c), ((h.1 c).1 6).trans (final6 m c), ((h.1 c).1 7).trans (final7 m c), h.2 c⟩) (θ_run_and (run_main m ρ) (unchanged m ρ))

end Cert.KernelAdamOutIdeal.Prod

namespace Cert.ReferenceAdamOutIdeal.Prod

open Cert.ReferenceAdamOutIdeal Cert.ReferenceAdamOutIdeal.Gen Cert.Adw
open Cert.KernelAdamOutIdeal.Prod (G MN VN DL)

theorem g_eq (S : FVec Ideal S4x2x1024x2048 .bf16) :
    (concatenate S1024x4096 1 [⟨S1024x2048, (shapeCast _ (extractStridedSlice S1x1024x2048 ![0, 0, 0] (Host.reduceAdd (extf .f32 S bitsLt_bf16_f32) (constant S_ .f32 0x00000000#32) reducesTo_S4x2x1024x2048_S2x1024x2048_d0 h_S_) slices_S2x1024x2048_S1x1024x2048_0_0_0) shapeCasts_S1x1024x2048_S1024x2048)⟩, ⟨S1024x2048, (shapeCast _ (extractStridedSlice S1x1024x2048 ![1, 0, 0] (Host.reduceAdd (extf .f32 S bitsLt_bf16_f32) (constant S_ .f32 0x00000000#32) reducesTo_S4x2x1024x2048_S2x1024x2048_d0 h_S_) slices_S2x1024x2048_S1x1024x2048_1_0_0) shapeCasts_S1x1024x2048_S1024x2048)⟩] concatenates_S1024x2048_S1024x2048_S1024x4096_d1 : FVec Ideal S1024x4096 .f32) = G S := funext fun i => by
  obtain ⟨r, l, rfl⟩ : ∃ (r : Fin 1024) (l : Fin 4096), i = ix2 r l := ⟨i 0, i 1, eq_ix2 i⟩
  unfold G s4
  pointwise [Fin.sum_univ_four]

theorem dl_eq (W M V : FVec Ideal S1024x4096 .f32) (S : FVec Ideal S4x2x1024x2048 .bf16) :
    (mulf (broadcastInDim S1024x4096 ![] bcast_S_S1024x4096 (constant S_ .f32 0xBA83126F#32)) (addf (Host.divf (Host.divf (addf (mulf (broadcastInDim S1024x4096 ![] bcast_S_S1024x4096 (constant S_ .f32 0x3F666666#32)) M) (mulf (broadcastInDim S1024x4096 ![] bcast_S_S1024x4096 (constant S_ .f32 0x3DCCCCCD#32)) (concatenate S1024x4096 1 [⟨S1024x2048, (shapeCast _ (extractStridedSlice S1x1024x2048 ![0, 0, 0] (Host.reduceAdd (extf .f32 S bitsLt_bf16_f32) (constant S_ .f32 0x00000000#32) reducesTo_S4x2x1024x2048_S2x1024x2048_d0 h_S_) slices_S2x1024x2048_S1x1024x2048_0_0_0) shapeCasts_S1x1024x2048_S1024x2048)⟩, ⟨S1024x2048, (shapeCast _ (extractStridedSlice S1x1024x2048 ![1, 0, 0] (Host.reduceAdd (extf .f32 S bitsLt_bf16_f32) (constant S_ .f32 0x00000000#32) reducesTo_S4x2x1024x2048_S2x1024x2048_d0 h_S_) slices_S2x1024x2048_S1x1024x2048_1_0_0) shapeCasts_S1x1024x2048_S1024x2048)⟩] concatenates_S1024x2048_S1024x2048_S1024x4096_d1))) (broadcastInDim S1024x4096 ![] bcast_S_S1024x4096 (constant S_ .f32 0x3F26BD02#32))) (addf (Host.sqrt (Host.divf (addf (mulf (broadcastInDim S1024x4096 ![] bcast_S_S1024x4096 (constant S_ .f32 0x3F7FBE77#32)) V) (mulf (broadcastInDim S1024x4096 ![] bcast_S_S1024x4096 (constant S_ .f32 0x3A83126F#32)) (mulf (concatenate S1024x4096 1 [⟨S1024x2048, (shapeCast _ (extractStridedSlice S1x1024x2048 ![0, 0, 0] (Host.reduceAdd (extf .f32 S bitsLt_bf16_f32) (constant S_ .f32 0x00000000#32) reducesTo_S4x2x1024x2048_S2x1024x2048_d0 h_S_) slices_S2x1024x2048_S1x1024x2048_0_0_0) shapeCasts_S1x1024x2048_S1024x2048)⟩, ⟨S1024x2048, (shapeCast _ (extractStridedSlice S1x1024x2048 ![1, 0, 0] (Host.reduceAdd (extf .f32 S bitsLt_bf16_f32) (constant S_ .f32 0x00000000#32) reducesTo_S4x2x1024x2048_S2x1024x2048_d0 h_S_) slices_S2x1024x2048_S1x1024x2048_1_0_0) shapeCasts_S1x1024x2048_S1024x2048)⟩] concatenates_S1024x2048_S1024x2048_S1024x4096_d1) (concatenate S1024x4096 1 [⟨S1024x2048, (shapeCast _ (extractStridedSlice S1x1024x2048 ![0, 0, 0] (Host.reduceAdd (extf .f32 S bitsLt_bf16_f32) (constant S_ .f32 0x00000000#32) reducesTo_S4x2x1024x2048_S2x1024x2048_d0 h_S_) slices_S2x1024x2048_S1x1024x2048_0_0_0) shapeCasts_S1x1024x2048_S1024x2048)⟩, ⟨S1024x2048, (shapeCast _ (extractStridedSlice S1x1024x2048 ![1, 0, 0] (Host.reduceAdd (extf .f32 S bitsLt_bf16_f32) (constant S_ .f32 0x00000000#32) reducesTo_S4x2x1024x2048_S2x1024x2048_d0 h_S_) slices_S2x1024x2048_S1x1024x2048_1_0_0) shapeCasts_S1x1024x2048_S1024x2048)⟩] concatenates_S1024x2048_S1024x2048_S1024x4096_d1)))) (broadcastInDim S1024x4096 ![] bcast_S_S1024x4096 (constant S_ .f32 0x3C231ACC#32)))) (broadcastInDim S1024x4096 ![] bcast_S_S1024x4096 (constant S_ .f32 0x322BCC77#32)))) (mulf (broadcastInDim S1024x4096 ![] bcast_S_S1024x4096 (constant S_ .f32 0x3C23D70A#32)) W)) : FVec Ideal S1024x4096 .f32) = DL W M V S := by
  rw [g_eq]
  rfl

theorem mn_eq (M : FVec Ideal S1024x4096 .f32) (S : FVec Ideal S4x2x1024x2048 .bf16) :
    (addf (mulf (broadcastInDim S1024x4096 ![] bcast_S_S1024x4096 (constant S_ .f32 0x3F666666#32)) M) (mulf (broadcastInDim S1024x4096 ![] bcast_S_S1024x4096 (constant S_ .f32 0x3DCCCCCD#32)) (concatenate S1024x4096 1 [⟨S1024x2048, (shapeCast _ (extractStridedSlice S1x1024x2048 ![0, 0, 0] (Host.reduceAdd (extf .f32 S bitsLt_bf16_f32) (constant S_ .f32 0x00000000#32) reducesTo_S4x2x1024x2048_S2x1024x2048_d0 h_S_) slices_S2x1024x2048_S1x1024x2048_0_0_0) shapeCasts_S1x1024x2048_S1024x2048)⟩, ⟨S1024x2048, (shapeCast _ (extractStridedSlice S1x1024x2048 ![1, 0, 0] (Host.reduceAdd (extf .f32 S bitsLt_bf16_f32) (constant S_ .f32 0x00000000#32) reducesTo_S4x2x1024x2048_S2x1024x2048_d0 h_S_) slices_S2x1024x2048_S1x1024x2048_1_0_0) shapeCasts_S1x1024x2048_S1024x2048)⟩] concatenates_S1024x2048_S1024x2048_S1024x4096_d1)) : FVec Ideal S1024x4096 .f32) = MN M S := by
  rw [g_eq]
  rfl

theorem vn_eq (V : FVec Ideal S1024x4096 .f32) (S : FVec Ideal S4x2x1024x2048 .bf16) :
    (addf (mulf (broadcastInDim S1024x4096 ![] bcast_S_S1024x4096 (constant S_ .f32 0x3F7FBE77#32)) V) (mulf (broadcastInDim S1024x4096 ![] bcast_S_S1024x4096 (constant S_ .f32 0x3A83126F#32)) (mulf (concatenate S1024x4096 1 [⟨S1024x2048, (shapeCast _ (extractStridedSlice S1x1024x2048 ![0, 0, 0] (Host.reduceAdd (extf .f32 S bitsLt_bf16_f32) (constant S_ .f32 0x00000000#32) reducesTo_S4x2x1024x2048_S2x1024x2048_d0 h_S_) slices_S2x1024x2048_S1x1024x2048_0_0_0) shapeCasts_S1x1024x2048_S1024x2048)⟩, ⟨S1024x2048, (shapeCast _ (extractStridedSlice S1x1024x2048 ![1, 0, 0] (Host.reduceAdd (extf .f32 S bitsLt_bf16_f32) (constant S_ .f32 0x00000000#32) reducesTo_S4x2x1024x2048_S2x1024x2048_d0 h_S_) slices_S2x1024x2048_S1x1024x2048_1_0_0) shapeCasts_S1x1024x2048_S1024x2048)⟩] concatenates_S1024x2048_S1024x2048_S1024x4096_d1) (concatenate S1024x4096 1 [⟨S1024x2048, (shapeCast _ (extractStridedSlice S1x1024x2048 ![0, 0, 0] (Host.reduceAdd (extf .f32 S bitsLt_bf16_f32) (constant S_ .f32 0x00000000#32) reducesTo_S4x2x1024x2048_S2x1024x2048_d0 h_S_) slices_S2x1024x2048_S1x1024x2048_0_0_0) shapeCasts_S1x1024x2048_S1024x2048)⟩, ⟨S1024x2048, (shapeCast _ (extractStridedSlice S1x1024x2048 ![1, 0, 0] (Host.reduceAdd (extf .f32 S bitsLt_bf16_f32) (constant S_ .f32 0x00000000#32) reducesTo_S4x2x1024x2048_S2x1024x2048_d0 h_S_) slices_S2x1024x2048_S1x1024x2048_1_0_0) shapeCasts_S1x1024x2048_S1024x2048)⟩] concatenates_S1024x2048_S1024x2048_S1024x4096_d1))) : FVec Ideal S1024x4096 .f32) = VN V S := by
  rw [g_eq]
  rfl

end Cert.ReferenceAdamOutIdeal.Prod

namespace Cert.AdamOut

theorem frame_r (m : (ℓ : Loc Cert.ReferenceAdamOutIdeal.nD Cert.ReferenceAdamOutIdeal.τ Cert.ReferenceAdamOutIdeal.sig) → Buf (Elt Ideal) ℓ) (g : Dev Cert.ReferenceAdamOutIdeal.nD → PrngReg) :
    θ_run (Cert.ReferenceAdamOutIdeal.defs (F := Ideal)) (onTc (τ := Cert.ReferenceAdamOutIdeal.τ) (Cert.ReferenceAdamOutIdeal.main (F := Ideal))) ⟨m, fun _ => 0, g⟩ (fun r => (∀ c : Dev Cert.ReferenceAdamOutIdeal.nD,
      r.2.mem ((c.tc : Thread Cert.ReferenceAdamOutIdeal.nD Cert.ReferenceAdamOutIdeal.τ).loc Cert.ReferenceAdamOutIdeal.main_arg0) = m ((c.tc : Thread Cert.ReferenceAdamOutIdeal.nD Cert.ReferenceAdamOutIdeal.τ).loc Cert.ReferenceAdamOutIdeal.main_arg0)
      ∧ r.2.mem ((c.tc : Thread Cert.ReferenceAdamOutIdeal.nD Cert.ReferenceAdamOutIdeal.τ).loc Cert.ReferenceAdamOutIdeal.main_arg1) = m ((c.tc : Thread Cert.ReferenceAdamOutIdeal.nD Cert.ReferenceAdamOutIdeal.τ).loc Cert.ReferenceAdamOutIdeal.main_arg1)
      ∧ r.2.mem ((c.tc : Thread Cert.ReferenceAdamOutIdeal.nD Cert.ReferenceAdamOutIdeal.τ).loc Cert.ReferenceAdamOutIdeal.main_arg2) = m ((c.tc : Thread Cert.ReferenceAdamOutIdeal.nD Cert.ReferenceAdamOutIdeal.τ).loc Cert.ReferenceAdamOutIdeal.main_arg2)
      ∧ r.2.mem ((c.tc : Thread Cert.ReferenceAdamOutIdeal.nD Cert.ReferenceAdamOutIdeal.τ).loc Cert.ReferenceAdamOutIdeal.main_arg3) = m ((c.tc : Thread Cert.ReferenceAdamOutIdeal.nD Cert.ReferenceAdamOutIdeal.τ).loc Cert.ReferenceAdamOutIdeal.main_arg3))
      ∧ r.2.sem = fun _ => 0) :=
  (θ_run _ _ _).mono (fun r h => ⟨fun c => (h c).2.2.2.2, Idealize.ShloMosaic.sem_eq_zero_of_no_sems (by decide) r.2⟩) (Cert.ReferenceAdamOutIdeal.Value.run m g)

theorem value : Cert.algebraic_KernelAdamOutIdeal_ReferenceAdamOutIdeal := by
  intro m g m' g' _ hag
  refine ⟨_, _, _, _, Cert.KernelAdamOutIdeal.Prod.run m g, (θ_run _ _ _).mono (fun r h c => ?_) (Cert.ReferenceAdamOutIdeal.Value.run m' g')⟩
  obtain ⟨e0, e1, e2, e3, ea⟩ := h c
  rw [(hag c).1, (hag c).2.1, (hag c).2.2.1, (hag c).2.2.2] at e1
  rw [(hag c).2.2.2] at e0
  rw [(hag c).2.1, (hag c).2.2.2] at e2
  rw [(hag c).2.2.1, (hag c).2.2.2] at e3
  exact ⟨e0.trans (Cert.ReferenceAdamOutIdeal.Prod.g_eq _), e1.trans (Cert.ReferenceAdamOutIdeal.Prod.dl_eq _ _ _ _), e2.trans (Cert.ReferenceAdamOutIdeal.Prod.mn_eq _ _), e3.trans (Cert.ReferenceAdamOutIdeal.Prod.vn_eq _ _), ea⟩

end Cert.AdamOut

end
-- ==== Proof.AdamDown.lean ====
/- The optimiser's update of the down-projection: the kernel's results are the reference's. -/
module

public import proofs.«01_k».proof.Defs
public import proofs.«01_k».proof.Proof.Adw
public import proofs.«01_k».proof.Proof.Gen.KernelAdamDownIdeal.Frame
public import proofs.«01_k».proof.Proof.Gen.ReferenceAdamDownIdeal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelAdamDownIdeal.Prod

open Cert.KernelAdamDownIdeal Cert.KernelAdamDownIdeal.Gen Cert.Adw

variable (m : (ℓ : Loc nD τ sig) → Buf (Elt Ideal) ℓ)

abbrev aW (c : Dev nD) : FVec Ideal S2752x4096 .f32 := m ((c : Thread nD τ).loc main_arg0)
abbrev aM (c : Dev nD) : FVec Ideal S2752x4096 .f32 := m ((c : Thread nD τ).loc main_arg1)
abbrev aV (c : Dev nD) : FVec Ideal S2752x4096 .f32 := m ((c : Thread nD τ).loc main_arg2)
abbrev aS (c : Dev nD) : FVec Ideal S4x2x2752x2048 .bf16 := m ((c : Thread nD τ).loc main_arg3)
abbrev bW (c : Dev nD) (t : Fin cfg0.N) : FVec Ideal S64x4096 .f32 := iblk m c 0 t
abbrev bM (c : Dev nD) (t : Fin cfg0.N) : FVec Ideal S64x4096 .f32 := iblk m c 1 t
abbrev bV (c : Dev nD) (t : Fin cfg0.N) : FVec Ideal S64x4096 .f32 := iblk m c 2 t
abbrev bS (c : Dev nD) (t : Fin cfg0.N) : FVec Ideal S4x2x64x2048 .bf16 := iblk m c 3 t

theorem idx : ∀ t : Fin cfg0.N, win0_0.index t = ![t.val, 0] ∧ win0_1.index t = ![t.val, 0] ∧ win0_2.index t = ![t.val, 0]
    ∧ win0_3.index t = ![0, 0, t.val, 0] ∧ win0_4.index t = ![t.val, 0] ∧ win0_5.index t = ![t.val, 0] ∧ win0_6.index t = ![t.val, 0] ∧ win0_7.index t = ![t.val, 0] ∧ t.val < 43 :=
  (by decide +kernel : ∀ t : Fin grid0.N, _)

/-- The gradient: the sum of the slots, the two halves of the columns side by side. -/
def G (S : FVec Ideal S4x2x2752x2048 .bf16) : FVec Ideal S2752x4096 .f32 := fun i =>
  if h : (i 1).val < 2048 then s4 S 0 (i 0) ⟨(i 1).val, h⟩ else s4 S 1 (i 0) ⟨(i 1).val - 2048, by have := (i 1).isLt; change (i 1).val < 4096 at this; omega⟩

/-- The first moment, the second moment and the change of the weight. -/
def MN (M : FVec Ideal S2752x4096 .f32) (S : FVec Ideal S4x2x2752x2048 .bf16) : FVec Ideal S2752x4096 .f32 := fun i => mn (M i) (G S i)
def VN (V : FVec Ideal S2752x4096 .f32) (S : FVec Ideal S4x2x2752x2048 .bf16) : FVec Ideal S2752x4096 .f32 := fun i => vn (V i) (G S i)
def DL (W M V : FVec Ideal S2752x4096 .f32) (S : FVec Ideal S4x2x2752x2048 .bf16) : FVec Ideal S2752x4096 .f32 := fun i => dl (W i) (M i) (V i) (G S i)

/-- The place of a block's entry in the array. -/
abbrev up (t : Fin cfg0.N) (y : S64x4096.Idx) : S2752x4096.Idx :=
  ix2 ⟨t.val * 64 + (y 0).val, by have := (y 0).isLt; change (y 0).val < 64 at this; have := (idx t).2.2.2.2.2.2.2.2; omega⟩ ⟨(y 1).val, (y 1).isLt⟩

theorem atW (c : Dev nD) (t : Fin cfg0.N) (y : S64x4096.Idx) : bW m c t y = aW m c (up t y) := by blk_ext [up, aW, bW, iblk, idx t]
theorem atM (c : Dev nD) (t : Fin cfg0.N) (y : S64x4096.Idx) : bM m c t y = aM m c (up t y) := by blk_ext [up, aM, bM, iblk, idx t]
theorem atV (c : Dev nD) (t : Fin cfg0.N) (y : S64x4096.Idx) : bV m c t y = aV m c (up t y) := by blk_ext [up, aV, bV, iblk, idx t]

/-- The gradient of a block. -/
abbrev gb (s : FVec Ideal S4x2x64x2048 .bf16) : FVec Ideal S64x4096 .f32 :=
  k0_pay3 (F := Ideal) (k0_pay1 (F := Ideal) (View.ld s r0_0) (View.ld s r0_1) (View.ld s r0_2) (View.ld s r0_3)) (k0_pay2 (F := Ideal) (View.ld s r0_4) (View.ld s r0_5) (View.ld s r0_6)) (View.ld s r0_7)

theorem gb_at (s : FVec Ideal S4x2x64x2048 .bf16) (r : Fin 64) (l : Fin 4096) :
    gb s (ix2 r l) = if h : l.val < 2048 then s4 s 0 r ⟨l.val, h⟩ else s4 s 1 r ⟨l.val - 2048, by omega⟩ := by
  unfold s4
  pointwise [k0_pay3, k0_pay1, k0_pay2]

theorem sat (c : Dev nD) (t : Fin cfg0.N) (h : Fin 2) (r : Fin 64) (q : Fin 2048) (R : Fin 2752) (hR : R.val = t.val * 64 + r.val) :
    s4 (bS m c t) h r q = s4 (aS m c) h R q := by
  have e : ∀ k : Fin 4, bS m c t (ix4 k h r q) = aS m c (ix4 k h R q) := fun k => by blk_ext [aS, bS, iblk, idx t]
  unfold s4
  rw [e, e, e, e]

theorem gat (c : Dev nD) (t : Fin cfg0.N) (y : S64x4096.Idx) : gb (bS m c t) y = G (aS m c) (up t y) := by
  obtain ⟨r, l, rfl⟩ : ∃ (r : Fin 64) (l : Fin 4096), y = ix2 r l := ⟨y 0, y 1, eq_ix2 y⟩
  rw [gb_at]
  by_cases h : l.val < 2048
  · rw [dif_pos h]
    refine (sat m c t 0 r ⟨l.val, h⟩ (up t (ix2 r l) 0) rfl).trans ?_
    unfold G
    rw [dif_pos (show ((up t (ix2 r l)) 1).val < 2048 from h)] <;> rfl
  · rw [dif_neg h]
    refine (sat m c t 1 r ⟨l.val - 2048, by omega⟩ (up t (ix2 r l) 0) rfl).trans ?_
    unfold G
    rw [dif_neg (show ¬ ((up t (ix2 r l)) 1).val < 2048 from h)] <;> rfl

theorem pay_dl (s : FVec Ideal S4x2x64x2048 .bf16) (w a b : FVec Ideal S64x4096 .f32) (y : S64x4096.Idx) :
    k0_pay6 (F := Ideal) (k0_pay1 (F := Ideal) (View.ld s r0_0) (View.ld s r0_1) (View.ld s r0_2) (View.ld s r0_3)) (k0_pay2 (F := Ideal) (View.ld s r0_4) (View.ld s r0_5) (View.ld s r0_6)) (View.ld s r0_7) w a b y = dl (w y) (a y) (b y) (gb s y) := rfl
theorem pay_mn (s : FVec Ideal S4x2x64x2048 .bf16) (a : FVec Ideal S64x4096 .f32) (y : S64x4096.Idx) :
    k0_pay4 (F := Ideal) (k0_pay1 (F := Ideal) (View.ld s r0_0) (View.ld s r0_1) (View.ld s r0_2) (View.ld s r0_3)) (k0_pay2 (F := Ideal) (View.ld s r0_4) (View.ld s r0_5) (View.ld s r0_6)) (View.ld s r0_7) a y = mn (a y) (gb s y) := rfl
theorem pay_vn (s : FVec Ideal S4x2x64x2048 .bf16) (b : FVec Ideal S64x4096 .f32) (y : S64x4096.Idx) :
    k0_pay5 (F := Ideal) (k0_pay1 (F := Ideal) (View.ld s r0_0) (View.ld s r0_1) (View.ld s r0_2) (View.ld s r0_3)) (k0_pay2 (F := Ideal) (View.ld s r0_4) (View.ld s r0_5) (View.ld s r0_6)) (View.ld s r0_7) b y = vn (b y) (gb s y) := rfl

theorem final4 (c : Dev nD) : (dats m 0 c).arrAt 4 cfg0.N = G (aS m c) := by
  refine (dats m 0 c).arrAt_eq_of_covers 4 _ (by decide +kernel) fun t _ y => ?_
  blk_simp
  rw [after0_4]
  unfold_out out0_4
  frame_out
  have he : ((cfg0.win 4).blk t).view.emb y = up t y := by blk_ext [up, idx t]
  rw [he]
  exact gat m c t y

theorem final5 (c : Dev nD) : (dats m 0 c).arrAt 5 cfg0.N = DL (aW m c) (aM m c) (aV m c) (aS m c) := by
  refine (dats m 0 c).arrAt_eq_of_covers 5 _ (by decide +kernel) fun t _ y => ?_
  blk_simp
  rw [after0_5]
  unfold_out out0_5
  frame_out
  have he : ((cfg0.win 5).blk t).view.emb y = up t y := by blk_ext [up, idx t]
  rw [he]
  refine (pay_dl (bS m c t) (bW m c t) (bM m c t) (bV m c t) y).trans ?_
  rw [atW, atM, atV, gat m c t y]
  rfl

theorem final6 (c : Dev nD) : (dats m 0 c).arrAt 6 cfg0.N = MN (aM m c) (aS m c) := by
  refine (dats m 0 c).arrAt_eq_of_covers 6 _ (by decide +kernel) fun t _ y => ?_
  blk_simp
  rw [after0_6]
  unfold_out out0_6
  frame_out
  have he : ((cfg0.win 6).blk t).view.emb y = up t y := by blk_ext [up, idx t]
  rw [he]
  refine (pay_mn (bS m c t) (bM m c t) y).trans ?_
  rw [atM, gat m c t y]
  rfl

theorem final7 (c : Dev nD) : (dats m 0 c).arrAt 7 cfg0.N = VN (aV m c) (aS m c) := by
  refine (dats m 0 c).arrAt_eq_of_covers 7 _ (by decide +kernel) fun t _ y => ?_
  blk_simp
  rw [after0_7]
  unfold_out out0_7
  frame_out
  have he : ((cfg0.win 7).blk t).view.emb y = up t y := by blk_ext [up, idx t]
  rw [he]
  refine (pay_vn (bS m c t) (bV m c t) y).trans ?_
  rw [atV, gat m c t y]
  rfl

variable (ρ : Dev nD → PrngReg)

/-- Every execution ends with the results as named, the arguments as launched. -/
theorem run : θ_run defs (onTc (τ := τ) (main (F := Ideal))) ⟨m, fun _ => 0, ρ⟩ (fun r => ∀ c : Dev nD,
      r.2.mem ((c.tc : Thread nD τ).loc main_v0_0) = G (aS m c)
      ∧ r.2.mem ((c.tc : Thread nD τ).loc main_v0_1) = DL (aW m c) (aM m c) (aV m c) (aS m c)
      ∧ r.2.mem ((c.tc : Thread nD τ).loc main_v0_2) = MN (aM m c) (aS m c)
      ∧ r.2.mem ((c.tc : Thread nD τ).loc main_v0_3) = VN (aV m c) (aS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final4 m c), ((h.1 c).1 5).trans (final5 m c), ((h.1 c).1 6).trans (final6 m c), ((h.1 c).1 7).trans (final7 m c), h.2 c⟩) (θ_run_and (run_main m ρ) (unchanged m ρ))

end Cert.KernelAdamDownIdeal.Prod

namespace Cert.ReferenceAdamDownIdeal.Prod

open Cert.ReferenceAdamDownIdeal Cert.ReferenceAdamDownIdeal.Gen Cert.Adw
open Cert.KernelAdamDownIdeal.Prod (G MN VN DL)

theorem g_eq (S : FVec Ideal S4x2x2752x2048 .bf16) :
    (concatenate S2752x4096 1 [⟨S2752x2048, (shapeCast _ (extractStridedSlice S1x2752x2048 ![0, 0, 0] (Host.reduceAdd (extf .f32 S bitsLt_bf16_f32) (constant S_ .f32 0x00000000#32) reducesTo_S4x2x2752x2048_S2x2752x2048_d0 h_S_) slices_S2x2752x2048_S1x2752x2048_0_0_0) shapeCasts_S1x2752x2048_S2752x2048)⟩, ⟨S2752x2048, (shapeCast _ (extractStridedSlice S1x2752x2048 ![1, 0, 0] (Host.reduceAdd (extf .f32 S bitsLt_bf16_f32) (constant S_ .f32 0x00000000#32) reducesTo_S4x2x2752x2048_S2x2752x2048_d0 h_S_) slices_S2x2752x2048_S1x2752x2048_1_0_0) shapeCasts_S1x2752x2048_S2752x2048)⟩] concatenates_S2752x2048_S2752x2048_S2752x4096_d1 : FVec Ideal S2752x4096 .f32) = G S := funext fun i => by
  obtain ⟨r, l, rfl⟩ : ∃ (r : Fin 2752) (l : Fin 4096), i = ix2 r l := ⟨i 0, i 1, eq_ix2 i⟩
  unfold G s4
  pointwise [Fin.sum_univ_four]

theorem dl_eq (W M V : FVec Ideal S2752x4096 .f32) (S : FVec Ideal S4x2x2752x2048 .bf16) :
    (mulf (broadcastInDim S2752x4096 ![] bcast_S_S2752x4096 (constant S_ .f32 0xBA83126F#32)) (addf (Host.divf (Host.divf (addf (mulf (broadcastInDim S2752x4096 ![] bcast_S_S2752x4096 (constant S_ .f32 0x3F666666#32)) M) (mulf (broadcastInDim S2752x4096 ![] bcast_S_S2752x4096 (constant S_ .f32 0x3DCCCCCD#32)) (concatenate S2752x4096 1 [⟨S2752x2048, (shapeCast _ (extractStridedSlice S1x2752x2048 ![0, 0, 0] (Host.reduceAdd (extf .f32 S bitsLt_bf16_f32) (constant S_ .f32 0x00000000#32) reducesTo_S4x2x2752x2048_S2x2752x2048_d0 h_S_) slices_S2x2752x2048_S1x2752x2048_0_0_0) shapeCasts_S1x2752x2048_S2752x2048)⟩, ⟨S2752x2048, (shapeCast _ (extractStridedSlice S1x2752x2048 ![1, 0, 0] (Host.reduceAdd (extf .f32 S bitsLt_bf16_f32) (constant S_ .f32 0x00000000#32) reducesTo_S4x2x2752x2048_S2x2752x2048_d0 h_S_) slices_S2x2752x2048_S1x2752x2048_1_0_0) shapeCasts_S1x2752x2048_S2752x2048)⟩] concatenates_S2752x2048_S2752x2048_S2752x4096_d1))) (broadcastInDim S2752x4096 ![] bcast_S_S2752x4096 (constant S_ .f32 0x3F26BD02#32))) (addf (Host.sqrt (Host.divf (addf (mulf (broadcastInDim S2752x4096 ![] bcast_S_S2752x4096 (constant S_ .f32 0x3F7FBE77#32)) V) (mulf (broadcastInDim S2752x4096 ![] bcast_S_S2752x4096 (constant S_ .f32 0x3A83126F#32)) (mulf (concatenate S2752x4096 1 [⟨S2752x2048, (shapeCast _ (extractStridedSlice S1x2752x2048 ![0, 0, 0] (Host.reduceAdd (extf .f32 S bitsLt_bf16_f32) (constant S_ .f32 0x00000000#32) reducesTo_S4x2x2752x2048_S2x2752x2048_d0 h_S_) slices_S2x2752x2048_S1x2752x2048_0_0_0) shapeCasts_S1x2752x2048_S2752x2048)⟩, ⟨S2752x2048, (shapeCast _ (extractStridedSlice S1x2752x2048 ![1, 0, 0] (Host.reduceAdd (extf .f32 S bitsLt_bf16_f32) (constant S_ .f32 0x00000000#32) reducesTo_S4x2x2752x2048_S2x2752x2048_d0 h_S_) slices_S2x2752x2048_S1x2752x2048_1_0_0) shapeCasts_S1x2752x2048_S2752x2048)⟩] concatenates_S2752x2048_S2752x2048_S2752x4096_d1) (concatenate S2752x4096 1 [⟨S2752x2048, (shapeCast _ (extractStridedSlice S1x2752x2048 ![0, 0, 0] (Host.reduceAdd (extf .f32 S bitsLt_bf16_f32) (constant S_ .f32 0x00000000#32) reducesTo_S4x2x2752x2048_S2x2752x2048_d0 h_S_) slices_S2x2752x2048_S1x2752x2048_0_0_0) shapeCasts_S1x2752x2048_S2752x2048)⟩, ⟨S2752x2048, (shapeCast _ (extractStridedSlice S1x2752x2048 ![1, 0, 0] (Host.reduceAdd (extf .f32 S bitsLt_bf16_f32) (constant S_ .f32 0x00000000#32) reducesTo_S4x2x2752x2048_S2x2752x2048_d0 h_S_) slices_S2x2752x2048_S1x2752x2048_1_0_0) shapeCasts_S1x2752x2048_S2752x2048)⟩] concatenates_S2752x2048_S2752x2048_S2752x4096_d1)))) (broadcastInDim S2752x4096 ![] bcast_S_S2752x4096 (constant S_ .f32 0x3C231ACC#32)))) (broadcastInDim S2752x4096 ![] bcast_S_S2752x4096 (constant S_ .f32 0x322BCC77#32)))) (mulf (broadcastInDim S2752x4096 ![] bcast_S_S2752x4096 (constant S_ .f32 0x3C23D70A#32)) W)) : FVec Ideal S2752x4096 .f32) = DL W M V S := by
  rw [g_eq]
  rfl

theorem mn_eq (M : FVec Ideal S2752x4096 .f32) (S : FVec Ideal S4x2x2752x2048 .bf16) :
    (addf (mulf (broadcastInDim S2752x4096 ![] bcast_S_S2752x4096 (constant S_ .f32 0x3F666666#32)) M) (mulf (broadcastInDim S2752x4096 ![] bcast_S_S2752x4096 (constant S_ .f32 0x3DCCCCCD#32)) (concatenate S2752x4096 1 [⟨S2752x2048, (shapeCast _ (extractStridedSlice S1x2752x2048 ![0, 0, 0] (Host.reduceAdd (extf .f32 S bitsLt_bf16_f32) (constant S_ .f32 0x00000000#32) reducesTo_S4x2x2752x2048_S2x2752x2048_d0 h_S_) slices_S2x2752x2048_S1x2752x2048_0_0_0) shapeCasts_S1x2752x2048_S2752x2048)⟩, ⟨S2752x2048, (shapeCast _ (extractStridedSlice S1x2752x2048 ![1, 0, 0] (Host.reduceAdd (extf .f32 S bitsLt_bf16_f32) (constant S_ .f32 0x00000000#32) reducesTo_S4x2x2752x2048_S2x2752x2048_d0 h_S_) slices_S2x2752x2048_S1x2752x2048_1_0_0) shapeCasts_S1x2752x2048_S2752x2048)⟩] concatenates_S2752x2048_S2752x2048_S2752x4096_d1)) : FVec Ideal S2752x4096 .f32) = MN M S := by
  rw [g_eq]
  rfl

theorem vn_eq (V : FVec Ideal S2752x4096 .f32) (S : FVec Ideal S4x2x2752x2048 .bf16) :
    (addf (mulf (broadcastInDim S2752x4096 ![] bcast_S_S2752x4096 (constant S_ .f32 0x3F7FBE77#32)) V) (mulf (broadcastInDim S2752x4096 ![] bcast_S_S2752x4096 (constant S_ .f32 0x3A83126F#32)) (mulf (concatenate S2752x4096 1 [⟨S2752x2048, (shapeCast _ (extractStridedSlice S1x2752x2048 ![0, 0, 0] (Host.reduceAdd (extf .f32 S bitsLt_bf16_f32) (constant S_ .f32 0x00000000#32) reducesTo_S4x2x2752x2048_S2x2752x2048_d0 h_S_) slices_S2x2752x2048_S1x2752x2048_0_0_0) shapeCasts_S1x2752x2048_S2752x2048)⟩, ⟨S2752x2048, (shapeCast _ (extractStridedSlice S1x2752x2048 ![1, 0, 0] (Host.reduceAdd (extf .f32 S bitsLt_bf16_f32) (constant S_ .f32 0x00000000#32) reducesTo_S4x2x2752x2048_S2x2752x2048_d0 h_S_) slices_S2x2752x2048_S1x2752x2048_1_0_0) shapeCasts_S1x2752x2048_S2752x2048)⟩] concatenates_S2752x2048_S2752x2048_S2752x4096_d1) (concatenate S2752x4096 1 [⟨S2752x2048, (shapeCast _ (extractStridedSlice S1x2752x2048 ![0, 0, 0] (Host.reduceAdd (extf .f32 S bitsLt_bf16_f32) (constant S_ .f32 0x00000000#32) reducesTo_S4x2x2752x2048_S2x2752x2048_d0 h_S_) slices_S2x2752x2048_S1x2752x2048_0_0_0) shapeCasts_S1x2752x2048_S2752x2048)⟩, ⟨S2752x2048, (shapeCast _ (extractStridedSlice S1x2752x2048 ![1, 0, 0] (Host.reduceAdd (extf .f32 S bitsLt_bf16_f32) (constant S_ .f32 0x00000000#32) reducesTo_S4x2x2752x2048_S2x2752x2048_d0 h_S_) slices_S2x2752x2048_S1x2752x2048_1_0_0) shapeCasts_S1x2752x2048_S2752x2048)⟩] concatenates_S2752x2048_S2752x2048_S2752x4096_d1))) : FVec Ideal S2752x4096 .f32) = VN V S := by
  rw [g_eq]
  rfl

end Cert.ReferenceAdamDownIdeal.Prod

namespace Cert.AdamDown

theorem frame_r (m : (ℓ : Loc Cert.ReferenceAdamDownIdeal.nD Cert.ReferenceAdamDownIdeal.τ Cert.ReferenceAdamDownIdeal.sig) → Buf (Elt Ideal) ℓ) (g : Dev Cert.ReferenceAdamDownIdeal.nD → PrngReg) :
    θ_run (Cert.ReferenceAdamDownIdeal.defs (F := Ideal)) (onTc (τ := Cert.ReferenceAdamDownIdeal.τ) (Cert.ReferenceAdamDownIdeal.main (F := Ideal))) ⟨m, fun _ => 0, g⟩ (fun r => (∀ c : Dev Cert.ReferenceAdamDownIdeal.nD,
      r.2.mem ((c.tc : Thread Cert.ReferenceAdamDownIdeal.nD Cert.ReferenceAdamDownIdeal.τ).loc Cert.ReferenceAdamDownIdeal.main_arg0) = m ((c.tc : Thread Cert.ReferenceAdamDownIdeal.nD Cert.ReferenceAdamDownIdeal.τ).loc Cert.ReferenceAdamDownIdeal.main_arg0)
      ∧ r.2.mem ((c.tc : Thread Cert.ReferenceAdamDownIdeal.nD Cert.ReferenceAdamDownIdeal.τ).loc Cert.ReferenceAdamDownIdeal.main_arg1) = m ((c.tc : Thread Cert.ReferenceAdamDownIdeal.nD Cert.ReferenceAdamDownIdeal.τ).loc Cert.ReferenceAdamDownIdeal.main_arg1)
      ∧ r.2.mem ((c.tc : Thread Cert.ReferenceAdamDownIdeal.nD Cert.ReferenceAdamDownIdeal.τ).loc Cert.ReferenceAdamDownIdeal.main_arg2) = m ((c.tc : Thread Cert.ReferenceAdamDownIdeal.nD Cert.ReferenceAdamDownIdeal.τ).loc Cert.ReferenceAdamDownIdeal.main_arg2)
      ∧ r.2.mem ((c.tc : Thread Cert.ReferenceAdamDownIdeal.nD Cert.ReferenceAdamDownIdeal.τ).loc Cert.ReferenceAdamDownIdeal.main_arg3) = m ((c.tc : Thread Cert.ReferenceAdamDownIdeal.nD Cert.ReferenceAdamDownIdeal.τ).loc Cert.ReferenceAdamDownIdeal.main_arg3))
      ∧ r.2.sem = fun _ => 0) :=
  (θ_run _ _ _).mono (fun r h => ⟨fun c => (h c).2.2.2.2, Idealize.ShloMosaic.sem_eq_zero_of_no_sems (by decide) r.2⟩) (Cert.ReferenceAdamDownIdeal.Value.run m g)

theorem value : Cert.algebraic_KernelAdamDownIdeal_ReferenceAdamDownIdeal := by
  intro m g m' g' _ hag
  refine ⟨_, _, _, _, Cert.KernelAdamDownIdeal.Prod.run m g, (θ_run _ _ _).mono (fun r h c => ?_) (Cert.ReferenceAdamDownIdeal.Value.run m' g')⟩
  obtain ⟨e0, e1, e2, e3, ea⟩ := h c
  rw [(hag c).1, (hag c).2.1, (hag c).2.2.1, (hag c).2.2.2] at e1
  rw [(hag c).2.2.2] at e0
  rw [(hag c).2.1, (hag c).2.2.2] at e2
  rw [(hag c).2.2.1, (hag c).2.2.2] at e3
  exact ⟨e0.trans (Cert.ReferenceAdamDownIdeal.Prod.g_eq _), e1.trans (Cert.ReferenceAdamDownIdeal.Prod.dl_eq _ _ _ _), e2.trans (Cert.ReferenceAdamDownIdeal.Prod.mn_eq _ _), e3.trans (Cert.ReferenceAdamDownIdeal.Prod.vn_eq _ _), ea⟩

end Cert.AdamDown

end
-- ==== Proof.AdamSmall.lean ====
/- The optimiser's update of the small weights: the kernel's results are the reference's. -/
module

public import proofs.«01_k».proof.Defs
public import proofs.«01_k».proof.Proof.Adw
public import proofs.«01_k».proof.Proof.Gen.KernelAdamSmallIdeal.Frame
public import proofs.«01_k».proof.Proof.Gen.ReferenceAdamSmallIdeal.Run
public import Idealize.ShloMosaic.Lib.Pipeline.ValueKit
public import Idealize.ShloMosaic.Lib.Pipeline.ReadBack
public import Idealize.ShloMosaic.Lib.Quiescent
public import Idealize.ShloMosaic.Lib.UnfoldOut

@[expose] public section

set_option maxRecDepth 16384

noncomputable section

open Idealize.ShloMosaic Idealize.ShloMosaic.TcCoe Idealize.SL.Sem
open Idealize.ShloMosaic.Pipeline (Dat)

namespace Cert.KernelAdamSmallIdeal.Prod

open Cert.KernelAdamSmallIdeal Cert.KernelAdamSmallIdeal.Gen Cert.Adw

variable (m : (ℓ : Loc nD τ sig) → Buf (Elt Ideal) ℓ)

abbrev aW (c : Dev nD) : FVec Ideal S4640x128 .f32 := m ((c : Thread nD τ).loc main_arg0)
abbrev aG (c : Dev nD) : FVec Ideal S4640x128 .f32 := m ((c : Thread nD τ).loc main_arg1)
abbrev aM (c : Dev nD) : FVec Ideal S4640x128 .f32 := m ((c : Thread nD τ).loc main_arg2)
abbrev aV (c : Dev nD) : FVec Ideal S4640x128 .f32 := m ((c : Thread nD τ).loc main_arg3)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The change of the weights and the two moments. -/
def DL (W G M V : FVec Ideal S4640x128 .f32) : FVec Ideal S4640x128 .f32 := fun i => dl (W i) (M i) (V i) (G i)
def MN (G M : FVec Ideal S4640x128 .f32) : FVec Ideal S4640x128 .f32 := fun i => mn (M i) (G i)
def VN (G V : FVec Ideal S4640x128 .f32) : FVec Ideal S4640x128 .f32 := fun i => vn (V i) (G i)

theorem blkW (c : Dev nD) (t : Fin cfg0.N) : (iblk m c 0 t : FVec Ideal S4640x128 .f32) = aW m c := funext fun y => by blk_ext [aW, iblk, idx t]
theorem blkG (c : Dev nD) (t : Fin cfg0.N) : (iblk m c 1 t : FVec Ideal S4640x128 .f32) = aG m c := funext fun y => by blk_ext [aG, iblk, idx t]
theorem blkM (c : Dev nD) (t : Fin cfg0.N) : (iblk m c 2 t : FVec Ideal S4640x128 .f32) = aM m c := funext fun y => by blk_ext [aM, iblk, idx t]
theorem blkV (c : Dev nD) (t : Fin cfg0.N) : (iblk m c 3 t : FVec Ideal S4640x128 .f32) = aV m c := funext fun y => by blk_ext [aV, iblk, idx t]

theorem pay_dl (w g a b : FVec Ideal S4640x128 .f32) : k0_pay3 (F := Ideal) w g a b = DL w g a b := rfl
theorem pay_mn (g a : FVec Ideal S4640x128 .f32) : k0_pay1 (F := Ideal) g a = MN g a := rfl
theorem pay_vn (g b : FVec Ideal S4640x128 .f32) : k0_pay2 (F := Ideal) g b = VN g b := rfl

theorem final4 (c : Dev nD) : (dats m 0 c).arrAt 4 cfg0.N = DL (aW m c) (aG m c) (aM m c) (aV m c) := by
  refine (dats m 0 c).arrAt_eq_of_covers 4 _ (by decide +kernel) fun t _ y => ?_
  blk_simp
  rw [after0_4]
  unfold out0_4
  frame_out
  have he : ((cfg0.win 4).blk t).view.emb y = y := by blk_ext [idx t]
  rw [he]
  refine (congrFun (pay_dl (iblk m c 0 t) (iblk m c 1 t) (iblk m c 2 t) (iblk m c 3 t)) y).trans ?_
  rw [blkW, blkG, blkM, blkV]

theorem final5 (c : Dev nD) : (dats m 0 c).arrAt 5 cfg0.N = MN (aG m c) (aM m c) := by
  refine (dats m 0 c).arrAt_eq_of_covers 5 _ (by decide +kernel) fun t _ y => ?_
  blk_simp
  rw [after0_5]
  unfold out0_5
  frame_out
  have he : ((cfg0.win 5).blk t).view.emb y = y := by blk_ext [idx t]
  rw [he]
  refine (congrFun (pay_mn (iblk m c 1 t) (iblk m c 2 t)) y).trans ?_
  rw [blkG, blkM]

theorem final6 (c : Dev nD) : (dats m 0 c).arrAt 6 cfg0.N = VN (aG m c) (aV m c) := by
  refine (dats m 0 c).arrAt_eq_of_covers 6 _ (by decide +kernel) fun t _ y => ?_
  blk_simp
  rw [after0_6]
  unfold out0_6
  frame_out
  have he : ((cfg0.win 6).blk t).view.emb y = y := by blk_ext [idx t]
  rw [he]
  refine (congrFun (pay_vn (iblk m c 1 t) (iblk m c 3 t)) y).trans ?_
  rw [blkG, blkV]

variable (ρ : Dev nD → PrngReg)

/-- Every execution ends with the results as named, the arguments as launched. -/
theorem run : θ_run defs (onTc (τ := τ) (main (F := Ideal))) ⟨m, fun _ => 0, ρ⟩ (fun r => ∀ c : Dev nD,
      r.2.mem ((c.tc : Thread nD τ).loc main_v0_0) = DL (aW m c) (aG m c) (aM m c) (aV m c)
      ∧ r.2.mem ((c.tc : Thread nD τ).loc main_v0_1) = MN (aG m c) (aM m c)
      ∧ r.2.mem ((c.tc : Thread nD τ).loc main_v0_2) = VN (aG m c) (aV m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final4 m c), ((h.1 c).1 5).trans (final5 m c), ((h.1 c).1 6).trans (final6 m c), h.2 c⟩) (θ_run_and (run_main m ρ) (unchanged m ρ))

end Cert.KernelAdamSmallIdeal.Prod

namespace Cert.ReferenceAdamSmallIdeal.Prod

open Cert.ReferenceAdamSmallIdeal Cert.ReferenceAdamSmallIdeal.Gen Cert.Adw
open Cert.KernelAdamSmallIdeal.Prod (MN VN DL)

theorem dl_eq (W G M V : FVec Ideal S4640x128 .f32) : (mulf (broadcastInDim S4640x128 ![] bcast_S_S4640x128 (constant S_ .f32 0xBA83126F#32)) (addf (Host.divf (Host.divf (addf (mulf (broadcastInDim S4640x128 ![] bcast_S_S4640x128 (constant S_ .f32 0x3F666666#32)) M) (mulf (broadcastInDim S4640x128 ![] bcast_S_S4640x128 (constant S_ .f32 0x3DCCCCCD#32)) G)) (broadcastInDim S4640x128 ![] bcast_S_S4640x128 (constant S_ .f32 0x3F26BD02#32))) (addf (Host.sqrt (Host.divf (addf (mulf (broadcastInDim S4640x128 ![] bcast_S_S4640x128 (constant S_ .f32 0x3F7FBE77#32)) V) (mulf (broadcastInDim S4640x128 ![] bcast_S_S4640x128 (constant S_ .f32 0x3A83126F#32)) (mulf G G))) (broadcastInDim S4640x128 ![] bcast_S_S4640x128 (constant S_ .f32 0x3C231ACC#32)))) (broadcastInDim S4640x128 ![] bcast_S_S4640x128 (constant S_ .f32 0x322BCC77#32)))) (mulf (broadcastInDim S4640x128 ![] bcast_S_S4640x128 (constant S_ .f32 0x3C23D70A#32)) W)) : FVec Ideal S4640x128 .f32) = DL W G M V := rfl
theorem mn_eq (G M : FVec Ideal S4640x128 .f32) : (addf (mulf (broadcastInDim S4640x128 ![] bcast_S_S4640x128 (constant S_ .f32 0x3F666666#32)) M) (mulf (broadcastInDim S4640x128 ![] bcast_S_S4640x128 (constant S_ .f32 0x3DCCCCCD#32)) G) : FVec Ideal S4640x128 .f32) = MN G M := rfl
theorem vn_eq (G V : FVec Ideal S4640x128 .f32) : (addf (mulf (broadcastInDim S4640x128 ![] bcast_S_S4640x128 (constant S_ .f32 0x3F7FBE77#32)) V) (mulf (broadcastInDim S4640x128 ![] bcast_S_S4640x128 (constant S_ .f32 0x3A83126F#32)) (mulf G G)) : FVec Ideal S4640x128 .f32) = VN G V := rfl

end Cert.ReferenceAdamSmallIdeal.Prod

namespace Cert.AdamSmall

theorem frame_r (m : (ℓ : Loc Cert.ReferenceAdamSmallIdeal.nD Cert.ReferenceAdamSmallIdeal.τ Cert.ReferenceAdamSmallIdeal.sig) → Buf (Elt Ideal) ℓ) (g : Dev Cert.ReferenceAdamSmallIdeal.nD → PrngReg) :
    θ_run (Cert.ReferenceAdamSmallIdeal.defs (F := Ideal)) (onTc (τ := Cert.ReferenceAdamSmallIdeal.τ) (Cert.ReferenceAdamSmallIdeal.main (F := Ideal))) ⟨m, fun _ => 0, g⟩ (fun r => (∀ c : Dev Cert.ReferenceAdamSmallIdeal.nD,
      r.2.mem ((c.tc : Thread Cert.ReferenceAdamSmallIdeal.nD Cert.ReferenceAdamSmallIdeal.τ).loc Cert.ReferenceAdamSmallIdeal.main_arg0) = m ((c.tc : Thread Cert.ReferenceAdamSmallIdeal.nD Cert.ReferenceAdamSmallIdeal.τ).loc Cert.ReferenceAdamSmallIdeal.main_arg0)
      ∧ r.2.mem ((c.tc : Thread Cert.ReferenceAdamSmallIdeal.nD Cert.ReferenceAdamSmallIdeal.τ).loc Cert.ReferenceAdamSmallIdeal.main_arg1) = m ((c.tc : Thread Cert.ReferenceAdamSmallIdeal.nD Cert.ReferenceAdamSmallIdeal.τ).loc Cert.ReferenceAdamSmallIdeal.main_arg1)
      ∧ r.2.mem ((c.tc : Thread Cert.ReferenceAdamSmallIdeal.nD Cert.ReferenceAdamSmallIdeal.τ).loc Cert.ReferenceAdamSmallIdeal.main_arg2) = m ((c.tc : Thread Cert.ReferenceAdamSmallIdeal.nD Cert.ReferenceAdamSmallIdeal.τ).loc Cert.ReferenceAdamSmallIdeal.main_arg2)
      ∧ r.2.mem ((c.tc : Thread Cert.ReferenceAdamSmallIdeal.nD Cert.ReferenceAdamSmallIdeal.τ).loc Cert.ReferenceAdamSmallIdeal.main_arg3) = m ((c.tc : Thread Cert.ReferenceAdamSmallIdeal.nD Cert.ReferenceAdamSmallIdeal.τ).loc Cert.ReferenceAdamSmallIdeal.main_arg3))
      ∧ r.2.sem = fun _ => 0) :=
  (θ_run _ _ _).mono (fun r h => ⟨fun c => (h c).2.2.2, Idealize.ShloMosaic.sem_eq_zero_of_no_sems (by decide) r.2⟩) (Cert.ReferenceAdamSmallIdeal.Value.run m g)

theorem value : Cert.algebraic_KernelAdamSmallIdeal_ReferenceAdamSmallIdeal := by
  intro m g m' g' _ hag
  refine ⟨_, _, _, Cert.KernelAdamSmallIdeal.Prod.run m g, (θ_run _ _ _).mono (fun r h c => ?_) (Cert.ReferenceAdamSmallIdeal.Value.run m' g')⟩
  obtain ⟨e0, e1, e2, ea⟩ := h c
  rw [(hag c).1, (hag c).2.1, (hag c).2.2.1, (hag c).2.2.2] at e0
  rw [(hag c).2.1, (hag c).2.2.1] at e1
  rw [(hag c).2.1, (hag c).2.2.2] at e2
  exact ⟨e0.trans (Cert.ReferenceAdamSmallIdeal.Prod.dl_eq _ _ _ _), e1.trans (Cert.ReferenceAdamSmallIdeal.Prod.mn_eq _ _), e2.trans (Cert.ReferenceAdamSmallIdeal.Prod.vn_eq _ _), ea⟩

end Cert.AdamSmall

end
-- ==== Proof.CastIn.lean ====
/- The weight put into its own part of the gathered array: the array the kernel leaves, block by block, is the weight, and so is the reference's. -/
module

public import proofs.«01_k».proof.Defs
public import proofs.«01_k».proof.Proof.Gen.KernelCastIn.Frame
public import proofs.«01_k».proof.Proof.Gen.KernelCastInIdeal.Frame
public import proofs.«01_k».proof.Proof.Gen.ReferenceCastInIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.KernelCastIn.Prod

open Cert.KernelCastIn Cert.KernelCastIn.Gen

/-- The table holds the constant word it is made of. -/
theorem tbl_eq (m : (ℓ : Loc nD τ sig) → Buf (Elt Bits) ℓ) : tbl m 0 = fun _ => 0#32 := by
  unfold tbl V V0
  simp only [hostOps0, List.flatten_cons, List.flatten_nil, List.append_nil, List.cons_append, List.nil_append]
  rfl

/-- The block index of window 2, which reads the table. -/
theorem tr2 (m : (ℓ : Loc nD τ sig) → Buf (Elt Bits) ℓ) (i : grid0.Coords) : cc0_transform_2 Gen.facts₀.inb_S1_S1_0 Gen.facts₀.numel1_S1 (tbl m) i = ![(BitVec.ofNat 32 (i 0).val).toNat, (0#32 : BitVec 32).toNat] := by
  unfold cc0_transform_2 Pipeline.Prefetch.Contents.at
  simp only [tbl_eq]
  done

theorem ok_blocks2 : ∀ i : grid0.Coords, ∃ h : (∀ a, ((![(BitVec.ofNat 32 (i 0).val).toNat, (0#32 : BitVec 32).toNat] : Fin 2 → ℕ) a + 1) * S256x3072.size a ≤ S4096x12288.size a),
    EltTy.bits .bf16 = 32 ∨ (Rect.block (s := S4096x12288) S256x3072.size ![(BitVec.ofNat 32 (i 0).val).toNat, (0#32 : BitVec 32).toNat] h).WholeWords (EltTy.packing .bf16) := by
  decide +kernel

/-- Every block the table names lies inside its array. -/
theorem ok (m : (ℓ : Loc nD τ sig) → Buf (Elt Bits) ℓ) : Ok m := by
  unfold Ok ok0
  simp only [tr2]
  exact ok_blocks2

end Cert.KernelCastIn.Prod

namespace Cert.KernelCastInIdeal.Prod

open Cert.KernelCastInIdeal Cert.KernelCastInIdeal.Gen

/-- The table holds the constant word it is made of. -/
theorem tbl_eq (m : (ℓ : Loc nD τ sig) → Buf (Elt Ideal) ℓ) : tbl m 0 = fun _ => 0#32 := by
  unfold tbl V V0
  simp only [hostOps0, List.flatten_cons, List.flatten_nil, List.append_nil, List.cons_append, List.nil_append]
  rfl

/-- The block index of window 2, which reads the table. -/
theorem tr2 (m : (ℓ : Loc nD τ sig) → Buf (Elt Ideal) ℓ) (i : grid0.Coords) : cc0_transform_2 Gen.facts₀.inb_S1_S1_0 Gen.facts₀.numel1_S1 (tbl m) i = ![(BitVec.ofNat 32 (i 0).val).toNat, (0#32 : BitVec 32).toNat] := by
  unfold cc0_transform_2 Pipeline.Prefetch.Contents.at
  simp only [tbl_eq]
  done

theorem ok_blocks2 : ∀ i : grid0.Coords, ∃ h : (∀ a, ((![(BitVec.ofNat 32 (i 0).val).toNat, (0#32 : BitVec 32).toNat] : Fin 2 → ℕ) a + 1) * S256x3072.size a ≤ S4096x12288.size a),
    EltTy.bits .bf16 = 32 ∨ (Rect.block (s := S4096x12288) S256x3072.size ![(BitVec.ofNat 32 (i 0).val).toNat, (0#32 : BitVec 32).toNat] h).WholeWords (EltTy.packing .bf16) := by
  decide +kernel

/-- Every block the table names lies inside its array. -/
theorem ok (m : (ℓ : Loc nD τ sig) → Buf (Elt Ideal) ℓ) : Ok m := by
  unfold Ok ok0
  simp only [tr2]
  exact ok_blocks2

end Cert.KernelCastInIdeal.Prod

namespace Cert.KernelCastInIdeal.Prod

open Cert.KernelCastInIdeal Cert.KernelCastInIdeal.Gen

variable (m : (ℓ : Loc nD τ sig) → Buf (Elt Ideal) ℓ) (hO : Ok m)

theorem idx_grid : ∀ t : Fin grid0.N, cc0_transform_0 (grid0.coords t) = ![t.val, 0]
    ∧ ![(BitVec.ofNat 32 (grid0.coords t 0).val).toNat, (0#32 : BitVec 32).toNat] = ![t.val, 0] ∧ cc0_transform_3 (grid0.coords t) = ![t.val, 0] ∧ t.val < 16 := by
  decide +kernel

theorem idx (t : Fin (cfgM m hO).N) : ((cfgM m hO).win 0).index t = ![t.val, 0]
    ∧ ((cfgM m hO).win 1).index t = ![t.val, 0] ∧ ((cfgM m hO).win 2).index t = ![t.val, 0] ∧ t.val < 16 := by
  have h := idx_grid t
  rw [← tr2 m (grid0.coords t)] at h
  exact h

theorem surj : ∀ x : Fin 16, ∃ t : Fin grid0.N, t.val = x.val := by
  decide +kernel

/-- The blocks written are those of the device's own part. -/
theorem covers : ((cfgM m hO).win 1).CoversWhere (fun β => β (1 : Fin 2) < 1) :=
  ⟨show ∀ a : Fin 2, 0 < S256x3072.size a by decide,
   fun t _ => ⟨by
      obtain ⟨h0, hw, ha, ht⟩ := idx m hO t
      rw [hw]
      change 0 < 1
      omega, fun a => ((cfgM m hO).win 1).xsize_eq_or_end rfl _ a⟩,
   fun β hβ => by
      obtain ⟨t, ht0⟩ := surj ⟨(β (0 : Fin 2)).val, lt_of_lt_of_eq (β (0 : Fin 2)).isLt (show (4096 + 256 - 1) / 256 = 16 by decide)⟩
      obtain ⟨h0, hw, ha, ht⟩ := idx m hO t
      obtain ⟨s, -, hf, hs⟩ := ((cfgM m hO).win 1).exists_flush_same_index rfl t
      refine ⟨s, fun (a : Fin 2) => ?_, hf⟩
      rw [hs, hw]
      match a with
      | 0 => exact ht0
      | 1 =>
        have h1 : (β (1 : Fin 2)).val < 1 := hβ
        change 0 = (β (1 : Fin 2)).val
        omega⟩

/-- What one point leaves at a block's entry. -/
def part (a : Vec Ideal S256x3072 .f32) (y : S256x3072.Idx) : EReal := a y

theorem last_at (c : Dev nD) (t : Fin (cfgM m hO).N) (y : S256x3072.Idx) :
    (dats m hO 0 c).after 1 t y = part (iblk m hO c 0 t) y := by
  rw [after0_1]
  unfold outsAt0
  frame_out
  exact congrArg (fun a => part a y) ((hs0_0 m hO t).read_unread _)

/-- Where entry `y` of the block at a point lies in the result. -/
def pos (t : Fin (cfgM m hO).N) (y : S256x3072.Idx) : S4096x12288.Idx := (((cfgM m hO).win 1).blk t).view.emb y

/-- The column of the weight under column `x` of the whole. -/
def sh (x : Fin 12288) : Fin 3072 := ⟨x.val % 3072, Nat.mod_lt _ (by decide)⟩

/-- The weight, repeated over the four parts. -/
def REP (A : FVec Ideal S4096x3072 .f32) : FVec Ideal S4096x12288 .bf16 :=
  fun i => A (ix2 (i 0) (sh (i 1)))

/-- The result: the weight in the own part, what was there elsewhere. -/
def NEW (A : FVec Ideal S4096x3072 .f32) (D : FVec Ideal S4096x12288 .bf16) : FVec Ideal S4096x12288 .bf16 :=
  fun i => if (i 1 : ℕ) / 3072 < 1 then REP A i else D i

theorem final (c : Dev nD) : (dats m hO 0 c).arrAt 1 (cfgM m hO).N = NEW (m ((c : Thread nD τ).loc main_arg0)) ((dats m hO 0 c).A 1) := by
  refine (dats m hO 0 c).arrAt_eq_of_coversWhere 1 (REP (m ((c : Thread nD τ).loc main_arg0))) _ (covers m hO) (fun t hf (y : S256x3072.Idx) => ?_) (fun j => Iff.rfl)
  blk_simp
  refine (last_at m hO c t y).trans ?_
  obtain ⟨h0, hw, ha, ht⟩ := idx m hO t
  unfold part
  change (_ : EReal) = _
  have e0 : iblk m hO c 0 t y = (m ((c : Thread nD τ).loc main_arg0)) (ix2 ((pos m hO t y) 0) (sh ((pos m hO t y) 1))) := by
    rw [← V_main_arg0 m c]
    obtain ⟨r, l, rfl⟩ : ∃ (r : Fin 256) (l : Fin 3072), y = ix2 r l := ⟨y 0, y 1, eq_ix2 y⟩
    blk_ext [pos, iblk, h0, hw, sh]
  exact e0

/-- The part kept. -/
def OUT (A : FVec Ideal S4096x3072 .f32) : FVec Ideal S4096x3072 .bf16 := fun i => A i

theorem cut (A : FVec Ideal S4096x3072 .f32) (D : FVec Ideal S4096x12288 .bf16) :
    (extractStridedSlice S4096x3072 ![0, 0] (NEW A D) Gen.facts₀.slices_S4096x12288_S4096x3072_0_0 : FVec Ideal S4096x3072 .bf16) = OUT A := funext fun i => by
  obtain ⟨r, l, rfl⟩ : ∃ (r : Fin 4096) (l : Fin 3072), i = ix2 r l := ⟨i 0, i 1, eq_ix2 i⟩
  unfold OUT
  pointwise
  unfold NEW
  rw [if_pos (by have := r.isLt; have := l.isLt; simp <;> omega)]
  unfold REP
  change (_ : EReal) = _
  congr 2
  all_goals exact Fin.ext (by simp [sh])

theorem tail_eq (c : Dev nD) : Pipeline.afterTail pcfgs (fun _ => adm m hO) (dats m hO) 0 (V0 m) [hostOps1] c main_v2 = OUT (m ((c : Thread nD τ).loc main_arg0)) := by
  refine Eq.trans ?_ (cut (m ((c : Thread nD τ).loc main_arg0)) ((dats m hO 0 c).A 1))
  rw [← final m hO c]
  unfold Pipeline.afterTail
  simp only [hostOps1, List.flatten_cons, List.flatten_nil, List.append_nil, List.cons_append, List.nil_append]
  after_results
  refine congrArg (fun x : FVec Ideal S4096x12288 .bf16 => (extractStridedSlice S4096x3072 ![0, 0] x Gen.facts₀.slices_S4096x12288_S4096x3072_0_0 : FVec Ideal S4096x3072 .bf16)) ?_
  exact Pipeline.withArrays_arr spec0 winFacts0.arr_inj c (V0 m c) (fun w => (dats m hO 0 c).arrAt w (cfgM m hO).N) 1

/-- The second result is covered by its blocks. -/
theorem covers2 : ((cfgM m hO).win 2).CoversWhere (fun β => β (1 : Fin 2) < 1) :=
  ⟨show ∀ a : Fin 2, 0 < S256x3072.size a by decide,
   fun t _ => ⟨by
      obtain ⟨h0, hw, ha, ht⟩ := idx m hO t
      rw [ha]
      change 0 < 1
      omega, fun a => ((cfgM m hO).win 2).xsize_eq_or_end rfl _ a⟩,
   fun β hβ => by
      obtain ⟨t, ht0⟩ := surj ⟨(β (0 : Fin 2)).val, lt_of_lt_of_eq (β (0 : Fin 2)).isLt (show (4096 + 256 - 1) / 256 = 16 by decide)⟩
      obtain ⟨h0, hw, ha, ht⟩ := idx m hO t
      obtain ⟨s, -, hf, hs⟩ := ((cfgM m hO).win 2).exists_flush_same_index rfl t
      refine ⟨s, fun (a : Fin 2) => ?_, hf⟩
      rw [hs, ha]
      match a with
      | 0 => exact ht0
      | 1 =>
        have h1 : (β (1 : Fin 2)).val < 1 := hβ
        change 0 = (β (1 : Fin 2)).val
        omega⟩

theorem last2_at (c : Dev nD) (t : Fin (cfgM m hO).N) (y : S256x3072.Idx) :
    (dats m hO 0 c).after 2 t y = part (iblk m hO c 0 t) y := by
  rw [after0_2]
  unfold outsAt0
  frame_out
  exact congrArg (fun a => part a y) ((hs0_0 m hO t).read_unread _)

/-- The same, spelled on the columns covered, which are all. -/
def ALL (A : FVec Ideal S4096x3072 .f32) (D : FVec Ideal S4096x3072 .bf16) : FVec Ideal S4096x3072 .bf16 :=
  fun i => if (i 1 : ℕ) / 3072 < 1 then OUT A i else D i

theorem all_eq (A : FVec Ideal S4096x3072 .f32) (D : FVec Ideal S4096x3072 .bf16) : ALL A D = OUT A := funext fun i => by
  have h : (i 1 : ℕ) < 3072 := (i 1).isLt
  unfold ALL
  exact if_pos (by omega)

theorem final2 (c : Dev nD) : (dats m hO 0 c).arrAt 2 (cfgM m hO).N = OUT (m ((c : Thread nD τ).loc main_arg0)) := by
  refine Eq.trans ?_ (all_eq (m ((c : Thread nD τ).loc main_arg0)) ((dats m hO 0 c).A 2))
  refine (dats m hO 0 c).arrAt_eq_of_coversWhere 2 (OUT (m ((c : Thread nD τ).loc main_arg0))) _ (covers2 m hO) (fun t hf (y : S256x3072.Idx) => ?_) (fun j => Iff.rfl)
  blk_simp
  refine (last2_at m hO c t y).trans ?_
  obtain ⟨h0, hw, ha, ht⟩ := idx m hO t
  unfold part
  change (_ : EReal) = _
  have e0 : iblk m hO c 0 t y = (m ((c : Thread nD τ).loc main_arg0)) ((((cfgM m hO).win 2).blk t).view.emb y) := by
    rw [← V_main_arg0 m c]
    obtain ⟨r, l, rfl⟩ : ∃ (r : Fin 256) (l : Fin 3072), y = ix2 r l := ⟨y 0, y 1, eq_ix2 y⟩
    blk_ext [iblk, h0, ha]
  exact e0

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v2) = OUT (m ((c : Thread nD τ).loc main_arg0))
      ∧ r.2.mem ((c.tc : Thread nD τ).loc main_v1_1) = OUT (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).2 main_v2 (by exact (by decide : main_v2 ∈ Pipeline.restRefs sig spec0))).trans (tail_eq m (ok m) c), ((h.1 c).1 2).trans (final2 m (ok m) c), h.2 c⟩) (θ_run_and (run_main m ρ (ok m)) (unchanged m ρ (ok m)))

end Cert.KernelCastInIdeal.Prod

namespace Cert.ReferenceCastInIdeal.Prod

open Cert.ReferenceCastInIdeal Cert.ReferenceCastInIdeal.Gen

theorem ref_eq (A : FVec Ideal S4096x3072 .f32) : (truncf .bf16 A bitsLt_bf16_f32 : FVec Ideal S4096x3072 .bf16) = Cert.KernelCastInIdeal.Prod.OUT A := rfl

end Cert.ReferenceCastInIdeal.Prod

namespace Cert.CastIn

theorem ok (m : (ℓ : Loc Cert.KernelCastIn.nD Cert.KernelCastIn.τ Cert.KernelCastIn.sig) → Buf (Elt Bits) ℓ) : Cert.KernelCastIn.Gen.Ok m := Cert.KernelCastIn.Prod.ok m

theorem frame_r (m : (ℓ : Loc Cert.ReferenceCastInIdeal.nD Cert.ReferenceCastInIdeal.τ Cert.ReferenceCastInIdeal.sig) → Buf (Elt Ideal) ℓ) (g : Dev Cert.ReferenceCastInIdeal.nD → PrngReg) :
    θ_run (Cert.ReferenceCastInIdeal.defs (F := Ideal)) (onTc (τ := Cert.ReferenceCastInIdeal.τ) (Cert.ReferenceCastInIdeal.main (F := Ideal))) ⟨m, fun _ => 0, g⟩ (fun r => (∀ c : Dev Cert.ReferenceCastInIdeal.nD,
      r.2.mem ((c.tc : Thread Cert.ReferenceCastInIdeal.nD Cert.ReferenceCastInIdeal.τ).loc Cert.ReferenceCastInIdeal.main_arg0) = m ((c.tc : Thread Cert.ReferenceCastInIdeal.nD Cert.ReferenceCastInIdeal.τ).loc Cert.ReferenceCastInIdeal.main_arg0)
      ∧ r.2.mem ((c.tc : Thread Cert.ReferenceCastInIdeal.nD Cert.ReferenceCastInIdeal.τ).loc Cert.ReferenceCastInIdeal.main_arg1) = m ((c.tc : Thread Cert.ReferenceCastInIdeal.nD Cert.ReferenceCastInIdeal.τ).loc Cert.ReferenceCastInIdeal.main_arg1))
      ∧ r.2.sem = fun _ => 0) :=
  (θ_run _ _ _).mono (fun r h => ⟨fun c => (h c).2.2, Idealize.ShloMosaic.sem_eq_zero_of_no_sems (by decide) r.2⟩) (Cert.ReferenceCastInIdeal.Value.run m g)

theorem value : Cert.algebraic_KernelCastInIdeal_ReferenceCastInIdeal := by
  intro m g m' g' _ hag
  refine ⟨_, _, Cert.KernelCastInIdeal.Prod.run m g, (θ_run _ _ _).mono (fun r h c => ?_) (Cert.ReferenceCastInIdeal.Value.run m' g')⟩
  obtain ⟨e0, e1, ea⟩ := h c
  rw [(hag c).1] at e0 e1
  exact ⟨e0.trans (Cert.ReferenceCastInIdeal.Prod.ref_eq _), e1.trans (Cert.ReferenceCastInIdeal.Prod.ref_eq _), ea⟩

end Cert.CastIn

end
-- ==== Proof.CastOut.lean ====
/- The weight put into its own part of the gathered array: the array the kernel leaves, block by block, is the weight, and so is the reference's. -/
module

public import proofs.«01_k».proof.Defs
public import proofs.«01_k».proof.Proof.Gen.KernelCastOut.Frame
public import proofs.«01_k».proof.Proof.Gen.KernelCastOutIdeal.Frame
public import proofs.«01_k».proof.Proof.Gen.ReferenceCastOutIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.KernelCastOut.Prod

open Cert.KernelCastOut Cert.KernelCastOut.Gen

/-- The table holds the constant word it is made of. -/
theorem tbl_eq (m : (ℓ : Loc nD τ sig) → Buf (Elt Bits) ℓ) : tbl m 0 = fun _ => 0#32 := by
  unfold tbl V V0
  simp only [hostOps0, List.flatten_cons, List.flatten_nil, List.append_nil, List.cons_append, List.nil_append]
  rfl

/-- The block index of window 2, which reads the table. -/
theorem tr2 (m : (ℓ : Loc nD τ sig) → Buf (Elt Bits) ℓ) (i : grid0.Coords) : cc0_transform_2 Gen.facts₀.inb_S1_S1_0 Gen.facts₀.numel1_S1 (tbl m) i = ![(Scalar.addi (Scalar.muli 0#32 4#32) (BitVec.ofNat 32 (i 0).val)).toNat, (0#32 : BitVec 32).toNat] := by
  unfold cc0_transform_2 Pipeline.Prefetch.Contents.at
  simp only [tbl_eq]
  done

theorem ok_blocks2 : ∀ i : grid0.Coords, ∃ h : (∀ a, ((![(Scalar.addi (Scalar.muli 0#32 4#32) (BitVec.ofNat 32 (i 0).val)).toNat, (0#32 : BitVec 32).toNat] : Fin 2 → ℕ) a + 1) * S256x4096.size a ≤ S4096x4096.size a),
    EltTy.bits .bf16 = 32 ∨ (Rect.block (s := S4096x4096) S256x4096.size ![(Scalar.addi (Scalar.muli 0#32 4#32) (BitVec.ofNat 32 (i 0).val)).toNat, (0#32 : BitVec 32).toNat] h).WholeWords (EltTy.packing .bf16) := by
  decide +kernel

/-- Every block the table names lies inside its array. -/
theorem ok (m : (ℓ : Loc nD τ sig) → Buf (Elt Bits) ℓ) : Ok m := by
  unfold Ok ok0
  simp only [tr2]
  exact ok_blocks2

end Cert.KernelCastOut.Prod

namespace Cert.KernelCastOutIdeal.Prod

open Cert.KernelCastOutIdeal Cert.KernelCastOutIdeal.Gen

/-- The table holds the constant word it is made of. -/
theorem tbl_eq (m : (ℓ : Loc nD τ sig) → Buf (Elt Ideal) ℓ) : tbl m 0 = fun _ => 0#32 := by
  unfold tbl V V0
  simp only [hostOps0, List.flatten_cons, List.flatten_nil, List.append_nil, List.cons_append, List.nil_append]
  rfl

/-- The block index of window 2, which reads the table. -/
theorem tr2 (m : (ℓ : Loc nD τ sig) → Buf (Elt Ideal) ℓ) (i : grid0.Coords) : cc0_transform_2 Gen.facts₀.inb_S1_S1_0 Gen.facts₀.numel1_S1 (tbl m) i = ![(Scalar.addi (Scalar.muli 0#32 4#32) (BitVec.ofNat 32 (i 0).val)).toNat, (0#32 : BitVec 32).toNat] := by
  unfold cc0_transform_2 Pipeline.Prefetch.Contents.at
  simp only [tbl_eq]
  done

theorem ok_blocks2 : ∀ i : grid0.Coords, ∃ h : (∀ a, ((![(Scalar.addi (Scalar.muli 0#32 4#32) (BitVec.ofNat 32 (i 0).val)).toNat, (0#32 : BitVec 32).toNat] : Fin 2 → ℕ) a + 1) * S256x4096.size a ≤ S4096x4096.size a),
    EltTy.bits .bf16 = 32 ∨ (Rect.block (s := S4096x4096) S256x4096.size ![(Scalar.addi (Scalar.muli 0#32 4#32) (BitVec.ofNat 32 (i 0).val)).toNat, (0#32 : BitVec 32).toNat] h).WholeWords (EltTy.packing .bf16) := by
  decide +kernel

/-- Every block the table names lies inside its array. -/
theorem ok (m : (ℓ : Loc nD τ sig) → Buf (Elt Ideal) ℓ) : Ok m := by
  unfold Ok ok0
  simp only [tr2]
  exact ok_blocks2

end Cert.KernelCastOutIdeal.Prod

namespace Cert.KernelCastOutIdeal.Prod

open Cert.KernelCastOutIdeal Cert.KernelCastOutIdeal.Gen

variable (m : (ℓ : Loc nD τ sig) → Buf (Elt Ideal) ℓ) (hO : Ok m)

theorem idx_grid : ∀ t : Fin grid0.N, cc0_transform_0 (grid0.coords t) = ![t.val, 0]
    ∧ ![(Scalar.addi (Scalar.muli 0#32 4#32) (BitVec.ofNat 32 (grid0.coords t 0).val)).toNat, (0#32 : BitVec 32).toNat] = ![t.val, 0] ∧ t.val < 4 := by
  decide +kernel

theorem idx (t : Fin (cfgM m hO).N) : ((cfgM m hO).win 0).index t = ![t.val, 0]
    ∧ ((cfgM m hO).win 1).index t = ![t.val, 0] ∧ t.val < 4 := by
  have h := idx_grid t
  rw [← tr2 m (grid0.coords t)] at h
  exact h

theorem surj : ∀ x : Fin 4, ∃ t : Fin grid0.N, t.val = x.val := by
  decide +kernel

/-- The blocks written are those of the device's own part. -/
theorem covers : ((cfgM m hO).win 1).CoversWhere (fun β => β (0 : Fin 2) < 4) :=
  ⟨show ∀ a : Fin 2, 0 < S256x4096.size a by decide,
   fun t _ => ⟨by
      obtain ⟨h0, hw, ht⟩ := idx m hO t
      rw [hw]
      change t.val < 4
      omega, fun a => ((cfgM m hO).win 1).xsize_eq_or_end rfl _ a⟩,
   fun β hβ => by
      obtain ⟨t, ht0⟩ := surj ⟨(β (0 : Fin 2)).val, hβ⟩
      obtain ⟨h0, hw, ht⟩ := idx m hO t
      obtain ⟨s, -, hf, hs⟩ := ((cfgM m hO).win 1).exists_flush_same_index rfl t
      refine ⟨s, fun (a : Fin 2) => ?_, hf⟩
      rw [hs, hw]
      match a with
      | 0 => exact ht0
      | 1 =>
        have h1 : (β (1 : Fin 2)).val < 1 := lt_of_lt_of_eq (β (1 : Fin 2)).isLt (show (4096 + 4096 - 1) / 4096 = 1 by decide)
        change 0 = (β (1 : Fin 2)).val
        omega⟩

/-- What one point leaves at a block's entry. -/
def part (a : Vec Ideal S256x4096 .f32) (y : S256x4096.Idx) : EReal := a y

theorem last_at (c : Dev nD) (t : Fin (cfgM m hO).N) (y : S256x4096.Idx) :
    (dats m hO 0 c).after 1 t y = part (iblk m hO c 0 t) y := by
  rw [after0_1]
  unfold outsAt0
  frame_out
  exact congrArg (fun a => part a y) ((hs0_0 m hO t).read_unread _)

/-- Where entry `y` of the block at a point lies in the result. -/
def pos (t : Fin (cfgM m hO).N) (y : S256x4096.Idx) : S4096x4096.Idx := (((cfgM m hO).win 1).blk t).view.emb y

/-- The row of the weight under row `x` of the whole. -/
def sh (x : Fin 4096) : Fin 1024 := ⟨x.val % 1024, Nat.mod_lt _ (by decide)⟩

/-- The weight, repeated over the four parts. -/
def REP (A : FVec Ideal S1024x4096 .f32) : FVec Ideal S4096x4096 .bf16 :=
  fun i => A (ix2 (sh (i 0)) (i 1))

/-- The result: the weight in the own part, what was there elsewhere. -/
def NEW (A : FVec Ideal S1024x4096 .f32) (D : FVec Ideal S4096x4096 .bf16) : FVec Ideal S4096x4096 .bf16 :=
  fun i => if (i 0 : ℕ) / 256 < 4 then REP A i else D i

theorem final (c : Dev nD) : (dats m hO 0 c).arrAt 1 (cfgM m hO).N = NEW (m ((c : Thread nD τ).loc main_arg0)) ((dats m hO 0 c).A 1) := by
  refine (dats m hO 0 c).arrAt_eq_of_coversWhere 1 (REP (m ((c : Thread nD τ).loc main_arg0))) _ (covers m hO) (fun t hf (y : S256x4096.Idx) => ?_) (fun j => Iff.rfl)
  blk_simp
  refine (last_at m hO c t y).trans ?_
  obtain ⟨h0, hw, ht⟩ := idx m hO t
  unfold part
  change (_ : EReal) = _
  have e0 : iblk m hO c 0 t y = (m ((c : Thread nD τ).loc main_arg0)) (ix2 (sh ((pos m hO t y) 0)) ((pos m hO t y) 1)) := by
    rw [← V_main_arg0 m c]
    obtain ⟨r, l, rfl⟩ : ∃ (r : Fin 256) (l : Fin 4096), y = ix2 r l := ⟨y 0, y 1, eq_ix2 y⟩
    blk_ext [pos, iblk, h0, hw, sh]
  exact e0

/-- The part kept. -/
def OUT (A : FVec Ideal S1024x4096 .f32) : FVec Ideal S1024x4096 .bf16 := fun i => A i

theorem cut (A : FVec Ideal S1024x4096 .f32) (D : FVec Ideal S4096x4096 .bf16) :
    (extractStridedSlice S1024x4096 ![0, 0] (NEW A D) Gen.facts₀.slices_S4096x4096_S1024x4096_0_0 : FVec Ideal S1024x4096 .bf16) = OUT A := funext fun i => by
  obtain ⟨r, l, rfl⟩ : ∃ (r : Fin 1024) (l : Fin 4096), i = ix2 r l := ⟨i 0, i 1, eq_ix2 i⟩
  unfold OUT
  pointwise
  unfold NEW
  rw [if_pos (by have := r.isLt; have := l.isLt; simp <;> omega)]
  unfold REP
  change (_ : EReal) = _
  congr 2
  all_goals exact Fin.ext (by simp [sh])

theorem tail_eq (c : Dev nD) : Pipeline.afterTail pcfgs (fun _ => adm m hO) (dats m hO) 0 (V0 m) [hostOps1] c main_v2 = OUT (m ((c : Thread nD τ).loc main_arg0)) := by
  refine Eq.trans ?_ (cut (m ((c : Thread nD τ).loc main_arg0)) ((dats m hO 0 c).A 1))
  rw [← final m hO c]
  unfold Pipeline.afterTail
  simp only [hostOps1, List.flatten_cons, List.flatten_nil, List.append_nil, List.cons_append, List.nil_append]
  after_results
  refine congrArg (fun x : FVec Ideal S4096x4096 .bf16 => (extractStridedSlice S1024x4096 ![0, 0] x Gen.facts₀.slices_S4096x4096_S1024x4096_0_0 : FVec Ideal S1024x4096 .bf16)) ?_
  exact Pipeline.withArrays_arr spec0 winFacts0.arr_inj c (V0 m c) (fun w => (dats m hO 0 c).arrAt w (cfgM m hO).N) 1

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v2) = OUT (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).2 main_v2 (by exact (by decide : main_v2 ∈ Pipeline.restRefs sig spec0))).trans (tail_eq m (ok m) c), h.2 c⟩) (θ_run_and (run_main m ρ (ok m)) (unchanged m ρ (ok m)))

end Cert.KernelCastOutIdeal.Prod

namespace Cert.ReferenceCastOutIdeal.Prod

open Cert.ReferenceCastOutIdeal Cert.ReferenceCastOutIdeal.Gen

theorem ref_eq (A : FVec Ideal S1024x4096 .f32) : (truncf .bf16 A bitsLt_bf16_f32 : FVec Ideal S1024x4096 .bf16) = Cert.KernelCastOutIdeal.Prod.OUT A := rfl

end Cert.ReferenceCastOutIdeal.Prod

namespace Cert.CastOut

theorem ok (m : (ℓ : Loc Cert.KernelCastOut.nD Cert.KernelCastOut.τ Cert.KernelCastOut.sig) → Buf (Elt Bits) ℓ) : Cert.KernelCastOut.Gen.Ok m := Cert.KernelCastOut.Prod.ok m

theorem frame_r (m : (ℓ : Loc Cert.ReferenceCastOutIdeal.nD Cert.ReferenceCastOutIdeal.τ Cert.ReferenceCastOutIdeal.sig) → Buf (Elt Ideal) ℓ) (g : Dev Cert.ReferenceCastOutIdeal.nD → PrngReg) :
    θ_run (Cert.ReferenceCastOutIdeal.defs (F := Ideal)) (onTc (τ := Cert.ReferenceCastOutIdeal.τ) (Cert.ReferenceCastOutIdeal.main (F := Ideal))) ⟨m, fun _ => 0, g⟩ (fun r => (∀ c : Dev Cert.ReferenceCastOutIdeal.nD,
      r.2.mem ((c.tc : Thread Cert.ReferenceCastOutIdeal.nD Cert.ReferenceCastOutIdeal.τ).loc Cert.ReferenceCastOutIdeal.main_arg0) = m ((c.tc : Thread Cert.ReferenceCastOutIdeal.nD Cert.ReferenceCastOutIdeal.τ).loc Cert.ReferenceCastOutIdeal.main_arg0)
      ∧ r.2.mem ((c.tc : Thread Cert.ReferenceCastOutIdeal.nD Cert.ReferenceCastOutIdeal.τ).loc Cert.ReferenceCastOutIdeal.main_arg1) = m ((c.tc : Thread Cert.ReferenceCastOutIdeal.nD Cert.ReferenceCastOutIdeal.τ).loc Cert.ReferenceCastOutIdeal.main_arg1))
      ∧ r.2.sem = fun _ => 0) :=
  (θ_run _ _ _).mono (fun r h => ⟨fun c => (h c).2, Idealize.ShloMosaic.sem_eq_zero_of_no_sems (by decide) r.2⟩) (Cert.ReferenceCastOutIdeal.Value.run m g)

theorem value : Cert.algebraic_KernelCastOutIdeal_ReferenceCastOutIdeal := by
  intro m g m' g' _ hag
  refine ⟨_, Cert.KernelCastOutIdeal.Prod.run m g, (θ_run _ _ _).mono (fun r h c => ?_) (Cert.ReferenceCastOutIdeal.Value.run m' g')⟩
  obtain ⟨e0, ea⟩ := h c
  rw [(hag c).1] at e0
  exact ⟨e0.trans (Cert.ReferenceCastOutIdeal.Prod.ref_eq _), ea⟩

end Cert.CastOut

end
-- ==== Proof.CastUp.lean ====
/- The weight put into its own part of the gathered array: the array the kernel leaves, block by block, is the weight, and so is the reference's. -/
module

public import proofs.«01_k».proof.Defs
public import proofs.«01_k».proof.Proof.Gen.KernelCastUp.Frame
public import proofs.«01_k».proof.Proof.Gen.KernelCastUpIdeal.Frame
public import proofs.«01_k».proof.Proof.Gen.ReferenceCastUpIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.KernelCastUp.Prod

open Cert.KernelCastUp Cert.KernelCastUp.Gen

/-- The table holds the constant word it is made of. -/
theorem tbl_eq (m : (ℓ : Loc nD τ sig) → Buf (Elt Bits) ℓ) : tbl m 0 = fun _ => 0#32 := by
  unfold tbl V V0
  simp only [hostOps0, List.flatten_cons, List.flatten_nil, List.append_nil, List.cons_append, List.nil_append]
  rfl

/-- The block index of window 2, which reads the table. -/
theorem tr2 (m : (ℓ : Loc nD τ sig) → Buf (Elt Bits) ℓ) (i : grid0.Coords) : cc0_transform_2 Gen.facts₀.inb_S1_S1_0 Gen.facts₀.numel1_S1 (tbl m) i = ![(BitVec.ofNat 32 (i 0).val).toNat, (0#32 : BitVec 32).toNat] := by
  unfold cc0_transform_2 Pipeline.Prefetch.Contents.at
  simp only [tbl_eq]
  done

theorem ok_blocks2 : ∀ i : grid0.Coords, ∃ h : (∀ a, ((![(BitVec.ofNat 32 (i 0).val).toNat, (0#32 : BitVec 32).toNat] : Fin 2 → ℕ) a + 1) * S256x5504.size a ≤ S4096x22016.size a),
    EltTy.bits .bf16 = 32 ∨ (Rect.block (s := S4096x22016) S256x5504.size ![(BitVec.ofNat 32 (i 0).val).toNat, (0#32 : BitVec 32).toNat] h).WholeWords (EltTy.packing .bf16) := by
  decide +kernel

/-- Every block the table names lies inside its array. -/
theorem ok (m : (ℓ : Loc nD τ sig) → Buf (Elt Bits) ℓ) : Ok m := by
  unfold Ok ok0
  simp only [tr2]
  exact ok_blocks2

end Cert.KernelCastUp.Prod

namespace Cert.KernelCastUpIdeal.Prod

open Cert.KernelCastUpIdeal Cert.KernelCastUpIdeal.Gen

/-- The table holds the constant word it is made of. -/
theorem tbl_eq (m : (ℓ : Loc nD τ sig) → Buf (Elt Ideal) ℓ) : tbl m 0 = fun _ => 0#32 := by
  unfold tbl V V0
  simp only [hostOps0, List.flatten_cons, List.flatten_nil, List.append_nil, List.cons_append, List.nil_append]
  rfl

/-- The block index of window 2, which reads the table. -/
theorem tr2 (m : (ℓ : Loc nD τ sig) → Buf (Elt Ideal) ℓ) (i : grid0.Coords) : cc0_transform_2 Gen.facts₀.inb_S1_S1_0 Gen.facts₀.numel1_S1 (tbl m) i = ![(BitVec.ofNat 32 (i 0).val).toNat, (0#32 : BitVec 32).toNat] := by
  unfold cc0_transform_2 Pipeline.Prefetch.Contents.at
  simp only [tbl_eq]
  done

theorem ok_blocks2 : ∀ i : grid0.Coords, ∃ h : (∀ a, ((![(BitVec.ofNat 32 (i 0).val).toNat, (0#32 : BitVec 32).toNat] : Fin 2 → ℕ) a + 1) * S256x5504.size a ≤ S4096x22016.size a),
    EltTy.bits .bf16 = 32 ∨ (Rect.block (s := S4096x22016) S256x5504.size ![(BitVec.ofNat 32 (i 0).val).toNat, (0#32 : BitVec 32).toNat] h).WholeWords (EltTy.packing .bf16) := by
  decide +kernel

/-- Every block the table names lies inside its array. -/
theorem ok (m : (ℓ : Loc nD τ sig) → Buf (Elt Ideal) ℓ) : Ok m := by
  unfold Ok ok0
  simp only [tr2]
  exact ok_blocks2

end Cert.KernelCastUpIdeal.Prod

namespace Cert.KernelCastUpIdeal.Prod

open Cert.KernelCastUpIdeal Cert.KernelCastUpIdeal.Gen

variable (m : (ℓ : Loc nD τ sig) → Buf (Elt Ideal) ℓ) (hO : Ok m)

theorem idx_grid : ∀ t : Fin grid0.N, cc0_transform_0 (grid0.coords t) = ![t.val, 0]
    ∧ ![(BitVec.ofNat 32 (grid0.coords t 0).val).toNat, (0#32 : BitVec 32).toNat] = ![t.val, 0] ∧ t.val < 16 := by
  decide +kernel

theorem idx (t : Fin (cfgM m hO).N) : ((cfgM m hO).win 0).index t = ![t.val, 0]
    ∧ ((cfgM m hO).win 1).index t = ![t.val, 0] ∧ t.val < 16 := by
  have h := idx_grid t
  rw [← tr2 m (grid0.coords t)] at h
  exact h

theorem surj : ∀ x : Fin 16, ∃ t : Fin grid0.N, t.val = x.val := by
  decide +kernel

/-- The blocks written are those of the device's own part. -/
theorem covers : ((cfgM m hO).win 1).CoversWhere (fun β => β (1 : Fin 2) < 1) :=
  ⟨show ∀ a : Fin 2, 0 < S256x5504.size a by decide,
   fun t _ => ⟨by
      obtain ⟨h0, hw, ht⟩ := idx m hO t
      rw [hw]
      change 0 < 1
      omega, fun a => ((cfgM m hO).win 1).xsize_eq_or_end rfl _ a⟩,
   fun β hβ => by
      obtain ⟨t, ht0⟩ := surj ⟨(β (0 : Fin 2)).val, lt_of_lt_of_eq (β (0 : Fin 2)).isLt (show (4096 + 256 - 1) / 256 = 16 by decide)⟩
      obtain ⟨h0, hw, ht⟩ := idx m hO t
      obtain ⟨s, -, hf, hs⟩ := ((cfgM m hO).win 1).exists_flush_same_index rfl t
      refine ⟨s, fun (a : Fin 2) => ?_, hf⟩
      rw [hs, hw]
      match a with
      | 0 => exact ht0
      | 1 =>
        have h1 : (β (1 : Fin 2)).val < 1 := hβ
        change 0 = (β (1 : Fin 2)).val
        omega⟩

/-- What one point leaves at a block's entry. -/
def part (a : Vec Ideal S256x5504 .f32) (y : S256x5504.Idx) : EReal := a y

theorem last_at (c : Dev nD) (t : Fin (cfgM m hO).N) (y : S256x5504.Idx) :
    (dats m hO 0 c).after 1 t y = part (iblk m hO c 0 t) y := by
  rw [after0_1]
  unfold outsAt0
  frame_out
  exact congrArg (fun a => part a y) ((hs0_0 m hO t).read_unread _)

/-- Where entry `y` of the block at a point lies in the result. -/
def pos (t : Fin (cfgM m hO).N) (y : S256x5504.Idx) : S4096x22016.Idx := (((cfgM m hO).win 1).blk t).view.emb y

/-- The column of the weight under column `x` of the whole. -/
def sh (x : Fin 22016) : Fin 5504 := ⟨x.val % 5504, Nat.mod_lt _ (by decide)⟩

/-- The weight, repeated over the four parts. -/
def REP (A : FVec Ideal S4096x5504 .f32) : FVec Ideal S4096x22016 .bf16 :=
  fun i => A (ix2 (i 0) (sh (i 1)))

/-- The result: the weight in the own part, what was there elsewhere. -/
def NEW (A : FVec Ideal S4096x5504 .f32) (D : FVec Ideal S4096x22016 .bf16) : FVec Ideal S4096x22016 .bf16 :=
  fun i => if (i 1 : ℕ) / 5504 < 1 then REP A i else D i

theorem final (c : Dev nD) : (dats m hO 0 c).arrAt 1 (cfgM m hO).N = NEW (m ((c : Thread nD τ).loc main_arg0)) ((dats m hO 0 c).A 1) := by
  refine (dats m hO 0 c).arrAt_eq_of_coversWhere 1 (REP (m ((c : Thread nD τ).loc main_arg0))) _ (covers m hO) (fun t hf (y : S256x5504.Idx) => ?_) (fun j => Iff.rfl)
  blk_simp
  refine (last_at m hO c t y).trans ?_
  obtain ⟨h0, hw, ht⟩ := idx m hO t
  unfold part
  change (_ : EReal) = _
  have e0 : iblk m hO c 0 t y = (m ((c : Thread nD τ).loc main_arg0)) (ix2 ((pos m hO t y) 0) (sh ((pos m hO t y) 1))) := by
    rw [← V_main_arg0 m c]
    obtain ⟨r, l, rfl⟩ : ∃ (r : Fin 256) (l : Fin 5504), y = ix2 r l := ⟨y 0, y 1, eq_ix2 y⟩
    blk_ext [pos, iblk, h0, hw, sh]
  exact e0

/-- The part kept. -/
def OUT (A : FVec Ideal S4096x5504 .f32) : FVec Ideal S4096x5504 .bf16 := fun i => A i

theorem cut (A : FVec Ideal S4096x5504 .f32) (D : FVec Ideal S4096x22016 .bf16) :
    (extractStridedSlice S4096x5504 ![0, 0] (NEW A D) Gen.facts₀.slices_S4096x22016_S4096x5504_0_0 : FVec Ideal S4096x5504 .bf16) = OUT A := funext fun i => by
  obtain ⟨r, l, rfl⟩ : ∃ (r : Fin 4096) (l : Fin 5504), i = ix2 r l := ⟨i 0, i 1, eq_ix2 i⟩
  unfold OUT
  pointwise
  unfold NEW
  rw [if_pos (by have := r.isLt; have := l.isLt; simp <;> omega)]
  unfold REP
  change (_ : EReal) = _
  congr 2
  all_goals exact Fin.ext (by simp [sh])

theorem tail_eq (c : Dev nD) : Pipeline.afterTail pcfgs (fun _ => adm m hO) (dats m hO) 0 (V0 m) [hostOps1] c main_v2 = OUT (m ((c : Thread nD τ).loc main_arg0)) := by
  refine Eq.trans ?_ (cut (m ((c : Thread nD τ).loc main_arg0)) ((dats m hO 0 c).A 1))
  rw [← final m hO c]
  unfold Pipeline.afterTail
  simp only [hostOps1, List.flatten_cons, List.flatten_nil, List.append_nil, List.cons_append, List.nil_append]
  after_results
  refine congrArg (fun x : FVec Ideal S4096x22016 .bf16 => (extractStridedSlice S4096x5504 ![0, 0] x Gen.facts₀.slices_S4096x22016_S4096x5504_0_0 : FVec Ideal S4096x5504 .bf16)) ?_
  exact Pipeline.withArrays_arr spec0 winFacts0.arr_inj c (V0 m c) (fun w => (dats m hO 0 c).arrAt w (cfgM m hO).N) 1

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v2) = OUT (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).2 main_v2 (by exact (by decide : main_v2 ∈ Pipeline.restRefs sig spec0))).trans (tail_eq m (ok m) c), h.2 c⟩) (θ_run_and (run_main m ρ (ok m)) (unchanged m ρ (ok m)))

end Cert.KernelCastUpIdeal.Prod

namespace Cert.ReferenceCastUpIdeal.Prod

open Cert.ReferenceCastUpIdeal Cert.ReferenceCastUpIdeal.Gen

theorem ref_eq (A : FVec Ideal S4096x5504 .f32) : (truncf .bf16 A bitsLt_bf16_f32 : FVec Ideal S4096x5504 .bf16) = Cert.KernelCastUpIdeal.Prod.OUT A := rfl

end Cert.ReferenceCastUpIdeal.Prod

namespace Cert.CastUp

theorem ok (m : (ℓ : Loc Cert.KernelCastUp.nD Cert.KernelCastUp.τ Cert.KernelCastUp.sig) → Buf (Elt Bits) ℓ) : Cert.KernelCastUp.Gen.Ok m := Cert.KernelCastUp.Prod.ok m

theorem frame_r (m : (ℓ : Loc Cert.ReferenceCastUpIdeal.nD Cert.ReferenceCastUpIdeal.τ Cert.ReferenceCastUpIdeal.sig) → Buf (Elt Ideal) ℓ) (g : Dev Cert.ReferenceCastUpIdeal.nD → PrngReg) :
    θ_run (Cert.ReferenceCastUpIdeal.defs (F := Ideal)) (onTc (τ := Cert.ReferenceCastUpIdeal.τ) (Cert.ReferenceCastUpIdeal.main (F := Ideal))) ⟨m, fun _ => 0, g⟩ (fun r => (∀ c : Dev Cert.ReferenceCastUpIdeal.nD,
      r.2.mem ((c.tc : Thread Cert.ReferenceCastUpIdeal.nD Cert.ReferenceCastUpIdeal.τ).loc Cert.ReferenceCastUpIdeal.main_arg0) = m ((c.tc : Thread Cert.ReferenceCastUpIdeal.nD Cert.ReferenceCastUpIdeal.τ).loc Cert.ReferenceCastUpIdeal.main_arg0)
      ∧ r.2.mem ((c.tc : Thread Cert.ReferenceCastUpIdeal.nD Cert.ReferenceCastUpIdeal.τ).loc Cert.ReferenceCastUpIdeal.main_arg1) = m ((c.tc : Thread Cert.ReferenceCastUpIdeal.nD Cert.ReferenceCastUpIdeal.τ).loc Cert.ReferenceCastUpIdeal.main_arg1))
      ∧ r.2.sem = fun _ => 0) :=
  (θ_run _ _ _).mono (fun r h => ⟨fun c => (h c).2, Idealize.ShloMosaic.sem_eq_zero_of_no_sems (by decide) r.2⟩) (Cert.ReferenceCastUpIdeal.Value.run m g)

theorem value : Cert.algebraic_KernelCastUpIdeal_ReferenceCastUpIdeal := by
  intro m g m' g' _ hag
  refine ⟨_, Cert.KernelCastUpIdeal.Prod.run m g, (θ_run _ _ _).mono (fun r h c => ?_) (Cert.ReferenceCastUpIdeal.Value.run m' g')⟩
  obtain ⟨e0, ea⟩ := h c
  rw [(hag c).1] at e0
  exact ⟨e0.trans (Cert.ReferenceCastUpIdeal.Prod.ref_eq _), ea⟩

end Cert.CastUp

end
-- ==== Proof.CastDown.lean ====
/- The weight put into its own part of the gathered array: the array the kernel leaves, block by block, is the weight, and so is the reference's. -/
module

public import proofs.«01_k».proof.Defs
public import proofs.«01_k».proof.Proof.Gen.KernelCastDown.Frame
public import proofs.«01_k».proof.Proof.Gen.KernelCastDownIdeal.Frame
public import proofs.«01_k».proof.Proof.Gen.ReferenceCastDownIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.KernelCastDown.Prod

open Cert.KernelCastDown Cert.KernelCastDown.Gen

/-- The table holds the constant word it is made of. -/
theorem tbl_eq (m : (ℓ : Loc nD τ sig) → Buf (Elt Bits) ℓ) : tbl m 0 = fun _ => 0#32 := by
  unfold tbl V V0
  simp only [hostOps0, List.flatten_cons, List.flatten_nil, List.append_nil, List.cons_append, List.nil_append]
  rfl

/-- The block index of window 2, which reads the table. -/
theorem tr2 (m : (ℓ : Loc nD τ sig) → Buf (Elt Bits) ℓ) (i : grid0.Coords) : cc0_transform_2 Gen.facts₀.inb_S1_S1_0 Gen.facts₀.numel1_S1 (tbl m) i = ![(Scalar.addi (Scalar.muli 0#32 43#32) (BitVec.ofNat 32 (i 0).val)).toNat, (0#32 : BitVec 32).toNat] := by
  unfold cc0_transform_2 Pipeline.Prefetch.Contents.at
  simp only [tbl_eq]
  done

theorem ok_blocks2 : ∀ i : grid0.Coords, ∃ h : (∀ a, ((![(Scalar.addi (Scalar.muli 0#32 43#32) (BitVec.ofNat 32 (i 0).val)).toNat, (0#32 : BitVec 32).toNat] : Fin 2 → ℕ) a + 1) * S64x4096.size a ≤ S11008x4096.size a),
    EltTy.bits .bf16 = 32 ∨ (Rect.block (s := S11008x4096) S64x4096.size ![(Scalar.addi (Scalar.muli 0#32 43#32) (BitVec.ofNat 32 (i 0).val)).toNat, (0#32 : BitVec 32).toNat] h).WholeWords (EltTy.packing .bf16) := by
  decide +kernel

/-- Every block the table names lies inside its array. -/
theorem ok (m : (ℓ : Loc nD τ sig) → Buf (Elt Bits) ℓ) : Ok m := by
  unfold Ok ok0
  simp only [tr2]
  exact ok_blocks2

end Cert.KernelCastDown.Prod

namespace Cert.KernelCastDownIdeal.Prod

open Cert.KernelCastDownIdeal Cert.KernelCastDownIdeal.Gen

/-- The table holds the constant word it is made of. -/
theorem tbl_eq (m : (ℓ : Loc nD τ sig) → Buf (Elt Ideal) ℓ) : tbl m 0 = fun _ => 0#32 := by
  unfold tbl V V0
  simp only [hostOps0, List.flatten_cons, List.flatten_nil, List.append_nil, List.cons_append, List.nil_append]
  rfl

/-- The block index of window 2, which reads the table. -/
theorem tr2 (m : (ℓ : Loc nD τ sig) → Buf (Elt Ideal) ℓ) (i : grid0.Coords) : cc0_transform_2 Gen.facts₀.inb_S1_S1_0 Gen.facts₀.numel1_S1 (tbl m) i = ![(Scalar.addi (Scalar.muli 0#32 43#32) (BitVec.ofNat 32 (i 0).val)).toNat, (0#32 : BitVec 32).toNat] := by
  unfold cc0_transform_2 Pipeline.Prefetch.Contents.at
  simp only [tbl_eq]
  done

theorem ok_blocks2 : ∀ i : grid0.Coords, ∃ h : (∀ a, ((![(Scalar.addi (Scalar.muli 0#32 43#32) (BitVec.ofNat 32 (i 0).val)).toNat, (0#32 : BitVec 32).toNat] : Fin 2 → ℕ) a + 1) * S64x4096.size a ≤ S11008x4096.size a),
    EltTy.bits .bf16 = 32 ∨ (Rect.block (s := S11008x4096) S64x4096.size ![(Scalar.addi (Scalar.muli 0#32 43#32) (BitVec.ofNat 32 (i 0).val)).toNat, (0#32 : BitVec 32).toNat] h).WholeWords (EltTy.packing .bf16) := by
  decide +kernel

/-- Every block the table names lies inside its array. -/
theorem ok (m : (ℓ : Loc nD τ sig) → Buf (Elt Ideal) ℓ) : Ok m := by
  unfold Ok ok0
  simp only [tr2]
  exact ok_blocks2

end Cert.KernelCastDownIdeal.Prod

namespace Cert.KernelCastDownIdeal.Prod

open Cert.KernelCastDownIdeal Cert.KernelCastDownIdeal.Gen

variable (m : (ℓ : Loc nD τ sig) → Buf (Elt Ideal) ℓ) (hO : Ok m)

theorem idx_grid : ∀ t : Fin grid0.N, cc0_transform_0 (grid0.coords t) = ![t.val, 0]
    ∧ ![(Scalar.addi (Scalar.muli 0#32 43#32) (BitVec.ofNat 32 (grid0.coords t 0).val)).toNat, (0#32 : BitVec 32).toNat] = ![t.val, 0] ∧ t.val < 43 := by
  decide +kernel

theorem idx (t : Fin (cfgM m hO).N) : ((cfgM m hO).win 0).index t = ![t.val, 0]
    ∧ ((cfgM m hO).win 1).index t = ![t.val, 0] ∧ t.val < 43 := by
  have h := idx_grid t
  rw [← tr2 m (grid0.coords t)] at h
  exact h

theorem surj : ∀ x : Fin 43, ∃ t : Fin grid0.N, t.val = x.val := by
  decide +kernel

/-- The blocks written are those of the device's own part. -/
theorem covers : ((cfgM m hO).win 1).CoversWhere (fun β => β (0 : Fin 2) < 43) :=
  ⟨show ∀ a : Fin 2, 0 < S64x4096.size a by decide,
   fun t _ => ⟨by
      obtain ⟨h0, hw, ht⟩ := idx m hO t
      rw [hw]
      change t.val < 43
      omega, fun a => ((cfgM m hO).win 1).xsize_eq_or_end rfl _ a⟩,
   fun β hβ => by
      obtain ⟨t, ht0⟩ := surj ⟨(β (0 : Fin 2)).val, hβ⟩
      obtain ⟨h0, hw, ht⟩ := idx m hO t
      obtain ⟨s, -, hf, hs⟩ := ((cfgM m hO).win 1).exists_flush_same_index rfl t
      refine ⟨s, fun (a : Fin 2) => ?_, hf⟩
      rw [hs, hw]
      match a with
      | 0 => exact ht0
      | 1 =>
        have h1 : (β (1 : Fin 2)).val < 1 := lt_of_lt_of_eq (β (1 : Fin 2)).isLt (show (4096 + 4096 - 1) / 4096 = 1 by decide)
        change 0 = (β (1 : Fin 2)).val
        omega⟩

/-- What one point leaves at a block's entry. -/
def part (a : Vec Ideal S64x4096 .f32) (y : S64x4096.Idx) : EReal := a y

theorem last_at (c : Dev nD) (t : Fin (cfgM m hO).N) (y : S64x4096.Idx) :
    (dats m hO 0 c).after 1 t y = part (iblk m hO c 0 t) y := by
  rw [after0_1]
  unfold outsAt0
  frame_out
  exact congrArg (fun a => part a y) ((hs0_0 m hO t).read_unread _)

/-- Where entry `y` of the block at a point lies in the result. -/
def pos (t : Fin (cfgM m hO).N) (y : S64x4096.Idx) : S11008x4096.Idx := (((cfgM m hO).win 1).blk t).view.emb y

/-- The row of the weight under row `x` of the whole. -/
def sh (x : Fin 11008) : Fin 2752 := ⟨x.val % 2752, Nat.mod_lt _ (by decide)⟩

/-- The weight, repeated over the four parts. -/
def REP (A : FVec Ideal S2752x4096 .f32) : FVec Ideal S11008x4096 .bf16 :=
  fun i => A (ix2 (sh (i 0)) (i 1))

/-- The result: the weight in the own part, what was there elsewhere. -/
def NEW (A : FVec Ideal S2752x4096 .f32) (D : FVec Ideal S11008x4096 .bf16) : FVec Ideal S11008x4096 .bf16 :=
  fun i => if (i 0 : ℕ) / 64 < 43 then REP A i else D i

theorem final (c : Dev nD) : (dats m hO 0 c).arrAt 1 (cfgM m hO).N = NEW (m ((c : Thread nD τ).loc main_arg0)) ((dats m hO 0 c).A 1) := by
  refine (dats m hO 0 c).arrAt_eq_of_coversWhere 1 (REP (m ((c : Thread nD τ).loc main_arg0))) _ (covers m hO) (fun t hf (y : S64x4096.Idx) => ?_) (fun j => Iff.rfl)
  blk_simp
  refine (last_at m hO c t y).trans ?_
  obtain ⟨h0, hw, ht⟩ := idx m hO t
  unfold part
  change (_ : EReal) = _
  have e0 : iblk m hO c 0 t y = (m ((c : Thread nD τ).loc main_arg0)) (ix2 (sh ((pos m hO t y) 0)) ((pos m hO t y) 1)) := by
    rw [← V_main_arg0 m c]
    obtain ⟨r, l, rfl⟩ : ∃ (r : Fin 64) (l : Fin 4096), y = ix2 r l := ⟨y 0, y 1, eq_ix2 y⟩
    blk_ext [pos, iblk, h0, hw, sh]
  exact e0

/-- The part kept. -/
def OUT (A : FVec Ideal S2752x4096 .f32) : FVec Ideal S2752x4096 .bf16 := fun i => A i

theorem cut (A : FVec Ideal S2752x4096 .f32) (D : FVec Ideal S11008x4096 .bf16) :
    (extractStridedSlice S2752x4096 ![0, 0] (NEW A D) Gen.facts₀.slices_S11008x4096_S2752x4096_0_0 : FVec Ideal S2752x4096 .bf16) = OUT A := funext fun i => by
  obtain ⟨r, l, rfl⟩ : ∃ (r : Fin 2752) (l : Fin 4096), i = ix2 r l := ⟨i 0, i 1, eq_ix2 i⟩
  unfold OUT
  pointwise
  unfold NEW
  rw [if_pos (by have := r.isLt; have := l.isLt; simp <;> omega)]
  unfold REP
  change (_ : EReal) = _
  congr 2
  all_goals exact Fin.ext (by simp [sh])

theorem tail_eq (c : Dev nD) : Pipeline.afterTail pcfgs (fun _ => adm m hO) (dats m hO) 0 (V0 m) [hostOps1] c main_v2 = OUT (m ((c : Thread nD τ).loc main_arg0)) := by
  refine Eq.trans ?_ (cut (m ((c : Thread nD τ).loc main_arg0)) ((dats m hO 0 c).A 1))
  rw [← final m hO c]
  unfold Pipeline.afterTail
  simp only [hostOps1, List.flatten_cons, List.flatten_nil, List.append_nil, List.cons_append, List.nil_append]
  after_results
  refine congrArg (fun x : FVec Ideal S11008x4096 .bf16 => (extractStridedSlice S2752x4096 ![0, 0] x Gen.facts₀.slices_S11008x4096_S2752x4096_0_0 : FVec Ideal S2752x4096 .bf16)) ?_
  exact Pipeline.withArrays_arr spec0 winFacts0.arr_inj c (V0 m c) (fun w => (dats m hO 0 c).arrAt w (cfgM m hO).N) 1

variable (ρ : Dev nD → PrngReg)

/-- Every execution ends with the result as named, the arguments as launched. -/
theorem run : θ_run defs (onTc (τ := τ) (main (F := Ideal))) ⟨m, fun _ => 0, ρ⟩ (fun r => ∀ c : Dev nD,
      r.2.mem ((c.tc : Thread nD τ).loc main_v2) = OUT (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).2 main_v2 (by exact (by decide : main_v2 ∈ Pipeline.restRefs sig spec0))).trans (tail_eq m (ok m) c), h.2 c⟩) (θ_run_and (run_main m ρ (ok m)) (unchanged m ρ (ok m)))

end Cert.KernelCastDownIdeal.Prod

namespace Cert.ReferenceCastDownIdeal.Prod

open Cert.ReferenceCastDownIdeal Cert.ReferenceCastDownIdeal.Gen

theorem ref_eq (A : FVec Ideal S2752x4096 .f32) : (truncf .bf16 A bitsLt_bf16_f32 : FVec Ideal S2752x4096 .bf16) = Cert.KernelCastDownIdeal.Prod.OUT A := rfl

end Cert.ReferenceCastDownIdeal.Prod

namespace Cert.CastDown

theorem ok (m : (ℓ : Loc Cert.KernelCastDown.nD Cert.KernelCastDown.τ Cert.KernelCastDown.sig) → Buf (Elt Bits) ℓ) : Cert.KernelCastDown.Gen.Ok m := Cert.KernelCastDown.Prod.ok m

theorem frame_r (m : (ℓ : Loc Cert.ReferenceCastDownIdeal.nD Cert.ReferenceCastDownIdeal.τ Cert.ReferenceCastDownIdeal.sig) → Buf (Elt Ideal) ℓ) (g : Dev Cert.ReferenceCastDownIdeal.nD → PrngReg) :
    θ_run (Cert.ReferenceCastDownIdeal.defs (F := Ideal)) (onTc (τ := Cert.ReferenceCastDownIdeal.τ) (Cert.ReferenceCastDownIdeal.main (F := Ideal))) ⟨m, fun _ => 0, g⟩ (fun r => (∀ c : Dev Cert.ReferenceCastDownIdeal.nD,
      r.2.mem ((c.tc : Thread Cert.ReferenceCastDownIdeal.nD Cert.ReferenceCastDownIdeal.τ).loc Cert.ReferenceCastDownIdeal.main_arg0) = m ((c.tc : Thread Cert.ReferenceCastDownIdeal.nD Cert.ReferenceCastDownIdeal.τ).loc Cert.ReferenceCastDownIdeal.main_arg0)
      ∧ r.2.mem ((c.tc : Thread Cert.ReferenceCastDownIdeal.nD Cert.ReferenceCastDownIdeal.τ).loc Cert.ReferenceCastDownIdeal.main_arg1) = m ((c.tc : Thread Cert.ReferenceCastDownIdeal.nD Cert.ReferenceCastDownIdeal.τ).loc Cert.ReferenceCastDownIdeal.main_arg1))
      ∧ r.2.sem = fun _ => 0) :=
  (θ_run _ _ _).mono (fun r h => ⟨fun c => (h c).2, Idealize.ShloMosaic.sem_eq_zero_of_no_sems (by decide) r.2⟩) (Cert.ReferenceCastDownIdeal.Value.run m g)

theorem value : Cert.algebraic_KernelCastDownIdeal_ReferenceCastDownIdeal := by
  intro m g m' g' _ hag
  refine ⟨_, Cert.KernelCastDownIdeal.Prod.run m g, (θ_run _ _ _).mono (fun r h c => ?_) (Cert.ReferenceCastDownIdeal.Value.run m' g')⟩
  obtain ⟨e0, ea⟩ := h c
  rw [(hag c).1] at e0
  exact ⟨e0.trans (Cert.ReferenceCastDownIdeal.Prod.ref_eq _), ea⟩

end Cert.CastDown

end
-- ==== Proof.OwnIn.lean ====
/- The device's own part of a gradient put into its slot: the array the kernel leaves, block by block, is that part, and so is the reference's. -/
module

public import proofs.«01_k».proof.Defs
public import proofs.«01_k».proof.Proof.Gen.KernelOwnIn.Frame
public import proofs.«01_k».proof.Proof.Gen.KernelOwnInIdeal.Frame
public import proofs.«01_k».proof.Proof.Gen.ReferenceOwnInIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.KernelOwnIn.Prod

open Cert.KernelOwnIn Cert.KernelOwnIn.Gen

/-- The table holds the constant word it is made of. -/
theorem tbl_eq (m : (ℓ : Loc nD τ sig) → Buf (Elt Bits) ℓ) : tbl m 0 = fun _ => 0#32 := by
  unfold tbl V V0
  simp only [hostOps0, List.flatten_cons, List.flatten_nil, List.append_nil, List.cons_append, List.nil_append]
  rfl

/-- The table holds the constant word it is made of. -/
theorem tbl_eq1 (m : (ℓ : Loc nD τ sig) → Buf (Elt Bits) ℓ) : tbl m 1 = fun _ => 0#32 := by
  unfold tbl V V0
  simp only [hostOps0, List.flatten_cons, List.flatten_nil, List.append_nil, List.cons_append, List.nil_append]
  rfl

/-- The block index of window 0, which reads the table. -/
theorem tr0 (m : (ℓ : Loc nD τ sig) → Buf (Elt Bits) ℓ) (i : grid0.Coords) : cc0_transform_0 Gen.facts₀.inb_S1_S1_0 Gen.facts₀.numel1_S1 (tbl m) i = ![(0#32 : BitVec 32).toNat, (BitVec.ofNat 32 (i 0).val).toNat, (Scalar.addi (Scalar.muli 0#32 1#32) (BitVec.ofNat 32 (i 1).val)).toNat] := by
  unfold cc0_transform_0 Pipeline.Prefetch.Contents.at
  simp only [tbl_eq, tbl_eq1]
  done

theorem ok_blocks0 : ∀ i : grid0.Coords, ∃ h : (∀ a, ((![(0#32 : BitVec 32).toNat, (BitVec.ofNat 32 (i 0).val).toNat, (Scalar.addi (Scalar.muli 0#32 1#32) (BitVec.ofNat 32 (i 1).val)).toNat] : Fin 3 → ℕ) a + 1) * S1x256x3072.size a ≤ S1x2048x12288.size a),
    EltTy.bits .bf16 = 32 ∨ (Rect.block (s := S1x2048x12288) S1x256x3072.size ![(0#32 : BitVec 32).toNat, (BitVec.ofNat 32 (i 0).val).toNat, (Scalar.addi (Scalar.muli 0#32 1#32) (BitVec.ofNat 32 (i 1).val)).toNat] h).WholeWords (EltTy.packing .bf16) := by
  decide +kernel

/-- The block index of window 1, which reads the table. -/
theorem tr1 (m : (ℓ : Loc nD τ sig) → Buf (Elt Bits) ℓ) (i : grid0.Coords) : cc0_transform_1 Gen.facts₀.inb_S1_S1_0 Gen.facts₀.numel1_S1 (tbl m) i = ![(0#32 : BitVec 32).toNat, (0#32 : BitVec 32).toNat, (BitVec.ofNat 32 (i 0).val).toNat, (BitVec.ofNat 32 (i 1).val).toNat] := by
  unfold cc0_transform_1 Pipeline.Prefetch.Contents.at
  simp only [tbl_eq, tbl_eq1]
  done

theorem ok_blocks1 : ∀ i : grid0.Coords, ∃ h : (∀ a, ((![(0#32 : BitVec 32).toNat, (0#32 : BitVec 32).toNat, (BitVec.ofNat 32 (i 0).val).toNat, (BitVec.ofNat 32 (i 1).val).toNat] : Fin 4 → ℕ) a + 1) * S1x1x256x3072.size a ≤ S4x2x2048x3072.size a),
    EltTy.bits .bf16 = 32 ∨ (Rect.block (s := S4x2x2048x3072) S1x1x256x3072.size ![(0#32 : BitVec 32).toNat, (0#32 : BitVec 32).toNat, (BitVec.ofNat 32 (i 0).val).toNat, (BitVec.ofNat 32 (i 1).val).toNat] h).WholeWords (EltTy.packing .bf16) := by
  decide +kernel

/-- Every block the table names lies inside its array. -/
theorem ok (m : (ℓ : Loc nD τ sig) → Buf (Elt Bits) ℓ) : Ok m := by
  unfold Ok ok0
  simp only [tr0, tr1]
  exact ⟨ok_blocks0, ok_blocks1⟩

end Cert.KernelOwnIn.Prod

namespace Cert.KernelOwnInIdeal.Prod

open Cert.KernelOwnInIdeal Cert.KernelOwnInIdeal.Gen

/-- The table holds the constant word it is made of. -/
theorem tbl_eq (m : (ℓ : Loc nD τ sig) → Buf (Elt Ideal) ℓ) : tbl m 0 = fun _ => 0#32 := by
  unfold tbl V V0
  simp only [hostOps0, List.flatten_cons, List.flatten_nil, List.append_nil, List.cons_append, List.nil_append]
  rfl

/-- The table holds the constant word it is made of. -/
theorem tbl_eq1 (m : (ℓ : Loc nD τ sig) → Buf (Elt Ideal) ℓ) : tbl m 1 = fun _ => 0#32 := by
  unfold tbl V V0
  simp only [hostOps0, List.flatten_cons, List.flatten_nil, List.append_nil, List.cons_append, List.nil_append]
  rfl

/-- The block index of window 0, which reads the table. -/
theorem tr0 (m : (ℓ : Loc nD τ sig) → Buf (Elt Ideal) ℓ) (i : grid0.Coords) : cc0_transform_0 Gen.facts₀.inb_S1_S1_0 Gen.facts₀.numel1_S1 (tbl m) i = ![(0#32 : BitVec 32).toNat, (BitVec.ofNat 32 (i 0).val).toNat, (Scalar.addi (Scalar.muli 0#32 1#32) (BitVec.ofNat 32 (i 1).val)).toNat] := by
  unfold cc0_transform_0 Pipeline.Prefetch.Contents.at
  simp only [tbl_eq, tbl_eq1]
  done

theorem ok_blocks0 : ∀ i : grid0.Coords, ∃ h : (∀ a, ((![(0#32 : BitVec 32).toNat, (BitVec.ofNat 32 (i 0).val).toNat, (Scalar.addi (Scalar.muli 0#32 1#32) (BitVec.ofNat 32 (i 1).val)).toNat] : Fin 3 → ℕ) a + 1) * S1x256x3072.size a ≤ S1x2048x12288.size a),
    EltTy.bits .bf16 = 32 ∨ (Rect.block (s := S1x2048x12288) S1x256x3072.size ![(0#32 : BitVec 32).toNat, (BitVec.ofNat 32 (i 0).val).toNat, (Scalar.addi (Scalar.muli 0#32 1#32) (BitVec.ofNat 32 (i 1).val)).toNat] h).WholeWords (EltTy.packing .bf16) := by
  decide +kernel

/-- The block index of window 1, which reads the table. -/
theorem tr1 (m : (ℓ : Loc nD τ sig) → Buf (Elt Ideal) ℓ) (i : grid0.Coords) : cc0_transform_1 Gen.facts₀.inb_S1_S1_0 Gen.facts₀.numel1_S1 (tbl m) i = ![(0#32 : BitVec 32).toNat, (0#32 : BitVec 32).toNat, (BitVec.ofNat 32 (i 0).val).toNat, (BitVec.ofNat 32 (i 1).val).toNat] := by
  unfold cc0_transform_1 Pipeline.Prefetch.Contents.at
  simp only [tbl_eq, tbl_eq1]
  done

theorem ok_blocks1 : ∀ i : grid0.Coords, ∃ h : (∀ a, ((![(0#32 : BitVec 32).toNat, (0#32 : BitVec 32).toNat, (BitVec.ofNat 32 (i 0).val).toNat, (BitVec.ofNat 32 (i 1).val).toNat] : Fin 4 → ℕ) a + 1) * S1x1x256x3072.size a ≤ S4x2x2048x3072.size a),
    EltTy.bits .bf16 = 32 ∨ (Rect.block (s := S4x2x2048x3072) S1x1x256x3072.size ![(0#32 : BitVec 32).toNat, (0#32 : BitVec 32).toNat, (BitVec.ofNat 32 (i 0).val).toNat, (BitVec.ofNat 32 (i 1).val).toNat] h).WholeWords (EltTy.packing .bf16) := by
  decide +kernel

/-- Every block the table names lies inside its array. -/
theorem ok (m : (ℓ : Loc nD τ sig) → Buf (Elt Ideal) ℓ) : Ok m := by
  unfold Ok ok0
  simp only [tr0, tr1]
  exact ⟨ok_blocks0, ok_blocks1⟩

end Cert.KernelOwnInIdeal.Prod

namespace Cert.KernelOwnInIdeal.Prod

open Cert.KernelOwnInIdeal Cert.KernelOwnInIdeal.Gen

variable (m : (ℓ : Loc nD τ sig) → Buf (Elt Ideal) ℓ) (hO : Ok m)

theorem idx_grid : ∀ t : Fin grid0.N, ![(0#32 : BitVec 32).toNat, (BitVec.ofNat 32 (grid0.coords t 0).val).toNat, (Scalar.addi (Scalar.muli 0#32 1#32) (BitVec.ofNat 32 (grid0.coords t 1).val)).toNat] = ![0, t.val, 0]
    ∧ ![(0#32 : BitVec 32).toNat, (0#32 : BitVec 32).toNat, (BitVec.ofNat 32 (grid0.coords t 0).val).toNat, (BitVec.ofNat 32 (grid0.coords t 1).val).toNat] = ![0, 0, t.val, 0] ∧ t.val < 8 := by
  decide +kernel

theorem idx (t : Fin (cfgM m hO).N) : ((cfgM m hO).win 0).index t = ![0, t.val, 0]
    ∧ ((cfgM m hO).win 1).index t = ![0, 0, t.val, 0] ∧ t.val < 8 := by
  have h := idx_grid t
  rw [← tr1 m (grid0.coords t), ← tr0 m (grid0.coords t)] at h
  exact h

theorem surj : ∀ x : Fin 8, ∃ t : Fin grid0.N, t.val = x.val := by
  decide +kernel

/-- The blocks written are those of the one slot. -/
theorem covers : ((cfgM m hO).win 1).CoversWhere (fun β => β (0 : Fin 4) < 1 ∧ β (1 : Fin 4) < 1) :=
  ⟨show ∀ a : Fin 4, 0 < S1x1x256x3072.size a by decide,
   fun t _ => ⟨by
      obtain ⟨h0, hw, ht⟩ := idx m hO t
      rw [hw]
      change 0 < 1 ∧ 0 < 1
      omega, fun a => ((cfgM m hO).win 1).xsize_eq_or_end rfl _ a⟩,
   fun β hβ => by
      obtain ⟨t, ht0⟩ := surj ⟨(β (2 : Fin 4)).val, lt_of_lt_of_eq (β (2 : Fin 4)).isLt (show (2048 + 256 - 1) / 256 = 8 by decide)⟩
      obtain ⟨h0, hw, ht⟩ := idx m hO t
      obtain ⟨s, -, hf, hs⟩ := ((cfgM m hO).win 1).exists_flush_same_index rfl t
      refine ⟨s, fun (a : Fin 4) => ?_, hf⟩
      rw [hs, hw]
      have b0 : (β (0 : Fin 4)).val < 1 := hβ.1
      have b1 : (β (1 : Fin 4)).val < 1 := hβ.2
      have b3 : (β (3 : Fin 4)).val < 1 := lt_of_lt_of_eq (β (3 : Fin 4)).isLt (show (3072 + 3072 - 1) / 3072 = 1 by decide)
      match a with
      | 0 => change 0 = (β (0 : Fin 4)).val; omega
      | 1 => change 0 = (β (1 : Fin 4)).val; omega
      | 2 => exact ht0
      | 3 => change 0 = (β (3 : Fin 4)).val; omega⟩

/-- What one point leaves at a block's entry. -/
def part (a : Vec Ideal S1x256x3072 .bf16) (y : S1x1x256x3072.Idx) : EReal := a (ix3 0 (y 2) (y 3))

theorem out_at (a : Vec Ideal S1x256x3072 .bf16) (y : S1x1x256x3072.Idx) : k0_pay1 (F := Ideal) a y = part a y := by
  obtain ⟨p, q, r, l, rfl⟩ : ∃ (p : Fin 1) (q : Fin 1) (r : Fin 256) (l : Fin 3072), y = ix4 p q r l := ⟨y 0, y 1, y 2, y 3, eq_ix4 y⟩
  unfold part
  pointwise [k0_pay1]

theorem last_at (c : Dev nD) (t : Fin (cfgM m hO).N) (y : S1x1x256x3072.Idx) :
    (dats m hO 0 c).after 1 t y = part (iblk m hO c 0 t) y := by
  rw [after0_1]
  unfold outsAt0
  frame_out
  rw [out_at]
  exact congrArg (fun a => part a y) ((hs0_0 m hO t).read_unread _)

/-- Where entry `y` of the block at a point lies in the result. -/
def pos (t : Fin (cfgM m hO).N) (y : S1x1x256x3072.Idx) : S4x2x2048x3072.Idx := (((cfgM m hO).win 1).blk t).view.emb y

/-- Column of the wide array under column `x` of the part. -/
def cl (x : Fin 3072) : Fin 12288 := ⟨x.val, lt_trans x.isLt (by decide)⟩

/-- The part, repeated over the slots. -/
def REP (A : FVec Ideal S1x2048x12288 .bf16) : FVec Ideal S4x2x2048x3072 .bf16 :=
  fun i => A (ix3 0 (i 2) (cl (i 3)))

/-- The result: the part in its slot, what was there elsewhere. -/
def NEW (A : FVec Ideal S1x2048x12288 .bf16) (D : FVec Ideal S4x2x2048x3072 .bf16) : FVec Ideal S4x2x2048x3072 .bf16 :=
  fun i => if (i 0 : ℕ) / 1 < 1 ∧ (i 1 : ℕ) / 1 < 1 then REP A i else D i

theorem final (c : Dev nD) : (dats m hO 0 c).arrAt 1 (cfgM m hO).N = NEW (m ((c : Thread nD τ).loc main_arg0)) ((dats m hO 0 c).A 1) := by
  refine (dats m hO 0 c).arrAt_eq_of_coversWhere 1 (REP (m ((c : Thread nD τ).loc main_arg0))) _ (covers m hO) (fun t hf (y : S1x1x256x3072.Idx) => ?_) (fun j => Iff.rfl)
  blk_simp
  refine (last_at m hO c t y).trans ?_
  obtain ⟨h0, hw, ht⟩ := idx m hO t
  unfold part
  change (_ : EReal) = _
  have e0 : iblk m hO c 0 t (ix3 0 (y 2) (y 3)) = (m ((c : Thread nD τ).loc main_arg0)) (ix3 0 ((pos m hO t y) 2) (cl ((pos m hO t y) 3))) := by
    rw [← V_main_arg0 m c]
    blk_ext [pos, iblk, h0, hw, cl]
  exact e0

/-- The part. -/
def OUT (A : FVec Ideal S1x2048x12288 .bf16) : FVec Ideal S2048x3072 .bf16 := fun i => A (ix3 0 (i 0) (cl (i 1)))

theorem cut (A : FVec Ideal S1x2048x12288 .bf16) (D : FVec Ideal S4x2x2048x3072 .bf16) :
    (shapeCast S2048x3072 (extractStridedSlice S1x1x2048x3072 ![0, 0, 0, 0] (NEW A D) Gen.facts₀.slices_S4x2x2048x3072_S1x1x2048x3072_0_0_0_0) Gen.facts₀.shapeCasts_S1x1x2048x3072_S2048x3072 : FVec Ideal S2048x3072 .bf16) = OUT A := funext fun i => by
  obtain ⟨r, l, rfl⟩ : ∃ (r : Fin 2048) (l : Fin 3072), i = ix2 r l := ⟨i 0, i 1, eq_ix2 i⟩
  unfold OUT
  pointwise
  unfold NEW
  rw [if_pos (by constructor <;> simp)]
  unfold REP
  change (_ : EReal) = _
  congr 2
  all_goals first | rfl | exact Fin.ext (by simp [cl])

theorem tail_eq (c : Dev nD) : Pipeline.afterTail pcfgs (fun _ => adm m hO) (dats m hO) 0 (V0 m) [hostOps1] c main_v4 = OUT (m ((c : Thread nD τ).loc main_arg0)) := by
  refine Eq.trans ?_ (cut (m ((c : Thread nD τ).loc main_arg0)) ((dats m hO 0 c).A 1))
  rw [← final m hO c]
  unfold Pipeline.afterTail
  simp only [hostOps1, List.flatten_cons, List.flatten_nil, List.append_nil, List.cons_append, List.nil_append]
  after_results
  refine congrArg (fun x : FVec Ideal S4x2x2048x3072 .bf16 => (shapeCast S2048x3072 (extractStridedSlice S1x1x2048x3072 ![0, 0, 0, 0] x Gen.facts₀.slices_S4x2x2048x3072_S1x1x2048x3072_0_0_0_0) Gen.facts₀.shapeCasts_S1x1x2048x3072_S2048x3072 : FVec Ideal S2048x3072 .bf16)) ?_
  exact Pipeline.withArrays_arr spec0 winFacts0.arr_inj c (V0 m c) (fun w => (dats m hO 0 c).arrAt w (cfgM m hO).N) 1

variable (ρ : Dev nD → PrngReg)

/-- Every execution ends with the result as named, the argument as launched. -/
theorem run : θ_run defs (onTc (τ := τ) (main (F := Ideal))) ⟨m, fun _ => 0, ρ⟩ (fun r => ∀ c : Dev nD,
      r.2.mem ((c.tc : Thread nD τ).loc main_v4) = OUT (m ((c : Thread nD τ).loc main_arg0))
      ∧ r.2.mem ((c.tc : Thread nD τ).loc main_arg0) = m ((c.tc : Thread nD τ).loc main_arg0)) :=
  (θ_run defs _ _).mono (fun r h c => ⟨((h.1 c).2 main_v4 (by exact (by decide : main_v4 ∈ Pipeline.restRefs sig spec0))).trans (tail_eq m (ok m) c), h.2 c⟩) (θ_run_and (run_main m ρ (ok m)) (unchanged m ρ (ok m)))

end Cert.KernelOwnInIdeal.Prod

namespace Cert.ReferenceOwnInIdeal.Prod

open Cert.ReferenceOwnInIdeal Cert.ReferenceOwnInIdeal.Gen

theorem ref_eq (A : FVec Ideal S1x2048x12288 .bf16) :
    (shapeCast _ (extractStridedSlice S1x2048x3072 ![0, 0, 0] A Gen.facts₀.slices_S1x2048x12288_S1x2048x3072_0_0_0) Gen.facts₀.shapeCasts_S1x2048x3072_S2048x3072 : FVec Ideal S2048x3072 .bf16)
      = Cert.KernelOwnInIdeal.Prod.OUT A := funext fun i => by
  obtain ⟨r, l, rfl⟩ : ∃ (r : Fin 2048) (l : Fin 3072), i = ix2 r l := ⟨i 0, i 1, eq_ix2 i⟩
  unfold Cert.KernelOwnInIdeal.Prod.OUT
  pointwise
  rfl

end Cert.ReferenceOwnInIdeal.Prod

namespace Cert.OwnIn

theorem ok (m : (ℓ : Loc Cert.KernelOwnIn.nD Cert.KernelOwnIn.τ Cert.KernelOwnIn.sig) → Buf (Elt Bits) ℓ) : Cert.KernelOwnIn.Gen.Ok m := Cert.KernelOwnIn.Prod.ok m

theorem frame_r (m : (ℓ : Loc Cert.ReferenceOwnInIdeal.nD Cert.ReferenceOwnInIdeal.τ Cert.ReferenceOwnInIdeal.sig) → Buf (Elt Ideal) ℓ) (g : Dev Cert.ReferenceOwnInIdeal.nD → PrngReg) :
    θ_run (Cert.ReferenceOwnInIdeal.defs (F := Ideal)) (onTc (τ := Cert.ReferenceOwnInIdeal.τ) (Cert.ReferenceOwnInIdeal.main (F := Ideal))) ⟨m, fun _ => 0, g⟩ (fun r => (∀ c : Dev Cert.ReferenceOwnInIdeal.nD,
      r.2.mem ((c.tc : Thread Cert.ReferenceOwnInIdeal.nD Cert.ReferenceOwnInIdeal.τ).loc Cert.ReferenceOwnInIdeal.main_arg0) = m ((c.tc : Thread Cert.ReferenceOwnInIdeal.nD Cert.ReferenceOwnInIdeal.τ).loc Cert.ReferenceOwnInIdeal.main_arg0))
      ∧ r.2.sem = fun _ => 0) :=
  (θ_run _ _ _).mono (fun r h => ⟨fun c => (h c).2, Idealize.ShloMosaic.sem_eq_zero_of_no_sems (by decide) r.2⟩) (Cert.ReferenceOwnInIdeal.Value.run m g)

theorem value : Cert.algebraic_KernelOwnInIdeal_ReferenceOwnInIdeal := by
  intro m g m' g' _ hag
  refine ⟨_, Cert.KernelOwnInIdeal.Prod.run m g, (θ_run _ _ _).mono (fun r h c => ?_) (Cert.ReferenceOwnInIdeal.Value.run m' g')⟩
  obtain ⟨e0, ea⟩ := h c
  rw [hag c] at e0
  exact ⟨e0.trans (Cert.ReferenceOwnInIdeal.Prod.ref_eq _), ea⟩

end Cert.OwnIn

end
-- ==== Proof.OwnOut.lean ====
/- The device's own part of a gradient put into its slot: the array the kernel leaves, block by block, is that part, and so is the reference's. -/
module

public import proofs.«01_k».proof.Defs
public import proofs.«01_k».proof.Proof.Gen.KernelOwnOut.Frame
public import proofs.«01_k».proof.Proof.Gen.KernelOwnOutIdeal.Frame
public import proofs.«01_k».proof.Proof.Gen.ReferenceOwnOutIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.KernelOwnOut.Prod

open Cert.KernelOwnOut Cert.KernelOwnOut.Gen

/-- The table holds the constant word it is made of. -/
theorem tbl_eq (m : (ℓ : Loc nD τ sig) → Buf (Elt Bits) ℓ) : tbl m 0 = fun _ => 0#32 := by
  unfold tbl V V0
  simp only [hostOps0, List.flatten_cons, List.flatten_nil, List.append_nil, List.cons_append, List.nil_append]
  rfl

/-- The table holds the constant word it is made of. -/
theorem tbl_eq1 (m : (ℓ : Loc nD τ sig) → Buf (Elt Bits) ℓ) : tbl m 1 = fun _ => 0#32 := by
  unfold tbl V V0
  simp only [hostOps0, List.flatten_cons, List.flatten_nil, List.append_nil, List.cons_append, List.nil_append]
  rfl

/-- The block index of window 0, which reads the table. -/
theorem tr0 (m : (ℓ : Loc nD τ sig) → Buf (Elt Bits) ℓ) (i : grid0.Coords) : cc0_transform_0 Gen.facts₀.inb_S1_S1_0 Gen.facts₀.numel1_S1 (tbl m) i = ![(0#32 : BitVec 32).toNat, (BitVec.ofNat 32 (i 0).val).toNat, (BitVec.ofNat 32 (i 1).val).toNat] := by
  unfold cc0_transform_0 Pipeline.Prefetch.Contents.at
  simp only [tbl_eq, tbl_eq1]
  done

theorem ok_blocks0 : ∀ i : grid0.Coords, ∃ h : (∀ a, ((![(0#32 : BitVec 32).toNat, (BitVec.ofNat 32 (i 0).val).toNat, (BitVec.ofNat 32 (i 1).val).toNat] : Fin 3 → ℕ) a + 1) * S1x256x2048.size a ≤ S4x1024x2048.size a),
    EltTy.bits .bf16 = 32 ∨ (Rect.block (s := S4x1024x2048) S1x256x2048.size ![(0#32 : BitVec 32).toNat, (BitVec.ofNat 32 (i 0).val).toNat, (BitVec.ofNat 32 (i 1).val).toNat] h).WholeWords (EltTy.packing .bf16) := by
  decide +kernel

/-- The block index of window 1, which reads the table. -/
theorem tr1 (m : (ℓ : Loc nD τ sig) → Buf (Elt Bits) ℓ) (i : grid0.Coords) : cc0_transform_1 Gen.facts₀.inb_S1_S1_0 Gen.facts₀.numel1_S1 (tbl m) i = ![(0#32 : BitVec 32).toNat, (0#32 : BitVec 32).toNat, (BitVec.ofNat 32 (i 0).val).toNat, (BitVec.ofNat 32 (i 1).val).toNat] := by
  unfold cc0_transform_1 Pipeline.Prefetch.Contents.at
  simp only [tbl_eq, tbl_eq1]
  done

theorem ok_blocks1 : ∀ i : grid0.Coords, ∃ h : (∀ a, ((![(0#32 : BitVec 32).toNat, (0#32 : BitVec 32).toNat, (BitVec.ofNat 32 (i 0).val).toNat, (BitVec.ofNat 32 (i 1).val).toNat] : Fin 4 → ℕ) a + 1) * S1x1x256x2048.size a ≤ S4x2x1024x2048.size a),
    EltTy.bits .bf16 = 32 ∨ (Rect.block (s := S4x2x1024x2048) S1x1x256x2048.size ![(0#32 : BitVec 32).toNat, (0#32 : BitVec 32).toNat, (BitVec.ofNat 32 (i 0).val).toNat, (BitVec.ofNat 32 (i 1).val).toNat] h).WholeWords (EltTy.packing .bf16) := by
  decide +kernel

/-- Every block the table names lies inside its array. -/
theorem ok (m : (ℓ : Loc nD τ sig) → Buf (Elt Bits) ℓ) : Ok m := by
  unfold Ok ok0
  simp only [tr0, tr1]
  exact ⟨ok_blocks0, ok_blocks1⟩

end Cert.KernelOwnOut.Prod

namespace Cert.KernelOwnOutIdeal.Prod

open Cert.KernelOwnOutIdeal Cert.KernelOwnOutIdeal.Gen

/-- The table holds the constant word it is made of. -/
theorem tbl_eq (m : (ℓ : Loc nD τ sig) → Buf (Elt Ideal) ℓ) : tbl m 0 = fun _ => 0#32 := by
  unfold tbl V V0
  simp only [hostOps0, List.flatten_cons, List.flatten_nil, List.append_nil, List.cons_append, List.nil_append]
  rfl

/-- The table holds the constant word it is made of. -/
theorem tbl_eq1 (m : (ℓ : Loc nD τ sig) → Buf (Elt Ideal) ℓ) : tbl m 1 = fun _ => 0#32 := by
  unfold tbl V V0
  simp only [hostOps0, List.flatten_cons, List.flatten_nil, List.append_nil, List.cons_append, List.nil_append]
  rfl

/-- The block index of window 0, which reads the table. -/
theorem tr0 (m : (ℓ : Loc nD τ sig) → Buf (Elt Ideal) ℓ) (i : grid0.Coords) : cc0_transform_0 Gen.facts₀.inb_S1_S1_0 Gen.facts₀.numel1_S1 (tbl m) i = ![(0#32 : BitVec 32).toNat, (BitVec.ofNat 32 (i 0).val).toNat, (BitVec.ofNat 32 (i 1).val).toNat] := by
  unfold cc0_transform_0 Pipeline.Prefetch.Contents.at
  simp only [tbl_eq, tbl_eq1]
  done

theorem ok_blocks0 : ∀ i : grid0.Coords, ∃ h : (∀ a, ((![(0#32 : BitVec 32).toNat, (BitVec.ofNat 32 (i 0).val).toNat, (BitVec.ofNat 32 (i 1).val).toNat] : Fin 3 → ℕ) a + 1) * S1x256x2048.size a ≤ S4x1024x2048.size a),
    EltTy.bits .bf16 = 32 ∨ (Rect.block (s := S4x1024x2048) S1x256x2048.size ![(0#32 : BitVec 32).toNat, (BitVec.ofNat 32 (i 0).val).toNat, (BitVec.ofNat 32 (i 1).val).toNat] h).WholeWords (EltTy.packing .bf16) := by
  decide +kernel

/-- The block index of window 1, which reads the table. -/
theorem tr1 (m : (ℓ : Loc nD τ sig) → Buf (Elt Ideal) ℓ) (i : grid0.Coords) : cc0_transform_1 Gen.facts₀.inb_S1_S1_0 Gen.facts₀.numel1_S1 (tbl m) i = ![(0#32 : BitVec 32).toNat, (0#32 : BitVec 32).toNat, (BitVec.ofNat 32 (i 0).val).toNat, (BitVec.ofNat 32 (i 1).val).toNat] := by
  unfold cc0_transform_1 Pipeline.Prefetch.Contents.at
  simp only [tbl_eq, tbl_eq1]
  done

theorem ok_blocks1 : ∀ i : grid0.Coords, ∃ h : (∀ a, ((![(0#32 : BitVec 32).toNat, (0#32 : BitVec 32).toNat, (BitVec.ofNat 32 (i 0).val).toNat, (BitVec.ofNat 32 (i 1).val).toNat] : Fin 4 → ℕ) a + 1) * S1x1x256x2048.size a ≤ S4x2x1024x2048.size a),
    EltTy.bits .bf16 = 32 ∨ (Rect.block (s := S4x2x1024x2048) S1x1x256x2048.size ![(0#32 : BitVec 32).toNat, (0#32 : BitVec 32).toNat, (BitVec.ofNat 32 (i 0).val).toNat, (BitVec.ofNat 32 (i 1).val).toNat] h).WholeWords (EltTy.packing .bf16) := by
  decide +kernel

/-- Every block the table names lies inside its array. -/
theorem ok (m : (ℓ : Loc nD τ sig) → Buf (Elt Ideal) ℓ) : Ok m := by
  unfold Ok ok0
  simp only [tr0, tr1]
  exact ⟨ok_blocks0, ok_blocks1⟩

end Cert.KernelOwnOutIdeal.Prod

namespace Cert.KernelOwnOutIdeal.Prod

open Cert.KernelOwnOutIdeal Cert.KernelOwnOutIdeal.Gen

variable (m : (ℓ : Loc nD τ sig) → Buf (Elt Ideal) ℓ) (hO : Ok m)

theorem idx_grid : ∀ t : Fin grid0.N, ![(0#32 : BitVec 32).toNat, (BitVec.ofNat 32 (grid0.coords t 0).val).toNat, (BitVec.ofNat 32 (grid0.coords t 1).val).toNat] = ![0, t.val, 0]
    ∧ ![(0#32 : BitVec 32).toNat, (0#32 : BitVec 32).toNat, (BitVec.ofNat 32 (grid0.coords t 0).val).toNat, (BitVec.ofNat 32 (grid0.coords t 1).val).toNat] = ![0, 0, t.val, 0] ∧ t.val < 4 := by
  decide +kernel

theorem idx (t : Fin (cfgM m hO).N) : ((cfgM m hO).win 0).index t = ![0, t.val, 0]
    ∧ ((cfgM m hO).win 1).index t = ![0, 0, t.val, 0] ∧ t.val < 4 := by
  have h := idx_grid t
  rw [← tr1 m (grid0.coords t), ← tr0 m (grid0.coords t)] at h
  exact h

theorem surj : ∀ x : Fin 4, ∃ t : Fin grid0.N, t.val = x.val := by
  decide +kernel

/-- The blocks written are those of the one slot. -/
theorem covers : ((cfgM m hO).win 1).CoversWhere (fun β => β (0 : Fin 4) < 1 ∧ β (1 : Fin 4) < 1) :=
  ⟨show ∀ a : Fin 4, 0 < S1x1x256x2048.size a by decide,
   fun t _ => ⟨by
      obtain ⟨h0, hw, ht⟩ := idx m hO t
      rw [hw]
      change 0 < 1 ∧ 0 < 1
      omega, fun a => ((cfgM m hO).win 1).xsize_eq_or_end rfl _ a⟩,
   fun β hβ => by
      obtain ⟨t, ht0⟩ := surj ⟨(β (2 : Fin 4)).val, lt_of_lt_of_eq (β (2 : Fin 4)).isLt (show (1024 + 256 - 1) / 256 = 4 by decide)⟩
      obtain ⟨h0, hw, ht⟩ := idx m hO t
      obtain ⟨s, -, hf, hs⟩ := ((cfgM m hO).win 1).exists_flush_same_index rfl t
      refine ⟨s, fun (a : Fin 4) => ?_, hf⟩
      rw [hs, hw]
      have b0 : (β (0 : Fin 4)).val < 1 := hβ.1
      have b1 : (β (1 : Fin 4)).val < 1 := hβ.2
      have b3 : (β (3 : Fin 4)).val < 1 := lt_of_lt_of_eq (β (3 : Fin 4)).isLt (show (2048 + 2048 - 1) / 2048 = 1 by decide)
      match a with
      | 0 => change 0 = (β (0 : Fin 4)).val; omega
      | 1 => change 0 = (β (1 : Fin 4)).val; omega
      | 2 => exact ht0
      | 3 => change 0 = (β (3 : Fin 4)).val; omega⟩

/-- What one point leaves at a block's entry. -/
def part (a : Vec Ideal S1x256x2048 .bf16) (y : S1x1x256x2048.Idx) : EReal := a (ix3 0 (y 2) (y 3))

theorem out_at (a : Vec Ideal S1x256x2048 .bf16) (y : S1x1x256x2048.Idx) : k0_pay1 (F := Ideal) a y = part a y := by
  obtain ⟨p, q, r, l, rfl⟩ : ∃ (p : Fin 1) (q : Fin 1) (r : Fin 256) (l : Fin 2048), y = ix4 p q r l := ⟨y 0, y 1, y 2, y 3, eq_ix4 y⟩
  unfold part
  pointwise [k0_pay1]

theorem last_at (c : Dev nD) (t : Fin (cfgM m hO).N) (y : S1x1x256x2048.Idx) :
    (dats m hO 0 c).after 1 t y = part (iblk m hO c 0 t) y := by
  rw [after0_1]
  unfold outsAt0
  frame_out
  rw [out_at]
  exact congrArg (fun a => part a y) ((hs0_0 m hO t).read_unread _)

/-- Where entry `y` of the block at a point lies in the result. -/
def pos (t : Fin (cfgM m hO).N) (y : S1x1x256x2048.Idx) : S4x2x1024x2048.Idx := (((cfgM m hO).win 1).blk t).view.emb y

/-- The part, repeated over the slots. -/
def REP (A : FVec Ideal S4x1024x2048 .bf16) : FVec Ideal S4x2x1024x2048 .bf16 :=
  fun i => A (ix3 0 (i 2) (i 3))

/-- The result: the part in its slot, what was there elsewhere. -/
def NEW (A : FVec Ideal S4x1024x2048 .bf16) (D : FVec Ideal S4x2x1024x2048 .bf16) : FVec Ideal S4x2x1024x2048 .bf16 :=
  fun i => if (i 0 : ℕ) / 1 < 1 ∧ (i 1 : ℕ) / 1 < 1 then REP A i else D i

theorem final (c : Dev nD) : (dats m hO 0 c).arrAt 1 (cfgM m hO).N = NEW (m ((c : Thread nD τ).loc main_arg0)) ((dats m hO 0 c).A 1) := by
  refine (dats m hO 0 c).arrAt_eq_of_coversWhere 1 (REP (m ((c : Thread nD τ).loc main_arg0))) _ (covers m hO) (fun t hf (y : S1x1x256x2048.Idx) => ?_) (fun j => Iff.rfl)
  blk_simp
  refine (last_at m hO c t y).trans ?_
  obtain ⟨h0, hw, ht⟩ := idx m hO t
  unfold part
  change (_ : EReal) = _
  have e0 : iblk m hO c 0 t (ix3 0 (y 2) (y 3)) = (m ((c : Thread nD τ).loc main_arg0)) (ix3 0 ((pos m hO t y) 2) ((pos m hO t y) 3)) := by
    rw [← V_main_arg0 m c]
    blk_ext [pos, iblk, h0, hw]
  exact e0

/-- The part. -/
def OUT (A : FVec Ideal S4x1024x2048 .bf16) : FVec Ideal S1024x2048 .bf16 := fun i => A (ix3 0 (i 0) (i 1))

theorem cut (A : FVec Ideal S4x1024x2048 .bf16) (D : FVec Ideal S4x2x1024x2048 .bf16) :
    (shapeCast S1024x2048 (extractStridedSlice S1x1x1024x2048 ![0, 0, 0, 0] (NEW A D) Gen.facts₀.slices_S4x2x1024x2048_S1x1x1024x2048_0_0_0_0) Gen.facts₀.shapeCasts_S1x1x1024x2048_S1024x2048 : FVec Ideal S1024x2048 .bf16) = OUT A := funext fun i => by
  obtain ⟨r, l, rfl⟩ : ∃ (r : Fin 1024) (l : Fin 2048), i = ix2 r l := ⟨i 0, i 1, eq_ix2 i⟩
  unfold OUT
  pointwise
  unfold NEW
  rw [if_pos (by constructor <;> simp)]
  unfold REP
  change (_ : EReal) = _
  congr 2
  all_goals first | rfl | exact Fin.ext (by simp)

theorem tail_eq (c : Dev nD) : Pipeline.afterTail pcfgs (fun _ => adm m hO) (dats m hO) 0 (V0 m) [hostOps1] c main_v4 = OUT (m ((c : Thread nD τ).loc main_arg0)) := by
  refine Eq.trans ?_ (cut (m ((c : Thread nD τ).loc main_arg0)) ((dats m hO 0 c).A 1))
  rw [← final m hO c]
  unfold Pipeline.afterTail
  simp only [hostOps1, List.flatten_cons, List.flatten_nil, List.append_nil, List.cons_append, List.nil_append]
  after_results
  refine congrArg (fun x : FVec Ideal S4x2x1024x2048 .bf16 => (shapeCast S1024x2048 (extractStridedSlice S1x1x1024x2048 ![0, 0, 0, 0] x Gen.facts₀.slices_S4x2x1024x2048_S1x1x1024x2048_0_0_0_0) Gen.facts₀.shapeCasts_S1x1x1024x2048_S1024x2048 : FVec Ideal S1024x2048 .bf16)) ?_
  exact Pipeline.withArrays_arr spec0 winFacts0.arr_inj c (V0 m c) (fun w => (dats m hO 0 c).arrAt w (cfgM m hO).N) 1

variable (ρ : Dev nD → PrngReg)

/-- Every execution ends with the result as named, the argument as launched. -/
theorem run : θ_run defs (onTc (τ := τ) (main (F := Ideal))) ⟨m, fun _ => 0, ρ⟩ (fun r => ∀ c : Dev nD,
      r.2.mem ((c.tc : Thread nD τ).loc main_v4) = OUT (m ((c : Thread nD τ).loc main_arg0))
      ∧ r.2.mem ((c.tc : Thread nD τ).loc main_arg0) = m ((c.tc : Thread nD τ).loc main_arg0)) :=
  (θ_run defs _ _).mono (fun r h c => ⟨((h.1 c).2 main_v4 (by exact (by decide : main_v4 ∈ Pipeline.restRefs sig spec0))).trans (tail_eq m (ok m) c), h.2 c⟩) (θ_run_and (run_main m ρ (ok m)) (unchanged m ρ (ok m)))

end Cert.KernelOwnOutIdeal.Prod

namespace Cert.ReferenceOwnOutIdeal.Prod

open Cert.ReferenceOwnOutIdeal Cert.ReferenceOwnOutIdeal.Gen

theorem ref_eq (A : FVec Ideal S4x1024x2048 .bf16) :
    (shapeCast _ (extractStridedSlice S1x1024x2048 ![0, 0, 0] A Gen.facts₀.slices_S4x1024x2048_S1x1024x2048_0_0_0) Gen.facts₀.shapeCasts_S1x1024x2048_S1024x2048 : FVec Ideal S1024x2048 .bf16)
      = Cert.KernelOwnOutIdeal.Prod.OUT A := funext fun i => by
  obtain ⟨r, l, rfl⟩ : ∃ (r : Fin 1024) (l : Fin 2048), i = ix2 r l := ⟨i 0, i 1, eq_ix2 i⟩
  unfold Cert.KernelOwnOutIdeal.Prod.OUT
  pointwise

end Cert.ReferenceOwnOutIdeal.Prod

namespace Cert.OwnOut

theorem ok (m : (ℓ : Loc Cert.KernelOwnOut.nD Cert.KernelOwnOut.τ Cert.KernelOwnOut.sig) → Buf (Elt Bits) ℓ) : Cert.KernelOwnOut.Gen.Ok m := Cert.KernelOwnOut.Prod.ok m

theorem frame_r (m : (ℓ : Loc Cert.ReferenceOwnOutIdeal.nD Cert.ReferenceOwnOutIdeal.τ Cert.ReferenceOwnOutIdeal.sig) → Buf (Elt Ideal) ℓ) (g : Dev Cert.ReferenceOwnOutIdeal.nD → PrngReg) :
    θ_run (Cert.ReferenceOwnOutIdeal.defs (F := Ideal)) (onTc (τ := Cert.ReferenceOwnOutIdeal.τ) (Cert.ReferenceOwnOutIdeal.main (F := Ideal))) ⟨m, fun _ => 0, g⟩ (fun r => (∀ c : Dev Cert.ReferenceOwnOutIdeal.nD,
      r.2.mem ((c.tc : Thread Cert.ReferenceOwnOutIdeal.nD Cert.ReferenceOwnOutIdeal.τ).loc Cert.ReferenceOwnOutIdeal.main_arg0) = m ((c.tc : Thread Cert.ReferenceOwnOutIdeal.nD Cert.ReferenceOwnOutIdeal.τ).loc Cert.ReferenceOwnOutIdeal.main_arg0))
      ∧ r.2.sem = fun _ => 0) :=
  (θ_run _ _ _).mono (fun r h => ⟨fun c => (h c).2, Idealize.ShloMosaic.sem_eq_zero_of_no_sems (by decide) r.2⟩) (Cert.ReferenceOwnOutIdeal.Value.run m g)

theorem value : Cert.algebraic_KernelOwnOutIdeal_ReferenceOwnOutIdeal := by
  intro m g m' g' _ hag
  refine ⟨_, Cert.KernelOwnOutIdeal.Prod.run m g, (θ_run _ _ _).mono (fun r h c => ?_) (Cert.ReferenceOwnOutIdeal.Value.run m' g')⟩
  obtain ⟨e0, ea⟩ := h c
  rw [hag c] at e0
  exact ⟨e0.trans (Cert.ReferenceOwnOutIdeal.Prod.ref_eq _), ea⟩

end Cert.OwnOut

end
-- ==== Proof.OwnUp.lean ====
/- The device's own part of a gradient put into its slot: the array the kernel leaves, block by block, is that part, and so is the reference's. -/
module

public import proofs.«01_k».proof.Defs
public import proofs.«01_k».proof.Proof.Gen.KernelOwnUp.Frame
public import proofs.«01_k».proof.Proof.Gen.KernelOwnUpIdeal.Frame
public import proofs.«01_k».proof.Proof.Gen.ReferenceOwnUpIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.KernelOwnUp.Prod

open Cert.KernelOwnUp Cert.KernelOwnUp.Gen

/-- The table holds the constant word it is made of. -/
theorem tbl_eq (m : (ℓ : Loc nD τ sig) → Buf (Elt Bits) ℓ) : tbl m 0 = fun _ => 0#32 := by
  unfold tbl V V0
  simp only [hostOps0, List.flatten_cons, List.flatten_nil, List.append_nil, List.cons_append, List.nil_append]
  rfl

/-- The table holds the constant word it is made of. -/
theorem tbl_eq1 (m : (ℓ : Loc nD τ sig) → Buf (Elt Bits) ℓ) : tbl m 1 = fun _ => 0#32 := by
  unfold tbl V V0
  simp only [hostOps0, List.flatten_cons, List.flatten_nil, List.append_nil, List.cons_append, List.nil_append]
  rfl

/-- The block index of window 0, which reads the table. -/
theorem tr0 (m : (ℓ : Loc nD τ sig) → Buf (Elt Bits) ℓ) (i : grid0.Coords) : cc0_transform_0 Gen.facts₀.inb_S1_S1_0 Gen.facts₀.numel1_S1 (tbl m) i = ![(0#32 : BitVec 32).toNat, (BitVec.ofNat 32 (i 0).val).toNat, (Scalar.addi (Scalar.muli 0#32 1#32) (BitVec.ofNat 32 (i 1).val)).toNat] := by
  unfold cc0_transform_0 Pipeline.Prefetch.Contents.at
  simp only [tbl_eq, tbl_eq1]
  done

theorem ok_blocks0 : ∀ i : grid0.Coords, ∃ h : (∀ a, ((![(0#32 : BitVec 32).toNat, (BitVec.ofNat 32 (i 0).val).toNat, (Scalar.addi (Scalar.muli 0#32 1#32) (BitVec.ofNat 32 (i 1).val)).toNat] : Fin 3 → ℕ) a + 1) * S1x256x5504.size a ≤ S1x2048x22016.size a),
    EltTy.bits .bf16 = 32 ∨ (Rect.block (s := S1x2048x22016) S1x256x5504.size ![(0#32 : BitVec 32).toNat, (BitVec.ofNat 32 (i 0).val).toNat, (Scalar.addi (Scalar.muli 0#32 1#32) (BitVec.ofNat 32 (i 1).val)).toNat] h).WholeWords (EltTy.packing .bf16) := by
  decide +kernel

/-- The block index of window 1, which reads the table. -/
theorem tr1 (m : (ℓ : Loc nD τ sig) → Buf (Elt Bits) ℓ) (i : grid0.Coords) : cc0_transform_1 Gen.facts₀.inb_S1_S1_0 Gen.facts₀.numel1_S1 (tbl m) i = ![(0#32 : BitVec 32).toNat, (0#32 : BitVec 32).toNat, (BitVec.ofNat 32 (i 0).val).toNat, (BitVec.ofNat 32 (i 1).val).toNat] := by
  unfold cc0_transform_1 Pipeline.Prefetch.Contents.at
  simp only [tbl_eq, tbl_eq1]
  done

theorem ok_blocks1 : ∀ i : grid0.Coords, ∃ h : (∀ a, ((![(0#32 : BitVec 32).toNat, (0#32 : BitVec 32).toNat, (BitVec.ofNat 32 (i 0).val).toNat, (BitVec.ofNat 32 (i 1).val).toNat] : Fin 4 → ℕ) a + 1) * S1x1x256x5504.size a ≤ S4x2x2048x5504.size a),
    EltTy.bits .bf16 = 32 ∨ (Rect.block (s := S4x2x2048x5504) S1x1x256x5504.size ![(0#32 : BitVec 32).toNat, (0#32 : BitVec 32).toNat, (BitVec.ofNat 32 (i 0).val).toNat, (BitVec.ofNat 32 (i 1).val).toNat] h).WholeWords (EltTy.packing .bf16) := by
  decide +kernel

/-- Every block the table names lies inside its array. -/
theorem ok (m : (ℓ : Loc nD τ sig) → Buf (Elt Bits) ℓ) : Ok m := by
  unfold Ok ok0
  simp only [tr0, tr1]
  exact ⟨ok_blocks0, ok_blocks1⟩

end Cert.KernelOwnUp.Prod

namespace Cert.KernelOwnUpIdeal.Prod

open Cert.KernelOwnUpIdeal Cert.KernelOwnUpIdeal.Gen

/-- The table holds the constant word it is made of. -/
theorem tbl_eq (m : (ℓ : Loc nD τ sig) → Buf (Elt Ideal) ℓ) : tbl m 0 = fun _ => 0#32 := by
  unfold tbl V V0
  simp only [hostOps0, List.flatten_cons, List.flatten_nil, List.append_nil, List.cons_append, List.nil_append]
  rfl

/-- The table holds the constant word it is made of. -/
theorem tbl_eq1 (m : (ℓ : Loc nD τ sig) → Buf (Elt Ideal) ℓ) : tbl m 1 = fun _ => 0#32 := by
  unfold tbl V V0
  simp only [hostOps0, List.flatten_cons, List.flatten_nil, List.append_nil, List.cons_append, List.nil_append]
  rfl

/-- The block index of window 0, which reads the table. -/
theorem tr0 (m : (ℓ : Loc nD τ sig) → Buf (Elt Ideal) ℓ) (i : grid0.Coords) : cc0_transform_0 Gen.facts₀.inb_S1_S1_0 Gen.facts₀.numel1_S1 (tbl m) i = ![(0#32 : BitVec 32).toNat, (BitVec.ofNat 32 (i 0).val).toNat, (Scalar.addi (Scalar.muli 0#32 1#32) (BitVec.ofNat 32 (i 1).val)).toNat] := by
  unfold cc0_transform_0 Pipeline.Prefetch.Contents.at
  simp only [tbl_eq, tbl_eq1]
  done

theorem ok_blocks0 : ∀ i : grid0.Coords, ∃ h : (∀ a, ((![(0#32 : BitVec 32).toNat, (BitVec.ofNat 32 (i 0).val).toNat, (Scalar.addi (Scalar.muli 0#32 1#32) (BitVec.ofNat 32 (i 1).val)).toNat] : Fin 3 → ℕ) a + 1) * S1x256x5504.size a ≤ S1x2048x22016.size a),
    EltTy.bits .bf16 = 32 ∨ (Rect.block (s := S1x2048x22016) S1x256x5504.size ![(0#32 : BitVec 32).toNat, (BitVec.ofNat 32 (i 0).val).toNat, (Scalar.addi (Scalar.muli 0#32 1#32) (BitVec.ofNat 32 (i 1).val)).toNat] h).WholeWords (EltTy.packing .bf16) := by
  decide +kernel

/-- The block index of window 1, which reads the table. -/
theorem tr1 (m : (ℓ : Loc nD τ sig) → Buf (Elt Ideal) ℓ) (i : grid0.Coords) : cc0_transform_1 Gen.facts₀.inb_S1_S1_0 Gen.facts₀.numel1_S1 (tbl m) i = ![(0#32 : BitVec 32).toNat, (0#32 : BitVec 32).toNat, (BitVec.ofNat 32 (i 0).val).toNat, (BitVec.ofNat 32 (i 1).val).toNat] := by
  unfold cc0_transform_1 Pipeline.Prefetch.Contents.at
  simp only [tbl_eq, tbl_eq1]
  done

theorem ok_blocks1 : ∀ i : grid0.Coords, ∃ h : (∀ a, ((![(0#32 : BitVec 32).toNat, (0#32 : BitVec 32).toNat, (BitVec.ofNat 32 (i 0).val).toNat, (BitVec.ofNat 32 (i 1).val).toNat] : Fin 4 → ℕ) a + 1) * S1x1x256x5504.size a ≤ S4x2x2048x5504.size a),
    EltTy.bits .bf16 = 32 ∨ (Rect.block (s := S4x2x2048x5504) S1x1x256x5504.size ![(0#32 : BitVec 32).toNat, (0#32 : BitVec 32).toNat, (BitVec.ofNat 32 (i 0).val).toNat, (BitVec.ofNat 32 (i 1).val).toNat] h).WholeWords (EltTy.packing .bf16) := by
  decide +kernel

/-- Every block the table names lies inside its array. -/
theorem ok (m : (ℓ : Loc nD τ sig) → Buf (Elt Ideal) ℓ) : Ok m := by
  unfold Ok ok0
  simp only [tr0, tr1]
  exact ⟨ok_blocks0, ok_blocks1⟩

end Cert.KernelOwnUpIdeal.Prod

namespace Cert.KernelOwnUpIdeal.Prod

open Cert.KernelOwnUpIdeal Cert.KernelOwnUpIdeal.Gen

variable (m : (ℓ : Loc nD τ sig) → Buf (Elt Ideal) ℓ) (hO : Ok m)

theorem idx_grid : ∀ t : Fin grid0.N, ![(0#32 : BitVec 32).toNat, (BitVec.ofNat 32 (grid0.coords t 0).val).toNat, (Scalar.addi (Scalar.muli 0#32 1#32) (BitVec.ofNat 32 (grid0.coords t 1).val)).toNat] = ![0, t.val, 0]
    ∧ ![(0#32 : BitVec 32).toNat, (0#32 : BitVec 32).toNat, (BitVec.ofNat 32 (grid0.coords t 0).val).toNat, (BitVec.ofNat 32 (grid0.coords t 1).val).toNat] = ![0, 0, t.val, 0] ∧ t.val < 8 := by
  decide +kernel

theorem idx (t : Fin (cfgM m hO).N) : ((cfgM m hO).win 0).index t = ![0, t.val, 0]
    ∧ ((cfgM m hO).win 1).index t = ![0, 0, t.val, 0] ∧ t.val < 8 := by
  have h := idx_grid t
  rw [← tr1 m (grid0.coords t), ← tr0 m (grid0.coords t)] at h
  exact h

theorem surj : ∀ x : Fin 8, ∃ t : Fin grid0.N, t.val = x.val := by
  decide +kernel

/-- The blocks written are those of the one slot. -/
theorem covers : ((cfgM m hO).win 1).CoversWhere (fun β => β (0 : Fin 4) < 1 ∧ β (1 : Fin 4) < 1) :=
  ⟨show ∀ a : Fin 4, 0 < S1x1x256x5504.size a by decide,
   fun t _ => ⟨by
      obtain ⟨h0, hw, ht⟩ := idx m hO t
      rw [hw]
      change 0 < 1 ∧ 0 < 1
      omega, fun a => ((cfgM m hO).win 1).xsize_eq_or_end rfl _ a⟩,
   fun β hβ => by
      obtain ⟨t, ht0⟩ := surj ⟨(β (2 : Fin 4)).val, lt_of_lt_of_eq (β (2 : Fin 4)).isLt (show (2048 + 256 - 1) / 256 = 8 by decide)⟩
      obtain ⟨h0, hw, ht⟩ := idx m hO t
      obtain ⟨s, -, hf, hs⟩ := ((cfgM m hO).win 1).exists_flush_same_index rfl t
      refine ⟨s, fun (a : Fin 4) => ?_, hf⟩
      rw [hs, hw]
      have b0 : (β (0 : Fin 4)).val < 1 := hβ.1
      have b1 : (β (1 : Fin 4)).val < 1 := hβ.2
      have b3 : (β (3 : Fin 4)).val < 1 := lt_of_lt_of_eq (β (3 : Fin 4)).isLt (show (5504 + 5504 - 1) / 5504 = 1 by decide)
      match a with
      | 0 => change 0 = (β (0 : Fin 4)).val; omega
      | 1 => change 0 = (β (1 : Fin 4)).val; omega
      | 2 => exact ht0
      | 3 => change 0 = (β (3 : Fin 4)).val; omega⟩

/-- What one point leaves at a block's entry. -/
def part (a : Vec Ideal S1x256x5504 .bf16) (y : S1x1x256x5504.Idx) : EReal := a (ix3 0 (y 2) (y 3))

theorem out_at (a : Vec Ideal S1x256x5504 .bf16) (y : S1x1x256x5504.Idx) : k0_pay1 (F := Ideal) a y = part a y := by
  obtain ⟨p, q, r, l, rfl⟩ : ∃ (p : Fin 1) (q : Fin 1) (r : Fin 256) (l : Fin 5504), y = ix4 p q r l := ⟨y 0, y 1, y 2, y 3, eq_ix4 y⟩
  unfold part
  pointwise [k0_pay1]

theorem last_at (c : Dev nD) (t : Fin (cfgM m hO).N) (y : S1x1x256x5504.Idx) :
    (dats m hO 0 c).after 1 t y = part (iblk m hO c 0 t) y := by
  rw [after0_1]
  unfold outsAt0
  frame_out
  rw [out_at]
  exact congrArg (fun a => part a y) ((hs0_0 m hO t).read_unread _)

/-- Where entry `y` of the block at a point lies in the result. -/
def pos (t : Fin (cfgM m hO).N) (y : S1x1x256x5504.Idx) : S4x2x2048x5504.Idx := (((cfgM m hO).win 1).blk t).view.emb y

/-- Column of the wide array under column `x` of the part. -/
def cl (x : Fin 5504) : Fin 22016 := ⟨x.val, lt_trans x.isLt (by decide)⟩

/-- The part, repeated over the slots. -/
def REP (A : FVec Ideal S1x2048x22016 .bf16) : FVec Ideal S4x2x2048x5504 .bf16 :=
  fun i => A (ix3 0 (i 2) (cl (i 3)))

/-- The result: the part in its slot, what was there elsewhere. -/
def NEW (A : FVec Ideal S1x2048x22016 .bf16) (D : FVec Ideal S4x2x2048x5504 .bf16) : FVec Ideal S4x2x2048x5504 .bf16 :=
  fun i => if (i 0 : ℕ) / 1 < 1 ∧ (i 1 : ℕ) / 1 < 1 then REP A i else D i

theorem final (c : Dev nD) : (dats m hO 0 c).arrAt 1 (cfgM m hO).N = NEW (m ((c : Thread nD τ).loc main_arg0)) ((dats m hO 0 c).A 1) := by
  refine (dats m hO 0 c).arrAt_eq_of_coversWhere 1 (REP (m ((c : Thread nD τ).loc main_arg0))) _ (covers m hO) (fun t hf (y : S1x1x256x5504.Idx) => ?_) (fun j => Iff.rfl)
  blk_simp
  refine (last_at m hO c t y).trans ?_
  obtain ⟨h0, hw, ht⟩ := idx m hO t
  unfold part
  change (_ : EReal) = _
  have e0 : iblk m hO c 0 t (ix3 0 (y 2) (y 3)) = (m ((c : Thread nD τ).loc main_arg0)) (ix3 0 ((pos m hO t y) 2) (cl ((pos m hO t y) 3))) := by
    rw [← V_main_arg0 m c]
    blk_ext [pos, iblk, h0, hw, cl]
  exact e0

/-- The part. -/
def OUT (A : FVec Ideal S1x2048x22016 .bf16) : FVec Ideal S2048x5504 .bf16 := fun i => A (ix3 0 (i 0) (cl (i 1)))

theorem cut (A : FVec Ideal S1x2048x22016 .bf16) (D : FVec Ideal S4x2x2048x5504 .bf16) :
    (shapeCast S2048x5504 (extractStridedSlice S1x1x2048x5504 ![0, 0, 0, 0] (NEW A D) Gen.facts₀.slices_S4x2x2048x5504_S1x1x2048x5504_0_0_0_0) Gen.facts₀.shapeCasts_S1x1x2048x5504_S2048x5504 : FVec Ideal S2048x5504 .bf16) = OUT A := funext fun i => by
  obtain ⟨r, l, rfl⟩ : ∃ (r : Fin 2048) (l : Fin 5504), i = ix2 r l := ⟨i 0, i 1, eq_ix2 i⟩
  unfold OUT
  pointwise
  unfold NEW
  rw [if_pos (by constructor <;> simp)]
  unfold REP
  change (_ : EReal) = _
  congr 2
  all_goals first | rfl | exact Fin.ext (by simp [cl])

theorem tail_eq (c : Dev nD) : Pipeline.afterTail pcfgs (fun _ => adm m hO) (dats m hO) 0 (V0 m) [hostOps1] c main_v4 = OUT (m ((c : Thread nD τ).loc main_arg0)) := by
  refine Eq.trans ?_ (cut (m ((c : Thread nD τ).loc main_arg0)) ((dats m hO 0 c).A 1))
  rw [← final m hO c]
  unfold Pipeline.afterTail
  simp only [hostOps1, List.flatten_cons, List.flatten_nil, List.append_nil, List.cons_append, List.nil_append]
  after_results
  refine congrArg (fun x : FVec Ideal S4x2x2048x5504 .bf16 => (shapeCast S2048x5504 (extractStridedSlice S1x1x2048x5504 ![0, 0, 0, 0] x Gen.facts₀.slices_S4x2x2048x5504_S1x1x2048x5504_0_0_0_0) Gen.facts₀.shapeCasts_S1x1x2048x5504_S2048x5504 : FVec Ideal S2048x5504 .bf16)) ?_
  exact Pipeline.withArrays_arr spec0 winFacts0.arr_inj c (V0 m c) (fun w => (dats m hO 0 c).arrAt w (cfgM m hO).N) 1

variable (ρ : Dev nD → PrngReg)

/-- Every execution ends with the result as named, the argument as launched. -/
theorem run : θ_run defs (onTc (τ := τ) (main (F := Ideal))) ⟨m, fun _ => 0, ρ⟩ (fun r => ∀ c : Dev nD,
      r.2.mem ((c.tc : Thread nD τ).loc main_v4) = OUT (m ((c : Thread nD τ).loc main_arg0))
      ∧ r.2.mem ((c.tc : Thread nD τ).loc main_arg0) = m ((c.tc : Thread nD τ).loc main_arg0)) :=
  (θ_run defs _ _).mono (fun r h c => ⟨((h.1 c).2 main_v4 (by exact (by decide : main_v4 ∈ Pipeline.restRefs sig spec0))).trans (tail_eq m (ok m) c), h.2 c⟩) (θ_run_and (run_main m ρ (ok m)) (unchanged m ρ (ok m)))

end Cert.KernelOwnUpIdeal.Prod

namespace Cert.ReferenceOwnUpIdeal.Prod

open Cert.ReferenceOwnUpIdeal Cert.ReferenceOwnUpIdeal.Gen

theorem ref_eq (A : FVec Ideal S1x2048x22016 .bf16) :
    (shapeCast _ (extractStridedSlice S1x2048x5504 ![0, 0, 0] A Gen.facts₀.slices_S1x2048x22016_S1x2048x5504_0_0_0) Gen.facts₀.shapeCasts_S1x2048x5504_S2048x5504 : FVec Ideal S2048x5504 .bf16)
      = Cert.KernelOwnUpIdeal.Prod.OUT A := funext fun i => by
  obtain ⟨r, l, rfl⟩ : ∃ (r : Fin 2048) (l : Fin 5504), i = ix2 r l := ⟨i 0, i 1, eq_ix2 i⟩
  unfold Cert.KernelOwnUpIdeal.Prod.OUT
  pointwise
  rfl

end Cert.ReferenceOwnUpIdeal.Prod

namespace Cert.OwnUp

theorem ok (m : (ℓ : Loc Cert.KernelOwnUp.nD Cert.KernelOwnUp.τ Cert.KernelOwnUp.sig) → Buf (Elt Bits) ℓ) : Cert.KernelOwnUp.Gen.Ok m := Cert.KernelOwnUp.Prod.ok m

theorem frame_r (m : (ℓ : Loc Cert.ReferenceOwnUpIdeal.nD Cert.ReferenceOwnUpIdeal.τ Cert.ReferenceOwnUpIdeal.sig) → Buf (Elt Ideal) ℓ) (g : Dev Cert.ReferenceOwnUpIdeal.nD → PrngReg) :
    θ_run (Cert.ReferenceOwnUpIdeal.defs (F := Ideal)) (onTc (τ := Cert.ReferenceOwnUpIdeal.τ) (Cert.ReferenceOwnUpIdeal.main (F := Ideal))) ⟨m, fun _ => 0, g⟩ (fun r => (∀ c : Dev Cert.ReferenceOwnUpIdeal.nD,
      r.2.mem ((c.tc : Thread Cert.ReferenceOwnUpIdeal.nD Cert.ReferenceOwnUpIdeal.τ).loc Cert.ReferenceOwnUpIdeal.main_arg0) = m ((c.tc : Thread Cert.ReferenceOwnUpIdeal.nD Cert.ReferenceOwnUpIdeal.τ).loc Cert.ReferenceOwnUpIdeal.main_arg0))
      ∧ r.2.sem = fun _ => 0) :=
  (θ_run _ _ _).mono (fun r h => ⟨fun c => (h c).2, Idealize.ShloMosaic.sem_eq_zero_of_no_sems (by decide) r.2⟩) (Cert.ReferenceOwnUpIdeal.Value.run m g)

theorem value : Cert.algebraic_KernelOwnUpIdeal_ReferenceOwnUpIdeal := by
  intro m g m' g' _ hag
  refine ⟨_, Cert.KernelOwnUpIdeal.Prod.run m g, (θ_run _ _ _).mono (fun r h c => ?_) (Cert.ReferenceOwnUpIdeal.Value.run m' g')⟩
  obtain ⟨e0, ea⟩ := h c
  rw [hag c] at e0
  exact ⟨e0.trans (Cert.ReferenceOwnUpIdeal.Prod.ref_eq _), ea⟩

end Cert.OwnUp

end
-- ==== Proof.OwnDown.lean ====
/- The device's own part of a gradient put into its slot: the array the kernel leaves, block by block, is that part, and so is the reference's. -/
module

public import proofs.«01_k».proof.Defs
public import proofs.«01_k».proof.Proof.Gen.KernelOwnDown.Frame
public import proofs.«01_k».proof.Proof.Gen.KernelOwnDownIdeal.Frame
public import proofs.«01_k».proof.Proof.Gen.ReferenceOwnDownIdeal.Run
public import Idealize.ShloMosaic.Lib.Pipeline.ValueKit
public import Idealize.ShloMosaic.Lib.Pipeline.ReadBack
public import Idealize.ShloMosaic.Lib.Quiescent
public import Idealize.ShloMosaic.Lib.Pipeline.Covers
public import Idealize.ShloMosaic.Lib.Pipeline.ValueKit.Partial

@[expose] public section

set_option maxRecDepth 16384

noncomputable section

open Idealize.ShloMosaic Idealize.ShloMosaic.TcCoe Idealize.SL.Sem
open Idealize.ShloMosaic.Pipeline (Dat)

namespace Cert.KernelOwnDown.Prod

open Cert.KernelOwnDown Cert.KernelOwnDown.Gen

/-- The table holds the constant word it is made of. -/
theorem tbl_eq (m : (ℓ : Loc nD τ sig) → Buf (Elt Bits) ℓ) : tbl m 0 = fun _ => 0#32 := by
  unfold tbl V V0
  simp only [hostOps0, List.flatten_cons, List.flatten_nil, List.append_nil, List.cons_append, List.nil_append]
  rfl

/-- The table holds the constant word it is made of. -/
theorem tbl_eq1 (m : (ℓ : Loc nD τ sig) → Buf (Elt Bits) ℓ) : tbl m 1 = fun _ => 0#32 := by
  unfold tbl V V0
  simp only [hostOps0, List.flatten_cons, List.flatten_nil, List.append_nil, List.cons_append, List.nil_append]
  rfl

/-- The block index of window 0, which reads the table. -/
theorem tr0 (m : (ℓ : Loc nD τ sig) → Buf (Elt Bits) ℓ) (i : grid0.Coords) : cc0_transform_0 Gen.facts₀.inb_S1_S1_0 Gen.facts₀.numel1_S1 (tbl m) i = ![(0#32 : BitVec 32).toNat, (BitVec.ofNat 32 (i 0).val).toNat, (BitVec.ofNat 32 (i 1).val).toNat] := by
  unfold cc0_transform_0 Pipeline.Prefetch.Contents.at
  simp only [tbl_eq, tbl_eq1]
  done

theorem ok_blocks0 : ∀ i : grid0.Coords, ∃ h : (∀ a, ((![(0#32 : BitVec 32).toNat, (BitVec.ofNat 32 (i 0).val).toNat, (BitVec.ofNat 32 (i 1).val).toNat] : Fin 3 → ℕ) a + 1) * S1x64x2048.size a ≤ S4x2752x2048.size a),
    EltTy.bits .bf16 = 32 ∨ (Rect.block (s := S4x2752x2048) S1x64x2048.size ![(0#32 : BitVec 32).toNat, (BitVec.ofNat 32 (i 0).val).toNat, (BitVec.ofNat 32 (i 1).val).toNat] h).WholeWords (EltTy.packing .bf16) := by
  decide +kernel

/-- The block index of window 1, which reads the table. -/
theorem tr1 (m : (ℓ : Loc nD τ sig) → Buf (Elt Bits) ℓ) (i : grid0.Coords) : cc0_transform_1 Gen.facts₀.inb_S1_S1_0 Gen.facts₀.numel1_S1 (tbl m) i = ![(0#32 : BitVec 32).toNat, (0#32 : BitVec 32).toNat, (BitVec.ofNat 32 (i 0).val).toNat, (BitVec.ofNat 32 (i 1).val).toNat] := by
  unfold cc0_transform_1 Pipeline.Prefetch.Contents.at
  simp only [tbl_eq, tbl_eq1]
  done

theorem ok_blocks1 : ∀ i : grid0.Coords, ∃ h : (∀ a, ((![(0#32 : BitVec 32).toNat, (0#32 : BitVec 32).toNat, (BitVec.ofNat 32 (i 0).val).toNat, (BitVec.ofNat 32 (i 1).val).toNat] : Fin 4 → ℕ) a + 1) * S1x1x64x2048.size a ≤ S4x2x2752x2048.size a),
    EltTy.bits .bf16 = 32 ∨ (Rect.block (s := S4x2x2752x2048) S1x1x64x2048.size ![(0#32 : BitVec 32).toNat, (0#32 : BitVec 32).toNat, (BitVec.ofNat 32 (i 0).val).toNat, (BitVec.ofNat 32 (i 1).val).toNat] h).WholeWords (EltTy.packing .bf16) := by
  decide +kernel

/-- Every block the table names lies inside its array. -/
theorem ok (m : (ℓ : Loc nD τ sig) → Buf (Elt Bits) ℓ) : Ok m := by
  unfold Ok ok0
  simp only [tr0, tr1]
  exact ⟨ok_blocks0, ok_blocks1⟩

end Cert.KernelOwnDown.Prod

namespace Cert.KernelOwnDownIdeal.Prod

open Cert.KernelOwnDownIdeal Cert.KernelOwnDownIdeal.Gen

/-- The table holds the constant word it is made of. -/
theorem tbl_eq (m : (ℓ : Loc nD τ sig) → Buf (Elt Ideal) ℓ) : tbl m 0 = fun _ => 0#32 := by
  unfold tbl V V0
  simp only [hostOps0, List.flatten_cons, List.flatten_nil, List.append_nil, List.cons_append, List.nil_append]
  rfl

/-- The table holds the constant word it is made of. -/
theorem tbl_eq1 (m : (ℓ : Loc nD τ sig) → Buf (Elt Ideal) ℓ) : tbl m 1 = fun _ => 0#32 := by
  unfold tbl V V0
  simp only [hostOps0, List.flatten_cons, List.flatten_nil, List.append_nil, List.cons_append, List.nil_append]
  rfl

/-- The block index of window 0, which reads the table. -/
theorem tr0 (m : (ℓ : Loc nD τ sig) → Buf (Elt Ideal) ℓ) (i : grid0.Coords) : cc0_transform_0 Gen.facts₀.inb_S1_S1_0 Gen.facts₀.numel1_S1 (tbl m) i = ![(0#32 : BitVec 32).toNat, (BitVec.ofNat 32 (i 0).val).toNat, (BitVec.ofNat 32 (i 1).val).toNat] := by
  unfold cc0_transform_0 Pipeline.Prefetch.Contents.at
  simp only [tbl_eq, tbl_eq1]
  done

theorem ok_blocks0 : ∀ i : grid0.Coords, ∃ h : (∀ a, ((![(0#32 : BitVec 32).toNat, (BitVec.ofNat 32 (i 0).val).toNat, (BitVec.ofNat 32 (i 1).val).toNat] : Fin 3 → ℕ) a + 1) * S1x64x2048.size a ≤ S4x2752x2048.size a),
    EltTy.bits .bf16 = 32 ∨ (Rect.block (s := S4x2752x2048) S1x64x2048.size ![(0#32 : BitVec 32).toNat, (BitVec.ofNat 32 (i 0).val).toNat, (BitVec.ofNat 32 (i 1).val).toNat] h).WholeWords (EltTy.packing .bf16) := by
  decide +kernel

/-- The block index of window 1, which reads the table. -/
theorem tr1 (m : (ℓ : Loc nD τ sig) → Buf (Elt Ideal) ℓ) (i : grid0.Coords) : cc0_transform_1 Gen.facts₀.inb_S1_S1_0 Gen.facts₀.numel1_S1 (tbl m) i = ![(0#32 : BitVec 32).toNat, (0#32 : BitVec 32).toNat, (BitVec.ofNat 32 (i 0).val).toNat, (BitVec.ofNat 32 (i 1).val).toNat] := by
  unfold cc0_transform_1 Pipeline.Prefetch.Contents.at
  simp only [tbl_eq, tbl_eq1]
  done

theorem ok_blocks1 : ∀ i : grid0.Coords, ∃ h : (∀ a, ((![(0#32 : BitVec 32).toNat, (0#32 : BitVec 32).toNat, (BitVec.ofNat 32 (i 0).val).toNat, (BitVec.ofNat 32 (i 1).val).toNat] : Fin 4 → ℕ) a + 1) * S1x1x64x2048.size a ≤ S4x2x2752x2048.size a),
    EltTy.bits .bf16 = 32 ∨ (Rect.block (s := S4x2x2752x2048) S1x1x64x2048.size ![(0#32 : BitVec 32).toNat, (0#32 : BitVec 32).toNat, (BitVec.ofNat 32 (i 0).val).toNat, (BitVec.ofNat 32 (i 1).val).toNat] h).WholeWords (EltTy.packing .bf16) := by
  decide +kernel

/-- Every block the table names lies inside its array. -/
theorem ok (m : (ℓ : Loc nD τ sig) → Buf (Elt Ideal) ℓ) : Ok m := by
  unfold Ok ok0
  simp only [tr0, tr1]
  exact ⟨ok_blocks0, ok_blocks1⟩

end Cert.KernelOwnDownIdeal.Prod

namespace Cert.KernelOwnDownIdeal.Prod

open Cert.KernelOwnDownIdeal Cert.KernelOwnDownIdeal.Gen

variable (m : (ℓ : Loc nD τ sig) → Buf (Elt Ideal) ℓ) (hO : Ok m)

theorem idx_grid : ∀ t : Fin grid0.N, ![(0#32 : BitVec 32).toNat, (BitVec.ofNat 32 (grid0.coords t 0).val).toNat, (BitVec.ofNat 32 (grid0.coords t 1).val).toNat] = ![0, t.val, 0]
    ∧ ![(0#32 : BitVec 32).toNat, (0#32 : BitVec 32).toNat, (BitVec.ofNat 32 (grid0.coords t 0).val).toNat, (BitVec.ofNat 32 (grid0.coords t 1).val).toNat] = ![0, 0, t.val, 0] ∧ t.val < 43 := by
  decide +kernel

theorem idx (t : Fin (cfgM m hO).N) : ((cfgM m hO).win 0).index t = ![0, t.val, 0]
    ∧ ((cfgM m hO).win 1).index t = ![0, 0, t.val, 0] ∧ t.val < 43 := by
  have h := idx_grid t
  rw [← tr1 m (grid0.coords t), ← tr0 m (grid0.coords t)] at h
  exact h

theorem surj : ∀ x : Fin 43, ∃ t : Fin grid0.N, t.val = x.val := by
  decide +kernel

/-- The blocks written are those of the one slot. -/
theorem covers : ((cfgM m hO).win 1).CoversWhere (fun β => β (0 : Fin 4) < 1 ∧ β (1 : Fin 4) < 1) :=
  ⟨show ∀ a : Fin 4, 0 < S1x1x64x2048.size a by decide,
   fun t _ => ⟨by
      obtain ⟨h0, hw, ht⟩ := idx m hO t
      rw [hw]
      change 0 < 1 ∧ 0 < 1
      omega, fun a => ((cfgM m hO).win 1).xsize_eq_or_end rfl _ a⟩,
   fun β hβ => by
      obtain ⟨t, ht0⟩ := surj ⟨(β (2 : Fin 4)).val, lt_of_lt_of_eq (β (2 : Fin 4)).isLt (show (2752 + 64 - 1) / 64 = 43 by decide)⟩
      obtain ⟨h0, hw, ht⟩ := idx m hO t
      obtain ⟨s, -, hf, hs⟩ := ((cfgM m hO).win 1).exists_flush_same_index rfl t
      refine ⟨s, fun (a : Fin 4) => ?_, hf⟩
      rw [hs, hw]
      have b0 : (β (0 : Fin 4)).val < 1 := hβ.1
      have b1 : (β (1 : Fin 4)).val < 1 := hβ.2
      have b3 : (β (3 : Fin 4)).val < 1 := lt_of_lt_of_eq (β (3 : Fin 4)).isLt (show (2048 + 2048 - 1) / 2048 = 1 by decide)
      match a with
      | 0 => change 0 = (β (0 : Fin 4)).val; omega
      | 1 => change 0 = (β (1 : Fin 4)).val; omega
      | 2 => exact ht0
      | 3 => change 0 = (β (3 : Fin 4)).val; omega⟩

/-- What one point leaves at a block's entry. -/
def part (a : Vec Ideal S1x64x2048 .bf16) (y : S1x1x64x2048.Idx) : EReal := a (ix3 0 (y 2) (y 3))

theorem out_at (a : Vec Ideal S1x64x2048 .bf16) (y : S1x1x64x2048.Idx) : k0_pay1 (F := Ideal) a y = part a y := by
  obtain ⟨p, q, r, l, rfl⟩ : ∃ (p : Fin 1) (q : Fin 1) (r : Fin 64) (l : Fin 2048), y = ix4 p q r l := ⟨y 0, y 1, y 2, y 3, eq_ix4 y⟩
  unfold part
  pointwise [k0_pay1]

theorem last_at (c : Dev nD) (t : Fin (cfgM m hO).N) (y : S1x1x64x2048.Idx) :
    (dats m hO 0 c).after 1 t y = part (iblk m hO c 0 t) y := by
  rw [after0_1]
  unfold outsAt0
  frame_out
  rw [out_at]
  exact congrArg (fun a => part a y) ((hs0_0 m hO t).read_unread _)

/-- Where entry `y` of the block at a point lies in the result. -/
def pos (t : Fin (cfgM m hO).N) (y : S1x1x64x2048.Idx) : S4x2x2752x2048.Idx := (((cfgM m hO).win 1).blk t).view.emb y

/-- The part, repeated over the slots. -/
def REP (A : FVec Ideal S4x2752x2048 .bf16) : FVec Ideal S4x2x2752x2048 .bf16 :=
  fun i => A (ix3 0 (i 2) (i 3))

/-- The result: the part in its slot, what was there elsewhere. -/
def NEW (A : FVec Ideal S4x2752x2048 .bf16) (D : FVec Ideal S4x2x2752x2048 .bf16) : FVec Ideal S4x2x2752x2048 .bf16 :=
  fun i => if (i 0 : ℕ) / 1 < 1 ∧ (i 1 : ℕ) / 1 < 1 then REP A i else D i

theorem final (c : Dev nD) : (dats m hO 0 c).arrAt 1 (cfgM m hO).N = NEW (m ((c : Thread nD τ).loc main_arg0)) ((dats m hO 0 c).A 1) := by
  refine (dats m hO 0 c).arrAt_eq_of_coversWhere 1 (REP (m ((c : Thread nD τ).loc main_arg0))) _ (covers m hO) (fun t hf (y : S1x1x64x2048.Idx) => ?_) (fun j => Iff.rfl)
  blk_simp
  refine (last_at m hO c t y).trans ?_
  obtain ⟨h0, hw, ht⟩ := idx m hO t
  unfold part
  change (_ : EReal) = _
  have e0 : iblk m hO c 0 t (ix3 0 (y 2) (y 3)) = (m ((c : Thread nD τ).loc main_arg0)) (ix3 0 ((pos m hO t y) 2) ((pos m hO t y) 3)) := by
    rw [← V_main_arg0 m c]
    blk_ext [pos, iblk, h0, hw]
  exact e0

/-- The part. -/
def OUT (A : FVec Ideal S4x2752x2048 .bf16) : FVec Ideal S2752x2048 .bf16 := fun i => A (ix3 0 (i 0) (i 1))

theorem cut (A : FVec Ideal S4x2752x2048 .bf16) (D : FVec Ideal S4x2x2752x2048 .bf16) :
    (shapeCast S2752x2048 (extractStridedSlice S1x1x2752x2048 ![0, 0, 0, 0] (NEW A D) Gen.facts₀.slices_S4x2x2752x2048_S1x1x2752x2048_0_0_0_0) Gen.facts₀.shapeCasts_S1x1x2752x2048_S2752x2048 : FVec Ideal S2752x2048 .bf16) = OUT A := funext fun i => by
  obtain ⟨r, l, rfl⟩ : ∃ (r : Fin 2752) (l : Fin 2048), i = ix2 r l := ⟨i 0, i 1, eq_ix2 i⟩
  unfold OUT
  pointwise
  unfold NEW
  rw [if_pos (by constructor <;> simp)]
  unfold REP
  change (_ : EReal) = _
  congr 2
  all_goals first | rfl | exact Fin.ext (by simp)

theorem tail_eq (c : Dev nD) : Pipeline.afterTail pcfgs (fun _ => adm m hO) (dats m hO) 0 (V0 m) [hostOps1] c main_v4 = OUT (m ((c : Thread nD τ).loc main_arg0)) := by
  refine Eq.trans ?_ (cut (m ((c : Thread nD τ).loc main_arg0)) ((dats m hO 0 c).A 1))
  rw [← final m hO c]
  unfold Pipeline.afterTail
  simp only [hostOps1, List.flatten_cons, List.flatten_nil, List.append_nil, List.cons_append, List.nil_append]
  after_results
  refine congrArg (fun x : FVec Ideal S4x2x2752x2048 .bf16 => (shapeCast S2752x2048 (extractStridedSlice S1x1x2752x2048 ![0, 0, 0, 0] x Gen.facts₀.slices_S4x2x2752x2048_S1x1x2752x2048_0_0_0_0) Gen.facts₀.shapeCasts_S1x1x2752x2048_S2752x2048 : FVec Ideal S2752x2048 .bf16)) ?_
  exact Pipeline.withArrays_arr spec0 winFacts0.arr_inj c (V0 m c) (fun w => (dats m hO 0 c).arrAt w (cfgM m hO).N) 1

variable (ρ : Dev nD → PrngReg)

/-- Every execution ends with the result as named, the argument as launched. -/
theorem run : θ_run defs (onTc (τ := τ) (main (F := Ideal))) ⟨m, fun _ => 0, ρ⟩ (fun r => ∀ c : Dev nD,
      r.2.mem ((c.tc : Thread nD τ).loc main_v4) = OUT (m ((c : Thread nD τ).loc main_arg0))
      ∧ r.2.mem ((c.tc : Thread nD τ).loc main_arg0) = m ((c.tc : Thread nD τ).loc main_arg0)) :=
  (θ_run defs _ _).mono (fun r h c => ⟨((h.1 c).2 main_v4 (by exact (by decide : main_v4 ∈ Pipeline.restRefs sig spec0))).trans (tail_eq m (ok m) c), h.2 c⟩) (θ_run_and (run_main m ρ (ok m)) (unchanged m ρ (ok m)))

end Cert.KernelOwnDownIdeal.Prod

namespace Cert.ReferenceOwnDownIdeal.Prod

open Cert.ReferenceOwnDownIdeal Cert.ReferenceOwnDownIdeal.Gen

theorem ref_eq (A : FVec Ideal S4x2752x2048 .bf16) :
    (shapeCast _ (extractStridedSlice S1x2752x2048 ![0, 0, 0] A Gen.facts₀.slices_S4x2752x2048_S1x2752x2048_0_0_0) Gen.facts₀.shapeCasts_S1x2752x2048_S2752x2048 : FVec Ideal S2752x2048 .bf16)
      = Cert.KernelOwnDownIdeal.Prod.OUT A := funext fun i => by
  obtain ⟨r, l, rfl⟩ : ∃ (r : Fin 2752) (l : Fin 2048), i = ix2 r l := ⟨i 0, i 1, eq_ix2 i⟩
  unfold Cert.KernelOwnDownIdeal.Prod.OUT
  pointwise

end Cert.ReferenceOwnDownIdeal.Prod

namespace Cert.OwnDown

theorem ok (m : (ℓ : Loc Cert.KernelOwnDown.nD Cert.KernelOwnDown.τ Cert.KernelOwnDown.sig) → Buf (Elt Bits) ℓ) : Cert.KernelOwnDown.Gen.Ok m := Cert.KernelOwnDown.Prod.ok m

theorem frame_r (m : (ℓ : Loc Cert.ReferenceOwnDownIdeal.nD Cert.ReferenceOwnDownIdeal.τ Cert.ReferenceOwnDownIdeal.sig) → Buf (Elt Ideal) ℓ) (g : Dev Cert.ReferenceOwnDownIdeal.nD → PrngReg) :
    θ_run (Cert.ReferenceOwnDownIdeal.defs (F := Ideal)) (onTc (τ := Cert.ReferenceOwnDownIdeal.τ) (Cert.ReferenceOwnDownIdeal.main (F := Ideal))) ⟨m, fun _ => 0, g⟩ (fun r => (∀ c : Dev Cert.ReferenceOwnDownIdeal.nD,
      r.2.mem ((c.tc : Thread Cert.ReferenceOwnDownIdeal.nD Cert.ReferenceOwnDownIdeal.τ).loc Cert.ReferenceOwnDownIdeal.main_arg0) = m ((c.tc : Thread Cert.ReferenceOwnDownIdeal.nD Cert.ReferenceOwnDownIdeal.τ).loc Cert.ReferenceOwnDownIdeal.main_arg0))
      ∧ r.2.sem = fun _ => 0) :=
  (θ_run _ _ _).mono (fun r h => ⟨fun c => (h c).2, Idealize.ShloMosaic.sem_eq_zero_of_no_sems (by decide) r.2⟩) (Cert.ReferenceOwnDownIdeal.Value.run m g)

theorem value : Cert.algebraic_KernelOwnDownIdeal_ReferenceOwnDownIdeal := by
  intro m g m' g' _ hag
  refine ⟨_, Cert.KernelOwnDownIdeal.Prod.run m g, (θ_run _ _ _).mono (fun r h c => ?_) (Cert.ReferenceOwnDownIdeal.Value.run m' g')⟩
  obtain ⟨e0, ea⟩ := h c
  rw [hag c] at e0
  exact ⟨e0.trans (Cert.ReferenceOwnDownIdeal.Prod.ref_eq _), ea⟩

end Cert.OwnDown

end
-- ==== Proof.lean ====
/- The claims: the frames are the generated ones, the value claims those of the modules imported here, one per call. -/
module

public import proofs.«01_k».proof.Defs
public import proofs.«01_k».proof.Proof.Gen.Kernel.Frame
public import proofs.«01_k».proof.Proof.Ffn
public import proofs.«01_k».proof.Proof.Gen.KernelDHn2.Frame
public import proofs.«01_k».proof.Proof.DHn2
public import proofs.«01_k».proof.Proof.Gen.KernelDAct.Frame
public import proofs.«01_k».proof.Proof.DAct
public import proofs.«01_k».proof.Proof.Gen.KernelDHn1.Frame
public import proofs.«01_k».proof.Proof.DHn1
public import proofs.«01_k».proof.Proof.Gen.KernelDMix.Frame
public import proofs.«01_k».proof.Proof.DMix
public import proofs.«01_k».proof.Proof.Gen.KernelGUpS.Frame
public import proofs.«01_k».proof.Proof.GUpS
public import proofs.«01_k».proof.Proof.Gen.KernelGUpO.Frame
public import proofs.«01_k».proof.Proof.GUpO
public import proofs.«01_k».proof.Proof.Gen.KernelGDownS.Frame
public import proofs.«01_k».proof.Proof.GDownS
public import proofs.«01_k».proof.Proof.Gen.KernelGDownO.Frame
public import proofs.«01_k».proof.Proof.GDownO
public import proofs.«01_k».proof.Proof.Gen.KernelGInS.Frame
public import proofs.«01_k».proof.Proof.GInS
public import proofs.«01_k».proof.Proof.Gen.KernelGInO.Frame
public import proofs.«01_k».proof.Proof.GInO
public import proofs.«01_k».proof.Proof.Gen.KernelGOutS.Frame
public import proofs.«01_k».proof.Proof.GOutS
public import proofs.«01_k».proof.Proof.Gen.KernelGOutO.Frame
public import proofs.«01_k».proof.Proof.GOutO
public import proofs.«01_k».proof.Proof.Gen.KernelProjOwn.Frame
public import proofs.«01_k».proof.Proof.ProjOwn
public import proofs.«01_k».proof.Proof.Gen.KernelProjX.Frame
public import proofs.«01_k».proof.Proof.ProjX
public import proofs.«01_k».proof.Proof.Gen.KernelProjY.Frame
public import proofs.«01_k».proof.Proof.ProjY
public import proofs.«01_k».proof.Proof.Gen.KernelProjXY.Frame
public import proofs.«01_k».proof.Proof.ProjXY
public import proofs.«01_k».proof.Proof.Gen.KernelUp.Frame
public import proofs.«01_k».proof.Proof.Up
public import proofs.«01_k».proof.Proof.Gen.KernelDown.Frame
public import proofs.«01_k».proof.Proof.Down
public import proofs.«01_k».proof.Proof.Gen.KernelOut.Frame
public import proofs.«01_k».proof.Proof.Out
public import proofs.«01_k».proof.Proof.Gen.KernelNorm.Frame
public import proofs.«01_k».proof.Proof.Norm
public import proofs.«01_k».proof.Proof.Gen.KernelNormZ.Frame
public import proofs.«01_k».proof.Proof.NormZ
public import proofs.«01_k».proof.Proof.Gen.KernelNormBwd.Frame
public import proofs.«01_k».proof.Proof.NormBwd
public import proofs.«01_k».proof.Proof.Gen.KernelNormBwdA.Frame
public import proofs.«01_k».proof.Proof.NormBwdA
public import proofs.«01_k».proof.Proof.Gen.KernelNormZBwd.Frame
public import proofs.«01_k».proof.Proof.NormZBwd
public import proofs.«01_k».proof.Proof.Gen.KernelLoss.Frame
public import proofs.«01_k».proof.Proof.Loss
public import proofs.«01_k».proof.Proof.Gen.KernelAdamIn.Frame
public import proofs.«01_k».proof.Proof.AdamIn
public import proofs.«01_k».proof.Proof.Gen.KernelAdamUp.Frame
public import proofs.«01_k».proof.Proof.AdamUp
public import proofs.«01_k».proof.Proof.Gen.KernelAdamOut.Frame
public import proofs.«01_k».proof.Proof.AdamOut
public import proofs.«01_k».proof.Proof.Gen.KernelAdamDown.Frame
public import proofs.«01_k».proof.Proof.AdamDown
public import proofs.«01_k».proof.Proof.Gen.KernelAdamSmall.Frame
public import proofs.«01_k».proof.Proof.AdamSmall
public import proofs.«01_k».proof.Proof.Gen.KernelCastIn.Frame
public import proofs.«01_k».proof.Proof.CastIn
public import proofs.«01_k».proof.Proof.Gen.KernelCastOut.Frame
public import proofs.«01_k».proof.Proof.CastOut
public import proofs.«01_k».proof.Proof.Gen.KernelCastUp.Frame
public import proofs.«01_k».proof.Proof.CastUp
public import proofs.«01_k».proof.Proof.Gen.KernelCastDown.Frame
public import proofs.«01_k».proof.Proof.CastDown
public import proofs.«01_k».proof.Proof.Gen.KernelOwnIn.Frame
public import proofs.«01_k».proof.Proof.OwnIn
public import proofs.«01_k».proof.Proof.Gen.KernelOwnOut.Frame
public import proofs.«01_k».proof.Proof.OwnOut
public import proofs.«01_k».proof.Proof.Gen.KernelOwnUp.Frame
public import proofs.«01_k».proof.Proof.OwnUp
public import proofs.«01_k».proof.Proof.Gen.KernelOwnDown.Frame
public import proofs.«01_k».proof.Proof.OwnDown
public import Idealize.ShloMosaic.Lib.Quiescent

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.KernelDHn2.Gen.facts, Cert.KernelDHn2Ideal.Gen.facts, Cert.ReferenceDHn2Ideal.Gen.facts,
    Cert.KernelDAct.Gen.facts, Cert.KernelDActIdeal.Gen.facts, Cert.ReferenceDActIdeal.Gen.facts,
    Cert.KernelDHn1.Gen.facts, Cert.KernelDHn1Ideal.Gen.facts, Cert.ReferenceDHn1Ideal.Gen.facts,
    Cert.KernelDMix.Gen.facts, Cert.KernelDMixIdeal.Gen.facts, Cert.ReferenceDMixIdeal.Gen.facts,
    Cert.KernelGUpS.Gen.facts, Cert.KernelGUpSIdeal.Gen.facts, Cert.ReferenceGUpSIdeal.Gen.facts,
    Cert.KernelGUpO.Gen.facts, Cert.KernelGUpOIdeal.Gen.facts, Cert.ReferenceGUpOIdeal.Gen.facts,
    Cert.KernelGDownS.Gen.facts, Cert.KernelGDownSIdeal.Gen.facts, Cert.ReferenceGDownSIdeal.Gen.facts,
    Cert.KernelGDownO.Gen.facts, Cert.KernelGDownOIdeal.Gen.facts, Cert.ReferenceGDownOIdeal.Gen.facts,
    Cert.KernelGInS.Gen.facts, Cert.KernelGInSIdeal.Gen.facts, Cert.ReferenceGInSIdeal.Gen.facts,
    Cert.KernelGInO.Gen.facts, Cert.KernelGInOIdeal.Gen.facts, Cert.ReferenceGInOIdeal.Gen.facts,
    Cert.KernelGOutS.Gen.facts, Cert.KernelGOutSIdeal.Gen.facts, Cert.ReferenceGOutSIdeal.Gen.facts,
    Cert.KernelGOutO.Gen.facts, Cert.KernelGOutOIdeal.Gen.facts, Cert.ReferenceGOutOIdeal.Gen.facts,
    Cert.KernelProjOwn.Gen.facts, Cert.KernelProjOwnIdeal.Gen.facts, Cert.ReferenceProjOwnIdeal.Gen.facts,
    Cert.KernelProjX.Gen.facts, Cert.KernelProjXIdeal.Gen.facts, Cert.ReferenceProjXIdeal.Gen.facts,
    Cert.KernelProjY.Gen.facts, Cert.KernelProjYIdeal.Gen.facts, Cert.ReferenceProjYIdeal.Gen.facts,
    Cert.KernelProjXY.Gen.facts, Cert.KernelProjXYIdeal.Gen.facts, Cert.ReferenceProjXYIdeal.Gen.facts,
    Cert.KernelUp.Gen.facts, Cert.KernelUpIdeal.Gen.facts, Cert.ReferenceUpIdeal.Gen.facts,
    Cert.KernelDown.Gen.facts, Cert.KernelDownIdeal.Gen.facts, Cert.ReferenceDownIdeal.Gen.facts,
    Cert.KernelOut.Gen.facts, Cert.KernelOutIdeal.Gen.facts, Cert.ReferenceOutIdeal.Gen.facts,
    Cert.KernelNorm.Gen.facts, Cert.KernelNormIdeal.Gen.facts, Cert.ReferenceNormIdeal.Gen.facts,
    Cert.KernelNormZ.Gen.facts, Cert.KernelNormZIdeal.Gen.facts, Cert.ReferenceNormZIdeal.Gen.facts,
    Cert.KernelNormBwd.Gen.facts, Cert.KernelNormBwdIdeal.Gen.facts, Cert.ReferenceNormBwdIdeal.Gen.facts,
    Cert.KernelNormBwdA.Gen.facts, Cert.KernelNormBwdAIdeal.Gen.facts, Cert.ReferenceNormBwdAIdeal.Gen.facts,
    Cert.KernelNormZBwd.Gen.facts, Cert.KernelNormZBwdIdeal.Gen.facts, Cert.ReferenceNormZBwdIdeal.Gen.facts,
    Cert.KernelLoss.Gen.facts, Cert.KernelLossIdeal.Gen.facts, Cert.ReferenceLossIdeal.Gen.facts,
    Cert.KernelAdamIn.Gen.facts, Cert.KernelAdamInIdeal.Gen.facts, Cert.ReferenceAdamInIdeal.Gen.facts,
    Cert.KernelAdamUp.Gen.facts, Cert.KernelAdamUpIdeal.Gen.facts, Cert.ReferenceAdamUpIdeal.Gen.facts,
    Cert.KernelAdamOut.Gen.facts, Cert.KernelAdamOutIdeal.Gen.facts, Cert.ReferenceAdamOutIdeal.Gen.facts,
    Cert.KernelAdamDown.Gen.facts, Cert.KernelAdamDownIdeal.Gen.facts, Cert.ReferenceAdamDownIdeal.Gen.facts,
    Cert.KernelAdamSmall.Gen.facts, Cert.KernelAdamSmallIdeal.Gen.facts, Cert.ReferenceAdamSmallIdeal.Gen.facts,
    Cert.KernelCastIn.Gen.facts, Cert.KernelCastInIdeal.Gen.facts, Cert.ReferenceCastInIdeal.Gen.facts,
    Cert.KernelCastOut.Gen.facts, Cert.KernelCastOutIdeal.Gen.facts, Cert.ReferenceCastOutIdeal.Gen.facts,
    Cert.KernelCastUp.Gen.facts, Cert.KernelCastUpIdeal.Gen.facts, Cert.ReferenceCastUpIdeal.Gen.facts,
    Cert.KernelCastDown.Gen.facts, Cert.KernelCastDownIdeal.Gen.facts, Cert.ReferenceCastDownIdeal.Gen.facts,
    Cert.KernelOwnIn.Gen.facts, Cert.KernelOwnInIdeal.Gen.facts, Cert.ReferenceOwnInIdeal.Gen.facts,
    Cert.KernelOwnOut.Gen.facts, Cert.KernelOwnOutIdeal.Gen.facts, Cert.ReferenceOwnOutIdeal.Gen.facts,
    Cert.KernelOwnUp.Gen.facts, Cert.KernelOwnUpIdeal.Gen.facts, Cert.ReferenceOwnUpIdeal.Gen.facts,
    Cert.KernelOwnDown.Gen.facts, Cert.KernelOwnDownIdeal.Gen.facts, Cert.ReferenceOwnDownIdeal.Gen.facts,
    Cert.Pre_finite.facts,
    fun m ρ _ => Cert.Kernel.Gen.frame m ρ, fun m ρ _ => Cert.KernelIdeal.Gen.frame m ρ, fun m ρ _ => Cert.KernelIdeal.Gen.frame m ρ, fun m ρ _ => Cert.Ffn.frame_r m ρ, fun m ρ _ => Cert.Ffn.frame_r m ρ,
    fun m ρ _ => Cert.KernelDHn2.Gen.frame m ρ, fun m ρ _ => Cert.KernelDHn2Ideal.Gen.frame m ρ, fun m ρ _ => Cert.DHn2.frame_r m ρ,
    fun m ρ _ => Cert.KernelDAct.Gen.frame m ρ, fun m ρ _ => Cert.KernelDActIdeal.Gen.frame m ρ, fun m ρ _ => Cert.DAct.frame_r m ρ,
    fun m ρ _ => Cert.KernelDHn1.Gen.frame m ρ, fun m ρ _ => Cert.KernelDHn1Ideal.Gen.frame m ρ, fun m ρ _ => Cert.DHn1.frame_r m ρ,
    fun m ρ _ => Cert.KernelDMix.Gen.frame m ρ, fun m ρ _ => Cert.KernelDMixIdeal.Gen.frame m ρ, fun m ρ _ => Cert.DMix.frame_r m ρ,
    fun m ρ _ => Cert.KernelGUpS.Gen.frame m ρ (Cert.GUpS.ok m), fun m ρ _ => Cert.KernelGUpSIdeal.Gen.frame m ρ (Cert.KernelGUpSIdeal.Prod.ok m), fun m ρ _ => Cert.GUpS.frame_r m ρ,
    fun m ρ _ => Cert.KernelGUpO.Gen.frame m ρ (Cert.GUpO.ok m), fun m ρ _ => Cert.KernelGUpOIdeal.Gen.frame m ρ (Cert.KernelGUpOIdeal.Prod.ok m), fun m ρ _ => Cert.GUpO.frame_r m ρ,
    fun m ρ _ => Cert.KernelGDownS.Gen.frame m ρ (Cert.GDownS.ok m), fun m ρ _ => Cert.KernelGDownSIdeal.Gen.frame m ρ (Cert.KernelGDownSIdeal.Prod.ok m), fun m ρ _ => Cert.GDownS.frame_r m ρ,
    fun m ρ _ => Cert.KernelGDownO.Gen.frame m ρ (Cert.GDownO.ok m), fun m ρ _ => Cert.KernelGDownOIdeal.Gen.frame m ρ (Cert.KernelGDownOIdeal.Prod.ok m), fun m ρ _ => Cert.GDownO.frame_r m ρ,
    fun m ρ _ => Cert.KernelGInS.Gen.frame m ρ (Cert.GInS.ok m), fun m ρ _ => Cert.KernelGInSIdeal.Gen.frame m ρ (Cert.KernelGInSIdeal.Prod.ok m), fun m ρ _ => Cert.GInS.frame_r m ρ,
    fun m ρ _ => Cert.KernelGInO.Gen.frame m ρ (Cert.GInO.ok m), fun m ρ _ => Cert.KernelGInOIdeal.Gen.frame m ρ (Cert.KernelGInOIdeal.Prod.ok m), fun m ρ _ => Cert.GInO.frame_r m ρ,
    fun m ρ _ => Cert.KernelGOutS.Gen.frame m ρ (Cert.GOutS.ok m), fun m ρ _ => Cert.KernelGOutSIdeal.Gen.frame m ρ (Cert.KernelGOutSIdeal.Prod.ok m), fun m ρ _ => Cert.GOutS.frame_r m ρ,
    fun m ρ _ => Cert.KernelGOutO.Gen.frame m ρ (Cert.GOutO.ok m), fun m ρ _ => Cert.KernelGOutOIdeal.Gen.frame m ρ (Cert.KernelGOutOIdeal.Prod.ok m), fun m ρ _ => Cert.GOutO.frame_r m ρ,
    fun m ρ _ => Cert.KernelProjOwn.Gen.frame m ρ (Cert.ProjOwn.ok m), fun m ρ _ => Cert.KernelProjOwnIdeal.Gen.frame m ρ (Cert.KernelProjOwnIdeal.Prod.ok m), fun m ρ _ => Cert.ProjOwn.frame_r m ρ,
    fun m ρ _ => Cert.KernelProjX.Gen.frame m ρ (Cert.ProjX.ok m), fun m ρ _ => Cert.KernelProjXIdeal.Gen.frame m ρ (Cert.KernelProjXIdeal.Prod.ok m), fun m ρ _ => Cert.ProjX.frame_r m ρ,
    fun m ρ _ => Cert.KernelProjY.Gen.frame m ρ (Cert.ProjY.ok m), fun m ρ _ => Cert.KernelProjYIdeal.Gen.frame m ρ (Cert.KernelProjYIdeal.Prod.ok m), fun m ρ _ => Cert.ProjY.frame_r m ρ,
    fun m ρ _ => Cert.KernelProjXY.Gen.frame m ρ (Cert.ProjXY.ok m), fun m ρ _ => Cert.KernelProjXYIdeal.Gen.frame m ρ (Cert.KernelProjXYIdeal.Prod.ok m), fun m ρ _ => Cert.ProjXY.frame_r m ρ,
    fun m ρ _ => Cert.KernelUp.Gen.frame m ρ, fun m ρ _ => Cert.KernelUpIdeal.Gen.frame m ρ, fun m ρ _ => Cert.Up.frame_r m ρ,
    fun m ρ _ => Cert.KernelDown.Gen.frame m ρ, fun m ρ _ => Cert.KernelDownIdeal.Gen.frame m ρ, fun m ρ _ => Cert.Down.frame_r m ρ,
    fun m ρ _ => Cert.KernelOut.Gen.frame m ρ, fun m ρ _ => Cert.KernelOutIdeal.Gen.frame m ρ, fun m ρ _ => Cert.Out.frame_r m ρ,
    fun m ρ _ => Cert.KernelNorm.Gen.frame m ρ, fun m ρ _ => Cert.KernelNormIdeal.Gen.frame m ρ, fun m ρ _ => Cert.Norm.frame_r m ρ,
    fun m ρ _ => Cert.KernelNormZ.Gen.frame m ρ, fun m ρ _ => Cert.KernelNormZIdeal.Gen.frame m ρ, fun m ρ _ => Cert.NormZ.frame_r m ρ,
    fun m ρ _ => Cert.KernelNormBwd.Gen.frame m ρ, fun m ρ _ => Cert.KernelNormBwdIdeal.Gen.frame m ρ, fun m ρ _ => Cert.NormBwd.frame_r m ρ,
    fun m ρ _ => Cert.KernelNormBwdA.Gen.frame m ρ, fun m ρ _ => Cert.KernelNormBwdAIdeal.Gen.frame m ρ, fun m ρ _ => Cert.NormBwdA.frame_r m ρ,
    fun m ρ _ => Cert.KernelNormZBwd.Gen.frame m ρ, fun m ρ _ => Cert.KernelNormZBwdIdeal.Gen.frame m ρ, fun m ρ _ => Cert.NormZBwd.frame_r m ρ,
    fun m ρ _ => Cert.KernelLoss.Gen.frame m ρ, fun m ρ _ => Cert.KernelLossIdeal.Gen.frame m ρ, fun m ρ _ => Cert.Loss.frame_r m ρ,
    fun m ρ _ => Cert.KernelAdamIn.Gen.frame m ρ, fun m ρ _ => Cert.KernelAdamInIdeal.Gen.frame m ρ, fun m ρ _ => Cert.AdamIn.frame_r m ρ,
    fun m ρ _ => Cert.KernelAdamUp.Gen.frame m ρ, fun m ρ _ => Cert.KernelAdamUpIdeal.Gen.frame m ρ, fun m ρ _ => Cert.AdamUp.frame_r m ρ,
    fun m ρ _ => Cert.KernelAdamOut.Gen.frame m ρ, fun m ρ _ => Cert.KernelAdamOutIdeal.Gen.frame m ρ, fun m ρ _ => Cert.AdamOut.frame_r m ρ,
    fun m ρ _ => Cert.KernelAdamDown.Gen.frame m ρ, fun m ρ _ => Cert.KernelAdamDownIdeal.Gen.frame m ρ, fun m ρ _ => Cert.AdamDown.frame_r m ρ,
    fun m ρ _ => Cert.KernelAdamSmall.Gen.frame m ρ, fun m ρ _ => Cert.KernelAdamSmallIdeal.Gen.frame m ρ, fun m ρ _ => Cert.AdamSmall.frame_r m ρ,
    fun m ρ _ => Cert.KernelCastIn.Gen.frame m ρ (Cert.CastIn.ok m), fun m ρ _ => Cert.KernelCastInIdeal.Gen.frame m ρ (Cert.KernelCastInIdeal.Prod.ok m), fun m ρ _ => Cert.CastIn.frame_r m ρ,
    fun m ρ _ => Cert.KernelCastOut.Gen.frame m ρ (Cert.CastOut.ok m), fun m ρ _ => Cert.KernelCastOutIdeal.Gen.frame m ρ (Cert.KernelCastOutIdeal.Prod.ok m), fun m ρ _ => Cert.CastOut.frame_r m ρ,
    fun m ρ _ => Cert.KernelCastUp.Gen.frame m ρ (Cert.CastUp.ok m), fun m ρ _ => Cert.KernelCastUpIdeal.Gen.frame m ρ (Cert.KernelCastUpIdeal.Prod.ok m), fun m ρ _ => Cert.CastUp.frame_r m ρ,
    fun m ρ _ => Cert.KernelCastDown.Gen.frame m ρ (Cert.CastDown.ok m), fun m ρ _ => Cert.KernelCastDownIdeal.Gen.frame m ρ (Cert.KernelCastDownIdeal.Prod.ok m), fun m ρ _ => Cert.CastDown.frame_r m ρ,
    fun m ρ _ => Cert.KernelOwnIn.Gen.frame m ρ (Cert.OwnIn.ok m), fun m ρ _ => Cert.KernelOwnInIdeal.Gen.frame m ρ (Cert.KernelOwnInIdeal.Prod.ok m), fun m ρ _ => Cert.OwnIn.frame_r m ρ,
    fun m ρ _ => Cert.KernelOwnOut.Gen.frame m ρ (Cert.OwnOut.ok m), fun m ρ _ => Cert.KernelOwnOutIdeal.Gen.frame m ρ (Cert.KernelOwnOutIdeal.Prod.ok m), fun m ρ _ => Cert.OwnOut.frame_r m ρ,
    fun m ρ _ => Cert.KernelOwnUp.Gen.frame m ρ (Cert.OwnUp.ok m), fun m ρ _ => Cert.KernelOwnUpIdeal.Gen.frame m ρ (Cert.KernelOwnUpIdeal.Prod.ok m), fun m ρ _ => Cert.OwnUp.frame_r m ρ,
    fun m ρ _ => Cert.KernelOwnDown.Gen.frame m ρ (Cert.OwnDown.ok m), fun m ρ _ => Cert.KernelOwnDownIdeal.Gen.frame m ρ (Cert.KernelOwnDownIdeal.Prod.ok m), fun m ρ _ => Cert.OwnDown.frame_r m ρ,
    trivial, Cert.Ffn.value,
    trivial, Cert.DHn2.value,
    trivial, Cert.DAct.value,
    trivial, Cert.DHn1.value,
    trivial, Cert.DMix.value,
    trivial, Cert.GUpS.value,
    trivial, Cert.GUpO.value,
    trivial, Cert.GDownS.value,
    trivial, Cert.GDownO.value,
    trivial, Cert.GInS.value,
    trivial, Cert.GInO.value,
    trivial, Cert.GOutS.value,
    trivial, Cert.GOutO.value,
    trivial, Cert.ProjOwn.value,
    trivial, Cert.ProjX.value,
    trivial, Cert.ProjY.value,
    trivial, Cert.ProjXY.value,
    trivial, Cert.Up.value,
    trivial, Cert.Down.value,
    trivial, Cert.Out.value,
    trivial, Cert.Norm.value,
    trivial, Cert.NormZ.value,
    trivial, Cert.NormBwd.value,
    trivial, Cert.NormBwdA.value,
    trivial, Cert.NormZBwd.value,
    trivial, Cert.Loss.value,
    trivial, Cert.AdamIn.value,
    trivial, Cert.AdamUp.value,
    trivial, Cert.AdamOut.value,
    trivial, Cert.AdamDown.value,
    trivial, Cert.AdamSmall.value,
    trivial, Cert.CastIn.value,
    trivial, Cert.CastOut.value,
    trivial, Cert.CastUp.value,
    trivial, Cert.CastDown.value,
    trivial, Cert.OwnIn.value,
    trivial, Cert.OwnOut.value,
    trivial, Cert.OwnUp.value,
    trivial, Cert.OwnDown.value⟩

end Cert.Proof

end
